-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_AttQ (m : (ℓ : Loc Cert.AttQ.nD Cert.AttQ.τ Cert.AttQ.sig) → Buf (Elt Bits) ℓ) : Prop :=
  True

def Pre_AttQIdeal (m : (ℓ : Loc Cert.AttQIdeal.nD Cert.AttQIdeal.τ Cert.AttQIdeal.sig) → Buf (Elt Ideal) ℓ) : Prop :=
  True

def Pre_AttQIdeal_finite [hPre_finite : Cert.Pre_finite.Facts] (m : (ℓ : Loc Cert.AttQIdeal.nD Cert.AttQIdeal.τ Cert.AttQIdeal.sig) → Buf (Elt Ideal) ℓ) : Prop :=
  ∀ c : Dev Cert.AttQIdeal.nD,
    (Cert.Pre_finite.fn (F := Ideal) (m ((c.tc : Thread Cert.AttQIdeal.nD Cert.AttQIdeal.τ).loc Cert.AttQIdeal.main_arg0)) (m ((c.tc : Thread Cert.AttQIdeal.nD Cert.AttQIdeal.τ).loc Cert.AttQIdeal.main_arg1)) (m ((c.tc : Thread Cert.AttQIdeal.nD Cert.AttQIdeal.τ).loc Cert.AttQIdeal.main_arg2)) (m ((c.tc : Thread Cert.AttQIdeal.nD Cert.AttQIdeal.τ).loc Cert.AttQIdeal.main_arg3)) (m ((c.tc : Thread Cert.AttQIdeal.nD Cert.AttQIdeal.τ).loc Cert.AttQIdeal.main_arg4))).1 = (fun _ => 1#1)
    ∧ (Cert.Pre_finite.fn (F := Ideal) (m ((c.tc : Thread Cert.AttQIdeal.nD Cert.AttQIdeal.τ).loc Cert.AttQIdeal.main_arg0)) (m ((c.tc : Thread Cert.AttQIdeal.nD Cert.AttQIdeal.τ).loc Cert.AttQIdeal.main_arg1)) (m ((c.tc : Thread Cert.AttQIdeal.nD Cert.AttQIdeal.τ).loc Cert.AttQIdeal.main_arg2)) (m ((c.tc : Thread Cert.AttQIdeal.nD Cert.AttQIdeal.τ).loc Cert.AttQIdeal.main_arg3)) (m ((c.tc : Thread Cert.AttQIdeal.nD Cert.AttQIdeal.τ).loc Cert.AttQIdeal.main_arg4))).2.1 = (fun _ => 1#1)
    ∧ (Cert.Pre_finite.fn (F := Ideal) (m ((c.tc : Thread Cert.AttQIdeal.nD Cert.AttQIdeal.τ).loc Cert.AttQIdeal.main_arg0)) (m ((c.tc : Thread Cert.AttQIdeal.nD Cert.AttQIdeal.τ).loc Cert.AttQIdeal.main_arg1)) (m ((c.tc : Thread Cert.AttQIdeal.nD Cert.AttQIdeal.τ).loc Cert.AttQIdeal.main_arg2)) (m ((c.tc : Thread Cert.AttQIdeal.nD Cert.AttQIdeal.τ).loc Cert.AttQIdeal.main_arg3)) (m ((c.tc : Thread Cert.AttQIdeal.nD Cert.AttQIdeal.τ).loc Cert.AttQIdeal.main_arg4))).2.2.1 = (fun _ => 1#1)
    ∧ (Cert.Pre_finite.fn (F := Ideal) (m ((c.tc : Thread Cert.AttQIdeal.nD Cert.AttQIdeal.τ).loc Cert.AttQIdeal.main_arg0)) (m ((c.tc : Thread Cert.AttQIdeal.nD Cert.AttQIdeal.τ).loc Cert.AttQIdeal.main_arg1)) (m ((c.tc : Thread Cert.AttQIdeal.nD Cert.AttQIdeal.τ).loc Cert.AttQIdeal.main_arg2)) (m ((c.tc : Thread Cert.AttQIdeal.nD Cert.AttQIdeal.τ).loc Cert.AttQIdeal.main_arg3)) (m ((c.tc : Thread Cert.AttQIdeal.nD Cert.AttQIdeal.τ).loc Cert.AttQIdeal.main_arg4))).2.2.2.1 = (fun _ => 1#1)
    ∧ (Cert.Pre_finite.fn (F := Ideal) (m ((c.tc : Thread Cert.AttQIdeal.nD Cert.AttQIdeal.τ).loc Cert.AttQIdeal.main_arg0)) (m ((c.tc : Thread Cert.AttQIdeal.nD Cert.AttQIdeal.τ).loc Cert.AttQIdeal.main_arg1)) (m ((c.tc : Thread Cert.AttQIdeal.nD Cert.AttQIdeal.τ).loc Cert.AttQIdeal.main_arg2)) (m ((c.tc : Thread Cert.AttQIdeal.nD Cert.AttQIdeal.τ).loc Cert.AttQIdeal.main_arg3)) (m ((c.tc : Thread Cert.AttQIdeal.nD Cert.AttQIdeal.τ).loc Cert.AttQIdeal.main_arg4))).2.2.2.2 = (fun _ => 1#1)

def Pre_AttQRefIdeal (m : (ℓ : Loc Cert.AttQRefIdeal.nD Cert.AttQRefIdeal.τ Cert.AttQRefIdeal.sig) → Buf (Elt Ideal) ℓ) : Prop :=
  True

def Pre_AttQRefIdeal_finite [hPre_finite : Cert.Pre_finite.Facts] (m : (ℓ : Loc Cert.AttQRefIdeal.nD Cert.AttQRefIdeal.τ Cert.AttQRefIdeal.sig) → Buf (Elt Ideal) ℓ) : Prop :=
  ∀ c : Dev Cert.AttQRefIdeal.nD,
    (Cert.Pre_finite.fn (F := Ideal) (m ((c.tc : Thread Cert.AttQRefIdeal.nD Cert.AttQRefIdeal.τ).loc Cert.AttQRefIdeal.main_arg0)) (m ((c.tc : Thread Cert.AttQRefIdeal.nD Cert.AttQRefIdeal.τ).loc Cert.AttQRefIdeal.main_arg1)) (m ((c.tc : Thread Cert.AttQRefIdeal.nD Cert.AttQRefIdeal.τ).loc Cert.AttQRefIdeal.main_arg2)) (m ((c.tc : Thread Cert.AttQRefIdeal.nD Cert.AttQRefIdeal.τ).loc Cert.AttQRefIdeal.main_arg3)) (m ((c.tc : Thread Cert.AttQRefIdeal.nD Cert.AttQRefIdeal.τ).loc Cert.AttQRefIdeal.main_arg4))).1 = (fun _ => 1#1)
    ∧ (Cert.Pre_finite.fn (F := Ideal) (m ((c.tc : Thread Cert.AttQRefIdeal.nD Cert.AttQRefIdeal.τ).loc Cert.AttQRefIdeal.main_arg0)) (m ((c.tc : Thread Cert.AttQRefIdeal.nD Cert.AttQRefIdeal.τ).loc Cert.AttQRefIdeal.main_arg1)) (m ((c.tc : Thread Cert.AttQRefIdeal.nD Cert.AttQRefIdeal.τ).loc Cert.AttQRefIdeal.main_arg2)) (m ((c.tc : Thread Cert.AttQRefIdeal.nD Cert.AttQRefIdeal.τ).loc Cert.AttQRefIdeal.main_arg3)) (m ((c.tc : Thread Cert.AttQRefIdeal.nD Cert.AttQRefIdeal.τ).loc Cert.AttQRefIdeal.main_arg4))).2.1 = (fun _ => 1#1)
    ∧ (Cert.Pre_finite.fn (F := Ideal) (m ((c.tc : Thread Cert.AttQRefIdeal.nD Cert.AttQRefIdeal.τ).loc Cert.AttQRefIdeal.main_arg0)) (m ((c.tc : Thread Cert.AttQRefIdeal.nD Cert.AttQRefIdeal.τ).loc Cert.AttQRefIdeal.main_arg1)) (m ((c.tc : Thread Cert.AttQRefIdeal.nD Cert.AttQRefIdeal.τ).loc Cert.AttQRefIdeal.main_arg2)) (m ((c.tc : Thread Cert.AttQRefIdeal.nD Cert.AttQRefIdeal.τ).loc Cert.AttQRefIdeal.main_arg3)) (m ((c.tc : Thread Cert.AttQRefIdeal.nD Cert.AttQRefIdeal.τ).loc Cert.AttQRefIdeal.main_arg4))).2.2.1 = (fun _ => 1#1)
    ∧ (Cert.Pre_finite.fn (F := Ideal) (m ((c.tc : Thread Cert.AttQRefIdeal.nD Cert.AttQRefIdeal.τ).loc Cert.AttQRefIdeal.main_arg0)) (m ((c.tc : Thread Cert.AttQRefIdeal.nD Cert.AttQRefIdeal.τ).loc Cert.AttQRefIdeal.main_arg1)) (m ((c.tc : Thread Cert.AttQRefIdeal.nD Cert.AttQRefIdeal.τ).loc Cert.AttQRefIdeal.main_arg2)) (m ((c.tc : Thread Cert.AttQRefIdeal.nD Cert.AttQRefIdeal.τ).loc Cert.AttQRefIdeal.main_arg3)) (m ((c.tc : Thread Cert.AttQRefIdeal.nD Cert.AttQRefIdeal.τ).loc Cert.AttQRefIdeal.main_arg4))).2.2.2.1 = (fun _ => 1#1)
    ∧ (Cert.Pre_finite.fn (F := Ideal) (m ((c.tc : Thread Cert.AttQRefIdeal.nD Cert.AttQRefIdeal.τ).loc Cert.AttQRefIdeal.main_arg0)) (m ((c.tc : Thread Cert.AttQRefIdeal.nD Cert.AttQRefIdeal.τ).loc Cert.AttQRefIdeal.main_arg1)) (m ((c.tc : Thread Cert.AttQRefIdeal.nD Cert.AttQRefIdeal.τ).loc Cert.AttQRefIdeal.main_arg2)) (m ((c.tc : Thread Cert.AttQRefIdeal.nD Cert.AttQRefIdeal.τ).loc Cert.AttQRefIdeal.main_arg3)) (m ((c.tc : Thread Cert.AttQRefIdeal.nD Cert.AttQRefIdeal.τ).loc Cert.AttQRefIdeal.main_arg4))).2.2.2.2 = (fun _ => 1#1)

def Pre_AttKv (m : (ℓ : Loc Cert.AttKv.nD Cert.AttKv.τ Cert.AttKv.sig) → Buf (Elt Bits) ℓ) : Prop :=
  True

def Pre_AttKvIdeal (m : (ℓ : Loc Cert.AttKvIdeal.nD Cert.AttKvIdeal.τ Cert.AttKvIdeal.sig) → Buf (Elt Ideal) ℓ) : Prop :=
  True

def Pre_AttKvIdeal_finite [hPre_finite : Cert.Pre_finite.Facts] (m : (ℓ : Loc Cert.AttKvIdeal.nD Cert.AttKvIdeal.τ Cert.AttKvIdeal.sig) → Buf (Elt Ideal) ℓ) : Prop :=
  ∀ c : Dev Cert.AttKvIdeal.nD,
    (Cert.Pre_finite.fn (F := Ideal) (m ((c.tc : Thread Cert.AttKvIdeal.nD Cert.AttKvIdeal.τ).loc Cert.AttKvIdeal.main_arg0)) (m ((c.tc : Thread Cert.AttKvIdeal.nD Cert.AttKvIdeal.τ).loc Cert.AttKvIdeal.main_arg1)) (m ((c.tc : Thread Cert.AttKvIdeal.nD Cert.AttKvIdeal.τ).loc Cert.AttKvIdeal.main_arg2)) (m ((c.tc : Thread Cert.AttKvIdeal.nD Cert.AttKvIdeal.τ).loc Cert.AttKvIdeal.main_arg3)) (m ((c.tc : Thread Cert.AttKvIdeal.nD Cert.AttKvIdeal.τ).loc Cert.AttKvIdeal.main_arg4))).1 = (fun _ => 1#1)
    ∧ (Cert.Pre_finite.fn (F := Ideal) (m ((c.tc : Thread Cert.AttKvIdeal.nD Cert.AttKvIdeal.τ).loc Cert.AttKvIdeal.main_arg0)) (m ((c.tc : Thread Cert.AttKvIdeal.nD Cert.AttKvIdeal.τ).loc Cert.AttKvIdeal.main_arg1)) (m ((c.tc : Thread Cert.AttKvIdeal.nD Cert.AttKvIdeal.τ).loc Cert.AttKvIdeal.main_arg2)) (m ((c.tc : Thread Cert.AttKvIdeal.nD Cert.AttKvIdeal.τ).loc Cert.AttKvIdeal.main_arg3)) (m ((c.tc : Thread Cert.AttKvIdeal.nD Cert.AttKvIdeal.τ).loc Cert.AttKvIdeal.main_arg4))).2.1 = (fun _ => 1#1)
    ∧ (Cert.Pre_finite.fn (F := Ideal) (m ((c.tc : Thread Cert.AttKvIdeal.nD Cert.AttKvIdeal.τ).loc Cert.AttKvIdeal.main_arg0)) (m ((c.tc : Thread Cert.AttKvIdeal.nD Cert.AttKvIdeal.τ).loc Cert.AttKvIdeal.main_arg1)) (m ((c.tc : Thread Cert.AttKvIdeal.nD Cert.AttKvIdeal.τ).loc Cert.AttKvIdeal.main_arg2)) (m ((c.tc : Thread Cert.AttKvIdeal.nD Cert.AttKvIdeal.τ).loc Cert.AttKvIdeal.main_arg3)) (m ((c.tc : Thread Cert.AttKvIdeal.nD Cert.AttKvIdeal.τ).loc Cert.AttKvIdeal.main_arg4))).2.2.1 = (fun _ => 1#1)
    ∧ (Cert.Pre_finite.fn (F := Ideal) (m ((c.tc : Thread Cert.AttKvIdeal.nD Cert.AttKvIdeal.τ).loc Cert.AttKvIdeal.main_arg0)) (m ((c.tc : Thread Cert.AttKvIdeal.nD Cert.AttKvIdeal.τ).loc Cert.AttKvIdeal.main_arg1)) (m ((c.tc : Thread Cert.AttKvIdeal.nD Cert.AttKvIdeal.τ).loc Cert.AttKvIdeal.main_arg2)) (m ((c.tc : Thread Cert.AttKvIdeal.nD Cert.AttKvIdeal.τ).loc Cert.AttKvIdeal.main_arg3)) (m ((c.tc : Thread Cert.AttKvIdeal.nD Cert.AttKvIdeal.τ).loc Cert.AttKvIdeal.main_arg4))).2.2.2.1 = (fun _ => 1#1)
    ∧ (Cert.Pre_finite.fn (F := Ideal) (m ((c.tc : Thread Cert.AttKvIdeal.nD Cert.AttKvIdeal.τ).loc Cert.AttKvIdeal.main_arg0)) (m ((c.tc : Thread Cert.AttKvIdeal.nD Cert.AttKvIdeal.τ).loc Cert.AttKvIdeal.main_arg1)) (m ((c.tc : Thread Cert.AttKvIdeal.nD Cert.AttKvIdeal.τ).loc Cert.AttKvIdeal.main_arg2)) (m ((c.tc : Thread Cert.AttKvIdeal.nD Cert.AttKvIdeal.τ).loc Cert.AttKvIdeal.main_arg3)) (m ((c.tc : Thread Cert.AttKvIdeal.nD Cert.AttKvIdeal.τ).loc Cert.AttKvIdeal.main_arg4))).2.2.2.2 = (fun _ => 1#1)

def Pre_AttKvRefIdeal (m : (ℓ : Loc Cert.AttKvRefIdeal.nD Cert.AttKvRefIdeal.τ Cert.AttKvRefIdeal.sig) → Buf (Elt Ideal) ℓ) : Prop :=
  True

def Pre_AttKvRefIdeal_finite [hPre_finite : Cert.Pre_finite.Facts] (m : (ℓ : Loc Cert.AttKvRefIdeal.nD Cert.AttKvRefIdeal.τ Cert.AttKvRefIdeal.sig) → Buf (Elt Ideal) ℓ) : Prop :=
  ∀ c : Dev Cert.AttKvRefIdeal.nD,
    (Cert.Pre_finite.fn (F := Ideal) (m ((c.tc : Thread Cert.AttKvRefIdeal.nD Cert.AttKvRefIdeal.τ).loc Cert.AttKvRefIdeal.main_arg0)) (m ((c.tc : Thread Cert.AttKvRefIdeal.nD Cert.AttKvRefIdeal.τ).loc Cert.AttKvRefIdeal.main_arg1)) (m ((c.tc : Thread Cert.AttKvRefIdeal.nD Cert.AttKvRefIdeal.τ).loc Cert.AttKvRefIdeal.main_arg2)) (m ((c.tc : Thread Cert.AttKvRefIdeal.nD Cert.AttKvRefIdeal.τ).loc Cert.AttKvRefIdeal.main_arg3)) (m ((c.tc : Thread Cert.AttKvRefIdeal.nD Cert.AttKvRefIdeal.τ).loc Cert.AttKvRefIdeal.main_arg4))).1 = (fun _ => 1#1)
    ∧ (Cert.Pre_finite.fn (F := Ideal) (m ((c.tc : Thread Cert.AttKvRefIdeal.nD Cert.AttKvRefIdeal.τ).loc Cert.AttKvRefIdeal.main_arg0)) (m ((c.tc : Thread Cert.AttKvRefIdeal.nD Cert.AttKvRefIdeal.τ).loc Cert.AttKvRefIdeal.main_arg1)) (m ((c.tc : Thread Cert.AttKvRefIdeal.nD Cert.AttKvRefIdeal.τ).loc Cert.AttKvRefIdeal.main_arg2)) (m ((c.tc : Thread Cert.AttKvRefIdeal.nD Cert.AttKvRefIdeal.τ).loc Cert.AttKvRefIdeal.main_arg3)) (m ((c.tc : Thread Cert.AttKvRefIdeal.nD Cert.AttKvRefIdeal.τ).loc Cert.AttKvRefIdeal.main_arg4))).2.1 = (fun _ => 1#1)
    ∧ (Cert.Pre_finite.fn (F := Ideal) (m ((c.tc : Thread Cert.AttKvRefIdeal.nD Cert.AttKvRefIdeal.τ).loc Cert.AttKvRefIdeal.main_arg0)) (m ((c.tc : Thread Cert.AttKvRefIdeal.nD Cert.AttKvRefIdeal.τ).loc Cert.AttKvRefIdeal.main_arg1)) (m ((c.tc : Thread Cert.AttKvRefIdeal.nD Cert.AttKvRefIdeal.τ).loc Cert.AttKvRefIdeal.main_arg2)) (m ((c.tc : Thread Cert.AttKvRefIdeal.nD Cert.AttKvRefIdeal.τ).loc Cert.AttKvRefIdeal.main_arg3)) (m ((c.tc : Thread Cert.AttKvRefIdeal.nD Cert.AttKvRefIdeal.τ).loc Cert.AttKvRefIdeal.main_arg4))).2.2.1 = (fun _ => 1#1)
    ∧ (Cert.Pre_finite.fn (F := Ideal) (m ((c.tc : Thread Cert.AttKvRefIdeal.nD Cert.AttKvRefIdeal.τ).loc Cert.AttKvRefIdeal.main_arg0)) (m ((c.tc : Thread Cert.AttKvRefIdeal.nD Cert.AttKvRefIdeal.τ).loc Cert.AttKvRefIdeal.main_arg1)) (m ((c.tc : Thread Cert.AttKvRefIdeal.nD Cert.AttKvRefIdeal.τ).loc Cert.AttKvRefIdeal.main_arg2)) (m ((c.tc : Thread Cert.AttKvRefIdeal.nD Cert.AttKvRefIdeal.τ).loc Cert.AttKvRefIdeal.main_arg3)) (m ((c.tc : Thread Cert.AttKvRefIdeal.nD Cert.AttKvRefIdeal.τ).loc Cert.AttKvRefIdeal.main_arg4))).2.2.2.1 = (fun _ => 1#1)
    ∧ (Cert.Pre_finite.fn (F := Ideal) (m ((c.tc : Thread Cert.AttKvRefIdeal.nD Cert.AttKvRefIdeal.τ).loc Cert.AttKvRefIdeal.main_arg0)) (m ((c.tc : Thread Cert.AttKvRefIdeal.nD Cert.AttKvRefIdeal.τ).loc Cert.AttKvRefIdeal.main_arg1)) (m ((c.tc : Thread Cert.AttKvRefIdeal.nD Cert.AttKvRefIdeal.τ).loc Cert.AttKvRefIdeal.main_arg2)) (m ((c.tc : Thread Cert.AttKvRefIdeal.nD Cert.AttKvRefIdeal.τ).loc Cert.AttKvRefIdeal.main_arg3)) (m ((c.tc : Thread Cert.AttKvRefIdeal.nD Cert.AttKvRefIdeal.τ).loc Cert.AttKvRefIdeal.main_arg4))).2.2.2.2 = (fun _ => 1#1)

def Pre_AttF (m : (ℓ : Loc Cert.AttF.nD Cert.AttF.τ Cert.AttF.sig) → Buf (Elt Bits) ℓ) : Prop :=
  True

def Pre_AttFIdeal (m : (ℓ : Loc Cert.AttFIdeal.nD Cert.AttFIdeal.τ Cert.AttFIdeal.sig) → Buf (Elt Ideal) ℓ) : Prop :=
  True

def Pre_AttFIdeal_finite_forward [hPre_finite_forward : Cert.Pre_finite_forward.Facts] (m : (ℓ : Loc Cert.AttFIdeal.nD Cert.AttFIdeal.τ Cert.AttFIdeal.sig) → Buf (Elt Ideal) ℓ) : Prop :=
  ∀ c : Dev Cert.AttFIdeal.nD,
    (Cert.Pre_finite_forward.fn (F := Ideal) (m ((c.tc : Thread Cert.AttFIdeal.nD Cert.AttFIdeal.τ).loc Cert.AttFIdeal.main_arg0)) (m ((c.tc : Thread Cert.AttFIdeal.nD Cert.AttFIdeal.τ).loc Cert.AttFIdeal.main_arg1)) (m ((c.tc : Thread Cert.AttFIdeal.nD Cert.AttFIdeal.τ).loc Cert.AttFIdeal.main_arg2)) (m ((c.tc : Thread Cert.AttFIdeal.nD Cert.AttFIdeal.τ).loc Cert.AttFIdeal.main_arg3))).1 = (fun _ => 1#1)
    ∧ (Cert.Pre_finite_forward.fn (F := Ideal) (m ((c.tc : Thread Cert.AttFIdeal.nD Cert.AttFIdeal.τ).loc Cert.AttFIdeal.main_arg0)) (m ((c.tc : Thread Cert.AttFIdeal.nD Cert.AttFIdeal.τ).loc Cert.AttFIdeal.main_arg1)) (m ((c.tc : Thread Cert.AttFIdeal.nD Cert.AttFIdeal.τ).loc Cert.AttFIdeal.main_arg2)) (m ((c.tc : Thread Cert.AttFIdeal.nD Cert.AttFIdeal.τ).loc Cert.AttFIdeal.main_arg3))).2.1 = (fun _ => 1#1)
    ∧ (Cert.Pre_finite_forward.fn (F := Ideal) (m ((c.tc : Thread Cert.AttFIdeal.nD Cert.AttFIdeal.τ).loc Cert.AttFIdeal.main_arg0)) (m ((c.tc : Thread Cert.AttFIdeal.nD Cert.AttFIdeal.τ).loc Cert.AttFIdeal.main_arg1)) (m ((c.tc : Thread Cert.AttFIdeal.nD Cert.AttFIdeal.τ).loc Cert.AttFIdeal.main_arg2)) (m ((c.tc : Thread Cert.AttFIdeal.nD Cert.AttFIdeal.τ).loc Cert.AttFIdeal.main_arg3))).2.2.1 = (fun _ => 1#1)
    ∧ (Cert.Pre_finite_forward.fn (F := Ideal) (m ((c.tc : Thread Cert.AttFIdeal.nD Cert.AttFIdeal.τ).loc Cert.AttFIdeal.main_arg0)) (m ((c.tc : Thread Cert.AttFIdeal.nD Cert.AttFIdeal.τ).loc Cert.AttFIdeal.main_arg1)) (m ((c.tc : Thread Cert.AttFIdeal.nD Cert.AttFIdeal.τ).loc Cert.AttFIdeal.main_arg2)) (m ((c.tc : Thread Cert.AttFIdeal.nD Cert.AttFIdeal.τ).loc Cert.AttFIdeal.main_arg3))).2.2.2 = (fun _ => 1#1)

def Pre_AttFRefIdeal (m : (ℓ : Loc Cert.AttFRefIdeal.nD Cert.AttFRefIdeal.τ Cert.AttFRefIdeal.sig) → Buf (Elt Ideal) ℓ) : Prop :=
  True

def Pre_AttFRefIdeal_finite_forward [hPre_finite_forward : Cert.Pre_finite_forward.Facts] (m : (ℓ : Loc Cert.AttFRefIdeal.nD Cert.AttFRefIdeal.τ Cert.AttFRefIdeal.sig) → Buf (Elt Ideal) ℓ) : Prop :=
  ∀ c : Dev Cert.AttFRefIdeal.nD,
    (Cert.Pre_finite_forward.fn (F := Ideal) (m ((c.tc : Thread Cert.AttFRefIdeal.nD Cert.AttFRefIdeal.τ).loc Cert.AttFRefIdeal.main_arg0)) (m ((c.tc : Thread Cert.AttFRefIdeal.nD Cert.AttFRefIdeal.τ).loc Cert.AttFRefIdeal.main_arg1)) (m ((c.tc : Thread Cert.AttFRefIdeal.nD Cert.AttFRefIdeal.τ).loc Cert.AttFRefIdeal.main_arg2)) (m ((c.tc : Thread Cert.AttFRefIdeal.nD Cert.AttFRefIdeal.τ).loc Cert.AttFRefIdeal.main_arg3))).1 = (fun _ => 1#1)
    ∧ (Cert.Pre_finite_forward.fn (F := Ideal) (m ((c.tc : Thread Cert.AttFRefIdeal.nD Cert.AttFRefIdeal.τ).loc Cert.AttFRefIdeal.main_arg0)) (m ((c.tc : Thread Cert.AttFRefIdeal.nD Cert.AttFRefIdeal.τ).loc Cert.AttFRefIdeal.main_arg1)) (m ((c.tc : Thread Cert.AttFRefIdeal.nD Cert.AttFRefIdeal.τ).loc Cert.AttFRefIdeal.main_arg2)) (m ((c.tc : Thread Cert.AttFRefIdeal.nD Cert.AttFRefIdeal.τ).loc Cert.AttFRefIdeal.main_arg3))).2.1 = (fun _ => 1#1)
    ∧ (Cert.Pre_finite_forward.fn (F := Ideal) (m ((c.tc : Thread Cert.AttFRefIdeal.nD Cert.AttFRefIdeal.τ).loc Cert.AttFRefIdeal.main_arg0)) (m ((c.tc : Thread Cert.AttFRefIdeal.nD Cert.AttFRefIdeal.τ).loc Cert.AttFRefIdeal.main_arg1)) (m ((c.tc : Thread Cert.AttFRefIdeal.nD Cert.AttFRefIdeal.τ).loc Cert.AttFRefIdeal.main_arg2)) (m ((c.tc : Thread Cert.AttFRefIdeal.nD Cert.AttFRefIdeal.τ).loc Cert.AttFRefIdeal.main_arg3))).2.2.1 = (fun _ => 1#1)
    ∧ (Cert.Pre_finite_forward.fn (F := Ideal) (m ((c.tc : Thread Cert.AttFRefIdeal.nD Cert.AttFRefIdeal.τ).loc Cert.AttFRefIdeal.main_arg0)) (m ((c.tc : Thread Cert.AttFRefIdeal.nD Cert.AttFRefIdeal.τ).loc Cert.AttFRefIdeal.main_arg1)) (m ((c.tc : Thread Cert.AttFRefIdeal.nD Cert.AttFRefIdeal.τ).loc Cert.AttFRefIdeal.main_arg2)) (m ((c.tc : Thread Cert.AttFRefIdeal.nD Cert.AttFRefIdeal.τ).loc Cert.AttFRefIdeal.main_arg3))).2.2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.2 = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumIdeal_finite [hPre_finite : Cert.Pre_finite.Facts] (m : (ℓ : Loc Cert.SumIdeal.nD Cert.SumIdeal.τ Cert.SumIdeal.sig) → Buf (Elt Ideal) ℓ) : Prop :=
  ∀ c : Dev Cert.SumIdeal.nD,
    (Cert.Pre_finite.fn (F := Ideal) (m ((c.tc : Thread Cert.SumIdeal.nD Cert.SumIdeal.τ).loc Cert.SumIdeal.main_arg0)) (m ((c.tc : Thread Cert.SumIdeal.nD Cert.SumIdeal.τ).loc Cert.SumIdeal.main_arg1)) (m ((c.tc : Thread Cert.SumIdeal.nD Cert.SumIdeal.τ).loc Cert.SumIdeal.main_arg2)) (m ((c.tc : Thread Cert.SumIdeal.nD Cert.SumIdeal.τ).loc Cert.SumIdeal.main_arg3)) (m ((c.tc : Thread Cert.SumIdeal.nD Cert.SumIdeal.τ).loc Cert.SumIdeal.main_arg4))).1 = (fun _ => 1#1)
    ∧ (Cert.Pre_finite.fn (F := Ideal) (m ((c.tc : Thread Cert.SumIdeal.nD Cert.SumIdeal.τ).loc Cert.SumIdeal.main_arg0)) (m ((c.tc : Thread Cert.SumIdeal.nD Cert.SumIdeal.τ).loc Cert.SumIdeal.main_arg1)) (m ((c.tc : Thread Cert.SumIdeal.nD Cert.SumIdeal.τ).loc Cert.SumIdeal.main_arg2)) (m ((c.tc : Thread Cert.SumIdeal.nD Cert.SumIdeal.τ).loc Cert.SumIdeal.main_arg3)) (m ((c.tc : Thread Cert.SumIdeal.nD Cert.SumIdeal.τ).loc Cert.SumIdeal.main_arg4))).2.1 = (fun _ => 1#1)
    ∧ (Cert.Pre_finite.fn (F := Ideal) (m ((c.tc : Thread Cert.SumIdeal.nD Cert.SumIdeal.τ).loc Cert.SumIdeal.main_arg0)) (m ((c.tc : Thread Cert.SumIdeal.nD Cert.SumIdeal.τ).loc Cert.SumIdeal.main_arg1)) (m ((c.tc : Thread Cert.SumIdeal.nD Cert.SumIdeal.τ).loc Cert.SumIdeal.main_arg2)) (m ((c.tc : Thread Cert.SumIdeal.nD Cert.SumIdeal.τ).loc Cert.SumIdeal.main_arg3)) (m ((c.tc : Thread Cert.SumIdeal.nD Cert.SumIdeal.τ).loc Cert.SumIdeal.main_arg4))).2.2.1 = (fun _ => 1#1)
    ∧ (Cert.Pre_finite.fn (F := Ideal) (m ((c.tc : Thread Cert.SumIdeal.nD Cert.SumIdeal.τ).loc Cert.SumIdeal.main_arg0)) (m ((c.tc : Thread Cert.SumIdeal.nD Cert.SumIdeal.τ).loc Cert.SumIdeal.main_arg1)) (m ((c.tc : Thread Cert.SumIdeal.nD Cert.SumIdeal.τ).loc Cert.SumIdeal.main_arg2)) (m ((c.tc : Thread Cert.SumIdeal.nD Cert.SumIdeal.τ).loc Cert.SumIdeal.main_arg3)) (m ((c.tc : Thread Cert.SumIdeal.nD Cert.SumIdeal.τ).loc Cert.SumIdeal.main_arg4))).2.2.2.1 = (fun _ => 1#1)
    ∧ (Cert.Pre_finite.fn (F := Ideal) (m ((c.tc : Thread Cert.SumIdeal.nD Cert.SumIdeal.τ).loc Cert.SumIdeal.main_arg0)) (m ((c.tc : Thread Cert.SumIdeal.nD Cert.SumIdeal.τ).loc Cert.SumIdeal.main_arg1)) (m ((c.tc : Thread Cert.SumIdeal.nD Cert.SumIdeal.τ).loc Cert.SumIdeal.main_arg2)) (m ((c.tc : Thread Cert.SumIdeal.nD Cert.SumIdeal.τ).loc Cert.SumIdeal.main_arg3)) (m ((c.tc : Thread Cert.SumIdeal.nD Cert.SumIdeal.τ).loc Cert.SumIdeal.main_arg4))).2.2.2.2 = (fun _ => 1#1)

def Pre_SumRefIdeal (m : (ℓ : Loc Cert.SumRefIdeal.nD Cert.SumRefIdeal.τ Cert.SumRefIdeal.sig) → Buf (Elt Ideal) ℓ) : Prop :=
  True

def Pre_SumRefIdeal_finite [hPre_finite : Cert.Pre_finite.Facts] (m : (ℓ : Loc Cert.SumRefIdeal.nD Cert.SumRefIdeal.τ Cert.SumRefIdeal.sig) → Buf (Elt Ideal) ℓ) : Prop :=
  ∀ c : Dev Cert.SumRefIdeal.nD,
    (Cert.Pre_finite.fn (F := Ideal) (m ((c.tc : Thread Cert.SumRefIdeal.nD Cert.SumRefIdeal.τ).loc Cert.SumRefIdeal.main_arg0)) (m ((c.tc : Thread Cert.SumRefIdeal.nD Cert.SumRefIdeal.τ).loc Cert.SumRefIdeal.main_arg1)) (m ((c.tc : Thread Cert.SumRefIdeal.nD Cert.SumRefIdeal.τ).loc Cert.SumRefIdeal.main_arg2)) (m ((c.tc : Thread Cert.SumRefIdeal.nD Cert.SumRefIdeal.τ).loc Cert.SumRefIdeal.main_arg3)) (m ((c.tc : Thread Cert.SumRefIdeal.nD Cert.SumRefIdeal.τ).loc Cert.SumRefIdeal.main_arg4))).1 = (fun _ => 1#1)
    ∧ (Cert.Pre_finite.fn (F := Ideal) (m ((c.tc : Thread Cert.SumRefIdeal.nD Cert.SumRefIdeal.τ).loc Cert.SumRefIdeal.main_arg0)) (m ((c.tc : Thread Cert.SumRefIdeal.nD Cert.SumRefIdeal.τ).loc Cert.SumRefIdeal.main_arg1)) (m ((c.tc : Thread Cert.SumRefIdeal.nD Cert.SumRefIdeal.τ).loc Cert.SumRefIdeal.main_arg2)) (m ((c.tc : Thread Cert.SumRefIdeal.nD Cert.SumRefIdeal.τ).loc Cert.SumRefIdeal.main_arg3)) (m ((c.tc : Thread Cert.SumRefIdeal.nD Cert.SumRefIdeal.τ).loc Cert.SumRefIdeal.main_arg4))).2.1 = (fun _ => 1#1)
    ∧ (Cert.Pre_finite.fn (F := Ideal) (m ((c.tc : Thread Cert.SumRefIdeal.nD Cert.SumRefIdeal.τ).loc Cert.SumRefIdeal.main_arg0)) (m ((c.tc : Thread Cert.SumRefIdeal.nD Cert.SumRefIdeal.τ).loc Cert.SumRefIdeal.main_arg1)) (m ((c.tc : Thread Cert.SumRefIdeal.nD Cert.SumRefIdeal.τ).loc Cert.SumRefIdeal.main_arg2)) (m ((c.tc : Thread Cert.SumRefIdeal.nD Cert.SumRefIdeal.τ).loc Cert.SumRefIdeal.main_arg3)) (m ((c.tc : Thread Cert.SumRefIdeal.nD Cert.SumRefIdeal.τ).loc Cert.SumRefIdeal.main_arg4))).2.2.1 = (fun _ => 1#1)
    ∧ (Cert.Pre_finite.fn (F := Ideal) (m ((c.tc : Thread Cert.SumRefIdeal.nD Cert.SumRefIdeal.τ).loc Cert.SumRefIdeal.main_arg0)) (m ((c.tc : Thread Cert.SumRefIdeal.nD Cert.SumRefIdeal.τ).loc Cert.SumRefIdeal.main_arg1)) (m ((c.tc : Thread Cert.SumRefIdeal.nD Cert.SumRefIdeal.τ).loc Cert.SumRefIdeal.main_arg2)) (m ((c.tc : Thread Cert.SumRefIdeal.nD Cert.SumRefIdeal.τ).loc Cert.SumRefIdeal.main_arg3)) (m ((c.tc : Thread Cert.SumRefIdeal.nD Cert.SumRefIdeal.τ).loc Cert.SumRefIdeal.main_arg4))).2.2.2.1 = (fun _ => 1#1)
    ∧ (Cert.Pre_finite.fn (F := Ideal) (m ((c.tc : Thread Cert.SumRefIdeal.nD Cert.SumRefIdeal.τ).loc Cert.SumRefIdeal.main_arg0)) (m ((c.tc : Thread Cert.SumRefIdeal.nD Cert.SumRefIdeal.τ).loc Cert.SumRefIdeal.main_arg1)) (m ((c.tc : Thread Cert.SumRefIdeal.nD Cert.SumRefIdeal.τ).loc Cert.SumRefIdeal.main_arg2)) (m ((c.tc : Thread Cert.SumRefIdeal.nD Cert.SumRefIdeal.τ).loc Cert.SumRefIdeal.main_arg3)) (m ((c.tc : Thread Cert.SumRefIdeal.nD Cert.SumRefIdeal.τ).loc Cert.SumRefIdeal.main_arg4))).2.2.2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_AttQ [hAttQ : Cert.AttQ.Facts] : Prop :=
  ∀ (m : (ℓ : Loc Cert.AttQ.nD Cert.AttQ.τ Cert.AttQ.sig) → Buf (Elt Bits) ℓ) (g : Dev Cert.AttQ.nD → PrngReg), Pre_AttQ m →
    θ_run (Cert.AttQ.defs (F := Bits)) (onTc (τ := Cert.AttQ.τ) (Cert.AttQ.main (F := Bits))) ⟨m, fun _ => 0, g⟩ (fun r => (∀ c : Dev Cert.AttQ.nD,
      r.2.mem ((c.tc : Thread Cert.AttQ.nD Cert.AttQ.τ).loc Cert.AttQ.main_arg0) = m ((c.tc : Thread Cert.AttQ.nD Cert.AttQ.τ).loc Cert.AttQ.main_arg0)
      ∧ r.2.mem ((c.tc : Thread Cert.AttQ.nD Cert.AttQ.τ).loc Cert.AttQ.main_arg1) = m ((c.tc : Thread Cert.AttQ.nD Cert.AttQ.τ).loc Cert.AttQ.main_arg1)
      ∧ r.2.mem ((c.tc : Thread Cert.AttQ.nD Cert.AttQ.τ).loc Cert.AttQ.main_arg2) = m ((c.tc : Thread Cert.AttQ.nD Cert.AttQ.τ).loc Cert.AttQ.main_arg2)
      ∧ r.2.mem ((c.tc : Thread Cert.AttQ.nD Cert.AttQ.τ).loc Cert.AttQ.main_arg3) = m ((c.tc : Thread Cert.AttQ.nD Cert.AttQ.τ).loc Cert.AttQ.main_arg3)
      ∧ r.2.mem ((c.tc : Thread Cert.AttQ.nD Cert.AttQ.τ).loc Cert.AttQ.main_arg4) = m ((c.tc : Thread Cert.AttQ.nD Cert.AttQ.τ).loc Cert.AttQ.main_arg4))
      ∧ r.2.sem = fun _ => 0)

def quiescent_AttQIdeal [hAttQIdeal : Cert.AttQIdeal.Facts] : Prop :=
  ∀ (m : (ℓ : Loc Cert.AttQIdeal.nD Cert.AttQIdeal.τ Cert.AttQIdeal.sig) → Buf (Elt Ideal) ℓ) (g : Dev Cert.AttQIdeal.nD → PrngReg), Pre_AttQIdeal m →
    θ_run (Cert.AttQIdeal.defs (F := Ideal)) (onTc (τ := Cert.AttQIdeal.τ) (Cert.AttQIdeal.main (F := Ideal))) ⟨m, fun _ => 0, g⟩ (fun r => (∀ c : Dev Cert.AttQIdeal.nD,
      r.2.mem ((c.tc : Thread Cert.AttQIdeal.nD Cert.AttQIdeal.τ).loc Cert.AttQIdeal.main_arg0) = m ((c.tc : Thread Cert.AttQIdeal.nD Cert.AttQIdeal.τ).loc Cert.AttQIdeal.main_arg0)
      ∧ r.2.mem ((c.tc : Thread Cert.AttQIdeal.nD Cert.AttQIdeal.τ).loc Cert.AttQIdeal.main_arg1) = m ((c.tc : Thread Cert.AttQIdeal.nD Cert.AttQIdeal.τ).loc Cert.AttQIdeal.main_arg1)
      ∧ r.2.mem ((c.tc : Thread Cert.AttQIdeal.nD Cert.AttQIdeal.τ).loc Cert.AttQIdeal.main_arg2) = m ((c.tc : Thread Cert.AttQIdeal.nD Cert.AttQIdeal.τ).loc Cert.AttQIdeal.main_arg2)
      ∧ r.2.mem ((c.tc : Thread Cert.AttQIdeal.nD Cert.AttQIdeal.τ).loc Cert.AttQIdeal.main_arg3) = m ((c.tc : Thread Cert.AttQIdeal.nD Cert.AttQIdeal.τ).loc Cert.AttQIdeal.main_arg3)
      ∧ r.2.mem ((c.tc : Thread Cert.AttQIdeal.nD Cert.AttQIdeal.τ).loc Cert.AttQIdeal.main_arg4) = m ((c.tc : Thread Cert.AttQIdeal.nD Cert.AttQIdeal.τ).loc Cert.AttQIdeal.main_arg4))
      ∧ r.2.sem = fun _ => 0)

def quiescent_AttQIdeal_pre_finite [hAttQIdeal : Cert.AttQIdeal.Facts] [hPre_finite : Cert.Pre_finite.Facts] : Prop :=
  ∀ (m : (ℓ : Loc Cert.AttQIdeal.nD Cert.AttQIdeal.τ Cert.AttQIdeal.sig) → Buf (Elt Ideal) ℓ) (g : Dev Cert.AttQIdeal.nD → PrngReg), Pre_AttQIdeal_finite m →
    θ_run (Cert.AttQIdeal.defs (F := Ideal)) (onTc (τ := Cert.AttQIdeal.τ) (Cert.AttQIdeal.main (F := Ideal))) ⟨m, fun _ => 0, g⟩ (fun r => (∀ c : Dev Cert.AttQIdeal.nD,
      r.2.mem ((c.tc : Thread Cert.AttQIdeal.nD Cert.AttQIdeal.τ).loc Cert.AttQIdeal.main_arg0) = m ((c.tc : Thread Cert.AttQIdeal.nD Cert.AttQIdeal.τ).loc Cert.AttQIdeal.main_arg0)
      ∧ r.2.mem ((c.tc : Thread Cert.AttQIdeal.nD Cert.AttQIdeal.τ).loc Cert.AttQIdeal.main_arg1) = m ((c.tc : Thread Cert.AttQIdeal.nD Cert.AttQIdeal.τ).loc Cert.AttQIdeal.main_arg1)
      ∧ r.2.mem ((c.tc : Thread Cert.AttQIdeal.nD Cert.AttQIdeal.τ).loc Cert.AttQIdeal.main_arg2) = m ((c.tc : Thread Cert.AttQIdeal.nD Cert.AttQIdeal.τ).loc Cert.AttQIdeal.main_arg2)
      ∧ r.2.mem ((c.tc : Thread Cert.AttQIdeal.nD Cert.AttQIdeal.τ).loc Cert.AttQIdeal.main_arg3) = m ((c.tc : Thread Cert.AttQIdeal.nD Cert.AttQIdeal.τ).loc Cert.AttQIdeal.main_arg3)
      ∧ r.2.mem ((c.tc : Thread Cert.AttQIdeal.nD Cert.AttQIdeal.τ).loc Cert.AttQIdeal.main_arg4) = m ((c.tc : Thread Cert.AttQIdeal.nD Cert.AttQIdeal.τ).loc Cert.AttQIdeal.main_arg4))
      ∧ r.2.sem = fun _ => 0)

def quiescent_AttQRefIdeal [hAttQRefIdeal : Cert.AttQRefIdeal.Facts] : Prop :=
  ∀ (m : (ℓ : Loc Cert.AttQRefIdeal.nD Cert.AttQRefIdeal.τ Cert.AttQRefIdeal.sig) → Buf (Elt Ideal) ℓ) (g : Dev Cert.AttQRefIdeal.nD → PrngReg), Pre_AttQRefIdeal m →
    θ_run (Cert.AttQRefIdeal.defs (F := Ideal)) (onTc (τ := Cert.AttQRefIdeal.τ) (Cert.AttQRefIdeal.main (F := Ideal))) ⟨m, fun _ => 0, g⟩ (fun r => (∀ c : Dev Cert.AttQRefIdeal.nD,
      r.2.mem ((c.tc : Thread Cert.AttQRefIdeal.nD Cert.AttQRefIdeal.τ).loc Cert.AttQRefIdeal.main_arg0) = m ((c.tc : Thread Cert.AttQRefIdeal.nD Cert.AttQRefIdeal.τ).loc Cert.AttQRefIdeal.main_arg0)
      ∧ r.2.mem ((c.tc : Thread Cert.AttQRefIdeal.nD Cert.AttQRefIdeal.τ).loc Cert.AttQRefIdeal.main_arg1) = m ((c.tc : Thread Cert.AttQRefIdeal.nD Cert.AttQRefIdeal.τ).loc Cert.AttQRefIdeal.main_arg1)
      ∧ r.2.mem ((c.tc : Thread Cert.AttQRefIdeal.nD Cert.AttQRefIdeal.τ).loc Cert.AttQRefIdeal.main_arg2) = m ((c.tc : Thread Cert.AttQRefIdeal.nD Cert.AttQRefIdeal.τ).loc Cert.AttQRefIdeal.main_arg2)
      ∧ r.2.mem ((c.tc : Thread Cert.AttQRefIdeal.nD Cert.AttQRefIdeal.τ).loc Cert.AttQRefIdeal.main_arg3) = m ((c.tc : Thread Cert.AttQRefIdeal.nD Cert.AttQRefIdeal.τ).loc Cert.AttQRefIdeal.main_arg3)
      ∧ r.2.mem ((c.tc : Thread Cert.AttQRefIdeal.nD Cert.AttQRefIdeal.τ).loc Cert.AttQRefIdeal.main_arg4) = m ((c.tc : Thread Cert.AttQRefIdeal.nD Cert.AttQRefIdeal.τ).loc Cert.AttQRefIdeal.main_arg4))
      ∧ r.2.sem = fun _ => 0)

def quiescent_AttQRefIdeal_pre_finite [hAttQRefIdeal : Cert.AttQRefIdeal.Facts] [hPre_finite : Cert.Pre_finite.Facts] : Prop :=
  ∀ (m : (ℓ : Loc Cert.AttQRefIdeal.nD Cert.AttQRefIdeal.τ Cert.AttQRefIdeal.sig) → Buf (Elt Ideal) ℓ) (g : Dev Cert.AttQRefIdeal.nD → PrngReg), Pre_AttQRefIdeal_finite m →
    θ_run (Cert.AttQRefIdeal.defs (F := Ideal)) (onTc (τ := Cert.AttQRefIdeal.τ) (Cert.AttQRefIdeal.main (F := Ideal))) ⟨m, fun _ => 0, g⟩ (fun r => (∀ c : Dev Cert.AttQRefIdeal.nD,
      r.2.mem ((c.tc : Thread Cert.AttQRefIdeal.nD Cert.AttQRefIdeal.τ).loc Cert.AttQRefIdeal.main_arg0) = m ((c.tc : Thread Cert.AttQRefIdeal.nD Cert.AttQRefIdeal.τ).loc Cert.AttQRefIdeal.main_arg0)
      ∧ r.2.mem ((c.tc : Thread Cert.AttQRefIdeal.nD Cert.AttQRefIdeal.τ).loc Cert.AttQRefIdeal.main_arg1) = m ((c.tc : Thread Cert.AttQRefIdeal.nD Cert.AttQRefIdeal.τ).loc Cert.AttQRefIdeal.main_arg1)
      ∧ r.2.mem ((c.tc : Thread Cert.AttQRefIdeal.nD Cert.AttQRefIdeal.τ).loc Cert.AttQRefIdeal.main_arg2) = m ((c.tc : Thread Cert.AttQRefIdeal.nD Cert.AttQRefIdeal.τ).loc Cert.AttQRefIdeal.main_arg2)
      ∧ r.2.mem ((c.tc : Thread Cert.AttQRefIdeal.nD Cert.AttQRefIdeal.τ).loc Cert.AttQRefIdeal.main_arg3) = m ((c.tc : Thread Cert.AttQRefIdeal.nD Cert.AttQRefIdeal.τ).loc Cert.AttQRefIdeal.main_arg3)
      ∧ r.2.mem ((c.tc : Thread Cert.AttQRefIdeal.nD Cert.AttQRefIdeal.τ).loc Cert.AttQRefIdeal.main_arg4) = m ((c.tc : Thread Cert.AttQRefIdeal.nD Cert.AttQRefIdeal.τ).loc Cert.AttQRefIdeal.main_arg4))
      ∧ r.2.sem = fun _ => 0)

def quiescent_AttKv [hAttKv : Cert.AttKv.Facts] : Prop :=
  ∀ (m : (ℓ : Loc Cert.AttKv.nD Cert.AttKv.τ Cert.AttKv.sig) → Buf (Elt Bits) ℓ) (g : Dev Cert.AttKv.nD → PrngReg), Pre_AttKv m →
    θ_run (Cert.AttKv.defs (F := Bits)) (onTc (τ := Cert.AttKv.τ) (Cert.AttKv.main (F := Bits))) ⟨m, fun _ => 0, g⟩ (fun r => (∀ c : Dev Cert.AttKv.nD,
      r.2.mem ((c.tc : Thread Cert.AttKv.nD Cert.AttKv.τ).loc Cert.AttKv.main_arg0) = m ((c.tc : Thread Cert.AttKv.nD Cert.AttKv.τ).loc Cert.AttKv.main_arg0)
      ∧ r.2.mem ((c.tc : Thread Cert.AttKv.nD Cert.AttKv.τ).loc Cert.AttKv.main_arg1) = m ((c.tc : Thread Cert.AttKv.nD Cert.AttKv.τ).loc Cert.AttKv.main_arg1)
      ∧ r.2.mem ((c.tc : Thread Cert.AttKv.nD Cert.AttKv.τ).loc Cert.AttKv.main_arg2) = m ((c.tc : Thread Cert.AttKv.nD Cert.AttKv.τ).loc Cert.AttKv.main_arg2)
      ∧ r.2.mem ((c.tc : Thread Cert.AttKv.nD Cert.AttKv.τ).loc Cert.AttKv.main_arg3) = m ((c.tc : Thread Cert.AttKv.nD Cert.AttKv.τ).loc Cert.AttKv.main_arg3)
      ∧ r.2.mem ((c.tc : Thread Cert.AttKv.nD Cert.AttKv.τ).loc Cert.AttKv.main_arg4) = m ((c.tc : Thread Cert.AttKv.nD Cert.AttKv.τ).loc Cert.AttKv.main_arg4))
      ∧ r.2.sem = fun _ => 0)

def quiescent_AttKvIdeal [hAttKvIdeal : Cert.AttKvIdeal.Facts] : Prop :=
  ∀ (m : (ℓ : Loc Cert.AttKvIdeal.nD Cert.AttKvIdeal.τ Cert.AttKvIdeal.sig) → Buf (Elt Ideal) ℓ) (g : Dev Cert.AttKvIdeal.nD → PrngReg), Pre_AttKvIdeal m →
    θ_run (Cert.AttKvIdeal.defs (F := Ideal)) (onTc (τ := Cert.AttKvIdeal.τ) (Cert.AttKvIdeal.main (F := Ideal))) ⟨m, fun _ => 0, g⟩ (fun r => (∀ c : Dev Cert.AttKvIdeal.nD,
      r.2.mem ((c.tc : Thread Cert.AttKvIdeal.nD Cert.AttKvIdeal.τ).loc Cert.AttKvIdeal.main_arg0) = m ((c.tc : Thread Cert.AttKvIdeal.nD Cert.AttKvIdeal.τ).loc Cert.AttKvIdeal.main_arg0)
      ∧ r.2.mem ((c.tc : Thread Cert.AttKvIdeal.nD Cert.AttKvIdeal.τ).loc Cert.AttKvIdeal.main_arg1) = m ((c.tc : Thread Cert.AttKvIdeal.nD Cert.AttKvIdeal.τ).loc Cert.AttKvIdeal.main_arg1)
      ∧ r.2.mem ((c.tc : Thread Cert.AttKvIdeal.nD Cert.AttKvIdeal.τ).loc Cert.AttKvIdeal.main_arg2) = m ((c.tc : Thread Cert.AttKvIdeal.nD Cert.AttKvIdeal.τ).loc Cert.AttKvIdeal.main_arg2)
      ∧ r.2.mem ((c.tc : Thread Cert.AttKvIdeal.nD Cert.AttKvIdeal.τ).loc Cert.AttKvIdeal.main_arg3) = m ((c.tc : Thread Cert.AttKvIdeal.nD Cert.AttKvIdeal.τ).loc Cert.AttKvIdeal.main_arg3)
      ∧ r.2.mem ((c.tc : Thread Cert.AttKvIdeal.nD Cert.AttKvIdeal.τ).loc Cert.AttKvIdeal.main_arg4) = m ((c.tc : Thread Cert.AttKvIdeal.nD Cert.AttKvIdeal.τ).loc Cert.AttKvIdeal.main_arg4))
      ∧ r.2.sem = fun _ => 0)

def quiescent_AttKvIdeal_pre_finite [hAttKvIdeal : Cert.AttKvIdeal.Facts] [hPre_finite : Cert.Pre_finite.Facts] : Prop :=
  ∀ (m : (ℓ : Loc Cert.AttKvIdeal.nD Cert.AttKvIdeal.τ Cert.AttKvIdeal.sig) → Buf (Elt Ideal) ℓ) (g : Dev Cert.AttKvIdeal.nD → PrngReg), Pre_AttKvIdeal_finite m →
    θ_run (Cert.AttKvIdeal.defs (F := Ideal)) (onTc (τ := Cert.AttKvIdeal.τ) (Cert.AttKvIdeal.main (F := Ideal))) ⟨m, fun _ => 0, g⟩ (fun r => (∀ c : Dev Cert.AttKvIdeal.nD,
      r.2.mem ((c.tc : Thread Cert.AttKvIdeal.nD Cert.AttKvIdeal.τ).loc Cert.AttKvIdeal.main_arg0) = m ((c.tc : Thread Cert.AttKvIdeal.nD Cert.AttKvIdeal.τ).loc Cert.AttKvIdeal.main_arg0)
      ∧ r.2.mem ((c.tc : Thread Cert.AttKvIdeal.nD Cert.AttKvIdeal.τ).loc Cert.AttKvIdeal.main_arg1) = m ((c.tc : Thread Cert.AttKvIdeal.nD Cert.AttKvIdeal.τ).loc Cert.AttKvIdeal.main_arg1)
      ∧ r.2.mem ((c.tc : Thread Cert.AttKvIdeal.nD Cert.AttKvIdeal.τ).loc Cert.AttKvIdeal.main_arg2) = m ((c.tc : Thread Cert.AttKvIdeal.nD Cert.AttKvIdeal.τ).loc Cert.AttKvIdeal.main_arg2)
      ∧ r.2.mem ((c.tc : Thread Cert.AttKvIdeal.nD Cert.AttKvIdeal.τ).loc Cert.AttKvIdeal.main_arg3) = m ((c.tc : Thread Cert.AttKvIdeal.nD Cert.AttKvIdeal.τ).loc Cert.AttKvIdeal.main_arg3)
      ∧ r.2.mem ((c.tc : Thread Cert.AttKvIdeal.nD Cert.AttKvIdeal.τ).loc Cert.AttKvIdeal.main_arg4) = m ((c.tc : Thread Cert.AttKvIdeal.nD Cert.AttKvIdeal.τ).loc Cert.AttKvIdeal.main_arg4))
      ∧ r.2.sem = fun _ => 0)

def quiescent_AttKvRefIdeal [hAttKvRefIdeal : Cert.AttKvRefIdeal.Facts] : Prop :=
  ∀ (m : (ℓ : Loc Cert.AttKvRefIdeal.nD Cert.AttKvRefIdeal.τ Cert.AttKvRefIdeal.sig) → Buf (Elt Ideal) ℓ) (g : Dev Cert.AttKvRefIdeal.nD → PrngReg), Pre_AttKvRefIdeal m →
    θ_run (Cert.AttKvRefIdeal.defs (F := Ideal)) (onTc (τ := Cert.AttKvRefIdeal.τ) (Cert.AttKvRefIdeal.main (F := Ideal))) ⟨m, fun _ => 0, g⟩ (fun r => (∀ c : Dev Cert.AttKvRefIdeal.nD,
      r.2.mem ((c.tc : Thread Cert.AttKvRefIdeal.nD Cert.AttKvRefIdeal.τ).loc Cert.AttKvRefIdeal.main_arg0) = m ((c.tc : Thread Cert.AttKvRefIdeal.nD Cert.AttKvRefIdeal.τ).loc Cert.AttKvRefIdeal.main_arg0)
      ∧ r.2.mem ((c.tc : Thread Cert.AttKvRefIdeal.nD Cert.AttKvRefIdeal.τ).loc Cert.AttKvRefIdeal.main_arg1) = m ((c.tc : Thread Cert.AttKvRefIdeal.nD Cert.AttKvRefIdeal.τ).loc Cert.AttKvRefIdeal.main_arg1)
      ∧ r.2.mem ((c.tc : Thread Cert.AttKvRefIdeal.nD Cert.AttKvRefIdeal.τ).loc Cert.AttKvRefIdeal.main_arg2) = m ((c.tc : Thread Cert.AttKvRefIdeal.nD Cert.AttKvRefIdeal.τ).loc Cert.AttKvRefIdeal.main_arg2)
      ∧ r.2.mem ((c.tc : Thread Cert.AttKvRefIdeal.nD Cert.AttKvRefIdeal.τ).loc Cert.AttKvRefIdeal.main_arg3) = m ((c.tc : Thread Cert.AttKvRefIdeal.nD Cert.AttKvRefIdeal.τ).loc Cert.AttKvRefIdeal.main_arg3)
      ∧ r.2.mem ((c.tc : Thread Cert.AttKvRefIdeal.nD Cert.AttKvRefIdeal.τ).loc Cert.AttKvRefIdeal.main_arg4) = m ((c.tc : Thread Cert.AttKvRefIdeal.nD Cert.AttKvRefIdeal.τ).loc Cert.AttKvRefIdeal.main_arg4))
      ∧ r.2.sem = fun _ => 0)

def quiescent_AttKvRefIdeal_pre_finite [hAttKvRefIdeal : Cert.AttKvRefIdeal.Facts] [hPre_finite : Cert.Pre_finite.Facts] : Prop :=
  ∀ (m : (ℓ : Loc Cert.AttKvRefIdeal.nD Cert.AttKvRefIdeal.τ Cert.AttKvRefIdeal.sig) → Buf (Elt Ideal) ℓ) (g : Dev Cert.AttKvRefIdeal.nD → PrngReg), Pre_AttKvRefIdeal_finite m →
    θ_run (Cert.AttKvRefIdeal.defs (F := Ideal)) (onTc (τ := Cert.AttKvRefIdeal.τ) (Cert.AttKvRefIdeal.main (F := Ideal))) ⟨m, fun _ => 0, g⟩ (fun r => (∀ c : Dev Cert.AttKvRefIdeal.nD,
      r.2.mem ((c.tc : Thread Cert.AttKvRefIdeal.nD Cert.AttKvRefIdeal.τ).loc Cert.AttKvRefIdeal.main_arg0) = m ((c.tc : Thread Cert.AttKvRefIdeal.nD Cert.AttKvRefIdeal.τ).loc Cert.AttKvRefIdeal.main_arg0)
      ∧ r.2.mem ((c.tc : Thread Cert.AttKvRefIdeal.nD Cert.AttKvRefIdeal.τ).loc Cert.AttKvRefIdeal.main_arg1) = m ((c.tc : Thread Cert.AttKvRefIdeal.nD Cert.AttKvRefIdeal.τ).loc Cert.AttKvRefIdeal.main_arg1)
      ∧ r.2.mem ((c.tc : Thread Cert.AttKvRefIdeal.nD Cert.AttKvRefIdeal.τ).loc Cert.AttKvRefIdeal.main_arg2) = m ((c.tc : Thread Cert.AttKvRefIdeal.nD Cert.AttKvRefIdeal.τ).loc Cert.AttKvRefIdeal.main_arg2)
      ∧ r.2.mem ((c.tc : Thread Cert.AttKvRefIdeal.nD Cert.AttKvRefIdeal.τ).loc Cert.AttKvRefIdeal.main_arg3) = m ((c.tc : Thread Cert.AttKvRefIdeal.nD Cert.AttKvRefIdeal.τ).loc Cert.AttKvRefIdeal.main_arg3)
      ∧ r.2.mem ((c.tc : Thread Cert.AttKvRefIdeal.nD Cert.AttKvRefIdeal.τ).loc Cert.AttKvRefIdeal.main_arg4) = m ((c.tc : Thread Cert.AttKvRefIdeal.nD Cert.AttKvRefIdeal.τ).loc Cert.AttKvRefIdeal.main_arg4))
      ∧ r.2.sem = fun _ => 0)

def quiescent_AttF [hAttF : Cert.AttF.Facts] : Prop :=
  ∀ (m : (ℓ : Loc Cert.AttF.nD Cert.AttF.τ Cert.AttF.sig) → Buf (Elt Bits) ℓ) (g : Dev Cert.AttF.nD → PrngReg), Pre_AttF m →
    θ_run (Cert.AttF.defs (F := Bits)) (onTc (τ := Cert.AttF.τ) (Cert.AttF.main (F := Bits))) ⟨m, fun _ => 0, g⟩ (fun r => (∀ c : Dev Cert.AttF.nD,
      r.2.mem ((c.tc : Thread Cert.AttF.nD Cert.AttF.τ).loc Cert.AttF.main_arg0) = m ((c.tc : Thread Cert.AttF.nD Cert.AttF.τ).loc Cert.AttF.main_arg0)
      ∧ r.2.mem ((c.tc : Thread Cert.AttF.nD Cert.AttF.τ).loc Cert.AttF.main_arg1) = m ((c.tc : Thread Cert.AttF.nD Cert.AttF.τ).loc Cert.AttF.main_arg1)
      ∧ r.2.mem ((c.tc : Thread Cert.AttF.nD Cert.AttF.τ).loc Cert.AttF.main_arg2) = m ((c.tc : Thread Cert.AttF.nD Cert.AttF.τ).loc Cert.AttF.main_arg2)
      ∧ r.2.mem ((c.tc : Thread Cert.AttF.nD Cert.AttF.τ).loc Cert.AttF.main_arg3) = m ((c.tc : Thread Cert.AttF.nD Cert.AttF.τ).loc Cert.AttF.main_arg3))
      ∧ r.2.sem = fun _ => 0)

def quiescent_AttFIdeal [hAttFIdeal : Cert.AttFIdeal.Facts] : Prop :=
  ∀ (m : (ℓ : Loc Cert.AttFIdeal.nD Cert.AttFIdeal.τ Cert.AttFIdeal.sig) → Buf (Elt Ideal) ℓ) (g : Dev Cert.AttFIdeal.nD → PrngReg), Pre_AttFIdeal m →
    θ_run (Cert.AttFIdeal.defs (F := Ideal)) (onTc (τ := Cert.AttFIdeal.τ) (Cert.AttFIdeal.main (F := Ideal))) ⟨m, fun _ => 0, g⟩ (fun r => (∀ c : Dev Cert.AttFIdeal.nD,
      r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
      ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1)
      ∧ r.2.mem ((c.tc : Thread Cert.AttFIdeal.nD Cert.AttFIdeal.τ).loc Cert.AttFIdeal.main_arg2) = m ((c.tc : Thread Cert.AttFIdeal.nD Cert.AttFIdeal.τ).loc Cert.AttFIdeal.main_arg2)
      ∧ r.2.mem ((c.tc : Thread Cert.AttFIdeal.nD Cert.AttFIdeal.τ).loc Cert.AttFIdeal.main_arg3) = m ((c.tc : Thread Cert.AttFIdeal.nD Cert.AttFIdeal.τ).loc Cert.AttFIdeal.main_arg3))
      ∧ r.2.sem = fun _ => 0)

def quiescent_AttFIdeal_pre_finite_forward [hAttFIdeal : Cert.AttFIdeal.Facts] [hPre_finite_forward : Cert.Pre_finite_forward.Facts] : Prop :=
  ∀ (m : (ℓ : Loc Cert.AttFIdeal.nD Cert.AttFIdeal.τ Cert.AttFIdeal.sig) → Buf (Elt Ideal) ℓ) (g : Dev Cert.AttFIdeal.nD → PrngReg), Pre_AttFIdeal_finite_forward m →
    θ_run (Cert.AttFIdeal.defs (F := Ideal)) (onTc (τ := Cert.AttFIdeal.τ) (Cert.AttFIdeal.main (F := Ideal))) ⟨m, fun _ => 0, g⟩ (fun r => (∀ c : Dev Cert.AttFIdeal.nD,
      r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
      ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1)
      ∧ r.2.mem ((c.tc : Thread Cert.AttFIdeal.nD Cert.AttFIdeal.τ).loc Cert.AttFIdeal.main_arg2) = m ((c.tc : Thread Cert.AttFIdeal.nD Cert.AttFIdeal.τ).loc Cert.AttFIdeal.main_arg2)
      ∧ r.2.mem ((c.tc : Thread Cert.AttFIdeal.nD Cert.AttFIdeal.τ).loc Cert.AttFIdeal.main_arg3) = m ((c.tc : Thread Cert.AttFIdeal.nD Cert.AttFIdeal.τ).loc Cert.AttFIdeal.main_arg3))
      ∧ r.2.sem = fun _ => 0)

def quiescent_AttFRefIdeal [hAttFRefIdeal : Cert.AttFRefIdeal.Facts] : Prop :=
  ∀ (m : (ℓ : Loc Cert.AttFRefIdeal.nD Cert.AttFRefIdeal.τ Cert.AttFRefIdeal.sig) → Buf (Elt Ideal) ℓ) (g : Dev Cert.AttFRefIdeal.nD → PrngReg), Pre_AttFRefIdeal m →
    θ_run (Cert.AttFRefIdeal.defs (F := Ideal)) (onTc (τ := Cert.AttFRefIdeal.τ) (Cert.AttFRefIdeal.main (F := Ideal))) ⟨m, fun _ => 0, g⟩ (fun r => (∀ c : Dev Cert.AttFRefIdeal.nD,
      r.2.mem ((c.tc : Thread Cert.AttFRefIdeal.nD Cert.AttFRefIdeal.τ).loc Cert.AttFRefIdeal.main_arg0) = m ((c.tc : Thread Cert.AttFRefIdeal.nD Cert.AttFRefIdeal.τ).loc Cert.AttFRefIdeal.main_arg0)
      ∧ r.2.mem ((c.tc : Thread Cert.AttFRefIdeal.nD Cert.AttFRefIdeal.τ).loc Cert.AttFRefIdeal.main_arg1) = m ((c.tc : Thread Cert.AttFRefIdeal.nD Cert.AttFRefIdeal.τ).loc Cert.AttFRefIdeal.main_arg1)
      ∧ r.2.mem ((c.tc : Thread Cert.AttFRefIdeal.nD Cert.AttFRefIdeal.τ).loc Cert.AttFRefIdeal.main_arg2) = m ((c.tc : Thread Cert.AttFRefIdeal.nD Cert.AttFRefIdeal.τ).loc Cert.AttFRefIdeal.main_arg2)
      ∧ r.2.mem ((c.tc : Thread Cert.AttFRefIdeal.nD Cert.AttFRefIdeal.τ).loc Cert.AttFRefIdeal.main_arg3) = m ((c.tc : Thread Cert.AttFRefIdeal.nD Cert.AttFRefIdeal.τ).loc Cert.AttFRefIdeal.main_arg3))
      ∧ r.2.sem = fun _ => 0)

def quiescent_AttFRefIdeal_pre_finite_forward [hAttFRefIdeal : Cert.AttFRefIdeal.Facts] [hPre_finite_forward : Cert.Pre_finite_forward.Facts] : Prop :=
  ∀ (m : (ℓ : Loc Cert.AttFRefIdeal.nD Cert.AttFRefIdeal.τ Cert.AttFRefIdeal.sig) → Buf (Elt Ideal) ℓ) (g : Dev Cert.AttFRefIdeal.nD → PrngReg), Pre_AttFRefIdeal_finite_forward m →
    θ_run (Cert.AttFRefIdeal.defs (F := Ideal)) (onTc (τ := Cert.AttFRefIdeal.τ) (Cert.AttFRefIdeal.main (F := Ideal))) ⟨m, fun _ => 0, g⟩ (fun r => (∀ c : Dev Cert.AttFRefIdeal.nD,
      r.2.mem ((c.tc : Thread Cert.AttFRefIdeal.nD Cert.AttFRefIdeal.τ).loc Cert.AttFRefIdeal.main_arg0) = m ((c.tc : Thread Cert.AttFRefIdeal.nD Cert.AttFRefIdeal.τ).loc Cert.AttFRefIdeal.main_arg0)
      ∧ r.2.mem ((c.tc : Thread Cert.AttFRefIdeal.nD Cert.AttFRefIdeal.τ).loc Cert.AttFRefIdeal.main_arg1) = m ((c.tc : Thread Cert.AttFRefIdeal.nD Cert.AttFRefIdeal.τ).loc Cert.AttFRefIdeal.main_arg1)
      ∧ r.2.mem ((c.tc : Thread Cert.AttFRefIdeal.nD Cert.AttFRefIdeal.τ).loc Cert.AttFRefIdeal.main_arg2) = m ((c.tc : Thread Cert.AttFRefIdeal.nD Cert.AttFRefIdeal.τ).loc Cert.AttFRefIdeal.main_arg2)
      ∧ r.2.mem ((c.tc : Thread Cert.AttFRefIdeal.nD Cert.AttFRefIdeal.τ).loc Cert.AttFRefIdeal.main_arg3) = m ((c.tc : Thread Cert.AttFRefIdeal.nD Cert.AttFRefIdeal.τ).loc Cert.AttFRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0)
      ∧ r.2.mem ((c.tc : Thread Cert.Sum.nD Cert.Sum.τ).loc Cert.Sum.main_arg1) = m ((c.tc : Thread Cert.Sum.nD Cert.Sum.τ).loc Cert.Sum.main_arg1)
      ∧ r.2.mem ((c.tc : Thread Cert.Sum.nD Cert.Sum.τ).loc Cert.Sum.main_arg2) = m ((c.tc : Thread Cert.Sum.nD Cert.Sum.τ).loc Cert.Sum.main_arg2)
      ∧ r.2.mem ((c.tc : Thread Cert.Sum.nD Cert.Sum.τ).loc Cert.Sum.main_arg3) = m ((c.tc : Thread Cert.Sum.nD Cert.Sum.τ).loc Cert.Sum.main_arg3)
      ∧ r.2.mem ((c.tc : Thread Cert.Sum.nD Cert.Sum.τ).loc Cert.Sum.main_arg4) = m ((c.tc : Thread Cert.Sum.nD Cert.Sum.τ).loc Cert.Sum.main_arg4))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0)
      ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
      ∧ r.2.mem ((c.tc : Thread Cert.SumIdeal.nD Cert.SumIdeal.τ).loc Cert.SumIdeal.main_arg2) = m ((c.tc : Thread Cert.SumIdeal.nD Cert.SumIdeal.τ).loc Cert.SumIdeal.main_arg2)
      ∧ r.2.mem ((c.tc : Thread Cert.SumIdeal.nD Cert.SumIdeal.τ).loc Cert.SumIdeal.main_arg3) = m ((c.tc : Thread Cert.SumIdeal.nD Cert.SumIdeal.τ).loc Cert.SumIdeal.main_arg3)
      ∧ r.2.mem ((c.tc : Thread Cert.SumIdeal.nD Cert.SumIdeal.τ).loc Cert.SumIdeal.main_arg4) = m ((c.tc : Thread Cert.SumIdeal.nD Cert.SumIdeal.τ).loc Cert.SumIdeal.main_arg4))
      ∧ r.2.sem = fun _ => 0)

def quiescent_SumIdeal_pre_finite [hSumIdeal : Cert.SumIdeal.Facts] [hPre_finite : Cert.Pre_finite.Facts] : Prop :=
  ∀ (m : (ℓ : Loc Cert.SumIdeal.nD Cert.SumIdeal.τ Cert.SumIdeal.sig) → Buf (Elt Ideal) ℓ) (g : Dev Cert.SumIdeal.nD → PrngReg), Pre_SumIdeal_finite m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0)
      ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
      ∧ r.2.mem ((c.tc : Thread Cert.SumIdeal.nD Cert.SumIdeal.τ).loc Cert.SumIdeal.main_arg2) = m ((c.tc : Thread Cert.SumIdeal.nD Cert.SumIdeal.τ).loc Cert.SumIdeal.main_arg2)
      ∧ r.2.mem ((c.tc : Thread Cert.SumIdeal.nD Cert.SumIdeal.τ).loc Cert.SumIdeal.main_arg3) = m ((c.tc : Thread Cert.SumIdeal.nD Cert.SumIdeal.τ).loc Cert.SumIdeal.main_arg3)
      ∧ r.2.mem ((c.tc : Thread Cert.SumIdeal.nD Cert.SumIdeal.τ).loc Cert.SumIdeal.main_arg4) = m ((c.tc : Thread Cert.SumIdeal.nD Cert.SumIdeal.τ).loc Cert.SumIdeal.main_arg4))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1)
      ∧ r.2.mem ((c.tc : Thread Cert.SumRefIdeal.nD Cert.SumRefIdeal.τ).loc Cert.SumRefIdeal.main_arg2) = m ((c.tc : Thread Cert.SumRefIdeal.nD Cert.SumRefIdeal.τ).loc Cert.SumRefIdeal.main_arg2)
      ∧ r.2.mem ((c.tc : Thread Cert.SumRefIdeal.nD Cert.SumRefIdeal.τ).loc Cert.SumRefIdeal.main_arg3) = m ((c.tc : Thread Cert.SumRefIdeal.nD Cert.SumRefIdeal.τ).loc Cert.SumRefIdeal.main_arg3)
      ∧ r.2.mem ((c.tc : Thread Cert.SumRefIdeal.nD Cert.SumRefIdeal.τ).loc Cert.SumRefIdeal.main_arg4) = m ((c.tc : Thread Cert.SumRefIdeal.nD Cert.SumRefIdeal.τ).loc Cert.SumRefIdeal.main_arg4))
      ∧ r.2.sem = fun _ => 0)

def quiescent_SumRefIdeal_pre_finite [hSumRefIdeal : Cert.SumRefIdeal.Facts] [hPre_finite : Cert.Pre_finite.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal_finite m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1)
      ∧ r.2.mem ((c.tc : Thread Cert.SumRefIdeal.nD Cert.SumRefIdeal.τ).loc Cert.SumRefIdeal.main_arg2) = m ((c.tc : Thread Cert.SumRefIdeal.nD Cert.SumRefIdeal.τ).loc Cert.SumRefIdeal.main_arg2)
      ∧ r.2.mem ((c.tc : Thread Cert.SumRefIdeal.nD Cert.SumRefIdeal.τ).loc Cert.SumRefIdeal.main_arg3) = m ((c.tc : Thread Cert.SumRefIdeal.nD Cert.SumRefIdeal.τ).loc Cert.SumRefIdeal.main_arg3)
      ∧ r.2.mem ((c.tc : Thread Cert.SumRefIdeal.nD Cert.SumRefIdeal.τ).loc Cert.SumRefIdeal.main_arg4) = m ((c.tc : Thread Cert.SumRefIdeal.nD Cert.SumRefIdeal.τ).loc Cert.SumRefIdeal.main_arg4))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v13) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_AttQ_AttQIdeal : Prop :=
  True

def algebraic_AttQIdeal_AttQRefIdeal_pre_finite [hAttQIdeal : Cert.AttQIdeal.Facts] [hAttQRefIdeal : Cert.AttQRefIdeal.Facts] [hPre_finite : Cert.Pre_finite.Facts] : Prop :=
  ∀ (m : (ℓ : Loc Cert.AttQIdeal.nD Cert.AttQIdeal.τ Cert.AttQIdeal.sig) → Buf (Elt Ideal) ℓ) (g : Dev Cert.AttQIdeal.nD → PrngReg)
    (m' : (ℓ : Loc Cert.AttQRefIdeal.nD Cert.AttQRefIdeal.τ Cert.AttQRefIdeal.sig) → Buf (Elt Ideal) ℓ) (g' : Dev Cert.AttQRefIdeal.nD → PrngReg), Pre_AttQIdeal_finite m →
    (∀ c : Dev Cert.AttQIdeal.nD,
      m' ((c.tc : Thread Cert.AttQRefIdeal.nD Cert.AttQRefIdeal.τ).loc Cert.AttQRefIdeal.main_arg0) = m ((c.tc : Thread Cert.AttQIdeal.nD Cert.AttQIdeal.τ).loc Cert.AttQIdeal.main_arg0)
      ∧ m' ((c.tc : Thread Cert.AttQRefIdeal.nD Cert.AttQRefIdeal.τ).loc Cert.AttQRefIdeal.main_arg1) = m ((c.tc : Thread Cert.AttQIdeal.nD Cert.AttQIdeal.τ).loc Cert.AttQIdeal.main_arg1)
      ∧ m' ((c.tc : Thread Cert.AttQRefIdeal.nD Cert.AttQRefIdeal.τ).loc Cert.AttQRefIdeal.main_arg2) = m ((c.tc : Thread Cert.AttQIdeal.nD Cert.AttQIdeal.τ).loc Cert.AttQIdeal.main_arg2)
      ∧ m' ((c.tc : Thread Cert.AttQRefIdeal.nD Cert.AttQRefIdeal.τ).loc Cert.AttQRefIdeal.main_arg3) = m ((c.tc : Thread Cert.AttQIdeal.nD Cert.AttQIdeal.τ).loc Cert.AttQIdeal.main_arg3)
      ∧ m' ((c.tc : Thread Cert.AttQRefIdeal.nD Cert.AttQRefIdeal.τ).loc Cert.AttQRefIdeal.main_arg4) = m ((c.tc : Thread Cert.AttQIdeal.nD Cert.AttQIdeal.τ).loc Cert.AttQIdeal.main_arg4)) →
    ∃ (v0 : (c : Dev Cert.AttQIdeal.nD) → Buf (Elt Ideal) ((c.tc : Thread Cert.AttQIdeal.nD Cert.AttQIdeal.τ).loc Cert.AttQIdeal.main_v52_0)) (v1 : (c : Dev Cert.AttQIdeal.nD) → Buf (Elt Ideal) ((c.tc : Thread Cert.AttQIdeal.nD Cert.AttQIdeal.τ).loc Cert.AttQIdeal.main_v52_1)),
      θ_run (Cert.AttQIdeal.defs (F := Ideal)) (onTc (τ := Cert.AttQIdeal.τ) (Cert.AttQIdeal.main (F := Ideal))) ⟨m, fun _ => 0, g⟩ (fun r => ∀ c : Dev Cert.AttQIdeal.nD,
          r.2.mem ((c.tc : Thread Cert.AttQIdeal.nD Cert.AttQIdeal.τ).loc Cert.AttQIdeal.main_v52_0) = v0 c
          ∧ r.2.mem ((c.tc : Thread Cert.AttQIdeal.nD Cert.AttQIdeal.τ).loc Cert.AttQIdeal.main_v52_1) = v1 c
          ∧ r.2.mem ((c.tc : Thread Cert.AttQIdeal.nD Cert.AttQIdeal.τ).loc Cert.AttQIdeal.main_arg0) = m ((c.tc : Thread Cert.AttQIdeal.nD Cert.AttQIdeal.τ).loc Cert.AttQIdeal.main_arg0)
          ∧ r.2.mem ((c.tc : Thread Cert.AttQIdeal.nD Cert.AttQIdeal.τ).loc Cert.AttQIdeal.main_arg1) = m ((c.tc : Thread Cert.AttQIdeal.nD Cert.AttQIdeal.τ).loc Cert.AttQIdeal.main_arg1)
          ∧ r.2.mem ((c.tc : Thread Cert.AttQIdeal.nD Cert.AttQIdeal.τ).loc Cert.AttQIdeal.main_arg2) = m ((c.tc : Thread Cert.AttQIdeal.nD Cert.AttQIdeal.τ).loc Cert.AttQIdeal.main_arg2)
          ∧ r.2.mem ((c.tc : Thread Cert.AttQIdeal.nD Cert.AttQIdeal.τ).loc Cert.AttQIdeal.main_arg3) = m ((c.tc : Thread Cert.AttQIdeal.nD Cert.AttQIdeal.τ).loc Cert.AttQIdeal.main_arg3)
          ∧ r.2.mem ((c.tc : Thread Cert.AttQIdeal.nD Cert.AttQIdeal.τ).loc Cert.AttQIdeal.main_arg4) = m ((c.tc : Thread Cert.AttQIdeal.nD Cert.AttQIdeal.τ).loc Cert.AttQIdeal.main_arg4))
      ∧ θ_run (Cert.AttQRefIdeal.defs (F := Ideal)) (onTc (τ := Cert.AttQRefIdeal.τ) (Cert.AttQRefIdeal.main (F := Ideal))) ⟨m', fun _ => 0, g'⟩ (fun r => ∀ c : Dev Cert.AttQRefIdeal.nD,
          r.2.mem ((c.tc : Thread Cert.AttQRefIdeal.nD Cert.AttQRefIdeal.τ).loc Cert.AttQRefIdeal.main_v80) = v0 c
          ∧ r.2.mem ((c.tc : Thread Cert.AttQRefIdeal.nD Cert.AttQRefIdeal.τ).loc Cert.AttQRefIdeal.main_v83) = v1 c
          ∧ r.2.mem ((c.tc : Thread Cert.AttQRefIdeal.nD Cert.AttQRefIdeal.τ).loc Cert.AttQRefIdeal.main_arg0) = m' ((c.tc : Thread Cert.AttQRefIdeal.nD Cert.AttQRefIdeal.τ).loc Cert.AttQRefIdeal.main_arg0)
          ∧ r.2.mem ((c.tc : Thread Cert.AttQRefIdeal.nD Cert.AttQRefIdeal.τ).loc Cert.AttQRefIdeal.main_arg1) = m' ((c.tc : Thread Cert.AttQRefIdeal.nD Cert.AttQRefIdeal.τ).loc Cert.AttQRefIdeal.main_arg1)
          ∧ r.2.mem ((c.tc : Thread Cert.AttQRefIdeal.nD Cert.AttQRefIdeal.τ).loc Cert.AttQRefIdeal.main_arg2) = m' ((c.tc : Thread Cert.AttQRefIdeal.nD Cert.AttQRefIdeal.τ).loc Cert.AttQRefIdeal.main_arg2)
          ∧ r.2.mem ((c.tc : Thread Cert.AttQRefIdeal.nD Cert.AttQRefIdeal.τ).loc Cert.AttQRefIdeal.main_arg3) = m' ((c.tc : Thread Cert.AttQRefIdeal.nD Cert.AttQRefIdeal.τ).loc Cert.AttQRefIdeal.main_arg3)
          ∧ r.2.mem ((c.tc : Thread Cert.AttQRefIdeal.nD Cert.AttQRefIdeal.τ).loc Cert.AttQRefIdeal.main_arg4) = m' ((c.tc : Thread Cert.AttQRefIdeal.nD Cert.AttQRefIdeal.τ).loc Cert.AttQRefIdeal.main_arg4))

def preserves_AttKv_AttKvIdeal : Prop :=
  True

def algebraic_AttKvIdeal_AttKvRefIdeal_pre_finite [hAttKvIdeal : Cert.AttKvIdeal.Facts] [hAttKvRefIdeal : Cert.AttKvRefIdeal.Facts] [hPre_finite : Cert.Pre_finite.Facts] : Prop :=
  ∀ (m : (ℓ : Loc Cert.AttKvIdeal.nD Cert.AttKvIdeal.τ Cert.AttKvIdeal.sig) → Buf (Elt Ideal) ℓ) (g : Dev Cert.AttKvIdeal.nD → PrngReg)
    (m' : (ℓ : Loc Cert.AttKvRefIdeal.nD Cert.AttKvRefIdeal.τ Cert.AttKvRefIdeal.sig) → Buf (Elt Ideal) ℓ) (g' : Dev Cert.AttKvRefIdeal.nD → PrngReg), Pre_AttKvIdeal_finite m →
    (∀ c : Dev Cert.AttKvIdeal.nD,
      m' ((c.tc : Thread Cert.AttKvRefIdeal.nD Cert.AttKvRefIdeal.τ).loc Cert.AttKvRefIdeal.main_arg0) = m ((c.tc : Thread Cert.AttKvIdeal.nD Cert.AttKvIdeal.τ).loc Cert.AttKvIdeal.main_arg0)
      ∧ m' ((c.tc : Thread Cert.AttKvRefIdeal.nD Cert.AttKvRefIdeal.τ).loc Cert.AttKvRefIdeal.main_arg1) = m ((c.tc : Thread Cert.AttKvIdeal.nD Cert.AttKvIdeal.τ).loc Cert.AttKvIdeal.main_arg1)
      ∧ m' ((c.tc : Thread Cert.AttKvRefIdeal.nD Cert.AttKvRefIdeal.τ).loc Cert.AttKvRefIdeal.main_arg2) = m ((c.tc : Thread Cert.AttKvIdeal.nD Cert.AttKvIdeal.τ).loc Cert.AttKvIdeal.main_arg2)
      ∧ m' ((c.tc : Thread Cert.AttKvRefIdeal.nD Cert.AttKvRefIdeal.τ).loc Cert.AttKvRefIdeal.main_arg3) = m ((c.tc : Thread Cert.AttKvIdeal.nD Cert.AttKvIdeal.τ).loc Cert.AttKvIdeal.main_arg3)
      ∧ m' ((c.tc : Thread Cert.AttKvRefIdeal.nD Cert.AttKvRefIdeal.τ).loc Cert.AttKvRefIdeal.main_arg4) = m ((c.tc : Thread Cert.AttKvIdeal.nD Cert.AttKvIdeal.τ).loc Cert.AttKvIdeal.main_arg4)) →
    ∃ (v0 : (c : Dev Cert.AttKvIdeal.nD) → Buf (Elt Ideal) ((c.tc : Thread Cert.AttKvIdeal.nD Cert.AttKvIdeal.τ).loc Cert.AttKvIdeal.main_v50_0)) (v1 : (c : Dev Cert.AttKvIdeal.nD) → Buf (Elt Ideal) ((c.tc : Thread Cert.AttKvIdeal.nD Cert.AttKvIdeal.τ).loc Cert.AttKvIdeal.main_v50_1)) (v2 : (c : Dev Cert.AttKvIdeal.nD) → Buf (Elt Ideal) ((c.tc : Thread Cert.AttKvIdeal.nD Cert.AttKvIdeal.τ).loc Cert.AttKvIdeal.main_v50_2)),
      θ_run (Cert.AttKvIdeal.defs (F := Ideal)) (onTc (τ := Cert.AttKvIdeal.τ) (Cert.AttKvIdeal.main (F := Ideal))) ⟨m, fun _ => 0, g⟩ (fun r => ∀ c : Dev Cert.AttKvIdeal.nD,
          r.2.mem ((c.tc : Thread Cert.AttKvIdeal.nD Cert.AttKvIdeal.τ).loc Cert.AttKvIdeal.main_v50_0) = v0 c
          ∧ r.2.mem ((c.tc : Thread Cert.AttKvIdeal.nD Cert.AttKvIdeal.τ).loc Cert.AttKvIdeal.main_v50_1) = v1 c
          ∧ r.2.mem ((c.tc : Thread Cert.AttKvIdeal.nD Cert.AttKvIdeal.τ).loc Cert.AttKvIdeal.main_v50_2) = v2 c
          ∧ r.2.mem ((c.tc : Thread Cert.AttKvIdeal.nD Cert.AttKvIdeal.τ).loc Cert.AttKvIdeal.main_arg0) = m ((c.tc : Thread Cert.AttKvIdeal.nD Cert.AttKvIdeal.τ).loc Cert.AttKvIdeal.main_arg0)
          ∧ r.2.mem ((c.tc : Thread Cert.AttKvIdeal.nD Cert.AttKvIdeal.τ).loc Cert.AttKvIdeal.main_arg1) = m ((c.tc : Thread Cert.AttKvIdeal.nD Cert.AttKvIdeal.τ).loc Cert.AttKvIdeal.main_arg1)
          ∧ r.2.mem ((c.tc : Thread Cert.AttKvIdeal.nD Cert.AttKvIdeal.τ).loc Cert.AttKvIdeal.main_arg2) = m ((c.tc : Thread Cert.AttKvIdeal.nD Cert.AttKvIdeal.τ).loc Cert.AttKvIdeal.main_arg2)
          ∧ r.2.mem ((c.tc : Thread Cert.AttKvIdeal.nD Cert.AttKvIdeal.τ).loc Cert.AttKvIdeal.main_arg3) = m ((c.tc : Thread Cert.AttKvIdeal.nD Cert.AttKvIdeal.τ).loc Cert.AttKvIdeal.main_arg3)
          ∧ r.2.mem ((c.tc : Thread Cert.AttKvIdeal.nD Cert.AttKvIdeal.τ).loc Cert.AttKvIdeal.main_arg4) = m ((c.tc : Thread Cert.AttKvIdeal.nD Cert.AttKvIdeal.τ).loc Cert.AttKvIdeal.main_arg4))
      ∧ θ_run (Cert.AttKvRefIdeal.defs (F := Ideal)) (onTc (τ := Cert.AttKvRefIdeal.τ) (Cert.AttKvRefIdeal.main (F := Ideal))) ⟨m', fun _ => 0, g'⟩ (fun r => ∀ c : Dev Cert.AttKvRefIdeal.nD,
          r.2.mem ((c.tc : Thread Cert.AttKvRefIdeal.nD Cert.AttKvRefIdeal.τ).loc Cert.AttKvRefIdeal.main_v85) = v0 c
          ∧ r.2.mem ((c.tc : Thread Cert.AttKvRefIdeal.nD Cert.AttKvRefIdeal.τ).loc Cert.AttKvRefIdeal.main_v86) = v1 c
          ∧ r.2.mem ((c.tc : Thread Cert.AttKvRefIdeal.nD Cert.AttKvRefIdeal.τ).loc Cert.AttKvRefIdeal.main_v89) = v2 c
          ∧ r.2.mem ((c.tc : Thread Cert.AttKvRefIdeal.nD Cert.AttKvRefIdeal.τ).loc Cert.AttKvRefIdeal.main_arg0) = m' ((c.tc : Thread Cert.AttKvRefIdeal.nD Cert.AttKvRefIdeal.τ).loc Cert.AttKvRefIdeal.main_arg0)
          ∧ r.2.mem ((c.tc : Thread Cert.AttKvRefIdeal.nD Cert.AttKvRefIdeal.τ).loc Cert.AttKvRefIdeal.main_arg1) = m' ((c.tc : Thread Cert.AttKvRefIdeal.nD Cert.AttKvRefIdeal.τ).loc Cert.AttKvRefIdeal.main_arg1)
          ∧ r.2.mem ((c.tc : Thread Cert.AttKvRefIdeal.nD Cert.AttKvRefIdeal.τ).loc Cert.AttKvRefIdeal.main_arg2) = m' ((c.tc : Thread Cert.AttKvRefIdeal.nD Cert.AttKvRefIdeal.τ).loc Cert.AttKvRefIdeal.main_arg2)
          ∧ r.2.mem ((c.tc : Thread Cert.AttKvRefIdeal.nD Cert.AttKvRefIdeal.τ).loc Cert.AttKvRefIdeal.main_arg3) = m' ((c.tc : Thread Cert.AttKvRefIdeal.nD Cert.AttKvRefIdeal.τ).loc Cert.AttKvRefIdeal.main_arg3)
          ∧ r.2.mem ((c.tc : Thread Cert.AttKvRefIdeal.nD Cert.AttKvRefIdeal.τ).loc Cert.AttKvRefIdeal.main_arg4) = m' ((c.tc : Thread Cert.AttKvRefIdeal.nD Cert.AttKvRefIdeal.τ).loc Cert.AttKvRefIdeal.main_arg4))

def preserves_AttF_AttFIdeal : Prop :=
  True

def algebraic_AttFIdeal_AttFRefIdeal_pre_finite_forward [hAttFIdeal : Cert.AttFIdeal.Facts] [hAttFRefIdeal : Cert.AttFRefIdeal.Facts] [hPre_finite_forward : Cert.Pre_finite_forward.Facts] : Prop :=
  ∀ (m : (ℓ : Loc Cert.AttFIdeal.nD Cert.AttFIdeal.τ Cert.AttFIdeal.sig) → Buf (Elt Ideal) ℓ) (g : Dev Cert.AttFIdeal.nD → PrngReg)
    (m' : (ℓ : Loc Cert.AttFRefIdeal.nD Cert.AttFRefIdeal.τ Cert.AttFRefIdeal.sig) → Buf (Elt Ideal) ℓ) (g' : Dev Cert.AttFRefIdeal.nD → PrngReg), Pre_AttFIdeal_finite_forward m →
    (∀ c : Dev Cert.AttFIdeal.nD,
      m' ((c.tc : Thread Cert.AttFRefIdeal.nD Cert.AttFRefIdeal.τ).loc Cert.AttFRefIdeal.main_arg0) = m ((c.tc : Thread Cert.AttFIdeal.nD Cert.AttFIdeal.τ).loc Cert.AttFIdeal.main_arg0)
      ∧ m' ((c.tc : Thread Cert.AttFRefIdeal.nD Cert.AttFRefIdeal.τ).loc Cert.AttFRefIdeal.main_arg1) = m ((c.tc : Thread Cert.AttFIdeal.nD Cert.AttFIdeal.τ).loc Cert.AttFIdeal.main_arg1)
      ∧ m' ((c.tc : Thread Cert.AttFRefIdeal.nD Cert.AttFRefIdeal.τ).loc Cert.AttFRefIdeal.main_arg2) = m ((c.tc : Thread Cert.AttFIdeal.nD Cert.AttFIdeal.τ).loc Cert.AttFIdeal.main_arg2)
      ∧ m' ((c.tc : Thread Cert.AttFRefIdeal.nD Cert.AttFRefIdeal.τ).loc Cert.AttFRefIdeal.main_arg3) = m ((c.tc : Thread Cert.AttFIdeal.nD Cert.AttFIdeal.τ).loc Cert.AttFIdeal.main_arg3)) →
    ∃ (v0 : (c : Dev Cert.AttFIdeal.nD) → Buf (Elt Ideal) ((c.tc : Thread Cert.AttFIdeal.nD Cert.AttFIdeal.τ).loc Cert.AttFIdeal.main_v6_0)) (v1 : (c : Dev Cert.AttFIdeal.nD) → Buf (Elt Ideal) ((c.tc : Thread Cert.AttFIdeal.nD Cert.AttFIdeal.τ).loc Cert.AttFIdeal.main_v6_1)) (v2 : (c : Dev Cert.AttFIdeal.nD) → Buf (Elt Ideal) ((c.tc : Thread Cert.AttFIdeal.nD Cert.AttFIdeal.τ).loc Cert.AttFIdeal.main_v6_2)),
      θ_run (Cert.AttFIdeal.defs (F := Ideal)) (onTc (τ := Cert.AttFIdeal.τ) (Cert.AttFIdeal.main (F := Ideal))) ⟨m, fun _ => 0, g⟩ (fun r => ∀ c : Dev Cert.AttFIdeal.nD,
          r.2.mem ((c.tc : Thread Cert.AttFIdeal.nD Cert.AttFIdeal.τ).loc Cert.AttFIdeal.main_v6_0) = v0 c
          ∧ r.2.mem ((c.tc : Thread Cert.AttFIdeal.nD Cert.AttFIdeal.τ).loc Cert.AttFIdeal.main_v6_1) = v1 c
          ∧ r.2.mem ((c.tc : Thread Cert.AttFIdeal.nD Cert.AttFIdeal.τ).loc Cert.AttFIdeal.main_v6_2) = v2 c
          ∧ r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
          ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1)
          ∧ r.2.mem ((c.tc : Thread Cert.AttFIdeal.nD Cert.AttFIdeal.τ).loc Cert.AttFIdeal.main_arg2) = m ((c.tc : Thread Cert.AttFIdeal.nD Cert.AttFIdeal.τ).loc Cert.AttFIdeal.main_arg2)
          ∧ r.2.mem ((c.tc : Thread Cert.AttFIdeal.nD Cert.AttFIdeal.τ).loc Cert.AttFIdeal.main_arg3) = m ((c.tc : Thread Cert.AttFIdeal.nD Cert.AttFIdeal.τ).loc Cert.AttFIdeal.main_arg3))
      ∧ θ_run (Cert.AttFRefIdeal.defs (F := Ideal)) (onTc (τ := Cert.AttFRefIdeal.τ) (Cert.AttFRefIdeal.main (F := Ideal))) ⟨m', fun _ => 0, g'⟩ (fun r => ∀ c : Dev Cert.AttFRefIdeal.nD,
          r.2.mem ((c.tc : Thread Cert.AttFRefIdeal.nD Cert.AttFRefIdeal.τ).loc Cert.AttFRefIdeal.main_v64) = v0 c
          ∧ r.2.mem ((c.tc : Thread Cert.AttFRefIdeal.nD Cert.AttFRefIdeal.τ).loc Cert.AttFRefIdeal.main_v66) = v1 c
          ∧ r.2.mem ((c.tc : Thread Cert.AttFRefIdeal.nD Cert.AttFRefIdeal.τ).loc Cert.AttFRefIdeal.main_v70) = v2 c
          ∧ r.2.mem ((c.tc : Thread Cert.AttFRefIdeal.nD Cert.AttFRefIdeal.τ).loc Cert.AttFRefIdeal.main_arg0) = m' ((c.tc : Thread Cert.AttFRefIdeal.nD Cert.AttFRefIdeal.τ).loc Cert.AttFRefIdeal.main_arg0)
          ∧ r.2.mem ((c.tc : Thread Cert.AttFRefIdeal.nD Cert.AttFRefIdeal.τ).loc Cert.AttFRefIdeal.main_arg1) = m' ((c.tc : Thread Cert.AttFRefIdeal.nD Cert.AttFRefIdeal.τ).loc Cert.AttFRefIdeal.main_arg1)
          ∧ r.2.mem ((c.tc : Thread Cert.AttFRefIdeal.nD Cert.AttFRefIdeal.τ).loc Cert.AttFRefIdeal.main_arg2) = m' ((c.tc : Thread Cert.AttFRefIdeal.nD Cert.AttFRefIdeal.τ).loc Cert.AttFRefIdeal.main_arg2)
          ∧ r.2.mem ((c.tc : Thread Cert.AttFRefIdeal.nD Cert.AttFRefIdeal.τ).loc Cert.AttFRefIdeal.main_arg3) = m' ((c.tc : Thread Cert.AttFRefIdeal.nD Cert.AttFRefIdeal.τ).loc Cert.AttFRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v23) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)) (v2 : (c : Dev Cert.GateIdeal.nD) → Buf (Elt Ideal) ((c.tc : Thread Cert.GateIdeal.nD Cert.GateIdeal.τ).loc Cert.GateIdeal.main_v2_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_v2_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v43) = v0 c
          ∧ r.2.mem ((c.tc : Thread Cert.GateRefIdeal.nD Cert.GateRefIdeal.τ).loc Cert.GateRefIdeal.main_v45) = v1 c
          ∧ r.2.mem ((c.tc : Thread Cert.GateRefIdeal.nD Cert.GateRefIdeal.τ).loc Cert.GateRefIdeal.main_v25) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Fox_FoxIdeal : Prop :=
  True

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v8_0)) (v1 : (c : Dev Cert.FoxIdeal.nD) → Buf (Elt Ideal) ((c.tc : Thread Cert.FoxIdeal.nD Cert.FoxIdeal.τ).loc Cert.FoxIdeal.main_v8_1)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v8_0) = v0 c
          ∧ r.2.mem ((c.tc : Thread Cert.FoxIdeal.nD Cert.FoxIdeal.τ).loc Cert.FoxIdeal.main_v8_1) = v1 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v16) = v0 c
          ∧ r.2.mem ((c.tc : Thread Cert.FoxRefIdeal.nD Cert.FoxRefIdeal.τ).loc Cert.FoxRefIdeal.main_v17) = v1 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Sum_SumIdeal : Prop :=
  True

def algebraic_SumIdeal_SumRefIdeal_pre_finite [hSumIdeal : Cert.SumIdeal.Facts] [hSumRefIdeal : Cert.SumRefIdeal.Facts] [hPre_finite : Cert.Pre_finite.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal_finite m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)
      ∧ m' ((c.tc : Thread Cert.SumRefIdeal.nD Cert.SumRefIdeal.τ).loc Cert.SumRefIdeal.main_arg1) = m ((c.tc : Thread Cert.SumIdeal.nD Cert.SumIdeal.τ).loc Cert.SumIdeal.main_arg1)
      ∧ m' ((c.tc : Thread Cert.SumRefIdeal.nD Cert.SumRefIdeal.τ).loc Cert.SumRefIdeal.main_arg2) = m ((c.tc : Thread Cert.SumIdeal.nD Cert.SumIdeal.τ).loc Cert.SumIdeal.main_arg2)
      ∧ m' ((c.tc : Thread Cert.SumRefIdeal.nD Cert.SumRefIdeal.τ).loc Cert.SumRefIdeal.main_arg3) = m ((c.tc : Thread Cert.SumIdeal.nD Cert.SumIdeal.τ).loc Cert.SumIdeal.main_arg3)
      ∧ m' ((c.tc : Thread Cert.SumRefIdeal.nD Cert.SumRefIdeal.τ).loc Cert.SumRefIdeal.main_arg4) = m ((c.tc : Thread Cert.SumIdeal.nD Cert.SumIdeal.τ).loc Cert.SumIdeal.main_arg4)) →
    ∃ (v0 : (c : Dev Cert.SumIdeal.nD) → Buf (Elt Ideal) ((c.tc : Thread Cert.SumIdeal.nD Cert.SumIdeal.τ).loc Cert.SumIdeal.main_v55_0)) (v1 : (c : Dev Cert.SumIdeal.nD) → Buf (Elt Ideal) ((c.tc : Thread Cert.SumIdeal.nD Cert.SumIdeal.τ).loc Cert.SumIdeal.main_v55_1)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v55_0) = v0 c
          ∧ r.2.mem ((c.tc : Thread Cert.SumIdeal.nD Cert.SumIdeal.τ).loc Cert.SumIdeal.main_v55_1) = v1 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0)
          ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
          ∧ r.2.mem ((c.tc : Thread Cert.SumIdeal.nD Cert.SumIdeal.τ).loc Cert.SumIdeal.main_arg2) = m ((c.tc : Thread Cert.SumIdeal.nD Cert.SumIdeal.τ).loc Cert.SumIdeal.main_arg2)
          ∧ r.2.mem ((c.tc : Thread Cert.SumIdeal.nD Cert.SumIdeal.τ).loc Cert.SumIdeal.main_arg3) = m ((c.tc : Thread Cert.SumIdeal.nD Cert.SumIdeal.τ).loc Cert.SumIdeal.main_arg3)
          ∧ r.2.mem ((c.tc : Thread Cert.SumIdeal.nD Cert.SumIdeal.τ).loc Cert.SumIdeal.main_arg4) = m ((c.tc : Thread Cert.SumIdeal.nD Cert.SumIdeal.τ).loc Cert.SumIdeal.main_arg4))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v49) = v0 c
          ∧ r.2.mem ((c.tc : Thread Cert.SumRefIdeal.nD Cert.SumRefIdeal.τ).loc Cert.SumRefIdeal.main_v50) = v1 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0)
          ∧ r.2.mem ((c.tc : Thread Cert.SumRefIdeal.nD Cert.SumRefIdeal.τ).loc Cert.SumRefIdeal.main_arg1) = m' ((c.tc : Thread Cert.SumRefIdeal.nD Cert.SumRefIdeal.τ).loc Cert.SumRefIdeal.main_arg1)
          ∧ r.2.mem ((c.tc : Thread Cert.SumRefIdeal.nD Cert.SumRefIdeal.τ).loc Cert.SumRefIdeal.main_arg2) = m' ((c.tc : Thread Cert.SumRefIdeal.nD Cert.SumRefIdeal.τ).loc Cert.SumRefIdeal.main_arg2)
          ∧ r.2.mem ((c.tc : Thread Cert.SumRefIdeal.nD Cert.SumRefIdeal.τ).loc Cert.SumRefIdeal.main_arg3) = m' ((c.tc : Thread Cert.SumRefIdeal.nD Cert.SumRefIdeal.τ).loc Cert.SumRefIdeal.main_arg3)
          ∧ r.2.mem ((c.tc : Thread Cert.SumRefIdeal.nD Cert.SumRefIdeal.τ).loc Cert.SumRefIdeal.main_arg4) = m' ((c.tc : Thread Cert.SumRefIdeal.nD Cert.SumRefIdeal.τ).loc Cert.SumRefIdeal.main_arg4))

def Claim : Prop :=
  ∃ (hMlp : Cert.Mlp.Facts) (hMlpIdeal : Cert.MlpIdeal.Facts) (hMlpRefIdeal : Cert.MlpRefIdeal.Facts) (hAttQ : Cert.AttQ.Facts) (hAttQIdeal : Cert.AttQIdeal.Facts) (hAttQRefIdeal : Cert.AttQRefIdeal.Facts) (hAttKv : Cert.AttKv.Facts) (hAttKvIdeal : Cert.AttKvIdeal.Facts) (hAttKvRefIdeal : Cert.AttKvRefIdeal.Facts) (hAttF : Cert.AttF.Facts) (hAttFIdeal : Cert.AttFIdeal.Facts) (hAttFRefIdeal : Cert.AttFRefIdeal.Facts) (hAda : Cert.Ada.Facts) (hAdaIdeal : Cert.AdaIdeal.Facts) (hAdaRefIdeal : Cert.AdaRefIdeal.Facts) (hGate : Cert.Gate.Facts) (hGateIdeal : Cert.GateIdeal.Facts) (hGateRefIdeal : Cert.GateRefIdeal.Facts) (hFox : Cert.Fox.Facts) (hFoxIdeal : Cert.FoxIdeal.Facts) (hFoxRefIdeal : Cert.FoxRefIdeal.Facts) (hSum : Cert.Sum.Facts) (hSumIdeal : Cert.SumIdeal.Facts) (hSumRefIdeal : Cert.SumRefIdeal.Facts) (hPre_finite : Cert.Pre_finite.Facts) (hPre_finite_forward : Cert.Pre_finite_forward.Facts) (hPre_finite_gate : Cert.Pre_finite_gate.Facts),
    quiescent_Mlp (hMlp := hMlp)
    ∧ quiescent_MlpIdeal (hMlpIdeal := hMlpIdeal)
    ∧ quiescent_MlpRefIdeal (hMlpRefIdeal := hMlpRefIdeal)
    ∧ quiescent_AttQ (hAttQ := hAttQ)
    ∧ quiescent_AttQIdeal (hAttQIdeal := hAttQIdeal)
    ∧ quiescent_AttQIdeal_pre_finite (hAttQIdeal := hAttQIdeal) (hPre_finite := hPre_finite)
    ∧ quiescent_AttQRefIdeal (hAttQRefIdeal := hAttQRefIdeal)
    ∧ quiescent_AttQRefIdeal_pre_finite (hAttQRefIdeal := hAttQRefIdeal) (hPre_finite := hPre_finite)
    ∧ quiescent_AttKv (hAttKv := hAttKv)
    ∧ quiescent_AttKvIdeal (hAttKvIdeal := hAttKvIdeal)
    ∧ quiescent_AttKvIdeal_pre_finite (hAttKvIdeal := hAttKvIdeal) (hPre_finite := hPre_finite)
    ∧ quiescent_AttKvRefIdeal (hAttKvRefIdeal := hAttKvRefIdeal)
    ∧ quiescent_AttKvRefIdeal_pre_finite (hAttKvRefIdeal := hAttKvRefIdeal) (hPre_finite := hPre_finite)
    ∧ quiescent_AttF (hAttF := hAttF)
    ∧ quiescent_AttFIdeal (hAttFIdeal := hAttFIdeal)
    ∧ quiescent_AttFIdeal_pre_finite_forward (hAttFIdeal := hAttFIdeal) (hPre_finite_forward := hPre_finite_forward)
    ∧ quiescent_AttFRefIdeal (hAttFRefIdeal := hAttFRefIdeal)
    ∧ quiescent_AttFRefIdeal_pre_finite_forward (hAttFRefIdeal := hAttFRefIdeal) (hPre_finite_forward := hPre_finite_forward)
    ∧ quiescent_Ada (hAda := hAda)
    ∧ quiescent_AdaIdeal (hAdaIdeal := hAdaIdeal)
    ∧ quiescent_AdaRefIdeal (hAdaRefIdeal := hAdaRefIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Fox (hFox := hFox)
    ∧ quiescent_FoxIdeal (hFoxIdeal := hFoxIdeal)
    ∧ quiescent_FoxRefIdeal (hFoxRefIdeal := hFoxRefIdeal)
    ∧ quiescent_Sum (hSum := hSum)
    ∧ quiescent_SumIdeal (hSumIdeal := hSumIdeal)
    ∧ quiescent_SumIdeal_pre_finite (hSumIdeal := hSumIdeal) (hPre_finite := hPre_finite)
    ∧ quiescent_SumRefIdeal (hSumRefIdeal := hSumRefIdeal)
    ∧ quiescent_SumRefIdeal_pre_finite (hSumRefIdeal := hSumRefIdeal) (hPre_finite := hPre_finite)
    ∧ preserves_Mlp_MlpIdeal
    ∧ algebraic_MlpIdeal_MlpRefIdeal (hMlpIdeal := hMlpIdeal) (hMlpRefIdeal := hMlpRefIdeal)
    ∧ preserves_AttQ_AttQIdeal
    ∧ algebraic_AttQIdeal_AttQRefIdeal_pre_finite (hAttQIdeal := hAttQIdeal) (hAttQRefIdeal := hAttQRefIdeal) (hPre_finite := hPre_finite)
    ∧ preserves_AttKv_AttKvIdeal
    ∧ algebraic_AttKvIdeal_AttKvRefIdeal_pre_finite (hAttKvIdeal := hAttKvIdeal) (hAttKvRefIdeal := hAttKvRefIdeal) (hPre_finite := hPre_finite)
    ∧ preserves_AttF_AttFIdeal
    ∧ algebraic_AttFIdeal_AttFRefIdeal_pre_finite_forward (hAttFIdeal := hAttFIdeal) (hAttFRefIdeal := hAttFRefIdeal) (hPre_finite_forward := hPre_finite_forward)
    ∧ preserves_Ada_AdaIdeal
    ∧ algebraic_AdaIdeal_AdaRefIdeal (hAdaIdeal := hAdaIdeal) (hAdaRefIdeal := hAdaRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Fox_FoxIdeal
    ∧ algebraic_FoxIdeal_FoxRefIdeal (hFoxIdeal := hFoxIdeal) (hFoxRefIdeal := hFoxRefIdeal)
    ∧ preserves_Sum_SumIdeal
    ∧ algebraic_SumIdeal_SumRefIdeal_pre_finite (hSumIdeal := hSumIdeal) (hSumRefIdeal := hSumRefIdeal) (hPre_finite := hPre_finite)
-- ==== Pre_finite.lean ====
abbrev S16384x1024 : Shape := ⟨2, ![16384, 1024]⟩
abbrev S16384x16 : Shape := ⟨2, ![16384, 16]⟩
abbrev S_ : Shape := ⟨0, ![]⟩

class Facts : Prop where
  bcast_S_S16384x1024 : S_.BroadcastsInDim S16384x1024 (![] : Fin 0 → Fin S16384x1024.rank)
  bcast_S_S16384x16 : S_.BroadcastsInDim S16384x16 (![] : Fin 0 → Fin S16384x16.rank)

variable [Facts]

def fn {F : FTy → Type} [FloatOps F] (main_arg0 : FVec F S16384x1024 .f32) (main_arg1 : FVec F S16384x1024 .f32) (main_arg2 : FVec F S16384x1024 .f32) (main_arg3 : FVec F S16384x16 .f32) (main_arg4 : FVec F S16384x1024 .f32) : IVec S16384x1024 1 × IVec S16384x1024 1 × IVec S16384x1024 1 × IVec S16384x16 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x16 .f32 := Host.absf main_arg3
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_forward.lean ====
abbrev S16384x1024 : Shape := ⟨2, ![16384, 1024]⟩
abbrev S16384x16 : Shape := ⟨2, ![16384, 16]⟩
abbrev S_ : Shape := ⟨0, ![]⟩

class Facts : Prop where
  bcast_S_S16384x1024 : S_.BroadcastsInDim S16384x1024 (![] : Fin 0 → Fin S16384x1024.rank)
  bcast_S_S16384x16 : S_.BroadcastsInDim S16384x16 (![] : Fin 0 → Fin S16384x16.rank)

variable [Facts]

def fn {F : FTy → Type} [FloatOps F] (main_arg0 : FVec F S16384x1024 .f32) (main_arg1 : FVec F S16384x1024 .f32) (main_arg2 : FVec F S16384x1024 .f32) (main_arg3 : FVec F S16384x16 .f32) : IVec S16384x1024 1 × IVec S16384x1024 1 × IVec S16384x1024 1 × IVec S16384x16 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x16 .f32 := Host.absf main_arg3
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  (main_v2, main_v5, main_v8, main_v11)
-- ==== Pre_finite_gate.lean ====
abbrev S16384x2048 : Shape := ⟨2, ![16384, 2048]⟩
abbrev S1x2048 : Shape := ⟨2, ![1, 2048]⟩
abbrev S2048x1024 : Shape := ⟨2, ![2048, 1024]⟩
abbrev S16384x1024 : Shape := ⟨2, ![16384, 1024]⟩
abbrev S_ : Shape := ⟨0, ![]⟩

class Facts : Prop where
  bcast_S_S16384x2048 : S_.BroadcastsInDim S16384x2048 (![] : Fin 0 → Fin S16384x2048.rank)
  bcast_S_S1x2048 : S_.BroadcastsInDim S1x2048 (![] : Fin 0 → Fin S1x2048.rank)
  bcast_S_S2048x1024 : S_.BroadcastsInDim S2048x1024 (![] : Fin 0 → Fin S2048x1024.rank)
  bcast_S_S16384x1024 : S_.BroadcastsInDim S16384x1024 (![] : Fin 0 → Fin S16384x1024.rank)

variable [Facts]

def fn {F : FTy → Type} [FloatOps F] (main_arg0 : FVec F S16384x2048 .f32) (main_arg1 : FVec F S16384x2048 .f32) (main_arg2 : FVec F S1x2048 .f32) (main_arg3 : FVec F S2048x1024 .f32) (main_arg4 : FVec F S16384x1024 .f32) : IVec S16384x2048 1 × IVec S16384x2048 1 × IVec S1x2048 1 × IVec S2048x1024 1 × IVec S16384x1024 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S16384x2048 .f32 := Host.absf main_arg1
  let main_cst_0 : FVec F S_ .f32 := constant S_ .f32 0x7F800000#32
  let main_v4 : FVec F S16384x2048 .f32 := broadcastInDim S16384x2048 ![] bcast_S_S16384x2048 main_cst_0
  let main_v5 : IVec S16384x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Mlp.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x1024, .bf16⟩
  | .hbm, ⟨5, _⟩ => ⟨S1024x4096, .bf16⟩
  | .hbm, ⟨6, _⟩ => ⟨S4096x1024, .bf16⟩
  | .hbm, ⟨7, _⟩ => ⟨S16384x1024, .bf16⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== AttQ.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384 : Shape := ⟨2, ![16, 16384]⟩
abbrev S_ : Shape := ⟨0, ![]⟩
abbrev S16x16384x16384 : Shape := ⟨3, ![16, 16384, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S16384x3072 : Shape := ⟨2, ![16384, 3072]⟩
abbrev S8x32 : Shape := ⟨2, ![8, 32]⟩
abbrev S8x2x16384 : Shape := ⟨3, ![8, 2, 16384]⟩
abbrev S8x16384x2 : Shape := ⟨3, ![8, 16384, 2]⟩
abbrev S16384x128 : Shape := ⟨2, ![16384, 128]⟩
abbrev S8x2x32x512 : Shape := ⟨4, ![8, 2, 32, 512]⟩
abbrev S8x32x2x512 : Shape := ⟨4, ![8, 32, 2, 512]⟩
abbrev S512x128 : Shape := ⟨2, ![512, 128]⟩
abbrev S1x32x2x512 : Shape := ⟨4, ![1, 32, 2, 512]⟩
abbrev S1x512x2 : Shape := ⟨3, ![1, 512, 2]⟩
abbrev S1x1x2x512 : Shape := ⟨4, ![1, 1, 2, 512]⟩
abbrev S2x512x128 : Shape := ⟨3, ![2, 512, 128]⟩
abbrev S512x2 : Shape := ⟨2, ![512, 2]⟩
abbrev S512x1 : Shape := ⟨2, ![512, 1]⟩
abbrev S512 : Shape := ⟨1, ![512]⟩
abbrev S1x1 : Shape := ⟨2, ![1, 1]⟩
abbrev S2x512 : Shape := ⟨2, ![2, 512]⟩
abbrev S512x512 : Shape := ⟨2, ![512, 512]⟩
abbrev S1x512 : Shape := ⟨2, ![1, 512]⟩
abbrev S1x512x128 : Shape := ⟨3, ![1, 512, 128]⟩
abbrev S256x128 : Shape := ⟨2, ![256, 128]⟩
abbrev S256x256 : Shape := ⟨2, ![256, 256]⟩
abbrev S1x256 : Shape := ⟨2, ![1, 256]⟩
abbrev S1x256x128 : Shape := ⟨3, ![1, 256, 128]⟩
abbrev S256x512 : Shape := ⟨2, ![256, 512]⟩
abbrev S128x512 : Shape := ⟨2, ![128, 512]⟩
abbrev S1x1x1x512 : Shape := ⟨4, ![1, 1, 1, 512]⟩

abbrev nBuf : Space → Nat
  | .hbm => 69
  | .vmem => 20
  | .smem => 1
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x1024, .f32⟩
  | .hbm, ⟨5, _⟩ => ⟨S16384x1024, .bf16⟩
  | .hbm, ⟨6, _⟩ => ⟨S16384x16x64, .bf16⟩
  | .hbm, ⟨7, _⟩ => ⟨S16x16384x64, .bf16⟩
  | .hbm, ⟨8, _⟩ => ⟨S16384x1024, .bf16⟩
  | .hbm, ⟨9, _⟩ => ⟨S16384x16x64, .bf16⟩
  | .hbm, ⟨10, _⟩ => ⟨S16x16384x64, .bf16⟩
  | .hbm, ⟨11, _⟩ => ⟨S16384x1024, .bf16⟩
  | .hbm, ⟨12, _⟩ => ⟨S16384x16x64, .bf16⟩
  | .hbm, ⟨13, _⟩ => ⟨S16x16384x64, .bf16⟩
  | .hbm, ⟨14, _⟩ => ⟨S16x16384, .f32⟩
  | .hbm, ⟨15, _⟩ => ⟨S_, .bf16⟩
  | .hbm, ⟨16, _⟩ => ⟨S16x16384x64, .bf16⟩
  | .hbm, ⟨17, _⟩ => ⟨S16x16384x64, .bf16⟩
  | .hbm, ⟨18, _⟩ => ⟨S16x16384x16384, .f32⟩
  | .hbm, ⟨19, _⟩ => ⟨S16x1x16384, .f32⟩
  | .hbm, ⟨20, _⟩ => ⟨S16x16384x16384, .f32⟩
  | .hbm, ⟨21, _⟩ => ⟨S16x16384x16384, .f32⟩
  | .hbm, ⟨22, _⟩ => ⟨S16384, .i32⟩
  | .hbm, ⟨23, _⟩ => ⟨S16384x1, .i32⟩
  | .hbm, ⟨24, _⟩ => ⟨S16384, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x16384, .bf16⟩
  | .hbm, ⟨43, _⟩ => ⟨S16x16384x64, .f32⟩
  | .hbm, ⟨44, _⟩ => ⟨S16x16384x1, .f32⟩
  | .hbm, ⟨45, _⟩ => ⟨S16x16384x64, .f32⟩
  | .hbm, ⟨46, _⟩ => ⟨S16x16384x64, .f32⟩
  | .hbm, ⟨47, _⟩ => ⟨S16x16384, .f32⟩
  | .hbm, ⟨48, _⟩ => ⟨S16x16384, .f32⟩
  | .hbm, ⟨49, _⟩ => ⟨S16384x16x64, .f32⟩
  | .hbm, ⟨50, _⟩ => ⟨S16x16384x64, .f32⟩
  | .hbm, ⟨51, _⟩ => ⟨S16x16384x64, .f32⟩
  | .hbm, ⟨52, _⟩ => ⟨S_, .f32⟩
  | .hbm, ⟨53, _⟩ => ⟨S16x16384, .f32⟩
  | .hbm, ⟨54, _⟩ => ⟨S16384x3072, .f32⟩
  | .hbm, ⟨55, _⟩ => ⟨S16384x3072, .bf16⟩
  | .hbm, ⟨56, _⟩ => ⟨S16384x1024, .bf16⟩
  | .hbm, ⟨57, _⟩ => ⟨S_, .i32⟩
  | .hbm, ⟨58, _⟩ => ⟨S8x2x16384, .f32⟩
  | .hbm, ⟨59, _⟩ => ⟨S8x16384x2, .f32⟩
  | .hbm, ⟨60, _⟩ => ⟨S16384x16, .f32⟩
  | .hbm, ⟨61, _⟩ => ⟨S_, .i32⟩
  | .hbm, ⟨62, _⟩ => ⟨S_, .f32⟩
  | .hbm, ⟨63, _⟩ => ⟨S16384x128, .f32⟩
  | .hbm, ⟨64, _⟩ => ⟨S16x16384, .f32⟩
  | .hbm, ⟨65, _⟩ => ⟨S8x2x32x512, .f32⟩
  | .hbm, ⟨66, _⟩ => ⟨S8x32x2x512, .f32⟩
  | .hbm, ⟨67, _⟩ => ⟨S16384x1024, .bf16⟩
  | .hbm, ⟨68, _⟩ => ⟨S8x32x2x512, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S1x32x2x512, .f32⟩
  | .local _ .vmem, ⟨9, _⟩ => ⟨S1x32x2x512, .f32⟩
  | .local _ .vmem, ⟨10, _⟩ => ⟨S1x512x2, .f32⟩
  | .local _ .vmem, ⟨11, _⟩ => ⟨S1x512x2, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S1x1x2x512, .f32⟩
  | .local _ .vmem, ⟨17, _⟩ => ⟨S1x1x2x512, .f32⟩
  | .local _ .vmem, ⟨18, _⟩ => ⟨S512x128, .f32⟩
  | .local _ .vmem, ⟨19, _⟩ => ⟨S2x512x128, .f32⟩
  | .local _ .smem, ⟨0, _⟩ => ⟨S8x32, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_call1_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52_0 : Ref sig .tc := ⟨.hbm, 67, rfl⟩
abbrev main_v52_1 : Ref sig .tc := ⟨.hbm, 68, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v53 : Index := Scalar.indexCast arg0
  let arg1 : BitVec 32 := BitVec.ofNat 32 (i 1).val
  let v54 : Index := Scalar.indexCast arg1
  ![v53.toNat, v54.toNat]
@[reducible] def k0_t1_loop (i : grid0.Coords) (v55 : BitVec 32) : Scf.Loop 32 :=
  let arg1 : BitVec 32 := BitVec.ofNat 32 (i 1).val
  let v56 : BitVec 32 := Scalar.subi arg1 v55
  let c1_i32_22 : BitVec 32 := 1#32
  let v58 : BitVec 32 := Scalar.divsi v56 c1_i32_22
  let v59 : BitVec 32 := Scalar.muli v58 c1_i32_22
  let v60 : BitVec 32 := Scalar.addi v55 v59
  let c1_i32_23 : BitVec 32 := 1#32
  ⟨v55, v60, c1_i32_23⟩

def k0_mult1 (i : grid0.Coords) (v55 : BitVec 32) (k0_t1 : Fin (k0_t1_loop i v55).trips) : BitVec 32 :=
  let c1_i32_23 : BitVec 32 := 1#32
  let arg14 : BitVec 32 := Scf.iv v55 c1_i32_23 k0_t1
  let c512_i32_104 : BitVec 32 := 512#32
  let v297 : BitVec 32 := Scalar.muli arg14 c512_i32_104
  v297
def k0_off2 (i : grid0.Coords) (v55 : BitVec 32) (k0_t1 : Fin (k0_t1_loop i v55).trips) : Fin 2 → Nat :=
  let c1_i32_23 : BitVec 32 := 1#32
  let arg14 : BitVec 32 := Scf.iv v55 c1_i32_23 k0_t1
  let c512_i32_104 : BitVec 32 := 512#32
  let v297 : BitVec 32 := Scalar.muli arg14 c512_i32_104
  let v298 : BitVec 32 := v297
  let v299 : Index := Scalar.indexCast v298
  let c0_105 : Index := 0#32
  ![v299.toNat, 0]
def k0_off3 (i : grid0.Coords) (v55 : BitVec 32) (k0_t1 : Fin (k0_t1_loop i v55).trips) : Fin 4 → Nat :=
  let c0_107 : Index := 0#32
  let c1_i32_23 : BitVec 32 := 1#32
  let arg14 : BitVec 32 := Scf.iv v55 c1_i32_23 k0_t1
  let v305 : Index := Scalar.indexCast arg14
  let c0_108 : Index := 0#32
  let c0_109 : Index := 0#32
  ![0, v305.toNat, 0, 0]
@[reducible] def k0_t2_loop (i : grid0.Coords) (v55 : BitVec 32) : Scf.Loop 32 :=
  let arg1 : BitVec 32 := BitVec.ofNat 32 (i 1).val
  let v56 : BitVec 32 := Scalar.subi arg1 v55
  let c1_i32_22 : BitVec 32 := 1#32
  let v58 : BitVec 32 := Scalar.divsi v56 c1_i32_22
  let v59 : BitVec 32 := Scalar.muli v58 c1_i32_22
  let v60 : BitVec 32 := Scalar.addi v55 v59
  let v57 : BitVec 32 := Scalar.addi v55 v56
  let c1_i32_24 : BitVec 32 := 1#32
  ⟨v60, v57, c1_i32_24⟩
def k0_mult2 (i : grid0.Coords) (v55 : BitVec 32) (k0_t2 : Fin (k0_t2_loop i v55).trips) : BitVec 32 :=
  let arg1 : BitVec 32 := BitVec.ofNat 32 (i 1).val
  let v56 : BitVec 32 := Scalar.subi arg1 v55
  let c1_i32_22 : BitVec 32 := 1#32
  let v58 : BitVec 32 := Scalar.divsi v56 c1_i32_22
  let v59 : BitVec 32 := Scalar.muli v58 c1_i32_22
  let v60 : BitVec 32 := Scalar.addi v55 v59
  let c1_i32_24 : BitVec 32 := 1#32
  let arg14 : BitVec 32 := Scf.iv v60 c1_i32_24 k0_t2
  let c512_i32_104 : BitVec 32 := 512#32
  let v297 : BitVec 32 := Scalar.muli arg14 c512_i32_104
  v297
def k0_off4 (i : grid0.Coords) (v55 : BitVec 32) (k0_t2 : Fin (k0_t2_loop i v55).trips) : Fin 2 → Nat :=
  let arg1 : BitVec 32 := BitVec.ofNat 32 (i 1).val
  let v56 : BitVec 32 := Scalar.subi arg1 v55
  let c1_i32_22 : BitVec 32 := 1#32
  let v58 : BitVec 32 := Scalar.divsi v56 c1_i32_22
  let v59 : BitVec 32 := Scalar.muli v58 c1_i32_22
  let v60 : BitVec 32 := Scalar.addi v55 v59
  let c1_i32_24 : BitVec 32 := 1#32
  let arg14 : BitVec 32 := Scf.iv v60 c1_i32_24 k0_t2
  let c512_i32_104 : BitVec 32 := 512#32
  let v297 : BitVec 32 := Scalar.muli arg14 c512_i32_104
  let v298 : BitVec 32 := v297
  let v299 : Index := Scalar.indexCast v298
  let c0_105 : Index := 0#32
  ![v299.toNat, 0]
def k0_off5 (i : grid0.Coords) (v55 : BitVec 32) (k0_t2 : Fin (k0_t2_loop i v55).trips) : Fin 4 → Nat :=
  let c0_107 : Index := 0#32
  let arg1 : BitVec 32 := BitVec.ofNat 32 (i 1).val
  let v56 : BitVec 32 := Scalar.subi arg1 v55
  let c1_i32_22 : BitVec 32 := 1#32
  let v58 : BitVec 32 := Scalar.divsi v56 c1_i32_22
  let v59 : BitVec 32 := Scalar.muli v58 c1_i32_22
  let v60 : BitVec 32 := Scalar.addi v55 v59
  let c1_i32_24 : BitVec 32 := 1#32
  let arg14 : BitVec 32 := Scf.iv v60 c1_i32_24 k0_t2
  let v305 : Index := Scalar.indexCast arg14
  let c0_108 : Index := 0#32
  let c0_109 : Index := 0#32
  ![0, v305.toNat, 0, 0]

def k0_chk1 (i : grid0.Coords) (v55 : BitVec 32) : Prop :=
  ((k0_t1_loop i v55).OK) ∧
  (∀ k0_t1 : Fin (k0_t1_loop i v55).trips, 512 ∣ (k0_mult1 i v55 k0_t1).toNat) ∧
  (∀ k0_t1 : Fin (k0_t1_loop i v55).trips, ∀ a, (k0_off2 i v55 k0_t1) a + S512x128.size a ≤ S16384x128.size a) ∧
  (∀ k0_t1 : Fin (k0_t1_loop i v55).trips, ∀ a, (k0_off3 i v55 k0_t1) a + S1x1x2x512.size a ≤ S1x32x2x512.size a) ∧
  ((k0_t2_loop i v55).OK) ∧
  (∀ k0_t2 : Fin (k0_t2_loop i v55).trips, 512 ∣ (k0_mult2 i v55 k0_t2).toNat) ∧
  (∀ k0_t2 : Fin (k0_t2_loop i v55).trips, ∀ a, (k0_off4 i v55 k0_t2) a + S512x128.size a ≤ S16384x128.size a) ∧
  (∀ k0_t2 : Fin (k0_t2_loop i v55).trips, ∀ a, (k0_off5 i v55 k0_t2) a + S1x1x2x512.size a ≤ S1x32x2x512.size a)
theorem k0_t1_ok : ∀ (i : grid0.Coords) (v55 : BitVec 32) (k0_hw1 : k0_chk1 i v55), (k0_t1_loop i v55).OK := fun i v55 k0_hw1 => k0_hw1.1
theorem k0_mult1_dvd : ∀ (i : grid0.Coords) (v55 : BitVec 32) (k0_hw1 : k0_chk1 i v55) (k0_t1 : Fin (k0_t1_loop i v55).trips), 512 ∣ (k0_mult1 i v55 k0_t1).toNat := fun i v55 k0_hw1 k0_t1 => k0_hw1.2.1 k0_t1
theorem k0_off2_inb : ∀ (i : grid0.Coords) (v55 : BitVec 32) (k0_hw1 : k0_chk1 i v55) (k0_t1 : Fin (k0_t1_loop i v55).trips), ∀ a, (k0_off2 i v55 k0_t1) a + S512x128.size a ≤ S16384x128.size a := fun i v55 k0_hw1 k0_t1 => k0_hw1.2.2.1 k0_t1
theorem k0_off3_inb : ∀ (i : grid0.Coords) (v55 : BitVec 32) (k0_hw1 : k0_chk1 i v55) (k0_t1 : Fin (k0_t1_loop i v55).trips), ∀ a, (k0_off3 i v55 k0_t1) a + S1x1x2x512.size a ≤ S1x32x2x512.size a := fun i v55 k0_hw1 k0_t1 => k0_hw1.2.2.2.1 k0_t1
theorem k0_t2_ok : ∀ (i : grid0.Coords) (v55 : BitVec 32) (k0_hw1 : k0_chk1 i v55), (k0_t2_loop i v55).OK := fun i v55 k0_hw1 => k0_hw1.2.2.2.2.1
theorem k0_mult2_dvd : ∀ (i : grid0.Coords) (v55 : BitVec 32) (k0_hw1 : k0_chk1 i v55) (k0_t2 : Fin (k0_t2_loop i v55).trips), 512 ∣ (k0_mult2 i v55 k0_t2).toNat := fun i v55 k0_hw1 k0_t2 => k0_hw1.2.2.2.2.2.1 k0_t2
theorem k0_off4_inb : ∀ (i : grid0.Coords) (v55 : BitVec 32) (k0_hw1 : k0_chk1 i v55) (k0_t2 : Fin (k0_t2_loop i v55).trips), ∀ a, (k0_off4 i v55 k0_t2) a + S512x128.size a ≤ S16384x128.size a := fun i v55 k0_hw1 k0_t2 => k0_hw1.2.2.2.2.2.2.1 k0_t2
theorem k0_off5_inb : ∀ (i : grid0.Coords) (v55 : BitVec 32) (k0_hw1 : k0_chk1 i v55) (k0_t2 : Fin (k0_t2_loop i v55).trips), ∀ a, (k0_off5 i v55 k0_t2) a + S1x1x2x512.size a ≤ S1x32x2x512.size a := fun i v55 k0_hw1 k0_t2 => k0_hw1.2.2.2.2.2.2.2 k0_t2

def k0_mult3 (i : grid0.Coords) : BitVec 32 :=
  let arg1 : BitVec 32 := BitVec.ofNat 32 (i 1).val
  let c512_i32 : BitVec 32 := 512#32
  let v61 : BitVec 32 := Scalar.muli arg1 c512_i32
  v61
def k0_off6 (i : grid0.Coords) : Fin 2 → Nat :=
  let arg1 : BitVec 32 := BitVec.ofNat 32 (i 1).val
  let c512_i32 : BitVec 32 := 512#32
  let v61 : BitVec 32 := Scalar.muli arg1 c512_i32
  let v62 : BitVec 32 := v61
  let v63 : Index := Scalar.indexCast v62
  let c0_25 : Index := 0#32
  ![v63.toNat, 0]
def k0_off7 (i : grid0.Coords) : Fin 4 → Nat :=
  let c0_27 : Index := 0#32
  let arg1 : BitVec 32 := BitVec.ofNat 32 (i 1).val
  let v69 : Index := Scalar.indexCast arg1
  let c0_28 : Index := 0#32
  let c0_29 : Index := 0#32
  ![0, v69.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttQRefIdeal.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x16384x1 : Shape := ⟨3, ![16, 16384, 1]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x2x32x512 : Shape := ⟨4, ![8, 2, 32, 512]⟩
abbrev S8x32x2x512 : Shape := ⟨4, ![8, 32, 2, 512]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x16x64, .f32⟩
  | .hbm, ⟨8, _⟩ => ⟨S16x16384x64, .f32⟩
  | .hbm, ⟨9, _⟩ => ⟨S16384x16x64, .f32⟩
  | .hbm, ⟨10, _⟩ => ⟨S16x16384x64, .f32⟩
  | .hbm, ⟨11, _⟩ => ⟨S16x16384x16384, .f32⟩
  | .hbm, ⟨12, _⟩ => ⟨S_, .f32⟩
  | .hbm, ⟨13, _⟩ => ⟨S16x16384x16384, .f32⟩
  | .hbm, ⟨14, _⟩ => ⟨S16x16384x16384, .f32⟩
  | .hbm, ⟨15, _⟩ => ⟨S16x16384, .f32⟩
  | .hbm, ⟨16, _⟩ => ⟨S16x16384x1, .f32⟩
  | .hbm, ⟨17, _⟩ => ⟨S16x16384x16384, .f32⟩
  | .hbm, ⟨18, _⟩ => ⟨S16x16384x16384, .f32⟩
  | .hbm, ⟨19, _⟩ => ⟨S16x16384, .f32⟩
  | .hbm, ⟨20, _⟩ => ⟨S16x1x16384, .f32⟩
  | .hbm, ⟨21, _⟩ => ⟨S16x16384x16384, .f32⟩
  | .hbm, ⟨22, _⟩ => ⟨S16x16384x16384, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384x16384, .f32⟩
  | .hbm, ⟨36, _⟩ => ⟨S_, .f32⟩
  | .hbm, ⟨37, _⟩ => ⟨S16x16384, .f32⟩
  | .hbm, ⟨38, _⟩ => ⟨S16x16384x1, .f32⟩
  | .hbm, ⟨39, _⟩ => ⟨S16x16384x16384, .f32⟩
  | .hbm, ⟨40, _⟩ => ⟨S16x16384x16384, .i1⟩
  | .hbm, ⟨41, _⟩ => ⟨S16x16384x16384, .f32⟩
  | .hbm, ⟨42, _⟩ => ⟨S_, .f32⟩
  | .hbm, ⟨43, _⟩ => ⟨S16x16384, .f32⟩
  | .hbm, ⟨44, _⟩ => ⟨S_, .f32⟩
  | .hbm, ⟨45, _⟩ => ⟨S16x16384, .f32⟩
  | .hbm, ⟨46, _⟩ => ⟨S16x16384, .f32⟩
  | .hbm, ⟨47, _⟩ => ⟨S_, .f32⟩
  | .hbm, ⟨48, _⟩ => ⟨S16x16384, .f32⟩
  | .hbm, ⟨49, _⟩ => ⟨S16x16384, .i1⟩
  | .hbm, ⟨50, _⟩ => ⟨S_, .f32⟩
  | .hbm, ⟨51, _⟩ => ⟨S16x16384, .f32⟩
  | .hbm, ⟨52, _⟩ => ⟨S16x16384, .i1⟩
  | .hbm, ⟨53, _⟩ => ⟨S_, .f32⟩
  | .hbm, ⟨54, _⟩ => ⟨S16x16384, .f32⟩
  | .hbm, ⟨55, _⟩ => ⟨S_, .f32⟩
  | .hbm, ⟨56, _⟩ => ⟨S16x16384, .f32⟩
  | .hbm, ⟨57, _⟩ => ⟨S_, .f32⟩
  | .hbm, ⟨58, _⟩ => ⟨S16x16384, .f32⟩
  | .hbm, ⟨59, _⟩ => ⟨S16x16384, .f32⟩
  | .hbm, ⟨60, _⟩ => ⟨S16x16384, .f32⟩
  | .hbm, ⟨61, _⟩ => ⟨S16x16384x1, .f32⟩
  | .hbm, ⟨62, _⟩ => ⟨S16x16384x16384, .f32⟩
  | .hbm, ⟨63, _⟩ => ⟨S16x16384x16384, .f32⟩
  | .hbm, ⟨64, _⟩ => ⟨S16x16384x16384, .f32⟩
  | .hbm, ⟨65, _⟩ => ⟨S_, .f32⟩
  | .hbm, ⟨66, _⟩ => ⟨S16x16384, .f32⟩
  | .hbm, ⟨67, _⟩ => ⟨S16x16384x1, .f32⟩
  | .hbm, ⟨68, _⟩ => ⟨S16x16384x16384, .f32⟩
  | .hbm, ⟨69, _⟩ => ⟨S16x16384x16384, .f32⟩
  | .hbm, ⟨70, _⟩ => ⟨S16x16384x1, .f32⟩
  | .hbm, ⟨71, _⟩ => ⟨S_, .f32⟩
  | .hbm, ⟨72, _⟩ => ⟨S16x16384x1, .f32⟩
  | .hbm, ⟨73, _⟩ => ⟨S16x16384x1, .f32⟩
  | .hbm, ⟨74, _⟩ => ⟨S16x16384x64, .f32⟩
  | .hbm, ⟨75, _⟩ => ⟨S16384x16x64, .f32⟩
  | .hbm, ⟨76, _⟩ => ⟨S16384x1024, .f32⟩
  | .hbm, ⟨77, _⟩ => ⟨S16384x16x64, .f32⟩
  | .hbm, ⟨78, _⟩ => ⟨S16x16384x64, .f32⟩
  | .hbm, ⟨79, _⟩ => ⟨S16x16384x16384, .f32⟩
  | .hbm, ⟨80, _⟩ => ⟨S16x16384x16384, .f32⟩
  | .hbm, ⟨81, _⟩ => ⟨S16x16384x16384, .f32⟩
  | .hbm, ⟨82, _⟩ => ⟨S16x16384x16384, .f32⟩
  | .hbm, ⟨83, _⟩ => ⟨S_, .f32⟩
  | .hbm, ⟨84, _⟩ => ⟨S16x16384, .f32⟩
  | .hbm, ⟨85, _⟩ => ⟨S16x16384x1, .f32⟩
  | .hbm, ⟨86, _⟩ => ⟨S16x16384x1, .f32⟩
  | .hbm, ⟨87, _⟩ => ⟨S16x16384x16384, .f32⟩
  | .hbm, ⟨88, _⟩ => ⟨S16x16384x16384, .f32⟩
  | .hbm, ⟨89, _⟩ => ⟨S_, .f32⟩
  | .hbm, ⟨90, _⟩ => ⟨S16x16384, .f32⟩
  | .hbm, ⟨91, _⟩ => ⟨S16x16384x16384, .f32⟩
  | .hbm, ⟨92, _⟩ => ⟨S16x16384x16384, .f32⟩
  | .hbm, ⟨93, _⟩ => ⟨S16x16384x16384, .f32⟩
  | .hbm, ⟨94, _⟩ => ⟨S_, .f32⟩
  | .hbm, ⟨95, _⟩ => ⟨S16x16384x16384, .f32⟩
  | .hbm, ⟨96, _⟩ => ⟨S16x16384x16384, .f32⟩
  | .hbm, ⟨97, _⟩ => ⟨S_, .f32⟩
  | .hbm, ⟨98, _⟩ => ⟨S16x16384, .f32⟩
  | .hbm, ⟨99, _⟩ => ⟨S16x16384x1, .f32⟩
  | .hbm, ⟨100, _⟩ => ⟨S_, .f32⟩
  | .hbm, ⟨101, _⟩ => ⟨S16x16384, .f32⟩
  | .hbm, ⟨102, _⟩ => ⟨S16384x16, .f32⟩
  | .hbm, ⟨103, _⟩ => ⟨S_, .f32⟩
  | .hbm, ⟨104, _⟩ => ⟨S16x16384x16384, .f32⟩
  | .hbm, ⟨105, _⟩ => ⟨S16x16384x16384, .f32⟩
  | .hbm, ⟨106, _⟩ => ⟨S16x16384x64, .f32⟩
  | .hbm, ⟨107, _⟩ => ⟨S16384x16x64, .f32⟩
  | .hbm, ⟨108, _⟩ => ⟨S16384x1024, .f32⟩
  | .hbm, ⟨109, _⟩ => ⟨S16384x1024, .bf16⟩
  | .hbm, ⟨110, _⟩ => ⟨S16x16384, .f32⟩
  | .hbm, ⟨111, _⟩ => ⟨S8x2x32x512, .f32⟩
  | .hbm, ⟨112, _⟩ => ⟨S8x32x2x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]
-- ==== AttKv.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384 : Shape := ⟨2, ![16, 16384]⟩
abbrev S_ : Shape := ⟨0, ![]⟩
abbrev S16x16384x16384 : Shape := ⟨3, ![16, 16384, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S16384x3072 : Shape := ⟨2, ![16384, 3072]⟩
abbrev S8x32 : Shape := ⟨2, ![8, 32]⟩
abbrev S16384x128 : Shape := ⟨2, ![16384, 128]⟩
abbrev S8x2x32x512 : Shape := ⟨4, ![8, 2, 32, 512]⟩
abbrev S8x32x2x512 : Shape := ⟨4, ![8, 32, 2, 512]⟩
abbrev S512x128 : Shape := ⟨2, ![512, 128]⟩
abbrev S1x32x2x512 : Shape := ⟨4, ![1, 32, 2, 512]⟩
abbrev S1x1x2x512 : Shape := ⟨4, ![1, 1, 2, 512]⟩
abbrev S2x512x128 : Shape := ⟨3, ![2, 512, 128]⟩
abbrev S512 : Shape := ⟨1, ![512]⟩
abbrev S512x1 : Shape := ⟨2, ![512, 1]⟩
abbrev S2x512 : Shape := ⟨2, ![2, 512]⟩
abbrev S256x128 : Shape := ⟨2, ![256, 128]⟩
abbrev S256x512 : Shape := ⟨2, ![256, 512]⟩
abbrev S1x512 : Shape := ⟨2, ![1, 512]⟩
abbrev S1x128 : Shape := ⟨2, ![1, 128]⟩
abbrev S1x256x128 : Shape := ⟨3, ![1, 256, 128]⟩
abbrev S256x256 : Shape := ⟨2, ![256, 256]⟩
abbrev S1x256 : Shape := ⟨2, ![1, 256]⟩
abbrev S1x1 : Shape := ⟨2, ![1, 1]⟩
abbrev S512x512 : Shape := ⟨2, ![512, 512]⟩
abbrev S1x512x128 : Shape := ⟨3, ![1, 512, 128]⟩
abbrev S128x512 : Shape := ⟨2, ![128, 512]⟩
abbrev S1x1x1x512 : Shape := ⟨4, ![1, 1, 1, 512]⟩

abbrev nBuf : Space → Nat
  | .hbm => 68
  | .vmem => 23
  | .smem => 1
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x1024, .f32⟩
  | .hbm, ⟨5, _⟩ => ⟨S16384x1024, .bf16⟩
  | .hbm, ⟨6, _⟩ => ⟨S16384x16x64, .bf16⟩
  | .hbm, ⟨7, _⟩ => ⟨S16x16384x64, .bf16⟩
  | .hbm, ⟨8, _⟩ => ⟨S16384x1024, .bf16⟩
  | .hbm, ⟨9, _⟩ => ⟨S16384x16x64, .bf16⟩
  | .hbm, ⟨10, _⟩ => ⟨S16x16384x64, .bf16⟩
  | .hbm, ⟨11, _⟩ => ⟨S16384x1024, .bf16⟩
  | .hbm, ⟨12, _⟩ => ⟨S16384x16x64, .bf16⟩
  | .hbm, ⟨13, _⟩ => ⟨S16x16384x64, .bf16⟩
  | .hbm, ⟨14, _⟩ => ⟨S16x16384, .f32⟩
  | .hbm, ⟨15, _⟩ => ⟨S_, .bf16⟩
  | .hbm, ⟨16, _⟩ => ⟨S16x16384x64, .bf16⟩
  | .hbm, ⟨17, _⟩ => ⟨S16x16384x64, .bf16⟩
  | .hbm, ⟨18, _⟩ => ⟨S16x16384x16384, .f32⟩
  | .hbm, ⟨19, _⟩ => ⟨S16x1x16384, .f32⟩
  | .hbm, ⟨20, _⟩ => ⟨S16x16384x16384, .f32⟩
  | .hbm, ⟨21, _⟩ => ⟨S16x16384x16384, .f32⟩
  | .hbm, ⟨22, _⟩ => ⟨S16384, .i32⟩
  | .hbm, ⟨23, _⟩ => ⟨S16384x1, .i32⟩
  | .hbm, ⟨24, _⟩ => ⟨S16384, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x16384, .bf16⟩
  | .hbm, ⟨43, _⟩ => ⟨S16x16384x64, .f32⟩
  | .hbm, ⟨44, _⟩ => ⟨S16x16384x1, .f32⟩
  | .hbm, ⟨45, _⟩ => ⟨S16x16384x64, .f32⟩
  | .hbm, ⟨46, _⟩ => ⟨S16x16384x64, .f32⟩
  | .hbm, ⟨47, _⟩ => ⟨S16x16384, .f32⟩
  | .hbm, ⟨48, _⟩ => ⟨S16x16384, .f32⟩
  | .hbm, ⟨49, _⟩ => ⟨S16384x16x64, .f32⟩
  | .hbm, ⟨50, _⟩ => ⟨S16x16384x64, .f32⟩
  | .hbm, ⟨51, _⟩ => ⟨S16x16384x64, .f32⟩
  | .hbm, ⟨52, _⟩ => ⟨S_, .f32⟩
  | .hbm, ⟨53, _⟩ => ⟨S16x16384, .f32⟩
  | .hbm, ⟨54, _⟩ => ⟨S16384x3072, .f32⟩
  | .hbm, ⟨55, _⟩ => ⟨S16384x3072, .bf16⟩
  | .hbm, ⟨56, _⟩ => ⟨S16384x1024, .bf16⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S16384x128, .f32⟩
  | .hbm, ⟨61, _⟩ => ⟨S8x2x32x512, .f32⟩
  | .hbm, ⟨62, _⟩ => ⟨S8x32x2x512, .f32⟩
  | .hbm, ⟨63, _⟩ => ⟨S8x2x32x512, .f32⟩
  | .hbm, ⟨64, _⟩ => ⟨S8x32x2x512, .f32⟩
  | .hbm, ⟨65, _⟩ => ⟨S16384x1024, .bf16⟩
  | .hbm, ⟨66, _⟩ => ⟨S16384x1024, .bf16⟩
  | .hbm, ⟨67, _⟩ => ⟨S8x32x2x512, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S16384x128, .bf16⟩
  | .local _ .vmem, ⟨10, _⟩ => ⟨S1x32x2x512, .f32⟩
  | .local _ .vmem, ⟨11, _⟩ => ⟨S1x32x2x512, .f32⟩
  | .local _ .vmem, ⟨12, _⟩ => ⟨S1x32x2x512, .f32⟩
  | .local _ .vmem, ⟨13, _⟩ => ⟨S1x32x2x512, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x1x2x512, .f32⟩
  | .local _ .vmem, ⟨19, _⟩ => ⟨S1x1x2x512, .f32⟩
  | .local _ .vmem, ⟨20, _⟩ => ⟨S512x128, .f32⟩
  | .local _ .vmem, ⟨21, _⟩ => ⟨S512x128, .f32⟩
  | .local _ .vmem, ⟨22, _⟩ => ⟨S2x512x128, .f32⟩
  | .local _ .smem, ⟨0, _⟩ => ⟨S8x32, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_c_4 : Ref sig .tc := ⟨.hbm, 58, rfl⟩
abbrev main_call1_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v49 : BitVec 32 := Scalar.muli arg1 c512_i32
  v49
def k0_off1 (i : grid0.Coords) : Fin 2 → Nat :=
  let arg1 : BitVec 32 := BitVec.ofNat 32 (i 1).val
  let c512_i32 : BitVec 32 := 512#32
  let v49 : BitVec 32 := Scalar.muli arg1 c512_i32
  let v50 : BitVec 32 := v49
  let v51 : Index := Scalar.indexCast v50
  let c0_21 : Index := 0#32
  ![v51.toNat, 0]
def k0_off2 (i : grid0.Coords) : Fin 4 → Nat :=
  let c0_23 : Index := 0#32
  let arg1 : BitVec 32 := BitVec.ofNat 32 (i 1).val
  let v57 : Index := Scalar.indexCast arg1
  let c0_24 : Index := 0#32
  let c0_25 : Index := 0#32
  ![0, v57.toNat, 0, 0]
def k0_off3 (i : grid0.Coords) : Fin 2 → Nat :=
  let arg0 : BitVec 32 := BitVec.ofNat 32 (i 0).val
  let v316 : Index := Scalar.indexCast arg0
  let arg1 : BitVec 32 := BitVec.ofNat 32 (i 1).val
  let v317 : Index := Scalar.indexCast arg1
  ![v316.toNat, v317.toNat]
@[reducible] def k0_t1_loop (i : grid0.Coords) (v318 : BitVec 32) : Scf.Loop 32 :=
  let arg1 : BitVec 32 := BitVec.ofNat 32 (i 1).val
  let c1_i32_94 : BitVec 32 := 1#32
  let v315 : BitVec 32 := Scalar.addi arg1 c1_i32_94
  let c1_i32_95 : BitVec 32 := 1#32
  let v319 : BitVec 32 := Scalar.addi v318 c1_i32_95
  let v320 : BitVec 32 := Scalar.subi v319 v315
  let c1_i32_97 : BitVec 32 := 1#32
  let v322 : BitVec 32 := Scalar.divsi v320 c1_i32_97
  let v323 : BitVec 32 := Scalar.muli v322 c1_i32_97
  let v324 : BitVec 32 := Scalar.addi v315 v323
  let c1_i32_98 : BitVec 32 := 1#32
  ⟨v315, v324, c1_i32_98⟩

def k0_mult2 (i : grid0.Coords) (v318 : BitVec 32) (k0_t1 : Fin (k0_t1_loop i v318).trips) : BitVec 32 :=
  let arg1 : BitVec 32 := BitVec.ofNat 32 (i 1).val
  let c1_i32_94 : BitVec 32 := 1#32
  let v315 : BitVec 32 := Scalar.addi arg1 c1_i32_94
  let c1_i32_98 : BitVec 32 := 1#32
  let arg16 : BitVec 32 := Scf.iv v315 c1_i32_98 k0_t1
  let c512_i32_127 : BitVec 32 := 512#32
  let v353 : BitVec 32 := Scalar.muli arg16 c512_i32_127
  v353
def k0_off4 (i : grid0.Coords) (v318 : BitVec 32) (k0_t1 : Fin (k0_t1_loop i v318).trips) : Fin 2 → Nat :=
  let arg1 : BitVec 32 := BitVec.ofNat 32 (i 1).val
  let c1_i32_94 : BitVec 32 := 1#32
  let v315 : BitVec 32 := Scalar.addi arg1 c1_i32_94
  let c1_i32_98 : BitVec 32 := 1#32
  let arg16 : BitVec 32 := Scf.iv v315 c1_i32_98 k0_t1
  let c512_i32_127 : BitVec 32 := 512#32
  let v353 : BitVec 32 := Scalar.muli arg16 c512_i32_127
  let v354 : BitVec 32 := v353
  let v355 : Index := Scalar.indexCast v354
  let c0_128 : Index := 0#32
  ![v355.toNat, 0]
def k0_off5 (i : grid0.Coords) (v318 : BitVec 32) (k0_t1 : Fin (k0_t1_loop i v318).trips) : Fin 4 → Nat :=
  let c0_130 : Index := 0#32
  let arg1 : BitVec 32 := BitVec.ofNat 32 (i 1).val
  let c1_i32_94 : BitVec 32 := 1#32
  let v315 : BitVec 32 := Scalar.addi arg1 c1_i32_94
  let c1_i32_98 : BitVec 32 := 1#32
  let arg16 : BitVec 32 := Scf.iv v315 c1_i32_98 k0_t1
  let v361 : Index := Scalar.indexCast arg16
  let c0_131 : Index := 0#32
  let c0_132 : Index := 0#32
  ![0, v361.toNat, 0, 0]
@[reducible] def k0_t2_loop (i : grid0.Coords) (v318 : BitVec 32) : Scf.Loop 32 :=
  let arg1 : BitVec 32 := BitVec.ofNat 32 (i 1).val
  let c1_i32_94 : BitVec 32 := 1#32
  let v315 : BitVec 32 := Scalar.addi arg1 c1_i32_94
  let c1_i32_95 : BitVec 32 := 1#32
  let v319 : BitVec 32 := Scalar.addi v318 c1_i32_95
  let v320 : BitVec 32 := Scalar.subi v319 v315
  let c1_i32_97 : BitVec 32 := 1#32
  let v322 : BitVec 32 := Scalar.divsi v320 c1_i32_97
  let v323 : BitVec 32 := Scalar.muli v322 c1_i32_97
  let v324 : BitVec 32 := Scalar.addi v315 v323
  let v321 : BitVec 32 := Scalar.addi v315 v320
  let c1_i32_99 : BitVec 32 := 1#32
  ⟨v324, v321, c1_i32_99⟩
def k0_mult3 (i : grid0.Coords) (v318 : BitVec 32) (k0_t2 : Fin (k0_t2_loop i v318).trips) : BitVec 32 :=
  let arg1 : BitVec 32 := BitVec.ofNat 32 (i 1).val
  let c1_i32_94 : BitVec 32 := 1#32
  let v315 : BitVec 32 := Scalar.addi arg1 c1_i32_94
  let c1_i32_95 : BitVec 32 := 1#32
  let v319 : BitVec 32 := Scalar.addi v318 c1_i32_95
  let v320 : BitVec 32 := Scalar.subi v319 v315
  let c1_i32_97 : BitVec 32 := 1#32
  let v322 : BitVec 32 := Scalar.divsi v320 c1_i32_97
  let v323 : BitVec 32 := Scalar.muli v322 c1_i32_97
  let v324 : BitVec 32 := Scalar.addi v315 v323
  let c1_i32_99 : BitVec 32 := 1#32
  let arg16 : BitVec 32 := Scf.iv v324 c1_i32_99 k0_t2
  let c512_i32_127 : BitVec 32 := 512#32
  let v353 : BitVec 32 := Scalar.muli arg16 c512_i32_127
  v353
def k0_off6 (i : grid0.Coords) (v318 : BitVec 32) (k0_t2 : Fin (k0_t2_loop i v318).trips) : Fin 2 → Nat :=
  let arg1 : BitVec 32 := BitVec.ofNat 32 (i 1).val
  let c1_i32_94 : BitVec 32 := 1#32
  let v315 : BitVec 32 := Scalar.addi arg1 c1_i32_94
  let c1_i32_95 : BitVec 32 := 1#32
  let v319 : BitVec 32 := Scalar.addi v318 c1_i32_95
  let v320 : BitVec 32 := Scalar.subi v319 v315
  let c1_i32_97 : BitVec 32 := 1#32
  let v322 : BitVec 32 := Scalar.divsi v320 c1_i32_97
  let v323 : BitVec 32 := Scalar.muli v322 c1_i32_97
  let v324 : BitVec 32 := Scalar.addi v315 v323
  let c1_i32_99 : BitVec 32 := 1#32
  let arg16 : BitVec 32 := Scf.iv v324 c1_i32_99 k0_t2
  let c512_i32_127 : BitVec 32 := 512#32
  let v353 : BitVec 32 := Scalar.muli arg16 c512_i32_127
  let v354 : BitVec 32 := v353
  let v355 : Index := Scalar.indexCast v354
  let c0_128 : Index := 0#32
  ![v355.toNat, 0]
def k0_off7 (i : grid0.Coords) (v318 : BitVec 32) (k0_t2 : Fin (k0_t2_loop i v318).trips) : Fin 4 → Nat :=
  let c0_130 : Index := 0#32
  let arg1 : BitVec 32 := BitVec.ofNat 32 (i 1).val
  let c1_i32_94 : BitVec 32 := 1#32
  let v315 : BitVec 32 := Scalar.addi arg1 c1_i32_94
  let c1_i32_95 : BitVec 32 := 1#32
  let v319 : BitVec 32 := Scalar.addi v318 c1_i32_95
  let v320 : BitVec 32 := Scalar.subi v319 v315
  let c1_i32_97 : BitVec 32 := 1#32
  let v322 : BitVec 32 := Scalar.divsi v320 c1_i32_97
  let v323 : BitVec 32 := Scalar.muli v322 c1_i32_97
  let v324 : BitVec 32 := Scalar.addi v315 v323
  let c1_i32_99 : BitVec 32 := 1#32
  let arg16 : BitVec 32 := Scf.iv v324 c1_i32_99 k0_t2
  let v361 : Index := Scalar.indexCast arg16
  let c0_131 : Index := 0#32
  let c0_132 : Index := 0#32
  ![0, v361.toNat, 0, 0]

def k0_chk1 (i : grid0.Coords) (v318 : BitVec 32) : Prop :=
  ((k0_t1_loop i v318).OK) ∧
  (∀ k0_t1 : Fin (k0_t1_loop i v318).trips, 512 ∣ (k0_mult2 i v318 k0_t1).toNat) ∧
  (∀ k0_t1 : Fin (k0_t1_loop i v318).trips, ∀ a, (k0_off4 i v318 k0_t1) a + S512x128.size a ≤ S16384x128.size a) ∧
  (∀ k0_t1 : Fin (k0_t1_loop i v318).trips, ∀ a, (k0_off5 i v318 k0_t1) a + S1x1x2x512.size a ≤ S1x32x2x512.size a) ∧
  ((k0_t2_loop i v318).OK) ∧
  (∀ k0_t2 : Fin (k0_t2_loop i v318).trips, 512 ∣ (k0_mult3 i v318 k0_t2).toNat) ∧
  (∀ k0_t2 : Fin (k0_t2_loop i v318).trips, ∀ a, (k0_off6 i v318 k0_t2) a + S512x128.size a ≤ S16384x128.size a) ∧
  (∀ k0_t2 : Fin (k0_t2_loop i v318).trips, ∀ a, (k0_off7 i v318 k0_t2) a + S1x1x2x512.size a ≤ S1x32x2x512.size a)
theorem k0_t1_ok : ∀ (i : grid0.Coords) (v318 : BitVec 32) (k0_hw1 : k0_chk1 i v318), (k0_t1_loop i v318).OK := fun i v318 k0_hw1 => k0_hw1.1
theorem k0_mult2_dvd : ∀ (i : grid0.Coords) (v318 : BitVec 32) (k0_hw1 : k0_chk1 i v318) (k0_t1 : Fin (k0_t1_loop i v318).trips), 512 ∣ (k0_mult2 i v318 k0_t1).toNat := fun i v318 k0_hw1 k0_t1 => k0_hw1.2.1 k0_t1
theorem k0_off4_inb : ∀ (i : grid0.Coords) (v318 : BitVec 32) (k0_hw1 : k0_chk1 i v318) (k0_t1 : Fin (k0_t1_loop i v318).trips), ∀ a, (k0_off4 i v318 k0_t1) a + S512x128.size a ≤ S16384x128.size a := fun i v318 k0_hw1 k0_t1 => k0_hw1.2.2.1 k0_t1
theorem k0_off5_inb : ∀ (i : grid0.Coords) (v318 : BitVec 32) (k0_hw1 : k0_chk1 i v318) (k0_t1 : Fin (k0_t1_loop i v318).trips), ∀ a, (k0_off5 i v318 k0_t1) a + S1x1x2x512.size a ≤ S1x32x2x512.size a := fun i v318 k0_hw1 k0_t1 => k0_hw1.2.2.2.1 k0_t1
theorem k0_t2_ok : ∀ (i : grid0.Coords) (v318 : BitVec 32) (k0_hw1 : k0_chk1 i v318), (k0_t2_loop i v318).OK := fun i v318 k0_hw1 => k0_hw1.2.2.2.2.1
theorem k0_mult3_dvd : ∀ (i : grid0.Coords) (v318 : BitVec 32) (k0_hw1 : k0_chk1 i v318) (k0_t2 : Fin (k0_t2_loop i v318).trips), 512 ∣ (k0_mult3 i v318 k0_t2).toNat := fun i v318 k0_hw1 k0_t2 => k0_hw1.2.2.2.2.2.1 k0_t2
theorem k0_off6_inb : ∀ (i : grid0.Coords) (v318 : BitVec 32) (k0_hw1 : k0_chk1 i v318) (k0_t2 : Fin (k0_t2_loop i v318).trips), ∀ a, (k0_off6 i v318 k0_t2) a + S512x128.size a ≤ S16384x128.size a := fun i v318 k0_hw1 k0_t2 => k0_hw1.2.2.2.2.2.2.1 k0_t2
theorem k0_off7_inb : ∀ (i : grid0.Coords) (v318 : BitVec 32) (k0_hw1 : k0_chk1 i v318) (k0_t2 : Fin (k0_t2_loop i v318).trips), ∀ a, (k0_off7 i v318 k0_t2) a + S1x1x2x512.size a ≤ S1x32x2x512.size a := fun i v318 k0_hw1 k0_t2 => k0_hw1.2.2.2.2.2.2.2 k0_t2

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttKvRefIdeal.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x16384x1 : Shape := ⟨3, ![16, 16384, 1]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x64x16384 : Shape := ⟨3, ![16, 64, 16384]⟩
abbrev S8x2x32x512 : Shape := ⟨4, ![8, 2, 32, 512]⟩
abbrev S8x32x2x512 : Shape := ⟨4, ![8, 32, 2, 512]⟩

abbrev nBuf : Space → Nat
  | .hbm => 119
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x16x64, .f32⟩
  | .hbm, ⟨8, _⟩ => ⟨S16x16384x64, .f32⟩
  | .hbm, ⟨9, _⟩ => ⟨S16384x16x64, .f32⟩
  | .hbm, ⟨10, _⟩ => ⟨S16x16384x64, .f32⟩
  | .hbm, ⟨11, _⟩ => ⟨S16x16384x16384, .f32⟩
  | .hbm, ⟨12, _⟩ => ⟨S_, .f32⟩
  | .hbm, ⟨13, _⟩ => ⟨S16x16384x16384, .f32⟩
  | .hbm, ⟨14, _⟩ => ⟨S16x16384x16384, .f32⟩
  | .hbm, ⟨15, _⟩ => ⟨S16x16384, .f32⟩
  | .hbm, ⟨16, _⟩ => ⟨S16x16384x1, .f32⟩
  | .hbm, ⟨17, _⟩ => ⟨S16x16384x16384, .f32⟩
  | .hbm, ⟨18, _⟩ => ⟨S16x16384x16384, .f32⟩
  | .hbm, ⟨19, _⟩ => ⟨S16x16384, .f32⟩
  | .hbm, ⟨20, _⟩ => ⟨S16x1x16384, .f32⟩
  | .hbm, ⟨21, _⟩ => ⟨S16x16384x16384, .f32⟩
  | .hbm, ⟨22, _⟩ => ⟨S16x16384x16384, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384x16384, .f32⟩
  | .hbm, ⟨36, _⟩ => ⟨S_, .f32⟩
  | .hbm, ⟨37, _⟩ => ⟨S16x16384, .f32⟩
  | .hbm, ⟨38, _⟩ => ⟨S16x16384x1, .f32⟩
  | .hbm, ⟨39, _⟩ => ⟨S16x16384x16384, .f32⟩
  | .hbm, ⟨40, _⟩ => ⟨S16x16384x16384, .i1⟩
  | .hbm, ⟨41, _⟩ => ⟨S16x16384x16384, .f32⟩
  | .hbm, ⟨42, _⟩ => ⟨S_, .f32⟩
  | .hbm, ⟨43, _⟩ => ⟨S16x16384, .f32⟩
  | .hbm, ⟨44, _⟩ => ⟨S_, .f32⟩
  | .hbm, ⟨45, _⟩ => ⟨S16x16384, .f32⟩
  | .hbm, ⟨46, _⟩ => ⟨S16x16384, .f32⟩
  | .hbm, ⟨47, _⟩ => ⟨S_, .f32⟩
  | .hbm, ⟨48, _⟩ => ⟨S16x16384, .f32⟩
  | .hbm, ⟨49, _⟩ => ⟨S16x16384, .i1⟩
  | .hbm, ⟨50, _⟩ => ⟨S_, .f32⟩
  | .hbm, ⟨51, _⟩ => ⟨S16x16384, .f32⟩
  | .hbm, ⟨52, _⟩ => ⟨S16x16384, .i1⟩
  | .hbm, ⟨53, _⟩ => ⟨S_, .f32⟩
  | .hbm, ⟨54, _⟩ => ⟨S16x16384, .f32⟩
  | .hbm, ⟨55, _⟩ => ⟨S_, .f32⟩
  | .hbm, ⟨56, _⟩ => ⟨S16x16384, .f32⟩
  | .hbm, ⟨57, _⟩ => ⟨S_, .f32⟩
  | .hbm, ⟨58, _⟩ => ⟨S16x16384, .f32⟩
  | .hbm, ⟨59, _⟩ => ⟨S16x16384, .f32⟩
  | .hbm, ⟨60, _⟩ => ⟨S16x16384, .f32⟩
  | .hbm, ⟨61, _⟩ => ⟨S16x16384x1, .f32⟩
  | .hbm, ⟨62, _⟩ => ⟨S16x16384x16384, .f32⟩
  | .hbm, ⟨63, _⟩ => ⟨S16x16384x16384, .f32⟩
  | .hbm, ⟨64, _⟩ => ⟨S16x16384x16384, .f32⟩
  | .hbm, ⟨65, _⟩ => ⟨S_, .f32⟩
  | .hbm, ⟨66, _⟩ => ⟨S16x16384, .f32⟩
  | .hbm, ⟨67, _⟩ => ⟨S16x16384x1, .f32⟩
  | .hbm, ⟨68, _⟩ => ⟨S16x16384x16384, .f32⟩
  | .hbm, ⟨69, _⟩ => ⟨S16x16384x16384, .f32⟩
  | .hbm, ⟨70, _⟩ => ⟨S16x16384x1, .f32⟩
  | .hbm, ⟨71, _⟩ => ⟨S_, .f32⟩
  | .hbm, ⟨72, _⟩ => ⟨S16x16384x1, .f32⟩
  | .hbm, ⟨73, _⟩ => ⟨S16x16384x1, .f32⟩
  | .hbm, ⟨74, _⟩ => ⟨S16x16384x64, .f32⟩
  | .hbm, ⟨75, _⟩ => ⟨S16384x16x64, .f32⟩
  | .hbm, ⟨76, _⟩ => ⟨S16384x1024, .f32⟩
  | .hbm, ⟨77, _⟩ => ⟨S16384x16x64, .f32⟩
  | .hbm, ⟨78, _⟩ => ⟨S16x16384x64, .f32⟩
  | .hbm, ⟨79, _⟩ => ⟨S16x64x16384, .f32⟩
  | .hbm, ⟨80, _⟩ => ⟨S16x16384x64, .f32⟩
  | .hbm, ⟨81, _⟩ => ⟨S16x16384x16384, .f32⟩
  | .hbm, ⟨82, _⟩ => ⟨S16x16384x16384, .f32⟩
  | .hbm, ⟨83, _⟩ => ⟨S16x16384x16384, .f32⟩
  | .hbm, ⟨84, _⟩ => ⟨S16x16384x16384, .f32⟩
  | .hbm, ⟨85, _⟩ => ⟨S_, .f32⟩
  | .hbm, ⟨86, _⟩ => ⟨S16x16384, .f32⟩
  | .hbm, ⟨87, _⟩ => ⟨S16x16384x1, .f32⟩
  | .hbm, ⟨88, _⟩ => ⟨S16x16384x1, .f32⟩
  | .hbm, ⟨89, _⟩ => ⟨S16x16384x16384, .f32⟩
  | .hbm, ⟨90, _⟩ => ⟨S16x16384x16384, .f32⟩
  | .hbm, ⟨91, _⟩ => ⟨S_, .f32⟩
  | .hbm, ⟨92, _⟩ => ⟨S16x16384, .f32⟩
  | .hbm, ⟨93, _⟩ => ⟨S16x16384x16384, .f32⟩
  | .hbm, ⟨94, _⟩ => ⟨S16x16384x16384, .f32⟩
  | .hbm, ⟨95, _⟩ => ⟨S16x16384x16384, .f32⟩
  | .hbm, ⟨96, _⟩ => ⟨S_, .f32⟩
  | .hbm, ⟨97, _⟩ => ⟨S16x16384x16384, .f32⟩
  | .hbm, ⟨98, _⟩ => ⟨S16x16384x16384, .f32⟩
  | .hbm, ⟨99, _⟩ => ⟨S16x16384x16384, .f32⟩
  | .hbm, ⟨100, _⟩ => ⟨S_, .f32⟩
  | .hbm, ⟨101, _⟩ => ⟨S16x16384, .f32⟩
  | .hbm, ⟨102, _⟩ => ⟨S16x1x16384, .f32⟩
  | .hbm, ⟨103, _⟩ => ⟨S_, .f32⟩
  | .hbm, ⟨104, _⟩ => ⟨S16x16384, .f32⟩
  | .hbm, ⟨105, _⟩ => ⟨S16384x16, .f32⟩
  | .hbm, ⟨106, _⟩ => ⟨S_, .f32⟩
  | .hbm, ⟨107, _⟩ => ⟨S16x16384x16384, .f32⟩
  | .hbm, ⟨108, _⟩ => ⟨S16x16384x16384, .f32⟩
  | .hbm, ⟨109, _⟩ => ⟨S16x16384x64, .f32⟩
  | .hbm, ⟨110, _⟩ => ⟨S16384x16x64, .f32⟩
  | .hbm, ⟨111, _⟩ => ⟨S16384x1024, .f32⟩
  | .hbm, ⟨112, _⟩ => ⟨S16384x16x64, .f32⟩
  | .hbm, ⟨113, _⟩ => ⟨S16384x1024, .f32⟩
  | .hbm, ⟨114, _⟩ => ⟨S16384x1024, .bf16⟩
  | .hbm, ⟨115, _⟩ => ⟨S16384x1024, .bf16⟩
  | .hbm, ⟨116, _⟩ => ⟨S16x16384, .f32⟩
  | .hbm, ⟨117, _⟩ => ⟨S8x2x32x512, .f32⟩
  | .hbm, ⟨118, _⟩ => ⟨S8x32x2x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== AttF.lean ====
abbrev S16384x1024 : Shape := ⟨2, ![16384, 1024]⟩
abbrev S16384x16 : Shape := ⟨2, ![16384, 16]⟩
abbrev S16384x3072 : Shape := ⟨2, ![16384, 3072]⟩
abbrev S16x16384 : Shape := ⟨2, ![16, 16384]⟩
abbrev S8x2x32x512 : Shape := ⟨4, ![8, 2, 32, 512]⟩
abbrev S8x32x2x512 : Shape := ⟨4, ![8, 32, 2, 512]⟩
abbrev S_ : Shape := ⟨0, ![]⟩
abbrev S8x32 : Shape := ⟨2, ![8, 32]⟩
abbrev S8x16384x2 : Shape := ⟨3, ![8, 16384, 2]⟩
abbrev S512x128 : Shape := ⟨2, ![512, 128]⟩
abbrev S16384x128 : Shape := ⟨2, ![16384, 128]⟩
abbrev S1x32x2x512 : Shape := ⟨4, ![1, 32, 2, 512]⟩
abbrev S1x512x2 : Shape := ⟨3, ![1, 512, 2]⟩
abbrev S1x1x2x512 : Shape := ⟨4, ![1, 1, 2, 512]⟩
abbrev S2x512x128 : Shape := ⟨3, ![2, 512, 128]⟩
abbrev S1x1 : Shape := ⟨2, ![1, 1]⟩
abbrev S2x512 : Shape := ⟨2, ![2, 512]⟩
abbrev S512x512 : Shape := ⟨2, ![512, 512]⟩
abbrev S1x512 : Shape := ⟨2, ![1, 512]⟩
abbrev S1x512x128 : Shape := ⟨3, ![1, 512, 128]⟩
abbrev S512 : Shape := ⟨1, ![512]⟩
abbrev S512x1 : Shape := ⟨2, ![512, 1]⟩
abbrev S1x512x1 : Shape := ⟨3, ![1, 512, 1]⟩
abbrev S128x512 : Shape := ⟨2, ![128, 512]⟩
abbrev S1x1x1x512 : Shape := ⟨4, ![1, 1, 1, 512]⟩

abbrev nBuf : Space → Nat
  | .hbm => 13
  | .vmem => 17
  | .smem => 1
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x3072, .f32⟩
  | .hbm, ⟨5, _⟩ => ⟨S16384x3072, .bf16⟩
  | .hbm, ⟨6, _⟩ => ⟨S16x16384, .f32⟩
  | .hbm, ⟨7, _⟩ => ⟨S8x2x32x512, .f32⟩
  | .hbm, ⟨8, _⟩ => ⟨S8x32x2x512, .f32⟩
  | .hbm, ⟨9, _⟩ => ⟨S_, .i32⟩
  | .hbm, ⟨10, _⟩ => ⟨S16384x1024, .f32⟩
  | .hbm, ⟨11, _⟩ => ⟨S8x16384x2, .f32⟩
  | .hbm, ⟨12, _⟩ => ⟨S8x32x2x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x32x2x512, .f32⟩
  | .local _ .vmem, ⟨7, _⟩ => ⟨S1x32x2x512, .f32⟩
  | .local _ .vmem, ⟨8, _⟩ => ⟨S512x128, .f32⟩
  | .local _ .vmem, ⟨9, _⟩ => ⟨S512x128, .f32⟩
  | .local _ .vmem, ⟨10, _⟩ => ⟨S1x512x2, .f32⟩
  | .local _ .vmem, ⟨11, _⟩ => ⟨S1x512x2, .f32⟩
  | .local _ .vmem, ⟨12, _⟩ => ⟨S1x1x2x512, .f32⟩
  | .local _ .vmem, ⟨13, _⟩ => ⟨S1x1x2x512, .f32⟩
  | .local _ .vmem, ⟨14, _⟩ => ⟨S512x128, .f32⟩
  | .local _ .vmem, ⟨15, _⟩ => ⟨S2x512x128, .f32⟩
  | .local _ .vmem, ⟨16, _⟩ => ⟨S2x512x128, .f32⟩
  | .local _ .smem, ⟨0, _⟩ => ⟨S8x32, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v22 : Index := Scalar.indexCast arg0
  let arg1 : BitVec 32 := BitVec.ofNat 32 (i 1).val
  let v23 : Index := Scalar.indexCast arg1
  ![v22.toNat, v23.toNat]
@[reducible] def k0_t1_loop (i : grid0.Coords) (v24 : BitVec 32) : Scf.Loop 32 :=
  let arg1 : BitVec 32 := BitVec.ofNat 32 (i 1).val
  let v25 : BitVec 32 := Scalar.subi arg1 v24
  let c1_i32 : BitVec 32 := 1#32
  let v27 : BitVec 32 := Scalar.divsi v25 c1_i32
  let v28 : BitVec 32 := Scalar.muli v27 c1_i32
  let v29 : BitVec 32 := Scalar.addi v24 v28
  let c1_i32_13 : BitVec 32 := 1#32
  ⟨v24, v29, c1_i32_13⟩

def k0_mult1 (i : grid0.Coords) (v24 : BitVec 32) (k0_t1 : Fin (k0_t1_loop i v24).trips) : BitVec 32 :=
  let c1_i32_13 : BitVec 32 := 1#32
  let arg13 : BitVec 32 := Scf.iv v24 c1_i32_13 k0_t1
  let c512_i32_91 : BitVec 32 := 512#32
  let v199 : BitVec 32 := Scalar.muli arg13 c512_i32_91
  v199
def k0_off2 (i : grid0.Coords) (v24 : BitVec 32) (k0_t1 : Fin (k0_t1_loop i v24).trips) : Fin 2 → Nat :=
  let c1_i32_13 : BitVec 32 := 1#32
  let arg13 : BitVec 32 := Scf.iv v24 c1_i32_13 k0_t1
  let c512_i32_91 : BitVec 32 := 512#32
  let v199 : BitVec 32 := Scalar.muli arg13 c512_i32_91
  let v200 : BitVec 32 := v199
  let v201 : Index := Scalar.indexCast v200
  let c0_92 : Index := 0#32
  ![v201.toNat, 0]
def k0_off3 (i : grid0.Coords) (v24 : BitVec 32) (k0_t1 : Fin (k0_t1_loop i v24).trips) : Fin 4 → Nat :=
  let c0_94 : Index := 0#32
  let c1_i32_13 : BitVec 32 := 1#32
  let arg13 : BitVec 32 := Scf.iv v24 c1_i32_13 k0_t1
  let v207 : Index := Scalar.indexCast arg13
  let c0_95 : Index := 0#32
  let c0_96 : Index := 0#32
  ![0, v207.toNat, 0, 0]
@[reducible] def k0_t2_loop (i : grid0.Coords) (v24 : BitVec 32) : Scf.Loop 32 :=
  let arg1 : BitVec 32 := BitVec.ofNat 32 (i 1).val
  let v25 : BitVec 32 := Scalar.subi arg1 v24
  let c1_i32 : BitVec 32 := 1#32
  let v27 : BitVec 32 := Scalar.divsi v25 c1_i32
  let v28 : BitVec 32 := Scalar.muli v27 c1_i32
  let v29 : BitVec 32 := Scalar.addi v24 v28
  let v26 : BitVec 32 := Scalar.addi v24 v25
  let c1_i32_14 : BitVec 32 := 1#32
  ⟨v29, v26, c1_i32_14⟩
def k0_mult2 (i : grid0.Coords) (v24 : BitVec 32) (k0_t2 : Fin (k0_t2_loop i v24).trips) : BitVec 32 :=
  let arg1 : BitVec 32 := BitVec.ofNat 32 (i 1).val
  let v25 : BitVec 32 := Scalar.subi arg1 v24
  let c1_i32 : BitVec 32 := 1#32
  let v27 : BitVec 32 := Scalar.divsi v25 c1_i32
  let v28 : BitVec 32 := Scalar.muli v27 c1_i32
  let v29 : BitVec 32 := Scalar.addi v24 v28
  let c1_i32_14 : BitVec 32 := 1#32
  let arg13 : BitVec 32 := Scf.iv v29 c1_i32_14 k0_t2
  let c512_i32_91 : BitVec 32 := 512#32
  let v199 : BitVec 32 := Scalar.muli arg13 c512_i32_91
  v199
def k0_off4 (i : grid0.Coords) (v24 : BitVec 32) (k0_t2 : Fin (k0_t2_loop i v24).trips) : Fin 2 → Nat :=
  let arg1 : BitVec 32 := BitVec.ofNat 32 (i 1).val
  let v25 : BitVec 32 := Scalar.subi arg1 v24
  let c1_i32 : BitVec 32 := 1#32
  let v27 : BitVec 32 := Scalar.divsi v25 c1_i32
  let v28 : BitVec 32 := Scalar.muli v27 c1_i32
  let v29 : BitVec 32 := Scalar.addi v24 v28
  let c1_i32_14 : BitVec 32 := 1#32
  let arg13 : BitVec 32 := Scf.iv v29 c1_i32_14 k0_t2
  let c512_i32_91 : BitVec 32 := 512#32
  let v199 : BitVec 32 := Scalar.muli arg13 c512_i32_91
  let v200 : BitVec 32 := v199
  let v201 : Index := Scalar.indexCast v200
  let c0_92 : Index := 0#32
  ![v201.toNat, 0]
def k0_off5 (i : grid0.Coords) (v24 : BitVec 32) (k0_t2 : Fin (k0_t2_loop i v24).trips) : Fin 4 → Nat :=
  let c0_94 : Index := 0#32
  let arg1 : BitVec 32 := BitVec.ofNat 32 (i 1).val
  let v25 : BitVec 32 := Scalar.subi arg1 v24
  let c1_i32 : BitVec 32 := 1#32
  let v27 : BitVec 32 := Scalar.divsi v25 c1_i32
  let v28 : BitVec 32 := Scalar.muli v27 c1_i32
  let v29 : BitVec 32 := Scalar.addi v24 v28
  let c1_i32_14 : BitVec 32 := 1#32
  let arg13 : BitVec 32 := Scf.iv v29 c1_i32_14 k0_t2
  let v207 : Index := Scalar.indexCast arg13
  let c0_95 : Index := 0#32
  let c0_96 : Index := 0#32
  ![0, v207.toNat, 0, 0]

def k0_chk1 (i : grid0.Coords) (v24 : BitVec 32) : Prop :=
  ((k0_t1_loop i v24).OK) ∧
  (∀ k0_t1 : Fin (k0_t1_loop i v24).trips, 512 ∣ (k0_mult1 i v24 k0_t1).toNat) ∧
  (∀ k0_t1 : Fin (k0_t1_loop i v24).trips, ∀ a, (k0_off2 i v24 k0_t1) a + S512x128.size a ≤ S16384x128.size a) ∧
  (∀ k0_t1 : Fin (k0_t1_loop i v24).trips, ∀ a, (k0_off3 i v24 k0_t1) a + S1x1x2x512.size a ≤ S1x32x2x512.size a) ∧
  ((k0_t2_loop i v24).OK) ∧
  (∀ k0_t2 : Fin (k0_t2_loop i v24).trips, 512 ∣ (k0_mult2 i v24 k0_t2).toNat) ∧
  (∀ k0_t2 : Fin (k0_t2_loop i v24).trips, ∀ a, (k0_off4 i v24 k0_t2) a + S512x128.size a ≤ S16384x128.size a) ∧
  (∀ k0_t2 : Fin (k0_t2_loop i v24).trips, ∀ a, (k0_off5 i v24 k0_t2) a + S1x1x2x512.size a ≤ S1x32x2x512.size a)
theorem k0_t1_ok : ∀ (i : grid0.Coords) (v24 : BitVec 32) (k0_hw1 : k0_chk1 i v24), (k0_t1_loop i v24).OK := fun i v24 k0_hw1 => k0_hw1.1
theorem k0_mult1_dvd : ∀ (i : grid0.Coords) (v24 : BitVec 32) (k0_hw1 : k0_chk1 i v24) (k0_t1 : Fin (k0_t1_loop i v24).trips), 512 ∣ (k0_mult1 i v24 k0_t1).toNat := fun i v24 k0_hw1 k0_t1 => k0_hw1.2.1 k0_t1
theorem k0_off2_inb : ∀ (i : grid0.Coords) (v24 : BitVec 32) (k0_hw1 : k0_chk1 i v24) (k0_t1 : Fin (k0_t1_loop i v24).trips), ∀ a, (k0_off2 i v24 k0_t1) a + S512x128.size a ≤ S16384x128.size a := fun i v24 k0_hw1 k0_t1 => k0_hw1.2.2.1 k0_t1
theorem k0_off3_inb : ∀ (i : grid0.Coords) (v24 : BitVec 32) (k0_hw1 : k0_chk1 i v24) (k0_t1 : Fin (k0_t1_loop i v24).trips), ∀ a, (k0_off3 i v24 k0_t1) a + S1x1x2x512.size a ≤ S1x32x2x512.size a := fun i v24 k0_hw1 k0_t1 => k0_hw1.2.2.2.1 k0_t1
theorem k0_t2_ok : ∀ (i : grid0.Coords) (v24 : BitVec 32) (k0_hw1 : k0_chk1 i v24), (k0_t2_loop i v24).OK := fun i v24 k0_hw1 => k0_hw1.2.2.2.2.1
theorem k0_mult2_dvd : ∀ (i : grid0.Coords) (v24 : BitVec 32) (k0_hw1 : k0_chk1 i v24) (k0_t2 : Fin (k0_t2_loop i v24).trips), 512 ∣ (k0_mult2 i v24 k0_t2).toNat := fun i v24 k0_hw1 k0_t2 => k0_hw1.2.2.2.2.2.1 k0_t2
theorem k0_off4_inb : ∀ (i : grid0.Coords) (v24 : BitVec 32) (k0_hw1 : k0_chk1 i v24) (k0_t2 : Fin (k0_t2_loop i v24).trips), ∀ a, (k0_off4 i v24 k0_t2) a + S512x128.size a ≤ S16384x128.size a := fun i v24 k0_hw1 k0_t2 => k0_hw1.2.2.2.2.2.2.1 k0_t2
theorem k0_off5_inb : ∀ (i : grid0.Coords) (v24 : BitVec 32) (k0_hw1 : k0_chk1 i v24) (k0_t2 : Fin (k0_t2_loop i v24).trips), ∀ a, (k0_off5 i v24 k0_t2) a + S1x1x2x512.size a ≤ S1x32x2x512.size a := fun i v24 k0_hw1 k0_t2 => k0_hw1.2.2.2.2.2.2.2 k0_t2

def k0_mult3 (i : grid0.Coords) : BitVec 32 :=
  let arg1 : BitVec 32 := BitVec.ofNat 32 (i 1).val
  let c512_i32 : BitVec 32 := 512#32
  let v30 : BitVec 32 := Scalar.muli arg1 c512_i32
  v30
def k0_off6 (i : grid0.Coords) : Fin 2 → Nat :=
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_15 : Index := 0#32
  ![v32.toNat, 0]
def k0_off7 (i : grid0.Coords) : Fin 4 → Nat :=
  let c0_17 : Index := 0#32
  let arg1 : BitVec 32 := BitVec.ofNat 32 (i 1).val
  let v38 : Index := Scalar.indexCast arg1
  let c0_18 : Index := 0#32
  let c0_19 : Index := 0#32
  ![0, v38.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttFRefIdeal.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S8x2x16384 : Shape := ⟨3, ![8, 2, 16384]⟩
abbrev S8x16384x2 : Shape := ⟨3, ![8, 16384, 2]⟩
abbrev S8x2x32x512 : Shape := ⟨4, ![8, 2, 32, 512]⟩
abbrev S8x32x2x512 : Shape := ⟨4, ![8, 32, 2, 512]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x16x64, .f32⟩
  | .hbm, ⟨5, _⟩ => ⟨S16x16384x64, .f32⟩
  | .hbm, ⟨6, _⟩ => ⟨S16384x16x64, .f32⟩
  | .hbm, ⟨7, _⟩ => ⟨S16x16384x64, .f32⟩
  | .hbm, ⟨8, _⟩ => ⟨S16x16384x16384, .f32⟩
  | .hbm, ⟨9, _⟩ => ⟨S_, .f32⟩
  | .hbm, ⟨10, _⟩ => ⟨S16x16384x16384, .f32⟩
  | .hbm, ⟨11, _⟩ => ⟨S16x16384x16384, .f32⟩
  | .hbm, ⟨12, _⟩ => ⟨S16x16384, .f32⟩
  | .hbm, ⟨13, _⟩ => ⟨S16x1x16384, .f32⟩
  | .hbm, ⟨14, _⟩ => ⟨S16x16384x16384, .f32⟩
  | .hbm, ⟨15, _⟩ => ⟨S16x16384x16384, .f32⟩
  | .hbm, ⟨16, _⟩ => ⟨S16384, .i32⟩
  | .hbm, ⟨17, _⟩ => ⟨S16384x1, .i32⟩
  | .hbm, ⟨18, _⟩ => ⟨S1x16384, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S16x16384x16384, .i1⟩
  | .hbm, ⟨25, _⟩ => ⟨S16x16384x16384, .f32⟩
  | .hbm, ⟨26, _⟩ => ⟨S16x16384x16384, .f32⟩
  | .hbm, ⟨27, _⟩ => ⟨S_, .f32⟩
  | .hbm, ⟨28, _⟩ => ⟨S16x16384, .f32⟩
  | .hbm, ⟨29, _⟩ => ⟨S16x16384x1, .f32⟩
  | .hbm, ⟨30, _⟩ => ⟨S16x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384, .f32⟩
  | .hbm, ⟨37, _⟩ => ⟨S16x16384, .f32⟩
  | .hbm, ⟨38, _⟩ => ⟨S16384x16x64, .f32⟩
  | .hbm, ⟨39, _⟩ => ⟨S16x16384x64, .f32⟩
  | .hbm, ⟨40, _⟩ => ⟨S16384x16x64, .f32⟩
  | .hbm, ⟨41, _⟩ => ⟨S16x16384x64, .f32⟩
  | .hbm, ⟨42, _⟩ => ⟨S16384x16x64, .f32⟩
  | .hbm, ⟨43, _⟩ => ⟨S16x16384x64, .f32⟩
  | .hbm, ⟨44, _⟩ => ⟨S16x16384x16384, .f32⟩
  | .hbm, ⟨45, _⟩ => ⟨S_, .f32⟩
  | .hbm, ⟨46, _⟩ => ⟨S16x16384x16384, .f32⟩
  | .hbm, ⟨47, _⟩ => ⟨S16x16384x16384, .f32⟩
  | .hbm, ⟨48, _⟩ => ⟨S16x16384, .f32⟩
  | .hbm, ⟨49, _⟩ => ⟨S16x16384x1, .f32⟩
  | .hbm, ⟨50, _⟩ => ⟨S16x16384x16384, .f32⟩
  | .hbm, ⟨51, _⟩ => ⟨S16x16384x16384, .f32⟩
  | .hbm, ⟨52, _⟩ => ⟨S16x16384, .f32⟩
  | .hbm, ⟨53, _⟩ => ⟨S16x1x16384, .f32⟩
  | .hbm, ⟨54, _⟩ => ⟨S16x16384x16384, .f32⟩
  | .hbm, ⟨55, _⟩ => ⟨S16x16384x16384, .f32⟩
  | .hbm, ⟨56, _⟩ => ⟨S16384, .i32⟩
  | .hbm, ⟨57, _⟩ => ⟨S16384x1, .i32⟩
  | .hbm, ⟨58, _⟩ => ⟨S1x16384, .i32⟩
  | .hbm, ⟨59, _⟩ => ⟨S16384x16384, .i32⟩
  | .hbm, ⟨60, _⟩ => ⟨S16384x16384, .i32⟩
  | .hbm, ⟨61, _⟩ => ⟨S16384x16384, .i1⟩
  | .hbm, ⟨62, _⟩ => ⟨S_, .f32⟩
  | .hbm, ⟨63, _⟩ => ⟨S_, .f32⟩
  | .hbm, ⟨64, _⟩ => ⟨S16x16384x16384, .i1⟩
  | .hbm, ⟨65, _⟩ => ⟨S16x16384x16384, .f32⟩
  | .hbm, ⟨66, _⟩ => ⟨S16x16384x16384, .f32⟩
  | .hbm, ⟨67, _⟩ => ⟨S_, .f32⟩
  | .hbm, ⟨68, _⟩ => ⟨S16x16384, .f32⟩
  | .hbm, ⟨69, _⟩ => ⟨S_, .f32⟩
  | .hbm, ⟨70, _⟩ => ⟨S16x16384, .f32⟩
  | .hbm, ⟨71, _⟩ => ⟨S16x16384, .f32⟩
  | .hbm, ⟨72, _⟩ => ⟨S16x16384x1, .f32⟩
  | .hbm, ⟨73, _⟩ => ⟨S16x16384x16384, .f32⟩
  | .hbm, ⟨74, _⟩ => ⟨S16x16384x16384, .f32⟩
  | .hbm, ⟨75, _⟩ => ⟨S16x16384x16384, .f32⟩
  | .hbm, ⟨76, _⟩ => ⟨S_, .f32⟩
  | .hbm, ⟨77, _⟩ => ⟨S16x16384, .f32⟩
  | .hbm, ⟨78, _⟩ => ⟨S16x16384x1, .f32⟩
  | .hbm, ⟨79, _⟩ => ⟨S16x16384x16384, .f32⟩
  | .hbm, ⟨80, _⟩ => ⟨S16x16384x16384, .f32⟩
  | .hbm, ⟨81, _⟩ => ⟨S16x16384x64, .f32⟩
  | .hbm, ⟨82, _⟩ => ⟨S16384x16x64, .f32⟩
  | .hbm, ⟨83, _⟩ => ⟨S16384x1024, .f32⟩
  | .hbm, ⟨84, _⟩ => ⟨S8x2x16384, .f32⟩
  | .hbm, ⟨85, _⟩ => ⟨S8x16384x2, .f32⟩
  | .hbm, ⟨86, _⟩ => ⟨S16384x16, .f32⟩
  | .hbm, ⟨87, _⟩ => ⟨S16x16384, .f32⟩
  | .hbm, ⟨88, _⟩ => ⟨S8x2x32x512, .f32⟩
  | .hbm, ⟨89, _⟩ => ⟨S8x32x2x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Ada.lean ====
abbrev S8x1024 : Shape := ⟨2, ![8, 1024]⟩
abbrev S2x1024x1536 : Shape := ⟨3, ![2, 1024, 1536]⟩
abbrev S2x8x1536 : Shape := ⟨3, ![2, 8, 1536]⟩
abbrev S1024x8 : Shape := ⟨2, ![1024, 8]⟩
abbrev S1x8x512 : Shape := ⟨3, ![1, 8, 512]⟩
abbrev S1x1024x512 : Shape := ⟨3, ![1, 1024, 512]⟩
abbrev S8x512 : Shape := ⟨2, ![8, 512]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x8x1536, .f32⟩
  | .hbm, ⟨3, _⟩ => ⟨S1024x8, .f32⟩
  | .hbm, ⟨4, _⟩ => ⟨S2x1024x1536, .f32⟩
  | .local _ .vmem, ⟨0, _⟩ => ⟨S1024x8, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaRefIdeal.lean ====
abbrev S8x1024 : Shape := ⟨2, ![8, 1024]⟩
abbrev S2x1024x1536 : Shape := ⟨3, ![2, 1024, 1536]⟩
abbrev S2x8x1536 : Shape := ⟨3, ![2, 8, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x8x1536 : Shape := ⟨3, ![1, 8, 1536]⟩
abbrev S1536x1024 : Shape := ⟨2, ![1536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x8x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S1x1024x1536, .f32⟩
  | .hbm, ⟨25, _⟩ => ⟨S1024x1536, .f32⟩
  | .hbm, ⟨26, _⟩ => ⟨S8x1536, .f32⟩
  | .hbm, ⟨27, _⟩ => ⟨S1x8x1536, .f32⟩
  | .hbm, ⟨28, _⟩ => ⟨S1x8x1536, .f32⟩
  | .hbm, ⟨29, _⟩ => ⟨S2x8x1536, .f32⟩
  | .hbm, ⟨30, _⟩ => ⟨S1x8x1536, .f32⟩
  | .hbm, ⟨31, _⟩ => ⟨S8x1536, .f32⟩
  | .hbm, ⟨32, _⟩ => ⟨S1x8x1536, .f32⟩
  | .hbm, ⟨33, _⟩ => ⟨S8x1536, .f32⟩
  | .hbm, ⟨34, _⟩ => ⟨S1536x1024, .f32⟩
  | .hbm, ⟨35, _⟩ => ⟨S1024x1536, .f32⟩
  | .hbm, ⟨36, _⟩ => ⟨S1x1024x1536, .f32⟩
  | .hbm, ⟨37, _⟩ => ⟨S_, .f32⟩
  | .hbm, ⟨38, _⟩ => ⟨S2x1024x1536, .f32⟩
  | .hbm, ⟨39, _⟩ => ⟨S1536x1024, .f32⟩
  | .hbm, ⟨40, _⟩ => ⟨S1024x1536, .f32⟩
  | .hbm, ⟨41, _⟩ => ⟨S1x1024x1536, .f32⟩
  | .hbm, ⟨42, _⟩ => ⟨S_, .f32⟩
  | .hbm, ⟨43, _⟩ => ⟨S2x1024x1536, .f32⟩
  | .hbm, ⟨44, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_0 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Gate.lean ====
abbrev S16384x2048 : Shape := ⟨2, ![16384, 2048]⟩
abbrev S1x2048 : Shape := ⟨2, ![1, 2048]⟩
abbrev S2048x1024 : Shape := ⟨2, ![2048, 1024]⟩
abbrev S16384x1024 : Shape := ⟨2, ![16384, 1024]⟩
abbrev S512x1024 : Shape := ⟨2, ![512, 1024]⟩
abbrev S1024x1024 : Shape := ⟨2, ![1024, 1024]⟩
abbrev S1x1024 : Shape := ⟨2, ![1, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256 : Shape := ⟨1, ![256]⟩

abbrev nBuf : Space → Nat
  | .hbm => 10
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S2048x1024, .f32⟩
  | .hbm, ⟨4, _⟩ => ⟨S16384x1024, .f32⟩
  | .hbm, ⟨5, _⟩ => ⟨S16384x1024, .bf16⟩
  | .hbm, ⟨6, _⟩ => ⟨S2048x1024, .bf16⟩
  | .hbm, ⟨7, _⟩ => ⟨S16384x2048, .f32⟩
  | .hbm, ⟨8, _⟩ => ⟨S16384x2048, .bf16⟩
  | .hbm, ⟨9, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateRefIdeal.lean ====
abbrev S16384x2048 : Shape := ⟨2, ![16384, 2048]⟩
abbrev S1x2048 : Shape := ⟨2, ![1, 2048]⟩
abbrev S2048x1024 : Shape := ⟨2, ![2048, 1024]⟩
abbrev S16384x1024 : Shape := ⟨2, ![16384, 1024]⟩
abbrev S_ : Shape := ⟨0, ![]⟩
abbrev S16384x8x256 : Shape := ⟨3, ![16384, 8, 256]⟩
abbrev S16384x8 : Shape := ⟨2, ![16384, 8]⟩
abbrev S16384x8x1 : Shape := ⟨3, ![16384, 8, 1]⟩
abbrev S2048 : Shape := ⟨1, ![2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S2048x1024, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x8x256, .f32⟩
  | .hbm, ⟨20, _⟩ => ⟨S16384x8x256, .f32⟩
  | .hbm, ⟨21, _⟩ => ⟨S_, .f32⟩
  | .hbm, ⟨22, _⟩ => ⟨S16384x8x256, .f32⟩
  | .hbm, ⟨23, _⟩ => ⟨S16384x8x256, .f32⟩
  | .hbm, ⟨24, _⟩ => ⟨S_, .f32⟩
  | .hbm, ⟨25, _⟩ => ⟨S16384x8, .f32⟩
  | .hbm, ⟨26, _⟩ => ⟨S16384x8x1, .f32⟩
  | .hbm, ⟨27, _⟩ => ⟨S_, .f32⟩
  | .hbm, ⟨28, _⟩ => ⟨S16384x8x1, .f32⟩
  | .hbm, ⟨29, _⟩ => ⟨S16384x8x1, .f32⟩
  | .hbm, ⟨30, _⟩ => ⟨S_, .f32⟩
  | .hbm, ⟨31, _⟩ => ⟨S16384x8x1, .f32⟩
  | .hbm, ⟨32, _⟩ => ⟨S16384x8x1, .f32⟩
  | .hbm, ⟨33, _⟩ => ⟨S16384x8x1, .f32⟩
  | .hbm, ⟨34, _⟩ => ⟨S16384x8x1, .f32⟩
  | .hbm, ⟨35, _⟩ => ⟨S_, .f32⟩
  | .hbm, ⟨36, _⟩ => ⟨S16384x8x1, .f32⟩
  | .hbm, ⟨37, _⟩ => ⟨S16384x8x1, .f32⟩
  | .hbm, ⟨38, _⟩ => ⟨S16384x8x256, .f32⟩
  | .hbm, ⟨39, _⟩ => ⟨S16384x8x256, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x1024, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S16384x8x256, .f32⟩
  | .hbm, ⟨52, _⟩ => ⟨S16384x8x256, .f32⟩
  | .hbm, ⟨53, _⟩ => ⟨S_, .f32⟩
  | .hbm, ⟨54, _⟩ => ⟨S16384x8, .f32⟩
  | .hbm, ⟨55, _⟩ => ⟨S16384x8x1, .f32⟩
  | .hbm, ⟨56, _⟩ => ⟨S16384x8x256, .f32⟩
  | .hbm, ⟨57, _⟩ => ⟨S16384x8x256, .f32⟩
  | .hbm, ⟨58, _⟩ => ⟨S16384x8x1, .f32⟩
  | .hbm, ⟨59, _⟩ => ⟨S_, .f32⟩
  | .hbm, ⟨60, _⟩ => ⟨S16384x8x1, .f32⟩
  | .hbm, ⟨61, _⟩ => ⟨S16384x8x1, .f32⟩
  | .hbm, ⟨62, _⟩ => ⟨S_, .f32⟩
  | .hbm, ⟨63, _⟩ => ⟨S16384x8, .f32⟩
  | .hbm, ⟨64, _⟩ => ⟨S16384x8x256, .f32⟩
  | .hbm, ⟨65, _⟩ => ⟨S16384x8x256, .f32⟩
  | .hbm, ⟨66, _⟩ => ⟨S16384x8x256, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]
-- ==== Fox.lean ====
abbrev S16384x16 : Shape := ⟨2, ![16384, 16]⟩
abbrev S1x16 : Shape := ⟨2, ![1, 16]⟩
abbrev S8x32x2x512 : Shape := ⟨4, ![8, 32, 2, 512]⟩
abbrev S32x512x8x2 : Shape := ⟨4, ![32, 512, 8, 2]⟩
abbrev S_ : Shape := ⟨0, ![]⟩
abbrev S16384x128 : Shape := ⟨2, ![16384, 128]⟩
abbrev S1x128 : Shape := ⟨2, ![1, 128]⟩
abbrev S512x128 : Shape := ⟨2, ![512, 128]⟩
abbrev S8x128 : Shape := ⟨2, ![8, 128]⟩
abbrev S128 : Shape := ⟨1, ![128]⟩

abbrev nBuf : Space → Nat
  | .hbm => 22
  | .vmem => 11
  | .smem => 0
  | _ => 0

abbrev bufTy : (tb : Table) → Fin (tcTables nBuf tb) → BufTy
  | .hbm, ⟨0, _⟩ => ⟨S16384x16, .f32⟩
  | .hbm, ⟨1, _⟩ => ⟨S1x16, .f32⟩
  | .hbm, ⟨2, _⟩ => ⟨S8x32x2x512, .f32⟩
  | .hbm, ⟨3, _⟩ => ⟨S8x32x2x512, .f32⟩
  | .hbm, ⟨4, _⟩ => ⟨S32x512x8x2, .f32⟩
  | .hbm, ⟨5, _⟩ => ⟨S16384x16, .f32⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S32x512x8x2, .f32⟩
  | .hbm, ⟨10, _⟩ => ⟨S16384x16, .f32⟩
  | .hbm, ⟨11, _⟩ => ⟨S_, .i32⟩
  | .hbm, ⟨12, _⟩ => ⟨S_, .f32⟩
  | .hbm, ⟨13, _⟩ => ⟨S16384x128, .f32⟩
  | .hbm, ⟨14, _⟩ => ⟨S_, .i32⟩
  | .hbm, ⟨15, _⟩ => ⟨S_, .f32⟩
  | .hbm, ⟨16, _⟩ => ⟨S16384x128, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S16384x128, .bf16⟩
  | .hbm, ⟨21, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S1x128, .f32⟩
  | .local _ .vmem, ⟨10, _⟩ => ⟨S8x128, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FoxRefIdeal.lean ====
abbrev S16384x16 : Shape := ⟨2, ![16384, 16]⟩
abbrev S1x16 : Shape := ⟨2, ![1, 16]⟩
abbrev S8x32x2x512 : Shape := ⟨4, ![8, 32, 2, 512]⟩
abbrev S_ : Shape := ⟨0, ![]⟩
abbrev S16x16384 : Shape := ⟨2, ![16, 16384]⟩
abbrev S8x2x32x512 : Shape := ⟨4, ![8, 2, 32, 512]⟩
abbrev S16 : Shape := ⟨1, ![16]⟩
abbrev S16384x128 : Shape := ⟨2, ![16384, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S1x16, .f32⟩
  | .hbm, ⟨2, _⟩ => ⟨S8x32x2x512, .f32⟩
  | .hbm, ⟨3, _⟩ => ⟨S8x32x2x512, .f32⟩
  | .hbm, ⟨4, _⟩ => ⟨S16384x16, .f32⟩
  | .hbm, ⟨5, _⟩ => ⟨S16384x16, .f32⟩
  | .hbm, ⟨6, _⟩ => ⟨S16384x16, .f32⟩
  | .hbm, ⟨7, _⟩ => ⟨S_, .f32⟩
  | .hbm, ⟨8, _⟩ => ⟨S16384x16, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S16384x16, .i1⟩
  | .hbm, ⟨13, _⟩ => ⟨S16384x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S_, .f32⟩
  | .hbm, ⟨22, _⟩ => ⟨S16384x16, .f32⟩
  | .hbm, ⟨23, _⟩ => ⟨S16384x16, .i1⟩
  | .hbm, ⟨24, _⟩ => ⟨S_, .f32⟩
  | .hbm, ⟨25, _⟩ => ⟨S16384x16, .f32⟩
  | .hbm, ⟨26, _⟩ => ⟨S16384x16, .f32⟩
  | .hbm, ⟨27, _⟩ => ⟨S_, .f32⟩
  | .hbm, ⟨28, _⟩ => ⟨S16384x16, .f32⟩
  | .hbm, ⟨29, _⟩ => ⟨S16384x16, .i1⟩
  | .hbm, ⟨30, _⟩ => ⟨S_, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16384x16, .f32⟩
  | .hbm, ⟨43, _⟩ => ⟨S16384x16, .i1⟩
  | .hbm, ⟨44, _⟩ => ⟨S_, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S_, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S_, .f32⟩
  | .hbm, ⟨55, _⟩ => ⟨S_, .f32⟩
  | .hbm, ⟨56, _⟩ => ⟨S16384x16, .f32⟩
  | .hbm, ⟨57, _⟩ => ⟨S16x16384, .f32⟩
  | .hbm, ⟨58, _⟩ => ⟨S8x2x32x512, .f32⟩
  | .hbm, ⟨59, _⟩ => ⟨S8x32x2x512, .f32⟩
  | .hbm, ⟨60, _⟩ => ⟨S8x32x2x512, .f32⟩
  | .hbm, ⟨61, _⟩ => ⟨S8x2x32x512, .f32⟩
  | .hbm, ⟨62, _⟩ => ⟨S16x16384, .f32⟩
  | .hbm, ⟨63, _⟩ => ⟨S16384x16, .f32⟩
  | .hbm, ⟨64, _⟩ => ⟨S_, .f32⟩
  | .hbm, ⟨65, _⟩ => ⟨S_, .f32⟩
  | .hbm, ⟨66, _⟩ => ⟨S16384x16, .f32⟩
  | .hbm, ⟨67, _⟩ => ⟨S16384x16, .f32⟩
  | .hbm, ⟨68, _⟩ => ⟨S16384x16, .f32⟩
  | .hbm, ⟨69, _⟩ => ⟨S16384x16, .f32⟩
  | .hbm, ⟨70, _⟩ => ⟨S_, .f32⟩
  | .hbm, ⟨71, _⟩ => ⟨S16, .f32⟩
  | .hbm, ⟨72, _⟩ => ⟨S1x16, .f32⟩
  | .hbm, ⟨73, _⟩ => ⟨S_, .i32⟩
  | .hbm, ⟨74, _⟩ => ⟨S_, .f32⟩
  | .hbm, ⟨75, _⟩ => ⟨S16384x128, .f32⟩
  | .hbm, ⟨76, _⟩ => ⟨S16384x128, .bf16⟩
  | .hbm, ⟨77, _⟩ => ⟨S_, .i32⟩
  | .hbm, ⟨78, _⟩ => ⟨S_, .f32⟩
  | .hbm, ⟨79, _⟩ => ⟨S1x128, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v2_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v2_2 : Ref sig .tc := ⟨.hbm, 52, rfl⟩
abbrev main_v2_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_call2_call0_cst : Ref sig .tc := ⟨.hbm, 64, rfl⟩
abbrev main_call2_call0_v0 : Ref sig .tc := ⟨.hbm, 65, rfl⟩
abbrev main_v11 : Ref sig .tc := ⟨.hbm, 66, rfl⟩
abbrev main_call3_v0 : Ref sig .tc := ⟨.hbm, 67, rfl⟩
abbrev main_call3_v1 : Ref sig .tc := ⟨.hbm, 68, rfl⟩
abbrev main_v12 : Ref sig .tc := ⟨.hbm, 69, rfl⟩
abbrev main_cst : Ref sig .tc := ⟨.hbm, 70, rfl⟩
abbrev main_v13 : Ref sig .tc := ⟨.hbm, 71, rfl⟩
abbrev main_v14 : Ref sig .tc := ⟨.hbm, 72, rfl⟩
abbrev main_c : Ref sig .tc := ⟨.hbm, 73, rfl⟩
abbrev main_call4_v0 : Ref sig .tc := ⟨.hbm, 74, rfl⟩
abbrev main_v15 : Ref sig .tc := ⟨.hbm, 75, rfl⟩
abbrev main_v16 : Ref sig .tc := ⟨.hbm, 76, rfl⟩
abbrev main_c_0 : Ref sig .tc := ⟨.hbm, 77, rfl⟩
abbrev main_call5_v0 : Ref sig .tc := ⟨.hbm, 78, rfl⟩
abbrev main_v17 : Ref sig .tc := ⟨.hbm, 79, rfl⟩

abbrev nD : Nat := 1
abbrev τ : Topo := Topo.v7x

variable {F : FTy → Type} [FloatOps F]
-- ==== Sum.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384 : Shape := ⟨2, ![16, 16384]⟩
abbrev S_ : Shape := ⟨0, ![]⟩
abbrev S16x16384x16384 : Shape := ⟨3, ![16, 16384, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S16384x3072 : Shape := ⟨2, ![16384, 3072]⟩
abbrev S16x128 : Shape := ⟨2, ![16, 128]⟩
abbrev S16x1x128 : Shape := ⟨3, ![16, 1, 128]⟩
abbrev S16x64x128 : Shape := ⟨3, ![16, 64, 128]⟩
abbrev S1024x128 : Shape := ⟨2, ![1024, 128]⟩
abbrev S16384x128 : Shape := ⟨2, ![16384, 128]⟩
abbrev S512x1024 : Shape := ⟨2, ![512, 1024]⟩
abbrev S512x128 : Shape := ⟨2, ![512, 128]⟩
abbrev S16x512 : Shape := ⟨2, ![16, 512]⟩
abbrev S128x512 : Shape := ⟨2, ![128, 512]⟩

abbrev nBuf : Space → Nat
  | .hbm => 71
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x1024, .f32⟩
  | .hbm, ⟨5, _⟩ => ⟨S16384x1024, .bf16⟩
  | .hbm, ⟨6, _⟩ => ⟨S16384x16x64, .bf16⟩
  | .hbm, ⟨7, _⟩ => ⟨S16x16384x64, .bf16⟩
  | .hbm, ⟨8, _⟩ => ⟨S16384x1024, .bf16⟩
  | .hbm, ⟨9, _⟩ => ⟨S16384x16x64, .bf16⟩
  | .hbm, ⟨10, _⟩ => ⟨S16x16384x64, .bf16⟩
  | .hbm, ⟨11, _⟩ => ⟨S16384x1024, .bf16⟩
  | .hbm, ⟨12, _⟩ => ⟨S16384x16x64, .bf16⟩
  | .hbm, ⟨13, _⟩ => ⟨S16x16384x64, .bf16⟩
  | .hbm, ⟨14, _⟩ => ⟨S16x16384, .f32⟩
  | .hbm, ⟨15, _⟩ => ⟨S_, .bf16⟩
  | .hbm, ⟨16, _⟩ => ⟨S16x16384x64, .bf16⟩
  | .hbm, ⟨17, _⟩ => ⟨S16x16384x64, .bf16⟩
  | .hbm, ⟨18, _⟩ => ⟨S16x16384x16384, .f32⟩
  | .hbm, ⟨19, _⟩ => ⟨S16x1x16384, .f32⟩
  | .hbm, ⟨20, _⟩ => ⟨S16x16384x16384, .f32⟩
  | .hbm, ⟨21, _⟩ => ⟨S16x16384x16384, .f32⟩
  | .hbm, ⟨22, _⟩ => ⟨S16384, .i32⟩
  | .hbm, ⟨23, _⟩ => ⟨S16384x1, .i32⟩
  | .hbm, ⟨24, _⟩ => ⟨S16384, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x16384, .bf16⟩
  | .hbm, ⟨43, _⟩ => ⟨S16x16384x64, .f32⟩
  | .hbm, ⟨44, _⟩ => ⟨S16x16384x1, .f32⟩
  | .hbm, ⟨45, _⟩ => ⟨S16x16384x64, .f32⟩
  | .hbm, ⟨46, _⟩ => ⟨S16x16384x64, .f32⟩
  | .hbm, ⟨47, _⟩ => ⟨S16x16384, .f32⟩
  | .hbm, ⟨48, _⟩ => ⟨S16x16384, .f32⟩
  | .hbm, ⟨49, _⟩ => ⟨S16384x16x64, .f32⟩
  | .hbm, ⟨50, _⟩ => ⟨S16x16384x64, .f32⟩
  | .hbm, ⟨51, _⟩ => ⟨S16x16384x64, .f32⟩
  | .hbm, ⟨52, _⟩ => ⟨S_, .f32⟩
  | .hbm, ⟨53, _⟩ => ⟨S16x16384, .f32⟩
  | .hbm, ⟨54, _⟩ => ⟨S16384x3072, .f32⟩
  | .hbm, ⟨55, _⟩ => ⟨S16384x3072, .bf16⟩
  | .hbm, ⟨56, _⟩ => ⟨S16384x1024, .bf16⟩
  | .hbm, ⟨57, _⟩ => ⟨S16384x16x64, .f32⟩
  | .hbm, ⟨58, _⟩ => ⟨S16384x1024, .f32⟩
  | .hbm, ⟨59, _⟩ => ⟨S16x128, .i32⟩
  | .hbm, ⟨60, _⟩ => ⟨S16x128, .i32⟩
  | .hbm, ⟨61, _⟩ => ⟨S_, .i32⟩
  | .hbm, ⟨62, _⟩ => ⟨S16x128, .i32⟩
  | .hbm, ⟨63, _⟩ => ⟨S16x128, .i32⟩
  | .hbm, ⟨64, _⟩ => ⟨S16x128, .i1⟩
  | .hbm, ⟨65, _⟩ => ⟨S16x128, .bf16⟩
  | .hbm, ⟨66, _⟩ => ⟨S16x1x128, .bf16⟩
  | .hbm, ⟨67, _⟩ => ⟨S16x64x128, .bf16⟩
  | .hbm, ⟨68, _⟩ => ⟨S1024x128, .bf16⟩
  | .hbm, ⟨69, _⟩ => ⟨S16384x128, .f32⟩
  | .hbm, ⟨70, _⟩ => ⟨S16x16384, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S16x512, .f32⟩
  | .local _ .vmem, ⟨8, _⟩ => ⟨S16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55_0 : Ref sig .tc := ⟨.hbm, 69, rfl⟩
abbrev main_v55_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumRefIdeal.lean ====
abbrev S16384x1024 : Shape := ⟨2, ![16384, 1024]⟩
abbrev S16384x16 : Shape := ⟨2, ![16384, 16]⟩
abbrev S_ : Shape := ⟨0, ![]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S16x16384 : Shape := ⟨2, ![16, 16384]⟩
abbrev S16x16384x1 : Shape := ⟨3, ![16, 16384, 1]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16384x16x1 : Shape := ⟨3, ![16384, 16, 1]⟩
abbrev S16384x128 : Shape := ⟨2, ![16384, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x1024, .f32⟩
  | .hbm, ⟨5, _⟩ => ⟨S_, .f32⟩
  | .hbm, ⟨6, _⟩ => ⟨S16384x16, .f32⟩
  | .hbm, ⟨7, _⟩ => ⟨S16384x16x64, .f32⟩
  | .hbm, ⟨8, _⟩ => ⟨S16x16384x64, .f32⟩
  | .hbm, ⟨9, _⟩ => ⟨S16384x16x64, .f32⟩
  | .hbm, ⟨10, _⟩ => ⟨S16x16384x64, .f32⟩
  | .hbm, ⟨11, _⟩ => ⟨S16384x16x64, .f32⟩
  | .hbm, ⟨12, _⟩ => ⟨S16x16384x64, .f32⟩
  | .hbm, ⟨13, _⟩ => ⟨S16x16384x16384, .f32⟩
  | .hbm, ⟨14, _⟩ => ⟨S_, .f32⟩
  | .hbm, ⟨15, _⟩ => ⟨S16x16384x16384, .f32⟩
  | .hbm, ⟨16, _⟩ => ⟨S16x16384x16384, .f32⟩
  | .hbm, ⟨17, _⟩ => ⟨S16x16384, .f32⟩
  | .hbm, ⟨18, _⟩ => ⟨S16x16384x1, .f32⟩
  | .hbm, ⟨19, _⟩ => ⟨S16x16384x16384, .f32⟩
  | .hbm, ⟨20, _⟩ => ⟨S16x16384x16384, .f32⟩
  | .hbm, ⟨21, _⟩ => ⟨S16x16384, .f32⟩
  | .hbm, ⟨22, _⟩ => ⟨S16x1x16384, .f32⟩
  | .hbm, ⟨23, _⟩ => ⟨S16x16384x16384, .f32⟩
  | .hbm, ⟨24, _⟩ => ⟨S16x16384x16384, .f32⟩
  | .hbm, ⟨25, _⟩ => ⟨S16384, .i32⟩
  | .hbm, ⟨26, _⟩ => ⟨S16384x1, .i32⟩
  | .hbm, ⟨27, _⟩ => ⟨S1x16384, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S_, .f32⟩
  | .hbm, ⟨32, _⟩ => ⟨S_, .f32⟩
  | .hbm, ⟨33, _⟩ => ⟨S16x16384x16384, .i1⟩
  | .hbm, ⟨34, _⟩ => ⟨S16x16384x16384, .f32⟩
  | .hbm, ⟨35, _⟩ => ⟨S16x16384x16384, .f32⟩
  | .hbm, ⟨36, _⟩ => ⟨S_, .f32⟩
  | .hbm, ⟨37, _⟩ => ⟨S16x16384, .f32⟩
  | .hbm, ⟨38, _⟩ => ⟨S_, .f32⟩
  | .hbm, ⟨39, _⟩ => ⟨S16x16384, .f32⟩
  | .hbm, ⟨40, _⟩ => ⟨S16x16384, .f32⟩
  | .hbm, ⟨41, _⟩ => ⟨S16x16384x1, .f32⟩
  | .hbm, ⟨42, _⟩ => ⟨S16x16384x16384, .f32⟩
  | .hbm, ⟨43, _⟩ => ⟨S16x16384x16384, .f32⟩
  | .hbm, ⟨44, _⟩ => ⟨S16x16384x16384, .f32⟩
  | .hbm, ⟨45, _⟩ => ⟨S_, .f32⟩
  | .hbm, ⟨46, _⟩ => ⟨S16x16384, .f32⟩
  | .hbm, ⟨47, _⟩ => ⟨S16x16384x1, .f32⟩
  | .hbm, ⟨48, _⟩ => ⟨S16x16384x16384, .f32⟩
  | .hbm, ⟨49, _⟩ => ⟨S16x16384x16384, .f32⟩
  | .hbm, ⟨50, _⟩ => ⟨S16x16384x64, .f32⟩
  | .hbm, ⟨51, _⟩ => ⟨S16384x16x64, .f32⟩
  | .hbm, ⟨52, _⟩ => ⟨S16384x1024, .f32⟩
  | .hbm, ⟨53, _⟩ => ⟨S16384x16x64, .f32⟩
  | .hbm, ⟨54, _⟩ => ⟨S16384x16x1, .f32⟩
  | .hbm, ⟨55, _⟩ => ⟨S16384x16x64, .f32⟩
  | .hbm, ⟨56, _⟩ => ⟨S16384x16x64, .f32⟩
  | .hbm, ⟨57, _⟩ => ⟨S16384x1024, .f32⟩
  | .hbm, ⟨58, _⟩ => ⟨S16384x16x64, .f32⟩
  | .hbm, ⟨59, _⟩ => ⟨S16384x16x64, .f32⟩
  | .hbm, ⟨60, _⟩ => ⟨S_, .f32⟩
  | .hbm, ⟨61, _⟩ => ⟨S16384x16, .f32⟩
  | .hbm, ⟨62, _⟩ => ⟨S16384x16x1, .f32⟩
  | .hbm, ⟨63, _⟩ => ⟨S_, .f32⟩
  | .hbm, ⟨64, _⟩ => ⟨S16384x16, .f32⟩
  | .hbm, ⟨65, _⟩ => ⟨S_, .i32⟩
  | .hbm, ⟨66, _⟩ => ⟨S_, .f32⟩
  | .hbm, ⟨67, _⟩ => ⟨S16384x128, .f32⟩
  | .hbm, ⟨68, _⟩ => ⟨S16x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_c : Ref sig .tc := ⟨.hbm, 65, rfl⟩
abbrev main_call1_v0 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.MlpPoint.lean ====
/- The gradient of the squared-ReLU MLP: the array the kernel leaves is the reference's. -/
module

public import proofs.«01_k».proof.Defs
public import proofs.«01_k».proof.Proof.Gen.MlpIdeal.Frame
public import proofs.«01_k».proof.Proof.Gen.MlpRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic Idealize.ShloMosaic.TcCoe Idealize.SL.Sem

/-- The reference leaves its arguments as they were; it has no semaphore. -/
theorem mlpRef_frame : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run (F := Ideal) m g)

namespace Mlp
open Cert.MlpIdeal Cert.MlpIdeal.Gen

variable (m : (ℓ : Loc nD τ sig) → Buf (Elt Ideal) ℓ)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- What the region leaves at row `i`, hidden unit `j`: the product's entry times twice the positive part. -/
def G (u : FVec Ideal S16384x1024 .f32) (w1 : FVec Ideal S1024x4096 .f32) (w2 : FVec Ideal S4096x1024 .f32)
    (dy : FVec Ideal S16384x1024 .f32) (i : S16384x4096.Idx) : EReal :=
  (∑ k : Fin 1024, dy (ix2 (i 0) k) * w2 (ix2 (i 1) k))
    * (Ideal.ofBits .f32 0x40000000#32 * max (∑ k : Fin 1024, u (ix2 (i 0) k) * w1 (ix2 k (i 1))) 0)

theorem final (c : Dev nD) : (dats m 0 c).arrAt 3 (cfgs 0).N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t _ y => ?_
  blk_simp
  rw [after0_3]; unfold Gen.outsAt0; frame_out
  idx_vars y
  pointwise [k0_pay3, k0_pay2, k0_pay1, G]
  blk_point [iblk, V, idx t]
  refine congrArg _ ?_
  entry_read
  pointwise
  blk_point [idx t]
end Mlp

theorem mlp_algebraic : Cert.algebraic_MlpIdeal_MlpRefIdeal := by
  pair_intro
  · run_from Cert.MlpIdeal.Gen.run_main m g
  · run_from Cert.MlpRefIdeal.Value.run m' g'
    rw [Mlp.final]
    funext i
    idx_vars i
    pointwise [Mlp.G]
    split
    · rfl
    · rename_i h
      rw [max_eq_right (not_lt.mp h), mul_zero, mul_zero]

end Cert.Proof

end
-- ==== Proof.AttQTile.lean ====
/- The gradient for the queries: what one trip of the kernel's loop and its diagonal block add to the two running sums, lane by lane. -/
module

public import proofs.«01_k».proof.Defs
public import proofs.«01_k».proof.Proof.Gen.AttQIdeal.Frame
public import Idealize.ShloMosaic.Lib.Claim
public import Idealize.ShloMosaic.Lib.Pointwise
public import Idealize.ShloMosaic.Lib.Pipeline.ValueKit

@[expose] public section

set_option maxRecDepth 16384

noncomputable section

namespace Cert.Proof.AttQ
open Idealize.ShloMosaic Idealize.ShloMosaic.TcCoe Idealize.SL.Sem
open Cert.AttQIdeal Cert.AttQIdeal.Gen
variable (i : grid0.Coords) (q d : FVec Ideal S512x128 .bf16) (L : FVec Ideal S1x512x2 .f32) (E : FVec Ideal S512x128 .f32)
  (κ ν : FVec Ideal S512x128 .bf16) (γ : FVec Ideal S1x1x2x512 .f32)

/-- The score of row `r` against column `c` of a block, for the first head of the pair: the product over its 64 lanes less the column's gate. -/
def sc0 (r c : Fin 512) : EReal :=
  (∑ x : Fin 128, Scalar.select (IntOp.cmpi .slt (BitVec.ofNat 32 x.val) 64#32)
    (q (ix2 r x) * Ideal.ofBits .bf16 0x3E00#16 * κ (ix2 c x)) 0) - γ (ix4 0 0 0 c)

/-- The same for the second head. -/
def sc1 (r c : Fin 512) : EReal :=
  (∑ x : Fin 128, Scalar.select (IntOp.cmpi .slt (BitVec.ofNat 32 x.val) 64#32) 0
    (q (ix2 r x) * Ideal.ofBits .bf16 0x3E00#16 * κ (ix2 c x))) - γ (ix4 0 0 1 c)

/-- The weight's gradient less the row's mean, first head. -/
def dp0 (r c : Fin 512) : EReal :=
  (∑ x : Fin 128, Scalar.select (IntOp.cmpi .slt (BitVec.ofNat 32 x.val) 64#32) (d (ix2 r x) * ν (ix2 c x)) 0)
    - ∑ x : Fin 128, Scalar.select (IntOp.cmpi .eq (BitVec.ofNat 32 x.val)
        (Scalar.addi (Scalar.muli 2#32 (BitVec.ofNat 32 (i 0).val)) 0#32)) (E (ix2 r x)) 0

/-- The same for the second head. -/
def dp1 (r c : Fin 512) : EReal :=
  (∑ x : Fin 128, Scalar.select (IntOp.cmpi .slt (BitVec.ofNat 32 x.val) 64#32) 0 (d (ix2 r x) * ν (ix2 c x)))
    - ∑ x : Fin 128, Scalar.select (IntOp.cmpi .eq (BitVec.ofNat 32 x.val)
        (Scalar.addi (Scalar.muli 2#32 (BitVec.ofNat 32 (i 0).val)) 1#32)) (E (ix2 r x)) 0

/-- The score's gradient, first head. -/
def D0 (r c : Fin 512) : EReal := Ideal.exp (sc0 q κ γ r c - L (ix3 0 r 0)) * dp0 i d E ν r c
/-- The score's gradient, second head. -/
def D1 (r c : Fin 512) : EReal := Ideal.exp (sc1 q κ γ r c - L (ix3 0 r 1)) * dp1 i d E ν r c

/-- The score's gradient on the diagonal block, nothing above the diagonal. -/
def M0 (r c : Fin 512) : EReal := if c.val ≤ r.val then D0 i q d L E κ ν γ r c else 0
/-- The same for the second head. -/
def M1 (r c : Fin 512) : EReal := if c.val ≤ r.val then D1 i q d L E κ ν γ r c else 0

/-- A row of 512 folded onto 128 lanes. -/
def fold4 (f : Fin 512 → EReal) (l : Fin 128) : EReal :=
  f ⟨l.val, by omega⟩ + f ⟨128 + l.val, by omega⟩ + f ⟨256 + l.val, by omega⟩ + f ⟨384 + l.val, by omega⟩

theorem sum4 (f : Fin 512 → EReal) : ∑ c, f c = (∑ l : Fin 128, f ⟨l.val, by omega⟩) + ((∑ l : Fin 128, f ⟨128 + l.val, by omega⟩)
    + ((∑ l : Fin 128, f ⟨256 + l.val, by omega⟩) + ∑ l : Fin 128, f ⟨384 + l.val, by omega⟩)) := by
  rw [Fin.sum_univ_two_halves 128 384 rfl f, Fin.sum_univ_two_halves 128 256 rfl, Fin.sum_univ_two_halves 128 128 rfl]
  simp only [← Nat.add_assoc]

abbrev c0 : Ideal .f32 := FloatOps.ofBits .f32 0#32

/-- Row index of a strip, from its value. -/
theorem D_at {f : Fin 512 → EReal} {a b : Fin 512} (h : a.val = b.val) : f a = f b := congrArg f (Fin.ext h)

section
variable (r : Fin 512) (l : Fin 128)
theorem s0_0 : k0_pay7 (F := Ideal) (k0_pay46 q) (k0_pay48 d) (k0_pay52 L) (k0_pay54 i E) κ ν γ (ix2 r l) = D0 i q d L E κ ν γ r ⟨l.val, by omega⟩ := by
  pointwise [k0_pay7, k0_pay8, k0_pay9, k0_pay10, k0_pay5, k0_pay6, k0_pay2, k0_pay3, k0_pay4, k0_pay46, k0_pay48,
    k0_pay52, k0_pay54, k0_pay44, k0_pay42, k0_pay43, k0_pay45, k0_pay50, k0_pay51, D0, sc0, dp0]
theorem s0_1 : k0_pay8 (F := Ideal) (k0_pay46 q) (k0_pay48 d) (k0_pay52 L) (k0_pay54 i E) κ ν γ (ix2 r l) = D0 i q d L E κ ν γ r ⟨128 + l.val, by omega⟩ := by
  pointwise [k0_pay7, k0_pay8, k0_pay9, k0_pay10, k0_pay5, k0_pay6, k0_pay2, k0_pay3, k0_pay4, k0_pay46, k0_pay48,
    k0_pay52, k0_pay54, k0_pay44, k0_pay42, k0_pay43, k0_pay45, k0_pay50, k0_pay51, D0, sc0, dp0]
theorem s0_2 : k0_pay9 (F := Ideal) (k0_pay46 q) (k0_pay48 d) (k0_pay52 L) (k0_pay54 i E) κ ν γ (ix2 r l) = D0 i q d L E κ ν γ r ⟨256 + l.val, by omega⟩ := by
  pointwise [k0_pay7, k0_pay8, k0_pay9, k0_pay10, k0_pay5, k0_pay6, k0_pay2, k0_pay3, k0_pay4, k0_pay46, k0_pay48,
    k0_pay52, k0_pay54, k0_pay44, k0_pay42, k0_pay43, k0_pay45, k0_pay50, k0_pay51, D0, sc0, dp0]
theorem s0_3 : k0_pay10 (F := Ideal) (k0_pay46 q) (k0_pay48 d) (k0_pay52 L) (k0_pay54 i E) κ ν γ (ix2 r l) = D0 i q d L E κ ν γ r ⟨384 + l.val, by omega⟩ := by
  pointwise [k0_pay7, k0_pay8, k0_pay9, k0_pay10, k0_pay5, k0_pay6, k0_pay2, k0_pay3, k0_pay4, k0_pay46, k0_pay48,
    k0_pay52, k0_pay54, k0_pay44, k0_pay42, k0_pay43, k0_pay45, k0_pay50, k0_pay51, D0, sc0, dp0]

theorem rows0 (old : FVec Ideal S1x512x128 .f32) :
    k0_pay12 (k0_pay11 (F := Ideal) (k0_pay46 q) (k0_pay48 d) (k0_pay52 L) (k0_pay54 i E) κ ν γ old) (ix3 0 r l)
      = old (ix3 0 r l) + fold4 (D0 i q d L E κ ν γ r) l := by
  pointwise [k0_pay12, k0_pay11, s0_0, s0_1, s0_2, s0_3, fold4]

variable {δ : FVec Ideal S512x128 .f32} (hδ : δ = k0_pay56 (k0_pay51 E) (k0_pay55 i) c0)
include hδ
theorem s1_0 : k0_pay16 (F := Ideal) (k0_pay47 q) (k0_pay49 d) (k0_pay53 L) δ (k0_pay2 κ) (k0_pay3 ν) (k0_pay4 γ) (ix2 r l) = D1 i q d L E κ ν γ r ⟨l.val, by omega⟩ := by
  subst hδ
  pointwise [k0_pay16, k0_pay17, k0_pay18, k0_pay19, k0_pay14, k0_pay15, k0_pay2, k0_pay3, k0_pay4, k0_pay47, k0_pay49,
    k0_pay53, k0_pay56, k0_pay55, k0_pay44, k0_pay42, k0_pay43, k0_pay45, k0_pay50, k0_pay51, D1, sc1, dp1, c0]
theorem s1_1 : k0_pay17 (F := Ideal) (k0_pay47 q) (k0_pay49 d) (k0_pay53 L) δ (k0_pay2 κ) (k0_pay3 ν) (k0_pay4 γ) (ix2 r l) = D1 i q d L E κ ν γ r ⟨128 + l.val, by omega⟩ := by
  subst hδ
  pointwise [k0_pay16, k0_pay17, k0_pay18, k0_pay19, k0_pay14, k0_pay15, k0_pay2, k0_pay3, k0_pay4, k0_pay47, k0_pay49,
    k0_pay53, k0_pay56, k0_pay55, k0_pay44, k0_pay42, k0_pay43, k0_pay45, k0_pay50, k0_pay51, D1, sc1, dp1, c0]
theorem s1_2 : k0_pay18 (F := Ideal) (k0_pay47 q) (k0_pay49 d) (k0_pay53 L) δ (k0_pay2 κ) (k0_pay3 ν) (k0_pay4 γ) (ix2 r l) = D1 i q d L E κ ν γ r ⟨256 + l.val, by omega⟩ := by
  subst hδ
  pointwise [k0_pay16, k0_pay17, k0_pay18, k0_pay19, k0_pay14, k0_pay15, k0_pay2, k0_pay3, k0_pay4, k0_pay47, k0_pay49,
    k0_pay53, k0_pay56, k0_pay55, k0_pay44, k0_pay42, k0_pay43, k0_pay45, k0_pay50, k0_pay51, D1, sc1, dp1, c0]
theorem s1_3 : k0_pay19 (F := Ideal) (k0_pay47 q) (k0_pay49 d) (k0_pay53 L) δ (k0_pay2 κ) (k0_pay3 ν) (k0_pay4 γ) (ix2 r l) = D1 i q d L E κ ν γ r ⟨384 + l.val, by omega⟩ := by
  subst hδ
  pointwise [k0_pay16, k0_pay17, k0_pay18, k0_pay19, k0_pay14, k0_pay15, k0_pay2, k0_pay3, k0_pay4, k0_pay47, k0_pay49,
    k0_pay53, k0_pay56, k0_pay55, k0_pay44, k0_pay42, k0_pay43, k0_pay45, k0_pay50, k0_pay51, D1, sc1, dp1, c0]

theorem rows1 (old : FVec Ideal S1x512x128 .f32) :
    k0_pay20 (F := Ideal) (k0_pay47 q) (k0_pay49 d) (k0_pay53 L) δ (k0_pay2 κ) (k0_pay3 ν) (k0_pay4 γ) old (ix3 0 r l)
      = old (ix3 0 r l) + fold4 (D1 i q d L E κ ν γ r) l := by
  pointwise [k0_pay20, s1_0 (hδ := hδ), s1_1 (hδ := hδ), s1_2 (hδ := hδ), s1_3 (hδ := hδ), fold4]

theorem acc (old : FVec Ideal S512x128 .f32) :
    k0_pay59 (F := Ideal) k0_pay44 (k0_pay13 (k0_pay2 κ) (k0_pay7 (k0_pay46 q) (k0_pay48 d) (k0_pay52 L) (k0_pay54 i E) κ ν γ) (k0_pay8 (k0_pay46 q) (k0_pay48 d) (k0_pay52 L) (k0_pay54 i E) κ ν γ)
        (k0_pay9 (k0_pay46 q) (k0_pay48 d) (k0_pay52 L) (k0_pay54 i E) κ ν γ) (k0_pay10 (k0_pay46 q) (k0_pay48 d) (k0_pay52 L) (k0_pay54 i E) κ ν γ)) (k0_pay21 (k0_pay47 q) (k0_pay49 d) (k0_pay53 L) δ (k0_pay2 κ) (k0_pay3 ν) (k0_pay4 γ)) old (ix2 r l)
      = old (ix2 r l) + Scalar.select (IntOp.cmpi .slt (BitVec.ofNat 32 l.val) 64#32)
          (∑ c, D0 i q d L E κ ν γ r c * κ (ix2 c l)) (∑ c, D1 i q d L E κ ν γ r c * κ (ix2 c l)) := by
  pointwise [k0_pay59, k0_pay13, k0_pay21, k0_pay44, s0_0, s0_1, s0_2, s0_3, s1_0 (hδ := hδ), s1_1 (hδ := hδ), s1_2 (hδ := hδ), s1_3 (hδ := hδ)]
  refine congrArg _ (congrArg₂ _ (Finset.sum_congr rfl fun x _ => ?_) (Finset.sum_congr rfl fun x _ => ?_)) <;> pointwise [k0_pay2] <;> congr 1 <;> split_ifs <;>
    exact D_at (by first | rfl | omega | (dsimp only; omega))

omit hδ in
/-- A masked score: its exponential is nothing. -/
theorem masked {a b R : ℕ} (o : ℕ) (ha : a < 512) (hb : b < 512) (ho : o < 512) (hR : R = o + a) (s t g : EReal) :
    Ideal.exp (Scalar.select (IntOp.cmpi .sge (IntOp.addi (BitVec.ofNat 32 a) (BitVec.ofNat 32 o)) (IntOp.addi (BitVec.ofNat 32 b) 0#32)) s
      (Ideal.ofBits .f32 0xFF800000#32) - t) * g = if b ≤ R then Ideal.exp (s - t) * g else 0 := by
  subst hR
  have e : IntOp.cmpi .sge (IntOp.addi (BitVec.ofNat 32 a) (BitVec.ofNat 32 o)) (IntOp.addi (BitVec.ofNat 32 b) 0#32) = if b ≤ o + a then 1#1 else 0#1 := by
    rw [WordCmp.addi_ofNat, WordCmp.addi_ofNat, WordCmp.cmpi_sge_ofNat (by omega) (by omega), WordCmp.ofBool_decide_eq_ite, Nat.add_zero, Nat.add_comm o a]
  have hb : Ideal.ofBits .f32 0xFF800000#32 = ⊥ := by
    simp [Ideal.ofBits, Ideal.ieee]
  rw [e, hb]
  split_ifs with h
  · rfl
  · show Ideal.exp (⊥ - t) * g = 0
    rw [sub_eq_add_neg, EReal.bot_add, Ideal.exp_bot, zero_mul]

variable (u : Fin 256)
omit hδ in
theorem t0_0 : k0_pay71 (F := Ideal) (k0_pay48 d) (k0_pay52 L) (k0_pay54 i E) (k0_pay63 γ) (k0_pay64 κ) (k0_pay65 ν) (k0_pay66 (k0_pay46 q)) (constant S256x256 .f32 0x00000000#32) (ix2 u l) = M0 i q d L E κ ν γ ⟨u.val, by omega⟩ ⟨l.val, by omega⟩ := by
  unfold k0_pay71 M0 D0 sc0 dp0
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 0 ?_ ?_ ?_ ?_ _ _ _ <;> (try dsimp only) <;> omega
omit hδ in
theorem t0_1 : k0_pay72 (F := Ideal) (k0_pay48 d) (k0_pay52 L) (k0_pay54 i E) (k0_pay63 γ) (k0_pay64 κ) (k0_pay65 ν) (k0_pay66 (k0_pay46 q)) (constant S256x256 .f32 0x00000000#32) (ix2 u l) = M0 i q d L E κ ν γ ⟨u.val, by omega⟩ ⟨128 + l.val, by omega⟩ := by
  unfold k0_pay72 M0 D0 sc0 dp0
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 0 ?_ ?_ ?_ ?_ _ _ _ <;> (try dsimp only) <;> omega
theorem t1_0 : k0_pay81 (F := Ideal) (k0_pay49 d) (k0_pay53 L) δ (k0_pay65 ν) (k0_pay75 (k0_pay47 q) (k0_pay63 γ) (k0_pay64 κ)) (iota .tc S256x256 32 [0] iota_S256x256_d0_w32) k0_pay76 (ix2 u l) = M1 i q d L E κ ν γ ⟨u.val, by omega⟩ ⟨l.val, by omega⟩ := by
  subst hδ
  unfold k0_pay81 M1 D1 sc1 dp1
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 0 ?_ ?_ ?_ ?_ _ _ _ <;> (try dsimp only) <;> omega
theorem t1_1 : k0_pay82 (F := Ideal) (k0_pay49 d) (k0_pay53 L) δ (k0_pay65 ν) (k0_pay75 (k0_pay47 q) (k0_pay63 γ) (k0_pay64 κ)) (iota .tc S256x256 32 [0] iota_S256x256_d0_w32) k0_pay76 (ix2 u l) = M1 i q d L E κ ν γ ⟨u.val, by omega⟩ ⟨128 + l.val, by omega⟩ := by
  subst hδ
  unfold k0_pay82 M1 D1 sc1 dp1
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 0 ?_ ?_ ?_ ?_ _ _ _ <;> (try dsimp only) <;> omega
omit hδ in
theorem b0_0 : k0_pay91 (F := Ideal) (k0_pay48 d) (k0_pay52 L) (k0_pay54 i E) (k0_pay62 ν) (k0_pay85 (k0_pay46 q) (k0_pay61 κ)) (k0_pay86 (k0_pay63 γ)) (ix2 u l) = M0 i q d L E κ ν γ ⟨256 + u.val, by omega⟩ ⟨l.val, by omega⟩ := by
  unfold k0_pay91 M0 D0 sc0 dp0
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega
omit hδ in
theorem b0_1 : k0_pay92 (F := Ideal) (k0_pay48 d) (k0_pay52 L) (k0_pay54 i E) (k0_pay62 ν) (k0_pay85 (k0_pay46 q) (k0_pay61 κ)) (k0_pay86 (k0_pay63 γ)) (ix2 u l) = M0 i q d L E κ ν γ ⟨256 + u.val, by omega⟩ ⟨128 + l.val, by omega⟩ := by
  unfold k0_pay92 M0 D0 sc0 dp0
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega
omit hδ in
theorem b0_2 : k0_pay93 (F := Ideal) (k0_pay48 d) (k0_pay52 L) (k0_pay54 i E) (k0_pay62 ν) (k0_pay85 (k0_pay46 q) (k0_pay61 κ)) (k0_pay86 (k0_pay63 γ)) (ix2 u l) = M0 i q d L E κ ν γ ⟨256 + u.val, by omega⟩ ⟨256 + l.val, by omega⟩ := by
  unfold k0_pay93 M0 D0 sc0 dp0
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega
omit hδ in
theorem b0_3 : k0_pay94 (F := Ideal) (k0_pay48 d) (k0_pay52 L) (k0_pay54 i E) (k0_pay62 ν) (k0_pay85 (k0_pay46 q) (k0_pay61 κ)) (k0_pay86 (k0_pay63 γ)) (ix2 u l) = M0 i q d L E κ ν γ ⟨256 + u.val, by omega⟩ ⟨384 + l.val, by omega⟩ := by
  unfold k0_pay94 M0 D0 sc0 dp0
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega
theorem b1_0 : k0_pay102 (F := Ideal) (k0_pay47 q) (k0_pay49 d) (k0_pay53 L) δ (k0_pay61 κ) (k0_pay62 ν) (k0_pay63 γ) (ix2 u l) = M1 i q d L E κ ν γ ⟨256 + u.val, by omega⟩ ⟨l.val, by omega⟩ := by
  subst hδ
  unfold k0_pay102 M1 D1 sc1 dp1
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega
theorem b1_1 : k0_pay103 (F := Ideal) (k0_pay47 q) (k0_pay49 d) (k0_pay53 L) δ (k0_pay61 κ) (k0_pay62 ν) (k0_pay63 γ) (ix2 u l) = M1 i q d L E κ ν γ ⟨256 + u.val, by omega⟩ ⟨128 + l.val, by omega⟩ := by
  subst hδ
  unfold k0_pay103 M1 D1 sc1 dp1
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega
theorem b1_2 : k0_pay104 (F := Ideal) (k0_pay47 q) (k0_pay49 d) (k0_pay53 L) δ (k0_pay61 κ) (k0_pay62 ν) (k0_pay63 γ) (ix2 u l) = M1 i q d L E κ ν γ ⟨256 + u.val, by omega⟩ ⟨256 + l.val, by omega⟩ := by
  subst hδ
  unfold k0_pay104 M1 D1 sc1 dp1
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega
theorem b1_3 : k0_pay105 (F := Ideal) (k0_pay47 q) (k0_pay49 d) (k0_pay53 L) δ (k0_pay61 κ) (k0_pay62 ν) (k0_pay63 γ) (ix2 u l) = M1 i q d L E κ ν γ ⟨256 + u.val, by omega⟩ ⟨384 + l.val, by omega⟩ := by
  subst hδ
  unfold k0_pay105 M1 D1 sc1 dp1
  pointwise [k0_pay2, k0_pay3, k0_pay4, k0_pay46, k0_pay47, k0_pay48, k0_pay49, k0_pay52, k0_pay53, k0_pay54, k0_pay56, k0_pay55, k0_pay44, k0_pay42, k0_pay43, k0_pay45, k0_pay50, k0_pay51, k0_pay61, k0_pay62, k0_pay63, k0_pay64, k0_pay65, k0_pay66, k0_pay75, k0_pay76, k0_pay85, k0_pay86, k0_pay87, k0_pay88, k0_pay89, k0_pay90, k0_pay98, k0_pay99, k0_pay100, k0_pay101, k0_pay67, k0_pay68, k0_pay69, k0_pay70, k0_pay77, k0_pay78, k0_pay79, k0_pay80, c0]
  refine masked 256 ?_ ?_ ?_ ?_ _ _ _ <;> (try dsimp only) <;> omega

omit hδ in
theorem M0_far (v : Fin 512) (c : Fin 512) (h : v.val < c.val) : M0 i q d L E κ ν γ v c = 0 := if_neg (by omega)
omit hδ in
theorem M1_far (v : Fin 512) (c : Fin 512) (h : v.val < c.val) : M1 i q d L E κ ν γ v c = 0 := if_neg (by omega)

omit hδ in
/-- A row that is nothing from column 256 on, folded. -/
theorem fold4_half (f : Fin 512 → EReal) (h : ∀ c : Fin 512, 256 ≤ c.val → f c = 0) :
    fold4 f l = f ⟨l.val, by omega⟩ + f ⟨128 + l.val, by omega⟩ := by
  unfold fold4
  rw [h ⟨256 + l.val, by omega⟩ (by dsimp only; omega), h ⟨384 + l.val, by omega⟩ (by dsimp only; omega), add_zero, add_zero]

omit hδ in
theorem sum_half (f : Fin 512 → EReal) (h : ∀ c : Fin 512, 256 ≤ c.val → f c = 0) : ∑ c, f c = ∑ c : Fin 256, f ⟨c.val, by omega⟩ := by
  have e : ∑ c : Fin 256, f ⟨256 + c.val, by omega⟩ = 0 := Finset.sum_eq_zero fun c _ => h _ (by dsimp only; omega)
  rw [Fin.sum_univ_two_halves 256 256 rfl f, e, add_zero]

omit hδ in
theorem rowsT0 (old : FVec Ideal S1x256x128 .f32) : k0_pay73 (F := Ideal) (k0_pay48 d) (k0_pay52 L) (k0_pay54 i E) (k0_pay63 γ) (k0_pay64 κ) (k0_pay65 ν) (k0_pay66 (k0_pay46 q)) (constant S256x256 .f32 0x00000000#32) old (ix3 0 u l)
    = old (ix3 0 u l) + fold4 (M0 i q d L E κ ν γ ⟨u.val, by omega⟩) l := by
  rw [fold4_half _ _ fun c hc => M0_far i q d L E κ ν γ _ c (by dsimp only; omega)]
  pointwise [k0_pay73, t0_0, t0_1]

theorem rowsT1 (old : FVec Ideal S1x256x128 .f32) : k0_pay83 (F := Ideal) (k0_pay49 d) (k0_pay53 L) δ (k0_pay65 ν) (k0_pay75 (k0_pay47 q) (k0_pay63 γ) (k0_pay64 κ)) (iota .tc S256x256 32 [0] iota_S256x256_d0_w32) k0_pay76 old (ix3 0 u l)
    = old (ix3 0 u l) + fold4 (M1 i q d L E κ ν γ ⟨u.val, by omega⟩) l := by
  rw [fold4_half _ _ fun c hc => M1_far i q d L E κ ν γ _ c (by dsimp only; omega)]
  pointwise [k0_pay83, t1_0 (hδ := hδ), t1_1 (hδ := hδ)]

omit hδ in
theorem rowsB0 (old : FVec Ideal S1x256x128 .f32) : k0_pay95 (F := Ideal) (k0_pay48 d) (k0_pay52 L) (k0_pay54 i E) (k0_pay62 ν) (k0_pay85 (k0_pay46 q) (k0_pay61 κ)) (k0_pay86 (k0_pay63 γ)) old (ix3 0 u l)
    = old (ix3 0 u l) + fold4 (M0 i q d L E κ ν γ ⟨256 + u.val, by omega⟩) l := by
  pointwise [k0_pay95, b0_0, b0_1, b0_2, b0_3, fold4]

theorem rowsB1 (old : FVec Ideal S1x256x128 .f32) : k0_pay107 (k0_pay106 (F := Ideal) (k0_pay47 q) (k0_pay49 d) (k0_pay53 L) δ (k0_pay61 κ) (k0_pay62 ν) (k0_pay63 γ) old) (ix3 0 u l)
    = old (ix3 0 u l) + fold4 (M1 i q d L E κ ν γ ⟨256 + u.val, by omega⟩) l := by
  pointwise [k0_pay106, k0_pay107, b1_0 (hδ := hδ), b1_1 (hδ := hδ), b1_2 (hδ := hδ), b1_3 (hδ := hδ), fold4]

theorem accT (old : FVec Ideal S256x128 .f32) :
    k0_pay84 (F := Ideal) k0_pay44 (k0_pay49 d) (k0_pay53 L) δ (k0_pay64 κ) (k0_pay65 ν) (k0_pay74 (k0_pay48 d) (k0_pay52 L) (k0_pay54 i E) (k0_pay63 γ) (k0_pay64 κ) (k0_pay65 ν) (k0_pay66 (k0_pay46 q)) (constant S256x256 .f32 0x00000000#32))
        (k0_pay75 (k0_pay47 q) (k0_pay63 γ) (k0_pay64 κ)) (iota .tc S256x256 32 [0] iota_S256x256_d0_w32) k0_pay76 old (ix2 u l)
      = old (ix2 u l) + Scalar.select (IntOp.cmpi .slt (BitVec.ofNat 32 l.val) 64#32)
          (∑ c, M0 i q d L E κ ν γ ⟨u.val, by omega⟩ c * κ (ix2 c l)) (∑ c, M1 i q d L E κ ν γ ⟨u.val, by omega⟩ c * κ (ix2 c l)) := by
  rw [sum_half _ fun c hc => by rw [M0_far i q d L E κ ν γ _ c (by dsimp only; omega), zero_mul],
    sum_half _ fun c hc => by rw [M1_far i q d L E κ ν γ _ c (by dsimp only; omega), zero_mul]]
  rw [Fin.sum_univ_two_halves 128 128 rfl, Fin.sum_univ_two_halves 128 128 rfl]
  pointwise [k0_pay84, k0_pay74, k0_pay44, t0_0, t0_1, t1_0 (hδ := hδ), t1_1 (hδ := hδ)]
  pointwise [k0_pay64, k0_pay61]

theorem accB (old : FVec Ideal S256x128 .f32) :
    k0_pay108 (F := Ideal) k0_pay44 (k0_pay61 κ) (k0_pay97 (k0_pay61 κ) (k0_pay96 (k0_pay48 d) (k0_pay52 L) (k0_pay54 i E) (k0_pay62 ν) (k0_pay85 (k0_pay46 q) (k0_pay61 κ)) (k0_pay86 (k0_pay63 γ)))) (k0_pay102 (k0_pay47 q) (k0_pay49 d) (k0_pay53 L) δ (k0_pay61 κ) (k0_pay62 ν) (k0_pay63 γ)) (k0_pay103 (k0_pay47 q) (k0_pay49 d) (k0_pay53 L) δ (k0_pay61 κ) (k0_pay62 ν) (k0_pay63 γ)) (k0_pay104 (k0_pay47 q) (k0_pay49 d) (k0_pay53 L) δ (k0_pay61 κ) (k0_pay62 ν) (k0_pay63 γ)) (k0_pay105 (k0_pay47 q) (k0_pay49 d) (k0_pay53 L) δ (k0_pay61 κ) (k0_pay62 ν) (k0_pay63 γ))
        old (ix2 u l)
      = old (ix2 u l) + Scalar.select (IntOp.cmpi .slt (BitVec.ofNat 32 l.val) 64#32)
          (∑ c, M0 i q d L E κ ν γ ⟨256 + u.val, by omega⟩ c * κ (ix2 c l)) (∑ c, M1 i q d L E κ ν γ ⟨256 + u.val, by omega⟩ c * κ (ix2 c l)) := by
  pointwise [k0_pay108, k0_pay97, k0_pay96, k0_pay44, b0_0, b0_1, b0_2, b0_3, b1_0 (hδ := hδ), b1_1 (hδ := hδ), b1_2 (hδ := hδ), b1_3 (hδ := hδ)]
  refine congrArg _ (congrArg₂ _ (Finset.sum_congr rfl fun x _ => ?_) (Finset.sum_congr rfl fun x _ => ?_)) <;> pointwise [k0_pay61] <;> congr 1 <;>
    split_ifs <;> exact D_at (by first | rfl | omega | (dsimp only; omega))
end
end Cert.Proof.AttQ
end
-- ==== Proof.AttCanon.lean ====
/- What a list of stores leaves at an index: its last store there. And a running sum over the first blocks. -/
module

public import Idealize.ShloMosaic.Lib.Claim
public import Idealize.ShloMosaic.Lib.Pointwise
public import Idealize.ShloMosaic.Lib.Pipeline.ValueKit

@[expose] public section

set_option maxRecDepth 16384

noncomputable section

namespace Cert.Proof.Att
open Idealize.ShloMosaic Idealize.ShloMosaic.TcCoe Idealize.SL.Sem

/-- Under the last store, its payload. -/
theorem hit {S : Shape} {e : EltTy} {off size : Fin S.rank → ℕ} {inb : ∀ a, off a + size a ≤ S.size a}
    (w : (Rect.unit off size inb).shape.Idx → Elt Ideal e) (T : List (View.Piece (Elt Ideal) S e)) (y : S.Idx) (x : (Rect.unit off size inb).shape.Idx)
    (h : ∀ a, (y a).val = off a + (x a).val) : View.canon (⟨Rect.unit off size inb, w⟩ :: T) y = w x := by
  have e : y = (Rect.unit off size inb).emb x := funext fun a => Fin.ext ((h a).trans (Rect.idx_unit_val off size inb x a).symm)
  rw [e]; exact View.canon_cons_emb _ w T x

/-- Off the last store, what the earlier ones left. -/
theorem miss {S : Shape} {e : EltTy} {off size : Fin S.rank → ℕ} {inb : ∀ a, off a + size a ≤ S.size a}
    (w : (Rect.unit off size inb).shape.Idx → Elt Ideal e) (T : List (View.Piece (Elt Ideal) S e)) (y : S.Idx) (a : Fin S.rank)
    (h : (y a).val < off a ∨ off a + size a ≤ (y a).val) : View.canon (⟨Rect.unit off size inb, w⟩ :: T) y = View.canon T y :=
  View.canon_cons_of_not_mem _ T fun hm => by
    have := (Rect.mem_set_unit (inb := inb)).mp hm a
    omega

/-- The sum over the blocks before `n`. -/
def upto (T : Fin 32 → EReal) (n : ℕ) : EReal := ∑ b, if b.val < n then T b else 0

theorem upto_zero (T : Fin 32 → EReal) : upto T 0 = 0 := Finset.sum_eq_zero fun b _ => if_neg (Nat.not_lt_zero _)

theorem upto_succ (T : Fin 32 → EReal) (k : Fin 32) : upto T (k.val + 1) = upto T k.val + T k := by
  have h : T k = ∑ b, if b = k then T b else 0 := by rw [Finset.sum_ite_eq' Finset.univ k T, if_pos (Finset.mem_univ k)]
  rw [h, upto, upto, ← Finset.sum_add_distrib]
  refine Finset.sum_congr rfl fun b _ => ?_
  by_cases hb : b = k
  · subst hb; simp
  · have : b.val ≠ k.val := fun e => hb (Fin.ext e)
    by_cases h1 : b.val < k.val
    · rw [if_pos (by omega), if_pos h1, if_neg hb, add_zero]
    · rw [if_neg (by omega), if_neg h1, if_neg hb, add_zero]

end Cert.Proof.Att
end
-- ==== Proof.AttQLoop.lean ====
/- The gradient for the queries: the loop over the key blocks below the diagonal, as a running sum of blocks. -/
module

public import proofs.«01_k».proof.Proof.AttQTile
public import proofs.«01_k».proof.Proof.AttCanon

@[expose] public section

set_option maxRecDepth 16384

noncomputable section

namespace Cert.Proof.AttQ
open Idealize.ShloMosaic Idealize.ShloMosaic.TcCoe Idealize.SL.Sem
open Cert.AttQIdeal Cert.AttQIdeal.Gen

theorem trips0 (i : grid0.Coords) : (k0_t1_loop i 0#32).trips = (i 1).val := by
  have h : ∀ b : Fin 32, Scf.trips 0#32 (Scalar.addi 0#32 (Scalar.muli (Scalar.divsi (Scalar.subi (BitVec.ofNat 32 b.val) 0#32) 1#32) 1#32)) 1#32 = b.val := by
    decide +kernel
  exact h (i 1)

theorem off2 (i : grid0.Coords) (k : Fin (k0_t1_loop i 0#32).trips) : k0_off2 i 0#32 k = ![512 * k.val, 0] := by
  have h : ∀ b : Fin 32, (Scalar.indexCast (Scalar.muli (Scf.iv 0#32 1#32 b.val) 512#32)).toNat = 512 * b.val := by decide +kernel
  have hk : k.val < 32 := lt_of_lt_of_le k.isLt (by rw [trips0]; exact (i 1).isLt.le)
  exact congrArg (fun n : ℕ => (![n, 0] : Fin 2 → ℕ)) (h ⟨k.val, hk⟩)

theorem off3 (i : grid0.Coords) (k : Fin (k0_t1_loop i 0#32).trips) : k0_off3 i 0#32 k = ![0, k.val, 0, 0] := by
  have h : ∀ b : Fin 32, (Scalar.indexCast (Scf.iv 0#32 1#32 b.val)).toNat = b.val := by decide +kernel
  have hk : k.val < 32 := lt_of_lt_of_le k.isLt (by rw [trips0]; exact (i 1).isLt.le)
  exact congrArg (fun n : ℕ => (![0, n, 0, 0] : Fin 4 → ℕ)) (h ⟨k.val, hk⟩)

/-- The rows of key block `b`. -/
def KB (x : FVec Ideal S16384x128 .bf16) (b : Fin 32) : FVec Ideal S512x128 .bf16 := fun y => x (ix2 ⟨512 * b.val + (y 0).val, by
  have h : (y 0).val < 512 := (y 0).isLt
  omega⟩ (y 1))
/-- The column gates of block `b`. -/
def CB (x : FVec Ideal S1x32x2x512 .f32) (b : Fin 32) : FVec Ideal S1x1x2x512 .f32 := fun y => x (ix4 0 b (y 2) (y 3))

theorem ldK (x : FVec Ideal S16384x128 .bf16) (b : Fin 32) (off : Fin 2 → ℕ) (h : off = ![512 * b.val, 0]) (inb) :
    View.ld (Val := Elt Ideal) (e' := .bf16) x (Rect.unit (s := S16384x128) off S512x128.size inb) = KB x b := by
  subst h
  funext y
  refine View.ld_unit_apply_of (Val := Elt Ideal) (e := .bf16) x _ _ inb y _ fun a => ?_
  match a with
  | ⟨0, _⟩ => rfl
  | ⟨1, _⟩ => exact (Nat.zero_add _).symm

theorem ldC (x : FVec Ideal S1x32x2x512 .f32) (b : Fin 32) (off : Fin 4 → ℕ) (h : off = ![0, b.val, 0, 0]) (inb) :
    View.ld (Val := Elt Ideal) (e' := .f32) x (Rect.unit (s := S1x32x2x512) off S1x1x2x512.size inb) = CB x b := by
  subst h
  funext y
  have h0 : (y 0).val = 0 := Nat.lt_one_iff.mp (y 0).isLt
  have h1 : (y 1).val = 0 := Nat.lt_one_iff.mp (y 1).isLt
  refine View.ld_unit_apply_of (Val := Elt Ideal) (e := .f32) x _ _ inb y _ fun a => ?_
  match a with
  | ⟨0, _⟩ => show 0 = 0 + (y 0).val; omega
  | ⟨1, _⟩ => show b.val = b.val + (y 1).val; omega
  | ⟨2, _⟩ => exact (Nat.zero_add _).symm
  | ⟨3, _⟩ => exact (Nat.zero_add _).symm

section
variable (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x32x2x512 .f32) (harg7 : arg7.IsWhole) (arg8 : Memref sig .tc .vmem S1x512x2 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S1x1x2x512 .f32) (harg11 : arg11.IsWhole) (arg12 : Memref sig .tc .vmem S512x128 .f32) (harg12 : arg12.IsWhole) (arg13 : Memref sig .tc .vmem S2x512x128 .f32) (harg13 : arg13.IsWhole) (arg0 arg1 : BitVec 32)
  (q d : FVec Ideal S512x128 .bf16) (L : FVec Ideal S1x512x2 .f32) (E : FVec Ideal S512x128 .f32) (x2 x3 : FVec Ideal S16384x128 .bf16)
  (x4 : FVec Ideal S1x32x2x512 .f32) (hw1 : k0_chk1 i 0#32)

/-- One trip's stores: the running sums read, the block's share added, for block `b`. -/
theorem trip (k : Fin (k0_t1_loop i 0#32).trips) (b : Fin 32) (hb : b.val = k.val) (f12 f13) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 k0_pay44 (k0_pay46 q) (k0_pay47 q) (k0_pay48 d) (k0_pay49 d)
      (k0_pay51 E) (k0_pay52 L) (k0_pay53 L) (k0_pay54 i E) (k0_pay55 i) c0 0#32 hw1 (harg5.unread x2) (harg6.unread x3) (harg7.unread x4) k f12 f13
    = ([⟨Rect.unit ![0, 0] ![512, 128] inb_S512x128_S512x128_0_0, k0_pay59 k0_pay44 (k0_pay13 (k0_pay2 (KB x2 b))
            (k0_pay7 (k0_pay46 q) (k0_pay48 d) (k0_pay52 L) (k0_pay54 i E) (KB x2 b) (KB x3 b) (CB x4 b))
            (k0_pay8 (k0_pay46 q) (k0_pay48 d) (k0_pay52 L) (k0_pay54 i E) (KB x2 b) (KB x3 b) (CB x4 b))
            (k0_pay9 (k0_pay46 q) (k0_pay48 d) (k0_pay52 L) (k0_pay54 i E) (KB x2 b) (KB x3 b) (CB x4 b))
            (k0_pay10 (k0_pay46 q) (k0_pay48 d) (k0_pay52 L) (k0_pay54 i E) (KB x2 b) (KB x3 b) (CB x4 b)))
          (k0_pay21 (k0_pay47 q) (k0_pay49 d) (k0_pay53 L) (k0_pay56 (k0_pay51 E) (k0_pay55 i) c0) (k0_pay2 (KB x2 b)) (k0_pay3 (KB x3 b)) (k0_pay4 (CB x4 b)))
          (View.ld (View.read (Elt Ideal) arg12.view f12) (Rect.unit ![0, 0] ![512, 128] inb_S512x128_S512x128_0_0))⟩],
      [⟨Rect.unit ![1, 0, 0] ![1, 512, 128] inb_S2x512x128_S1x512x128_1_0_0,
          k0_pay20 (k0_pay47 q) (k0_pay49 d) (k0_pay53 L) (k0_pay56 (k0_pay51 E) (k0_pay55 i) c0) (k0_pay2 (KB x2 b)) (k0_pay3 (KB x3 b)) (k0_pay4 (CB x4 b))
            (View.ld (View.read (Elt Ideal) arg13.view f13) (Rect.unit ![1, 0, 0] ![1, 512, 128] inb_S2x512x128_S1x512x128_1_0_0))⟩,
       ⟨Rect.unit ![0, 0, 0] ![1, 512, 128] inb_S2x512x128_S1x512x128_0_0_0,
          k0_pay12 (k0_pay11 (k0_pay46 q) (k0_pay48 d) (k0_pay52 L) (k0_pay54 i E) (KB x2 b) (KB x3 b) (CB x4 b)
            (View.ld (View.read (Elt Ideal) arg13.view f13) (Rect.unit ![0, 0, 0] ![1, 512, 128] inb_S2x512x128_S1x512x128_0_0_0)))⟩]) := by
  have h2 : k0_off2 i 0#32 k = ![512 * b.val, 0] := by rw [off2, hb]
  have h3 : k0_off3 i 0#32 k = ![0, b.val, 0, 0] := by rw [off3, hb]
  rw [← ldK x2 b _ h2 (hw1.2.2.1 k), ← ldK x3 b _ h2 (hw1.2.2.1 k), ← ldC x4 b _ h3 (hw1.2.2.2.1 k)]
  unfold tripL_k0_t1 trip_k0_t1
  dsimp only
  unfold trip_k0_t1.sl.r_8 trip_k0_t1.sl.r_9 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r trip_k0_t1.sl.v378
  simp only [View.readAt_eq_ld, harg5.read_unread, harg6.read_unread, harg7.read_unread]

/-- What block `b` adds to the queries' gradient at row `r`, lane `l`. -/
def TA (r : Fin 512) (l : Fin 128) (b : Fin 32) : EReal := Scalar.select (IntOp.cmpi .slt (BitVec.ofNat 32 l.val) 64#32)
  (∑ c, D0 i q d L E (KB x2 b) (KB x3 b) (CB x4 b) r c * KB x2 b (ix2 c l)) (∑ c, D1 i q d L E (KB x2 b) (KB x3 b) (CB x4 b) r c * KB x2 b (ix2 c l))
/-- What it adds to the row's gate, first head. -/
def T0 (r : Fin 512) (l : Fin 128) (b : Fin 32) : EReal := fold4 (D0 i q d L E (KB x2 b) (KB x3 b) (CB x4 b) r) l
/-- The same for the second head. -/
def T1 (r : Fin 512) (l : Fin 128) (b : Fin 32) : EReal := fold4 (D1 i q d L E (KB x2 b) (KB x3 b) (CB x4 b) r) l

/-- The stores of the trips before `n`. -/
abbrev pb (A0 : List (View.Piece (Elt Ideal) S512x128 .f32)) (B0 : List (View.Piece (Elt Ideal) S2x512x128 .f32)) (n : ℕ) :=
  pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 k0_pay44 (k0_pay46 q) (k0_pay47 q) (k0_pay48 d) (k0_pay49 d)
      (k0_pay51 E) (k0_pay52 L) (k0_pay53 L) (k0_pay54 i E) (k0_pay55 i) c0 0#32 hw1 (harg5.unread x2) (harg6.unread x3) (harg7.unread x4) (arg12.view.writes (Elt Ideal) arg12.view.junk A0) (arg13.view.writes (Elt Ideal) arg13.view.junk B0) n

theorem inv (A0 : List (View.Piece (Elt Ideal) S512x128 .f32)) (B0 : List (View.Piece (Elt Ideal) S2x512x128 .f32))
    (hA : ∀ r l, View.canon A0 (ix2 r l) = 0) (hB : ∀ e r l, View.canon B0 (ix3 e r l) = 0) (n : ℕ) (hn : n ≤ (i 1).val) :
    (∀ r l, View.canon ((pb 𝒱 c bd i arg2 harg2 arg3 harg3 arg4 harg4 arg5 harg5 arg6 harg6 arg7 harg7 arg8 harg8 arg9 harg9 arg10 harg10 arg11 harg11 arg12 harg12 arg13 harg13 arg0 arg1 q d L E x2 x3 x4 hw1 A0 B0 n).1 ++ A0) (ix2 r l) = Att.upto (TA i q d L E x2 x3 x4 r l) n) ∧
    (∀ r l, View.canon ((pb 𝒱 c bd i arg2 harg2 arg3 harg3 arg4 harg4 arg5 harg5 arg6 harg6 arg7 harg7 arg8 harg8 arg9 harg9 arg10 harg10 arg11 harg11 arg12 harg12 arg13 harg13 arg0 arg1 q d L E x2 x3 x4 hw1 A0 B0 n).2 ++ B0) (ix3 0 r l) = Att.upto (T0 i q d L E x2 x3 x4 r l) n) ∧
    (∀ r l, View.canon ((pb 𝒱 c bd i arg2 harg2 arg3 harg3 arg4 harg4 arg5 harg5 arg6 harg6 arg7 harg7 arg8 harg8 arg9 harg9 arg10 harg10 arg11 harg11 arg12 harg12 arg13 harg13 arg0 arg1 q d L E x2 x3 x4 hw1 A0 B0 n).2 ++ B0) (ix3 1 r l) = Att.upto (T1 i q d L E x2 x3 x4 r l) n) := by
  induction n with
  | zero =>
    unfold pb pb_k0_t1
    simp only [List.nil_append, Att.upto_zero]
    exact ⟨hA, hB 0, hB 1⟩
  | succ n ih =>
    obtain ⟨ia, i0, i1⟩ := ih (by omega)
    have hk : n < (k0_t1_loop i 0#32).trips := by rw [trips0]; omega
    have h32 : n < 32 := lt_of_lt_of_le (Nat.lt_of_succ_le hn) (Nat.le_of_lt (i 1).isLt)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg0 arg1 k0_pay44 (k0_pay46 q) (k0_pay47 q) (k0_pay48 d) (k0_pay49 d)
      (k0_pay51 E) (k0_pay52 L) (k0_pay53 L) (k0_pay54 i E) (k0_pay55 i) c0 0#32 hw1 (harg5.unread x2) (harg6.unread x3) (harg7.unread x4) (arg12.view.writes (Elt Ideal) arg12.view.junk A0) (arg13.view.writes (Elt Ideal) arg13.view.junk B0) ⟨n, hk⟩
    rw [trip 𝒱 c bd i arg2 harg2 arg3 harg3 arg4 harg4 arg5 harg5 arg6 harg6 arg7 harg7 arg8 harg8 arg9 harg9 arg10 harg10 arg11 harg11 arg12 harg12 arg13 harg13 arg0 arg1 q d L E x2 x3 x4 hw1 ⟨n, hk⟩ ⟨n, h32⟩ rfl] at e
    unfold pb at ia i0 i1 ⊢
    dsimp only at e
    rw [e]
    simp only [← View.writes_append, View.read_writes_junk_eq_canon, List.cons_append, List.nil_append]
    refine ⟨fun r l => ?_, fun r l => ?_, fun r l => ?_⟩
    · rw [Att.upto_succ _ ⟨n, h32⟩]
      refine (Att.hit _ _ _ (ix2 r l) fun a => ?_).trans ?_
      · match a with
        | ⟨0, _⟩ => exact (Nat.zero_add _).symm
        | ⟨1, _⟩ => exact (Nat.zero_add _).symm
      · refine (acc i q d L E _ _ _ r l rfl _).trans ?_
        refine congrArg₂ (· + ·) ?_ rfl
        rw [← ia r l]
        refine View.ld_unit_apply_of _ _ _ _ _ _ fun a => ?_
        match a with
        | ⟨0, _⟩ => exact (Nat.zero_add _).symm
        | ⟨1, _⟩ => exact (Nat.zero_add _).symm
    · rw [Att.upto_succ _ ⟨n, h32⟩]
      rw [Att.miss _ _ _ 0 (Or.inl Nat.zero_lt_one)]
      refine (Att.hit _ _ _ (ix3 0 r l) fun a => ?_).trans ?_
      · match a with
        | ⟨0, _⟩ => rfl
        | ⟨1, _⟩ => exact (Nat.zero_add _).symm
        | ⟨2, _⟩ => exact (Nat.zero_add _).symm
      · refine (rows0 i q d L E _ _ _ r l _).trans ?_
        refine congrArg₂ (· + ·) ?_ rfl
        rw [← i0 r l]
        refine View.ld_unit_apply_of _ _ _ _ _ _ fun a => ?_
        match a with
        | ⟨0, _⟩ => rfl
        | ⟨1, _⟩ => exact (Nat.zero_add _).symm
        | ⟨2, _⟩ => exact (Nat.zero_add _).symm
    · rw [Att.upto_succ _ ⟨n, h32⟩]
      refine (Att.hit _ _ _ (ix3 0 r l) fun a => ?_).trans ?_
      · match a with
        | ⟨0, _⟩ => rfl
        | ⟨1, _⟩ => exact (Nat.zero_add _).symm
        | ⟨2, _⟩ => exact (Nat.zero_add _).symm
      · refine (rows1 i q d L E _ _ _ r l rfl _).trans ?_
        refine congrArg₂ (· + ·) ?_ rfl
        rw [← i1 r l]
        refine View.ld_unit_apply_of _ _ _ _ _ _ fun a => ?_
        match a with
        | ⟨0, _⟩ => rfl
        | ⟨1, _⟩ => exact (Nat.zero_add _).symm
        | ⟨2, _⟩ => exact (Nat.zero_add _).symm
end
end Cert.Proof.AttQ
end
-- ==== Proof.AttMath.lean ====
/- The forgetting attention's softmax and its gradient over the real numbers, and the sums both programs take over a row. -/
module

public import proofs.«01_k».proof.Proof.AttCanon
public import Idealize.ShloMosaic.Lib.Claim
public import Idealize.ShloMosaic.Lib.Pointwise
public import Idealize.ShloMosaic.Lib.Pipeline.ValueKit

@[expose] public section

set_option maxRecDepth 16384

noncomputable section

namespace Cert.Proof.Att
open Idealize.ShloMosaic Idealize.ShloMosaic.TcCoe Idealize.SL.Sem

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x y : ℝ) : ((if p then x else y : ℝ) : EReal) = if p then (x : EReal) else (y : EReal) := by
  split_ifs <;> rfl

/-- Row `512 * b + c` of the sequence. -/
def row (b : Fin 32) (c : Fin 512) : Fin 16384 := ⟨b.val * 512 + c.val, by omega⟩

/-- Lane `d` of head `h`. -/
def hd (h : Fin 16) (d : Fin 64) : Fin 1024 := ⟨h.val * 64 + d.val, by omega⟩

/-- Head `e` of the pair `p`. -/
def pr (p : Fin 8) (e : Fin 2) : Fin 16 := ⟨p.val * 2 + e.val, by omega⟩

/-- Lane `x` of a pair's 128. -/
def pl (p : Fin 8) (x : Fin 128) : Fin 1024 := ⟨128 * p.val + x.val, by omega⟩

theorem sum_rows (f : Fin 16384 → EReal) : ∑ j, f j = ∑ b, ∑ c, f (row b c) := by
  rw [Fin.sum_univ_tiles 32 512 rfl f]
  exact Finset.sum_congr rfl fun b _ => Finset.sum_congr rfl fun c _ => congrArg f (Fin.ext (by simp [row]))

/-- The sum over the columns at most a row's: the blocks before the row's own, then the row's own block up to the diagonal. -/
theorem causal (f : Fin 16384 → EReal) (b : Fin 32) (r : Fin 512) :
    (∑ j, if j.val ≤ (row b r).val then f j else 0)
      = upto (fun b' => ∑ c, f (row b' c)) b.val + ∑ c : Fin 512, if c.val ≤ r.val then f (row b c) else 0 := by
  rw [sum_rows, upto]
  have hs : (∑ c : Fin 512, if c.val ≤ r.val then f (row b c) else 0)
      = ∑ b', if b' = b then (∑ c : Fin 512, if c.val ≤ r.val then f (row b c) else 0) else 0 := by
    rw [Finset.sum_ite_eq' Finset.univ b, if_pos (Finset.mem_univ b)]
  rw [hs, ← Finset.sum_add_distrib]
  refine Finset.sum_congr rfl fun b' _ => ?_
  by_cases h : b' = b
  · subst h
    rw [if_neg (lt_irrefl _), if_pos rfl, zero_add]
    exact Finset.sum_congr rfl fun c _ => if_congr (by simp [row]) rfl rfl
  · rw [if_neg h, add_zero]
    have hne : b'.val ≠ b.val := fun e => h (Fin.ext e)
    by_cases h1 : b'.val < b.val
    · rw [if_pos h1]
      exact Finset.sum_congr rfl fun c _ => if_pos (by simp only [row]; omega)
    · rw [if_neg h1]
      exact Finset.sum_eq_zero fun c _ => if_neg (by simp only [row]; omega)

theorem sum_upto (n : ℕ) (T : Fin 128 → Fin 32 → EReal) : ∑ l, upto (T l) n = upto (fun b => ∑ l, T l b) n := by
  unfold upto
  rw [Finset.sum_comm]
  refine Finset.sum_congr rfl fun b _ => ?_
  split_ifs
  · rfl
  · exact Finset.sum_const_zero

theorem upto_congr {S T : Fin 32 → EReal} (n : ℕ) (h : ∀ b, S b = T b) : upto S n = upto T n := congrArg (fun f => upto f n) (funext h)

/-- A sum over a pair's 128 lanes that takes only the first head's 64. -/
theorem half0 (f : Fin 128 → EReal) :
    (∑ x : Fin 128, Scalar.select (IntOp.cmpi .slt (BitVec.ofNat 32 x.val) 64#32) (f x) 0) = ∑ d : Fin 64, f ⟨d.val, by omega⟩ := by
  rw [Fin.sum_univ_two_halves 64 64 rfl]
  have h : ∀ x : Fin 128, IntOp.cmpi .slt (BitVec.ofNat 32 x.val) 64#32 = if x.val < 64 then 1#1 else 0#1 := by decide +kernel
  have e0 : (∑ d : Fin 64, Scalar.select (IntOp.cmpi .slt (BitVec.ofNat 32 (64 + d.val)) 64#32) (f ⟨64 + d.val, by omega⟩) 0) = 0 :=
    Finset.sum_eq_zero fun d _ => by
      rw [h ⟨64 + d.val, by omega⟩, if_neg (by dsimp only; omega)]; rfl
  rw [e0, add_zero]
  refine Finset.sum_congr rfl fun d _ => ?_
  rw [h ⟨d.val, by omega⟩, if_pos (by dsimp only; omega)]; rfl

/-- The same for the second head. -/
theorem half1 (f : Fin 128 → EReal) :
    (∑ x : Fin 128, Scalar.select (IntOp.cmpi .slt (BitVec.ofNat 32 x.val) 64#32) 0 (f x)) = ∑ d : Fin 64, f ⟨64 + d.val, by omega⟩ := by
  rw [Fin.sum_univ_two_halves 64 64 rfl]
  have h : ∀ x : Fin 128, IntOp.cmpi .slt (BitVec.ofNat 32 x.val) 64#32 = if x.val < 64 then 1#1 else 0#1 := by decide +kernel
  have e0 : (∑ d : Fin 64, Scalar.select (IntOp.cmpi .slt (BitVec.ofNat 32 d.val) 64#32) 0 (f ⟨d.val, by omega⟩)) = 0 :=
    Finset.sum_eq_zero fun d _ => by
      rw [h ⟨d.val, by omega⟩, if_pos (by dsimp only; omega)]; rfl
  rw [e0, zero_add]
  refine Finset.sum_congr rfl fun d _ => ?_
  rw [h ⟨64 + d.val, by omega⟩, if_neg (by dsimp only; omega)]; rfl

/-- The sum that picks one lane of 128. -/
theorem pick (p : Fin 8) (e : Fin 2) (w : BitVec 32) (hw : w = BitVec.ofNat 32 e.val) (f : Fin 128 → EReal) :
    (∑ x : Fin 128, Scalar.select (IntOp.cmpi .eq (BitVec.ofNat 32 x.val) (Scalar.addi (Scalar.muli 2#32 (BitVec.ofNat 32 p.val)) w)) (f x) 0)
      = f ⟨2 * p.val + e.val, by omega⟩ := by
  subst hw
  have h : ∀ (p : Fin 8) (e : Fin 2) (x : Fin 128),
      IntOp.cmpi .eq (BitVec.ofNat 32 x.val) (Scalar.addi (Scalar.muli 2#32 (BitVec.ofNat 32 p.val)) (BitVec.ofNat 32 e.val))
        = if x.val = 2 * p.val + e.val then 1#1 else 0#1 := by decide +kernel
  rw [Finset.sum_eq_single (⟨2 * p.val + e.val, by omega⟩ : Fin 128)]
  · rw [h, if_pos rfl]; rfl
  · intro x _ hx
    rw [h, if_neg fun he => hx (Fin.ext he)]; rfl
  · exact fun hh => absurd (Finset.mem_univ _) hh

/-! ## One row of a masked softmax -/

section Row
variable {n : ℕ} (M : Fin n → Prop) [DecidablePred M] (a : Fin n → ℝ)

/-- The masked row: −∞ off the mask. -/
def X (j : Fin n) : EReal := if M j then (a j : EReal) else ⊥

/-- The sum of the exponentials under the mask. -/
def Z : ℝ := ∑ j, if M j then Real.exp (a j) else 0

theorem Z_pos {j : Fin n} (h : M j) : 0 < Z M a := by
  refine Finset.sum_pos' (fun i _ => ?_) ⟨j, Finset.mem_univ _, ?_⟩
  · split_ifs
    · exact (Real.exp_pos _).le
    · exact le_rfl
  · rw [if_pos h]; exact Real.exp_pos _

theorem fold_real (s : Finset (Fin n)) : (∃ j ∈ s, M j) → ∃ μ : ℝ, s.fold max ⊥ (X M a) = μ := by
  classical
  have key : (s.fold max ⊥ (X M a) = ⊥ ∧ ¬ ∃ j ∈ s, M j) ∨ ∃ μ : ℝ, s.fold max ⊥ (X M a) = μ := by
    induction s using Finset.induction_on with
    | empty => left; simp
    | insert b s hb ih =>
      rw [Finset.fold_insert hb]
      by_cases hM : M b
      · right
        have hX : X M a b = a b := if_pos hM
        rcases ih with ⟨h, _⟩ | ⟨μ, h⟩
        · exact ⟨a b, by rw [h, hX]; exact max_bot_right _⟩
        · exact ⟨max (a b) μ, by rw [h, hX]; exact (EReal.coe_strictMono.monotone.map_max).symm⟩
      · have hX : X M a b = ⊥ := if_neg hM
        rcases ih with ⟨h, hn⟩ | ⟨μ, h⟩
        · left
          refine ⟨by rw [h, hX]; exact max_bot_right _, ?_⟩
          rintro ⟨j, hj, hMj⟩
          rcases Finset.mem_insert.mp hj with rfl | hj
          · exact hM hMj
          · exact hn ⟨j, hj, hMj⟩
        · right; exact ⟨μ, by rw [h, hX]; exact max_bot_left _⟩
  rcases key with ⟨_, hn⟩ | h
  · exact fun h => absurd h hn
  · exact fun _ => h

theorem exp_sub (μ : ℝ) (j : Fin n) : Ideal.exp (X M a j - μ) = ((if M j then Real.exp (a j) * Real.exp (-μ) else 0 : ℝ) : EReal) := by
  unfold X
  split_ifs
  · rw [← EReal.coe_sub, Ideal.exp_coe, sub_eq_add_neg, Real.exp_add]
  · rw [EReal.bot_sub, Ideal.exp_bot]; rfl

theorem sum_exp (μ : ℝ) : (∑ j, Ideal.exp (X M a j - μ)) = ((Z M a * Real.exp (-μ) : ℝ) : EReal) := by
  simp only [exp_sub]
  rw [← coe_sum, Z, Finset.sum_mul]
  congr 1
  refine Finset.sum_congr rfl fun j _ => ?_
  split_ifs <;> simp

/-- The row's log-sum, whatever the shift. -/
theorem lse_real {j : Fin n} (h : M j) (μ : ℝ) : (μ : EReal) + Ideal.log ((Z M a * Real.exp (-μ) : ℝ) : EReal) = (Real.log (Z M a) : ℝ) := by
  have hz := Z_pos M a h
  have he := Real.exp_pos (-μ)
  rw [Ideal.log_coe, if_neg (not_le.mpr (mul_pos hz he)), Real.log_mul hz.ne' he.ne', Real.log_exp, ← EReal.coe_add]
  congr 1; ring

end Row

end Cert.Proof.Att
end
-- ==== Proof.AttSpec.lean ====
/- The forgetting attention's gradient as a formula over real arrays: the weights, the row's mean, the score's gradient. -/
module

public import proofs.«01_k».proof.Proof.AttMath
public import Idealize.ShloMosaic.Lib.WordCmp

@[expose] public section

set_option maxRecDepth 16384

noncomputable section

namespace Cert.Proof.Att
open Idealize.ShloMosaic Idealize.ShloMosaic.TcCoe Idealize.SL.Sem

/-- The arrays of one attention: queries, keys, values, the cotangent and the gate's running sum. -/
structure Arr where
  q : Fin 16384 → Fin 1024 → ℝ
  k : Fin 16384 → Fin 1024 → ℝ
  v : Fin 16384 → Fin 1024 → ℝ
  o : Fin 16384 → Fin 1024 → ℝ
  g : Fin 16384 → Fin 16 → ℝ

namespace Arr
variable (A : Arr) (h : Fin 16) (i j : Fin 16384)

/-- The score of row `i` against column `j`, but for what a whole row shares. -/
def s : ℝ := (∑ d, A.q i (hd h d) * (1 / 8) * A.k j (hd h d)) - A.g j h
/-- The row's sum of exponentials. -/
def z : ℝ := Z (fun j : Fin 16384 => j.val ≤ i.val) (A.s h i)
/-- The weight. -/
def p : ℝ := Real.exp (A.s h i j) / A.z h i
/-- The weight's cotangent. -/
def w : ℝ := ∑ d, A.o i (hd h d) * A.v j (hd h d)
/-- Its mean over the row. -/
def mean : ℝ := ∑ j : Fin 16384, if j.val ≤ i.val then A.p h i j * A.w h i j else 0
/-- The score's cotangent. -/
def ds : ℝ := A.p h i j * (A.w h i j - A.mean h i)

theorem z_pos : 0 < A.z h i := Z_pos _ _ (j := i) (le_refl i.val)

theorem exp_lse : Ideal.exp ((A.s h i j : EReal) - (Real.log (A.z h i) : ℝ)) = (A.p h i j : ℝ) := by
  rw [← EReal.coe_sub, Ideal.exp_coe, Real.exp_sub, Real.exp_log (A.z_pos h i)]; rfl

end Arr

theorem eighth16 : Ideal.ofBits .bf16 0x3E00#16 = ((1 / 8 : ℝ) : EReal) := by
  simp [Ideal.ofBits, Ideal.ieee]
  rw [← EReal.coe_mul]; congr 1; norm_num
theorem eighth : Ideal.ofBits .f32 0x3E000000#32 = ((1 / 8 : ℝ) : EReal) := by
  simp [Ideal.ofBits, Ideal.ieee]
  rw [← EReal.coe_mul]; congr 1; norm_num

/-- The word test of the causal mask. -/
theorem mask (i x : Fin 16384) : IntOp.cmpi .sge (BitVec.ofNat 32 i.val) (BitVec.ofNat 32 x.val) = if x.val ≤ i.val then 1#1 else 0#1 := by
  rw [WordCmp.cmpi_sge_ofNat (by omega) (by omega)]
  by_cases h : x.val ≤ i.val <;> simp [h]

theorem negInf : Ideal.ofBits .f32 0xFF800000#32 = ⊥ := by simp [Ideal.ofBits, Ideal.ieee]

namespace Arr
variable (A : Arr) (h : Fin 16) (i j : Fin 16384)

/-- The masked score as the forward lines compute it. -/
def cell : EReal := Scalar.select (IntOp.cmpi .sge (BitVec.ofNat 32 i.val) (BitVec.ofNat 32 j.val))
  ((∑ d, (A.q i (hd h d) : EReal) * Ideal.ofBits .bf16 0x3E00#16 * (A.k j (hd h d) : EReal)) - (A.g j h : EReal)) (Ideal.ofBits .f32 0xFF800000#32)

theorem cell_eq : A.cell h i j = X (fun j : Fin 16384 => j.val ≤ i.val) (A.s h i) j := by
  unfold cell X
  rw [mask]
  by_cases hj : j.val ≤ i.val
  · rw [if_pos hj, if_pos hj]
    show _ - _ = _
    rw [s, EReal.coe_sub, coe_sum]
    refine congrArg₂ _ (Finset.sum_congr rfl fun d _ => ?_) rfl
    rw [eighth16, EReal.coe_mul, EReal.coe_mul]
  · rw [if_neg hj, if_neg hj]
    exact negInf

theorem fold_cell : ∃ μ : ℝ, Finset.univ.fold max (Ideal.ofBits .f32 0xFF800000#32) (A.cell h i) = μ := by
  rw [negInf, funext (A.cell_eq h i)]
  exact fold_real _ _ _ ⟨i, Finset.mem_univ _, le_refl _⟩

/-- The log-sum the forward lines save. -/
theorem lse_saved (f : Fin 16384 → EReal) (hf : ∀ x, f x = A.cell h i x) : Finset.univ.fold max (Ideal.ofBits .f32 0xFF800000#32) f
      + Ideal.log (∑ x, Ideal.exp (f x - Finset.univ.fold max (Ideal.ofBits .f32 0xFF800000#32) f))
    = (Real.log (A.z h i) : ℝ) := by
  obtain rfl : f = A.cell h i := funext hf
  obtain ⟨μ, hμ⟩ := A.fold_cell h i
  rw [hμ]
  simp only [cell_eq]
  rw [sum_exp]
  exact lse_real _ _ (j := i) (le_refl i.val) μ

/-- The row's mean the forward lines save: the products of the cotangent and the output. -/
theorem mean_saved (f : Fin 16384 → EReal) (hf : ∀ x, f x = A.cell h i x) : (∑ d, (A.o i (hd h d) : EReal) * Ideal.div
        (∑ x, Ideal.exp (f x - Finset.univ.fold max (Ideal.ofBits .f32 0xFF800000#32) f) * (A.v x (hd h d) : EReal))
        (∑ x, Ideal.exp (f x - Finset.univ.fold max (Ideal.ofBits .f32 0xFF800000#32) f)))
    = (A.mean h i : ℝ) := by
  obtain rfl : f = A.cell h i := funext hf
  obtain ⟨μ, hμ⟩ := A.fold_cell h i
  rw [hμ]
  simp only [cell_eq]
  rw [sum_exp]
  have hz := A.z_pos h i
  have he := Real.exp_pos (-μ)
  have hne : Z (fun j : Fin 16384 => j.val ≤ i.val) (A.s h i) * Real.exp (-μ) ≠ 0 := (mul_pos hz he).ne'
  simp only [Ideal.div_coe hne, exp_sub, ← EReal.coe_mul, ← coe_sum]
  refine congrArg (fun x : ℝ => (x : EReal)) ?_
  unfold mean
  simp only [Finset.sum_mul, Finset.mul_sum]
  rw [Finset.sum_comm]
  refine Finset.sum_congr rfl fun j _ => ?_
  split_ifs
  · unfold w p
    rw [Finset.mul_sum]
    refine Finset.sum_congr rfl fun d _ => ?_
    have hz' : A.z h i ≠ 0 := hz.ne'
    change _ = Real.exp (A.s h i j) / A.z h i * _
    rw [show Z (fun j : Fin 16384 => j.val ≤ i.val) (A.s h i) = A.z h i from rfl]
    field_simp
  · simp

end Arr

end Cert.Proof.Att
end
-- ==== Proof.AttQBlock.lean ====
/- The gradient for the queries: what a grid point leaves, over real arrays. -/
module

public import proofs.«01_k».proof.Proof.AttQLoop
public import proofs.«01_k».proof.Proof.AttSpec

@[expose] public section

set_option maxRecDepth 16384

noncomputable section

namespace Cert.Proof.AttQ
open Idealize.ShloMosaic Idealize.ShloMosaic.TcCoe Idealize.SL.Sem
open Cert.AttQIdeal Cert.AttQIdeal.Gen Cert.Proof.Att

variable (A : Arr) (i : grid0.Coords) (x0 x1 : FVec Ideal S512x128 .bf16) (x5 : FVec Ideal S1x512x2 .f32) (x6 : FVec Ideal S512x128 .f32)

/-- The blocks of row block `i 1` and head pair `i 0` are those of the real arrays. -/
structure Rows : Prop where
  q : ∀ r x, x0 (ix2 r x) = (A.q (row (i 1) r) (pl (i 0) x) : ℝ)
  o : ∀ r x, x1 (ix2 r x) = (A.o (row (i 1) r) (pl (i 0) x) : ℝ)
  l : ∀ r e, x5 (ix3 0 r e) = (Real.log (A.z (pr (i 0) e) (row (i 1) r)) : ℝ)
  d : ∀ r (e : Fin 2), x6 (ix2 r ⟨2 * (i 0).val + e.val, by have h : (i 0).val < 8 := (i 0).isLt; omega⟩) = (A.mean (pr (i 0) e) (row (i 1) r) : ℝ)

/-- The key block `b`'s arrays likewise. -/
structure Cols (b : Fin 32) (κ ν : FVec Ideal S512x128 .bf16) (γ : FVec Ideal S1x1x2x512 .f32) : Prop where
  k : ∀ c x, κ (ix2 c x) = (A.k (row b c) (pl (i 0) x) : ℝ)
  v : ∀ c x, ν (ix2 c x) = (A.v (row b c) (pl (i 0) x) : ℝ)
  g : ∀ (e : Fin 2) c, γ (ix4 0 0 e c) = (A.g (row b c) (pr (i 0) e) : ℝ)

variable {A i x0 x1 x5 x6} (R : Rows A i x0 x1 x5 x6) {b : Fin 32} {κ ν : FVec Ideal S512x128 .bf16} {γ : FVec Ideal S1x1x2x512 .f32} (C : Cols A i b κ ν γ)
include R C

theorem D0_real (r c : Fin 512) : D0 i x0 x1 x5 x6 κ ν γ r c = (A.ds (pr (i 0) 0) (row (i 1) r) (row b c) : ℝ) := by
  have e : ∀ d : Fin 64, pl (i 0) ⟨d.val, by omega⟩ = hd (pr (i 0) 0) d := fun d => Fin.ext (by simp [pl, hd, pr]; omega)
  have hs : sc0 x0 κ γ r c = (A.s (pr (i 0) 0) (row (i 1) r) (row b c) : ℝ) := by
    unfold sc0 Arr.s
    rw [half0, C.g, EReal.coe_sub, coe_sum]
    refine congrArg₂ _ (Finset.sum_congr rfl fun d _ => ?_) rfl
    rw [R.q, C.k, eighth16, e, EReal.coe_mul, EReal.coe_mul]
  have hp : dp0 i x1 x6 ν r c = ((A.w (pr (i 0) 0) (row (i 1) r) (row b c) - A.mean (pr (i 0) 0) (row (i 1) r) : ℝ) : EReal) := by
    unfold dp0 Arr.w
    rw [half0, pick (i 0) 0 0#32 rfl, EReal.coe_sub, coe_sum]
    refine congrArg₂ _ (Finset.sum_congr rfl fun d _ => ?_) (R.d r 0)
    rw [R.o, C.v, e, EReal.coe_mul]
  unfold D0
  rw [hs, hp, R.l, Arr.exp_lse, ← EReal.coe_mul]; rfl

theorem D1_real (r c : Fin 512) : D1 i x0 x1 x5 x6 κ ν γ r c = (A.ds (pr (i 0) 1) (row (i 1) r) (row b c) : ℝ) := by
  have e : ∀ d : Fin 64, pl (i 0) ⟨64 + d.val, by omega⟩ = hd (pr (i 0) 1) d := fun d => Fin.ext (by simp [pl, hd, pr]; omega)
  have hs : sc1 x0 κ γ r c = (A.s (pr (i 0) 1) (row (i 1) r) (row b c) : ℝ) := by
    unfold sc1 Arr.s
    rw [half1, C.g, EReal.coe_sub, coe_sum]
    refine congrArg₂ _ (Finset.sum_congr rfl fun d _ => ?_) rfl
    rw [R.q, C.k, eighth16, e, EReal.coe_mul, EReal.coe_mul]
  have hp : dp1 i x1 x6 ν r c = ((A.w (pr (i 0) 1) (row (i 1) r) (row b c) - A.mean (pr (i 0) 1) (row (i 1) r) : ℝ) : EReal) := by
    unfold dp1 Arr.w
    rw [half1, pick (i 0) 1 1#32 rfl, EReal.coe_sub, coe_sum]
    refine congrArg₂ _ (Finset.sum_congr rfl fun d _ => ?_) (R.d r 1)
    rw [R.o, C.v, e, EReal.coe_mul]
  unfold D1
  rw [hs, hp, R.l, Arr.exp_lse, ← EReal.coe_mul]; rfl

/-- A block's part of the queries' gradient at lane `l`, whatever mask `φ` the row sets. -/
theorem part (r : Fin 512) (l : Fin 128) (φ : Fin 512 → Prop) [DecidablePred φ] :
    Scalar.select (IntOp.cmpi .slt (BitVec.ofNat 32 l.val) 64#32)
        (∑ c, (if φ c then D0 i x0 x1 x5 x6 κ ν γ r c else 0) * κ (ix2 c l)) (∑ c, (if φ c then D1 i x0 x1 x5 x6 κ ν γ r c else 0) * κ (ix2 c l))
      = ∑ c, if φ c then ((A.ds (pr (i 0) ⟨l.val / 64, by omega⟩) (row (i 1) r) (row b c) * A.k (row b c) (pl (i 0) l) : ℝ) : EReal) else 0 := by
  have h : ∀ x : Fin 128, IntOp.cmpi .slt (BitVec.ofNat 32 x.val) 64#32 = if x.val < 64 then 1#1 else 0#1 := by decide +kernel
  rw [h]
  by_cases hl : l.val < 64
  · rw [if_pos hl]
    refine Eq.trans (show Scalar.select 1#1 _ _ = ∑ c, (if φ c then D0 i x0 x1 x5 x6 κ ν γ r c else 0) * κ (ix2 c l) from rfl) ?_
    refine Finset.sum_congr rfl fun c _ => ?_
    have e : (⟨l.val / 64, by omega⟩ : Fin 2) = 0 := Fin.ext (by show l.val / 64 = 0; omega)
    rw [e, D0_real R C, C.k]
    split_ifs
    · rw [EReal.coe_mul]
    · rw [zero_mul]
  · rw [if_neg hl]
    refine Eq.trans (show Scalar.select 0#1 _ _ = ∑ c, (if φ c then D1 i x0 x1 x5 x6 κ ν γ r c else 0) * κ (ix2 c l) from rfl) ?_
    refine Finset.sum_congr rfl fun c _ => ?_
    have e : (⟨l.val / 64, by omega⟩ : Fin 2) = 1 := Fin.ext (by show l.val / 64 = 1; omega)
    rw [e, D1_real R C, C.k]
    split_ifs
    · rw [EReal.coe_mul]
    · rw [zero_mul]

omit C
variable {x2 x3 : FVec Ideal S16384x128 .bf16} {x4 : FVec Ideal S1x32x2x512 .f32} (K : ∀ b, Cols A i b (KB x2 b) (KB x3 b) (CB x4 b))
include K

/-- The queries' gradient at row `r` of the block, lane `l` of the pair. -/
theorem dq_real (r : Fin 512) (l : Fin 128) :
    (upto (TA i x0 x1 x5 x6 x2 x3 x4 r l) (i 1).val + Scalar.select (IntOp.cmpi .slt (BitVec.ofNat 32 l.val) 64#32)
          (∑ c, M0 i x0 x1 x5 x6 (KB x2 (i 1)) (KB x3 (i 1)) (CB x4 (i 1)) r c * KB x2 (i 1) (ix2 c l)) (∑ c, M1 i x0 x1 x5 x6 (KB x2 (i 1)) (KB x3 (i 1)) (CB x4 (i 1)) r c * KB x2 (i 1) (ix2 c l)))
        * Ideal.ofBits .f32 0x3E000000#32
      = (∑ j : Fin 16384, if j.val ≤ (row (i 1) r).val then
          ((A.ds (pr (i 0) ⟨l.val / 64, by omega⟩) (row (i 1) r) j * A.k j (pl (i 0) l) : ℝ) : EReal) else 0) * ((1 / 8 : ℝ) : EReal) := by
  refine Eq.trans ?_ (congrArg (· * ((1 / 8 : ℝ) : EReal)) (causal (fun j => ((A.ds (pr (i 0) ⟨l.val / 64, by omega⟩) (row (i 1) r) j * A.k j (pl (i 0) l) : ℝ) : EReal)) (i 1) r).symm)
  refine congrArg₂ _ (congrArg₂ _ (upto_congr _ fun b => ?_) (part R (K (i 1)) r l fun c => c.val ≤ r.val)) eighth
  have := part R (K b) r l fun _ => True
  simp only [if_true] at this
  exact this

/-- The row's gate. -/
theorem gate_real (r : Fin 512) (e : Fin 2) :
    (∑ l : Fin 128, if e = 0 then upto (T0 i x0 x1 x5 x6 x2 x3 x4 r l) (i 1).val + fold4 (M0 i x0 x1 x5 x6 (KB x2 (i 1)) (KB x3 (i 1)) (CB x4 (i 1)) r) l
        else upto (T1 i x0 x1 x5 x6 x2 x3 x4 r l) (i 1).val + fold4 (M1 i x0 x1 x5 x6 (KB x2 (i 1)) (KB x3 (i 1)) (CB x4 (i 1)) r) l)
      = ∑ j : Fin 16384, if j.val ≤ (row (i 1) r).val then ((A.ds (pr (i 0) e) (row (i 1) r) j : ℝ) : EReal) else 0 := by
  have hf : ∀ f : Fin 512 → EReal, ∑ l, fold4 f l = ∑ c, f c := fun f => by
    rw [sum4]; unfold fold4; simp only [Finset.sum_add_distrib, add_assoc]
  refine Eq.trans ?_ (causal (fun j => ((A.ds (pr (i 0) e) (row (i 1) r) j : ℝ) : EReal)) (i 1) r).symm
  match e with
  | 0 =>
    simp only [if_true]
    rw [Finset.sum_add_distrib, sum_upto, hf]
    refine congrArg₂ _ (upto_congr _ fun b => ?_) (Finset.sum_congr rfl fun c _ => ?_)
    · unfold T0
      rw [hf]; exact Finset.sum_congr rfl fun c _ => D0_real R (K b) r c
    · unfold M0; rw [D0_real R (K (i 1)) r c]
  | 1 =>
    simp only [if_neg (show ¬ (1 : Fin 2) = 0 by decide)]
    rw [Finset.sum_add_distrib, sum_upto, hf]
    refine congrArg₂ _ (upto_congr _ fun b => ?_) (Finset.sum_congr rfl fun c _ => ?_)
    · unfold T1
      rw [hf]; exact Finset.sum_congr rfl fun c _ => D1_real R (K b) r c
    · unfold M1; rw [D1_real R (K (i 1)) r c]

end Cert.Proof.AttQ
end
-- ==== Proof.AttQHost.lean ====
/- The gradient for the queries: what the host lines hand the kernel, over real arrays. -/
module

public import proofs.«01_k».proof.Proof.AttQBlock

@[expose] public section

set_option maxRecDepth 16384

noncomputable section

namespace Cert.Proof.AttQ
open Idealize.ShloMosaic Idealize.ShloMosaic.TcCoe Idealize.SL.Sem
open Cert.AttQIdeal Cert.AttQIdeal.Gen Cert.Proof.Att
variable (m : (ℓ : Loc nD τ sig) → Buf (Elt Ideal) ℓ) (c : Dev nD)

/-- The arguments are these real arrays. -/
structure Args (A : Arr) : Prop where
  q : ∀ i x, (m (c, Proc.tc.devRef main_arg0) (ix2 i x) : EReal) = ((A.q i x : ℝ) : EReal)
  k : ∀ i x, (m (c, Proc.tc.devRef main_arg1) (ix2 i x) : EReal) = ((A.k i x : ℝ) : EReal)
  v : ∀ i x, (m (c, Proc.tc.devRef main_arg2) (ix2 i x) : EReal) = ((A.v i x : ℝ) : EReal)
  g : ∀ i x, (m (c, Proc.tc.devRef main_arg3) (ix2 i x) : EReal) = ((A.g i x : ℝ) : EReal)
  o : ∀ i x, (m (c, Proc.tc.devRef main_arg4) (ix2 i x) : EReal) = ((A.o i x : ℝ) : EReal)

variable {m c} {A : Arr} (H : Args m c A)
include H

/-- The packed queries. -/
theorem q_read (i : Fin 16384) (p : Fin 8) (x : Fin 128) : (V m c main_v42 (ix2 i ⟨128 * p.val + x.val, by omega⟩) : EReal) = ((A.q i (pl p x) : ℝ) : EReal) := by
  show StableHlo.after (List.flatten [hostOps0, hostOps0_1, hostOps0_2, hostOps0_3, hostOps0_4]) (fun b => m (c, b)) main_v42 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_pos (show 128 * p.val + x.val < 1024 by omega)]
  exact H.q _ _

/-- The packed keys. -/
theorem k_read (i : Fin 16384) (p : Fin 8) (x : Fin 128) : (V m c main_v42 (ix2 i ⟨1024 + 128 * p.val + x.val, by omega⟩) : EReal) = ((A.k i (pl p x) : ℝ) : EReal) := by
  show StableHlo.after (List.flatten [hostOps0, hostOps0_1, hostOps0_2, hostOps0_3, hostOps0_4]) (fun b => m (c, b)) main_v42 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_neg (show ¬ 1024 + 128 * p.val + x.val < 1024 by omega), dif_pos (show 1024 + 128 * p.val + x.val - 1024 < 1024 by omega)]
  refine Eq.trans (congrArg (fun y : Fin 1024 => (m (c, Proc.tc.devRef main_arg1) (ix2 i y) : EReal)) (Fin.ext ?_)) (H.k i (pl p x))
  simp only [pl]; omega

/-- The packed values. -/
theorem v_read (i : Fin 16384) (p : Fin 8) (x : Fin 128) : (V m c main_v42 (ix2 i ⟨2048 + 128 * p.val + x.val, by omega⟩) : EReal) = ((A.v i (pl p x) : ℝ) : EReal) := by
  show StableHlo.after (List.flatten [hostOps0, hostOps0_1, hostOps0_2, hostOps0_3, hostOps0_4]) (fun b => m (c, b)) main_v42 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_neg (show ¬ 2048 + 128 * p.val + x.val < 1024 by omega), dif_neg (show ¬ 2048 + 128 * p.val + x.val - 1024 < 1024 by omega)]
  refine Eq.trans (congrArg (fun y : Fin 1024 => (m (c, Proc.tc.devRef main_arg2) (ix2 i y) : EReal)) (Fin.ext ?_)) (H.v i (pl p x))
  simp only [pl]; omega

/-- The cotangent. -/
theorem o_read (i : Fin 16384) (x : Fin 1024) : (V m c main_v43 (ix2 i x) : EReal) = ((A.o i x : ℝ) : EReal) := by
  show StableHlo.after (List.flatten [hostOps0, hostOps0_1, hostOps0_2, hostOps0_3, hostOps0_4]) (fun b => m (c, b)) main_v43 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  exact H.o _ _

/-- The gate, in tiles. -/
theorem g_read (p : Fin 8) (b : Fin 32) (e : Fin 2) (s : Fin 512) : (V m c main_v51 (ix4 p b e s) : EReal) = ((A.g (row b s) (pr p e) : ℝ) : EReal) := by
  show StableHlo.after (List.flatten [hostOps0, hostOps0_1, hostOps0_2, hostOps0_3, hostOps0_4]) (fun b => m (c, b)) main_v51 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  exact H.g _ _

/-- The saved mean. -/
theorem mean_read (p : Fin 8) (e : Fin 2) (i : Fin 16384) : (V m c main_v48 (ix2 i ⟨p.val * 2 + e.val, by omega⟩) : EReal) = ((A.mean (pr p e) i : ℝ) : EReal) := by
  show StableHlo.after (List.flatten [hostOps0, hostOps0_1, hostOps0_2, hostOps0_3, hostOps0_4]) (fun b => m (c, b)) main_v48 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  simp only [H.q, H.k, H.g, H.v, H.o]
  rw [dif_pos (show p.val * 2 + e.val < 16 by omega)]
  exact A.mean_saved (pr p e) i _ fun x => rfl

/-- The masked scores. -/
theorem cell_read (h : Fin 16) (i x : Fin 16384) : (StableHlo.after (List.flatten [hostOps0, hostOps0_1]) (fun b => m (c, b)) main_v23 (ix3 h i x) : EReal) = A.cell h i x := by
  simp only [hostOps0, hostOps0_1, List.flatten_cons, List.flatten_nil, List.append_nil, List.cons_append, List.nil_append]
  entry_read
  simp -implicitDefEqProofs only [StableHlo.TRef.ofBuf_toBuf, StableHlo.TRef.toBuf, StableHlo.TRef.ofBuf, cast_eq]
  pointwise
  simp only [H.q, H.k, H.g]
  rfl

omit H in
theorem split_host (b : Ref sig .tc) : V m c b = StableHlo.after (List.flatten [hostOps0_2, hostOps0_3, hostOps0_4]) (StableHlo.after (List.flatten [hostOps0, hostOps0_1]) (fun b => m (c, b))) b := by
  rw [← StableHlo.after_append]; rfl

omit H in
/-- The row's greatest score. -/
theorem max_read (W : Valuation τ sig (Elt Ideal)) (h : Fin 16) (i : Fin 16384) (f : Fin 16384 → EReal) (hf : ∀ x, (W main_v23 (ix3 h i x) : EReal) = f x) : (StableHlo.after (hostOps0_2.take 13) W main_v24 (ix2 h i) : EReal)
    = Finset.univ.fold max (Ideal.ofBits .f32 0xFF800000#32) f := by
  simp only [hostOps0_2, List.take, List.flatten_cons, List.flatten_nil, List.append_nil, List.cons_append, List.nil_append]
  entry_read
  pointwise
  simp only [hf]

omit H in
/-- The row's sum of exponentials. -/
theorem sum_read (W : Valuation τ sig (Elt Ideal)) (h : Fin 16) (i : Fin 16384) (f : Fin 16384 → EReal) (hf : ∀ x, (W main_v23 (ix3 h i x) : EReal) = f x) : (StableHlo.after (hostOps0_2.take 13) W main_v29 (ix2 h i) : EReal)
    = ∑ x : Fin 16384, Ideal.exp (f x - Finset.univ.fold max (Ideal.ofBits .f32 0xFF800000#32) f) := by
  simp only [hostOps0_2, List.take, List.flatten_cons, List.flatten_nil, List.append_nil, List.cons_append, List.nil_append]
  entry_read
  pointwise
  simp only [hf]

omit H in
/-- The log-sum from the two, packed by head pairs. -/
theorem tail_read (W : Valuation τ sig (Elt Ideal)) (p : Fin 8) (e : Fin 2) (i : Fin 16384) (a b : EReal) (ha : (W main_v24 (ix2 (pr p e) i) : EReal) = a)
    (hb : (W main_v29 (ix2 (pr p e) i) : EReal) = b) : (StableHlo.after (List.flatten [hostOps0_2.drop 13, hostOps0_3, hostOps0_4]) W main_v46 (ix3 p i e) : EReal)
    = a + Ideal.log b := by
  simp only [hostOps0_2, hostOps0_3, hostOps0_4, List.drop, List.flatten_cons, List.flatten_nil, List.append_nil, List.cons_append, List.nil_append]
  entry_read
  pointwise
  subst ha hb
  rfl

/-- The saved log-sum. -/
theorem lse_read (p : Fin 8) (e : Fin 2) (i : Fin 16384) : (V m c main_v46 (ix3 p i e) : EReal) = ((Real.log (A.z (pr p e) i) : ℝ) : EReal) := by
  have hW := cell_read H (pr p e) i
  rw [split_host]
  generalize StableHlo.after (List.flatten [hostOps0, hostOps0_1]) (fun b => m (c, b)) = W at hW ⊢
  rw [show (List.flatten [hostOps0_2, hostOps0_3, hostOps0_4] : List (HloOp τ sig (Elt Ideal))) = hostOps0_2.take 13 ++ List.flatten [hostOps0_2.drop 13, hostOps0_3, hostOps0_4] from rfl,
    StableHlo.after_append]
  exact (tail_read _ p e i _ _ (max_read W _ i _ hW) (sum_read W _ i _ hW)).trans (A.lse_saved (pr p e) i _ fun _ => rfl)

end Cert.Proof.AttQ
end
-- ==== Proof.AttQHyps.lean ====
/- The gradient for the queries: the table of first blocks holds zeros, so the checks the kernel assumes of it hold. -/
module

public import proofs.«01_k».proof.Defs
public import proofs.«01_k».proof.Proof.Gen.AttQ.Frame
public import proofs.«01_k».proof.Proof.Gen.AttQIdeal.Frame
public import proofs.«01_k».proof.Proof.Gen.AttQRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic Idealize.ShloMosaic.TcCoe Idealize.SL.Sem

namespace AttQ
section
open Cert.AttQ Cert.AttQ.Gen
variable {F : FTy → Type} [FloatOps F] (m : (ℓ : Loc nD τ sig) → Buf (Elt F) ℓ)

theorem chk : ∀ t : Fin grid0.N, k0_chk1 (grid0.coords t) 0#32 := by decide +kernel

theorem tbl_zero : tbl m 0 = fun _ => 0#32 := by
  funext y
  show StableHlo.after (List.flatten [hostOps0, hostOps0_1, hostOps0_2, hostOps0_3, hostOps0_4]) (fun b => m (0, b)) main_v44 y = _
  simp only [hostOps0, hostOps0_1, hostOps0_2, hostOps0_3, hostOps0_4, List.flatten_cons, List.flatten_nil, List.append_nil, List.cons_append,
      List.nil_append]
  entry_read
  rfl

theorem hyps (hO : Ok m) : Hyps m hO := Hyps.of fun c t => by
  unfold Hyps.p0
  rw [tbl_zero]
  exact chk t
end
end AttQ

end Cert.Proof

end
-- ==== Proof.AttQTail.lean ====
/- The gradient for the queries: what the diagonal block adds to the sums the loop left. -/
module

public import proofs.«01_k».proof.Proof.AttQLoop

@[expose] public section

set_option maxRecDepth 16384

noncomputable section

namespace Cert.Proof.AttQ
open Idealize.ShloMosaic Idealize.ShloMosaic.TcCoe Idealize.SL.Sem
open Cert.AttQIdeal Cert.AttQIdeal.Gen

section
variable (i : grid0.Coords) (q d : FVec Ideal S512x128 .bf16) (L : FVec Ideal S1x512x2 .f32) (E : FVec Ideal S512x128 .f32)
  (κ ν : FVec Ideal S512x128 .bf16) (γ : FVec Ideal S1x1x2x512 .f32)
theorem halves (r : Fin 512) : (∃ u : Fin 256, r = ⟨0 + u.val, by omega⟩) ∨ ∃ u : Fin 256, r = ⟨256 + u.val, by omega⟩ := by
  by_cases hr : r.val < 256
  · exact Or.inl ⟨⟨r.val, hr⟩, Fin.ext (Nat.zero_add _).symm⟩
  · exact Or.inr ⟨⟨r.val - 256, by omega⟩, Fin.ext (by dsimp only; omega)⟩

/-- The diagonal block's two halves are stored over what the loop left: each row gains its own block's share. -/
theorem tailA (X : List (View.Piece (Elt Ideal) S512x128 .f32)) (r : Fin 512) (l : Fin 128) :
    View.canon (⟨Rect.unit ![256, 0] ![256, 128] inb_S512x128_S256x128_256_0,
        k0_pay108 k0_pay44 (k0_pay61 κ) (k0_pay97 (k0_pay61 κ) (k0_pay96 (k0_pay48 d) (k0_pay52 L) (k0_pay54 i E) (k0_pay62 ν) (k0_pay85 (k0_pay46 q) (k0_pay61 κ)) (k0_pay86 (k0_pay63 γ))))
          (k0_pay102 (k0_pay47 q) (k0_pay49 d) (k0_pay53 L) (k0_pay56 (k0_pay51 E) (k0_pay55 i) c0) (k0_pay61 κ) (k0_pay62 ν) (k0_pay63 γ)) (k0_pay103 (k0_pay47 q) (k0_pay49 d) (k0_pay53 L) (k0_pay56 (k0_pay51 E) (k0_pay55 i) c0) (k0_pay61 κ) (k0_pay62 ν) (k0_pay63 γ))
          (k0_pay104 (k0_pay47 q) (k0_pay49 d) (k0_pay53 L) (k0_pay56 (k0_pay51 E) (k0_pay55 i) c0) (k0_pay61 κ) (k0_pay62 ν) (k0_pay63 γ)) (k0_pay105 (k0_pay47 q) (k0_pay49 d) (k0_pay53 L) (k0_pay56 (k0_pay51 E) (k0_pay55 i) c0) (k0_pay61 κ) (k0_pay62 ν) (k0_pay63 γ))
          (fun j => View.canon (⟨Rect.unit ![0, 0] ![256, 128] inb_S512x128_S256x128_0_0,
        k0_pay84 k0_pay44 (k0_pay49 d) (k0_pay53 L) (k0_pay56 (k0_pay51 E) (k0_pay55 i) c0) (k0_pay64 κ) (k0_pay65 ν) (k0_pay74 (k0_pay48 d) (k0_pay52 L) (k0_pay54 i E) (k0_pay63 γ) (k0_pay64 κ) (k0_pay65 ν) (k0_pay66 (k0_pay46 q)) (constant S256x256 .f32 0x00000000#32))
          (k0_pay75 (k0_pay47 q) (k0_pay63 γ) (k0_pay64 κ)) (iota .tc S256x256 32 [0] iota_S256x256_d0_w32) k0_pay76
          (fun j => View.canon X ((Rect.unit (s := S512x128) ![0, 0] ![256, 128] inb_S512x128_S256x128_0_0).toLoadRect.idx j))⟩ :: X) ((Rect.unit (s := S512x128) ![256, 0] ![256, 128] inb_S512x128_S256x128_256_0).toLoadRect.idx j))⟩ ::
      ⟨Rect.unit ![0, 0] ![256, 128] inb_S512x128_S256x128_0_0,
        k0_pay84 k0_pay44 (k0_pay49 d) (k0_pay53 L) (k0_pay56 (k0_pay51 E) (k0_pay55 i) c0) (k0_pay64 κ) (k0_pay65 ν) (k0_pay74 (k0_pay48 d) (k0_pay52 L) (k0_pay54 i E) (k0_pay63 γ) (k0_pay64 κ) (k0_pay65 ν) (k0_pay66 (k0_pay46 q)) (constant S256x256 .f32 0x00000000#32))
          (k0_pay75 (k0_pay47 q) (k0_pay63 γ) (k0_pay64 κ)) (iota .tc S256x256 32 [0] iota_S256x256_d0_w32) k0_pay76
          (fun j => View.canon X ((Rect.unit (s := S512x128) ![0, 0] ![256, 128] inb_S512x128_S256x128_0_0).toLoadRect.idx j))⟩ :: X) (ix2 r l)
      = View.canon X (ix2 r l) + Scalar.select (IntOp.cmpi .slt (BitVec.ofNat 32 l.val) 64#32)
          (∑ c, M0 i q d L E κ ν γ r c * κ (ix2 c l)) (∑ c, M1 i q d L E κ ν γ r c * κ (ix2 c l)) := by
  rcases halves r with ⟨u, rfl⟩ | ⟨u, rfl⟩
  · have hr : (0 + u.val) < 256 := by omega
    rw [Att.miss _ _ _ 0 (Or.inl hr)]
    refine (Att.hit _ _ _ (ix2 u l) fun a => ?_).trans ?_
    · match a with
      | ⟨0, _⟩ => rfl
      | ⟨1, _⟩ => exact (Nat.zero_add _).symm
    · refine (accT i q d L E κ ν γ l rfl u _).trans (congrArg₂ (· + ·) (congrArg _ (funext fun a => Fin.ext ?_)) (by simp only [Nat.zero_add]))
      match a with
      | ⟨0, _⟩ => exact Rect.idx_unit_val _ _ _ _ _
      | ⟨1, _⟩ => exact (Rect.idx_unit_val _ _ _ _ _).trans (Nat.zero_add _)
  · refine (Att.hit _ _ _ (ix2 u l) fun a => ?_).trans ?_
    · match a with
      | ⟨0, _⟩ => rfl
      | ⟨1, _⟩ => exact (Nat.zero_add _).symm
    · refine (accB i q d L E κ ν γ l rfl u _).trans (congrArg₂ (· + ·) ?_ rfl)
      dsimp only
      rw [Att.miss _ _ _ 0 (Or.inr ?_)]
      · refine congrArg _ (funext fun a => Fin.ext ?_)
        match a with
        | ⟨0, _⟩ => exact Rect.idx_unit_val _ _ _ _ _
        | ⟨1, _⟩ => exact (Rect.idx_unit_val _ _ _ _ _).trans (Nat.zero_add _)
      · exact (Nat.le_add_right 256 u.val).trans (Rect.idx_unit_val (s := S512x128) ![256, 0] ![256, 128] inb_S512x128_S256x128_256_0 (ix2 u l) 0).ge

/-- The stores of the diagonal block's upper half into the first head's row sums. -/
def P0 (X : List (View.Piece (Elt Ideal) S2x512x128 .f32)) : List (View.Piece (Elt Ideal) S2x512x128 .f32) :=
  ⟨Rect.unit ![0, 0, 0] ![1, 256, 128] inb_S2x512x128_S1x256x128_0_0_0, k0_pay73 (k0_pay48 d) (k0_pay52 L) (k0_pay54 i E) (k0_pay63 γ) (k0_pay64 κ) (k0_pay65 ν) (k0_pay66 (k0_pay46 q)) (constant S256x256 .f32 0x00000000#32)
    (fun j => View.canon X ((Rect.unit (s := S2x512x128) ![0, 0, 0] ![1, 256, 128] inb_S2x512x128_S1x256x128_0_0_0).toLoadRect.idx j))⟩ :: X
/-- Into the second head's. -/
def P1 (X : List (View.Piece (Elt Ideal) S2x512x128 .f32)) : List (View.Piece (Elt Ideal) S2x512x128 .f32) :=
  ⟨Rect.unit ![1, 0, 0] ![1, 256, 128] inb_S2x512x128_S1x256x128_1_0_0, k0_pay83 (k0_pay49 d) (k0_pay53 L) (k0_pay56 (k0_pay51 E) (k0_pay55 i) c0) (k0_pay65 ν) (k0_pay75 (k0_pay47 q) (k0_pay63 γ) (k0_pay64 κ)) (iota .tc S256x256 32 [0] iota_S256x256_d0_w32) k0_pay76
    (fun j => View.canon X ((Rect.unit (s := S2x512x128) ![1, 0, 0] ![1, 256, 128] inb_S2x512x128_S1x256x128_1_0_0).toLoadRect.idx j))⟩ :: X
/-- The lower half, first head. -/
def P2 (X : List (View.Piece (Elt Ideal) S2x512x128 .f32)) : List (View.Piece (Elt Ideal) S2x512x128 .f32) :=
  ⟨Rect.unit ![0, 256, 0] ![1, 256, 128] inb_S2x512x128_S1x256x128_0_256_0, k0_pay95 (k0_pay48 d) (k0_pay52 L) (k0_pay54 i E) (k0_pay62 ν) (k0_pay85 (k0_pay46 q) (k0_pay61 κ)) (k0_pay86 (k0_pay63 γ))
    (fun j => View.canon X ((Rect.unit (s := S2x512x128) ![0, 256, 0] ![1, 256, 128] inb_S2x512x128_S1x256x128_0_256_0).toLoadRect.idx j))⟩ :: X
/-- The lower half, second head. -/
def P3 (X : List (View.Piece (Elt Ideal) S2x512x128 .f32)) : List (View.Piece (Elt Ideal) S2x512x128 .f32) :=
  ⟨Rect.unit ![1, 256, 0] ![1, 256, 128] inb_S2x512x128_S1x256x128_1_256_0, k0_pay107 (k0_pay106 (k0_pay47 q) (k0_pay49 d) (k0_pay53 L) (k0_pay56 (k0_pay51 E) (k0_pay55 i) c0) (k0_pay61 κ) (k0_pay62 ν) (k0_pay63 γ)
    (fun j => View.canon X ((Rect.unit (s := S2x512x128) ![1, 256, 0] ![1, 256, 128] inb_S2x512x128_S1x256x128_1_256_0).toLoadRect.idx j)))⟩ :: X

/-- A box of 256 rows of one head reads the list at its own row. -/
theorem box (X : List (View.Piece (Elt Ideal) S2x512x128 .f32)) (e : Fin 2) (o : ℕ) (ho : o + 256 ≤ 512) (inb) (u : Fin 256) (l : Fin 128) :
    View.canon X ((Rect.unit (s := S2x512x128) ![e.val, o, 0] ![1, 256, 128] inb).toLoadRect.idx (ix3 0 u l)) = View.canon X (ix3 e ⟨o + u.val, by omega⟩ l) := by
  refine congrArg _ (funext fun a => Fin.ext ?_)
  match a with
  | ⟨0, _⟩ => exact (Rect.idx_unit_val _ _ _ _ _).trans (Nat.add_zero _)
  | ⟨1, _⟩ => exact Rect.idx_unit_val _ _ _ _ _
  | ⟨2, _⟩ => exact (Rect.idx_unit_val _ _ _ _ _).trans (Nat.zero_add _)

theorem hit3 (X : List (View.Piece (Elt Ideal) S2x512x128 .f32)) (e : Fin 2) (o : ℕ) (ho : o + 256 ≤ 512) (inb) (w : FVec Ideal S1x256x128 .f32)
    (u : Fin 256) (l : Fin 128) :
    View.canon (⟨Rect.unit (s := S2x512x128) ![e.val, o, 0] ![1, 256, 128] inb, w⟩ :: X) (ix3 e ⟨o + u.val, by omega⟩ l) = w (ix3 0 u l) :=
  Att.hit w X _ (ix3 0 u l) fun a => match a with
    | ⟨0, _⟩ => rfl
    | ⟨1, _⟩ => rfl
    | ⟨2, _⟩ => (Nat.zero_add _).symm

theorem tailB (X : List (View.Piece (Elt Ideal) S2x512x128 .f32)) (r : Fin 512) (l : Fin 128) :
    View.canon (P3 i q d L E κ ν γ (P2 i q d L E κ ν γ (P1 i q d L E κ ν γ (P0 i q d L E κ ν γ X)))) (ix3 0 r l)
        = View.canon X (ix3 0 r l) + fold4 (M0 i q d L E κ ν γ r) l ∧
    View.canon (P3 i q d L E κ ν γ (P2 i q d L E κ ν γ (P1 i q d L E κ ν γ (P0 i q d L E κ ν γ X)))) (ix3 1 r l)
        = View.canon X (ix3 1 r l) + fold4 (M1 i q d L E κ ν γ r) l := by
  rcases halves r with ⟨u, rfl⟩ | ⟨u, rfl⟩
  · have hr' : (0 + u.val) < 256 := by omega
    constructor
    · rw [P3, Att.miss _ _ _ 0 (Or.inl Nat.zero_lt_one), P2, Att.miss _ _ _ 1 (Or.inl hr'), P1, Att.miss _ _ _ 0 (Or.inl Nat.zero_lt_one), P0]
      refine (hit3 X 0 0 (by decide) _ _ u l).trans ((rowsT0 i q d L E κ ν γ l u _).trans (congrArg₂ (· + ·) (box X 0 0 (by decide) _ u l) ?_))
      simp only [Nat.zero_add]
    · rw [P3, Att.miss _ _ _ 1 (Or.inl hr'), P2, Att.miss _ _ _ 0 (Or.inr le_rfl), P1]
      refine (hit3 _ 1 0 (by decide) _ _ u l).trans ((rowsT1 i q d L E κ ν γ l rfl u _).trans (congrArg₂ (· + ·) ((box _ 1 0 (by decide) _ u l).trans ?_) ?_))
      · rw [P0, Att.miss _ _ _ 0 (Or.inr le_rfl)]
      · simp only [Nat.zero_add]
  · have hr' : 0 + 256 ≤ 256 + u.val := by omega
    constructor
    · rw [P3, Att.miss _ _ _ 0 (Or.inl Nat.zero_lt_one), P2]
      refine (hit3 _ 0 256 (by decide) _ _ u l).trans ((rowsB0 i q d L E κ ν γ l u _).trans (congrArg₂ (· + ·) ((box _ 0 256 (by decide) _ u l).trans ?_) rfl))
      rw [P1, Att.miss _ _ _ 0 (Or.inl Nat.zero_lt_one), P0, Att.miss _ _ _ 1 (Or.inr hr')]
    · rw [P3]
      refine (hit3 _ 1 256 (by decide) _ _ u l).trans ((rowsB1 i q d L E κ ν γ l rfl u _).trans (congrArg₂ (· + ·) ((box _ 1 256 (by decide) _ u l).trans ?_) rfl))
      rw [P2, Att.miss _ _ _ 0 (Or.inr le_rfl), P1, Att.miss _ _ _ 1 (Or.inr hr'), P0, Att.miss _ _ _ 0 (Or.inr le_rfl)]
end

end Cert.Proof.AttQ
end
-- ==== Proof.AttQOut.lean ====
/- The gradient for the queries: the two outputs of one grid step, as sums of blocks. -/
module

public import proofs.«01_k».proof.Proof.AttQTail

@[expose] public section

set_option maxRecDepth 16384

noncomputable section

namespace Cert.Proof.AttQ
open Idealize.ShloMosaic Idealize.ShloMosaic.TcCoe Idealize.SL.Sem
open Cert.AttQIdeal Cert.AttQIdeal.Gen

/-- The loop's stores depend on the table's word only through its value. -/
theorem pb_word (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x32x2x512 .f32) (harg7 : arg7.IsWhole) (arg8 : Memref sig .tc .vmem S1x512x2 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S1x1x2x512 .f32) (harg11 : arg11.IsWhole) (arg12 : Memref sig .tc .vmem S512x128 .f32) (harg12 : arg12.IsWhole) (arg13 : Memref sig .tc .vmem S2x512x128 .f32) (harg13 : arg13.IsWhole) (arg0 : BitVec 32) (arg1 : BitVec 32) (v8 : IVec S512x128 1) (v10 : FVec Ideal S512x128 .bf16) (v11 : FVec Ideal S512x128 .bf16) (v12 : FVec Ideal S512x128 .bf16) (v13 : FVec Ideal S512x128 .bf16) (v17 : FVec Ideal S512x128 .f32) (v21 : FVec Ideal S512x128 .f32) (v24 : FVec Ideal S512x128 .f32) (v34 : FVec Ideal S512x128 .f32) (v38 : IVec S512x128 1) (cst_12 : Ideal .f32) (v55 : Elt Ideal .i32) (k0_hw1 : k0_chk1 i v55) (X_arg5 : BufTy.Contents (Elt Ideal) arg5.view.ty) (X_arg6 : BufTy.Contents (Elt Ideal) arg6.view.ty) (X_arg7 : BufTy.Contents (Elt Ideal) arg7.view.ty) (G_arg12 : BufTy.Contents (Elt Ideal) arg12.view.ty) (G_arg13 : BufTy.Contents (Elt Ideal) arg13.view.ty) (N N' : ℕ) (hN : N = N') (w' : Elt Ideal .i32) (hv : v55 = w') (hw' : k0_chk1 i w') :
    pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v8 v10 v11 v12 v13 v17 v21 v24 v34 v38 cst_12 v55 k0_hw1 X_arg5 X_arg6 X_arg7 G_arg12 G_arg13 N = pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg0 arg1 v8 v10 v11 v12 v13 v17 v21 v24 v34 v38 cst_12 w' hw' X_arg5 X_arg6 X_arg7 G_arg12 G_arg13 N' := by
  subst hv
  subst hN
  rfl

/-- The second loop runs over no block. -/
theorem pb2_zero (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x32x2x512 .f32) (harg7 : arg7.IsWhole) (arg8 : Memref sig .tc .vmem S1x512x2 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S1x1x2x512 .f32) (harg11 : arg11.IsWhole) (arg12 : Memref sig .tc .vmem S512x128 .f32) (harg12 : arg12.IsWhole) (arg13 : Memref sig .tc .vmem S2x512x128 .f32) (harg13 : arg13.IsWhole) (arg0 : BitVec 32) (arg1 : BitVec 32) (v8 : IVec S512x128 1) (v10 : FVec Ideal S512x128 .bf16) (v11 : FVec Ideal S512x128 .bf16) (v12 : FVec Ideal S512x128 .bf16) (v13 : FVec Ideal S512x128 .bf16) (v17 : FVec Ideal S512x128 .f32) (v21 : FVec Ideal S512x128 .f32) (v24 : FVec Ideal S512x128 .f32) (v34 : FVec Ideal S512x128 .f32) (v38 : IVec S512x128 1) (cst_12 : Ideal .f32) (v55 : Elt Ideal .i32) (k0_hw1 : k0_chk1 i v55) (v60 : BitVec 32) (X_arg5 : BufTy.Contents (Elt Ideal) arg5.view.ty) (X_arg6 : BufTy.Contents (Elt Ideal) arg6.view.ty) (X_arg7 : BufTy.Contents (Elt Ideal) arg7.view.ty) (G_arg12 : BufTy.Contents (Elt Ideal) arg12.view.ty) (G_arg13 : BufTy.Contents (Elt Ideal) arg13.view.ty) (N : ℕ) (hN : N = 0) : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg0 arg1 v8 v10 v11 v12 v13 v17 v21 v24 v34 v38 cst_12 v55 k0_hw1 v60 X_arg5 X_arg6 X_arg7 G_arg12 G_arg13 N = ([], []) := by
  subst hN
  unfold pb_k0_t2
  rfl

theorem trips1 (i : grid0.Coords) : Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 := by
  have h : ∀ b : Fin 32, Scf.trips (Scalar.addi 0#32 (Scalar.muli (Scalar.divsi (Scalar.subi (BitVec.ofNat 32 b.val) 0#32) 1#32) 1#32)) (Scalar.addi 0#32 (Scalar.subi (BitVec.ofNat 32 b.val) 0#32)) 1#32 = 0 := by
    decide +kernel
  exact h (i 1)

theorem pay109_at (f : FVec Ideal S512x128 .f32) (r : Fin 512) (l : Fin 128) : k0_pay109 (F := Ideal) f (ix2 r l) = f (ix2 r l) * Ideal.ofBits .f32 0x3E000000#32 := by
  pointwise [k0_pay109]

theorem pay110_at (f : FVec Ideal S1x512x128 .f32) (r : Fin 512) : k0_pay110 (F := Ideal) f (ix4 0 0 0 r) = ∑ l, f (ix3 0 r l) := by
  pointwise [k0_pay110]

theorem pay111_at (f : FVec Ideal S1x512x128 .f32) (r : Fin 512) : k0_pay1 (F := Ideal) (k0_pay111 f) (ix4 0 0 0 r) = ∑ l, f (ix3 0 r l) := by
  pointwise [k0_pay1, k0_pay111]

/-- One head's box of the row sums reads them at its own rows. -/
theorem head (X : List (View.Piece (Elt Ideal) S2x512x128 .f32)) (e : Fin 2) (inb) (r : Fin 512) (l : Fin 128) :
    View.canon X ((Rect.unit (s := S2x512x128) ![e.val, 0, 0] ![1, 512, 128] inb).toLoadRect.idx (ix3 0 r l)) = View.canon X (ix3 e r l) := by
  refine congrArg _ (funext fun a => Fin.ext ?_)
  match a with
  | ⟨0, _⟩ => exact (Rect.idx_unit_val _ _ _ _ _).trans (Nat.add_zero _)
  | ⟨1, _⟩ => exact (Rect.idx_unit_val _ _ _ _ _).trans (Nat.zero_add _)
  | ⟨2, _⟩ => exact (Rect.idx_unit_val _ _ _ _ _).trans (Nat.zero_add _)

theorem zero12 (r : Fin 512) (l : Fin 128) : View.canon ([⟨Rect.unit ![0, 0] ![512, 128] inb_S512x128_S512x128_0_0, k0_pay57 (F := Ideal)⟩] : List (View.Piece (Elt Ideal) S512x128 .f32)) (ix2 r l) = 0 := by
  refine (Att.hit (e := .f32) _ _ _ (ix2 r l) fun a => ?_).trans ?_
  · match a with
    | ⟨0, _⟩ => exact (Nat.zero_add _).symm
    | ⟨1, _⟩ => exact (Nat.zero_add _).symm
  · pointwise [k0_pay57]

theorem zero13 (e : Fin 2) (r : Fin 512) (l : Fin 128) :
    View.canon ([⟨Rect.unit ![0, 0, 0] ![2, 512, 128] inb_S2x512x128_S2x512x128_0_0_0, k0_pay58 (F := Ideal)⟩] : List (View.Piece (Elt Ideal) S2x512x128 .f32)) (ix3 e r l) = 0 := by
  refine (Att.hit (e := .f32) _ _ _ (ix3 e r l) fun a => ?_).trans ?_
  · match a with
    | ⟨0, _⟩ => exact (Nat.zero_add _).symm
    | ⟨1, _⟩ => exact (Nat.zero_add _).symm
    | ⟨2, _⟩ => exact (Nat.zero_add _).symm
  · pointwise [k0_pay58]

theorem off6 (i : grid0.Coords) : k0_off6 i = ![512 * (i 1).val, 0] := by
  have h : ∀ b : Fin 32, (Scalar.indexCast (Scalar.muli (BitVec.ofNat 32 b.val) 512#32)).toNat = 512 * b.val := by decide +kernel
  exact congrArg (fun n : ℕ => (![n, 0] : Fin 2 → ℕ)) (h (i 1))

theorem off7 (i : grid0.Coords) : k0_off7 i = ![0, (i 1).val, 0, 0] := by
  have h : ∀ b : Fin 32, (Scalar.indexCast (BitVec.ofNat 32 b.val)).toNat = b.val := by decide +kernel
  exact congrArg (fun n : ℕ => (![0, n, 0, 0] : Fin 4 → ℕ)) (h (i 1))

theorem whole2 {e : EltTy} (x : S512x128.Idx → Elt Ideal e) (inb) : View.ld (Val := Elt Ideal) (e' := e) x (Rect.unit (s := S512x128) ![0, 0] ![512, 128] inb) = x := by
  funext y
  refine View.ld_unit_apply_of (Val := Elt Ideal) (e := e) x _ _ inb y _ fun a => ?_
  match a with
  | ⟨0, _⟩ => exact (Nat.zero_add _).symm
  | ⟨1, _⟩ => exact (Nat.zero_add _).symm

theorem whole3 (x : FVec Ideal S1x512x2 .f32) (inb) : View.ld (Val := Elt Ideal) (e' := .f32) x (Rect.unit (s := S1x512x2) ![0, 0, 0] ![1, 512, 2] inb) = x := by
  funext y
  refine View.ld_unit_apply_of (Val := Elt Ideal) (e := .f32) x _ _ inb y _ fun a => ?_
  match a with
  | ⟨0, _⟩ => exact (Nat.zero_add _).symm
  | ⟨1, _⟩ => exact (Nat.zero_add _).symm
  | ⟨2, _⟩ => exact (Nat.zero_add _).symm

section
variable (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x32x2x512 .f32) (harg7 : arg7.IsWhole) (arg8 : Memref sig .tc .vmem S1x512x2 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S1x1x2x512 .f32) (harg11 : arg11.IsWhole) (arg12 : Memref sig .tc .vmem S512x128 .f32) (harg12 : arg12.IsWhole) (arg13 : Memref sig .tc .vmem S2x512x128 .f32) (harg13 : arg13.IsWhole)
    (x0 : Vec Ideal S512x128 .bf16) (x1 : Vec Ideal S512x128 .bf16) (x2 : Vec Ideal S16384x128 .bf16) (x3 : Vec Ideal S16384x128 .bf16) (x4 : Vec Ideal S1x32x2x512 .f32) (x5 : Vec Ideal S1x512x2 .f32) (x6 : Vec Ideal S512x128 .f32) (xt0 : TbBuf0 (F := Ideal) c tbM0_0) (k0_hw1 : k0_chk1 i (tbM0_0.view.readAt (Elt Ideal) (Rect.unit (s := S8x32) (k0_off1 i) S1x1.size (k0_off1_inb i)).toLoadRect xt0 (Shape.Idx.first (numel1_S1x1.symm ▸ Nat.one_pos))))
  (hz : (tbM0_0.view.readAt (Elt Ideal) (Rect.unit (s := S8x32) (k0_off1 i) S1x1.size (k0_off1_inb i)).toLoadRect xt0 (Shape.Idx.first (numel1_S1x1.symm ▸ Nat.one_pos))) = 0#32)
include hz
theorem out7 (r : Fin 512) (l : Fin 128) : out0_A_7 c i arg3 harg3 arg4 harg4 arg5 harg5 arg6 harg6 arg7 harg7 arg8 harg8 arg9 harg9 arg10 harg10 arg11 harg11 arg12 harg12 arg13 harg13 x0 x1 x2 x3 x4 x5 x6 xt0 k0_hw1 (ix2 r l)
    = (Att.upto (TA i x0 x1 x5 x6 x2 x3 x4 r l) (i 1).val + Scalar.select (IntOp.cmpi .slt (BitVec.ofNat 32 l.val) 64#32)
          (∑ c, M0 i x0 x1 x5 x6 (KB x2 (i 1)) (KB x3 (i 1)) (CB x4 (i 1)) r c * KB x2 (i 1) (ix2 c l)) (∑ c, M1 i x0 x1 x5 x6 (KB x2 (i 1)) (KB x3 (i 1)) (CB x4 (i 1)) r c * KB x2 (i 1) (ix2 c l)))
        * Ideal.ofBits .f32 0x3E000000#32 := by
  have h0 : k0_chk1 i 0#32 := hz ▸ k0_hw1
  have hz' : kernelRun0_A.sl.r_8 (F := Ideal) c i xt0 = 0#32 := hz
  have hN : Scf.trips (kernelRun0_A.sl.r_8 (F := Ideal) c i xt0) (Scalar.addi (kernelRun0_A.sl.r_8 (F := Ideal) c i xt0) (Scalar.muli (Scalar.divsi (Scalar.subi (BitVec.ofNat 32 (i 1).val) (kernelRun0_A.sl.r_8 (F := Ideal) c i xt0)) 1#32) 1#32)) 1#32 = (i 1).val := by
    rw [hz']; exact trips0 i
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 x0 x1 x2 x3 x4 x5 x6 xt0 k0_hw1)]
  unfold kernelRun0_A
  dsimp only
  unfold kernelRun0_A.sl.v276 kernelRun0_A.sl.HS0_2 kernelRun0_A.sl.v269 kernelRun0_A.sl.HS0_1_1 kernelRun0_A.sl.v154 kernelRun0_A.sl.HS0_1 kernelRun0_A.sl.HS1_1
  unfold kernelRun0_A.sl.r_21 kernelRun0_A.sl.r_22 kernelRun0_A.sl.r_23 kernelRun0_A.sl.r_24 kernelRun0_A.sl.r_25 kernelRun0_A.sl.r_16 kernelRun0_A.sl.r_17
  unfold kernelRun0_A.sl.r_20 kernelRun0_A.sl.r_18 kernelRun0_A.sl.r_19 kernelRun0_A.sl.r_15
  unfold kernelRun0_A.sl.r_9 kernelRun0_A.sl.r_10 kernelRun0_A.sl.r_11 kernelRun0_A.sl.r_12 kernelRun0_A.sl.r_13 kernelRun0_A.sl.r_14
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
    kernelRun0_A.sl.cst_12 kernelRun0_A.sl.cst_30 kernelRun0_A.sl.v119
  simp only [View.readCov_eq_canon', View.readAt_eq_ld, harg3.read_unread, harg4.read_unread, harg5.read_unread, harg6.read_unread, harg7.read_unread,
    harg8.read_unread, harg9.read_unread, whole2, whole3, ldK _ (i 1) _ (off6 i), ldC _ (i 1) _ (off7 i)]
  rw [pb2_zero]
  case hN =>
    rw [hz']
    exact trips1 i
  rw [pb_word (N' := (i 1).val) (hN := hN) (w' := 0#32) (hv := hz') (hw' := h0)]
  simp only [List.nil_append]
  refine (Att.hit _ _ _ (ix2 r l) fun a => ?_).trans ((pay109_at _ r l).trans (congrArg (· * _) ?_))
  · match a with
    | ⟨0, _⟩ => exact (Nat.zero_add _).symm
    | ⟨1, _⟩ => exact (Nat.zero_add _).symm
  refine Eq.trans (congrArg _ (funext fun a => Fin.ext ?_)) ((tailA i x0 x1 x5 x6 (KB x2 (i 1)) (KB x3 (i 1)) (CB x4 (i 1)) _ r l).trans (congrArg₂ (· + ·) ?_ rfl))
  · match a with
    | ⟨0, _⟩ => exact (Rect.idx_unit_val _ _ _ _ _).trans (Nat.zero_add _)
    | ⟨1, _⟩ => exact (Rect.idx_unit_val _ _ _ _ _).trans (Nat.zero_add _)
  exact (inv _ c _ i tbM0_0 htbM0_0 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) x0 x1 x5 x6 x2 x3 x4 h0 _ _ zero12 zero13 _ le_rfl).1 r l

theorem out8 (r : Fin 512) (e : Fin 2) : out0_A_8 c i arg3 harg3 arg4 harg4 arg5 harg5 arg6 harg6 arg7 harg7 arg8 harg8 arg9 harg9 arg10 harg10 arg11 harg11 arg12 harg12 arg13 harg13 x0 x1 x2 x3 x4 x5 x6 xt0 k0_hw1 (ix4 0 0 e r)
    = ∑ l : Fin 128, if e = 0 then Att.upto (T0 i x0 x1 x5 x6 x2 x3 x4 r l) (i 1).val + fold4 (M0 i x0 x1 x5 x6 (KB x2 (i 1)) (KB x3 (i 1)) (CB x4 (i 1)) r) l
        else Att.upto (T1 i x0 x1 x5 x6 x2 x3 x4 r l) (i 1).val + fold4 (M1 i x0 x1 x5 x6 (KB x2 (i 1)) (KB x3 (i 1)) (CB x4 (i 1)) r) l := by
  have h0 : k0_chk1 i 0#32 := hz ▸ k0_hw1
  have hz' : kernelRun0_A.sl.r_8 (F := Ideal) c i xt0 = 0#32 := hz
  have hN : Scf.trips (kernelRun0_A.sl.r_8 (F := Ideal) c i xt0) (Scalar.addi (kernelRun0_A.sl.r_8 (F := Ideal) c i xt0) (Scalar.muli (Scalar.divsi (Scalar.subi (BitVec.ofNat 32 (i 1).val) (kernelRun0_A.sl.r_8 (F := Ideal) c i xt0)) 1#32) 1#32)) 1#32 = (i 1).val := by
    rw [hz']; exact trips0 i
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 x0 x1 x2 x3 x4 x5 x6 xt0 k0_hw1)]
  unfold kernelRun0_A
  dsimp only
  unfold kernelRun0_A.sl.r_27 kernelRun0_A.sl.v281 kernelRun0_A.sl.v289 kernelRun0_A.sl.HS1_4 kernelRun0_A.sl.r_26 kernelRun0_A.sl.v257 kernelRun0_A.sl.HS1_3 kernelRun0_A.sl.v203
    kernelRun0_A.sl.HS1_2 kernelRun0_A.sl.v144 kernelRun0_A.sl.HS1_1_1 kernelRun0_A.sl.v104 kernelRun0_A.sl.HS0_1 kernelRun0_A.sl.HS1_1
  unfold kernelRun0_A.sl.r_17 kernelRun0_A.sl.r_18 kernelRun0_A.sl.r_19 kernelRun0_A.sl.r_15
  unfold kernelRun0_A.sl.r_9 kernelRun0_A.sl.r_10 kernelRun0_A.sl.r_11 kernelRun0_A.sl.r_12 kernelRun0_A.sl.r_13 kernelRun0_A.sl.r_14
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
    kernelRun0_A.sl.cst_12 kernelRun0_A.sl.cst_30 kernelRun0_A.sl.v119
  simp only [View.readCov_eq_canon', View.readAt_eq_ld, harg3.read_unread, harg4.read_unread, harg5.read_unread, harg6.read_unread, harg7.read_unread,
    harg8.read_unread, harg9.read_unread, whole2, whole3, ldK _ (i 1) _ (off6 i), ldC _ (i 1) _ (off7 i)]
  rw [pb2_zero]
  case hN =>
    rw [hz']
    exact trips1 i
  rw [pb_word (N' := (i 1).val) (hN := hN) (w' := 0#32) (hv := hz') (hw' := h0)]
  simp only [List.nil_append]
  obtain ⟨-, i0, i1⟩ := inv Variants.none c none i tbM0_0 htbM0_0 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) x0 x1 x5 x6 x2 x3 x4 h0 _ _ zero12 zero13 _ le_rfl
  unfold pb at i0 i1
  generalize (pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) k0_pay44 (k0_pay46 x0) (k0_pay47 x0) (k0_pay48 x1) (k0_pay49 x1)
      (k0_pay51 x6) (k0_pay52 x5) (k0_pay53 x5) (k0_pay54 i x6) (k0_pay55 i) c0 0#32 h0 (harg5.unread x2) (harg6.unread x3) (harg7.unread x4)
      (arg12.view.writes (Elt Ideal) arg12.view.junk ([⟨Rect.unit ![0, 0] ![512, 128] inb_S512x128_S512x128_0_0, k0_pay57 (F := Ideal)⟩] : List (View.Piece (Elt Ideal) S512x128 .f32)))
      (arg13.view.writes (Elt Ideal) arg13.view.junk ([⟨Rect.unit ![0, 0, 0] ![2, 512, 128] inb_S2x512x128_S2x512x128_0_0_0, k0_pay58 (F := Ideal)⟩] : List (View.Piece (Elt Ideal) S2x512x128 .f32))) (i 1).val).2
    ++ ([⟨Rect.unit ![0, 0, 0] ![2, 512, 128] inb_S2x512x128_S2x512x128_0_0_0, k0_pay58 (F := Ideal)⟩] : List (View.Piece (Elt Ideal) S2x512x128 .f32)) = X at i0 i1 ⊢
  have tb := tailB i x0 x1 x5 x6 (KB x2 (i 1)) (KB x3 (i 1)) (CB x4 (i 1)) X
  unfold P3 P2 P1 P0 at tb
  match e with
  | 0 =>
    rw [Att.miss _ _ _ 2 (Or.inl Nat.zero_lt_one)]
    refine (Att.hit _ _ _ (ix4 0 0 0 r) fun a => ?_).trans ?_
    · match a with
      | ⟨0, _⟩ => rfl
      | ⟨1, _⟩ => rfl
      | ⟨2, _⟩ => rfl
      | ⟨3, _⟩ => exact (Nat.zero_add _).symm
    refine (pay110_at _ r).trans (Finset.sum_congr rfl fun l _ => ?_)
    rw [if_pos rfl]
    exact (head _ 0 _ r l).trans ((tb r l).1.trans (congrArg₂ (· + ·) (i0 r l) rfl))
  | 1 =>
    refine (Att.hit _ _ _ (ix4 0 0 0 r) fun a => ?_).trans ?_
    · match a with
      | ⟨0, _⟩ => rfl
      | ⟨1, _⟩ => rfl
      | ⟨2, _⟩ => rfl
      | ⟨3, _⟩ => exact (Nat.zero_add _).symm
    refine (pay111_at _ r).trans (Finset.sum_congr rfl fun l _ => ?_)
    rw [if_neg (by decide)]
    exact (head _ 1 _ r l).trans ((tb r l).2.trans (congrArg₂ (· + ·) (i1 r l) rfl))
end

end Cert.Proof.AttQ
end
-- ==== Proof.AttQPoint.lean ====
/- The gradient for the queries: what the pipeline leaves in the two output arrays. -/
module

public import proofs.«01_k».proof.Proof.AttQHost
public import proofs.«01_k».proof.Proof.AttQHyps
public import proofs.«01_k».proof.Proof.AttQOut

@[expose] public section

set_option maxRecDepth 16384

noncomputable section

namespace Cert.Proof.AttQ
open Idealize.ShloMosaic Idealize.ShloMosaic.TcCoe Idealize.SL.Sem
open Cert.AttQIdeal Cert.AttQIdeal.Gen Cert.Proof.Att
variable (m : (ℓ : Loc nD τ sig) → Buf (Elt Ideal) ℓ) (c : Dev nD) (hO : Ok m) (t : Fin (cfgM m hO).N)

/-- Where each window's block lies, as the grid's point says it. -/
theorem idx : ∀ t : Fin grid0.N, cc0_transform_0 (grid0.coords t) = ![(grid0.coords t 1).val, (grid0.coords t 0).val]
    ∧ cc0_transform_1 (grid0.coords t) = ![(grid0.coords t 1).val, (grid0.coords t 0).val]
    ∧ cc0_transform_2 (grid0.coords t) = ![0, 8 + (grid0.coords t 0).val]
    ∧ cc0_transform_3 (grid0.coords t) = ![0, 16 + (grid0.coords t 0).val]
    ∧ cc0_transform_4 (grid0.coords t) = ![(grid0.coords t 0).val, 0, 0, 0]
    ∧ cc0_transform_5 (grid0.coords t) = ![(grid0.coords t 0).val, (grid0.coords t 1).val, 0]
    ∧ cc0_transform_6 (grid0.coords t) = ![(grid0.coords t 1).val, 0]
    ∧ cc0_transform_7 (grid0.coords t) = ![(grid0.coords t 1).val, (grid0.coords t 0).val]
    ∧ cc0_transform_8 (grid0.coords t) = ![(grid0.coords t 0).val, (grid0.coords t 1).val, 0, 0] := by decide +kernel

theorem wx0 (k : Fin 2) : (pcfg0.win (adm m hO) 0).index t k = (![(grid0.coords t 1).val, (grid0.coords t 0).val] : Fin 2 → ℕ) k := by
  obtain ⟨h0, h1, h2, h3, h4, h5, h6, h7, h8⟩ := idx t
  exact congrFun h0 k

theorem wx1 (k : Fin 2) : (pcfg0.win (adm m hO) 1).index t k = (![(grid0.coords t 1).val, (grid0.coords t 0).val] : Fin 2 → ℕ) k := by
  obtain ⟨h0, h1, h2, h3, h4, h5, h6, h7, h8⟩ := idx t
  exact congrFun h1 k

theorem wx2 (k : Fin 2) : (pcfg0.win (adm m hO) 2).index t k = (![0, 8 + (grid0.coords t 0).val] : Fin 2 → ℕ) k := by
  obtain ⟨h0, h1, h2, h3, h4, h5, h6, h7, h8⟩ := idx t
  exact congrFun h2 k

theorem wx3 (k : Fin 2) : (pcfg0.win (adm m hO) 3).index t k = (![0, 16 + (grid0.coords t 0).val] : Fin 2 → ℕ) k := by
  obtain ⟨h0, h1, h2, h3, h4, h5, h6, h7, h8⟩ := idx t
  exact congrFun h3 k

theorem wx4 (k : Fin 4) : (pcfg0.win (adm m hO) 4).index t k = (![(grid0.coords t 0).val, 0, 0, 0] : Fin 4 → ℕ) k := by
  obtain ⟨h0, h1, h2, h3, h4, h5, h6, h7, h8⟩ := idx t
  exact congrFun h4 k

theorem wx5 (k : Fin 3) : (pcfg0.win (adm m hO) 5).index t k = (![(grid0.coords t 0).val, (grid0.coords t 1).val, 0] : Fin 3 → ℕ) k := by
  obtain ⟨h0, h1, h2, h3, h4, h5, h6, h7, h8⟩ := idx t
  exact congrFun h5 k

theorem wx6 (k : Fin 2) : (pcfg0.win (adm m hO) 6).index t k = (![(grid0.coords t 1).val, 0] : Fin 2 → ℕ) k := by
  obtain ⟨h0, h1, h2, h3, h4, h5, h6, h7, h8⟩ := idx t
  exact congrFun h6 k

theorem wx7 (k : Fin 2) : (pcfg0.win (adm m hO) 7).index t k = (![(grid0.coords t 1).val, (grid0.coords t 0).val] : Fin 2 → ℕ) k := by
  obtain ⟨h0, h1, h2, h3, h4, h5, h6, h7, h8⟩ := idx t
  exact congrFun h7 k

theorem wx8 (k : Fin 4) : (pcfg0.win (adm m hO) 8).index t k = (![(grid0.coords t 0).val, (grid0.coords t 1).val, 0, 0] : Fin 4 → ℕ) k := by
  obtain ⟨h0, h1, h2, h3, h4, h5, h6, h7, h8⟩ := idx t
  exact congrFun h8 k

theorem blk0 (W : (b : Ref sig .tc) → Buf (Elt Ideal) ((c.tc : Thread nD τ).loc b)) (r : Fin 512) (x : Fin 128) : (((cfgM m hO).win 0).blk t).view.read (Elt Ideal) (W (Pipeline.arrRef spec0 0)) (ix2 r x) = W main_v42 (ix2 (row (grid0.coords t 1) r) ⟨128 * (grid0.coords t 0).val + x.val, by
    have h : (grid0.coords t 0).val < 8 := (grid0.coords t 0).isLt
    omega⟩) := by
  blk_simp [row]
  refine congrArg (W main_v42) ?_
  blk_point [row]
  · exact (congrArg (fun n : ℕ => n * 512 + r.val) (wx0 m hO t 0)).trans (by show ((grid0.coords t 1).val) * 512 + r.val = _; first | rfl | omega)
  · exact (congrArg (fun n : ℕ => n * 128 + x.val) (wx0 m hO t 1)).trans (by show ((grid0.coords t 0).val) * 128 + x.val = _; first | rfl | omega)

theorem blk1 (W : (b : Ref sig .tc) → Buf (Elt Ideal) ((c.tc : Thread nD τ).loc b)) (r : Fin 512) (x : Fin 128) : (((cfgM m hO).win 1).blk t).view.read (Elt Ideal) (W (Pipeline.arrRef spec0 1)) (ix2 r x) = W main_v43 (ix2 (row (grid0.coords t 1) r) ⟨128 * (grid0.coords t 0).val + x.val, by
    have h : (grid0.coords t 0).val < 8 := (grid0.coords t 0).isLt
    omega⟩) := by
  blk_simp [row]
  refine congrArg (W main_v43) ?_
  blk_point [row]
  · exact (congrArg (fun n : ℕ => n * 512 + r.val) (wx1 m hO t 0)).trans (by show ((grid0.coords t 1).val) * 512 + r.val = _; first | rfl | omega)
  · exact (congrArg (fun n : ℕ => n * 128 + x.val) (wx1 m hO t 1)).trans (by show ((grid0.coords t 0).val) * 128 + x.val = _; first | rfl | omega)

theorem blk2 (W : (b : Ref sig .tc) → Buf (Elt Ideal) ((c.tc : Thread nD τ).loc b)) (j : Fin 16384) (x : Fin 128) : (((cfgM m hO).win 2).blk t).view.read (Elt Ideal) (W (Pipeline.arrRef spec0 2)) (ix2 j x) = W main_v42 (ix2 j ⟨1024 + 128 * (grid0.coords t 0).val + x.val, by
    have h : (grid0.coords t 0).val < 8 := (grid0.coords t 0).isLt
    omega⟩) := by
  blk_simp [row]
  refine congrArg (W main_v42) ?_
  blk_point [row]
  · exact (congrArg (fun n : ℕ => n * 16384 + j.val) (wx2 m hO t 0)).trans (by show (0) * 16384 + j.val = _; first | rfl | omega)
  · exact (congrArg (fun n : ℕ => n * 128 + x.val) (wx2 m hO t 1)).trans (by show (8 + (grid0.coords t 0).val) * 128 + x.val = _; first | rfl | omega)

theorem blk3 (W : (b : Ref sig .tc) → Buf (Elt Ideal) ((c.tc : Thread nD τ).loc b)) (j : Fin 16384) (x : Fin 128) : (((cfgM m hO).win 3).blk t).view.read (Elt Ideal) (W (Pipeline.arrRef spec0 3)) (ix2 j x) = W main_v42 (ix2 j ⟨2048 + 128 * (grid0.coords t 0).val + x.val, by
    have h : (grid0.coords t 0).val < 8 := (grid0.coords t 0).isLt
    omega⟩) := by
  blk_simp [row]
  refine congrArg (W main_v42) ?_
  blk_point [row]
  · exact (congrArg (fun n : ℕ => n * 16384 + j.val) (wx3 m hO t 0)).trans (by show (0) * 16384 + j.val = _; first | rfl | omega)
  · exact (congrArg (fun n : ℕ => n * 128 + x.val) (wx3 m hO t 1)).trans (by show (16 + (grid0.coords t 0).val) * 128 + x.val = _; first | rfl | omega)

theorem blk4 (W : (b : Ref sig .tc) → Buf (Elt Ideal) ((c.tc : Thread nD τ).loc b)) (b : Fin 32) (e : Fin 2) (k : Fin 512) : (((cfgM m hO).win 4).blk t).view.read (Elt Ideal) (W (Pipeline.arrRef spec0 4)) (ix4 0 b e k) = W main_v51 (ix4 (grid0.coords t 0) b e k) := by
  blk_simp [row]
  refine congrArg (W main_v51) ?_
  blk_point [row]
  · exact wx4 m hO t 0
  · exact (congrArg (fun n : ℕ => n * 32 + b.val) (wx4 m hO t 1)).trans (by show (0) * 32 + b.val = _; first | rfl | omega)
  · exact (congrArg (fun n : ℕ => n * 2 + e.val) (wx4 m hO t 2)).trans (by show (0) * 2 + e.val = _; first | rfl | omega)
  · exact (congrArg (fun n : ℕ => n * 512 + k.val) (wx4 m hO t 3)).trans (by show (0) * 512 + k.val = _; first | rfl | omega)

theorem blk5 (W : (b : Ref sig .tc) → Buf (Elt Ideal) ((c.tc : Thread nD τ).loc b)) (r : Fin 512) (e : Fin 2) : (((cfgM m hO).win 5).blk t).view.read (Elt Ideal) (W (Pipeline.arrRef spec0 5)) (ix3 0 r e) = W main_v46 (ix3 (grid0.coords t 0) (row (grid0.coords t 1) r) e) := by
  blk_simp [row]
  refine congrArg (W main_v46) ?_
  blk_point [row]
  · exact wx5 m hO t 0
  · exact (congrArg (fun n : ℕ => n * 512 + r.val) (wx5 m hO t 1)).trans (by show ((grid0.coords t 1).val) * 512 + r.val = _; first | rfl | omega)
  · exact (congrArg (fun n : ℕ => n * 2 + e.val) (wx5 m hO t 2)).trans (by show (0) * 2 + e.val = _; first | rfl | omega)

theorem blk6 (W : (b : Ref sig .tc) → Buf (Elt Ideal) ((c.tc : Thread nD τ).loc b)) (r : Fin 512) (x : Fin 128) : (((cfgM m hO).win 6).blk t).view.read (Elt Ideal) (W (Pipeline.arrRef spec0 6)) (ix2 r x) = W main_v48 (ix2 (row (grid0.coords t 1) r) x) := by
  blk_simp [row]
  refine congrArg (W main_v48) ?_
  blk_point [row]
  · exact (congrArg (fun n : ℕ => n * 512 + r.val) (wx6 m hO t 0)).trans (by show ((grid0.coords t 1).val) * 512 + r.val = _; first | rfl | omega)
  · exact (congrArg (fun n : ℕ => n * 128 + x.val) (wx6 m hO t 1)).trans (by show (0) * 128 + x.val = _; first | rfl | omega)

theorem row_bound (i : grid0.Coords) : (i 0).val < 8 := (i 0).isLt

theorem rows {m : (ℓ : Loc nD τ sig) → Buf (Elt Ideal) ℓ} {c : Dev nD} (hO : Ok m) (t : Fin (cfgM m hO).N) {A : Arr} (H : Args m c A) : Rows A (grid0.coords t) (iblk m hO c 0 t : Vec Ideal S512x128 .bf16) (iblk m hO c 1 t : Vec Ideal S512x128 .bf16) (iblk m hO c 5 t : Vec Ideal S1x512x2 .f32) (iblk m hO c 6 t : Vec Ideal S512x128 .f32) where
  q r x := (blk0 m c hO t _ r x).trans (q_read H _ _ x)
  o r x := (blk1 m c hO t _ r x).trans (o_read H _ _)
  l r e := (blk5 m c hO t _ r e).trans (lse_read H _ e _)
  d r e := (blk6 m c hO t _ r _).trans (Eq.trans (congrArg (fun k => V m c main_v48 (ix2 _ k)) (Fin.ext (congrArg (· + e.val) (Nat.mul_comm 2 _)))) (mean_read H _ e _))

theorem cols {m : (ℓ : Loc nD τ sig) → Buf (Elt Ideal) ℓ} {c : Dev nD} (hO : Ok m) (t : Fin (cfgM m hO).N) {A : Arr} (H : Args m c A) (b : Fin 32) : Cols A (grid0.coords t) b (KB (iblk m hO c 2 t : Vec Ideal S16384x128 .bf16) b) (KB (iblk m hO c 3 t : Vec Ideal S16384x128 .bf16) b) (CB (iblk m hO c 4 t : Vec Ideal S1x32x2x512 .f32) b) where
  k s x := (blk2 m c hO t _ _ x).trans (Eq.trans (congrArg (fun k => V m c main_v42 (ix2 k _)) (Fin.ext (congrArg (· + s.val) (Nat.mul_comm 512 _)))) (k_read H (row b s) _ x))
  v s x := (blk3 m c hO t _ _ x).trans (Eq.trans (congrArg (fun k => V m c main_v42 (ix2 k _)) (Fin.ext (congrArg (· + s.val) (Nat.mul_comm 512 _)))) (v_read H (row b s) _ x))
  g e s := (blk4 m c hO t _ b e s).trans (g_read H _ b e s)

theorem tbl_zero' : tbl m 0 = fun _ => 0#32 := by
  funext y
  show StableHlo.after (List.flatten [hostOps0, hostOps0_1, hostOps0_2, hostOps0_3, hostOps0_4]) (fun b => m (0, b)) main_v44 y = _
  simp only [hostOps0, hostOps0_1, hostOps0_2, hostOps0_3, hostOps0_4, List.flatten_cons, List.flatten_nil, List.append_nil, List.cons_append,
      List.nil_append]
  entry_read
  rfl

theorem hyps' (hO : Ok m) : Hyps m hO := Hyps.of fun c t => by
  unfold Hyps.p0
  rw [tbl_zero']
  exact (by decide +kernel : ∀ t : Fin grid0.N, k0_chk1 (grid0.coords t) 0#32) t

theorem word (i : grid0.Coords) (xt0 : TbBuf0 (F := Ideal) c tbM0_0) (h : xt0 = fun _ => 0#32) : (tbM0_0.view.readAt (Elt Ideal) (Rect.unit (s := S8x32) (k0_off1 i) S1x1.size (k0_off1_inb i)).toLoadRect xt0 (Shape.Idx.first (numel1_S1x1.symm ▸ Nat.one_pos))) = 0#32 := by
  subst h
  rfl
theorem emb7 (r : Fin 512) (l : Fin 128) : (((cfgM m hO).win 7).blk t).view.emb (ix2 r l) = ix2 (row (grid0.coords t 1) r) (pl (grid0.coords t 0) l) := by
  blk_point [row, pl]
  · exact (congrArg (fun n : ℕ => n * 512 + r.val) (wx7 m hO t 0)).trans (by show ((grid0.coords t 1).val) * 512 + r.val = _; first | rfl | omega)
  · exact (congrArg (fun n : ℕ => n * 128 + l.val) (wx7 m hO t 1)).trans (by show ((grid0.coords t 0).val) * 128 + l.val = _; first | rfl | omega)

theorem emb8 (e : Fin 2) (r : Fin 512) : (((cfgM m hO).win 8).blk t).view.emb (ix4 0 0 e r) = ix4 (grid0.coords t 0) (grid0.coords t 1) e r := by
  blk_point [row, pl]
  · exact wx8 m hO t 0
  · exact wx8 m hO t 1
  · exact (congrArg (fun n : ℕ => n * 2 + e.val) (wx8 m hO t 2)).trans (by show (0) * 2 + e.val = _; first | rfl | omega)
  · exact (congrArg (fun n : ℕ => n * 512 + r.val) (wx8 m hO t 3)).trans (by show (0) * 512 + r.val = _; first | rfl | omega)

theorem cov7 : ((cfgM m hO).win 7).Covers := by
  let m₀ : (ℓ : Loc nD τ sig) → Buf (Elt Ideal) ℓ := fun _ _ => Classical.choice inferInstance
  exact (by decide +kernel : ((cfgM m₀ trivial).win 7).Covers)

theorem cov8 : ((cfgM m hO).win 8).Covers := by
  let m₀ : (ℓ : Loc nD τ sig) → Buf (Elt Ideal) ℓ := fun _ _ => Classical.choice inferInstance
  exact (by decide +kernel : ((cfgM m₀ trivial).win 8).Covers)

/-- The queries' gradient and the row gates' gradient, of real arrays. -/
def G7 (A : Arr) : FVec Ideal S16384x1024 .bf16 := fun y => (∑ j : Fin 16384, if j.val ≤ (y 0).val then
  ((A.ds ⟨(y 1).val / 64, by have h : (y 1).val < 1024 := (y 1).isLt; omega⟩ (y 0) j * A.k j (y 1) : ℝ) : EReal) else 0) * ((1 / 8 : ℝ) : EReal)
def G8 (A : Arr) : FVec Ideal S8x32x2x512 .f32 := fun y => ∑ j : Fin 16384, if j.val ≤ (row (y 1) (y 3)).val then ((A.ds (pr (y 0) (y 2)) (row (y 1) (y 3)) j : ℝ) : EReal) else 0

variable {m c} (hH : Hyps m hO) {A : Arr} (H : Args m c A)
include H
theorem at7 (y : S512x128.Idx) : ((dats m hO hH 0 c).after 7 t : Vec Ideal S512x128 .bf16) y = G7 A ((((cfgM m hO).win 7).blk t).view.emb y) := by
  obtain ⟨r, l, rfl⟩ : ∃ (r : Fin 512) (l : Fin 128), y = ix2 r l := ⟨y 0, y 1, by idx_vars y⟩
  refine Eq.trans ?_ (congrArg (G7 A) (emb7 m hO t r l)).symm
  rw [after0_7]
  unfold outsAt0
  dsimp only
  refine Eq.trans (out7 c _ _ _ _ _ _ _ _ _ _ _ _ _ _ _ _ _ _ _ _ _ _ _ _ _ _ _ _ _ _ _ _ (word c _ _ (tbl_zero' m)) r l) ((dq_real (rows hO t H) (cols hO t H) r l).trans ?_)
  have e : pr (grid0.coords t 0) ⟨l.val / 64, by omega⟩ = ⟨(pl (grid0.coords t 0) l).val / 64, by omega⟩ := Fin.ext (by
    show (grid0.coords t 0).val * 2 + l.val / 64 = (128 * (grid0.coords t 0).val + l.val) / 64
    omega)
  rw [e]
  rfl

theorem final7 : (dats m hO hH 0 c).arrAt 7 (cfgM m hO).N = G7 A := by
  refine (dats m hO hH 0 c).arrAt_eq_of_covers 7 _ (cov7 m hO) fun t _ y => ?_
  exact at7 hO t hH H y

theorem at8 (y : S1x1x2x512.Idx) : ((dats m hO hH 0 c).after 8 t : Vec Ideal S1x1x2x512 .f32) y = G8 A ((((cfgM m hO).win 8).blk t).view.emb y) := by
  obtain ⟨e, r, rfl⟩ : ∃ (e : Fin 2) (r : Fin 512), y = ix4 0 0 e r := ⟨y 2, y 3, by idx_vars y; refine congrArg₂ (fun a b => ix4 a b _ _) ?_ ?_ <;> exact Subsingleton.elim _ _⟩
  refine Eq.trans ?_ (congrArg (G8 A) (emb8 m hO t e r)).symm
  rw [after0_8]
  unfold outsAt0
  dsimp only
  exact Eq.trans (out8 c _ _ _ _ _ _ _ _ _ _ _ _ _ _ _ _ _ _ _ _ _ _ _ _ _ _ _ _ _ _ _ _ (word c _ _ (tbl_zero' m)) r e) (gate_real (rows hO t H) (cols hO t H) r e)

theorem final8 : (dats m hO hH 0 c).arrAt 8 (cfgM m hO).N = G8 A := by
  refine (dats m hO hH 0 c).arrAt_eq_of_covers 8 _ (cov8 m hO) fun t _ y => ?_
  exact at8 hO t hH H y

end Cert.Proof.AttQ
end
-- ==== Proof.AttRef.lean ====
/- The reference of the attention gradients: the softmax gradient that the transform writes, read at an index and in the reals. -/
module

public import proofs.«01_k».proof.Proof.AttSpec
public import proofs.«01_k».proof.Proof.AttQHyps

@[expose] public section

set_option maxRecDepth 16384

noncomputable section

namespace Cert.Proof.AttRef
open Idealize.ShloMosaic Idealize.ShloMosaic.TcCoe Idealize.SL.Sem
open Cert.AttQRefIdeal Cert.AttQRefIdeal.Gen Cert.AttQRefIdeal.Value Cert.Proof.Att

/-- An array's columns by heads. -/
def heads (a0 : FVec Ideal S16384x1024 .f32) : FVec Ideal S16x16384x64 .f32 := transpose S16x16384x64 [1, 0, 2] (shapeCast _ a0 shapeCasts_S16384x1024_S16384x16x64) transposes_S16384x16x64_S16x16384x64_1_0_2
def maskV : IVec S16x16384x16384 1 := broadcastInDim S16x16384x16384 ![1, 2] bcast_S16384x16384_S16x16384x16384_1_2 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))
/-- The masked scores. -/
def scores (q k : FVec Ideal S16x16384x64 .f32) (a3 : FVec Ideal S16384x16 .f32) : FVec Ideal S16x16384x16384 .f32 := select maskV (subf (addf (mulf (Host.dotGeneral dot_S16x16384x64_S16x16384x64_S16x16384x16384_2_2_1_1_0_0 none q k) (broadcastInDim S16x16384x16384 ![] bcast_S_S16x16384x16384 (constant S_ .f32 0x3E000000#32))) (broadcastInDim S16x16384x16384 ![0, 1, 2] bcast_S16x16384x1_S16x16384x16384_0_1_2 (broadcastInDim S16x16384x1 ![0, 1] bcast_S16x16384_S16x16384x1_0_1 (transpose S16x16384 [1, 0] a3 transposes_S16384x16_S16x16384_1_0)))) (broadcastInDim S16x16384x16384 ![0, 1, 2] bcast_S16x1x16384_S16x16384x16384_0_1_2 (broadcastInDim S16x1x16384 ![0, 2] bcast_S16x16384_S16x1x16384_0_2 (transpose S16x16384 [1, 0] a3 transposes_S16384x16_S16x16384_1_0)))) (broadcastInDim S16x16384x16384 ![] bcast_S_S16x16384x16384 (id (constant S_ .f32 0xFF800000#32)))
/-- Their exponentials, the row's greatest taken off. -/
def maxV (L : FVec Ideal S16x16384x16384 .f32) : FVec Ideal S16x16384 .f32 := Host.reduce FloatOps.maximumf L (constant S_ .f32 0xFF800000#32) reducesTo_S16x16384x16384_S16x16384_d2 h_S_
def expV (L : FVec Ideal S16x16384x16384 .f32) (μ : FVec Ideal S16x16384 .f32) : FVec Ideal S16x16384x16384 .f32 := Host.exp (subf L (broadcastInDim S16x16384x16384 ![0, 1, 2] bcast_S16x16384x1_S16x16384x16384_0_1_2 (broadcastInDim S16x16384x1 ![0, 1] bcast_S16x16384_S16x16384x1_0_1 (maximumf (broadcastInDim S16x16384 ![] bcast_S_S16x16384 (constant S_ .f32 0xFF800000#32)) μ))))
/-- The rows' sums. -/
def sumV (U : FVec Ideal S16x16384x16384 .f32) : FVec Ideal S16x16384x1 .f32 := broadcastInDim S16x16384x1 ![0, 1] bcast_S16x16384_S16x16384x1_0_1 (Host.reduceAdd U (constant S_ .f32 0x00000000#32) reducesTo_S16x16384x16384_S16x16384_d2 h_S_)
/-- Rows against rows. -/
def prodV (o v : FVec Ideal S16x16384x64 .f32) : FVec Ideal S16x16384x16384 .f32 := Host.dotGeneral dot_S16x16384x64_S16x16384x64_S16x16384x16384_2_2_1_1_0_0 none o v
/-- The softmax gradient's row term. -/
def rowV (G U : FVec Ideal S16x16384x16384 .f32) (S : FVec Ideal S16x16384x1 .f32) : FVec Ideal S16x16384x16384 .f32 := broadcastInDim S16x16384x16384 ![0, 1] bcast_S16x16384_S16x16384x16384_0_1 (Host.reduceAdd (Host.negf (shapeCast _ (Host.reduceAdd (mulf (mulf G (broadcastInDim S16x16384x16384 ![0, 1, 2] bcast_S16x16384x1_S16x16384x16384_0_1_2 (Host.divf (broadcastInDim S16x16384x1 ![] bcast_S_S16x16384x1 (constant S_ .f32 0x3F800000#32)) (mulf S S)))) U) (constant S_ .f32 0x00000000#32) reducesTo_S16x16384x16384_S16x16384_d2 h_S_) shapeCasts_S16x16384_S16x16384x1)) (constant S_ .f32 0x00000000#32) reducesTo_S16x16384x1_S16x16384_d2 h_S_)
/-- The scores' cotangent. -/
def dsV (G U : FVec Ideal S16x16384x16384 .f32) (S : FVec Ideal S16x16384x1 .f32) : FVec Ideal S16x16384x16384 .f32 := select maskV (mulf (addf (Host.divf G (broadcastInDim S16x16384x16384 ![0, 1, 2] bcast_S16x16384x1_S16x16384x16384_0_1_2 S)) (rowV G U S)) U) (broadcastInDim S16x16384x16384 ![] bcast_S_S16x16384x16384 (constant S_ .f32 0x00000000#32))

theorem heads_at (a : FVec Ideal S16384x1024 .f32) (h : Fin 16) (i : Fin 16384) (d : Fin 64) : heads a (ix3 h i d) = a (ix2 i (hd h d)) := by
  pointwise [heads]
  rfl
theorem prodV_at (o v : FVec Ideal S16x16384x64 .f32) (h : Fin 16) (i j : Fin 16384) : prodV o v (ix3 h i j) = ∑ d : Fin 64, o (ix3 h i d) * v (ix3 h j d) := by
  pointwise [prodV]
theorem scores_at (q k : FVec Ideal S16x16384x64 .f32) (a3 : FVec Ideal S16384x16 .f32) (h : Fin 16) (i j : Fin 16384) : scores q k a3 (ix3 h i j)
    = if j.val ≤ i.val then (∑ d : Fin 64, q (ix3 h i d) * k (ix3 h j d)) * ((1 / 8 : ℝ) : EReal) + a3 (ix2 i h) - a3 (ix2 j h) else ⊥ := by
  pointwise [scores, maskV]
  rw [mask, eighth]
  split_ifs
  · rfl
  · exact negInf
theorem maxV_at (L : FVec Ideal S16x16384x16384 .f32) (h : Fin 16) (i : Fin 16384) : maxV L (ix2 h i) = Finset.univ.fold max ⊥ fun x : Fin 16384 => L (ix3 h i x) := by
  pointwise [maxV]
  rw [negInf]
theorem expV_at (L : FVec Ideal S16x16384x16384 .f32) (μ : FVec Ideal S16x16384 .f32) (h : Fin 16) (i j : Fin 16384) : expV L μ (ix3 h i j) = Ideal.exp (L (ix3 h i j) - max ⊥ (μ (ix2 h i))) := by
  pointwise [expV]
  rw [negInf]
theorem sumV_at (U : FVec Ideal S16x16384x16384 .f32) (h : Fin 16) (i : Fin 16384) : sumV U (ix3 h i 0) = ∑ x : Fin 16384, U (ix3 h i x) := by
  pointwise [sumV]
theorem rowV_at (G U : FVec Ideal S16x16384x16384 .f32) (S : FVec Ideal S16x16384x1 .f32) (h : Fin 16) (i j : Fin 16384) : rowV G U S (ix3 h i j)
    = -∑ x : Fin 16384, G (ix3 h i x) * Ideal.div 1 (S (ix3 h i 0) * S (ix3 h i 0)) * U (ix3 h i x) := by
  pointwise [rowV]
  rw [Fin.sum_univ_one]
theorem dsV_at (G U : FVec Ideal S16x16384x16384 .f32) (S : FVec Ideal S16x16384x1 .f32) (h : Fin 16) (i j : Fin 16384) : dsV G U S (ix3 h i j)
    = if j.val ≤ i.val then (Ideal.div (G (ix3 h i j)) (S (ix3 h i 0)) + rowV G U S (ix3 h i j)) * U (ix3 h i j) else 0 := by
  pointwise [dsV, maskV]
  rw [mask]
  split_ifs <;> rfl
section
variable {A : Arr} {a0 a1 a2 a4 : FVec Ideal S16384x1024 .f32} {a3 : FVec Ideal S16384x16 .f32}
  (h0 : ∀ i x, a0 (ix2 i x) = (A.q i x : ℝ)) (h1 : ∀ i x, a1 (ix2 i x) = (A.k i x : ℝ)) (h2 : ∀ i x, a2 (ix2 i x) = (A.v i x : ℝ))
  (h3 : ∀ i x, a3 (ix2 i x) = (A.g i x : ℝ)) (h4 : ∀ i x, a4 (ix2 i x) = (A.o i x : ℝ))

include h0 h1 h3 in
/-- The row's scores are the specification's, all shifted by the row's own gate. -/
theorem scores_real (h : Fin 16) (i j : Fin 16384) : scores (heads a0) (heads a1) a3 (ix3 h i j) = X (fun j : Fin 16384 => j.val ≤ i.val) (fun j => A.s h i j + A.g i h) j := by
  rw [scores_at]
  unfold X
  split_ifs
  · simp only [heads_at, h0, h1, h3, ← EReal.coe_mul, ← EReal.coe_sub, ← EReal.coe_add, ← coe_sum]
    refine congrArg (fun x : ℝ => (x : EReal)) ?_
    unfold Arr.s
    have e : ∀ d, A.q i (hd h d) * (1 / 8) * A.k j (hd h d) = A.q i (hd h d) * A.k j (hd h d) * (1 / 8) := fun d => by ring
    simp only [e, ← Finset.sum_mul]
    ring
  · rfl

include h0 h1 h3 in
/-- The exponentials and their sum, up to one factor of the row. -/
theorem exp_real (h : Fin 16) (i : Fin 16384) : ∃ κ : ℝ, 0 < κ
    ∧ (∀ j, expV (scores (heads a0) (heads a1) a3) (maxV (scores (heads a0) (heads a1) a3)) (ix3 h i j) = ((if j.val ≤ i.val then Real.exp (A.s h i j) * κ else 0 : ℝ) : EReal))
    ∧ sumV (expV (scores (heads a0) (heads a1) a3) (maxV (scores (heads a0) (heads a1) a3))) (ix3 h i 0) = ((A.z h i * κ : ℝ) : EReal) := by
  obtain ⟨μ, hμ⟩ := fold_real (fun j : Fin 16384 => j.val ≤ i.val) (fun j => A.s h i j + A.g i h) Finset.univ ⟨i, Finset.mem_univ _, le_refl _⟩
  have key : ∀ j, expV (scores (heads a0) (heads a1) a3) (maxV (scores (heads a0) (heads a1) a3)) (ix3 h i j)
      = ((if j.val ≤ i.val then Real.exp (A.s h i j) * (Real.exp (A.g i h) * Real.exp (-μ)) else 0 : ℝ) : EReal) := fun j => by
    rw [expV_at, maxV_at]
    simp only [scores_real h0 h1 h3]
    rw [hμ, max_eq_right bot_le, exp_sub]
    refine congrArg (fun x : ℝ => (x : EReal)) ?_
    split_ifs
    · rw [Real.exp_add, mul_assoc]
    · rfl
  refine ⟨Real.exp (A.g i h) * Real.exp (-μ), mul_pos (Real.exp_pos _) (Real.exp_pos _), key, ?_⟩
  rw [sumV_at]
  simp only [key, ← coe_sum]
  refine congrArg (fun x : ℝ => (x : EReal)) ?_
  unfold Arr.z Z
  rw [Finset.sum_mul]
  refine Finset.sum_congr rfl fun j _ => ?_
  split_ifs <;> simp

include h0 h1 h3 in
/-- The weights. -/
theorem weight_real (h : Fin 16) (i j : Fin 16384) :
    Ideal.div (expV (scores (heads a0) (heads a1) a3) (maxV (scores (heads a0) (heads a1) a3)) (ix3 h i j)) (sumV (expV (scores (heads a0) (heads a1) a3) (maxV (scores (heads a0) (heads a1) a3))) (ix3 h i 0))
      = ((if j.val ≤ i.val then A.p h i j else 0 : ℝ) : EReal) := by
  obtain ⟨κ, hκ, hU, hS⟩ := exp_real h0 h1 h3 h i
  have hz := A.z_pos h i
  rw [hU, hS, Ideal.div_coe (mul_pos hz hκ).ne', ← EReal.coe_mul]
  refine congrArg (fun x : ℝ => (x : EReal)) ?_
  split_ifs
  · unfold Arr.p
    field_simp
  · simp

include h0 h1 h2 h3 h4 in
/-- The softmax gradient is the weight by the cotangent's distance from its mean. -/
theorem ds_real (h : Fin 16) (i j : Fin 16384) :
    dsV (prodV (heads a4) (heads a2)) (expV (scores (heads a0) (heads a1) a3) (maxV (scores (heads a0) (heads a1) a3))) (sumV (expV (scores (heads a0) (heads a1) a3) (maxV (scores (heads a0) (heads a1) a3)))) (ix3 h i j)
      = ((if j.val ≤ i.val then A.ds h i j else 0 : ℝ) : EReal) := by
  obtain ⟨κ, hκ, hU, hS⟩ := exp_real h0 h1 h3 h i
  have hz := A.z_pos h i
  have hG : ∀ j, prodV (heads a4) (heads a2) (ix3 h i j) = (A.w h i j : ℝ) := fun j => by
    rw [prodV_at]
    simp only [heads_at, h2, h4, ← EReal.coe_mul, ← coe_sum]
    rfl
  rw [dsV_at, rowV_at, hS, ← EReal.coe_mul, ← EReal.coe_one, Ideal.div_coe (mul_pos (mul_pos hz hκ) (mul_pos hz hκ)).ne', Ideal.div_coe (mul_pos hz hκ).ne']
  simp only [hU, hG, ← EReal.coe_mul, ← coe_sum, ← EReal.coe_neg, ← EReal.coe_add]
  split_ifs with hj
  · refine congrArg (fun x : ℝ => (x : EReal)) ?_
    unfold Arr.ds Arr.p
    have e : A.mean h i = κ * A.z h i * ∑ x : Fin 16384, A.w h i x * (1 * (1 / (A.z h i * κ * (A.z h i * κ)))) * (if x.val ≤ i.val then Real.exp (A.s h i x) * κ else 0) := by
      unfold Arr.mean Arr.p
      rw [Finset.mul_sum]
      refine Finset.sum_congr rfl fun x _ => ?_
      split_ifs
      · field_simp
      · simp
    rw [e]
    field_simp
    ring
  · rfl
end

end Cert.Proof.AttRef
end
-- ==== Proof.AttPre.lean ====
/- The precondition of the attention gradients, read as: the five arrays are arrays of reals. -/
module

public import proofs.«01_k».proof.Proof.AttSpec
public import proofs.«01_k».proof.Proof.Gen.Pre_finite

@[expose] public section

set_option maxRecDepth 16384

noncomputable section

namespace Cert.Proof.Att
open Idealize.ShloMosaic Idealize.ShloMosaic.TcCoe Idealize.SL.Sem

theorem real_of {x : EReal} (h : max x (-x) < ⊤) : x = (x.toReal : EReal) := by
  refine (EReal.coe_toReal (fun e => ?_) fun e => ?_).symm
  · subst e; simp at h
  · subst e; simp at h

theorem posInf : Ideal.ofBits .f32 0x7F800000#32 = ⊤ := by simp [Ideal.ofBits, Ideal.ieee]

theorem real_bit {f : FTy} {x : Ideal f} (h : BitVec.ofBool (decide ((FloatOps.absf x : EReal) < Ideal.ofBits .f32 0x7F800000#32)) = 1#1) : (x : EReal) = ((x : EReal).toReal : EReal) := by
  rw [posInf] at h
  by_cases e : (FloatOps.absf x : EReal) < ⊤
  · exact real_of (x := x) e
  · rw [decide_eq_false e] at h
    exact absurd h (by decide)

variable {a0 a1 a2 a4 : FVec Ideal Cert.Pre_finite.S16384x1024 .f32} {a3 : FVec Ideal Cert.Pre_finite.S16384x16 .f32}
/-- Under the precondition the five arrays are arrays of reals. -/
theorem reals_of (p0 : (Cert.Pre_finite.fn (F := Ideal) a0 a1 a2 a3 a4).1 = fun _ => 1#1) (p1 : (Cert.Pre_finite.fn (F := Ideal) a0 a1 a2 a3 a4).2.1 = fun _ => 1#1) (p2 : (Cert.Pre_finite.fn (F := Ideal) a0 a1 a2 a3 a4).2.2.1 = fun _ => 1#1) (p3 : (Cert.Pre_finite.fn (F := Ideal) a0 a1 a2 a3 a4).2.2.2.1 = fun _ => 1#1) (p4 : (Cert.Pre_finite.fn (F := Ideal) a0 a1 a2 a3 a4).2.2.2.2 = fun _ => 1#1) :
    ∃ A : Arr, (∀ i x, a0 (ix2 i x) = (A.q i x : ℝ)) ∧ (∀ i x, a1 (ix2 i x) = (A.k i x : ℝ)) ∧ (∀ i x, a2 (ix2 i x) = (A.v i x : ℝ))
      ∧ (∀ i x, a3 (ix2 i x) = (A.g i x : ℝ)) ∧ ∀ i x, a4 (ix2 i x) = (A.o i x : ℝ) := by
  refine ⟨⟨fun i x => (a0 (ix2 i x) : EReal).toReal, fun i x => (a1 (ix2 i x) : EReal).toReal, fun i x => (a2 (ix2 i x) : EReal).toReal,
    fun i x => (a4 (ix2 i x) : EReal).toReal, fun i x => (a3 (ix2 i x) : EReal).toReal⟩, fun i x => ?_, fun i x => ?_, fun i x => ?_, fun i x => ?_, fun i x => ?_⟩
  · have h := congrFun p0 (ix2 i x)
    pointwise [Cert.Pre_finite.fn] at h
    exact real_bit h
  · have h := congrFun p1 (ix2 i x)
    pointwise [Cert.Pre_finite.fn] at h
    exact real_bit h
  · have h := congrFun p2 (ix2 i x)
    pointwise [Cert.Pre_finite.fn] at h
    exact real_bit h
  · have h := congrFun p3 (ix2 i x)
    pointwise [Cert.Pre_finite.fn] at h
    exact real_bit h
  · have h := congrFun p4 (ix2 i x)
    pointwise [Cert.Pre_finite.fn] at h
    exact real_bit h

end Cert.Proof.Att
end
-- ==== Proof.AttQEnd.lean ====
/- The queries' and row gates' gradients: both programs compute the same. -/
module

public import proofs.«01_k».proof.Proof.AttQPoint
public import proofs.«01_k».proof.Proof.AttRef
public import proofs.«01_k».proof.Proof.AttPre
public import proofs.«01_k».proof.Defs

@[expose] public section

set_option maxRecDepth 16384

noncomputable section

namespace Cert.Proof.AttRef
open Idealize.ShloMosaic Idealize.ShloMosaic.TcCoe Idealize.SL.Sem
open Cert.AttQRefIdeal Cert.AttQRefIdeal.Gen Cert.AttQRefIdeal.Value Cert.Proof.Att

def dqV (DS : FVec Ideal S16x16384x16384 .f32) (H1 : FVec Ideal S16x16384x64 .f32) : FVec Ideal S16384x1024 .bf16 := truncf .bf16 (shapeCast _ (transpose S16384x16x64 [1, 0, 2] (Host.dotGeneral dot_S16x16384x16384_S16x16384x64_S16x16384x64_2_1_1_2_0_0 none (mulf DS (broadcastInDim S16x16384x16384 ![] bcast_S_S16x16384x16384 (constant S_ .f32 0x3E000000#32))) H1) transposes_S16x16384x64_S16384x16x64_1_0_2) shapeCasts_S16384x16x64_S16384x1024) bitsLt_bf16_f32
def rowGateV (DS : FVec Ideal S16x16384x16384 .f32) : FVec Ideal S8x32x2x512 .f32 := transpose S8x32x2x512 [0, 2, 1, 3] (shapeCast _ (transpose S16x16384 [1, 0] (transpose S16384x16 [1, 0] (Host.reduceAdd (shapeCast _ (Host.reduceAdd DS (constant S_ .f32 0x00000000#32) reducesTo_S16x16384x16384_S16x16384_d2 h_S_) shapeCasts_S16x16384_S16x16384x1) (constant S_ .f32 0x00000000#32) reducesTo_S16x16384x1_S16x16384_d2 h_S_) transposes_S16x16384_S16384x16_1_0) transposes_S16384x16_S16x16384_1_0) shapeCasts_S16x16384_S8x2x32x512) transposes_S8x2x32x512_S8x32x2x512_0_2_1_3
theorem dqV_at (D : FVec Ideal S16x16384x16384 .f32) (K : FVec Ideal S16x16384x64 .f32) (i : Fin 16384) (x : Fin 1024) : dqV D K (ix2 i x)
    = ∑ j : Fin 16384, D (ix3 ⟨x.val / 64, by omega⟩ i j) * ((1 / 8 : ℝ) : EReal) * K (ix3 ⟨x.val / 64, by omega⟩ j ⟨x.val % 64, by omega⟩) := by
  pointwise [dqV]
  rw [eighth]
theorem rowGateV_at (D : FVec Ideal S16x16384x16384 .f32) (p : Fin 8) (b : Fin 32) (e : Fin 2) (r : Fin 512) : rowGateV D (ix4 p b e r) = ∑ j : Fin 16384, D (ix3 (pr p e) (row b r) j) := by
  pointwise [rowGateV]
  rw [Fin.sum_univ_one]
  rfl

section
variable {A : Arr} {a1 : FVec Ideal S16384x1024 .f32} (h1 : ∀ i x, a1 (ix2 i x) = (A.k i x : ℝ)) (D : FVec Ideal S16x16384x16384 .f32) (hD : ∀ h i j, D (ix3 h i j) = ((if j.val ≤ i.val then A.ds h i j else 0 : ℝ) : EReal))
include hD
include h1 in
theorem dq_ref : dqV D (heads a1) = AttQ.G7 A := by
  funext y
  obtain ⟨i, x, rfl⟩ : ∃ (i : Fin 16384) (x : Fin 1024), y = ix2 i x := ⟨y 0, y 1, by idx_vars y⟩
  have hx : hd ⟨x.val / 64, by omega⟩ ⟨x.val % 64, by omega⟩ = x := Fin.ext (by show x.val / 64 * 64 + x.val % 64 = x.val; omega)
  rw [dqV_at]
  simp only [heads_at, hx, hD, h1]
  show _ = (∑ j : Fin 16384, if j.val ≤ i.val then ((A.ds ⟨x.val / 64, by omega⟩ i j * A.k j x : ℝ) : EReal) else 0) * ((1 / 8 : ℝ) : EReal)
  simp only [← EReal.coe_zero, ← coe_ite, ← EReal.coe_mul, ← coe_sum, Finset.sum_mul]
  refine congrArg (fun x : ℝ => (x : EReal)) (Finset.sum_congr rfl fun j _ => ?_)
  split_ifs <;> ring

theorem gate_ref : rowGateV D = AttQ.G8 A := by
  funext y
  obtain ⟨p, b, e, r, rfl⟩ : ∃ (p : Fin 8) (b : Fin 32) (e : Fin 2) (r : Fin 512), y = ix4 p b e r := ⟨y 0, y 1, y 2, y 3, by idx_vars y⟩
  rw [rowGateV_at]
  simp only [hD]
  show _ = ∑ j : Fin 16384, if j.val ≤ (row b r).val then ((A.ds (pr p e) (row b r) j : ℝ) : EReal) else 0
  refine Finset.sum_congr rfl fun j _ => ?_
  split_ifs <;> rfl
end

theorem res_v80 (m : (ℓ : Loc nD τ sig) → Buf (Elt Ideal) ℓ) (c : Dev nD) : res_main_v80 (F := Ideal) m c = dqV (dsV (prodV (heads (m ((c.tc : Thread nD τ).loc main_arg4))) (heads (m ((c.tc : Thread nD τ).loc main_arg2)))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))))) (heads (m ((c.tc : Thread nD τ).loc main_arg1))) := rfl
theorem res_v83 (m : (ℓ : Loc nD τ sig) → Buf (Elt Ideal) ℓ) (c : Dev nD) : res_main_v83 (F := Ideal) m c = rowGateV (dsV (prodV (heads (m ((c.tc : Thread nD τ).loc main_arg4))) (heads (m ((c.tc : Thread nD τ).loc main_arg2)))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))))) := rfl

end Cert.Proof.AttRef

namespace Cert.Proof
open Idealize.ShloMosaic Idealize.ShloMosaic.TcCoe Idealize.SL.Sem
open Cert.Proof.Att

theorem attQRef_frame : Cert.quiescent_AttQRefIdeal := fun m g _ =>
  (θ_run Cert.AttQRefIdeal.defs _ _).mono (fun r h => ⟨fun c => (h c).2.2, sem_eq_zero_of_no_sems (by decide) r.2⟩) (Cert.AttQRefIdeal.Value.run (F := Ideal) m g)

section
open Cert.AttQIdeal Cert.AttQIdeal.Gen Cert.Proof.AttQ
/-- What the kernel leaves: the two gradients of the specification, its arguments untouched. -/
theorem attQ_run (m : (ℓ : Loc nD τ sig) → Buf (Elt Ideal) ℓ) (g : Dev nD → PrngReg) (A : Dev nD → Arr) (H : ∀ c, Args m c (A c)) :
    θ_run defs (onTc (τ := τ) (main (F := Ideal))) ⟨m, fun _ => 0, g⟩ (fun r => ∀ c : Dev nD,
      r.2.mem ((c.tc : Thread nD τ).loc main_v52_0) = G7 (A c) ∧ r.2.mem ((c.tc : Thread nD τ).loc main_v52_1) = G8 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 7).trans (final7 trivial (hyps' m trivial) (H c)), ((h.1 c).1 8).trans (final8 trivial (hyps' m trivial) (H c)), h.2 c⟩)
    (θ_run_and (run_main m g trivial (hyps' m trivial)) (unchanged m g trivial (hyps' m trivial)))
end

section
open Cert.AttQRefIdeal Cert.AttQRefIdeal.Gen Cert.AttQRefIdeal.Value Cert.Proof.AttRef
theorem attQRef_vals (m : (ℓ : Loc nD τ sig) → Buf (Elt Ideal) ℓ) (c : Dev nD) (A : Arr)
    (h0 : ∀ i x, (m ((c.tc : Thread nD τ).loc main_arg0) (ix2 i x) : EReal) = ((A.q i x : ℝ) : EReal))
    (h1 : ∀ i x, (m ((c.tc : Thread nD τ).loc main_arg1) (ix2 i x) : EReal) = ((A.k i x : ℝ) : EReal))
    (h2 : ∀ i x, (m ((c.tc : Thread nD τ).loc main_arg2) (ix2 i x) : EReal) = ((A.v i x : ℝ) : EReal))
    (h3 : ∀ i x, (m ((c.tc : Thread nD τ).loc main_arg3) (ix2 i x) : EReal) = ((A.g i x : ℝ) : EReal))
    (h4 : ∀ i x, (m ((c.tc : Thread nD τ).loc main_arg4) (ix2 i x) : EReal) = ((A.o i x : ℝ) : EReal)) :
    res_main_v80 (F := Ideal) m c = AttQ.G7 A ∧ res_main_v83 (F := Ideal) m c = AttQ.G8 A :=
  ⟨(res_v80 m c).trans (dq_ref h1 _ (ds_real h0 h1 h2 h3 h4)), (res_v83 m c).trans (gate_ref _ (ds_real h0 h1 h2 h3 h4))⟩
end

theorem attQ_algebraic : Cert.algebraic_AttQIdeal_AttQRefIdeal_pre_finite := by
  intro m g m' g' hpre hagree
  have hA := fun c => reals_of (hpre c).1 (hpre c).2.1 (hpre c).2.2.1 (hpre c).2.2.2.1 (hpre c).2.2.2.2
  choose A hA using hA
  refine ⟨fun c => AttQ.G7 (A c), fun c => AttQ.G8 (A c), attQ_run m g A fun c => ⟨(hA c).1, (hA c).2.1, (hA c).2.2.1, (hA c).2.2.2.1, (hA c).2.2.2.2⟩, ?_⟩
  refine (θ_run Cert.AttQRefIdeal.defs _ _).mono (fun r h c => ?_) (Cert.AttQRefIdeal.Value.run (F := Ideal) m' g')
  have e := attQRef_vals m' c (A c) (fun i x => (congrFun (hagree c).1 _).trans ((hA c).1 i x)) (fun i x => (congrFun (hagree c).2.1 _).trans ((hA c).2.1 i x))
    (fun i x => (congrFun (hagree c).2.2.1 _).trans ((hA c).2.2.1 i x)) (fun i x => (congrFun (hagree c).2.2.2.1 _).trans ((hA c).2.2.2.1 i x))
    (fun i x => (congrFun (hagree c).2.2.2.2 _).trans ((hA c).2.2.2.2 i x))
  exact ⟨(h c).1.trans e.1, (h c).2.1.trans e.2, (h c).2.2⟩
end Cert.Proof

end
-- ==== Proof.AttKvTile.lean ====
/- The gradients for the keys and values: what one trip of the kernel's loop and its diagonal block add to the running sums, lane by lane. -/
module

public import proofs.«01_k».proof.Proof.AttQTile
public import proofs.«01_k».proof.Proof.Gen.AttKvIdeal.Frame

@[expose] public section

set_option maxRecDepth 16384

noncomputable section

namespace Cert.Proof.AttKv
open Idealize.ShloMosaic Idealize.ShloMosaic.TcCoe Idealize.SL.Sem
open Cert.AttKvIdeal Cert.AttKvIdeal.Gen
open Cert.Proof.AttQ (fold4 D_at)
variable (i : grid0.Coords) (k v : FVec Ideal S512x128 .bf16) (C : FVec Ideal S512x128 .f32)
  (κ ω : FVec Ideal S512x128 .bf16) (μ δ : FVec Ideal S1x1x2x512 .f32)

/-- The weight of key `r` for the query `c` of a block, first head of the pair. -/
def W0 (r c : Fin 512) : EReal := Ideal.exp
  ((∑ x : Fin 128, Scalar.select (IntOp.cmpi .slt (BitVec.ofNat 32 x.val) 64#32) (k (ix2 r x) * Ideal.ofBits .bf16 0x3E00#16 * κ (ix2 c x)) 0)
    - (∑ x : Fin 128, Scalar.select (IntOp.cmpi .eq (BitVec.ofNat 32 x.val)
        (Scalar.addi (Scalar.muli 2#32 (BitVec.ofNat 32 (i 0).val)) 0#32)) (C (ix2 r x)) 0) - μ (ix4 0 0 0 c))
/-- The weight's gradient less the query's mean, first head. -/
def P0 (r c : Fin 512) : EReal :=
  (∑ x : Fin 128, Scalar.select (IntOp.cmpi .slt (BitVec.ofNat 32 x.val) 64#32) (v (ix2 r x) * ω (ix2 c x)) 0) - δ (ix4 0 0 0 c)
/-- The score's gradient, first head. -/
def D0 (r c : Fin 512) : EReal := W0 i k C κ μ r c * P0 v ω δ r c
/-- The weight on the diagonal block: nothing for a query before the key. -/
def MW0 (r c : Fin 512) : EReal := if r.val ≤ c.val then W0 i k C κ μ r c else 0
/-- The score's gradient there. -/
def MD0 (r c : Fin 512) : EReal := if r.val ≤ c.val then D0 i k v C κ ω μ δ r c else 0

/-- The weight of key `r` for the query `c` of a block, second head of the pair. -/
def W1 (r c : Fin 512) : EReal := Ideal.exp
  ((∑ x : Fin 128, Scalar.select (IntOp.cmpi .slt (BitVec.ofNat 32 x.val) 64#32) 0 (k (ix2 r x) * Ideal.ofBits .bf16 0x3E00#16 * κ (ix2 c x)))
    - (∑ x : Fin 128, Scalar.select (IntOp.cmpi .eq (BitVec.ofNat 32 x.val)
        (Scalar.addi (Scalar.muli 2#32 (BitVec.ofNat 32 (i 0).val)) 1#32)) (C (ix2 r x)) 0) - μ (ix4 0 0 1 c))
/-- The weight's gradient less the query's mean, second head. -/
def P1 (r c : Fin 512) : EReal :=
  (∑ x : Fin 128, Scalar.select (IntOp.cmpi .slt (BitVec.ofNat 32 x.val) 64#32) 0 (v (ix2 r x) * ω (ix2 c x))) - δ (ix4 0 0 1 c)
/-- The score's gradient, second head. -/
def D1 (r c : Fin 512) : EReal := W1 i k C κ μ r c * P1 v ω δ r c
/-- The weight on the diagonal block: nothing for a query before the key. -/
def MW1 (r c : Fin 512) : EReal := if r.val ≤ c.val then W1 i k C κ μ r c else 0
/-- The score's gradient there. -/
def MD1 (r c : Fin 512) : EReal := if r.val ≤ c.val then D1 i k v C κ ω μ δ r c else 0

/-- A masked weight: its exponential is nothing. -/
theorem masked {a b Q R : ℕ} (o o' : ℕ) (ha : a < 512) (hb : b < 512) (ho : o < 512) (ho' : o' < 512) (hQ : Q = o + a) (hR : R = o' + b) (s t g : EReal) :
    Ideal.exp (Scalar.select (IntOp.cmpi .sge (IntOp.addi (BitVec.ofNat 32 a) (BitVec.ofNat 32 o)) (IntOp.addi (BitVec.ofNat 32 b) (BitVec.ofNat 32 o'))) s
      (Ideal.ofBits .f32 0xFF800000#32) - t - g) = if R ≤ Q then Ideal.exp (s - t - g) else 0 := by
  subst hQ hR
  have e : IntOp.cmpi .sge (IntOp.addi (BitVec.ofNat 32 a) (BitVec.ofNat 32 o)) (IntOp.addi (BitVec.ofNat 32 b) (BitVec.ofNat 32 o'))
      = if o' + b ≤ o + a then 1#1 else 0#1 := by
    rw [WordCmp.addi_ofNat, WordCmp.addi_ofNat, WordCmp.cmpi_sge_ofNat (by omega) (by omega), WordCmp.ofBool_decide_eq_ite, Nat.add_comm o a, Nat.add_comm o' b]
  have hb : Ideal.ofBits .f32 0xFF800000#32 = ⊥ := by
    simp [Ideal.ofBits, Ideal.ieee]
  rw [e, hb]
  split_ifs with h
  · rfl
  · show Ideal.exp (⊥ - t - g) = 0
    rw [sub_eq_add_neg, sub_eq_add_neg, EReal.bot_add, EReal.bot_add, Ideal.exp_bot]

/-- A row that is nothing before column 256, folded. -/
theorem fold4_half (f : Fin 512 → EReal) (l : Fin 128) (h : ∀ c : Fin 512, c.val < 256 → f c = 0) :
    fold4 f l = f ⟨256 + l.val, by omega⟩ + f ⟨384 + l.val, by omega⟩ := by
  unfold fold4
  rw [h ⟨l.val, by omega⟩ (by dsimp only; omega), h ⟨128 + l.val, by omega⟩ (by dsimp only; omega), zero_add, zero_add]

theorem sum_half (f : Fin 512 → EReal) (h : ∀ c : Fin 512, c.val < 256 → f c = 0) :
    ∑ c, f c = ∑ c : Fin 128, f ⟨256 + c.val, by omega⟩ + ∑ c : Fin 128, f ⟨384 + c.val, by omega⟩ := by
  have e : ∑ c : Fin 256, f ⟨c.val, by omega⟩ = 0 := Finset.sum_eq_zero fun c _ => h _ (by dsimp only; omega)
  rw [Fin.sum_univ_two_halves 256 256 rfl f, e, zero_add, Fin.sum_univ_two_halves 128 128 rfl fun c : Fin 256 => f ⟨256 + c.val, by omega⟩]
  exact congrArg (_ + ·) (Finset.sum_congr rfl fun c _ => congrArg f (Fin.ext (by dsimp only; omega)))

section
variable (r : Fin 512) (l : Fin 128)
theorem w0_0 : k0_pay10 (F := Ideal) (k0_pay65 k) (k0_pay70 i C) κ μ (ix2 r l) = W0 i k C κ μ r ⟨l.val, by omega⟩ := by
  pointwise [k0_pay10, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W0]
theorem w0_1 : k0_pay11 (F := Ideal) (k0_pay65 k) (k0_pay70 i C) κ μ (ix2 r l) = W0 i k C κ μ r ⟨128 + l.val, by omega⟩ := by
  pointwise [k0_pay11, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W0]
theorem w0_2 : k0_pay12 (F := Ideal) (k0_pay65 k) (k0_pay70 i C) κ μ (ix2 r l) = W0 i k C κ μ r ⟨256 + l.val, by omega⟩ := by
  pointwise [k0_pay12, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W0]
theorem w0_3 : k0_pay13 (F := Ideal) (k0_pay65 k) (k0_pay70 i C) κ μ (ix2 r l) = W0 i k C κ μ r ⟨384 + l.val, by omega⟩ := by
  pointwise [k0_pay13, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W0]
theorem p0_0 : k0_pay14 (F := Ideal) (k0_pay67 v) ω δ (ix2 r l) = P0 v ω δ r ⟨l.val, by omega⟩ := by
  pointwise [k0_pay14, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, P0]
theorem p0_1 : k0_pay15 (F := Ideal) (k0_pay67 v) ω δ (ix2 r l) = P0 v ω δ r ⟨128 + l.val, by omega⟩ := by
  pointwise [k0_pay15, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, P0]
theorem p0_2 : k0_pay16 (F := Ideal) (k0_pay67 v) ω δ (ix2 r l) = P0 v ω δ r ⟨256 + l.val, by omega⟩ := by
  pointwise [k0_pay16, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, P0]
theorem p0_3 : k0_pay17 (F := Ideal) (k0_pay67 v) ω δ (ix2 r l) = P0 v ω δ r ⟨384 + l.val, by omega⟩ := by
  pointwise [k0_pay17, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, P0]
theorem w1_0 : k0_pay28 (F := Ideal) (k0_pay66 k) (k0_pay71 i C) (k0_pay3 κ) (k0_pay5 μ) (ix2 r l) = W1 i k C κ μ r ⟨l.val, by omega⟩ := by
  pointwise [k0_pay28, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W1]
theorem w1_1 : k0_pay29 (F := Ideal) (k0_pay66 k) (k0_pay71 i C) (k0_pay3 κ) (k0_pay5 μ) (ix2 r l) = W1 i k C κ μ r ⟨128 + l.val, by omega⟩ := by
  pointwise [k0_pay29, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W1]
theorem w1_2 : k0_pay30 (F := Ideal) (k0_pay66 k) (k0_pay71 i C) (k0_pay3 κ) (k0_pay5 μ) (ix2 r l) = W1 i k C κ μ r ⟨256 + l.val, by omega⟩ := by
  pointwise [k0_pay30, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W1]
theorem w1_3 : k0_pay31 (F := Ideal) (k0_pay66 k) (k0_pay71 i C) (k0_pay3 κ) (k0_pay5 μ) (ix2 r l) = W1 i k C κ μ r ⟨384 + l.val, by omega⟩ := by
  pointwise [k0_pay31, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, W1]
theorem p1 (c : Fin 512) : k0_pay26 (F := Ideal) (k0_pay68 v) (k0_pay4 ω) (k0_pay6 δ) (ix2 r c) = P1 v ω δ r c := by
  pointwise [k0_pay26, k0_pay3, k0_pay4, k0_pay5, k0_pay6, k0_pay7, k0_pay8, k0_pay9, k0_pay25, k0_pay27, k0_pay61, k0_pay62, k0_pay63, k0_pay64, k0_pay65, k0_pay66, k0_pay67, k0_pay68, k0_pay69, k0_pay70, k0_pay71, P1]

theorem rows0 (old : FVec Ideal S1x512x128 .f32) :
    k0_pay22 (F := Ideal) (k0_pay10 (k0_pay65 k) (k0_pay70 i C) κ μ) (k0_pay11 (k0_pay65 k) (k0_pay70 i C) κ μ) (k0_pay12 (k0_pay65 k) (k0_pay70 i C) κ μ) (k0_pay13 (k0_pay65 k) (k0_pay70 i C) κ μ) (k0_pay14 (k0_pay67 v) ω δ) (k0_pay15 (k0_pay67 v) ω δ) (k0_pay16 (k0_pay67 v) ω δ) (k0_pay17 (k0_pay67 v) ω δ) old (ix3 0 r l) = old (ix3 0 r l) + fold4 (D0 i k v C κ ω μ δ r) l := by
  pointwise [k0_pay22, k0_pay18, k0_pay19, k0_pay20, k0_pay21, w0_0, w0_1, w0_2, w0_3, p0_0, p0_1, p0_2, p0_3, fold4, D0]

theorem rows1 (old : FVec Ideal S1x512x128 .f32) :
    k0_pay146 (F := Ideal) (k0_pay26 (k0_pay68 v) (k0_pay4 ω) (k0_pay6 δ)) (k0_pay28 (k0_pay66 k) (k0_pay71 i C) (k0_pay3 κ) (k0_pay5 μ)) (k0_pay29 (k0_pay66 k) (k0_pay71 i C) (k0_pay3 κ) (k0_pay5 μ)) (k0_pay30 (k0_pay66 k) (k0_pay71 i C) (k0_pay3 κ) (k0_pay5 μ)) (k0_pay31 (k0_pay66 k) (k0_pay71 i C) (k0_pay3 κ) (k0_pay5 μ)) old (ix3 0 r l) = old (ix3 0 r l) + fold4 (D1 i k v C κ ω μ δ r) l := by
  pointwise [k0_pay146, k0_pay142, k0_pay143, k0_pay144, k0_pay145, w1_0, w1_1, w1_2, w1_3, p1, fold4, D1]

theorem accV (old : FVec Ideal S512x128 .f32) :
    k0_pay147 (F := Ideal) k0_pay63 (k0_pay4 ω) (k0_pay23 (k0_pay4 ω) (k0_pay10 (k0_pay65 k) (k0_pay70 i C) κ μ) (k0_pay11 (k0_pay65 k) (k0_pay70 i C) κ μ) (k0_pay12 (k0_pay65 k) (k0_pay70 i C) κ μ) (k0_pay13 (k0_pay65 k) (k0_pay70 i C) κ μ)) (k0_pay28 (k0_pay66 k) (k0_pay71 i C) (k0_pay3 κ) (k0_pay5 μ)) (k0_pay29 (k0_pay66 k) (k0_pay71 i C) (k0_pay3 κ) (k0_pay5 μ)) (k0_pay30 (k0_pay66 k) (k0_pay71 i C) (k0_pay3 κ) (k0_pay5 μ)) (k0_pay31 (k0_pay66 k) (k0_pay71 i C) (k0_pay3 κ) (k0_pay5 μ)) old (ix2 r l)
      = old (ix2 r l) + Scalar.select (IntOp.cmpi .slt (BitVec.ofNat 32 l.val) 64#32)
          (∑ c, W0 i k C κ μ r c * ω (ix2 c l)) (∑ c, W1 i k C κ μ r c * ω (ix2 c l)) := by
  pointwise [k0_pay147, k0_pay23, k0_pay63, w0_0, w0_1, w0_2, w0_3, w1_0, w1_1, w1_2, w1_3]
  refine congrArg _ (congrArg₂ _ (Finset.sum_congr rfl fun x _ => ?_) (Finset.sum_congr rfl fun x _ => ?_)) <;> pointwise [k0_pay4] <;> congr 1 <;> split_ifs <;>
    exact D_at (by first | rfl | omega | (dsimp only; omega))
theorem d0_0 : k0_pay18 (F := Ideal) (k0_pay10 (k0_pay65 k) (k0_pay70 i C) κ μ) (k0_pay14 (k0_pay67 v) ω δ) (ix2 r l) = D0 i k v C κ ω μ δ r ⟨l.val, by omega⟩ := by
  pointwise [k0_pay18, w0_0, p0_0, D0]
theorem d0_1 : k0_pay19 (F := Ideal) (k0_pay11 (k0_pay65 k) (k0_pay70 i C) κ μ) (k0_pay15 (k0_pay67 v) ω δ) (ix2 r l) = D0 i k v C κ ω μ δ r ⟨128 + l.val, by omega⟩ := by
  pointwise [k0_pay19, w0_1, p0_1, D0]
theorem d0_2 : k0_pay20 (F := Ideal) (k0_pay12 (k0_pay65 k) (k0_pay70 i C) κ μ) (k0_pay16 (k0_pay67 v) ω δ) (ix2 r l) = D0 i k v C κ ω μ δ r ⟨256 + l.val, by omega⟩ := by
  pointwise [k0_pay20, w0_2, p0_2, D0]
theorem d0_3 : k0_pay21 (F := Ideal) (k0_pay13 (k0_pay65 k) (k0_pay70 i C) κ μ) (k0_pay17 (k0_pay67 v) ω δ) (ix2 r l) = D0 i k v C κ ω μ δ r ⟨384 + l.val, by omega⟩ := by
  pointwise [k0_pay21, w0_3, p0_3, D0]
theorem d1_0 : k0_pay142 (F := Ideal) (k0_pay26 (k0_pay68 v) (k0_pay4 ω) (k0_pay6 δ)) (k0_pay28 (k0_pay66 k) (k0_pay71 i C) (k0_pay3 κ) (k0_pay5 μ)) (ix2 r l) = D1 i k v C κ ω μ δ r ⟨l.val, by omega⟩ := by
  pointwise [k0_pay142, w1_0, p1, D1]
theorem d1_1 : k0_pay143 (F := Ideal) (k0_pay26 (k0_pay68 v) (k0_pay4 ω) (k0_pay6 δ)) (k0_pay29 (k0_pay66 k) (k0_pay71 i C) (k0_pay3 κ) (k0_pay5 μ)) (ix2 r l) = D1 i k v C κ ω μ δ r ⟨128 + l.val, by omega⟩ := by
  pointwise [k0_pay143, w1_1, p1, D1]
theorem d1_2 : k0_pay144 (F := Ideal) (k0_pay26 (k0_pay68 v) (k0_pay4 ω) (k0_pay6 δ)) (k0_pay30 (k0_pay66 k) (k0_pay71 i C) (k0_pay3 κ) (k0_pay5 μ)) (ix2 r l) = D1 i k v C κ ω μ δ r ⟨256 + l.val, by omega⟩ := by
  pointwise [k0_pay144, w1_2, p1, D1]
theorem d1_3 : k0_pay145 (F := Ideal) (k0_pay26 (k0_pay68 v) (k0_pay4 ω) (k0_pay6 δ)) (k0_pay31 (k0_pay66 k) (k0_pay71 i C) (k0_pay3 κ) (k0_pay5 μ)) (ix2 r l) = D1 i k v C κ ω μ δ r ⟨384 + l.val, by omega⟩ := by
  pointwise [k0_pay145, w1_3, p1, D1]

theorem accK (old : FVec Ideal S512x128 .f32) :
    k0_pay148 (F := Ideal) k0_pay63 (k0_pay3 κ) (k0_pay24 (k0_pay3 κ) (k0_pay10 (k0_pay65 k) (k0_pay70 i C) κ μ) (k0_pay11 (k0_pay65 k) (k0_pay70 i C) κ μ) (k0_pay12 (k0_pay65 k) (k0_pay70 i C) κ μ) (k0_pay13 (k0_pay65 k) (k0_pay70 i C) κ μ) (k0_pay14 (k0_pay67 v) ω δ) (k0_pay15 (k0_pay67 v) ω δ) (k0_pay16 (k0_pay67 v) ω δ) (k0_pay17 (k0_pay67 v) ω δ)) (k0_pay26 (k0_pay68 v) (k0_pay4 ω) (k0_pay6 δ)) (k0_pay28 (k0_pay66 k) (k0_pay71 i C) (k0_pay3 κ) (k0_pay5 μ)) (k0_pay29 (k0_pay66 k) (k0_pay71 i C) (k0_pay3 κ) (k0_pay5 μ)) (k0_pay30 (k0_pay66 k) (k0_pay71 i C) (k0_pay3 κ) (k0_pay5 μ)) (k0_pay31 (k0_pay66 k) (k0_pay71 i C) (k0_pay3 κ) (k0_pay5 μ)) old (ix2 r l)
      = old (ix2 r l) + Scalar.select (IntOp.cmpi .slt (BitVec.ofNat 32 l.val) 64#32)
          (∑ c, D0 i k v C κ ω μ δ r c * κ (ix2 c l)) (∑ c, D1 i k v C κ ω μ δ r c * κ (ix2 c l)) := by
  pointwise [k0_pay148, k0_pay24, k0_pay63, d0_0, d0_1, d0_2, d0_3, d1_0, d1_1, d1_2, d1_3]
  refine congrArg _ (congrArg₂ _ (Finset.sum_congr rfl fun x _ => ?_) (Finset.sum_congr rfl fun x _ => ?_)) <;> pointwise [k0_pay3] <;> congr 1 <;> split_ifs <;>
    exact D_at (by first | rfl | omega | (dsimp only; omega))

variable (u : Fin 256)
theorem tw0_0 : k0_pay85 (F := Ideal) (k0_pay70 i C) (k0_pay78 μ) (k0_pay81 (k0_pay65 k) κ) (ix2 u l) = MW0 i k C κ μ ⟨u.val, by omega⟩ ⟨l.val, by omega⟩ := by
  unfold MW0 W0
  pointwise [k0_pay85, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem tw0_1 : k0_pay86 (F := Ideal) (k0_pay70 i C) (k0_pay78 μ) (k0_pay81 (k0_pay65 k) κ) (ix2 u l) = MW0 i k C κ μ ⟨u.val, by omega⟩ ⟨128 + l.val, by omega⟩ := by
  unfold MW0 W0
  pointwise [k0_pay86, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem tw0_2 : k0_pay87 (F := Ideal) (k0_pay70 i C) (k0_pay78 μ) (k0_pay81 (k0_pay65 k) κ) (ix2 u l) = MW0 i k C κ μ ⟨u.val, by omega⟩ ⟨256 + l.val, by omega⟩ := by
  unfold MW0 W0
  pointwise [k0_pay87, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem tw0_3 : k0_pay88 (F := Ideal) (k0_pay70 i C) (k0_pay78 μ) (k0_pay81 (k0_pay65 k) κ) (ix2 u l) = MW0 i k C κ μ ⟨u.val, by omega⟩ ⟨384 + l.val, by omega⟩ := by
  unfold MW0 W0
  pointwise [k0_pay88, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem td0_0 : k0_pay89 (F := Ideal) (k0_pay67 v) (k0_pay70 i C) (k0_pay77 ω) (k0_pay78 μ) (k0_pay79 δ) (k0_pay81 (k0_pay65 k) κ) (ix2 u l) = MD0 i k v C κ ω μ δ ⟨u.val, by omega⟩ ⟨l.val, by omega⟩ := by
  have e := tw0_0 (i := i) (k := k) (C := C) (κ := κ) (μ := μ) (u := u) (l := l)
  unfold MD0 D0 P0
  pointwise [k0_pay89]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW0
  split_ifs <;> first | rfl | exact zero_mul _
theorem td0_1 : k0_pay90 (F := Ideal) (k0_pay67 v) (k0_pay70 i C) (k0_pay77 ω) (k0_pay78 μ) (k0_pay79 δ) (k0_pay81 (k0_pay65 k) κ) (ix2 u l) = MD0 i k v C κ ω μ δ ⟨u.val, by omega⟩ ⟨128 + l.val, by omega⟩ := by
  have e := tw0_1 (i := i) (k := k) (C := C) (κ := κ) (μ := μ) (u := u) (l := l)
  unfold MD0 D0 P0
  pointwise [k0_pay90]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW0
  split_ifs <;> first | rfl | exact zero_mul _
theorem td0_2 : k0_pay91 (F := Ideal) (k0_pay67 v) (k0_pay70 i C) (k0_pay77 ω) (k0_pay78 μ) (k0_pay79 δ) (k0_pay81 (k0_pay65 k) κ) (ix2 u l) = MD0 i k v C κ ω μ δ ⟨u.val, by omega⟩ ⟨256 + l.val, by omega⟩ := by
  have e := tw0_2 (i := i) (k := k) (C := C) (κ := κ) (μ := μ) (u := u) (l := l)
  unfold MD0 D0 P0
  pointwise [k0_pay91]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW0
  split_ifs <;> first | rfl | exact zero_mul _
theorem td0_3 : k0_pay92 (F := Ideal) (k0_pay67 v) (k0_pay70 i C) (k0_pay77 ω) (k0_pay78 μ) (k0_pay79 δ) (k0_pay81 (k0_pay65 k) κ) (ix2 u l) = MD0 i k v C κ ω μ δ ⟨u.val, by omega⟩ ⟨384 + l.val, by omega⟩ := by
  have e := tw0_3 (i := i) (k := k) (C := C) (κ := κ) (μ := μ) (u := u) (l := l)
  unfold MD0 D0 P0
  pointwise [k0_pay92]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW0
  split_ifs <;> first | rfl | exact zero_mul _
theorem tw1_0 : k0_pay100 (F := Ideal) (k0_pay66 k) (k0_pay71 i C) (k0_pay76 κ) (k0_pay78 μ) (ix2 u l) = MW1 i k C κ μ ⟨u.val, by omega⟩ ⟨l.val, by omega⟩ := by
  unfold MW1 W1
  pointwise [k0_pay100, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem tw1_1 : k0_pay101 (F := Ideal) (k0_pay66 k) (k0_pay71 i C) (k0_pay76 κ) (k0_pay78 μ) (ix2 u l) = MW1 i k C κ μ ⟨u.val, by omega⟩ ⟨128 + l.val, by omega⟩ := by
  unfold MW1 W1
  pointwise [k0_pay101, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem tw1_2 : k0_pay102 (F := Ideal) (k0_pay66 k) (k0_pay71 i C) (k0_pay76 κ) (k0_pay78 μ) (ix2 u l) = MW1 i k C κ μ ⟨u.val, by omega⟩ ⟨256 + l.val, by omega⟩ := by
  unfold MW1 W1
  pointwise [k0_pay102, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem tw1_3 : k0_pay103 (F := Ideal) (k0_pay66 k) (k0_pay71 i C) (k0_pay76 κ) (k0_pay78 μ) (ix2 u l) = MW1 i k C κ μ ⟨u.val, by omega⟩ ⟨384 + l.val, by omega⟩ := by
  unfold MW1 W1
  pointwise [k0_pay103, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 0 0 ?_ ?_ ?_ ?_ ?_ ?_ _ _ _ <;> (try dsimp only) <;> omega
theorem td1_0 : k0_pay104 (F := Ideal) (k0_pay66 k) (k0_pay68 v) (k0_pay71 i C) (k0_pay76 κ) (k0_pay77 ω) (k0_pay78 μ) (k0_pay79 δ) (ix2 u l) = MD1 i k v C κ ω μ δ ⟨u.val, by omega⟩ ⟨l.val, by omega⟩ := by
  have e := tw1_0 (i := i) (k := k) (C := C) (κ := κ) (μ := μ) (u := u) (l := l)
  unfold MD1 D1 P1
  pointwise [k0_pay104]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW1
  split_ifs <;> first | rfl | exact zero_mul _
theorem td1_1 : k0_pay105 (F := Ideal) (k0_pay66 k) (k0_pay68 v) (k0_pay71 i C) (k0_pay76 κ) (k0_pay77 ω) (k0_pay78 μ) (k0_pay79 δ) (ix2 u l) = MD1 i k v C κ ω μ δ ⟨u.val, by omega⟩ ⟨128 + l.val, by omega⟩ := by
  have e := tw1_1 (i := i) (k := k) (C := C) (κ := κ) (μ := μ) (u := u) (l := l)
  unfold MD1 D1 P1
  pointwise [k0_pay105]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW1
  split_ifs <;> first | rfl | exact zero_mul _
theorem td1_2 : k0_pay106 (F := Ideal) (k0_pay66 k) (k0_pay68 v) (k0_pay71 i C) (k0_pay76 κ) (k0_pay77 ω) (k0_pay78 μ) (k0_pay79 δ) (ix2 u l) = MD1 i k v C κ ω μ δ ⟨u.val, by omega⟩ ⟨256 + l.val, by omega⟩ := by
  have e := tw1_2 (i := i) (k := k) (C := C) (κ := κ) (μ := μ) (u := u) (l := l)
  unfold MD1 D1 P1
  pointwise [k0_pay106]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW1
  split_ifs <;> first | rfl | exact zero_mul _
theorem td1_3 : k0_pay107 (F := Ideal) (k0_pay66 k) (k0_pay68 v) (k0_pay71 i C) (k0_pay76 κ) (k0_pay77 ω) (k0_pay78 μ) (k0_pay79 δ) (ix2 u l) = MD1 i k v C κ ω μ δ ⟨u.val, by omega⟩ ⟨384 + l.val, by omega⟩ := by
  have e := tw1_3 (i := i) (k := k) (C := C) (κ := κ) (μ := μ) (u := u) (l := l)
  unfold MD1 D1 P1
  pointwise [k0_pay107]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW1
  split_ifs <;> first | rfl | exact zero_mul _
theorem bw0_0 : k0_pay120 (F := Ideal) (k0_pay70 i C) (k0_pay78 μ) (k0_pay114 (k0_pay65 k) (k0_pay76 κ)) k0_pay115 (ix2 u l) = MW0 i k C κ μ ⟨256 + u.val, by omega⟩ ⟨256 + l.val, by omega⟩ := by
  unfold MW0 W0
  pointwise [k0_pay120, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 256 256 ?_ ?_ ?_ ?_ ?_ ?_ _ _ _ <;> (try dsimp only) <;> omega
theorem bw0_1 : k0_pay121 (F := Ideal) (k0_pay70 i C) (k0_pay78 μ) (k0_pay114 (k0_pay65 k) (k0_pay76 κ)) k0_pay115 (ix2 u l) = MW0 i k C κ μ ⟨256 + u.val, by omega⟩ ⟨384 + l.val, by omega⟩ := by
  rw [show (⟨384 + l.val, by omega⟩ : Fin 512) = ⟨256 + (128 + l.val), by omega⟩ from Fin.ext (by dsimp only; omega)]
  unfold MW0 W0
  pointwise [k0_pay121, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 256 256 ?_ ?_ ?_ ?_ ?_ ?_ _ _ _ <;> (try dsimp only) <;> omega
theorem bd0_0 : k0_pay122 (F := Ideal) (k0_pay67 v) (k0_pay70 i C) (k0_pay78 μ) (k0_pay79 δ) (k0_pay112 (k0_pay77 ω)) (k0_pay114 (k0_pay65 k) (k0_pay76 κ)) k0_pay115 (ix2 u l) = MD0 i k v C κ ω μ δ ⟨256 + u.val, by omega⟩ ⟨256 + l.val, by omega⟩ := by
  have e := bw0_0 (i := i) (k := k) (C := C) (κ := κ) (μ := μ) (u := u) (l := l)
  unfold MD0 D0 P0
  pointwise [k0_pay122]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW0
  split_ifs <;> first | rfl | exact zero_mul _
theorem bd0_1 : k0_pay123 (F := Ideal) (k0_pay67 v) (k0_pay70 i C) (k0_pay78 μ) (k0_pay79 δ) (k0_pay112 (k0_pay77 ω)) (k0_pay114 (k0_pay65 k) (k0_pay76 κ)) k0_pay115 (ix2 u l) = MD0 i k v C κ ω μ δ ⟨256 + u.val, by omega⟩ ⟨384 + l.val, by omega⟩ := by
  have e := bw0_1 (i := i) (k := k) (C := C) (κ := κ) (μ := μ) (u := u) (l := l)
  rw [show (⟨384 + l.val, by omega⟩ : Fin 512) = ⟨256 + (128 + l.val), by omega⟩ from Fin.ext (by dsimp only; omega)] at e ⊢
  unfold MD0 D0 P0
  pointwise [k0_pay123]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW0
  split_ifs <;> first | rfl | exact zero_mul _
theorem bw1_0 : k0_pay134 (F := Ideal) (k0_pay71 i C) (k0_pay78 μ) (k0_pay127 (k0_pay66 k) (k0_pay111 (k0_pay76 κ))) k0_pay128 k0_pay129 (ix2 u l) = MW1 i k C κ μ ⟨256 + u.val, by omega⟩ ⟨256 + l.val, by omega⟩ := by
  unfold MW1 W1
  pointwise [k0_pay134, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 256 256 ?_ ?_ ?_ ?_ ?_ ?_ _ _ _ <;> (try dsimp only) <;> omega
theorem bw1_1 : k0_pay135 (F := Ideal) (k0_pay71 i C) (k0_pay78 μ) (k0_pay127 (k0_pay66 k) (k0_pay111 (k0_pay76 κ))) k0_pay128 k0_pay129 (ix2 u l) = MW1 i k C κ μ ⟨256 + u.val, by omega⟩ ⟨384 + l.val, by omega⟩ := by
  rw [show (⟨384 + l.val, by omega⟩ : Fin 512) = ⟨256 + (128 + l.val), by omega⟩ from Fin.ext (by dsimp only; omega)]
  unfold MW1 W1
  pointwise [k0_pay135, k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  refine masked 256 256 ?_ ?_ ?_ ?_ ?_ ?_ _ _ _ <;> (try dsimp only) <;> omega
theorem bd1_0 : k0_pay136 (F := Ideal) (k0_pay68 v) (k0_pay71 i C) (k0_pay78 μ) (k0_pay79 δ) (k0_pay112 (k0_pay77 ω)) (k0_pay127 (k0_pay66 k) (k0_pay111 (k0_pay76 κ))) k0_pay128 k0_pay129 (ix2 u l) = MD1 i k v C κ ω μ δ ⟨256 + u.val, by omega⟩ ⟨256 + l.val, by omega⟩ := by
  have e := bw1_0 (i := i) (k := k) (C := C) (κ := κ) (μ := μ) (u := u) (l := l)
  unfold MD1 D1 P1
  pointwise [k0_pay136]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW1
  split_ifs <;> first | rfl | exact zero_mul _
theorem bd1_1 : k0_pay137 (F := Ideal) (k0_pay68 v) (k0_pay71 i C) (k0_pay78 μ) (k0_pay79 δ) (k0_pay112 (k0_pay77 ω)) (k0_pay127 (k0_pay66 k) (k0_pay111 (k0_pay76 κ))) k0_pay128 k0_pay129 (ix2 u l) = MD1 i k v C κ ω μ δ ⟨256 + u.val, by omega⟩ ⟨384 + l.val, by omega⟩ := by
  have e := bw1_1 (i := i) (k := k) (C := C) (κ := κ) (μ := μ) (u := u) (l := l)
  rw [show (⟨384 + l.val, by omega⟩ : Fin 512) = ⟨256 + (128 + l.val), by omega⟩ from Fin.ext (by dsimp only; omega)] at e ⊢
  unfold MD1 D1 P1
  pointwise [k0_pay137]
  rw [e]
  pointwise [k0_pay61, k0_pay62, k0_pay63, k0_pay64, k0_pay65, k0_pay66, k0_pay67, k0_pay68, k0_pay69, k0_pay70, k0_pay71, k0_pay76, k0_pay77, k0_pay78, k0_pay79, k0_pay80, k0_pay81, k0_pay82, k0_pay83, k0_pay84, k0_pay96, k0_pay97, k0_pay98, k0_pay99, k0_pay111, k0_pay112, k0_pay113, k0_pay114, k0_pay115, k0_pay116, k0_pay117, k0_pay118, k0_pay119, k0_pay127, k0_pay128, k0_pay129, k0_pay130, k0_pay131, k0_pay132, k0_pay133]
  unfold MW1
  split_ifs <;> first | rfl | exact zero_mul _

theorem MD0_far (a c : Fin 512) (h : c.val < a.val) : MD0 i k v C κ ω μ δ a c = 0 := if_neg (by omega)
theorem MD1_far (a c : Fin 512) (h : c.val < a.val) : MD1 i k v C κ ω μ δ a c = 0 := if_neg (by omega)
theorem MW0_far (a c : Fin 512) (h : c.val < a.val) : MW0 i k C κ μ a c = 0 := if_neg (by omega)
theorem MW1_far (a c : Fin 512) (h : c.val < a.val) : MW1 i k C κ μ a c = 0 := if_neg (by omega)

theorem rowsT0 (old : FVec Ideal S1x256x128 .f32) : k0_pay93 (F := Ideal) (k0_pay67 v) (k0_pay70 i C) (k0_pay77 ω) (k0_pay78 μ) (k0_pay79 δ) (k0_pay81 (k0_pay65 k) κ) old (ix3 0 u l) = old (ix3 0 u l) + fold4 (MD0 i k v C κ ω μ δ ⟨u.val, by omega⟩) l := by
  pointwise [k0_pay93, td0_0, td0_1, td0_2, td0_3, fold4]

theorem rowsT1 (old : FVec Ideal S1x256x128 .f32) : k0_pay108 (F := Ideal) (k0_pay104 (k0_pay66 k) (k0_pay68 v) (k0_pay71 i C) (k0_pay76 κ) (k0_pay77 ω) (k0_pay78 μ) (k0_pay79 δ)) (k0_pay105 (k0_pay66 k) (k0_pay68 v) (k0_pay71 i C) (k0_pay76 κ) (k0_pay77 ω) (k0_pay78 μ) (k0_pay79 δ)) (k0_pay106 (k0_pay66 k) (k0_pay68 v) (k0_pay71 i C) (k0_pay76 κ) (k0_pay77 ω) (k0_pay78 μ) (k0_pay79 δ)) (k0_pay107 (k0_pay66 k) (k0_pay68 v) (k0_pay71 i C) (k0_pay76 κ) (k0_pay77 ω) (k0_pay78 μ) (k0_pay79 δ)) old (ix3 0 u l) = old (ix3 0 u l) + fold4 (MD1 i k v C κ ω μ δ ⟨u.val, by omega⟩) l := by
  pointwise [k0_pay108, td1_0, td1_1, td1_2, td1_3, fold4]

theorem rowsB0 (old : FVec Ideal S1x256x128 .f32) : k0_pay124 (F := Ideal) (k0_pay67 v) (k0_pay70 i C) (k0_pay78 μ) (k0_pay79 δ) (k0_pay112 (k0_pay77 ω)) (k0_pay114 (k0_pay65 k) (k0_pay76 κ)) k0_pay115 old (ix3 0 u l) = old (ix3 0 u l) + fold4 (MD0 i k v C κ ω μ δ ⟨256 + u.val, by omega⟩) l := by
  rw [fold4_half _ _ fun c hc => MD0_far i k v C κ ω μ δ _ c (by dsimp only; omega)]
  pointwise [k0_pay124, bd0_0, bd0_1]

theorem rowsB1 (old : FVec Ideal S1x256x128 .f32) : k0_pay138 (F := Ideal) (k0_pay68 v) (k0_pay71 i C) (k0_pay78 μ) (k0_pay79 δ) (k0_pay112 (k0_pay77 ω)) (k0_pay127 (k0_pay66 k) (k0_pay111 (k0_pay76 κ))) k0_pay128 k0_pay129 old (ix3 0 u l) = old (ix3 0 u l) + fold4 (MD1 i k v C κ ω μ δ ⟨256 + u.val, by omega⟩) l := by
  rw [fold4_half _ _ fun c hc => MD1_far i k v C κ ω μ δ _ c (by dsimp only; omega)]
  pointwise [k0_pay138, bd1_0, bd1_1]

theorem accVT (old : FVec Ideal S256x128 .f32) :
    k0_pay109 (F := Ideal) (k0_pay77 ω) (k0_pay80 k0_pay63) (k0_pay94 (k0_pay70 i C) (k0_pay77 ω) (k0_pay78 μ) (k0_pay81 (k0_pay65 k) κ)) (k0_pay100 (k0_pay66 k) (k0_pay71 i C) (k0_pay76 κ) (k0_pay78 μ)) (k0_pay101 (k0_pay66 k) (k0_pay71 i C) (k0_pay76 κ) (k0_pay78 μ)) (k0_pay102 (k0_pay66 k) (k0_pay71 i C) (k0_pay76 κ) (k0_pay78 μ)) (k0_pay103 (k0_pay66 k) (k0_pay71 i C) (k0_pay76 κ) (k0_pay78 μ)) old (ix2 u l)
      = old (ix2 u l) + Scalar.select (IntOp.cmpi .slt (BitVec.ofNat 32 l.val) 64#32)
          (∑ c, MW0 i k C κ μ ⟨u.val, by omega⟩ c * ω (ix2 c l)) (∑ c, MW1 i k C κ μ ⟨u.val, by omega⟩ c * ω (ix2 c l)) := by
  pointwise [k0_pay109, k0_pay80, k0_pay94, k0_pay63, tw0_0, tw0_1, tw0_2, tw0_3, tw1_0, tw1_1, tw1_2, tw1_3]
  refine congrArg _ (congrArg₂ _ (Finset.sum_congr rfl fun x _ => ?_) (Finset.sum_congr rfl fun x _ => ?_)) <;> pointwise [k0_pay77] <;> congr 1 <;> split_ifs <;>
    exact D_at (by first | rfl | omega | (dsimp only; omega))

theorem accKT (old : FVec Ideal S256x128 .f32) :
    k0_pay110 (F := Ideal) (k0_pay76 κ) (k0_pay80 k0_pay63) (k0_pay95 (k0_pay76 κ) (k0_pay89 (k0_pay67 v) (k0_pay70 i C) (k0_pay77 ω) (k0_pay78 μ) (k0_pay79 δ) (k0_pay81 (k0_pay65 k) κ)) (k0_pay90 (k0_pay67 v) (k0_pay70 i C) (k0_pay77 ω) (k0_pay78 μ) (k0_pay79 δ) (k0_pay81 (k0_pay65 k) κ)) (k0_pay91 (k0_pay67 v) (k0_pay70 i C) (k0_pay77 ω) (k0_pay78 μ) (k0_pay79 δ) (k0_pay81 (k0_pay65 k) κ)) (k0_pay92 (k0_pay67 v) (k0_pay70 i C) (k0_pay77 ω) (k0_pay78 μ) (k0_pay79 δ) (k0_pay81 (k0_pay65 k) κ))) (k0_pay104 (k0_pay66 k) (k0_pay68 v) (k0_pay71 i C) (k0_pay76 κ) (k0_pay77 ω) (k0_pay78 μ) (k0_pay79 δ)) (k0_pay105 (k0_pay66 k) (k0_pay68 v) (k0_pay71 i C) (k0_pay76 κ) (k0_pay77 ω) (k0_pay78 μ) (k0_pay79 δ)) (k0_pay106 (k0_pay66 k) (k0_pay68 v) (k0_pay71 i C) (k0_pay76 κ) (k0_pay77 ω) (k0_pay78 μ) (k0_pay79 δ)) (k0_pay107 (k0_pay66 k) (k0_pay68 v) (k0_pay71 i C) (k0_pay76 κ) (k0_pay77 ω) (k0_pay78 μ) (k0_pay79 δ)) old (ix2 u l)
      = old (ix2 u l) + Scalar.select (IntOp.cmpi .slt (BitVec.ofNat 32 l.val) 64#32)
          (∑ c, MD0 i k v C κ ω μ δ ⟨u.val, by omega⟩ c * κ (ix2 c l)) (∑ c, MD1 i k v C κ ω μ δ ⟨u.val, by omega⟩ c * κ (ix2 c l)) := by
  pointwise [k0_pay110, k0_pay80, k0_pay95, k0_pay63, td0_0, td0_1, td0_2, td0_3, td1_0, td1_1, td1_2, td1_3]
  refine congrArg _ (congrArg₂ _ (Finset.sum_congr rfl fun x _ => ?_) (Finset.sum_congr rfl fun x _ => ?_)) <;> pointwise [k0_pay76] <;> congr 1 <;> split_ifs <;>
    exact D_at (by first | rfl | omega | (dsimp only; omega))

theorem accVB (old : FVec Ideal S256x128 .f32) :
    k0_pay140 (F := Ideal) (k0_pay71 i C) (k0_pay78 μ) (k0_pay112 (k0_pay77 ω)) (k0_pay113 k0_pay63) (k0_pay125 (k0_pay70 i C) (k0_pay78 μ) (k0_pay112 (k0_pay77 ω)) (k0_pay114 (k0_pay65 k) (k0_pay76 κ)) k0_pay115) (k0_pay127 (k0_pay66 k) (k0_pay111 (k0_pay76 κ))) k0_pay128 k0_pay129 old (ix2 u l)
      = old (ix2 u l) + Scalar.select (IntOp.cmpi .slt (BitVec.ofNat 32 l.val) 64#32)
          (∑ c, MW0 i k C κ μ ⟨256 + u.val, by omega⟩ c * ω (ix2 c l)) (∑ c, MW1 i k C κ μ ⟨256 + u.val, by omega⟩ c * ω (ix2 c l)) := by
  rw [sum_half _ fun c hc => by rw [MW0_far (h := by dsimp only; omega), zero_mul], sum_half _ fun c hc => by rw [MW1_far (h := by dsimp only; omega), zero_mul]]
  pointwise [k0_pay140, k0_pay113, k0_pay125, k0_pay63, bw0_0, bw0_1, bw1_0, bw1_1]
  refine congrArg _ (congrArg₂ _ (congrArg₂ _ (Finset.sum_congr rfl fun x _ => ?_) (Finset.sum_congr rfl fun x _ => ?_)) (congrArg₂ _ (Finset.sum_congr rfl fun x _ => ?_) (Finset.sum_congr rfl fun x _ => ?_))) <;> pointwise [k0_pay112, k0_pay77] <;>
    exact congrArg₂ _ (by rfl) (congrArg (fun n => ω (ix2 n l)) (Fin.ext (by dsimp only; omega)))

theorem accKB (old : FVec Ideal S256x128 .f32) :
    k0_pay141 (F := Ideal) (k0_pay113 k0_pay63) (k0_pay126 (k0_pay67 v) (k0_pay70 i C) (k0_pay78 μ) (k0_pay79 δ) (k0_pay111 (k0_pay76 κ)) (k0_pay112 (k0_pay77 ω)) (k0_pay114 (k0_pay65 k) (k0_pay76 κ)) k0_pay115) (k0_pay139 (k0_pay68 v) (k0_pay71 i C) (k0_pay78 μ) (k0_pay79 δ) (k0_pay111 (k0_pay76 κ)) (k0_pay112 (k0_pay77 ω)) (k0_pay127 (k0_pay66 k) (k0_pay111 (k0_pay76 κ))) k0_pay128 k0_pay129) old (ix2 u l)
      = old (ix2 u l) + Scalar.select (IntOp.cmpi .slt (BitVec.ofNat 32 l.val) 64#32)
          (∑ c, MD0 i k v C κ ω μ δ ⟨256 + u.val, by omega⟩ c * κ (ix2 c l)) (∑ c, MD1 i k v C κ ω μ δ ⟨256 + u.val, by omega⟩ c * κ (ix2 c l)) := by
  rw [sum_half _ fun c hc => by rw [MD0_far (h := by dsimp only; omega), zero_mul], sum_half _ fun c hc => by rw [MD1_far (h := by dsimp only; omega), zero_mul]]
  pointwise [k0_pay141, k0_pay113, k0_pay126, k0_pay139, k0_pay63, bd0_0, bd0_1, bd1_0, bd1_1]
  refine congrArg _ (congrArg₂ _ (congrArg₂ _ (Finset.sum_congr rfl fun x _ => ?_) (Finset.sum_congr rfl fun x _ => ?_)) (congrArg₂ _ (Finset.sum_congr rfl fun x _ => ?_) (Finset.sum_congr rfl fun x _ => ?_))) <;> pointwise [k0_pay111, k0_pay76] <;>
    exact congrArg₂ _ (by rfl) (congrArg (fun n => κ (ix2 n l)) (Fin.ext (by dsimp only; omega)))
end
end Cert.Proof.AttKv
end
-- ==== Proof.AttKvLoop.lean ====
/- The gradients for the keys and values: the loop over the query blocks past the diagonal, as a running sum of blocks. -/
module

public import proofs.«01_k».proof.Proof.AttKvTile
public import proofs.«01_k».proof.Proof.AttQLoop
public import proofs.«01_k».proof.Proof.AttCanon

@[expose] public section

set_option maxRecDepth 16384

noncomputable section

namespace Cert.Proof.AttKv
open Idealize.ShloMosaic Idealize.ShloMosaic.TcCoe Idealize.SL.Sem
open Cert.AttKvIdeal Cert.AttKvIdeal.Gen
open Cert.Proof.AttQ (fold4)

/-- The sum over the `n` blocks after block `lo`. -/
def since (T : Fin 32 → EReal) (lo n : ℕ) : EReal := ∑ b, if lo < b.val ∧ b.val < lo + 1 + n then T b else 0

theorem since_zero (T : Fin 32 → EReal) (lo : ℕ) : since T lo 0 = 0 := Finset.sum_eq_zero fun b _ => if_neg (by omega)

theorem since_succ (T : Fin 32 → EReal) (lo : ℕ) (k : Fin 32) (n : ℕ) (hk : k.val = lo + 1 + n) : since T lo (n + 1) = since T lo n + T k := by
  have h : T k = ∑ b, if b = k then T b else 0 := by rw [Finset.sum_ite_eq' Finset.univ k T, if_pos (Finset.mem_univ k)]
  rw [h, since, since, ← Finset.sum_add_distrib]
  refine Finset.sum_congr rfl fun b _ => ?_
  by_cases hb : b = k
  · subst hb
    rw [if_pos (by omega), if_neg (by omega), if_pos rfl, zero_add]
  · have : b.val ≠ k.val := fun e => hb (Fin.ext e)
    rw [if_neg hb, add_zero]
    by_cases h1 : lo < b.val ∧ b.val < lo + 1 + n
    · rw [if_pos (by omega), if_pos h1]
    · rw [if_neg (by omega), if_neg h1]

theorem trips0 (i : grid0.Coords) : (k0_t1_loop i 31#32).trips = 31 - (i 1).val := by
  have h : ∀ b : Fin 32, Scf.trips (Scalar.addi (BitVec.ofNat 32 b.val) 1#32) (Scalar.addi (Scalar.addi (BitVec.ofNat 32 b.val) 1#32) (Scalar.muli (Scalar.divsi (Scalar.subi (Scalar.addi 31#32 1#32) (Scalar.addi (BitVec.ofNat 32 b.val) 1#32)) 1#32) 1#32)) 1#32 = 31 - b.val := by
    decide +kernel
  exact h (i 1)

theorem off4 (i : grid0.Coords) (k : Fin (k0_t1_loop i 31#32).trips) : k0_off4 i 31#32 k = ![512 * ((i 1).val + 1 + k.val), 0] := by
  have h : ∀ b n : Fin 32, (Scalar.indexCast (Scalar.muli (Scf.iv (Scalar.addi (BitVec.ofNat 32 b.val) 1#32) 1#32 n.val) 512#32)).toNat = 512 * (b.val + 1 + n.val) := by decide +kernel
  have hk : k.val < 32 := lt_of_lt_of_le k.isLt (by rw [trips0]; omega)
  exact congrArg (fun n : ℕ => (![n, 0] : Fin 2 → ℕ)) (h (i 1) ⟨k.val, hk⟩)

theorem off5 (i : grid0.Coords) (k : Fin (k0_t1_loop i 31#32).trips) : k0_off5 i 31#32 k = ![0, (i 1).val + 1 + k.val, 0, 0] := by
  have h : ∀ b n : Fin 32, (Scalar.indexCast (Scf.iv (Scalar.addi (BitVec.ofNat 32 b.val) 1#32) 1#32 n.val)).toNat = b.val + 1 + n.val := by decide +kernel
  have hk : k.val < 32 := lt_of_lt_of_le k.isLt (by rw [trips0]; omega)
  exact congrArg (fun n : ℕ => (![0, n, 0, 0] : Fin 4 → ℕ)) (h (i 1) ⟨k.val, hk⟩)

/-- The rows of query block `b`. -/
def KB (x : FVec Ideal S16384x128 .bf16) (b : Fin 32) : FVec Ideal S512x128 .bf16 := AttQ.KB x b
/-- The row statistics of block `b`. -/
def CB (x : FVec Ideal S1x32x2x512 .f32) (b : Fin 32) : FVec Ideal S1x1x2x512 .f32 := AttQ.CB x b

theorem ldK (x : FVec Ideal S16384x128 .bf16) (b : Fin 32) (off : Fin 2 → ℕ) (h : off = ![512 * b.val, 0]) (inb) :
    View.ld (Val := Elt Ideal) (e' := .bf16) x (Rect.unit (s := S16384x128) off S512x128.size inb) = KB x b := AttQ.ldK x b off h inb

theorem ldC (x : FVec Ideal S1x32x2x512 .f32) (b : Fin 32) (off : Fin 4 → ℕ) (h : off = ![0, b.val, 0, 0]) (inb) :
    View.ld (Val := Elt Ideal) (e' := .f32) x (Rect.unit (s := S1x32x2x512) off S1x1x2x512.size inb) = CB x b := AttQ.ldC x b off h inb

section
variable (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1x32x2x512 .f32) (harg8 : arg8.IsWhole) (arg9 : Memref sig .tc .vmem S1x32x2x512 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x2x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S2x512x128 .f32) (harg15 : arg15.IsWhole) (arg0 : BitVec 32) (arg1 : BitVec 32)
  (k v : FVec Ideal S512x128 .bf16) (C : FVec Ideal S512x128 .f32) (x3 x4 : FVec Ideal S16384x128 .bf16) (x5 x6 : FVec Ideal S1x32x2x512 .f32)
  (v208 : IVec S256x128 1) (v255 v302 v308 : FVec Ideal S256x128 .f32) (v315 : BitVec 32) (hw1 : k0_chk1 i 31#32)

/-- One trip's stores: the running sums read, the block's share added, for block `b`. -/
theorem trip (n : Fin (k0_t1_loop i 31#32).trips) (b : Fin 32) (hb : b.val = (i 1).val + 1 + n.val) (f13 f14 f15) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k0_pay63 (k0_pay65 k) (k0_pay66 k) (k0_pay67 v) (k0_pay68 v) (k0_pay70 i C) (k0_pay71 i C) v208 v255 v302 v308 v315 31#32 hw1 (harg6.unread x3) (harg7.unread x4) (harg8.unread x5) (harg9.unread x6) n f13 f14 f15
    = ([⟨Rect.unit ![0, 0] ![512, 128] inb_S512x128_S512x128_0_0, k0_pay148 k0_pay63 (k0_pay3 (KB x3 b)) (k0_pay24 (k0_pay3 (KB x3 b)) (k0_pay10 (k0_pay65 k) (k0_pay70 i C) (KB x3 b) (CB x5 b)) (k0_pay11 (k0_pay65 k) (k0_pay70 i C) (KB x3 b) (CB x5 b)) (k0_pay12 (k0_pay65 k) (k0_pay70 i C) (KB x3 b) (CB x5 b)) (k0_pay13 (k0_pay65 k) (k0_pay70 i C) (KB x3 b) (CB x5 b)) (k0_pay14 (k0_pay67 v) (KB x4 b) (CB x6 b)) (k0_pay15 (k0_pay67 v) (KB x4 b) (CB x6 b)) (k0_pay16 (k0_pay67 v) (KB x4 b) (CB x6 b)) (k0_pay17 (k0_pay67 v) (KB x4 b) (CB x6 b))) (k0_pay26 (k0_pay68 v) (k0_pay4 (KB x4 b)) (k0_pay6 (CB x6 b))) (k0_pay28 (k0_pay66 k) (k0_pay71 i C) (k0_pay3 (KB x3 b)) (k0_pay5 (CB x5 b))) (k0_pay29 (k0_pay66 k) (k0_pay71 i C) (k0_pay3 (KB x3 b)) (k0_pay5 (CB x5 b))) (k0_pay30 (k0_pay66 k) (k0_pay71 i C) (k0_pay3 (KB x3 b)) (k0_pay5 (CB x5 b))) (k0_pay31 (k0_pay66 k) (k0_pay71 i C) (k0_pay3 (KB x3 b)) (k0_pay5 (CB x5 b))) (View.ld (View.read (Elt Ideal) arg13.view f13) (Rect.unit ![0, 0] ![512, 128] inb_S512x128_S512x128_0_0))⟩],
      [⟨Rect.unit ![0, 0] ![512, 128] inb_S512x128_S512x128_0_0, k0_pay147 k0_pay63 (k0_pay4 (KB x4 b)) (k0_pay23 (k0_pay4 (KB x4 b)) (k0_pay10 (k0_pay65 k) (k0_pay70 i C) (KB x3 b) (CB x5 b)) (k0_pay11 (k0_pay65 k) (k0_pay70 i C) (KB x3 b) (CB x5 b)) (k0_pay12 (k0_pay65 k) (k0_pay70 i C) (KB x3 b) (CB x5 b)) (k0_pay13 (k0_pay65 k) (k0_pay70 i C) (KB x3 b) (CB x5 b))) (k0_pay28 (k0_pay66 k) (k0_pay71 i C) (k0_pay3 (KB x3 b)) (k0_pay5 (CB x5 b))) (k0_pay29 (k0_pay66 k) (k0_pay71 i C) (k0_pay3 (KB x3 b)) (k0_pay5 (CB x5 b))) (k0_pay30 (k0_pay66 k) (k0_pay71 i C) (k0_pay3 (KB x3 b)) (k0_pay5 (CB x5 b))) (k0_pay31 (k0_pay66 k) (k0_pay71 i C) (k0_pay3 (KB x3 b)) (k0_pay5 (CB x5 b))) (View.ld (View.read (Elt Ideal) arg14.view f14) (Rect.unit ![0, 0] ![512, 128] inb_S512x128_S512x128_0_0))⟩],
      [⟨Rect.unit ![1, 0, 0] ![1, 512, 128] inb_S2x512x128_S1x512x128_1_0_0, k0_pay146 (k0_pay26 (k0_pay68 v) (k0_pay4 (KB x4 b)) (k0_pay6 (CB x6 b))) (k0_pay28 (k0_pay66 k) (k0_pay71 i C) (k0_pay3 (KB x3 b)) (k0_pay5 (CB x5 b))) (k0_pay29 (k0_pay66 k) (k0_pay71 i C) (k0_pay3 (KB x3 b)) (k0_pay5 (CB x5 b))) (k0_pay30 (k0_pay66 k) (k0_pay71 i C) (k0_pay3 (KB x3 b)) (k0_pay5 (CB x5 b))) (k0_pay31 (k0_pay66 k) (k0_pay71 i C) (k0_pay3 (KB x3 b)) (k0_pay5 (CB x5 b))) (View.ld (View.read (Elt Ideal) arg15.view f15) (Rect.unit ![1, 0, 0] ![1, 512, 128] inb_S2x512x128_S1x512x128_1_0_0))⟩,
       ⟨Rect.unit ![0, 0, 0] ![1, 512, 128] inb_S2x512x128_S1x512x128_0_0_0, k0_pay22 (k0_pay10 (k0_pay65 k) (k0_pay70 i C) (KB x3 b) (CB x5 b)) (k0_pay11 (k0_pay65 k) (k0_pay70 i C) (KB x3 b) (CB x5 b)) (k0_pay12 (k0_pay65 k) (k0_pay70 i C) (KB x3 b) (CB x5 b)) (k0_pay13 (k0_pay65 k) (k0_pay70 i C) (KB x3 b) (CB x5 b)) (k0_pay14 (k0_pay67 v) (KB x4 b) (CB x6 b)) (k0_pay15 (k0_pay67 v) (KB x4 b) (CB x6 b)) (k0_pay16 (k0_pay67 v) (KB x4 b) (CB x6 b)) (k0_pay17 (k0_pay67 v) (KB x4 b) (CB x6 b)) (View.ld (View.read (Elt Ideal) arg15.view f15) (Rect.unit ![0, 0, 0] ![1, 512, 128] inb_S2x512x128_S1x512x128_0_0_0))⟩]) := by
  have h2 : k0_off4 i 31#32 n = ![512 * b.val, 0] := by rw [off4, hb]
  have h3 : k0_off5 i 31#32 n = ![0, b.val, 0, 0] := by rw [off5, hb]
  rw [← ldK x3 b _ h2 (hw1.2.2.1 n), ← ldK x4 b _ h2 (hw1.2.2.1 n), ← ldC x5 b _ h3 (hw1.2.2.2.1 n), ← ldC x6 b _ h3 (hw1.2.2.2.1 n)]
  unfold tripL_k0_t1 trip_k0_t1
  dsimp only
  unfold trip_k0_t1.sl.r_18 trip_k0_t1.sl.r_17 trip_k0_t1.sl.r_16 trip_k0_t1.sl.r_15 trip_k0_t1.sl.r_14 trip_k0_t1.sl.r_13 trip_k0_t1.sl.r_12 trip_k0_t1.sl.r_11 trip_k0_t1.sl.r_10 trip_k0_t1.sl.r_9 trip_k0_t1.sl.r_8 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r trip_k0_t1.sl.v458
  simp only [View.readAt_eq_ld, harg6.read_unread, harg7.read_unread, harg8.read_unread, harg9.read_unread]

/-- What query block `b` adds to the keys' gradient at row `r`, lane `l`. -/
def TK (r : Fin 512) (l : Fin 128) (b : Fin 32) : EReal := Scalar.select (IntOp.cmpi .slt (BitVec.ofNat 32 l.val) 64#32)
  (∑ c, D0 i k v C (KB x3 b) (KB x4 b) (CB x5 b) (CB x6 b) r c * KB x3 b (ix2 c l)) (∑ c, D1 i k v C (KB x3 b) (KB x4 b) (CB x5 b) (CB x6 b) r c * KB x3 b (ix2 c l))
/-- What it adds to the values' gradient. -/
def TV (r : Fin 512) (l : Fin 128) (b : Fin 32) : EReal := Scalar.select (IntOp.cmpi .slt (BitVec.ofNat 32 l.val) 64#32)
  (∑ c, W0 i k C (KB x3 b) (CB x5 b) r c * KB x4 b (ix2 c l)) (∑ c, W1 i k C (KB x3 b) (CB x5 b) r c * KB x4 b (ix2 c l))
/-- What it adds to the key's gate, first head. -/
def T0 (r : Fin 512) (l : Fin 128) (b : Fin 32) : EReal := fold4 (D0 i k v C (KB x3 b) (KB x4 b) (CB x5 b) (CB x6 b) r) l
/-- The same for the second head. -/
def T1 (r : Fin 512) (l : Fin 128) (b : Fin 32) : EReal := fold4 (D1 i k v C (KB x3 b) (KB x4 b) (CB x5 b) (CB x6 b) r) l

/-- The stores of the trips before `n`. -/
abbrev pb (A0 B0 : List (View.Piece (Elt Ideal) S512x128 .f32)) (C0 : List (View.Piece (Elt Ideal) S2x512x128 .f32)) (n : ℕ) :=
  pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k0_pay63 (k0_pay65 k) (k0_pay66 k) (k0_pay67 v) (k0_pay68 v) (k0_pay70 i C) (k0_pay71 i C) v208 v255 v302 v308 v315 31#32 hw1 (harg6.unread x3) (harg7.unread x4) (harg8.unread x5) (harg9.unread x6) (arg13.view.writes (Elt Ideal) arg13.view.junk A0) (arg14.view.writes (Elt Ideal) arg14.view.junk B0) (arg15.view.writes (Elt Ideal) arg15.view.junk C0) n

theorem inv (A0 B0 : List (View.Piece (Elt Ideal) S512x128 .f32)) (C0 : List (View.Piece (Elt Ideal) S2x512x128 .f32)) (n : ℕ) (hn : n ≤ 31 - (i 1).val) :
    (∀ r l, View.canon ((pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k v C x3 x4 x5 x6 v208 v255 v302 v308 v315 hw1 A0 B0 C0 n).1 ++ A0) (ix2 r l) = View.canon A0 (ix2 r l) + since (TK i k v C x3 x4 x5 x6 r l) (i 1).val n) ∧
    (∀ r l, View.canon ((pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k v C x3 x4 x5 x6 v208 v255 v302 v308 v315 hw1 A0 B0 C0 n).2.1 ++ B0) (ix2 r l) = View.canon B0 (ix2 r l) + since (TV i k C x3 x4 x5 r l) (i 1).val n) ∧
    (∀ r l, View.canon ((pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k v C x3 x4 x5 x6 v208 v255 v302 v308 v315 hw1 A0 B0 C0 n).2.2 ++ C0) (ix3 0 r l) = View.canon C0 (ix3 0 r l) + since (T0 i k v C x3 x4 x5 x6 r l) (i 1).val n) ∧
    (∀ r l, View.canon ((pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k v C x3 x4 x5 x6 v208 v255 v302 v308 v315 hw1 A0 B0 C0 n).2.2 ++ C0) (ix3 1 r l) = View.canon C0 (ix3 1 r l) + since (T1 i k v C x3 x4 x5 x6 r l) (i 1).val n) := by
  induction n with
  | zero =>
    unfold pb pb_k0_t1
    simp only [List.nil_append, since_zero, add_zero, implies_true, and_self]
  | succ n ih =>
    obtain ⟨ik, iv, i0, i1⟩ := ih (by omega)
    have hk : n < (k0_t1_loop i 31#32).trips := by rw [trips0]; omega
    have h32 : (i 1).val + 1 + n < 32 := by omega
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k0_pay63 (k0_pay65 k) (k0_pay66 k) (k0_pay67 v) (k0_pay68 v) (k0_pay70 i C) (k0_pay71 i C) v208 v255 v302 v308 v315 31#32 hw1 (harg6.unread x3) (harg7.unread x4) (harg8.unread x5) (harg9.unread x6) (arg13.view.writes (Elt Ideal) arg13.view.junk A0) (arg14.view.writes (Elt Ideal) arg14.view.junk B0) (arg15.view.writes (Elt Ideal) arg15.view.junk C0) ⟨n, hk⟩
    rw [trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 k v C x3 x4 x5 x6 v208 v255 v302 v308 v315 hw1 ⟨n, hk⟩ ⟨(i 1).val + 1 + n, h32⟩ rfl] at e
    unfold pb at ik iv i0 i1 ⊢
    dsimp only at e
    rw [e]
    simp only [← View.writes_append, View.read_writes_junk_eq_canon, List.cons_append, List.nil_append]
    refine ⟨fun r l => ?_, fun r l => ?_, fun r l => ?_, fun r l => ?_⟩
    · rw [since_succ _ _ ⟨(i 1).val + 1 + n, h32⟩ n rfl, ← add_assoc]
      refine (Att.hit _ _ _ (ix2 r l) fun a => ?_).trans ?_
      · skip
        match a with
        | ⟨0, _⟩ => exact (Nat.zero_add _).symm
        | ⟨1, _⟩ => exact (Nat.zero_add _).symm
      · refine (accK i k v C _ _ _ _ r l _).trans ?_
        refine congrArg₂ (· + ·) ?_ rfl
        rw [← ik r l]
        refine View.ld_unit_apply_of _ _ _ _ _ _ fun a => ?_
        match a with
        | ⟨0, _⟩ => exact (Nat.zero_add _).symm
        | ⟨1, _⟩ => exact (Nat.zero_add _).symm
    · rw [since_succ _ _ ⟨(i 1).val + 1 + n, h32⟩ n rfl, ← add_assoc]
      refine (Att.hit _ _ _ (ix2 r l) fun a => ?_).trans ?_
      · skip
        match a with
        | ⟨0, _⟩ => exact (Nat.zero_add _).symm
        | ⟨1, _⟩ => exact (Nat.zero_add _).symm
      · refine (accV i k C _ _ _ r l _).trans ?_
        refine congrArg₂ (· + ·) ?_ rfl
        rw [← iv r l]
        refine View.ld_unit_apply_of _ _ _ _ _ _ fun a => ?_
        match a with
        | ⟨0, _⟩ => exact (Nat.zero_add _).symm
        | ⟨1, _⟩ => exact (Nat.zero_add _).symm
    · rw [since_succ _ _ ⟨(i 1).val + 1 + n, h32⟩ n rfl, ← add_assoc]
      rw [Att.miss _ _ _ 0 (Or.inl Nat.zero_lt_one)]
      refine (Att.hit _ _ _ (ix3 0 r l) fun a => ?_).trans ?_
      · skip
        match a with
        | ⟨0, _⟩ => rfl
        | ⟨1, _⟩ => exact (Nat.zero_add _).symm
        | ⟨2, _⟩ => exact (Nat.zero_add _).symm
      · refine (rows0 i k v C _ _ _ _ r l _).trans ?_
        refine congrArg₂ (· + ·) ?_ rfl
        rw [← i0 r l]
        refine View.ld_unit_apply_of _ _ _ _ _ _ fun a => ?_
        match a with
        | ⟨0, _⟩ => rfl
        | ⟨1, _⟩ => exact (Nat.zero_add _).symm
        | ⟨2, _⟩ => exact (Nat.zero_add _).symm
    · rw [since_succ _ _ ⟨(i 1).val + 1 + n, h32⟩ n rfl, ← add_assoc]
      refine (Att.hit _ _ _ (ix3 0 r l) fun a => ?_).trans ?_
      · skip
        match a with
        | ⟨0, _⟩ => rfl
        | ⟨1, _⟩ => exact (Nat.zero_add _).symm
        | ⟨2, _⟩ => exact (Nat.zero_add _).symm
      · refine (rows1 i k v C _ _ _ _ r l _).trans ?_
        refine congrArg₂ (· + ·) ?_ rfl
        rw [← i1 r l]
        refine View.ld_unit_apply_of _ _ _ _ _ _ fun a => ?_
        match a with
        | ⟨0, _⟩ => rfl
        | ⟨1, _⟩ => exact (Nat.zero_add _).symm
        | ⟨2, _⟩ => exact (Nat.zero_add _).symm
end
end Cert.Proof.AttKv
end
-- ==== Proof.AttKvTail.lean ====
/- The gradients for the keys and values: what the diagonal block leaves in the running sums. -/
module

public import proofs.«01_k».proof.Proof.AttKvLoop
public import proofs.«01_k».proof.Proof.AttQTail

@[expose] public section

set_option maxRecDepth 16384

noncomputable section

namespace Cert.Proof.AttKv
open Idealize.ShloMosaic Idealize.ShloMosaic.TcCoe Idealize.SL.Sem
open Cert.AttKvIdeal Cert.AttKvIdeal.Gen
open Cert.Proof.AttQ (fold4)

/-- Two halves stored one after the other, each adding its rows' share: every row gains its own. -/
theorem tail2 (X : List (View.Piece (Elt Ideal) S512x128 .f32)) (fT fB : FVec Ideal S256x128 .f32 → FVec Ideal S256x128 .f32) (g : Fin 512 → Fin 128 → EReal)
    (hT : ∀ u l old, fT old (ix2 u l) = old (ix2 u l) + g ⟨u.val, by omega⟩ l) (hB : ∀ u l old, fB old (ix2 u l) = old (ix2 u l) + g ⟨256 + u.val, by omega⟩ l)
    (r : Fin 512) (l : Fin 128) :
    View.canon (⟨Rect.unit ![256, 0] ![256, 128] inb_S512x128_S256x128_256_0, fB (fun j => View.canon (⟨Rect.unit ![0, 0] ![256, 128] inb_S512x128_S256x128_0_0, fT (fun j => View.canon X ((Rect.unit (s := S512x128) ![0, 0] ![256, 128] inb_S512x128_S256x128_0_0).toLoadRect.idx j))⟩ :: X) ((Rect.unit (s := S512x128) ![256, 0] ![256, 128] inb_S512x128_S256x128_256_0).toLoadRect.idx j))⟩ ::
      ⟨Rect.unit ![0, 0] ![256, 128] inb_S512x128_S256x128_0_0, fT (fun j => View.canon X ((Rect.unit (s := S512x128) ![0, 0] ![256, 128] inb_S512x128_S256x128_0_0).toLoadRect.idx j))⟩ :: X) (ix2 r l) = View.canon X (ix2 r l) + g r l := by
  rcases AttQ.halves r with ⟨u, rfl⟩ | ⟨u, rfl⟩
  · have hr : (0 + u.val) < 256 := by omega
    rw [Att.miss _ _ _ 0 (Or.inl hr)]
    refine (Att.hit _ _ _ (ix2 u l) fun a => ?_).trans ?_
    · match a with
      | ⟨0, _⟩ => rfl
      | ⟨1, _⟩ => exact (Nat.zero_add _).symm
    · refine (hT u l _).trans (congrArg₂ (· + ·) (congrArg _ (funext fun a => Fin.ext ?_)) (by simp only [Nat.zero_add]))
      match a with
      | ⟨0, _⟩ => exact Rect.idx_unit_val _ _ _ _ _
      | ⟨1, _⟩ => exact (Rect.idx_unit_val _ _ _ _ _).trans (Nat.zero_add _)
  · refine (Att.hit _ _ _ (ix2 u l) fun a => ?_).trans ?_
    · match a with
      | ⟨0, _⟩ => rfl
      | ⟨1, _⟩ => exact (Nat.zero_add _).symm
    refine (hB u l _).trans (congrArg₂ (· + ·) ?_ rfl)
    rw [Att.miss _ _ _ 0 (Or.inr ?_)]
    · refine congrArg _ (funext fun a => Fin.ext ?_)
      match a with
      | ⟨0, _⟩ => exact Rect.idx_unit_val _ _ _ _ _
      | ⟨1, _⟩ => exact (Rect.idx_unit_val _ _ _ _ _).trans (Nat.zero_add _)
    · exact (Nat.le_add_right 256 u.val).trans (Rect.idx_unit_val (s := S512x128) ![256, 0] ![256, 128] inb_S512x128_S256x128_256_0 (ix2 u l) 0).ge

section
variable (i : grid0.Coords) (k v : FVec Ideal S512x128 .bf16) (C : FVec Ideal S512x128 .f32) (κ ω : FVec Ideal S512x128 .bf16) (μ δ : FVec Ideal S1x1x2x512 .f32)

/-- The upper half of the diagonal block stored into the keys' sums. -/
def K0 (X : List (View.Piece (Elt Ideal) S512x128 .f32)) : List (View.Piece (Elt Ideal) S512x128 .f32) :=
  ⟨Rect.unit ![0, 0] ![256, 128] inb_S512x128_S256x128_0_0, k0_pay110 (k0_pay76 κ) (k0_pay80 k0_pay63) (k0_pay95 (k0_pay76 κ) (k0_pay89 (k0_pay67 v) (k0_pay70 i C) (k0_pay77 ω) (k0_pay78 μ) (k0_pay79 δ) (k0_pay81 (k0_pay65 k) κ)) (k0_pay90 (k0_pay67 v) (k0_pay70 i C) (k0_pay77 ω) (k0_pay78 μ) (k0_pay79 δ) (k0_pay81 (k0_pay65 k) κ)) (k0_pay91 (k0_pay67 v) (k0_pay70 i C) (k0_pay77 ω) (k0_pay78 μ) (k0_pay79 δ) (k0_pay81 (k0_pay65 k) κ)) (k0_pay92 (k0_pay67 v) (k0_pay70 i C) (k0_pay77 ω) (k0_pay78 μ) (k0_pay79 δ) (k0_pay81 (k0_pay65 k) κ))) (k0_pay104 (k0_pay66 k) (k0_pay68 v) (k0_pay71 i C) (k0_pay76 κ) (k0_pay77 ω) (k0_pay78 μ) (k0_pay79 δ)) (k0_pay105 (k0_pay66 k) (k0_pay68 v) (k0_pay71 i C) (k0_pay76 κ) (k0_pay77 ω) (k0_pay78 μ) (k0_pay79 δ)) (k0_pay106 (k0_pay66 k) (k0_pay68 v) (k0_pay71 i C) (k0_pay76 κ) (k0_pay77 ω) (k0_pay78 μ) (k0_pay79 δ)) (k0_pay107 (k0_pay66 k) (k0_pay68 v) (k0_pay71 i C) (k0_pay76 κ) (k0_pay77 ω) (k0_pay78 μ) (k0_pay79 δ)) (fun j => View.canon X ((Rect.unit (s := S512x128) ![0, 0] ![256, 128] inb_S512x128_S256x128_0_0).toLoadRect.idx j))⟩ :: X
/-- The lower half. -/
def K1 (X : List (View.Piece (Elt Ideal) S512x128 .f32)) : List (View.Piece (Elt Ideal) S512x128 .f32) :=
  ⟨Rect.unit ![256, 0] ![256, 128] inb_S512x128_S256x128_256_0, k0_pay141 (k0_pay113 k0_pay63) (k0_pay126 (k0_pay67 v) (k0_pay70 i C) (k0_pay78 μ) (k0_pay79 δ) (k0_pay111 (k0_pay76 κ)) (k0_pay112 (k0_pay77 ω)) (k0_pay114 (k0_pay65 k) (k0_pay76 κ)) k0_pay115) (k0_pay139 (k0_pay68 v) (k0_pay71 i C) (k0_pay78 μ) (k0_pay79 δ) (k0_pay111 (k0_pay76 κ)) (k0_pay112 (k0_pay77 ω)) (k0_pay127 (k0_pay66 k) (k0_pay111 (k0_pay76 κ))) k0_pay128 k0_pay129) (fun j => View.canon X ((Rect.unit (s := S512x128) ![256, 0] ![256, 128] inb_S512x128_S256x128_256_0).toLoadRect.idx j))⟩ :: X
/-- The upper half of the diagonal block stored into the values' sums. -/
def V0 (X : List (View.Piece (Elt Ideal) S512x128 .f32)) : List (View.Piece (Elt Ideal) S512x128 .f32) :=
  ⟨Rect.unit ![0, 0] ![256, 128] inb_S512x128_S256x128_0_0, k0_pay109 (k0_pay77 ω) (k0_pay80 k0_pay63) (k0_pay94 (k0_pay70 i C) (k0_pay77 ω) (k0_pay78 μ) (k0_pay81 (k0_pay65 k) κ)) (k0_pay100 (k0_pay66 k) (k0_pay71 i C) (k0_pay76 κ) (k0_pay78 μ)) (k0_pay101 (k0_pay66 k) (k0_pay71 i C) (k0_pay76 κ) (k0_pay78 μ)) (k0_pay102 (k0_pay66 k) (k0_pay71 i C) (k0_pay76 κ) (k0_pay78 μ)) (k0_pay103 (k0_pay66 k) (k0_pay71 i C) (k0_pay76 κ) (k0_pay78 μ)) (fun j => View.canon X ((Rect.unit (s := S512x128) ![0, 0] ![256, 128] inb_S512x128_S256x128_0_0).toLoadRect.idx j))⟩ :: X
/-- The lower half. -/
def V1 (X : List (View.Piece (Elt Ideal) S512x128 .f32)) : List (View.Piece (Elt Ideal) S512x128 .f32) :=
  ⟨Rect.unit ![256, 0] ![256, 128] inb_S512x128_S256x128_256_0, k0_pay140 (k0_pay71 i C) (k0_pay78 μ) (k0_pay112 (k0_pay77 ω)) (k0_pay113 k0_pay63) (k0_pay125 (k0_pay70 i C) (k0_pay78 μ) (k0_pay112 (k0_pay77 ω)) (k0_pay114 (k0_pay65 k) (k0_pay76 κ)) k0_pay115) (k0_pay127 (k0_pay66 k) (k0_pay111 (k0_pay76 κ))) k0_pay128 k0_pay129 (fun j => View.canon X ((Rect.unit (s := S512x128) ![256, 0] ![256, 128] inb_S512x128_S256x128_256_0).toLoadRect.idx j))⟩ :: X
/-- The upper half stored into the first head's gate sums. -/
def G0 (X : List (View.Piece (Elt Ideal) S2x512x128 .f32)) : List (View.Piece (Elt Ideal) S2x512x128 .f32) :=
  ⟨Rect.unit ![0, 0, 0] ![1, 256, 128] inb_S2x512x128_S1x256x128_0_0_0, k0_pay93 (k0_pay67 v) (k0_pay70 i C) (k0_pay77 ω) (k0_pay78 μ) (k0_pay79 δ) (k0_pay81 (k0_pay65 k) κ) (fun j => View.canon X ((Rect.unit (s := S2x512x128) ![0, 0, 0] ![1, 256, 128] inb_S2x512x128_S1x256x128_0_0_0).toLoadRect.idx j))⟩ :: X
/-- Into the second head's. -/
def G1 (X : List (View.Piece (Elt Ideal) S2x512x128 .f32)) : List (View.Piece (Elt Ideal) S2x512x128 .f32) :=
  ⟨Rect.unit ![1, 0, 0] ![1, 256, 128] inb_S2x512x128_S1x256x128_1_0_0, k0_pay108 (k0_pay104 (k0_pay66 k) (k0_pay68 v) (k0_pay71 i C) (k0_pay76 κ) (k0_pay77 ω) (k0_pay78 μ) (k0_pay79 δ)) (k0_pay105 (k0_pay66 k) (k0_pay68 v) (k0_pay71 i C) (k0_pay76 κ) (k0_pay77 ω) (k0_pay78 μ) (k0_pay79 δ)) (k0_pay106 (k0_pay66 k) (k0_pay68 v) (k0_pay71 i C) (k0_pay76 κ) (k0_pay77 ω) (k0_pay78 μ) (k0_pay79 δ)) (k0_pay107 (k0_pay66 k) (k0_pay68 v) (k0_pay71 i C) (k0_pay76 κ) (k0_pay77 ω) (k0_pay78 μ) (k0_pay79 δ)) (fun j => View.canon X ((Rect.unit (s := S2x512x128) ![1, 0, 0] ![1, 256, 128] inb_S2x512x128_S1x256x128_1_0_0).toLoadRect.idx j))⟩ :: X
/-- The lower half, first head. -/
def G2 (X : List (View.Piece (Elt Ideal) S2x512x128 .f32)) : List (View.Piece (Elt Ideal) S2x512x128 .f32) :=
  ⟨Rect.unit ![0, 256, 0] ![1, 256, 128] inb_S2x512x128_S1x256x128_0_256_0, k0_pay124 (k0_pay67 v) (k0_pay70 i C) (k0_pay78 μ) (k0_pay79 δ) (k0_pay112 (k0_pay77 ω)) (k0_pay114 (k0_pay65 k) (k0_pay76 κ)) k0_pay115 (fun j => View.canon X ((Rect.unit (s := S2x512x128) ![0, 256, 0] ![1, 256, 128] inb_S2x512x128_S1x256x128_0_256_0).toLoadRect.idx j))⟩ :: X
/-- The lower half, second head. -/
def G3 (X : List (View.Piece (Elt Ideal) S2x512x128 .f32)) : List (View.Piece (Elt Ideal) S2x512x128 .f32) :=
  ⟨Rect.unit ![1, 256, 0] ![1, 256, 128] inb_S2x512x128_S1x256x128_1_256_0, k0_pay138 (k0_pay68 v) (k0_pay71 i C) (k0_pay78 μ) (k0_pay79 δ) (k0_pay112 (k0_pay77 ω)) (k0_pay127 (k0_pay66 k) (k0_pay111 (k0_pay76 κ))) k0_pay128 k0_pay129 (fun j => View.canon X ((Rect.unit (s := S2x512x128) ![1, 256, 0] ![1, 256, 128] inb_S2x512x128_S1x256x128_1_256_0).toLoadRect.idx j))⟩ :: X

/-- What the diagonal block adds to the keys' gradient. -/
def gK (r : Fin 512) (l : Fin 128) : EReal := Scalar.select (IntOp.cmpi .slt (BitVec.ofNat 32 l.val) 64#32)
  (∑ c, MD0 i k v C κ ω μ δ r c * κ (ix2 c l)) (∑ c, MD1 i k v C κ ω μ δ r c * κ (ix2 c l))
/-- What it adds to the values'. -/
def gV (r : Fin 512) (l : Fin 128) : EReal := Scalar.select (IntOp.cmpi .slt (BitVec.ofNat 32 l.val) 64#32)
  (∑ c, MW0 i k C κ μ r c * ω (ix2 c l)) (∑ c, MW1 i k C κ μ r c * ω (ix2 c l))

theorem diagK (X : List (View.Piece (Elt Ideal) S512x128 .f32)) (r : Fin 512) (l : Fin 128) : View.canon (K1 i k v C κ ω μ δ (K0 i k v C κ ω μ δ X)) (ix2 r l) = View.canon X (ix2 r l) + gK i k v C κ ω μ δ r l :=
  tail2 X _ _ (gK i k v C κ ω μ δ) (fun u l old => accKT i k v C κ ω μ δ l u old) (fun u l old => accKB i k v C κ ω μ δ l u old) r l

theorem diagV (X : List (View.Piece (Elt Ideal) S512x128 .f32)) (r : Fin 512) (l : Fin 128) : View.canon (V1 i k C κ ω μ (V0 i k C κ ω μ X)) (ix2 r l) = View.canon X (ix2 r l) + gV i k C κ ω μ r l :=
  tail2 X _ _ (gV i k C κ ω μ) (fun u l old => accVT i k C κ ω μ l u old) (fun u l old => accVB i k C κ ω μ l u old) r l

theorem diagC (X : List (View.Piece (Elt Ideal) S2x512x128 .f32)) (r : Fin 512) (l : Fin 128) :
    View.canon (G3 i k v C κ ω μ δ (G2 i k v C κ ω μ δ (G1 i k v C κ ω μ δ (G0 i k v C κ ω μ δ X)))) (ix3 0 r l) = View.canon X (ix3 0 r l) + fold4 (MD0 i k v C κ ω μ δ r) l ∧
    View.canon (G3 i k v C κ ω μ δ (G2 i k v C κ ω μ δ (G1 i k v C κ ω μ δ (G0 i k v C κ ω μ δ X)))) (ix3 1 r l) = View.canon X (ix3 1 r l) + fold4 (MD1 i k v C κ ω μ δ r) l := by
  rcases AttQ.halves r with ⟨u, rfl⟩ | ⟨u, rfl⟩
  · have hr' : (0 + u.val) < 256 := by omega
    constructor
    · rw [G3, Att.miss _ _ _ 0 (Or.inl Nat.zero_lt_one), G2, Att.miss _ _ _ 1 (Or.inl hr'), G1, Att.miss _ _ _ 0 (Or.inl Nat.zero_lt_one), G0]
      refine (AttQ.hit3 X 0 0 (by decide) _ _ u l).trans ((rowsT0 i k v C κ ω μ δ l u _).trans (congrArg₂ (· + ·) (AttQ.box X 0 0 (by decide) _ u l) ?_))
      simp only [Nat.zero_add]
    · rw [G3, Att.miss _ _ _ 1 (Or.inl hr'), G2, Att.miss _ _ _ 0 (Or.inr le_rfl), G1]
      refine (AttQ.hit3 _ 1 0 (by decide) _ _ u l).trans ((rowsT1 i k v C κ ω μ δ l u _).trans (congrArg₂ (· + ·) ((AttQ.box _ 1 0 (by decide) _ u l).trans ?_) ?_))
      · rw [G0, Att.miss _ _ _ 0 (Or.inr le_rfl)]
      · simp only [Nat.zero_add]
  · have hr' : 0 + 256 ≤ 256 + u.val := by omega
    constructor
    · rw [G3, Att.miss _ _ _ 0 (Or.inl Nat.zero_lt_one), G2]
      refine (AttQ.hit3 _ 0 256 (by decide) _ _ u l).trans ((rowsB0 i k v C κ ω μ δ l u _).trans (congrArg₂ (· + ·) ((AttQ.box _ 0 256 (by decide) _ u l).trans ?_) rfl))
      rw [G1, Att.miss _ _ _ 0 (Or.inl Nat.zero_lt_one), G0, Att.miss _ _ _ 1 (Or.inr hr')]
    · rw [G3]
      refine (AttQ.hit3 _ 1 256 (by decide) _ _ u l).trans ((rowsB1 i k v C κ ω μ δ l u _).trans (congrArg₂ (· + ·) ((AttQ.box _ 1 256 (by decide) _ u l).trans ?_) rfl))
      rw [G2, Att.miss _ _ _ 0 (Or.inr le_rfl), G1, Att.miss _ _ _ 1 (Or.inr hr'), G0, Att.miss _ _ _ 0 (Or.inr le_rfl)]
end

end Cert.Proof.AttKv
end
-- ==== Proof.AttKvBlock.lean ====
/- The gradients for the keys and values: what a grid point leaves, over real arrays. -/
module

public import proofs.«01_k».proof.Proof.AttKvLoop
public import proofs.«01_k».proof.Proof.AttKvTail
public import proofs.«01_k».proof.Proof.AttSpec

@[expose] public section

set_option maxRecDepth 16384

noncomputable section

namespace Cert.Proof.AttKv
open Idealize.ShloMosaic Idealize.ShloMosaic.TcCoe Idealize.SL.Sem
open Cert.AttKvIdeal Cert.AttKvIdeal.Gen Cert.Proof.Att
open Cert.Proof.AttQ (fold4 sum4)

/-- The sum over the queries at least a key's row: the key's own block from the diagonal on, then the blocks after it. -/
theorem later (f : Fin 16384 → EReal) (b : Fin 32) (r : Fin 512) :
    (∑ j, if (row b r).val ≤ j.val then f j else 0)
      = (∑ c : Fin 512, if r.val ≤ c.val then f (row b c) else 0) + since (fun b' => ∑ c, f (row b' c)) b.val (31 - b.val) := by
  rw [sum_rows, since]
  have hs : (∑ c : Fin 512, if r.val ≤ c.val then f (row b c) else 0)
      = ∑ b', if b' = b then (∑ c : Fin 512, if r.val ≤ c.val then f (row b c) else 0) else 0 := by
    rw [Finset.sum_ite_eq' Finset.univ b, if_pos (Finset.mem_univ b)]
  rw [hs, ← Finset.sum_add_distrib]
  refine Finset.sum_congr rfl fun b' _ => ?_
  by_cases h : b' = b
  · subst h
    rw [if_pos rfl, if_neg (show ¬ (b'.val < b'.val ∧ b'.val < b'.val + 1 + (31 - b'.val)) from fun h => lt_irrefl _ h.1), add_zero]
    exact Finset.sum_congr rfl fun c _ => if_congr (by simp [row]) rfl rfl
  · rw [if_neg h, zero_add]
    have hne : b'.val ≠ b.val := fun e => h (Fin.ext e)
    by_cases h1 : b.val < b'.val
    · rw [if_pos (by omega)]
      exact Finset.sum_congr rfl fun c _ => if_pos (by simp only [row]; omega)
    · rw [if_neg (fun h => h1 h.1)]
      exact Finset.sum_eq_zero fun c _ => if_neg (by simp only [row]; omega)

theorem sum_since (lo n : ℕ) (T : Fin 128 → Fin 32 → EReal) : ∑ l, since (T l) lo n = since (fun b => ∑ l, T l b) lo n := by
  unfold since
  rw [Finset.sum_comm]
  refine Finset.sum_congr rfl fun b _ => ?_
  split_ifs
  · rfl
  · exact Finset.sum_const_zero

theorem since_congr {S T : Fin 32 → EReal} (lo n : ℕ) (h : ∀ b, S b = T b) : since S lo n = since T lo n := congrArg (fun f => since f lo n) (funext h)

/-- A block's part at lane `l`: the head the lane lies in, whatever mask `φ` sets. -/
theorem part (φ : Fin 512 → Prop) [DecidablePred φ] (X0 X1 y : Fin 512 → EReal) (a : Fin 2 → Fin 512 → ℝ) (z : Fin 512 → ℝ)
    (h0 : ∀ c, X0 c = if φ c then (a 0 c : EReal) else 0) (h1 : ∀ c, X1 c = if φ c then (a 1 c : EReal) else 0) (hy : ∀ c, y c = (z c : EReal)) (l : Fin 128) :
    Scalar.select (IntOp.cmpi .slt (BitVec.ofNat 32 l.val) 64#32) (∑ c, X0 c * y c) (∑ c, X1 c * y c)
      = ∑ c, if φ c then ((a ⟨l.val / 64, by omega⟩ c * z c : ℝ) : EReal) else 0 := by
  have h : ∀ x : Fin 128, IntOp.cmpi .slt (BitVec.ofNat 32 x.val) 64#32 = if x.val < 64 then 1#1 else 0#1 := by decide +kernel
  rw [h]
  by_cases hl : l.val < 64
  · rw [if_pos hl]
    refine Eq.trans (show Scalar.select 1#1 _ _ = ∑ c, X0 c * y c from rfl) (Finset.sum_congr rfl fun c _ => ?_)
    rw [show (⟨l.val / 64, by omega⟩ : Fin 2) = 0 from Fin.ext (by show l.val / 64 = 0; omega), h0, hy]
    split_ifs
    · rw [EReal.coe_mul]
    · rw [zero_mul]
  · rw [if_neg hl]
    refine Eq.trans (show Scalar.select 0#1 _ _ = ∑ c, X1 c * y c from rfl) (Finset.sum_congr rfl fun c _ => ?_)
    rw [show (⟨l.val / 64, by omega⟩ : Fin 2) = 1 from Fin.ext (by show l.val / 64 = 1; omega), h1, hy]
    split_ifs
    · rw [EReal.coe_mul]
    · rw [zero_mul]

variable (A : Arr) (i : grid0.Coords) (x0 x1 : FVec Ideal S512x128 .bf16) (x2 : FVec Ideal S512x128 .f32)

/-- The blocks of key block `i 1` and head pair `i 0` are those of the real arrays. -/
structure Keys : Prop where
  k : ∀ r x, x0 (ix2 r x) = (A.k (row (i 1) r) (pl (i 0) x) : ℝ)
  v : ∀ r x, x1 (ix2 r x) = (A.v (row (i 1) r) (pl (i 0) x) : ℝ)
  g : ∀ r (e : Fin 2), x2 (ix2 r ⟨2 * (i 0).val + e.val, by have h : (i 0).val < 8 := (i 0).isLt; omega⟩) = (A.g (row (i 1) r) (pr (i 0) e) : ℝ)

/-- The query block `b`'s arrays likewise. -/
structure Queries (b : Fin 32) (κ ω : FVec Ideal S512x128 .bf16) (μ δ : FVec Ideal S1x1x2x512 .f32) : Prop where
  q : ∀ c x, κ (ix2 c x) = (A.q (row b c) (pl (i 0) x) : ℝ)
  o : ∀ c x, ω (ix2 c x) = (A.o (row b c) (pl (i 0) x) : ℝ)
  l : ∀ (e : Fin 2) c, μ (ix4 0 0 e c) = (Real.log (A.z (pr (i 0) e) (row b c)) : ℝ)
  d : ∀ (e : Fin 2) c, δ (ix4 0 0 e c) = (A.mean (pr (i 0) e) (row b c) : ℝ)

variable {A i x0 x1 x2} (R : Keys A i x0 x1 x2) {b : Fin 32} {κ ω : FVec Ideal S512x128 .bf16} {μ δ : FVec Ideal S1x1x2x512 .f32} (Q : Queries A i b κ ω μ δ)
include R Q

theorem W0_real (r c : Fin 512) : W0 i x0 x2 κ μ r c = (A.p (pr (i 0) 0) (row b c) (row (i 1) r) : ℝ) := by
  have e : ∀ d : Fin 64, pl (i 0) ⟨d.val, by omega⟩ = hd (pr (i 0) 0) d := fun d => Fin.ext (by simp [pl, hd, pr]; omega)
  unfold W0
  rw [half0, pick (i 0) 0 0#32 rfl, Q.l]
  refine Eq.trans ?_ (A.exp_lse (pr (i 0) 0) (row b c) (row (i 1) r))
  refine congrArg (fun x => Ideal.exp (x - _)) ?_
  unfold Arr.s
  rw [EReal.coe_sub, coe_sum]
  refine congrArg₂ _ (Finset.sum_congr rfl fun d _ => ?_) (R.g r 0)
  rw [R.k, Q.q, eighth16, e, ← EReal.coe_mul, ← EReal.coe_mul]
  exact congrArg (fun x : ℝ => (x : EReal)) (by ring)

theorem D0_real (r c : Fin 512) : D0 i x0 x1 x2 κ ω μ δ r c = (A.ds (pr (i 0) 0) (row b c) (row (i 1) r) : ℝ) := by
  have e : ∀ d : Fin 64, pl (i 0) ⟨d.val, by omega⟩ = hd (pr (i 0) 0) d := fun d => Fin.ext (by simp [pl, hd, pr]; omega)
  have hp : P0 x1 ω δ r c = ((A.w (pr (i 0) 0) (row b c) (row (i 1) r) - A.mean (pr (i 0) 0) (row b c) : ℝ) : EReal) := by
    unfold P0 Arr.w
    rw [half0, EReal.coe_sub, coe_sum]
    refine congrArg₂ _ (Finset.sum_congr rfl fun d _ => ?_) (Q.d 0 c)
    rw [Q.o, R.v, e, ← EReal.coe_mul]
    exact congrArg (fun x : ℝ => (x : EReal)) (mul_comm _ _)
  unfold D0
  rw [W0_real R Q, hp, ← EReal.coe_mul]; rfl

theorem W1_real (r c : Fin 512) : W1 i x0 x2 κ μ r c = (A.p (pr (i 0) 1) (row b c) (row (i 1) r) : ℝ) := by
  have e : ∀ d : Fin 64, pl (i 0) ⟨64 + d.val, by omega⟩ = hd (pr (i 0) 1) d := fun d => Fin.ext (by simp [pl, hd, pr]; omega)
  unfold W1
  rw [half1, pick (i 0) 1 1#32 rfl, Q.l]
  refine Eq.trans ?_ (A.exp_lse (pr (i 0) 1) (row b c) (row (i 1) r))
  refine congrArg (fun x => Ideal.exp (x - _)) ?_
  unfold Arr.s
  rw [EReal.coe_sub, coe_sum]
  refine congrArg₂ _ (Finset.sum_congr rfl fun d _ => ?_) (R.g r 1)
  rw [R.k, Q.q, eighth16, e, ← EReal.coe_mul, ← EReal.coe_mul]
  exact congrArg (fun x : ℝ => (x : EReal)) (by ring)

theorem D1_real (r c : Fin 512) : D1 i x0 x1 x2 κ ω μ δ r c = (A.ds (pr (i 0) 1) (row b c) (row (i 1) r) : ℝ) := by
  have e : ∀ d : Fin 64, pl (i 0) ⟨64 + d.val, by omega⟩ = hd (pr (i 0) 1) d := fun d => Fin.ext (by simp [pl, hd, pr]; omega)
  have hp : P1 x1 ω δ r c = ((A.w (pr (i 0) 1) (row b c) (row (i 1) r) - A.mean (pr (i 0) 1) (row b c) : ℝ) : EReal) := by
    unfold P1 Arr.w
    rw [half1, EReal.coe_sub, coe_sum]
    refine congrArg₂ _ (Finset.sum_congr rfl fun d _ => ?_) (Q.d 1 c)
    rw [Q.o, R.v, e, ← EReal.coe_mul]
    exact congrArg (fun x : ℝ => (x : EReal)) (mul_comm _ _)
  unfold D1
  rw [W1_real R Q, hp, ← EReal.coe_mul]; rfl

omit Q
variable {x3 x4 : FVec Ideal S16384x128 .bf16} {x5 x6 : FVec Ideal S1x32x2x512 .f32} (K : ∀ b, Queries A i b (KB x3 b) (KB x4 b) (CB x5 b) (CB x6 b))
include K

/-- The keys' gradient at row `r` of the block, lane `l` of the pair. -/
theorem dk_real (r : Fin 512) (l : Fin 128) :
    (gK i x0 x1 x2 (KB x3 (i 1)) (KB x4 (i 1)) (CB x5 (i 1)) (CB x6 (i 1)) r l + since (TK i x0 x1 x2 x3 x4 x5 x6 r l) (i 1).val (31 - (i 1).val)) * Ideal.ofBits .f32 0x3E000000#32
      = (∑ j : Fin 16384, if (row (i 1) r).val ≤ j.val then
          ((A.ds (pr (i 0) ⟨l.val / 64, by omega⟩) j (row (i 1) r) * A.q j (pl (i 0) l) : ℝ) : EReal) else 0) * ((1 / 8 : ℝ) : EReal) := by
  refine Eq.trans ?_ (congrArg (· * ((1 / 8 : ℝ) : EReal)) (later (fun j => ((A.ds (pr (i 0) ⟨l.val / 64, by omega⟩) j (row (i 1) r) * A.q j (pl (i 0) l) : ℝ) : EReal)) (i 1) r).symm)
  refine congrArg₂ _ (congrArg₂ _ ?_ (since_congr _ _ fun b => ?_)) eighth
  · exact part (fun c => r.val ≤ c.val) _ _ _ (fun e c => A.ds (pr (i 0) e) (row (i 1) c) (row (i 1) r)) (fun c => A.q (row (i 1) c) (pl (i 0) l))
      (fun c => by unfold MD0; rw [D0_real R (K (i 1)) r c]) (fun c => by unfold MD1; rw [D1_real R (K (i 1)) r c]) (fun c => (K (i 1)).q c l) l
  · have := part (fun _ => True) _ _ _ (fun e c => A.ds (pr (i 0) e) (row b c) (row (i 1) r)) (fun c => A.q (row b c) (pl (i 0) l))
      (fun c => (D0_real R (K b) r c).trans (if_pos trivial).symm) (fun c => (D1_real R (K b) r c).trans (if_pos trivial).symm) (fun c => (K b).q c l) l
    simp only [if_true] at this
    exact this

/-- The values' gradient. -/
theorem dv_real (r : Fin 512) (l : Fin 128) :
    gV i x0 x2 (KB x3 (i 1)) (KB x4 (i 1)) (CB x5 (i 1)) r l + since (TV i x0 x2 x3 x4 x5 r l) (i 1).val (31 - (i 1).val)
      = ∑ j : Fin 16384, if (row (i 1) r).val ≤ j.val then
          ((A.p (pr (i 0) ⟨l.val / 64, by omega⟩) j (row (i 1) r) * A.o j (pl (i 0) l) : ℝ) : EReal) else 0 := by
  refine Eq.trans ?_ (later (fun j => ((A.p (pr (i 0) ⟨l.val / 64, by omega⟩) j (row (i 1) r) * A.o j (pl (i 0) l) : ℝ) : EReal)) (i 1) r).symm
  refine congrArg₂ _ ?_ (since_congr _ _ fun b => ?_)
  · exact part (fun c => r.val ≤ c.val) _ _ _ (fun e c => A.p (pr (i 0) e) (row (i 1) c) (row (i 1) r)) (fun c => A.o (row (i 1) c) (pl (i 0) l))
      (fun c => by unfold MW0; rw [W0_real R (K (i 1)) r c]) (fun c => by unfold MW1; rw [W1_real R (K (i 1)) r c]) (fun c => (K (i 1)).o c l) l
  · have := part (fun _ => True) _ _ _ (fun e c => A.p (pr (i 0) e) (row b c) (row (i 1) r)) (fun c => A.o (row b c) (pl (i 0) l))
      (fun c => (W0_real R (K b) r c).trans (if_pos trivial).symm) (fun c => (W1_real R (K b) r c).trans (if_pos trivial).symm) (fun c => (K b).o c l) l
    simp only [if_true] at this
    exact this

/-- The column's gate. -/
theorem gate_real (r : Fin 512) (e : Fin 2) :
    (∑ l : Fin 128, if e = 0 then fold4 (MD0 i x0 x1 x2 (KB x3 (i 1)) (KB x4 (i 1)) (CB x5 (i 1)) (CB x6 (i 1)) r) l + since (T0 i x0 x1 x2 x3 x4 x5 x6 r l) (i 1).val (31 - (i 1).val)
        else fold4 (MD1 i x0 x1 x2 (KB x3 (i 1)) (KB x4 (i 1)) (CB x5 (i 1)) (CB x6 (i 1)) r) l + since (T1 i x0 x1 x2 x3 x4 x5 x6 r l) (i 1).val (31 - (i 1).val))
      = ∑ j : Fin 16384, if (row (i 1) r).val ≤ j.val then ((A.ds (pr (i 0) e) j (row (i 1) r) : ℝ) : EReal) else 0 := by
  have hf : ∀ f : Fin 512 → EReal, ∑ l, fold4 f l = ∑ c, f c := fun f => by
    rw [sum4]; unfold fold4; simp only [Finset.sum_add_distrib, add_assoc]
  refine Eq.trans ?_ (later (fun j => ((A.ds (pr (i 0) e) j (row (i 1) r) : ℝ) : EReal)) (i 1) r).symm
  match e with
  | 0 =>
    simp only [if_true]
    rw [Finset.sum_add_distrib, sum_since, hf]
    refine congrArg₂ _ (Finset.sum_congr rfl fun c _ => ?_) (since_congr _ _ fun b => ?_)
    · unfold MD0; rw [D0_real R (K (i 1)) r c]
    · unfold T0
      rw [hf]; exact Finset.sum_congr rfl fun c _ => D0_real R (K b) r c
  | 1 =>
    simp only [if_neg (show ¬ (1 : Fin 2) = 0 by decide)]
    rw [Finset.sum_add_distrib, sum_since, hf]
    refine congrArg₂ _ (Finset.sum_congr rfl fun c _ => ?_) (since_congr _ _ fun b => ?_)
    · unfold MD1; rw [D1_real R (K (i 1)) r c]
    · unfold T1
      rw [hf]; exact Finset.sum_congr rfl fun c _ => D1_real R (K b) r c

end Cert.Proof.AttKv
end
-- ==== Proof.AttKvHost.lean ====
/- The gradients for the keys and values: what the host lines hand the kernel, over real arrays. -/
module

public import proofs.«01_k».proof.Proof.AttKvBlock

@[expose] public section

set_option maxRecDepth 16384

noncomputable section

namespace Cert.Proof.AttKv
open Idealize.ShloMosaic Idealize.ShloMosaic.TcCoe Idealize.SL.Sem
open Cert.AttKvIdeal Cert.AttKvIdeal.Gen Cert.Proof.Att
variable (m : (ℓ : Loc nD τ sig) → Buf (Elt Ideal) ℓ) (c : Dev nD)

/-- The arguments are these real arrays. -/
structure Args (A : Arr) : Prop where
  q : ∀ i x, (m (c, Proc.tc.devRef main_arg0) (ix2 i x) : EReal) = ((A.q i x : ℝ) : EReal)
  k : ∀ i x, (m (c, Proc.tc.devRef main_arg1) (ix2 i x) : EReal) = ((A.k i x : ℝ) : EReal)
  v : ∀ i x, (m (c, Proc.tc.devRef main_arg2) (ix2 i x) : EReal) = ((A.v i x : ℝ) : EReal)
  g : ∀ i x, (m (c, Proc.tc.devRef main_arg3) (ix2 i x) : EReal) = ((A.g i x : ℝ) : EReal)
  o : ∀ i x, (m (c, Proc.tc.devRef main_arg4) (ix2 i x) : EReal) = ((A.o i x : ℝ) : EReal)

variable {m c} {A : Arr} (H : Args m c A)
include H

/-- The packed queries. -/
theorem q_read (i : Fin 16384) (p : Fin 8) (x : Fin 128) : (V m c main_v42 (ix2 i ⟨128 * p.val + x.val, by omega⟩) : EReal) = ((A.q i (pl p x) : ℝ) : EReal) := by
  show StableHlo.after (List.flatten [hostOps0, hostOps0_1, hostOps0_2, hostOps0_3, hostOps0_4]) (fun b => m (c, b)) main_v42 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_pos (show 128 * p.val + x.val < 1024 by omega)]
  exact H.q _ _

/-- The packed keys. -/
theorem k_read (i : Fin 16384) (p : Fin 8) (x : Fin 128) : (V m c main_v42 (ix2 i ⟨1024 + 128 * p.val + x.val, by omega⟩) : EReal) = ((A.k i (pl p x) : ℝ) : EReal) := by
  show StableHlo.after (List.flatten [hostOps0, hostOps0_1, hostOps0_2, hostOps0_3, hostOps0_4]) (fun b => m (c, b)) main_v42 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_neg (show ¬ 1024 + 128 * p.val + x.val < 1024 by omega), dif_pos (show 1024 + 128 * p.val + x.val - 1024 < 1024 by omega)]
  refine Eq.trans (congrArg (fun y : Fin 1024 => (m (c, Proc.tc.devRef main_arg1) (ix2 i y) : EReal)) (Fin.ext ?_)) (H.k i (pl p x))
  simp only [pl]; omega

/-- The packed values. -/
theorem v_read (i : Fin 16384) (p : Fin 8) (x : Fin 128) : (V m c main_v42 (ix2 i ⟨2048 + 128 * p.val + x.val, by omega⟩) : EReal) = ((A.v i (pl p x) : ℝ) : EReal) := by
  show StableHlo.after (List.flatten [hostOps0, hostOps0_1, hostOps0_2, hostOps0_3, hostOps0_4]) (fun b => m (c, b)) main_v42 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_neg (show ¬ 2048 + 128 * p.val + x.val < 1024 by omega), dif_neg (show ¬ 2048 + 128 * p.val + x.val - 1024 < 1024 by omega)]
  refine Eq.trans (congrArg (fun y : Fin 1024 => (m (c, Proc.tc.devRef main_arg2) (ix2 i y) : EReal)) (Fin.ext ?_)) (H.v i (pl p x))
  simp only [pl]; omega

/-- The cotangent. -/
theorem o_read (i : Fin 16384) (x : Fin 1024) : (V m c main_v43 (ix2 i x) : EReal) = ((A.o i x : ℝ) : EReal) := by
  show StableHlo.after (List.flatten [hostOps0, hostOps0_1, hostOps0_2, hostOps0_3, hostOps0_4]) (fun b => m (c, b)) main_v43 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  exact H.o _ _

/-- The gate, padded to the lanes. -/
theorem g_read (i : Fin 16384) (h : Fin 16) : (V m c main_v45 (ix2 i ⟨h.val, by omega⟩) : EReal) = ((A.g i h : ℝ) : EReal) := by
  show StableHlo.after (List.flatten [hostOps0, hostOps0_1, hostOps0_2, hostOps0_3, hostOps0_4]) (fun b => m (c, b)) main_v45 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  exact H.g _ _

/-- The saved mean, in tiles. -/
theorem mean_read (p : Fin 8) (b : Fin 32) (e : Fin 2) (s : Fin 512) : (V m c main_v49 (ix4 p b e s) : EReal) = ((A.mean (pr p e) (row b s) : ℝ) : EReal) := by
  show StableHlo.after (List.flatten [hostOps0, hostOps0_1, hostOps0_2, hostOps0_3, hostOps0_4]) (fun b => m (c, b)) main_v49 _ = _
  simp only [hostOps0, hostOps0_1, hostOps0_2, hostOps0_3, hostOps0_4, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  simp only [H.q, H.k, H.g, H.v, H.o]
  exact A.mean_saved (pr p e) (row b s) _ fun x => rfl

/-- The masked scores. -/
theorem cell_read (h : Fin 16) (i x : Fin 16384) : (StableHlo.after (List.flatten [hostOps0, hostOps0_1]) (fun b => m (c, b)) main_v23 (ix3 h i x) : EReal) = A.cell h i x := by
  simp only [hostOps0, hostOps0_1, List.flatten_cons, List.flatten_nil, List.append_nil, List.cons_append, List.nil_append]
  entry_read
  simp -implicitDefEqProofs only [StableHlo.TRef.ofBuf_toBuf, StableHlo.TRef.toBuf, StableHlo.TRef.ofBuf, cast_eq]
  pointwise
  simp only [H.q, H.k, H.g]
  rfl

omit H in
theorem split_host (b : Ref sig .tc) : V m c b = StableHlo.after (List.flatten [hostOps0_2, hostOps0_3, hostOps0_4]) (StableHlo.after (List.flatten [hostOps0, hostOps0_1]) (fun b => m (c, b))) b := by
  rw [← StableHlo.after_append]; rfl

omit H in
/-- The row's greatest score. -/
theorem max_read (W : Valuation τ sig (Elt Ideal)) (h : Fin 16) (i : Fin 16384) (f : Fin 16384 → EReal) (hf : ∀ x, (W main_v23 (ix3 h i x) : EReal) = f x) : (StableHlo.after (hostOps0_2.take 13) W main_v24 (ix2 h i) : EReal)
    = Finset.univ.fold max (Ideal.ofBits .f32 0xFF800000#32) f := by
  simp only [hostOps0_2, List.take, List.flatten_cons, List.flatten_nil, List.append_nil, List.cons_append, List.nil_append]
  entry_read
  pointwise
  simp only [hf]

omit H in
/-- The row's sum of exponentials. -/
theorem sum_read (W : Valuation τ sig (Elt Ideal)) (h : Fin 16) (i : Fin 16384) (f : Fin 16384 → EReal) (hf : ∀ x, (W main_v23 (ix3 h i x) : EReal) = f x) : (StableHlo.after (hostOps0_2.take 13) W main_v29 (ix2 h i) : EReal)
    = ∑ x : Fin 16384, Ideal.exp (f x - Finset.univ.fold max (Ideal.ofBits .f32 0xFF800000#32) f) := by
  simp only [hostOps0_2, List.take, List.flatten_cons, List.flatten_nil, List.append_nil, List.cons_append, List.nil_append]
  entry_read
  pointwise
  simp only [hf]

omit H in
/-- The log-sum from the two, in tiles. -/
theorem tail_read (W : Valuation τ sig (Elt Ideal)) (p : Fin 8) (d : Fin 32) (e : Fin 2) (s : Fin 512) (a b : EReal) (ha : (W main_v24 (ix2 (pr p e) (row d s)) : EReal) = a)
    (hb : (W main_v29 (ix2 (pr p e) (row d s)) : EReal) = b) : (StableHlo.after (List.flatten [hostOps0_2.drop 13, hostOps0_3, hostOps0_4]) W main_v47 (ix4 p d e s) : EReal)
    = a + Ideal.log b := by
  simp only [hostOps0_2, hostOps0_3, hostOps0_4, List.drop, List.flatten_cons, List.flatten_nil, List.append_nil, List.cons_append, List.nil_append]
  entry_read
  pointwise
  subst ha hb
  rfl

/-- The saved log-sum. -/
theorem lse_read (p : Fin 8) (d : Fin 32) (e : Fin 2) (s : Fin 512) : (V m c main_v47 (ix4 p d e s) : EReal) = ((Real.log (A.z (pr p e) (row d s)) : ℝ) : EReal) := by
  have hW := cell_read H (pr p e) (row d s)
  rw [split_host]
  generalize StableHlo.after (List.flatten [hostOps0, hostOps0_1]) (fun b => m (c, b)) = W at hW ⊢
  rw [show (List.flatten [hostOps0_2, hostOps0_3, hostOps0_4] : List (HloOp τ sig (Elt Ideal))) = hostOps0_2.take 13 ++ List.flatten [hostOps0_2.drop 13, hostOps0_3, hostOps0_4] from rfl,
    StableHlo.after_append]
  exact (tail_read _ p d e s _ _ (max_read W _ _ _ hW) (sum_read W _ _ _ hW)).trans (A.lse_saved (pr p e) (row d s) _ fun _ => rfl)

end Cert.Proof.AttKv
end
-- ==== Proof.AttKvHyps.lean ====
/- The gradient for the keys and values: the table of last blocks holds 31, so the checks the kernel assumes of it hold. -/
module

public import proofs.«01_k».proof.Defs
public import proofs.«01_k».proof.Proof.Gen.AttKv.Frame
public import proofs.«01_k».proof.Proof.Gen.AttKvIdeal.Frame
public import proofs.«01_k».proof.Proof.Gen.AttKvRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic Idealize.ShloMosaic.TcCoe Idealize.SL.Sem

namespace AttKv
section
open Cert.AttKv Cert.AttKv.Gen
variable {F : FTy → Type} [FloatOps F] (m : (ℓ : Loc nD τ sig) → Buf (Elt F) ℓ)

theorem chk : ∀ t : Fin grid0.N, k0_chk1 (grid0.coords t) 31#32 := by decide +kernel

theorem tbl_const : tbl m 0 = fun _ => 31#32 := by
  funext y
  show StableHlo.after (List.flatten [hostOps0, hostOps0_1, hostOps0_2, hostOps0_3, hostOps0_4]) (fun b => m (0, b)) main_v44 y = _
  simp only [hostOps0, hostOps0_1, hostOps0_2, hostOps0_3, hostOps0_4, List.flatten_cons, List.flatten_nil, List.append_nil, List.cons_append,
      List.nil_append]
  entry_read
  rfl

theorem hyps (hO : Ok m) : Hyps m hO := Hyps.of fun c t => by
  unfold Hyps.p0
  rw [tbl_const]
  exact chk t
end
end AttKv

end Cert.Proof

end
-- ==== Proof.AttKvOut.lean ====
/- The gradients for the keys and values: the three outputs of one grid step, as sums of blocks. -/
module

public import proofs.«01_k».proof.Proof.AttKvTail
public import proofs.«01_k».proof.Proof.AttQOut

@[expose] public section

set_option maxRecDepth 16384

noncomputable section

namespace Cert.Proof.AttKv
open Idealize.ShloMosaic Idealize.ShloMosaic.TcCoe Idealize.SL.Sem
open Cert.AttKvIdeal Cert.AttKvIdeal.Gen
open Cert.Proof.AttQ (fold4)

/-- The loop's stores depend on the table's word only through its value. -/
theorem pb_word (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1x32x2x512 .f32) (harg8 : arg8.IsWhole) (arg9 : Memref sig .tc .vmem S1x32x2x512 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x2x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S2x512x128 .f32) (harg15 : arg15.IsWhole) (arg0 : BitVec 32) (arg1 : BitVec 32) (v8 : IVec S512x128 1) (v10 : FVec Ideal S512x128 .bf16) (v11 : FVec Ideal S512x128 .bf16) (v12 : FVec Ideal S512x128 .bf16) (v13 : FVec Ideal S512x128 .bf16) (v26 : FVec Ideal S512x128 .f32) (v36 : FVec Ideal S512x128 .f32) (v208 : IVec S256x128 1) (v255 : FVec Ideal S256x128 .f32) (v302 : FVec Ideal S256x128 .f32) (v308 : FVec Ideal S256x128 .f32) (v315 : BitVec 32) (v318 : Elt Ideal .i32) (k0_hw1 : k0_chk1 i v318) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (G_arg13 : BufTy.Contents (Elt Ideal) arg13.view.ty) (G_arg14 : BufTy.Contents (Elt Ideal) arg14.view.ty) (G_arg15 : BufTy.Contents (Elt Ideal) arg15.view.ty) (N N' : ℕ) (hN : N = N') (w' : Elt Ideal .i32) (hv : v318 = w') (hw' : k0_chk1 i w') :
    pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v8 v10 v11 v12 v13 v26 v36 v208 v255 v302 v308 v315 v318 k0_hw1 X_arg6 X_arg7 X_arg8 X_arg9 G_arg13 G_arg14 G_arg15 N = pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v8 v10 v11 v12 v13 v26 v36 v208 v255 v302 v308 v315 w' hw' X_arg6 X_arg7 X_arg8 X_arg9 G_arg13 G_arg14 G_arg15 N' := by
  subst hv
  subst hN
  rfl

/-- The second loop runs over no block. -/
theorem pb2_zero (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1x32x2x512 .f32) (harg8 : arg8.IsWhole) (arg9 : Memref sig .tc .vmem S1x32x2x512 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x2x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S2x512x128 .f32) (harg15 : arg15.IsWhole) (arg0 : BitVec 32) (arg1 : BitVec 32) (v8 : IVec S512x128 1) (v10 : FVec Ideal S512x128 .bf16) (v11 : FVec Ideal S512x128 .bf16) (v12 : FVec Ideal S512x128 .bf16) (v13 : FVec Ideal S512x128 .bf16) (v26 : FVec Ideal S512x128 .f32) (v36 : FVec Ideal S512x128 .f32) (v208 : IVec S256x128 1) (v255 : FVec Ideal S256x128 .f32) (v302 : FVec Ideal S256x128 .f32) (v308 : FVec Ideal S256x128 .f32) (v318 : Elt Ideal .i32) (k0_hw1 : k0_chk1 i v318) (v324 : BitVec 32) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (G_arg13 : BufTy.Contents (Elt Ideal) arg13.view.ty) (G_arg14 : BufTy.Contents (Elt Ideal) arg14.view.ty) (G_arg15 : BufTy.Contents (Elt Ideal) arg15.view.ty) (N : ℕ) (hN : N = 0) : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v8 v10 v11 v12 v13 v26 v36 v208 v255 v302 v308 v318 k0_hw1 v324 X_arg6 X_arg7 X_arg8 X_arg9 G_arg13 G_arg14 G_arg15 N = ([], [], []) := by
  subst hN
  unfold pb_k0_t2
  rfl

theorem trips1 (i : grid0.Coords) : Scf.trips (k0_t2_loop i 31#32).lb (k0_t2_loop i 31#32).ub (k0_t2_loop i 31#32).st = 0 := by
  have h : ∀ b : Fin 32, Scf.trips (Scalar.addi (Scalar.addi (BitVec.ofNat 32 b.val) 1#32) (Scalar.muli (Scalar.divsi (Scalar.subi (Scalar.addi 31#32 1#32) (Scalar.addi (BitVec.ofNat 32 b.val) 1#32)) 1#32) 1#32)) (Scalar.addi (Scalar.addi (BitVec.ofNat 32 b.val) 1#32) (Scalar.subi (Scalar.addi 31#32 1#32) (Scalar.addi (BitVec.ofNat 32 b.val) 1#32))) 1#32 = 0 := by
    decide +kernel
  exact h (i 1)

theorem pay156_at (f : FVec Ideal S512x128 .f32) (r : Fin 512) (l : Fin 128) : k0_pay156 (F := Ideal) f (ix2 r l) = f (ix2 r l) * Ideal.ofBits .f32 0x3E000000#32 := by
  pointwise [k0_pay156]

theorem pay157_at (f : FVec Ideal S512x128 .f32) (r : Fin 512) (l : Fin 128) : k0_pay157 (F := Ideal) f (ix2 r l) = f (ix2 r l) := by
  pointwise [k0_pay157]

theorem pay1_at (f : FVec Ideal S1x512x128 .f32) (r : Fin 512) : k0_pay1 (F := Ideal) (k0_pay158 f) (FloatOps.ofBits (F := Ideal) .f32 0#32) (ix4 0 0 0 r) = 0 - ∑ l, f (ix3 0 r l) := by
  pointwise [k0_pay1, k0_pay158]

theorem pay2_at (f : FVec Ideal S1x512x128 .f32) (r : Fin 512) : k0_pay2 (F := Ideal) f (ix4 0 0 0 r) = 0 - ∑ l, f (ix3 0 r l) := by
  pointwise [k0_pay2]

theorem zeroK (r : Fin 512) (l : Fin 128) : View.canon ([⟨Rect.unit ![0, 0] ![512, 128] inb_S512x128_S512x128_0_0, k0_pay73 (F := Ideal) k0_pay72⟩] : List (View.Piece (Elt Ideal) S512x128 .f32)) (ix2 r l) = 0 := by
  refine (Att.hit (e := .f32) _ _ _ (ix2 r l) fun a => ?_).trans ?_
  · match a with
    | ⟨0, _⟩ => exact (Nat.zero_add _).symm
    | ⟨1, _⟩ => exact (Nat.zero_add _).symm
  · pointwise [k0_pay73, k0_pay72]

theorem zeroV (r : Fin 512) (l : Fin 128) : View.canon ([⟨Rect.unit ![0, 0] ![512, 128] inb_S512x128_S512x128_0_0, k0_pay74 (F := Ideal)⟩] : List (View.Piece (Elt Ideal) S512x128 .f32)) (ix2 r l) = 0 := by
  refine (Att.hit (e := .f32) _ _ _ (ix2 r l) fun a => ?_).trans ?_
  · match a with
    | ⟨0, _⟩ => exact (Nat.zero_add _).symm
    | ⟨1, _⟩ => exact (Nat.zero_add _).symm
  · pointwise [k0_pay74]

theorem zeroC (e : Fin 2) (r : Fin 512) (l : Fin 128) :
    View.canon ([⟨Rect.unit ![0, 0, 0] ![2, 512, 128] inb_S2x512x128_S2x512x128_0_0_0, k0_pay75 (F := Ideal)⟩] : List (View.Piece (Elt Ideal) S2x512x128 .f32)) (ix3 e r l) = 0 := by
  refine (Att.hit (e := .f32) _ _ _ (ix3 e r l) fun a => ?_).trans ?_
  · match a with
    | ⟨0, _⟩ => exact (Nat.zero_add _).symm
    | ⟨1, _⟩ => exact (Nat.zero_add _).symm
    | ⟨2, _⟩ => exact (Nat.zero_add _).symm
  · pointwise [k0_pay75]

theorem off1 (i : grid0.Coords) : k0_off1 i = ![512 * (i 1).val, 0] := by
  have h : ∀ b : Fin 32, (Scalar.indexCast (Scalar.muli (BitVec.ofNat 32 b.val) 512#32)).toNat = 512 * b.val := by decide +kernel
  exact congrArg (fun n : ℕ => (![n, 0] : Fin 2 → ℕ)) (h (i 1))

theorem off2 (i : grid0.Coords) : k0_off2 i = ![0, (i 1).val, 0, 0] := by
  have h : ∀ b : Fin 32, (Scalar.indexCast (BitVec.ofNat 32 b.val)).toNat = b.val := by decide +kernel
  exact congrArg (fun n : ℕ => (![0, n, 0, 0] : Fin 4 → ℕ)) (h (i 1))

theorem whole2 {e : EltTy} (x : S512x128.Idx → Elt Ideal e) (inb) : View.ld (Val := Elt Ideal) (e' := e) x (Rect.unit (s := S512x128) ![0, 0] ![512, 128] inb) = x :=
  AttQ.whole2 x inb

/-- One head's box of the gate sums reads them at its own rows. -/
theorem head (X : S2x512x128.Idx → Elt Ideal .f32) (e : Fin 2) (inb) (r : Fin 512) (l : Fin 128) :
    View.ld (Val := Elt Ideal) (e' := .f32) X (Rect.unit (s := S2x512x128) ![e.val, 0, 0] ![1, 512, 128] inb) (ix3 0 r l) = X (ix3 e r l) :=
  View.ld_unit_apply_of (Val := Elt Ideal) (e := .f32) X _ _ inb _ _ fun a => match a with
    | ⟨0, _⟩ => rfl
    | ⟨1, _⟩ => (Nat.zero_add _).symm
    | ⟨2, _⟩ => (Nat.zero_add _).symm

section
variable (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1x32x2x512 .f32) (harg8 : arg8.IsWhole) (arg9 : Memref sig .tc .vmem S1x32x2x512 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x2x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S2x512x128 .f32) (harg15 : arg15.IsWhole)
    (x0 : Vec Ideal S512x128 .bf16) (x1 : Vec Ideal S512x128 .bf16) (x2 : Vec Ideal S512x128 .f32) (x3 : Vec Ideal S16384x128 .bf16) (x4 : Vec Ideal S16384x128 .bf16) (x5 : Vec Ideal S1x32x2x512 .f32) (x6 : Vec Ideal S1x32x2x512 .f32) (xt0 : TbBuf0 (F := Ideal) c tbM0_0) (k0_hw1 : k0_chk1 i (tbM0_0.view.readAt (Elt Ideal) (Rect.unit (s := S8x32) (k0_off3 i) S1x1.size (k0_off3_inb i)).toLoadRect xt0 (Shape.Idx.first (numel1_S1x1.symm ▸ Nat.one_pos))))
  (hz : (tbM0_0.view.readAt (Elt Ideal) (Rect.unit (s := S8x32) (k0_off3 i) S1x1.size (k0_off3_inb i)).toLoadRect xt0 (Shape.Idx.first (numel1_S1x1.symm ▸ Nat.one_pos))) = 31#32)
include hz
theorem out7 (r : Fin 512) (l : Fin 128) : out0_A_7 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 k0_hw1 (ix2 r l)
    = (gK i x0 x1 x2 (KB x3 (i 1)) (KB x4 (i 1)) (CB x5 (i 1)) (CB x6 (i 1)) r l + since (TK i x0 x1 x2 x3 x4 x5 x6 r l) (i 1).val (31 - (i 1).val)) * Ideal.ofBits .f32 0x3E000000#32 := by
  have h0 : k0_chk1 i 31#32 := hz ▸ k0_hw1
  have hz' : kernelRun0_A.sl.r_33 (F := Ideal) c i xt0 = 31#32 := hz
  have hN : Scf.trips (k0_t1_loop i (kernelRun0_A.sl.r_33 (F := Ideal) c i xt0)).lb (k0_t1_loop i (kernelRun0_A.sl.r_33 (F := Ideal) c i xt0)).ub (k0_t1_loop i (kernelRun0_A.sl.r_33 (F := Ideal) c i xt0)).st = 31 - (i 1).val := by
    rw [hz']; exact trips0 i
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 k0_hw1)]
  unfold kernelRun0_A
  dsimp only
  unfold kernelRun0_A.sl.v325
  unfold kernelRun0_A.sl.HS0_3 kernelRun0_A.sl.HS1_3 kernelRun0_A.sl.HS2_5 kernelRun0_A.sl.r_32 kernelRun0_A.sl.v309 kernelRun0_A.sl.v290 kernelRun0_A.sl.v303 kernelRun0_A.sl.HS0_2 kernelRun0_A.sl.HS1_2 kernelRun0_A.sl.HS2_4 kernelRun0_A.sl.v200 kernelRun0_A.sl.v194 kernelRun0_A.sl.v243 kernelRun0_A.sl.HS2_3 kernelRun0_A.sl.v179 kernelRun0_A.sl.HS2_2 kernelRun0_A.sl.v114 kernelRun0_A.sl.HS0_1 kernelRun0_A.sl.HS1_1 kernelRun0_A.sl.HS2_1
  unfold kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v315
  simp only [View.readCov_eq_canon', View.readAt_eq_ld, View.read_writes_junk_eq_canon, harg3.read_unread, harg4.read_unread, harg5.read_unread, harg6.read_unread, harg7.read_unread,
    harg8.read_unread, harg9.read_unread, whole2, ldK _ (i 1) _ (off1 i), ldC _ (i 1) _ (off2 i)]
  rw [pb2_zero]
  case hN =>
    rw [hz']
    exact trips1 i
  rw [pb_word (N' := 31 - (i 1).val) (hN := hN) (w' := 31#32) (hv := hz') (hw' := h0)]
  simp only [List.nil_append]
  refine (Att.hit _ _ _ (ix2 r l) fun a => ?_).trans ((pay156_at _ r l).trans (congrArg (· * _) ?_))
  · match a with
    | ⟨0, _⟩ => exact (Nat.zero_add _).symm
    | ⟨1, _⟩ => exact (Nat.zero_add _).symm
  refine (inv Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (BitVec.ofNat 32 (i 1).val) x0 x1 x2 x3 x4 x5 x6 _ _ _ _ _ h0 _ _ _ _ le_rfl).1 r l |>.trans (congrArg₂ (· + ·) ?_ rfl)
  refine (diagK i x0 x1 x2 (KB x3 (i 1)) (KB x4 (i 1)) (CB x5 (i 1)) (CB x6 (i 1)) _ r l).trans ?_
  rw [zeroK, zero_add]

theorem out8 (r : Fin 512) (l : Fin 128) : out0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 k0_hw1 (ix2 r l)
    = gV i x0 x2 (KB x3 (i 1)) (KB x4 (i 1)) (CB x5 (i 1)) r l + since (TV i x0 x2 x3 x4 x5 r l) (i 1).val (31 - (i 1).val) := by
  have h0 : k0_chk1 i 31#32 := hz ▸ k0_hw1
  have hz' : kernelRun0_A.sl.r_33 (F := Ideal) c i xt0 = 31#32 := hz
  have hN : Scf.trips (k0_t1_loop i (kernelRun0_A.sl.r_33 (F := Ideal) c i xt0)).lb (k0_t1_loop i (kernelRun0_A.sl.r_33 (F := Ideal) c i xt0)).ub (k0_t1_loop i (kernelRun0_A.sl.r_33 (F := Ideal) c i xt0)).st = 31 - (i 1).val := by
    rw [hz']; exact trips0 i
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 k0_hw1)]
  unfold kernelRun0_A
  dsimp only
  unfold kernelRun0_A.sl.v330
  unfold kernelRun0_A.sl.HS0_3 kernelRun0_A.sl.HS1_3 kernelRun0_A.sl.HS2_5 kernelRun0_A.sl.r_32 kernelRun0_A.sl.v309 kernelRun0_A.sl.v290 kernelRun0_A.sl.v303 kernelRun0_A.sl.HS0_2 kernelRun0_A.sl.HS1_2 kernelRun0_A.sl.HS2_4 kernelRun0_A.sl.v200 kernelRun0_A.sl.v194 kernelRun0_A.sl.v243 kernelRun0_A.sl.HS2_3 kernelRun0_A.sl.v179 kernelRun0_A.sl.HS2_2 kernelRun0_A.sl.v114 kernelRun0_A.sl.HS0_1 kernelRun0_A.sl.HS1_1 kernelRun0_A.sl.HS2_1
  unfold kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v315
  simp only [View.readCov_eq_canon', View.readAt_eq_ld, View.read_writes_junk_eq_canon, harg3.read_unread, harg4.read_unread, harg5.read_unread, harg6.read_unread, harg7.read_unread,
    harg8.read_unread, harg9.read_unread, whole2, ldK _ (i 1) _ (off1 i), ldC _ (i 1) _ (off2 i)]
  rw [pb2_zero]
  case hN =>
    rw [hz']
    exact trips1 i
  rw [pb_word (N' := 31 - (i 1).val) (hN := hN) (w' := 31#32) (hv := hz') (hw' := h0)]
  simp only [List.nil_append]
  refine (Att.hit _ _ _ (ix2 r l) fun a => ?_).trans ((pay157_at _ r l).trans ?_)
  · match a with
    | ⟨0, _⟩ => exact (Nat.zero_add _).symm
    | ⟨1, _⟩ => exact (Nat.zero_add _).symm
  refine (inv Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (BitVec.ofNat 32 (i 1).val) x0 x1 x2 x3 x4 x5 x6 _ _ _ _ _ h0 _ _ _ _ le_rfl).2.1 r l |>.trans (congrArg₂ (· + ·) ?_ rfl)
  refine (diagV i x0 x2 (KB x3 (i 1)) (KB x4 (i 1)) (CB x5 (i 1)) _ r l).trans ?_
  rw [zeroV, zero_add]

theorem out9 (r : Fin 512) (e : Fin 2) : out0_A_9 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 k0_hw1 (ix4 0 0 e r)
    = 0 - ∑ l : Fin 128, if e = 0 then fold4 (MD0 i x0 x1 x2 (KB x3 (i 1)) (KB x4 (i 1)) (CB x5 (i 1)) (CB x6 (i 1)) r) l + since (T0 i x0 x1 x2 x3 x4 x5 x6 r l) (i 1).val (31 - (i 1).val)
        else fold4 (MD1 i x0 x1 x2 (KB x3 (i 1)) (KB x4 (i 1)) (CB x5 (i 1)) (CB x6 (i 1)) r) l + since (T1 i x0 x1 x2 x3 x4 x5 x6 r l) (i 1).val (31 - (i 1).val) := by
  have h0 : k0_chk1 i 31#32 := hz ▸ k0_hw1
  have hz' : kernelRun0_A.sl.r_33 (F := Ideal) c i xt0 = 31#32 := hz
  have hN : Scf.trips (k0_t1_loop i (kernelRun0_A.sl.r_33 (F := Ideal) c i xt0)).lb (k0_t1_loop i (kernelRun0_A.sl.r_33 (F := Ideal) c i xt0)).ub (k0_t1_loop i (kernelRun0_A.sl.r_33 (F := Ideal) c i xt0)).st = 31 - (i 1).val := by
    rw [hz']; exact trips0 i
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xt0 k0_hw1)]
  unfold kernelRun0_A
  dsimp only
  unfold kernelRun0_A.sl.cst_113 kernelRun0_A.sl.r_34 kernelRun0_A.sl.v333 kernelRun0_A.sl.v343
  unfold kernelRun0_A.sl.HS0_3 kernelRun0_A.sl.HS1_3 kernelRun0_A.sl.HS2_5 kernelRun0_A.sl.r_32 kernelRun0_A.sl.v309 kernelRun0_A.sl.v290 kernelRun0_A.sl.v303 kernelRun0_A.sl.HS0_2 kernelRun0_A.sl.HS1_2 kernelRun0_A.sl.HS2_4 kernelRun0_A.sl.v200 kernelRun0_A.sl.v194 kernelRun0_A.sl.v243 kernelRun0_A.sl.HS2_3 kernelRun0_A.sl.v179 kernelRun0_A.sl.HS2_2 kernelRun0_A.sl.v114 kernelRun0_A.sl.HS0_1 kernelRun0_A.sl.HS1_1 kernelRun0_A.sl.HS2_1
  unfold kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v315
  simp only [View.readCov_eq_canon', View.readAt_eq_ld, View.read_writes_junk_eq_canon, harg3.read_unread, harg4.read_unread, harg5.read_unread, harg6.read_unread, harg7.read_unread,
    harg8.read_unread, harg9.read_unread, whole2, ldK _ (i 1) _ (off1 i), ldC _ (i 1) _ (off2 i)]
  rw [pb2_zero]
  case hN =>
    rw [hz']
    exact trips1 i
  rw [pb_word (N' := 31 - (i 1).val) (hN := hN) (w' := 31#32) (hv := hz') (hw' := h0)]
  simp only [List.nil_append]
  match e with
  | 0 =>
    rw [Att.miss _ _ _ 2 (Or.inl Nat.zero_lt_one)]
    refine (Att.hit _ _ _ (ix4 0 0 0 r) fun a => ?_).trans ?_
    · match a with
      | ⟨0, _⟩ => rfl
      | ⟨1, _⟩ => rfl
      | ⟨2, _⟩ => rfl
      | ⟨3, _⟩ => exact (Nat.zero_add _).symm
    refine (pay1_at _ r).trans (congrArg (0 - ·) (Finset.sum_congr rfl fun l _ => ?_))
    rw [if_pos rfl]
    refine (head _ 0 _ r l).trans (((inv Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (BitVec.ofNat 32 (i 1).val) x0 x1 x2 x3 x4 x5 x6 _ _ _ _ _ h0 _ _ _ _ le_rfl).2.2.1 r l).trans (congrArg₂ (· + ·) ?_ rfl))
    refine (diagC i x0 x1 x2 (KB x3 (i 1)) (KB x4 (i 1)) (CB x5 (i 1)) (CB x6 (i 1)) _ r l).1.trans ?_
    rw [zeroC, zero_add]
  | 1 =>
    refine (Att.hit _ _ _ (ix4 0 0 0 r) fun a => ?_).trans ?_
    · match a with
      | ⟨0, _⟩ => rfl
      | ⟨1, _⟩ => rfl
      | ⟨2, _⟩ => rfl
      | ⟨3, _⟩ => exact (Nat.zero_add _).symm
    refine (pay2_at _ r).trans (congrArg (0 - ·) (Finset.sum_congr rfl fun l _ => ?_))
    rw [if_neg (by decide)]
    refine (head _ 1 _ r l).trans (((inv Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (BitVec.ofNat 32 (i 1).val) x0 x1 x2 x3 x4 x5 x6 _ _ _ _ _ h0 _ _ _ _ le_rfl).2.2.2 r l).trans (congrArg₂ (· + ·) ?_ rfl))
    refine (diagC i x0 x1 x2 (KB x3 (i 1)) (KB x4 (i 1)) (CB x5 (i 1)) (CB x6 (i 1)) _ r l).2.trans ?_
    rw [zeroC, zero_add]
end

end Cert.Proof.AttKv
end
-- ==== Proof.AttKvPoint.lean ====
/- The gradients for the keys and values: what the pipeline leaves in the three output arrays. -/
module

public import proofs.«01_k».proof.Proof.AttKvHost
public import proofs.«01_k».proof.Proof.AttKvHyps
public import proofs.«01_k».proof.Proof.AttKvOut

@[expose] public section

set_option maxRecDepth 16384

noncomputable section

namespace Cert.Proof.AttKv
open Idealize.ShloMosaic Idealize.ShloMosaic.TcCoe Idealize.SL.Sem
open Cert.AttKvIdeal Cert.AttKvIdeal.Gen Cert.Proof.Att
variable (m : (ℓ : Loc nD τ sig) → Buf (Elt Ideal) ℓ) (c : Dev nD) (hO : Ok m) (t : Fin (cfgM m hO).N)

/-- Where each window's block lies, as the grid's point says it. -/
theorem idx : ∀ t : Fin grid0.N, cc0_transform_0 (grid0.coords t) = ![(grid0.coords t 1).val, 8 + (grid0.coords t 0).val]
    ∧ cc0_transform_1 (grid0.coords t) = ![(grid0.coords t 1).val, 16 + (grid0.coords t 0).val]
    ∧ cc0_transform_2 (grid0.coords t) = ![(grid0.coords t 1).val, 0]
    ∧ cc0_transform_3 (grid0.coords t) = ![0, (grid0.coords t 0).val]
    ∧ cc0_transform_4 (grid0.coords t) = ![0, (grid0.coords t 0).val]
    ∧ cc0_transform_5 (grid0.coords t) = ![(grid0.coords t 0).val, 0, 0, 0]
    ∧ cc0_transform_6 (grid0.coords t) = ![(grid0.coords t 0).val, 0, 0, 0]
    ∧ cc0_transform_7 (grid0.coords t) = ![(grid0.coords t 1).val, (grid0.coords t 0).val]
    ∧ cc0_transform_8 (grid0.coords t) = ![(grid0.coords t 1).val, (grid0.coords t 0).val]
    ∧ cc0_transform_9 (grid0.coords t) = ![(grid0.coords t 0).val, (grid0.coords t 1).val, 0, 0] := by decide +kernel

theorem wx0 (k : Fin 2) : (pcfg0.win (adm m hO) 0).index t k = (![(grid0.coords t 1).val, 8 + (grid0.coords t 0).val] : Fin 2 → ℕ) k := by
  obtain ⟨h0, h1, h2, h3, h4, h5, h6, h7, h8, h9⟩ := idx t
  exact congrFun h0 k

theorem wx1 (k : Fin 2) : (pcfg0.win (adm m hO) 1).index t k = (![(grid0.coords t 1).val, 16 + (grid0.coords t 0).val] : Fin 2 → ℕ) k := by
  obtain ⟨h0, h1, h2, h3, h4, h5, h6, h7, h8, h9⟩ := idx t
  exact congrFun h1 k

theorem wx2 (k : Fin 2) : (pcfg0.win (adm m hO) 2).index t k = (![(grid0.coords t 1).val, 0] : Fin 2 → ℕ) k := by
  obtain ⟨h0, h1, h2, h3, h4, h5, h6, h7, h8, h9⟩ := idx t
  exact congrFun h2 k

theorem wx3 (k : Fin 2) : (pcfg0.win (adm m hO) 3).index t k = (![0, (grid0.coords t 0).val] : Fin 2 → ℕ) k := by
  obtain ⟨h0, h1, h2, h3, h4, h5, h6, h7, h8, h9⟩ := idx t
  exact congrFun h3 k

theorem wx4 (k : Fin 2) : (pcfg0.win (adm m hO) 4).index t k = (![0, (grid0.coords t 0).val] : Fin 2 → ℕ) k := by
  obtain ⟨h0, h1, h2, h3, h4, h5, h6, h7, h8, h9⟩ := idx t
  exact congrFun h4 k

theorem wx5 (k : Fin 4) : (pcfg0.win (adm m hO) 5).index t k = (![(grid0.coords t 0).val, 0, 0, 0] : Fin 4 → ℕ) k := by
  obtain ⟨h0, h1, h2, h3, h4, h5, h6, h7, h8, h9⟩ := idx t
  exact congrFun h5 k

theorem wx6 (k : Fin 4) : (pcfg0.win (adm m hO) 6).index t k = (![(grid0.coords t 0).val, 0, 0, 0] : Fin 4 → ℕ) k := by
  obtain ⟨h0, h1, h2, h3, h4, h5, h6, h7, h8, h9⟩ := idx t
  exact congrFun h6 k

theorem wx7 (k : Fin 2) : (pcfg0.win (adm m hO) 7).index t k = (![(grid0.coords t 1).val, (grid0.coords t 0).val] : Fin 2 → ℕ) k := by
  obtain ⟨h0, h1, h2, h3, h4, h5, h6, h7, h8, h9⟩ := idx t
  exact congrFun h7 k

theorem wx8 (k : Fin 2) : (pcfg0.win (adm m hO) 8).index t k = (![(grid0.coords t 1).val, (grid0.coords t 0).val] : Fin 2 → ℕ) k := by
  obtain ⟨h0, h1, h2, h3, h4, h5, h6, h7, h8, h9⟩ := idx t
  exact congrFun h8 k

theorem wx9 (k : Fin 4) : (pcfg0.win (adm m hO) 9).index t k = (![(grid0.coords t 0).val, (grid0.coords t 1).val, 0, 0] : Fin 4 → ℕ) k := by
  obtain ⟨h0, h1, h2, h3, h4, h5, h6, h7, h8, h9⟩ := idx t
  exact congrFun h9 k

theorem blk0 (W : (b : Ref sig .tc) → Buf (Elt Ideal) ((c.tc : Thread nD τ).loc b)) (r : Fin 512) (x : Fin 128) : (((cfgM m hO).win 0).blk t).view.read (Elt Ideal) (W (Pipeline.arrRef spec0 0)) (ix2 r x) = W main_v42 (ix2 (row (grid0.coords t 1) r) ⟨1024 + 128 * (grid0.coords t 0).val + x.val, by
    have h : (grid0.coords t 0).val < 8 := (grid0.coords t 0).isLt
    omega⟩) := by
  blk_simp [row]
  refine congrArg (W main_v42) ?_
  blk_point [row]
  · exact (congrArg (fun n : ℕ => n * 512 + r.val) (wx0 m hO t 0)).trans (by show ((grid0.coords t 1).val) * 512 + r.val = _; first | rfl | omega)
  · exact (congrArg (fun n : ℕ => n * 128 + x.val) (wx0 m hO t 1)).trans (by show (8 + (grid0.coords t 0).val) * 128 + x.val = _; first | rfl | omega)

theorem blk1 (W : (b : Ref sig .tc) → Buf (Elt Ideal) ((c.tc : Thread nD τ).loc b)) (r : Fin 512) (x : Fin 128) : (((cfgM m hO).win 1).blk t).view.read (Elt Ideal) (W (Pipeline.arrRef spec0 1)) (ix2 r x) = W main_v42 (ix2 (row (grid0.coords t 1) r) ⟨2048 + 128 * (grid0.coords t 0).val + x.val, by
    have h : (grid0.coords t 0).val < 8 := (grid0.coords t 0).isLt
    omega⟩) := by
  blk_simp [row]
  refine congrArg (W main_v42) ?_
  blk_point [row]
  · exact (congrArg (fun n : ℕ => n * 512 + r.val) (wx1 m hO t 0)).trans (by show ((grid0.coords t 1).val) * 512 + r.val = _; first | rfl | omega)
  · exact (congrArg (fun n : ℕ => n * 128 + x.val) (wx1 m hO t 1)).trans (by show (16 + (grid0.coords t 0).val) * 128 + x.val = _; first | rfl | omega)

theorem blk2 (W : (b : Ref sig .tc) → Buf (Elt Ideal) ((c.tc : Thread nD τ).loc b)) (r : Fin 512) (x : Fin 128) : (((cfgM m hO).win 2).blk t).view.read (Elt Ideal) (W (Pipeline.arrRef spec0 2)) (ix2 r x) = W main_v45 (ix2 (row (grid0.coords t 1) r) x) := by
  blk_simp [row]
  refine congrArg (W main_v45) ?_
  blk_point [row]
  · exact (congrArg (fun n : ℕ => n * 512 + r.val) (wx2 m hO t 0)).trans (by show ((grid0.coords t 1).val) * 512 + r.val = _; first | rfl | omega)
  · exact (congrArg (fun n : ℕ => n * 128 + x.val) (wx2 m hO t 1)).trans (by show (0) * 128 + x.val = _; first | rfl | omega)

theorem blk3 (W : (b : Ref sig .tc) → Buf (Elt Ideal) ((c.tc : Thread nD τ).loc b)) (j : Fin 16384) (x : Fin 128) : (((cfgM m hO).win 3).blk t).view.read (Elt Ideal) (W (Pipeline.arrRef spec0 3)) (ix2 j x) = W main_v42 (ix2 j ⟨128 * (grid0.coords t 0).val + x.val, by
    have h : (grid0.coords t 0).val < 8 := (grid0.coords t 0).isLt
    omega⟩) := by
  blk_simp [row]
  refine congrArg (W main_v42) ?_
  blk_point [row]
  · exact (congrArg (fun n : ℕ => n * 16384 + j.val) (wx3 m hO t 0)).trans (by show (0) * 16384 + j.val = _; first | rfl | omega)
  · exact (congrArg (fun n : ℕ => n * 128 + x.val) (wx3 m hO t 1)).trans (by show ((grid0.coords t 0).val) * 128 + x.val = _; first | rfl | omega)

theorem blk4 (W : (b : Ref sig .tc) → Buf (Elt Ideal) ((c.tc : Thread nD τ).loc b)) (j : Fin 16384) (x : Fin 128) : (((cfgM m hO).win 4).blk t).view.read (Elt Ideal) (W (Pipeline.arrRef spec0 4)) (ix2 j x) = W main_v43 (ix2 j ⟨128 * (grid0.coords t 0).val + x.val, by
    have h : (grid0.coords t 0).val < 8 := (grid0.coords t 0).isLt
    omega⟩) := by
  blk_simp [row]
  refine congrArg (W main_v43) ?_
  blk_point [row]
  · exact (congrArg (fun n : ℕ => n * 16384 + j.val) (wx4 m hO t 0)).trans (by show (0) * 16384 + j.val = _; first | rfl | omega)
  · exact (congrArg (fun n : ℕ => n * 128 + x.val) (wx4 m hO t 1)).trans (by show ((grid0.coords t 0).val) * 128 + x.val = _; first | rfl | omega)

theorem blk5 (W : (b : Ref sig .tc) → Buf (Elt Ideal) ((c.tc : Thread nD τ).loc b)) (b : Fin 32) (e : Fin 2) (k : Fin 512) : (((cfgM m hO).win 5).blk t).view.read (Elt Ideal) (W (Pipeline.arrRef spec0 5)) (ix4 0 b e k) = W main_v47 (ix4 (grid0.coords t 0) b e k) := by
  blk_simp [row]
  refine congrArg (W main_v47) ?_
  blk_point [row]
  · exact wx5 m hO t 0
  · exact (congrArg (fun n : ℕ => n * 32 + b.val) (wx5 m hO t 1)).trans (by show (0) * 32 + b.val = _; first | rfl | omega)
  · exact (congrArg (fun n : ℕ => n * 2 + e.val) (wx5 m hO t 2)).trans (by show (0) * 2 + e.val = _; first | rfl | omega)
  · exact (congrArg (fun n : ℕ => n * 512 + k.val) (wx5 m hO t 3)).trans (by show (0) * 512 + k.val = _; first | rfl | omega)

theorem blk6 (W : (b : Ref sig .tc) → Buf (Elt Ideal) ((c.tc : Thread nD τ).loc b)) (b : Fin 32) (e : Fin 2) (k : Fin 512) : (((cfgM m hO).win 6).blk t).view.read (Elt Ideal) (W (Pipeline.arrRef spec0 6)) (ix4 0 b e k) = W main_v49 (ix4 (grid0.coords t 0) b e k) := by
  blk_simp [row]
  refine congrArg (W main_v49) ?_
  blk_point [row]
  · exact wx6 m hO t 0
  · exact (congrArg (fun n : ℕ => n * 32 + b.val) (wx6 m hO t 1)).trans (by show (0) * 32 + b.val = _; first | rfl | omega)
  · exact (congrArg (fun n : ℕ => n * 2 + e.val) (wx6 m hO t 2)).trans (by show (0) * 2 + e.val = _; first | rfl | omega)
  · exact (congrArg (fun n : ℕ => n * 512 + k.val) (wx6 m hO t 3)).trans (by show (0) * 512 + k.val = _; first | rfl | omega)

theorem keys {m : (ℓ : Loc nD τ sig) → Buf (Elt Ideal) ℓ} {c : Dev nD} (hO : Ok m) (t : Fin (cfgM m hO).N) {A : Arr} (H : Args m c A) : Keys A (grid0.coords t) (iblk m hO c 0 t : Vec Ideal S512x128 .bf16) (iblk m hO c 1 t : Vec Ideal S512x128 .bf16) (iblk m hO c 2 t : Vec Ideal S512x128 .f32) where
  k r x := (blk0 m c hO t _ r x).trans (k_read H _ _ x)
  v r x := (blk1 m c hO t _ r x).trans (v_read H _ _ x)
  g r e := (blk2 m c hO t _ r _).trans (Eq.trans (congrArg (fun k => V m c main_v45 (ix2 _ k)) (Fin.ext (congrArg (· + e.val) (Nat.mul_comm 2 _)))) (g_read H _ (pr _ e)))

theorem q_blk {m : (ℓ : Loc nD τ sig) → Buf (Elt Ideal) ℓ} {c : Dev nD} (hO : Ok m) (t : Fin (cfgM m hO).N) {A : Arr} (H : Args m c A) (b : Fin 32) (s : Fin 512) (x : Fin 128) : (KB (iblk m hO c 3 t : Vec Ideal S16384x128 .bf16) b (ix2 s x) : EReal) = (A.q (row b s) (pl (grid0.coords t 0) x) : ℝ) :=
  (blk3 m c hO t _ _ x).trans (Eq.trans (congrArg (fun k => V m c main_v42 (ix2 k _)) (Fin.ext (congrArg (· + s.val) (Nat.mul_comm 512 _)))) (q_read H (row b s) _ x))

theorem o_blk {m : (ℓ : Loc nD τ sig) → Buf (Elt Ideal) ℓ} {c : Dev nD} (hO : Ok m) (t : Fin (cfgM m hO).N) {A : Arr} (H : Args m c A) (b : Fin 32) (s : Fin 512) (x : Fin 128) : (KB (iblk m hO c 4 t : Vec Ideal S16384x128 .bf16) b (ix2 s x) : EReal) = (A.o (row b s) (pl (grid0.coords t 0) x) : ℝ) :=
  (blk4 m c hO t _ _ x).trans (Eq.trans (congrArg (fun k => V m c main_v43 (ix2 k _)) (Fin.ext (congrArg (· + s.val) (Nat.mul_comm 512 _)))) (o_read H (row b s) _))

theorem cb_at (x : FVec Ideal S1x32x2x512 .f32) (b : Fin 32) (e : Fin 2) (s : Fin 512) : CB x b (ix4 0 0 e s) = x (ix4 0 b e s) := rfl

theorem l_blk {m : (ℓ : Loc nD τ sig) → Buf (Elt Ideal) ℓ} {c : Dev nD} (hO : Ok m) (t : Fin (cfgM m hO).N) {A : Arr} (H : Args m c A) (b : Fin 32) (e : Fin 2) (s : Fin 512) : (CB (iblk m hO c 5 t : Vec Ideal S1x32x2x512 .f32) b (ix4 0 0 e s) : EReal) = (Real.log (A.z (pr (grid0.coords t 0) e) (row b s)) : ℝ) :=
  (cb_at _ b e s).trans <| (blk5 m c hO t (V m c) b e s).trans (lse_read H (grid0.coords t 0) b e s)

theorem d_blk {m : (ℓ : Loc nD τ sig) → Buf (Elt Ideal) ℓ} {c : Dev nD} (hO : Ok m) (t : Fin (cfgM m hO).N) {A : Arr} (H : Args m c A) (b : Fin 32) (e : Fin 2) (s : Fin 512) : (CB (iblk m hO c 6 t : Vec Ideal S1x32x2x512 .f32) b (ix4 0 0 e s) : EReal) = (A.mean (pr (grid0.coords t 0) e) (row b s) : ℝ) :=
  (cb_at _ b e s).trans <| (blk6 m c hO t (V m c) b e s).trans (mean_read H (grid0.coords t 0) b e s)

theorem queries {m : (ℓ : Loc nD τ sig) → Buf (Elt Ideal) ℓ} {c : Dev nD} (hO : Ok m) (t : Fin (cfgM m hO).N) {A : Arr} (H : Args m c A) (b : Fin 32) : Queries A (grid0.coords t) b (KB (iblk m hO c 3 t : Vec Ideal S16384x128 .bf16) b) (KB (iblk m hO c 4 t : Vec Ideal S16384x128 .bf16) b) (CB (iblk m hO c 5 t : Vec Ideal S1x32x2x512 .f32) b) (CB (iblk m hO c 6 t : Vec Ideal S1x32x2x512 .f32) b) :=
  ⟨q_blk hO t H b, o_blk hO t H b, l_blk hO t H b, d_blk hO t H b⟩

theorem tbl_const' : tbl m 0 = fun _ => 31#32 := by
  funext y
  show StableHlo.after (List.flatten [hostOps0, hostOps0_1, hostOps0_2, hostOps0_3, hostOps0_4]) (fun b => m (0, b)) main_v44 y = _
  simp only [hostOps0, hostOps0_1, hostOps0_2, hostOps0_3, hostOps0_4, List.flatten_cons, List.flatten_nil, List.append_nil, List.cons_append,
      List.nil_append]
  entry_read
  rfl

theorem hyps' (hO : Ok m) : Hyps m hO := Hyps.of fun c t => by
  unfold Hyps.p0
  rw [tbl_const']
  exact (by decide +kernel : ∀ t : Fin grid0.N, k0_chk1 (grid0.coords t) 31#32) t

theorem word (i : grid0.Coords) (xt0 : TbBuf0 (F := Ideal) c tbM0_0) (h : xt0 = fun _ => 31#32) : (tbM0_0.view.readAt (Elt Ideal) (Rect.unit (s := S8x32) (k0_off3 i) S1x1.size (k0_off3_inb i)).toLoadRect xt0 (Shape.Idx.first (numel1_S1x1.symm ▸ Nat.one_pos))) = 31#32 := by
  subst h
  rfl

theorem emb7 (r : Fin 512) (l : Fin 128) : (((cfgM m hO).win 7).blk t).view.emb (ix2 r l) = ix2 (row (grid0.coords t 1) r) (pl (grid0.coords t 0) l) := by
  blk_point [row, pl]
  · exact (congrArg (fun n : ℕ => n * 512 + r.val) (wx7 m hO t 0)).trans (by show ((grid0.coords t 1).val) * 512 + r.val = _; first | rfl | omega)
  · exact (congrArg (fun n : ℕ => n * 128 + l.val) (wx7 m hO t 1)).trans (by show ((grid0.coords t 0).val) * 128 + l.val = _; first | rfl | omega)

theorem emb8 (r : Fin 512) (l : Fin 128) : (((cfgM m hO).win 8).blk t).view.emb (ix2 r l) = ix2 (row (grid0.coords t 1) r) (pl (grid0.coords t 0) l) := by
  blk_point [row, pl]
  · exact (congrArg (fun n : ℕ => n * 512 + r.val) (wx8 m hO t 0)).trans (by show ((grid0.coords t 1).val) * 512 + r.val = _; first | rfl | omega)
  · exact (congrArg (fun n : ℕ => n * 128 + l.val) (wx8 m hO t 1)).trans (by show ((grid0.coords t 0).val) * 128 + l.val = _; first | rfl | omega)

theorem emb9 (e : Fin 2) (r : Fin 512) : (((cfgM m hO).win 9).blk t).view.emb (ix4 0 0 e r) = ix4 (grid0.coords t 0) (grid0.coords t 1) e r := by
  blk_point [row, pl]
  · exact wx9 m hO t 0
  · exact wx9 m hO t 1
  · exact (congrArg (fun n : ℕ => n * 2 + e.val) (wx9 m hO t 2)).trans (by show (0) * 2 + e.val = _; first | rfl | omega)
  · exact (congrArg (fun n : ℕ => n * 512 + r.val) (wx9 m hO t 3)).trans (by show (0) * 512 + r.val = _; first | rfl | omega)

theorem cov7 : ((cfgM m hO).win 7).Covers := by
  let m₀ : (ℓ : Loc nD τ sig) → Buf (Elt Ideal) ℓ := fun _ _ => Classical.choice inferInstance
  exact (by decide +kernel : ((cfgM m₀ trivial).win 7).Covers)

theorem cov8 : ((cfgM m hO).win 8).Covers := by
  let m₀ : (ℓ : Loc nD τ sig) → Buf (Elt Ideal) ℓ := fun _ _ => Classical.choice inferInstance
  exact (by decide +kernel : ((cfgM m₀ trivial).win 8).Covers)

theorem cov9 : ((cfgM m hO).win 9).Covers := by
  let m₀ : (ℓ : Loc nD τ sig) → Buf (Elt Ideal) ℓ := fun _ _ => Classical.choice inferInstance
  exact (by decide +kernel : ((cfgM m₀ trivial).win 9).Covers)

/-- The keys' gradient, the values' and the column gates', of real arrays. -/
def G7 (A : Arr) : FVec Ideal S16384x1024 .bf16 := fun y => (∑ j : Fin 16384, if (y 0).val ≤ j.val then
  ((A.ds ⟨(y 1).val / 64, by have h : (y 1).val < 1024 := (y 1).isLt; omega⟩ j (y 0) * A.q j (y 1) : ℝ) : EReal) else 0) * ((1 / 8 : ℝ) : EReal)
def G8 (A : Arr) : FVec Ideal S16384x1024 .bf16 := fun y => ∑ j : Fin 16384, if (y 0).val ≤ j.val then
  ((A.p ⟨(y 1).val / 64, by have h : (y 1).val < 1024 := (y 1).isLt; omega⟩ j (y 0) * A.o j (y 1) : ℝ) : EReal) else 0
def G9 (A : Arr) : FVec Ideal S8x32x2x512 .f32 := fun y => 0 - ∑ j : Fin 16384, if (row (y 1) (y 3)).val ≤ j.val then ((A.ds (pr (y 0) (y 2)) j (row (y 1) (y 3)) : ℝ) : EReal) else 0

theorem head_lane (p : Fin 8) (l : Fin 128) : pr p ⟨l.val / 64, by omega⟩ = ⟨(pl p l).val / 64, by omega⟩ := Fin.ext (by
  show p.val * 2 + l.val / 64 = (128 * p.val + l.val) / 64
  omega)

variable {m c} (hH : Hyps m hO) {A : Arr} (H : Args m c A)
include H
theorem at7 (y : S512x128.Idx) : ((dats m hO hH 0 c).after 7 t : Vec Ideal S512x128 .bf16) y = G7 A ((((cfgM m hO).win 7).blk t).view.emb y) := by
  obtain ⟨r, l, rfl⟩ : ∃ (r : Fin 512) (l : Fin 128), y = ix2 r l := ⟨y 0, y 1, by idx_vars y⟩
  refine Eq.trans ?_ (congrArg (G7 A) (emb7 m hO t r l)).symm
  rw [after0_7]
  unfold outsAt0
  dsimp only
  refine Eq.trans (out7 c _ _ _ _ _ _ _ _ _ _ _ _ _ _ _ _ _ _ _ _ _ _ _ _ _ _ _ _ _ _ _ _ _ _ _ _ (word c _ _ (tbl_const' m)) r l) ((dk_real (keys hO t H) (queries hO t H) r l).trans ?_)
  have e : pr (grid0.coords t 0) ⟨l.val / 64, by omega⟩ = ⟨(pl (grid0.coords t 0) l).val / 64, by omega⟩ := head_lane (grid0.coords t 0) l
  rw [e]
  rfl

theorem at8 (y : S512x128.Idx) : ((dats m hO hH 0 c).after 8 t : Vec Ideal S512x128 .bf16) y = G8 A ((((cfgM m hO).win 8).blk t).view.emb y) := by
  obtain ⟨r, l, rfl⟩ : ∃ (r : Fin 512) (l : Fin 128), y = ix2 r l := ⟨y 0, y 1, by idx_vars y⟩
  refine Eq.trans ?_ (congrArg (G8 A) (emb8 m hO t r l)).symm
  rw [after0_8]
  unfold outsAt0
  dsimp only
  refine Eq.trans (out8 c _ _ _ _ _ _ _ _ _ _ _ _ _ _ _ _ _ _ _ _ _ _ _ _ _ _ _ _ _ _ _ _ _ _ _ _ (word c _ _ (tbl_const' m)) r l) ((dv_real (keys hO t H) (queries hO t H) r l).trans ?_)
  have e : pr (grid0.coords t 0) ⟨l.val / 64, by omega⟩ = ⟨(pl (grid0.coords t 0) l).val / 64, by omega⟩ := head_lane (grid0.coords t 0) l
  rw [e]
  rfl

theorem at9 (y : S1x1x2x512.Idx) : ((dats m hO hH 0 c).after 9 t : Vec Ideal S1x1x2x512 .f32) y = G9 A ((((cfgM m hO).win 9).blk t).view.emb y) := by
  obtain ⟨e, r, rfl⟩ : ∃ (e : Fin 2) (r : Fin 512), y = ix4 0 0 e r := ⟨y 2, y 3, by idx_vars y; refine congrArg₂ (fun a b => ix4 a b _ _) ?_ ?_ <;> exact Subsingleton.elim _ _⟩
  refine Eq.trans ?_ (congrArg (G9 A) (emb9 m hO t e r)).symm
  rw [after0_9]
  unfold outsAt0
  dsimp only
  exact Eq.trans (out9 c _ _ _ _ _ _ _ _ _ _ _ _ _ _ _ _ _ _ _ _ _ _ _ _ _ _ _ _ _ _ _ _ _ _ _ _ (word c _ _ (tbl_const' m)) r e) (congrArg (0 - ·) (gate_real (keys hO t H) (queries hO t H) r e))

theorem final7 : (dats m hO hH 0 c).arrAt 7 (cfgM m hO).N = G7 A :=
  (dats m hO hH 0 c).arrAt_eq_of_covers 7 _ (cov7 m hO) fun t _ y => at7 hO t hH H y

theorem final8 : (dats m hO hH 0 c).arrAt 8 (cfgM m hO).N = G8 A :=
  (dats m hO hH 0 c).arrAt_eq_of_covers 8 _ (cov8 m hO) fun t _ y => at8 hO t hH H y

theorem final9 : (dats m hO hH 0 c).arrAt 9 (cfgM m hO).N = G9 A :=
  (dats m hO hH 0 c).arrAt_eq_of_covers 9 _ (cov9 m hO) fun t _ y => at9 hO t hH H y

end Cert.Proof.AttKv
end
-- ==== Proof.AttKvEnd.lean ====
/- The keys', values' and column gates' gradients: both programs compute the same. -/
module

public import proofs.«01_k».proof.Proof.AttKvPoint
public import proofs.«01_k».proof.Proof.AttRef
public import proofs.«01_k».proof.Proof.AttPre
public import proofs.«01_k».proof.Defs

@[expose] public section

set_option maxRecDepth 16384

noncomputable section

namespace Cert.Proof.AttKvRef
open Idealize.ShloMosaic Idealize.ShloMosaic.TcCoe Idealize.SL.Sem
open Cert.AttKvRefIdeal Cert.AttKvRefIdeal.Gen Cert.AttKvRefIdeal.Value Cert.Proof.Att
open Cert.Proof.AttRef (heads scores maxV expV sumV prodV dsV heads_at)

/-- The keys' gradient from the scores' cotangent. -/
def dkV (D : FVec Ideal S16x16384x16384 .f32) (Q : FVec Ideal S16x16384x64 .f32) : FVec Ideal S16384x1024 .bf16 := truncf .bf16 (shapeCast _ (transpose S16384x16x64 [1, 0, 2] (Host.dotGeneral dot_S16x16384x16384_S16x16384x64_S16x16384x64_1_1_2_2_0_0 none (mulf D (broadcastInDim S16x16384x16384 ![] bcast_S_S16x16384x16384 (constant S_ .f32 0x3E000000#32))) Q) transposes_S16x16384x64_S16384x16x64_1_0_2) shapeCasts_S16384x16x64_S16384x1024) bitsLt_bf16_f32
/-- The values' gradient from the weights. -/
def dvV (O : FVec Ideal S16x16384x64 .f32) (U : FVec Ideal S16x16384x16384 .f32) (S : FVec Ideal S16x16384x1 .f32) : FVec Ideal S16384x1024 .bf16 := truncf .bf16 (shapeCast _ (transpose S16384x16x64 [1, 0, 2] (transpose S16x16384x64 [0, 2, 1] (Host.dotGeneral dot_S16x16384x64_S16x16384x16384_S16x64x16384_1_1_2_2_0_0 none O (Host.divf U (broadcastInDim S16x16384x16384 ![0, 1, 2] bcast_S16x16384x1_S16x16384x16384_0_1_2 S))) transposes_S16x64x16384_S16x16384x64_0_2_1) transposes_S16x16384x64_S16384x16x64_1_0_2) shapeCasts_S16384x16x64_S16384x1024) bitsLt_bf16_f32
/-- The column gates' gradient. -/
def columnGateV (D : FVec Ideal S16x16384x16384 .f32) : FVec Ideal S8x32x2x512 .f32 := transpose S8x32x2x512 [0, 2, 1, 3] (shapeCast _ (transpose S16x16384 [1, 0] (transpose S16384x16 [1, 0] (Host.reduceAdd (shapeCast _ (Host.reduceAdd (Host.negf D) (constant S_ .f32 0x00000000#32) reducesTo_S16x16384x16384_S16x16384_d1 h_S_) shapeCasts_S16x16384_S16x1x16384) (constant S_ .f32 0x00000000#32) reducesTo_S16x1x16384_S16x16384_d1 h_S_) transposes_S16x16384_S16384x16_1_0) transposes_S16384x16_S16x16384_1_0) shapeCasts_S16x16384_S8x2x32x512) transposes_S8x2x32x512_S8x32x2x512_0_2_1_3

theorem dkV_at (D : FVec Ideal S16x16384x16384 .f32) (Q : FVec Ideal S16x16384x64 .f32) (i : Fin 16384) (x : Fin 1024) : dkV D Q (ix2 i x)
    = ∑ j : Fin 16384, D (ix3 ⟨x.val / 64, by omega⟩ j i) * ((1 / 8 : ℝ) : EReal) * Q (ix3 ⟨x.val / 64, by omega⟩ j ⟨x.val % 64, by omega⟩) := by
  pointwise [dkV]
  rw [eighth]
theorem dvV_at (O : FVec Ideal S16x16384x64 .f32) (U : FVec Ideal S16x16384x16384 .f32) (S : FVec Ideal S16x16384x1 .f32) (i : Fin 16384) (x : Fin 1024) : dvV O U S (ix2 i x)
    = ∑ j : Fin 16384, O (ix3 ⟨x.val / 64, by omega⟩ j ⟨x.val % 64, by omega⟩) * Ideal.div (U (ix3 ⟨x.val / 64, by omega⟩ j i)) (S (ix3 ⟨x.val / 64, by omega⟩ j 0)) := by
  pointwise [dvV]
theorem columnGateV_at (D : FVec Ideal S16x16384x16384 .f32) (p : Fin 8) (b : Fin 32) (e : Fin 2) (r : Fin 512) : columnGateV D (ix4 p b e r) = ∑ j : Fin 16384, -D (ix3 (pr p e) j (row b r)) := by
  pointwise [columnGateV]
  rw [Fin.sum_univ_one]
  rfl

theorem lane (x : Fin 1024) : hd ⟨x.val / 64, by omega⟩ ⟨x.val % 64, by omega⟩ = x := Fin.ext (by show x.val / 64 * 64 + x.val % 64 = x.val; omega)

section
variable {A : Arr} (D : FVec Ideal S16x16384x16384 .f32) (hD : ∀ h i j, D (ix3 h i j) = ((if j.val ≤ i.val then A.ds h i j else 0 : ℝ) : EReal))
include hD
theorem dk_ref {a : FVec Ideal S16384x1024 .f32} (ha : ∀ i x, a (ix2 i x) = (A.q i x : ℝ)) : dkV D (heads a) = AttKv.G7 A := by
  funext y
  obtain ⟨i, x, rfl⟩ : ∃ (i : Fin 16384) (x : Fin 1024), y = ix2 i x := ⟨y 0, y 1, by idx_vars y⟩
  rw [dkV_at]
  simp only [heads_at, lane, hD, ha]
  show _ = (∑ j : Fin 16384, if i.val ≤ j.val then ((A.ds ⟨x.val / 64, by omega⟩ j i * A.q j x : ℝ) : EReal) else 0) * ((1 / 8 : ℝ) : EReal)
  simp only [← EReal.coe_zero, ← coe_ite, ← EReal.coe_mul, ← coe_sum, Finset.sum_mul]
  refine congrArg (fun x : ℝ => (x : EReal)) (Finset.sum_congr rfl fun j _ => ?_)
  split_ifs <;> ring

theorem gate_ref : columnGateV D = AttKv.G9 A := by
  funext y
  obtain ⟨p, b, e, r, rfl⟩ : ∃ (p : Fin 8) (b : Fin 32) (e : Fin 2) (r : Fin 512), y = ix4 p b e r := ⟨y 0, y 1, y 2, y 3, by idx_vars y⟩
  rw [columnGateV_at]
  simp only [hD]
  show _ = 0 - ∑ j : Fin 16384, if (row b r).val ≤ j.val then ((A.ds (pr p e) j (row b r) : ℝ) : EReal) else 0
  simp only [← EReal.coe_zero, ← coe_ite, ← EReal.coe_neg, ← coe_sum, ← EReal.coe_sub]
  refine congrArg (fun x : ℝ => (x : EReal)) ?_
  rw [Finset.sum_neg_distrib, zero_sub]
end

theorem dv_ref {A : Arr} {a : FVec Ideal S16384x1024 .f32} (ha : ∀ i x, a (ix2 i x) = (A.o i x : ℝ)) (U : FVec Ideal S16x16384x16384 .f32) (S : FVec Ideal S16x16384x1 .f32)
    (hU : ∀ h i j, Ideal.div (U (ix3 h i j)) (S (ix3 h i 0)) = ((if j.val ≤ i.val then A.p h i j else 0 : ℝ) : EReal)) : dvV (heads a) U S = AttKv.G8 A := by
  funext y
  obtain ⟨i, x, rfl⟩ : ∃ (i : Fin 16384) (x : Fin 1024), y = ix2 i x := ⟨y 0, y 1, by idx_vars y⟩
  rw [dvV_at]
  simp only [heads_at, lane, hU, ha]
  show _ = ∑ j : Fin 16384, if i.val ≤ j.val then ((A.p ⟨x.val / 64, by omega⟩ j i * A.o j x : ℝ) : EReal) else 0
  simp only [← EReal.coe_zero, ← coe_ite, ← EReal.coe_mul, ← coe_sum]
  refine congrArg (fun x : ℝ => (x : EReal)) (Finset.sum_congr rfl fun j _ => ?_)
  split_ifs <;> ring

theorem res_v85 (m : (ℓ : Loc nD τ sig) → Buf (Elt Ideal) ℓ) (c : Dev nD) : res_main_v85 (F := Ideal) m c = dkV (dsV (prodV (heads (m ((c.tc : Thread nD τ).loc main_arg4))) (heads (m ((c.tc : Thread nD τ).loc main_arg2)))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))))) (heads (m ((c.tc : Thread nD τ).loc main_arg0))) := rfl
theorem res_v86 (m : (ℓ : Loc nD τ sig) → Buf (Elt Ideal) ℓ) (c : Dev nD) : res_main_v86 (F := Ideal) m c = dvV (heads (m ((c.tc : Thread nD τ).loc main_arg4))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3)))))) := rfl
theorem res_v89 (m : (ℓ : Loc nD τ sig) → Buf (Elt Ideal) ℓ) (c : Dev nD) : res_main_v89 (F := Ideal) m c = columnGateV (dsV (prodV (heads (m ((c.tc : Thread nD τ).loc main_arg4))) (heads (m ((c.tc : Thread nD τ).loc main_arg2)))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))))) := rfl

theorem vals (m : (ℓ : Loc nD τ sig) → Buf (Elt Ideal) ℓ) (c : Dev nD) (A : Arr)
    (h0 : ∀ i x, (m ((c.tc : Thread nD τ).loc main_arg0) (ix2 i x) : EReal) = ((A.q i x : ℝ) : EReal))
    (h1 : ∀ i x, (m ((c.tc : Thread nD τ).loc main_arg1) (ix2 i x) : EReal) = ((A.k i x : ℝ) : EReal))
    (h2 : ∀ i x, (m ((c.tc : Thread nD τ).loc main_arg2) (ix2 i x) : EReal) = ((A.v i x : ℝ) : EReal))
    (h3 : ∀ i x, (m ((c.tc : Thread nD τ).loc main_arg3) (ix2 i x) : EReal) = ((A.g i x : ℝ) : EReal))
    (h4 : ∀ i x, (m ((c.tc : Thread nD τ).loc main_arg4) (ix2 i x) : EReal) = ((A.o i x : ℝ) : EReal)) :
    res_main_v85 (F := Ideal) m c = AttKv.G7 A ∧ res_main_v86 (F := Ideal) m c = AttKv.G8 A ∧ res_main_v89 (F := Ideal) m c = AttKv.G9 A :=
  ⟨(res_v85 m c).trans (dk_ref _ (AttRef.ds_real h0 h1 h2 h3 h4) h0), (res_v86 m c).trans (dv_ref h4 _ _ (AttRef.weight_real h0 h1 h3)), (res_v89 m c).trans (gate_ref _ (AttRef.ds_real h0 h1 h2 h3 h4))⟩

end Cert.Proof.AttKvRef

namespace Cert.Proof
open Idealize.ShloMosaic Idealize.ShloMosaic.TcCoe Idealize.SL.Sem
open Cert.Proof.Att

theorem attKvRef_frame : Cert.quiescent_AttKvRefIdeal := fun m g _ =>
  (θ_run Cert.AttKvRefIdeal.defs _ _).mono (fun r h => ⟨fun c => (h c).2.2.2, sem_eq_zero_of_no_sems (by decide) r.2⟩) (Cert.AttKvRefIdeal.Value.run (F := Ideal) m g)

section
open Cert.AttKvIdeal Cert.AttKvIdeal.Gen Cert.Proof.AttKv
/-- What the kernel leaves: the three gradients of the specification, its arguments untouched. -/
theorem attKv_run (m : (ℓ : Loc nD τ sig) → Buf (Elt Ideal) ℓ) (g : Dev nD → PrngReg) (A : Dev nD → Arr) (H : ∀ c, Args m c (A c)) :
    θ_run defs (onTc (τ := τ) (main (F := Ideal))) ⟨m, fun _ => 0, g⟩ (fun r => ∀ c : Dev nD,
      r.2.mem ((c.tc : Thread nD τ).loc main_v50_0) = G7 (A c) ∧ r.2.mem ((c.tc : Thread nD τ).loc main_v50_1) = G8 (A c) ∧ r.2.mem ((c.tc : Thread nD τ).loc main_v50_2) = G9 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 7).trans (final7 trivial (hyps' m trivial) (H c)), ((h.1 c).1 8).trans (final8 trivial (hyps' m trivial) (H c)),
      ((h.1 c).1 9).trans (final9 trivial (hyps' m trivial) (H c)), h.2 c⟩)
    (θ_run_and (run_main m g trivial (hyps' m trivial)) (unchanged m g trivial (hyps' m trivial)))
end

theorem attKv_algebraic : Cert.algebraic_AttKvIdeal_AttKvRefIdeal_pre_finite := by
  intro m g m' g' hpre hagree
  have hA := fun c => reals_of (hpre c).1 (hpre c).2.1 (hpre c).2.2.1 (hpre c).2.2.2.1 (hpre c).2.2.2.2
  choose A hA using hA
  refine ⟨fun c => AttKv.G7 (A c), fun c => AttKv.G8 (A c), fun c => AttKv.G9 (A c), attKv_run m g A fun c => ⟨(hA c).1, (hA c).2.1, (hA c).2.2.1, (hA c).2.2.2.1, (hA c).2.2.2.2⟩, ?_⟩
  refine (θ_run Cert.AttKvRefIdeal.defs _ _).mono (fun r h c => ?_) (Cert.AttKvRefIdeal.Value.run (F := Ideal) m' g')
  have e := AttKvRef.vals m' c (A c) (fun i x => (congrFun (hagree c).1 _).trans ((hA c).1 i x)) (fun i x => (congrFun (hagree c).2.1 _).trans ((hA c).2.1 i x))
    (fun i x => (congrFun (hagree c).2.2.1 _).trans ((hA c).2.2.1 i x)) (fun i x => (congrFun (hagree c).2.2.2.1 _).trans ((hA c).2.2.2.1 i x))
    (fun i x => (congrFun (hagree c).2.2.2.2 _).trans ((hA c).2.2.2.2 i x))
  exact ⟨(h c).1.trans e.1, (h c).2.1.trans e.2.1, (h c).2.2.1.trans e.2.2, (h c).2.2.2⟩
end Cert.Proof

end
-- ==== Proof.AttFTile.lean ====
/- The forward pass: what one trip of the kernel's loop and its diagonal block make of the running maximum, sum and product. -/
module

public import proofs.«01_k».proof.Defs
public import proofs.«01_k».proof.Proof.Gen.AttFIdeal.Frame
public import proofs.«01_k».proof.Proof.AttQTile
public import proofs.«01_k».proof.Proof.AttMath

@[expose] public section

set_option maxRecDepth 16384

noncomputable section

namespace Cert.Proof.AttF
open Idealize.ShloMosaic Idealize.ShloMosaic.TcCoe Idealize.SL.Sem
open Cert.AttFIdeal Cert.AttFIdeal.Gen
open Cert.Proof.AttQ (fold4 sc0 sc1 D_at)

/-- The largest of a block's row of scores, as the kernel takes it: four strips, then the lanes. -/
def U (x : Fin 512 → EReal) : EReal := Finset.univ.fold max (Ideal.ofBits .f32 0xFF800000#32) fun l : Fin 128 =>
  max (max (max (x ⟨l.val, by omega⟩) (x ⟨128 + l.val, by omega⟩)) (x ⟨256 + l.val, by omega⟩)) (x ⟨384 + l.val, by omega⟩)
/-- The new running maximum. -/
def M (m : EReal) (x : Fin 512 → EReal) : EReal := max m (U x)
/-- The new running sum of lane `l`, the old one rescaled. -/
def L (m : EReal) (x : Fin 512 → EReal) (o : EReal) (l : Fin 128) : EReal := Ideal.exp (m - M m x) * o + fold4 (fun c => Ideal.exp (x c - M m x)) l
/-- The block's product with the values. -/
def P (m : EReal) (x : Fin 512 → EReal) (ν : FVec Ideal S512x128 .bf16) (l : Fin 128) : EReal := ∑ c, Ideal.exp (x c - M m x) * ν (ix2 c l)
/-- The new running product. -/
def Acc (m0 m1 : EReal) (x0 x1 : Fin 512 → EReal) (ν : FVec Ideal S512x128 .bf16) (o : EReal) (l : Fin 128) : EReal :=
  Scalar.select (IntOp.cmpi .slt (BitVec.ofNat 32 l.val) 64#32) (Ideal.exp (m0 - M m0 x0)) (Ideal.exp (m1 - M m1 x1)) * o
    + Scalar.select (IntOp.cmpi .slt (BitVec.ofNat 32 l.val) 64#32) (P m0 x0 ν l) (P m1 x1 ν l)

section
variable (q κ ν : FVec Ideal S512x128 .bf16) (γ : FVec Ideal S1x1x2x512 .f32) (r : Fin 512)

/-- The diagonal block's scores, nothing above the diagonal. -/
def di0 (c : Fin 512) : EReal := if c.val ≤ r.val then sc0 q κ γ r c else ⊥
/-- The same for the second head. -/
def di1 (c : Fin 512) : EReal := if c.val ≤ r.val then sc1 q κ γ r c else ⊥

/-- The word test of the diagonal block's mask. -/
theorem masked (c : Fin 512) (s : EReal) : Scalar.select (IntOp.cmpi .sge (IntOp.addi (BitVec.ofNat 32 r.val) 0#32) (IntOp.addi (BitVec.ofNat 32 c.val) 0#32)) s
      (Ideal.ofBits .f32 0xFF800000#32) = if c.val ≤ r.val then s else ⊥ := by
  have e : IntOp.cmpi .sge (IntOp.addi (BitVec.ofNat 32 r.val) 0#32) (IntOp.addi (BitVec.ofNat 32 c.val) 0#32) = if c.val ≤ r.val then 1#1 else 0#1 := by
    rw [WordCmp.addi_ofNat, WordCmp.addi_ofNat, WordCmp.cmpi_sge_ofNat (by omega) (by omega), WordCmp.ofBool_decide_eq_ite, Nat.add_zero, Nat.add_zero]
  have hb : Ideal.ofBits .f32 0xFF800000#32 = ⊥ := by simp [Ideal.ofBits, Ideal.ieee]
  rw [e, hb]
  split_ifs <;> rfl

variable (l : Fin 128) (old oldL old' : FVec Ideal S1x512x128 .f32) (m m' : EReal) (hm : ∀ l, old (ix3 0 r l) = m) (hm' : ∀ l, old' (ix3 0 r l) = m')

/-- A lane's row maximum. -/
theorem top (x : Fin 512 → EReal) (a b c d : FVec Ideal S512x128 .f32) (ha : ∀ l, a (ix2 r l) = x ⟨l.val, by omega⟩) (hb : ∀ l, b (ix2 r l) = x ⟨128 + l.val, by omega⟩)
    (hc : ∀ l, c (ix2 r l) = x ⟨256 + l.val, by omega⟩) (hd : ∀ l, d (ix2 r l) = x ⟨384 + l.val, by omega⟩) :
    multiReduction .maximumf [1] S512 (maximumf (maximumf (maximumf a b) c) d) 0xFF800000#32 reduces_S512x128_S512 (.inl rfl) rfl (ix1 r) = U x := by
  unfold U
  pointwise [ha, hb, hc, hd]
theorem cl0_0 : k0_pay7 (F := Ideal) (k0_pay70 q) κ γ (ix2 r l) = sc0 q κ γ r ⟨l.val, by omega⟩ := by
  pointwise [k0_pay7, k0_pay6, k0_pay3, k0_pay5, k0_pay81, k0_pay83, k0_pay70, k0_pay71, k0_pay67, k0_pay68, k0_pay69, sc0, sc1]
theorem cl0_1 : k0_pay8 (F := Ideal) (k0_pay70 q) κ γ (ix2 r l) = sc0 q κ γ r ⟨128 + l.val, by omega⟩ := by
  pointwise [k0_pay8, k0_pay6, k0_pay3, k0_pay5, k0_pay81, k0_pay83, k0_pay70, k0_pay71, k0_pay67, k0_pay68, k0_pay69, sc0, sc1]
theorem cl0_2 : k0_pay9 (F := Ideal) (k0_pay70 q) κ γ (ix2 r l) = sc0 q κ γ r ⟨256 + l.val, by omega⟩ := by
  pointwise [k0_pay9, k0_pay6, k0_pay3, k0_pay5, k0_pay81, k0_pay83, k0_pay70, k0_pay71, k0_pay67, k0_pay68, k0_pay69, sc0, sc1]
theorem cl0_3 : k0_pay10 (F := Ideal) (k0_pay70 q) κ γ (ix2 r l) = sc0 q κ γ r ⟨384 + l.val, by omega⟩ := by
  pointwise [k0_pay10, k0_pay6, k0_pay3, k0_pay5, k0_pay81, k0_pay83, k0_pay70, k0_pay71, k0_pay67, k0_pay68, k0_pay69, sc0, sc1]
theorem cl1_0 : k0_pay23 (F := Ideal) (k0_pay71 q) (k0_pay3 κ) (k0_pay5 γ) (ix2 r l) = sc1 q κ γ r ⟨l.val, by omega⟩ := by
  pointwise [k0_pay23, k0_pay22, k0_pay3, k0_pay5, k0_pay81, k0_pay83, k0_pay70, k0_pay71, k0_pay67, k0_pay68, k0_pay69, sc0, sc1]
theorem cl1_1 : k0_pay24 (F := Ideal) (k0_pay71 q) (k0_pay3 κ) (k0_pay5 γ) (ix2 r l) = sc1 q κ γ r ⟨128 + l.val, by omega⟩ := by
  pointwise [k0_pay24, k0_pay22, k0_pay3, k0_pay5, k0_pay81, k0_pay83, k0_pay70, k0_pay71, k0_pay67, k0_pay68, k0_pay69, sc0, sc1]
theorem cl1_2 : k0_pay25 (F := Ideal) (k0_pay71 q) (k0_pay3 κ) (k0_pay5 γ) (ix2 r l) = sc1 q κ γ r ⟨256 + l.val, by omega⟩ := by
  pointwise [k0_pay25, k0_pay22, k0_pay3, k0_pay5, k0_pay81, k0_pay83, k0_pay70, k0_pay71, k0_pay67, k0_pay68, k0_pay69, sc0, sc1]
theorem cl1_3 : k0_pay26 (F := Ideal) (k0_pay71 q) (k0_pay3 κ) (k0_pay5 γ) (ix2 r l) = sc1 q κ γ r ⟨384 + l.val, by omega⟩ := by
  pointwise [k0_pay26, k0_pay22, k0_pay3, k0_pay5, k0_pay81, k0_pay83, k0_pay70, k0_pay71, k0_pay67, k0_pay68, k0_pay69, sc0, sc1]
theorem cd0_0 : k0_pay85 (F := Ideal) (k0_pay70 q) κ γ (ix2 r l) = di0 q κ γ r ⟨l.val, by omega⟩ := by
  refine Eq.trans ?_ (masked r ⟨l.val, by omega⟩ (sc0 q κ γ r ⟨l.val, by omega⟩))
  pointwise [k0_pay85, k0_pay84, k0_pay3, k0_pay5, k0_pay81, k0_pay83, k0_pay70, k0_pay71, k0_pay67, k0_pay68, k0_pay69, sc0, sc1]
theorem cd0_1 : k0_pay86 (F := Ideal) (k0_pay70 q) κ γ (ix2 r l) = di0 q κ γ r ⟨128 + l.val, by omega⟩ := by
  refine Eq.trans ?_ (masked r ⟨128 + l.val, by omega⟩ (sc0 q κ γ r ⟨128 + l.val, by omega⟩))
  pointwise [k0_pay86, k0_pay84, k0_pay3, k0_pay5, k0_pay81, k0_pay83, k0_pay70, k0_pay71, k0_pay67, k0_pay68, k0_pay69, sc0, sc1]
theorem cd0_2 : k0_pay87 (F := Ideal) (k0_pay70 q) κ γ (ix2 r l) = di0 q κ γ r ⟨256 + l.val, by omega⟩ := by
  refine Eq.trans ?_ (masked r ⟨256 + l.val, by omega⟩ (sc0 q κ γ r ⟨256 + l.val, by omega⟩))
  pointwise [k0_pay87, k0_pay84, k0_pay3, k0_pay5, k0_pay81, k0_pay83, k0_pay70, k0_pay71, k0_pay67, k0_pay68, k0_pay69, sc0, sc1]
theorem cd0_3 : k0_pay88 (F := Ideal) (k0_pay70 q) κ γ (ix2 r l) = di0 q κ γ r ⟨384 + l.val, by omega⟩ := by
  refine Eq.trans ?_ (masked r ⟨384 + l.val, by omega⟩ (sc0 q κ γ r ⟨384 + l.val, by omega⟩))
  pointwise [k0_pay88, k0_pay84, k0_pay3, k0_pay5, k0_pay81, k0_pay83, k0_pay70, k0_pay71, k0_pay67, k0_pay68, k0_pay69, sc0, sc1]
theorem cd1_0 : k0_pay100 (F := Ideal) (k0_pay71 q) (k0_pay81 κ) (k0_pay83 γ) (ix2 r l) = di1 q κ γ r ⟨l.val, by omega⟩ := by
  refine Eq.trans ?_ (masked r ⟨l.val, by omega⟩ (sc1 q κ γ r ⟨l.val, by omega⟩))
  pointwise [k0_pay100, k0_pay99, k0_pay3, k0_pay5, k0_pay81, k0_pay83, k0_pay70, k0_pay71, k0_pay67, k0_pay68, k0_pay69, sc0, sc1]
theorem cd1_1 : k0_pay101 (F := Ideal) (k0_pay71 q) (k0_pay81 κ) (k0_pay83 γ) (ix2 r l) = di1 q κ γ r ⟨128 + l.val, by omega⟩ := by
  refine Eq.trans ?_ (masked r ⟨128 + l.val, by omega⟩ (sc1 q κ γ r ⟨128 + l.val, by omega⟩))
  pointwise [k0_pay101, k0_pay99, k0_pay3, k0_pay5, k0_pay81, k0_pay83, k0_pay70, k0_pay71, k0_pay67, k0_pay68, k0_pay69, sc0, sc1]
theorem cd1_2 : k0_pay102 (F := Ideal) (k0_pay71 q) (k0_pay81 κ) (k0_pay83 γ) (ix2 r l) = di1 q κ γ r ⟨256 + l.val, by omega⟩ := by
  refine Eq.trans ?_ (masked r ⟨256 + l.val, by omega⟩ (sc1 q κ γ r ⟨256 + l.val, by omega⟩))
  pointwise [k0_pay102, k0_pay99, k0_pay3, k0_pay5, k0_pay81, k0_pay83, k0_pay70, k0_pay71, k0_pay67, k0_pay68, k0_pay69, sc0, sc1]
theorem cd1_3 : k0_pay103 (F := Ideal) (k0_pay71 q) (k0_pay81 κ) (k0_pay83 γ) (ix2 r l) = di1 q κ γ r ⟨384 + l.val, by omega⟩ := by
  refine Eq.trans ?_ (masked r ⟨384 + l.val, by omega⟩ (sc1 q κ γ r ⟨384 + l.val, by omega⟩))
  pointwise [k0_pay103, k0_pay99, k0_pay3, k0_pay5, k0_pay81, k0_pay83, k0_pay70, k0_pay71, k0_pay67, k0_pay68, k0_pay69, sc0, sc1]

include hm in
/-- The new maximum, first head. -/
theorem mx_l0 : k0_pay12 (F := Ideal) (k0_pay70 q) κ γ old (ix2 r l) = M m (sc0 q κ γ r) := by
  rw [M, ← hm l, ← top r (sc0 q κ γ r) _ _ _ _ (cl0_0 q κ γ r) (cl0_1 q κ γ r) (cl0_2 q κ γ r) (cl0_3 q κ γ r)]
  unfold k0_pay12
  pointwise [k0_pay11]
include hm in
theorem mx_l1 : k0_pay28 (F := Ideal) (k0_pay71 q) (k0_pay3 κ) (k0_pay5 γ) old (ix2 r l) = M m (sc1 q κ γ r) := by
  rw [M, ← hm l, ← top r (sc1 q κ γ r) _ _ _ _ (cl1_0 q κ γ r) (cl1_1 q κ γ r) (cl1_2 q κ γ r) (cl1_3 q κ γ r)]
  unfold k0_pay28
  pointwise [k0_pay27]
include hm in
theorem mx_d0 : k0_pay90 (F := Ideal) (k0_pay70 q) κ γ old (ix2 r l) = M m (di0 q κ γ r) := by
  rw [M, ← hm l, ← top r (di0 q κ γ r) _ _ _ _ (cd0_0 q κ γ r) (cd0_1 q κ γ r) (cd0_2 q κ γ r) (cd0_3 q κ γ r)]
  unfold k0_pay90
  pointwise [k0_pay89]
include hm in
theorem mx_d1 : k0_pay106 (F := Ideal) (k0_pay104 old) (k0_pay105 (k0_pay71 q) (k0_pay81 κ) (k0_pay83 γ)) (ix2 r l) = M m (di1 q κ γ r) := by
  rw [M, ← hm l, ← top r (di1 q κ γ r) _ _ _ _ (cd1_0 q κ γ r) (cd1_1 q κ γ r) (cd1_2 q κ γ r) (cd1_3 q κ γ r)]
  unfold k0_pay106 k0_pay105
  pointwise [k0_pay104]
include hm in
theorem el0_0 : k0_pay13 (F := Ideal) (k0_pay70 q) κ γ old (ix2 r l) = Ideal.exp (sc0 q κ γ r ⟨l.val, by omega⟩ - M m (sc0 q κ γ r)) := by
  rw [← cl0_0 q κ γ r l, ← mx_l0 q κ γ r l old m hm]
  pointwise [k0_pay13]
include hm in
theorem el0_1 : k0_pay14 (F := Ideal) (k0_pay70 q) κ γ old (ix2 r l) = Ideal.exp (sc0 q κ γ r ⟨128 + l.val, by omega⟩ - M m (sc0 q κ γ r)) := by
  rw [← cl0_1 q κ γ r l, ← mx_l0 q κ γ r l old m hm]
  pointwise [k0_pay14]
include hm in
theorem el0_2 : k0_pay15 (F := Ideal) (k0_pay70 q) κ γ old (ix2 r l) = Ideal.exp (sc0 q κ γ r ⟨256 + l.val, by omega⟩ - M m (sc0 q κ γ r)) := by
  rw [← cl0_2 q κ γ r l, ← mx_l0 q κ γ r l old m hm]
  pointwise [k0_pay15]
include hm in
theorem el0_3 : k0_pay16 (F := Ideal) (k0_pay70 q) κ γ old (ix2 r l) = Ideal.exp (sc0 q κ γ r ⟨384 + l.val, by omega⟩ - M m (sc0 q κ γ r)) := by
  rw [← cl0_3 q κ γ r l, ← mx_l0 q κ γ r l old m hm]
  pointwise [k0_pay16]
include hm in
theorem al0 : k0_pay17 (F := Ideal) (k0_pay70 q) κ γ old (ix2 r l) = Ideal.exp (m - M m (sc0 q κ γ r)) := by
  rw [← mx_l0 q κ γ r l old m hm, ← hm l]
  pointwise [k0_pay17, k0_pay11]
include hm in
theorem el1_0 : k0_pay29 (F := Ideal) (k0_pay71 q) (k0_pay3 κ) (k0_pay5 γ) old (ix2 r l) = Ideal.exp (sc1 q κ γ r ⟨l.val, by omega⟩ - M m (sc1 q κ γ r)) := by
  rw [← cl1_0 q κ γ r l, ← mx_l1 q κ γ r l old m hm]
  pointwise [k0_pay29]
include hm in
theorem el1_1 : k0_pay30 (F := Ideal) (k0_pay71 q) (k0_pay3 κ) (k0_pay5 γ) old (ix2 r l) = Ideal.exp (sc1 q κ γ r ⟨128 + l.val, by omega⟩ - M m (sc1 q κ γ r)) := by
  rw [← cl1_1 q κ γ r l, ← mx_l1 q κ γ r l old m hm]
  pointwise [k0_pay30]
include hm in
theorem el1_2 : k0_pay31 (F := Ideal) (k0_pay71 q) (k0_pay3 κ) (k0_pay5 γ) old (ix2 r l) = Ideal.exp (sc1 q κ γ r ⟨256 + l.val, by omega⟩ - M m (sc1 q κ γ r)) := by
  rw [← cl1_2 q κ γ r l, ← mx_l1 q κ γ r l old m hm]
  pointwise [k0_pay31]
include hm in
theorem el1_3 : k0_pay32 (F := Ideal) (k0_pay71 q) (k0_pay3 κ) (k0_pay5 γ) old (ix2 r l) = Ideal.exp (sc1 q κ γ r ⟨384 + l.val, by omega⟩ - M m (sc1 q κ γ r)) := by
  rw [← cl1_3 q κ γ r l, ← mx_l1 q κ γ r l old m hm]
  pointwise [k0_pay32]
include hm in
theorem al1 : k0_pay33 (F := Ideal) (k0_pay71 q) (k0_pay3 κ) (k0_pay5 γ) old (ix2 r l) = Ideal.exp (m - M m (sc1 q κ γ r)) := by
  rw [← mx_l1 q κ γ r l old m hm, ← hm l]
  pointwise [k0_pay33, k0_pay27]
include hm in
theorem ed0_0 : k0_pay91 (F := Ideal) (k0_pay70 q) κ γ old (ix2 r l) = Ideal.exp (di0 q κ γ r ⟨l.val, by omega⟩ - M m (di0 q κ γ r)) := by
  rw [← cd0_0 q κ γ r l, ← mx_d0 q κ γ r l old m hm]
  pointwise [k0_pay91]
include hm in
theorem ed0_1 : k0_pay92 (F := Ideal) (k0_pay70 q) κ γ old (ix2 r l) = Ideal.exp (di0 q κ γ r ⟨128 + l.val, by omega⟩ - M m (di0 q κ γ r)) := by
  rw [← cd0_1 q κ γ r l, ← mx_d0 q κ γ r l old m hm]
  pointwise [k0_pay92]
include hm in
theorem ed0_2 : k0_pay93 (F := Ideal) (k0_pay70 q) κ γ old (ix2 r l) = Ideal.exp (di0 q κ γ r ⟨256 + l.val, by omega⟩ - M m (di0 q κ γ r)) := by
  rw [← cd0_2 q κ γ r l, ← mx_d0 q κ γ r l old m hm]
  pointwise [k0_pay93]
include hm in
theorem ed0_3 : k0_pay94 (F := Ideal) (k0_pay70 q) κ γ old (ix2 r l) = Ideal.exp (di0 q κ γ r ⟨384 + l.val, by omega⟩ - M m (di0 q κ γ r)) := by
  rw [← cd0_3 q κ γ r l, ← mx_d0 q κ γ r l old m hm]
  pointwise [k0_pay94]
include hm in
theorem ad0 : k0_pay95 (F := Ideal) (k0_pay70 q) κ γ old (ix2 r l) = Ideal.exp (m - M m (di0 q κ γ r)) := by
  rw [← mx_d0 q κ γ r l old m hm, ← hm l]
  pointwise [k0_pay95, k0_pay89]
include hm in
theorem ed1_0 : k0_pay107 (F := Ideal) (k0_pay100 (k0_pay71 q) (k0_pay81 κ) (k0_pay83 γ)) (k0_pay104 old) (k0_pay105 (k0_pay71 q) (k0_pay81 κ) (k0_pay83 γ)) (ix2 r l) = Ideal.exp (di1 q κ γ r ⟨l.val, by omega⟩ - M m (di1 q κ γ r)) := by
  rw [← cd1_0 q κ γ r l, ← mx_d1 q κ γ r l old m hm]
  pointwise [k0_pay107]
include hm in
theorem ed1_1 : k0_pay108 (F := Ideal) (k0_pay101 (k0_pay71 q) (k0_pay81 κ) (k0_pay83 γ)) (k0_pay104 old) (k0_pay105 (k0_pay71 q) (k0_pay81 κ) (k0_pay83 γ)) (ix2 r l) = Ideal.exp (di1 q κ γ r ⟨128 + l.val, by omega⟩ - M m (di1 q κ γ r)) := by
  rw [← cd1_1 q κ γ r l, ← mx_d1 q κ γ r l old m hm]
  pointwise [k0_pay108]
include hm in
theorem ed1_2 : k0_pay109 (F := Ideal) (k0_pay102 (k0_pay71 q) (k0_pay81 κ) (k0_pay83 γ)) (k0_pay104 old) (k0_pay105 (k0_pay71 q) (k0_pay81 κ) (k0_pay83 γ)) (ix2 r l) = Ideal.exp (di1 q κ γ r ⟨256 + l.val, by omega⟩ - M m (di1 q κ γ r)) := by
  rw [← cd1_2 q κ γ r l, ← mx_d1 q κ γ r l old m hm]
  pointwise [k0_pay109]
include hm in
theorem ed1_3 : k0_pay110 (F := Ideal) (k0_pay103 (k0_pay71 q) (k0_pay81 κ) (k0_pay83 γ)) (k0_pay104 old) (k0_pay105 (k0_pay71 q) (k0_pay81 κ) (k0_pay83 γ)) (ix2 r l) = Ideal.exp (di1 q κ γ r ⟨384 + l.val, by omega⟩ - M m (di1 q κ γ r)) := by
  rw [← cd1_3 q κ γ r l, ← mx_d1 q κ γ r l old m hm]
  pointwise [k0_pay110]
include hm in
theorem ad1 : k0_pay111 (F := Ideal) (k0_pay104 old) (k0_pay105 (k0_pay71 q) (k0_pay81 κ) (k0_pay83 γ)) (ix2 r l) = Ideal.exp (m - M m (di1 q κ γ r)) := by
  rw [← mx_d1 q κ γ r l old m hm, ← hm l]
  pointwise [k0_pay111, k0_pay104]
include hm in
/-- The maximum as stored. -/
theorem sm_l0 : k0_pay20 (F := Ideal) (k0_pay12 (k0_pay70 q) κ γ old) (ix3 0 r l) = M m (sc0 q κ γ r) := by
  rw [← mx_l0 q κ γ r l old m hm]
  pointwise [k0_pay20]
include hm in
/-- The sum as stored. -/
theorem sl_l0 : k0_pay19 (F := Ideal) (k0_pay18 (k0_pay70 q) κ γ old oldL) (ix3 0 r l) = L m (sc0 q κ γ r) (oldL (ix3 0 r l)) l := by
  pointwise [k0_pay19, k0_pay18, el0_0 (hm := hm), el0_1 (hm := hm), el0_2 (hm := hm), el0_3 (hm := hm), al0 (hm := hm), L, fold4]
include hm in
/-- The maximum as stored. -/
theorem sm_l1 : k0_pay76 (F := Ideal) (k0_pay28 (k0_pay71 q) (k0_pay3 κ) (k0_pay5 γ) old) (ix3 0 r l) = M m (sc1 q κ γ r) := by
  rw [← mx_l1 q κ γ r l old m hm]
  pointwise [k0_pay76]
include hm in
/-- The sum as stored. -/
theorem sl_l1 : k0_pay75 (F := Ideal) (k0_pay34 (k0_pay71 q) (k0_pay3 κ) (k0_pay5 γ) old oldL) (ix3 0 r l) = L m (sc1 q κ γ r) (oldL (ix3 0 r l)) l := by
  pointwise [k0_pay75, k0_pay34, el1_0 (hm := hm), el1_1 (hm := hm), el1_2 (hm := hm), el1_3 (hm := hm), al1 (hm := hm), L, fold4]
include hm in
/-- The maximum as stored. -/
theorem sm_d0 : k0_pay97 (F := Ideal) (k0_pay90 (k0_pay70 q) κ γ old) (ix3 0 r l) = M m (di0 q κ γ r) := by
  rw [← mx_d0 q κ γ r l old m hm]
  pointwise [k0_pay97]
include hm in
/-- The sum as stored. -/
theorem sl_d0 : k0_pay96 (F := Ideal) (k0_pay91 (k0_pay70 q) κ γ old) (k0_pay92 (k0_pay70 q) κ γ old) (k0_pay93 (k0_pay70 q) κ γ old) (k0_pay94 (k0_pay70 q) κ γ old) (k0_pay95 (k0_pay70 q) κ γ old) oldL (ix3 0 r l) = L m (di0 q κ γ r) (oldL (ix3 0 r l)) l := by
  pointwise [k0_pay96, ed0_0 (hm := hm), ed0_1 (hm := hm), ed0_2 (hm := hm), ed0_3 (hm := hm), ad0 (hm := hm), L, fold4]
include hm in
/-- The maximum as stored. -/
theorem sm_d1 : k0_pay113 (F := Ideal) (k0_pay104 old) (k0_pay105 (k0_pay71 q) (k0_pay81 κ) (k0_pay83 γ)) (ix3 0 r l) = M m (di1 q κ γ r) := by
  rw [← mx_d1 q κ γ r l old m hm]
  pointwise [k0_pay113]
include hm in
/-- The sum as stored. -/
theorem sl_d1 : k0_pay112 (F := Ideal) (k0_pay100 (k0_pay71 q) (k0_pay81 κ) (k0_pay83 γ)) (k0_pay101 (k0_pay71 q) (k0_pay81 κ) (k0_pay83 γ)) (k0_pay102 (k0_pay71 q) (k0_pay81 κ) (k0_pay83 γ)) (k0_pay103 (k0_pay71 q) (k0_pay81 κ) (k0_pay83 γ)) (k0_pay104 old) (k0_pay105 (k0_pay71 q) (k0_pay81 κ) (k0_pay83 γ)) oldL (ix3 0 r l) = L m (di1 q κ γ r) (oldL (ix3 0 r l)) l := by
  pointwise [k0_pay112, ed1_0 (hm := hm), ed1_1 (hm := hm), ed1_2 (hm := hm), ed1_3 (hm := hm), ad1 (hm := hm), L, fold4]
include hm hm' in
/-- The product as stored, in the loop. -/
theorem sa_l (oldA : FVec Ideal S512x128 .f32) : k0_pay77 (F := Ideal) (k0_pay4 ν) (k0_pay17 (k0_pay70 q) κ γ old) (k0_pay21 (k0_pay4 ν) (k0_pay13 (k0_pay70 q) κ γ old) (k0_pay14 (k0_pay70 q) κ γ old) (k0_pay15 (k0_pay70 q) κ γ old) (k0_pay16 (k0_pay70 q) κ γ old)) (k0_pay29 (k0_pay71 q) (k0_pay3 κ) (k0_pay5 γ) old') (k0_pay30 (k0_pay71 q) (k0_pay3 κ) (k0_pay5 γ) old') (k0_pay31 (k0_pay71 q) (k0_pay3 κ) (k0_pay5 γ) old') (k0_pay32 (k0_pay71 q) (k0_pay3 κ) (k0_pay5 γ) old') (k0_pay33 (k0_pay71 q) (k0_pay3 κ) (k0_pay5 γ) old') oldA (ix2 r l)
    = Acc m m' (sc0 q κ γ r) (sc1 q κ γ r) ν (oldA (ix2 r l)) l := by
  pointwise [k0_pay77, k0_pay21, k0_pay68, k0_pay4, al0 (hm := hm), al1 (hm := hm'), el0_0 (hm := hm), el0_1 (hm := hm), el0_2 (hm := hm), el0_3 (hm := hm), el1_0 (hm := hm'), el1_1 (hm := hm'), el1_2 (hm := hm'), el1_3 (hm := hm'), Acc, P]
  refine congrArg _ (congrArg₂ _ (Finset.sum_congr rfl fun x _ => ?_) (Finset.sum_congr rfl fun x _ => ?_)) <;> congr 1 <;> split_ifs <;>
    exact congrArg (fun z : EReal => Ideal.exp (z - _)) (D_at (by first | rfl | omega | (dsimp only; omega)))
include hm hm' in
/-- The product as stored, on the diagonal. -/
theorem sa_d (oldA : FVec Ideal S512x128 .f32) : k0_pay114 (F := Ideal) k0_pay68 (k0_pay82 ν) (k0_pay95 (k0_pay70 q) κ γ old) (k0_pay98 (k0_pay82 ν) (k0_pay91 (k0_pay70 q) κ γ old) (k0_pay92 (k0_pay70 q) κ γ old) (k0_pay93 (k0_pay70 q) κ γ old) (k0_pay94 (k0_pay70 q) κ γ old)) (k0_pay100 (k0_pay71 q) (k0_pay81 κ) (k0_pay83 γ)) (k0_pay101 (k0_pay71 q) (k0_pay81 κ) (k0_pay83 γ)) (k0_pay102 (k0_pay71 q) (k0_pay81 κ) (k0_pay83 γ)) (k0_pay103 (k0_pay71 q) (k0_pay81 κ) (k0_pay83 γ)) (k0_pay104 old') (k0_pay105 (k0_pay71 q) (k0_pay81 κ) (k0_pay83 γ)) oldA (ix2 r l)
    = Acc m m' (di0 q κ γ r) (di1 q κ γ r) ν (oldA (ix2 r l)) l := by
  pointwise [k0_pay114, k0_pay98, k0_pay68, k0_pay82, ad0 (hm := hm), ad1 (hm := hm'), ed0_0 (hm := hm), ed0_1 (hm := hm), ed0_2 (hm := hm), ed0_3 (hm := hm), ed1_0 (hm := hm'), ed1_1 (hm := hm'), ed1_2 (hm := hm'), ed1_3 (hm := hm'), Acc, P]
  refine congrArg _ (congrArg₂ _ (Finset.sum_congr rfl fun x _ => ?_) (Finset.sum_congr rfl fun x _ => ?_)) <;> congr 1 <;> split_ifs <;>
    exact congrArg (fun z : EReal => Ideal.exp (z - _)) (D_at (by first | rfl | omega | (dsimp only; omega)))
end
end Cert.Proof.AttF
end
-- ==== Proof.AttFLoop.lean ====
/- The forward attention: the loop over the key blocks below the diagonal, as a running maximum, sum and product. -/
module

public import proofs.«01_k».proof.Proof.AttFTile
public import proofs.«01_k».proof.Proof.AttQLoop
public import proofs.«01_k».proof.Proof.AttCanon

@[expose] public section

set_option maxRecDepth 16384

noncomputable section

namespace Cert.Proof.AttF
open Idealize.ShloMosaic Idealize.ShloMosaic.TcCoe Idealize.SL.Sem
open Cert.AttFIdeal Cert.AttFIdeal.Gen
open Cert.Proof.AttQ (fold4 sc0 sc1)

/-- The running maximum after `n` blocks of scores. -/
def mx (X : Fin 32 → Fin 512 → EReal) : ℕ → EReal
  | 0 => ⊥
  | n + 1 => if h : n < 32 then M (mx X n) (X ⟨n, h⟩) else mx X n
/-- Lane `l` of the running sum of exponentials. -/
def ls (X : Fin 32 → Fin 512 → EReal) (l : Fin 128) : ℕ → EReal
  | 0 => 0
  | n + 1 => if h : n < 32 then L (mx X n) (X ⟨n, h⟩) (ls X l n) l else ls X l n
/-- Lane `l` of the running product with the values. -/
def ac (X0 X1 : Fin 32 → Fin 512 → EReal) (V : Fin 32 → FVec Ideal S512x128 .bf16) (l : Fin 128) : ℕ → EReal
  | 0 => 0
  | n + 1 => if h : n < 32 then Acc (mx X0 n) (mx X1 n) (X0 ⟨n, h⟩) (X1 ⟨n, h⟩) (V ⟨n, h⟩) (ac X0 X1 V l n) l else ac X0 X1 V l n

theorem trips0 (i : grid0.Coords) : (k0_t1_loop i 0#32).trips = (i 1).val := AttQ.trips0 i

theorem off2 (i : grid0.Coords) (k : Fin (k0_t1_loop i 0#32).trips) : k0_off2 i 0#32 k = ![512 * k.val, 0] := AttQ.off2 i k

theorem off3 (i : grid0.Coords) (k : Fin (k0_t1_loop i 0#32).trips) : k0_off3 i 0#32 k = ![0, k.val, 0, 0] := AttQ.off3 i k

/-- The rows of key block `b`. -/
def KB (x : FVec Ideal S16384x128 .bf16) (b : Fin 32) : FVec Ideal S512x128 .bf16 := AttQ.KB x b
/-- The column gates of block `b`. -/
def CB (x : FVec Ideal S1x32x2x512 .f32) (b : Fin 32) : FVec Ideal S1x1x2x512 .f32 := AttQ.CB x b

theorem ldK (x : FVec Ideal S16384x128 .bf16) (b : Fin 32) (off : Fin 2 → ℕ) (h : off = ![512 * b.val, 0]) (inb) :
    View.ld (Val := Elt Ideal) (e' := .bf16) x (Rect.unit (s := S16384x128) off S512x128.size inb) = KB x b := AttQ.ldK x b off h inb

theorem ldC (x : FVec Ideal S1x32x2x512 .f32) (b : Fin 32) (off : Fin 4 → ℕ) (h : off = ![0, b.val, 0, 0]) (inb) :
    View.ld (Val := Elt Ideal) (e' := .f32) x (Rect.unit (s := S1x32x2x512) off S1x1x2x512.size inb) = CB x b := AttQ.ldC x b off h inb

section
variable (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x32x2x512 .f32) (harg6 : arg6.IsWhole) (arg7 : Memref sig .tc .vmem S512x128 .f32) (harg7 : arg7.IsWhole) (arg8 : Memref sig .tc .vmem S1x512x2 .f32) (harg8 : arg8.IsWhole) (arg9 : Memref sig .tc .vmem S1x1x2x512 .f32) (harg9 : arg9.IsWhole) (arg10 : Memref sig .tc .vmem S512x128 .f32) (harg10 : arg10.IsWhole) (arg11 : Memref sig .tc .vmem S2x512x128 .f32) (harg11 : arg11.IsWhole) (arg12 : Memref sig .tc .vmem S2x512x128 .f32) (harg12 : arg12.IsWhole)
  (q : FVec Ideal S512x128 .bf16) (x2 x3 : FVec Ideal S16384x128 .bf16) (x4 : FVec Ideal S1x32x2x512 .f32) (hw1 : k0_chk1 i 0#32)

/-- One trip's stores: the running values read, then brought up to block `b`. -/
theorem trip (k : Fin (k0_t1_loop i 0#32).trips) (b : Fin 32) (hb : b.val = k.val) (f10 f11 f12) :
    tripL_k0_t1 (F := Ideal) 𝒱 c bd i arg2 harg2 arg3 harg3 arg4 harg4 arg5 harg5 arg6 harg6 arg7 harg7 arg8 harg8 arg9 harg9 arg10 harg10 arg11 harg11 arg12 harg12 q 0#32 hw1 (harg4.unread x2) (harg5.unread x3) (harg6.unread x4) k f10 f11 f12
    = ([⟨Rect.unit ![0, 0] ![512, 128] inb_S512x128_S512x128_0_0, k0_pay77 (k0_pay4 (KB x3 b)) (k0_pay17 (k0_pay70 q) (KB x2 b) (CB x4 b) (View.ld (View.read (Elt Ideal) arg11.view f11) (Rect.unit ![0, 0, 0] ![1, 512, 128] inb_S2x512x128_S1x512x128_0_0_0))) (k0_pay21 (k0_pay4 (KB x3 b)) (k0_pay13 (k0_pay70 q) (KB x2 b) (CB x4 b) (View.ld (View.read (Elt Ideal) arg11.view f11) (Rect.unit ![0, 0, 0] ![1, 512, 128] inb_S2x512x128_S1x512x128_0_0_0))) (k0_pay14 (k0_pay70 q) (KB x2 b) (CB x4 b) (View.ld (View.read (Elt Ideal) arg11.view f11) (Rect.unit ![0, 0, 0] ![1, 512, 128] inb_S2x512x128_S1x512x128_0_0_0))) (k0_pay15 (k0_pay70 q) (KB x2 b) (CB x4 b) (View.ld (View.read (Elt Ideal) arg11.view f11) (Rect.unit ![0, 0, 0] ![1, 512, 128] inb_S2x512x128_S1x512x128_0_0_0))) (k0_pay16 (k0_pay70 q) (KB x2 b) (CB x4 b) (View.ld (View.read (Elt Ideal) arg11.view f11) (Rect.unit ![0, 0, 0] ![1, 512, 128] inb_S2x512x128_S1x512x128_0_0_0)))) (k0_pay29 (k0_pay71 q) (k0_pay3 (KB x2 b)) (k0_pay5 (CB x4 b)) (View.ld (View.read (Elt Ideal) arg11.view f11) (Rect.unit ![1, 0, 0] ![1, 512, 128] inb_S2x512x128_S1x512x128_1_0_0))) (k0_pay30 (k0_pay71 q) (k0_pay3 (KB x2 b)) (k0_pay5 (CB x4 b)) (View.ld (View.read (Elt Ideal) arg11.view f11) (Rect.unit ![1, 0, 0] ![1, 512, 128] inb_S2x512x128_S1x512x128_1_0_0))) (k0_pay31 (k0_pay71 q) (k0_pay3 (KB x2 b)) (k0_pay5 (CB x4 b)) (View.ld (View.read (Elt Ideal) arg11.view f11) (Rect.unit ![1, 0, 0] ![1, 512, 128] inb_S2x512x128_S1x512x128_1_0_0))) (k0_pay32 (k0_pay71 q) (k0_pay3 (KB x2 b)) (k0_pay5 (CB x4 b)) (View.ld (View.read (Elt Ideal) arg11.view f11) (Rect.unit ![1, 0, 0] ![1, 512, 128] inb_S2x512x128_S1x512x128_1_0_0))) (k0_pay33 (k0_pay71 q) (k0_pay3 (KB x2 b)) (k0_pay5 (CB x4 b)) (View.ld (View.read (Elt Ideal) arg11.view f11) (Rect.unit ![1, 0, 0] ![1, 512, 128] inb_S2x512x128_S1x512x128_1_0_0))) (View.ld (View.read (Elt Ideal) arg10.view f10) (Rect.unit ![0, 0] ![512, 128] inb_S512x128_S512x128_0_0))⟩],
      [⟨Rect.unit ![1, 0, 0] ![1, 512, 128] inb_S2x512x128_S1x512x128_1_0_0, k0_pay76 (k0_pay28 (k0_pay71 q) (k0_pay3 (KB x2 b)) (k0_pay5 (CB x4 b)) (View.ld (View.read (Elt Ideal) arg11.view f11) (Rect.unit ![1, 0, 0] ![1, 512, 128] inb_S2x512x128_S1x512x128_1_0_0)))⟩, ⟨Rect.unit ![0, 0, 0] ![1, 512, 128] inb_S2x512x128_S1x512x128_0_0_0, k0_pay20 (k0_pay12 (k0_pay70 q) (KB x2 b) (CB x4 b) (View.ld (View.read (Elt Ideal) arg11.view f11) (Rect.unit ![0, 0, 0] ![1, 512, 128] inb_S2x512x128_S1x512x128_0_0_0)))⟩],
      [⟨Rect.unit ![1, 0, 0] ![1, 512, 128] inb_S2x512x128_S1x512x128_1_0_0, k0_pay75 (k0_pay34 (k0_pay71 q) (k0_pay3 (KB x2 b)) (k0_pay5 (CB x4 b)) (View.ld (View.read (Elt Ideal) arg11.view f11) (Rect.unit ![1, 0, 0] ![1, 512, 128] inb_S2x512x128_S1x512x128_1_0_0)) (View.ld (View.read (Elt Ideal) arg12.view f12) (Rect.unit ![1, 0, 0] ![1, 512, 128] inb_S2x512x128_S1x512x128_1_0_0)))⟩, ⟨Rect.unit ![0, 0, 0] ![1, 512, 128] inb_S2x512x128_S1x512x128_0_0_0, k0_pay19 (k0_pay18 (k0_pay70 q) (KB x2 b) (CB x4 b) (View.ld (View.read (Elt Ideal) arg11.view f11) (Rect.unit ![0, 0, 0] ![1, 512, 128] inb_S2x512x128_S1x512x128_0_0_0)) (View.ld (View.read (Elt Ideal) arg12.view f12) (Rect.unit ![0, 0, 0] ![1, 512, 128] inb_S2x512x128_S1x512x128_0_0_0)))⟩]) := by
  have h2 : k0_off2 i 0#32 k = ![512 * b.val, 0] := by rw [off2, hb]
  have h3 : k0_off3 i 0#32 k = ![0, b.val, 0, 0] := by rw [off3, hb]
  rw [← ldK x2 b _ h2 (hw1.2.2.1 k), ← ldK x3 b _ h2 (hw1.2.2.1 k), ← ldC x4 b _ h3 (hw1.2.2.2.1 k)]
  unfold tripL_k0_t1 trip_k0_t1
  dsimp only
  unfold trip_k0_t1.sl.r_17 trip_k0_t1.sl.r_16 trip_k0_t1.sl.r_15 trip_k0_t1.sl.r_14 trip_k0_t1.sl.r_13 trip_k0_t1.sl.r_12 trip_k0_t1.sl.r_11 trip_k0_t1.sl.r_10 trip_k0_t1.sl.r_9 trip_k0_t1.sl.r_8 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r trip_k0_t1.sl.v264 trip_k0_t1.sl.v280
  simp only [View.readAt_eq_ld, harg4.read_unread, harg5.read_unread, harg6.read_unread]

/-- Row `r`'s scores against block `b`, first head. -/
def S0 (r : Fin 512) (b : Fin 32) : Fin 512 → EReal := sc0 q (KB x2 b) (CB x4 b) r
/-- The same for the second head. -/
def S1 (r : Fin 512) (b : Fin 32) : Fin 512 → EReal := sc1 q (KB x2 b) (CB x4 b) r

/-- The stores of the trips before `n`. -/
abbrev pb (A0 : List (View.Piece (Elt Ideal) S512x128 .f32)) (B0 C0 : List (View.Piece (Elt Ideal) S2x512x128 .f32)) (n : ℕ) :=
  pb_k0_t1 (F := Ideal) 𝒱 c bd i arg2 harg2 arg3 harg3 arg4 harg4 arg5 harg5 arg6 harg6 arg7 harg7 arg8 harg8 arg9 harg9 arg10 harg10 arg11 harg11 arg12 harg12 q 0#32 hw1 (harg4.unread x2) (harg5.unread x3) (harg6.unread x4) (arg10.view.writes (Elt Ideal) arg10.view.junk A0) (arg11.view.writes (Elt Ideal) arg11.view.junk B0) (arg12.view.writes (Elt Ideal) arg12.view.junk C0) n

/-- One head's box of a running value reads it at its own rows. -/
theorem head (X : S2x512x128.Idx → Elt Ideal .f32) (e : Fin 2) (inb) (r : Fin 512) (l : Fin 128) :
    View.ld (Val := Elt Ideal) (e' := .f32) X (Rect.unit (s := S2x512x128) ![e.val, 0, 0] ![1, 512, 128] inb) (ix3 0 r l) = X (ix3 e r l) :=
  View.ld_unit_apply_of (Val := Elt Ideal) (e := .f32) X _ _ inb _ _ fun a => match a with
    | ⟨0, _⟩ => rfl
    | ⟨1, _⟩ => (Nat.zero_add _).symm
    | ⟨2, _⟩ => (Nat.zero_add _).symm

theorem whole (X : S512x128.Idx → Elt Ideal .f32) (inb) (r : Fin 512) (l : Fin 128) :
    View.ld (Val := Elt Ideal) (e' := .f32) X (Rect.unit (s := S512x128) ![0, 0] ![512, 128] inb) (ix2 r l) = X (ix2 r l) :=
  View.ld_unit_apply_of (Val := Elt Ideal) (e := .f32) X _ _ inb _ _ fun a => match a with
    | ⟨0, _⟩ => (Nat.zero_add _).symm
    | ⟨1, _⟩ => (Nat.zero_add _).symm

/-- A store of one head's box, read in that head. -/
theorem hit3 (X : List (View.Piece (Elt Ideal) S2x512x128 .f32)) (e : Fin 2) (inb) (w : FVec Ideal S1x512x128 .f32) (r : Fin 512) (l : Fin 128) :
    View.canon (⟨Rect.unit (s := S2x512x128) ![e.val, 0, 0] ![1, 512, 128] inb, w⟩ :: X) (ix3 e r l) = w (ix3 0 r l) := by
  refine Att.hit w X _ (ix3 0 r l) fun a => ?_
  match a with
  | ⟨0, _⟩ => exact (Nat.add_zero _).symm
  | ⟨1, _⟩ => exact (Nat.zero_add _).symm
  | ⟨2, _⟩ => exact (Nat.zero_add _).symm

theorem hit2 (X : List (View.Piece (Elt Ideal) S512x128 .f32)) (inb) (w : FVec Ideal S512x128 .f32) (r : Fin 512) (l : Fin 128) :
    View.canon (⟨Rect.unit (s := S512x128) ![0, 0] ![512, 128] inb, w⟩ :: X) (ix2 r l) = w (ix2 r l) :=
  Att.hit w X _ (ix2 r l) fun a => match a with
    | ⟨0, _⟩ => (Nat.zero_add _).symm
    | ⟨1, _⟩ => (Nat.zero_add _).symm

theorem inv (A0 : List (View.Piece (Elt Ideal) S512x128 .f32)) (B0 C0 : List (View.Piece (Elt Ideal) S2x512x128 .f32)) (hA : ∀ r l, View.canon A0 (ix2 r l) = 0) (hB : ∀ e r l, View.canon B0 (ix3 e r l) = ⊥) (hC : ∀ e r l, View.canon C0 (ix3 e r l) = 0)
    (n : ℕ) (hn : n ≤ (i 1).val) :
    (∀ r l, View.canon ((pb 𝒱 c bd i arg2 harg2 arg3 harg3 arg4 harg4 arg5 harg5 arg6 harg6 arg7 harg7 arg8 harg8 arg9 harg9 arg10 harg10 arg11 harg11 arg12 harg12 q x2 x3 x4 hw1 A0 B0 C0 n).1 ++ A0) (ix2 r l) = ac (S0 q x2 x4 r) (S1 q x2 x4 r) (KB x3) l n) ∧
    (∀ r l, View.canon ((pb 𝒱 c bd i arg2 harg2 arg3 harg3 arg4 harg4 arg5 harg5 arg6 harg6 arg7 harg7 arg8 harg8 arg9 harg9 arg10 harg10 arg11 harg11 arg12 harg12 q x2 x3 x4 hw1 A0 B0 C0 n).2.1 ++ B0) (ix3 0 r l) = mx (S0 q x2 x4 r) n) ∧
    (∀ r l, View.canon ((pb 𝒱 c bd i arg2 harg2 arg3 harg3 arg4 harg4 arg5 harg5 arg6 harg6 arg7 harg7 arg8 harg8 arg9 harg9 arg10 harg10 arg11 harg11 arg12 harg12 q x2 x3 x4 hw1 A0 B0 C0 n).2.1 ++ B0) (ix3 1 r l) = mx (S1 q x2 x4 r) n) ∧
    (∀ r l, View.canon ((pb 𝒱 c bd i arg2 harg2 arg3 harg3 arg4 harg4 arg5 harg5 arg6 harg6 arg7 harg7 arg8 harg8 arg9 harg9 arg10 harg10 arg11 harg11 arg12 harg12 q x2 x3 x4 hw1 A0 B0 C0 n).2.2 ++ C0) (ix3 0 r l) = ls (S0 q x2 x4 r) l n) ∧
    (∀ r l, View.canon ((pb 𝒱 c bd i arg2 harg2 arg3 harg3 arg4 harg4 arg5 harg5 arg6 harg6 arg7 harg7 arg8 harg8 arg9 harg9 arg10 harg10 arg11 harg11 arg12 harg12 q x2 x3 x4 hw1 A0 B0 C0 n).2.2 ++ C0) (ix3 1 r l) = ls (S1 q x2 x4 r) l n) := by
  induction n with
  | zero =>
    unfold pb pb_k0_t1
    simp only [List.nil_append]
    exact ⟨hA, hB 0, hB 1, hC 0, hC 1⟩
  | succ n ih =>
    obtain ⟨ia, i0, i1, j0, j1⟩ := ih (by omega)
    have hk : n < (k0_t1_loop i 0#32).trips := by rw [trips0]; omega
    have h32 : n < 32 := lt_of_lt_of_le (Nat.lt_of_succ_le hn) (Nat.le_of_lt (i 1).isLt)
    have e := pb_k0_t1_succ (F := Ideal) 𝒱 c bd i arg2 harg2 arg3 harg3 arg4 harg4 arg5 harg5 arg6 harg6 arg7 harg7 arg8 harg8 arg9 harg9 arg10 harg10 arg11 harg11 arg12 harg12 q 0#32 hw1 (harg4.unread x2) (harg5.unread x3) (harg6.unread x4) (arg10.view.writes (Elt Ideal) arg10.view.junk A0) (arg11.view.writes (Elt Ideal) arg11.view.junk B0) (arg12.view.writes (Elt Ideal) arg12.view.junk C0) ⟨n, hk⟩
    rw [trip 𝒱 c bd i arg2 harg2 arg3 harg3 arg4 harg4 arg5 harg5 arg6 harg6 arg7 harg7 arg8 harg8 arg9 harg9 arg10 harg10 arg11 harg11 arg12 harg12 q x2 x3 x4 hw1 ⟨n, hk⟩ ⟨n, h32⟩ rfl] at e
    unfold pb at ia i0 i1 j0 j1 ⊢
    dsimp only at e
    rw [e]
    simp only [← View.writes_append, View.read_writes_junk_eq_canon, List.cons_append, List.nil_append]
    have o0 := fun r l => (head _ 0 inb_S2x512x128_S1x512x128_0_0_0 r l).trans (i0 r l)
    have o1 := fun r l => (head _ 1 inb_S2x512x128_S1x512x128_1_0_0 r l).trans (i1 r l)
    refine ⟨fun r l => ?_, fun r l => ?_, fun r l => ?_, fun r l => ?_, fun r l => ?_⟩
    · rw [ac, dif_pos h32]
      refine (hit2 _ _ _ r l).trans ((sa_l q _ _ _ r l _ _ _ _ (o0 r) (o1 r) _).trans ?_)
      rw [whole, ia r l]
      rfl
    · rw [mx, dif_pos h32, Att.miss _ _ _ 0 (Or.inl Nat.zero_lt_one)]
      exact (hit3 _ 0 _ _ r l).trans (sm_l0 q _ _ r l _ _ (o0 r))
    · rw [mx, dif_pos h32]
      exact (hit3 _ 1 _ _ r l).trans (sm_l1 q _ _ r l _ _ (o1 r))
    · rw [ls, dif_pos h32, Att.miss _ _ _ 0 (Or.inl Nat.zero_lt_one)]
      refine (hit3 _ 0 _ _ r l).trans ((sl_l0 q _ _ r l _ _ _ (o0 r)).trans ?_)
      exact congrArg (fun z => L _ _ z l) ((head _ 0 _ r l).trans (j0 r l))
    · rw [ls, dif_pos h32]
      refine (hit3 _ 1 _ _ r l).trans ((sl_l1 q _ _ r l _ _ _ (o1 r)).trans ?_)
      exact congrArg (fun z => L _ _ z l) ((head _ 1 _ r l).trans (j1 r l))
end
end Cert.Proof.AttF
end
-- ==== Proof.AttFOut.lean ====
/- The forward attention: the diagonal block, and the three outputs of one grid step. -/
module

public import proofs.«01_k».proof.Proof.AttFLoop
public import proofs.«01_k».proof.Proof.AttQOut
public import proofs.«01_k».proof.Proof.AttSpec

@[expose] public section

set_option maxRecDepth 16384

noncomputable section

namespace Cert.Proof.AttF
open Idealize.ShloMosaic Idealize.ShloMosaic.TcCoe Idealize.SL.Sem
open Cert.AttFIdeal Cert.AttFIdeal.Gen
open Cert.Proof.AttQ (fold4 sc0 sc1)

/-- A store of the first head's box, read in the second head. -/
theorem miss1 (X : List (View.Piece (Elt Ideal) S2x512x128 .f32)) (inb) (w : FVec Ideal S1x512x128 .f32) (r : Fin 512) (l : Fin 128) :
    View.canon (⟨Rect.unit (s := S2x512x128) ![0, 0, 0] ![1, 512, 128] inb, w⟩ :: X) (ix3 1 r l) = View.canon X (ix3 1 r l) := by
  refine Att.miss _ _ _ 0 (Or.inr ?_)
  exact Nat.le_refl 1

section
variable (q κ ν : FVec Ideal S512x128 .bf16) (γ : FVec Ideal S1x1x2x512 .f32) (r : Fin 512) (l : Fin 128)
  (X0 : List (View.Piece (Elt Ideal) S512x128 .f32)) (X1 X2 : List (View.Piece (Elt Ideal) S2x512x128 .f32)) (w w' : FVec Ideal S1x512x128 .f32)
  (m0 m1 : EReal) (h0 : ∀ l, View.canon X1 (ix3 0 r l) = m0) (h1 : ∀ l, View.canon X1 (ix3 1 r l) = m1)

include h0 in
theorem box0 (l : Fin 128) : (fun j => View.canon X1 ((Rect.unit (s := S2x512x128) ![0, 0, 0] ![1, 512, 128] inb_S2x512x128_S1x512x128_0_0_0).toLoadRect.idx j)) (ix3 0 r l) = m0 := (head _ 0 _ r l).trans (h0 l)
include h1 in
theorem box1 (l : Fin 128) : (fun j => View.canon (⟨Rect.unit ![0, 0, 0] ![1, 512, 128] inb_S2x512x128_S1x512x128_0_0_0, w⟩ :: X1) ((Rect.unit (s := S2x512x128) ![1, 0, 0] ![1, 512, 128] inb_S2x512x128_S1x512x128_1_0_0).toLoadRect.idx j)) (ix3 0 r l) = m1 := by
  refine (head _ 1 _ r l).trans ?_
  refine (miss1 _ _ _ r l).trans (h1 l)

include h0 in
/-- The maximum after the diagonal block. -/
theorem dM0 : View.canon (⟨Rect.unit ![1, 0, 0] ![1, 512, 128] inb_S2x512x128_S1x512x128_1_0_0, w⟩ :: ⟨Rect.unit ![0, 0, 0] ![1, 512, 128] inb_S2x512x128_S1x512x128_0_0_0, k0_pay97 (k0_pay90 (k0_pay70 q) κ γ (fun j => View.canon X1 ((Rect.unit (s := S2x512x128) ![0, 0, 0] ![1, 512, 128] inb_S2x512x128_S1x512x128_0_0_0).toLoadRect.idx j)))⟩ :: X1) (ix3 0 r l) = M m0 (di0 q κ γ r) := by
  rw [Att.miss _ _ _ 0 (Or.inl Nat.zero_lt_one)]
  exact (hit3 _ 0 _ _ r l).trans (sm_d0 q κ γ r l _ _ (box0 r X1 m0 h0))
include h1 in
theorem dM1 : View.canon (⟨Rect.unit ![1, 0, 0] ![1, 512, 128] inb_S2x512x128_S1x512x128_1_0_0, k0_pay113 (k0_pay104 (fun j => View.canon (⟨Rect.unit ![0, 0, 0] ![1, 512, 128] inb_S2x512x128_S1x512x128_0_0_0, w⟩ :: X1) ((Rect.unit (s := S2x512x128) ![1, 0, 0] ![1, 512, 128] inb_S2x512x128_S1x512x128_1_0_0).toLoadRect.idx j))) (k0_pay105 (k0_pay71 q) (k0_pay81 κ) (k0_pay83 γ))⟩ :: ⟨Rect.unit ![0, 0, 0] ![1, 512, 128] inb_S2x512x128_S1x512x128_0_0_0, w⟩ :: X1) (ix3 1 r l) = M m1 (di1 q κ γ r) :=
  (hit3 _ 1 _ _ r l).trans (sm_d1 q κ γ r l _ _ (box1 r X1 w m1 h1))
include h0 in
/-- The sum after it. -/
theorem dL0 : View.canon (⟨Rect.unit ![1, 0, 0] ![1, 512, 128] inb_S2x512x128_S1x512x128_1_0_0, w⟩ :: ⟨Rect.unit ![0, 0, 0] ![1, 512, 128] inb_S2x512x128_S1x512x128_0_0_0, k0_pay96 (k0_pay91 (k0_pay70 q) κ γ (fun j => View.canon X1 ((Rect.unit (s := S2x512x128) ![0, 0, 0] ![1, 512, 128] inb_S2x512x128_S1x512x128_0_0_0).toLoadRect.idx j))) (k0_pay92 (k0_pay70 q) κ γ (fun j => View.canon X1 ((Rect.unit (s := S2x512x128) ![0, 0, 0] ![1, 512, 128] inb_S2x512x128_S1x512x128_0_0_0).toLoadRect.idx j))) (k0_pay93 (k0_pay70 q) κ γ (fun j => View.canon X1 ((Rect.unit (s := S2x512x128) ![0, 0, 0] ![1, 512, 128] inb_S2x512x128_S1x512x128_0_0_0).toLoadRect.idx j))) (k0_pay94 (k0_pay70 q) κ γ (fun j => View.canon X1 ((Rect.unit (s := S2x512x128) ![0, 0, 0] ![1, 512, 128] inb_S2x512x128_S1x512x128_0_0_0).toLoadRect.idx j))) (k0_pay95 (k0_pay70 q) κ γ (fun j => View.canon X1 ((Rect.unit (s := S2x512x128) ![0, 0, 0] ![1, 512, 128] inb_S2x512x128_S1x512x128_0_0_0).toLoadRect.idx j))) (fun j => View.canon X2 ((Rect.unit (s := S2x512x128) ![0, 0, 0] ![1, 512, 128] inb_S2x512x128_S1x512x128_0_0_0).toLoadRect.idx j))⟩ :: X2) (ix3 0 r l) = L m0 (di0 q κ γ r) (View.canon X2 (ix3 0 r l)) l := by
  rw [Att.miss _ _ _ 0 (Or.inl Nat.zero_lt_one)]
  refine (hit3 _ 0 _ _ r l).trans ((sl_d0 q κ γ r l _ _ _ (box0 r X1 m0 h0)).trans ?_)
  exact congrArg (fun z => L _ _ z l) (head _ 0 _ r l)
include h1 in
theorem dL1 : View.canon (⟨Rect.unit ![1, 0, 0] ![1, 512, 128] inb_S2x512x128_S1x512x128_1_0_0, k0_pay112 (k0_pay100 (k0_pay71 q) (k0_pay81 κ) (k0_pay83 γ)) (k0_pay101 (k0_pay71 q) (k0_pay81 κ) (k0_pay83 γ)) (k0_pay102 (k0_pay71 q) (k0_pay81 κ) (k0_pay83 γ)) (k0_pay103 (k0_pay71 q) (k0_pay81 κ) (k0_pay83 γ)) (k0_pay104 (fun j => View.canon (⟨Rect.unit ![0, 0, 0] ![1, 512, 128] inb_S2x512x128_S1x512x128_0_0_0, w'⟩ :: X1) ((Rect.unit (s := S2x512x128) ![1, 0, 0] ![1, 512, 128] inb_S2x512x128_S1x512x128_1_0_0).toLoadRect.idx j))) (k0_pay105 (k0_pay71 q) (k0_pay81 κ) (k0_pay83 γ)) (fun j => View.canon (⟨Rect.unit ![0, 0, 0] ![1, 512, 128] inb_S2x512x128_S1x512x128_0_0_0, w⟩ :: X2) ((Rect.unit (s := S2x512x128) ![1, 0, 0] ![1, 512, 128] inb_S2x512x128_S1x512x128_1_0_0).toLoadRect.idx j))⟩ :: ⟨Rect.unit ![0, 0, 0] ![1, 512, 128] inb_S2x512x128_S1x512x128_0_0_0, w⟩ :: X2) (ix3 1 r l) = L m1 (di1 q κ γ r) (View.canon X2 (ix3 1 r l)) l := by
  have hb : ∀ l, (fun j => View.canon (⟨Rect.unit ![0, 0, 0] ![1, 512, 128] inb_S2x512x128_S1x512x128_0_0_0, w'⟩ :: X1) ((Rect.unit (s := S2x512x128) ![1, 0, 0] ![1, 512, 128] inb_S2x512x128_S1x512x128_1_0_0).toLoadRect.idx j)) (ix3 0 r l) = m1 := box1 r X1 w' m1 h1
  have e := sl_d1 q κ γ r l (fun j => View.canon (⟨Rect.unit ![0, 0, 0] ![1, 512, 128] inb_S2x512x128_S1x512x128_0_0_0, w'⟩ :: X1) ((Rect.unit (s := S2x512x128) ![1, 0, 0] ![1, 512, 128] inb_S2x512x128_S1x512x128_1_0_0).toLoadRect.idx j)) (fun j => View.canon (⟨Rect.unit ![0, 0, 0] ![1, 512, 128] inb_S2x512x128_S1x512x128_0_0_0, w⟩ :: X2) ((Rect.unit (s := S2x512x128) ![1, 0, 0] ![1, 512, 128] inb_S2x512x128_S1x512x128_1_0_0).toLoadRect.idx j)) m1
  have e' := e hb
  refine (hit3 _ 1 _ _ r l).trans (e'.trans ?_)
  refine congrArg (fun z => L _ _ z l) ((head _ 1 _ r l).trans ?_)
  exact miss1 _ _ _ r l
include h0 h1 in
/-- The product after it. -/
theorem dA : View.canon (⟨Rect.unit ![0, 0] ![512, 128] inb_S512x128_S512x128_0_0, k0_pay114 k0_pay68 (k0_pay82 ν) (k0_pay95 (k0_pay70 q) κ γ (fun j => View.canon X1 ((Rect.unit (s := S2x512x128) ![0, 0, 0] ![1, 512, 128] inb_S2x512x128_S1x512x128_0_0_0).toLoadRect.idx j))) (k0_pay98 (k0_pay82 ν) (k0_pay91 (k0_pay70 q) κ γ (fun j => View.canon X1 ((Rect.unit (s := S2x512x128) ![0, 0, 0] ![1, 512, 128] inb_S2x512x128_S1x512x128_0_0_0).toLoadRect.idx j))) (k0_pay92 (k0_pay70 q) κ γ (fun j => View.canon X1 ((Rect.unit (s := S2x512x128) ![0, 0, 0] ![1, 512, 128] inb_S2x512x128_S1x512x128_0_0_0).toLoadRect.idx j))) (k0_pay93 (k0_pay70 q) κ γ (fun j => View.canon X1 ((Rect.unit (s := S2x512x128) ![0, 0, 0] ![1, 512, 128] inb_S2x512x128_S1x512x128_0_0_0).toLoadRect.idx j))) (k0_pay94 (k0_pay70 q) κ γ (fun j => View.canon X1 ((Rect.unit (s := S2x512x128) ![0, 0, 0] ![1, 512, 128] inb_S2x512x128_S1x512x128_0_0_0).toLoadRect.idx j)))) (k0_pay100 (k0_pay71 q) (k0_pay81 κ) (k0_pay83 γ)) (k0_pay101 (k0_pay71 q) (k0_pay81 κ) (k0_pay83 γ)) (k0_pay102 (k0_pay71 q) (k0_pay81 κ) (k0_pay83 γ)) (k0_pay103 (k0_pay71 q) (k0_pay81 κ) (k0_pay83 γ)) (k0_pay104 (fun j => View.canon (⟨Rect.unit ![0, 0, 0] ![1, 512, 128] inb_S2x512x128_S1x512x128_0_0_0, w⟩ :: X1) ((Rect.unit (s := S2x512x128) ![1, 0, 0] ![1, 512, 128] inb_S2x512x128_S1x512x128_1_0_0).toLoadRect.idx j))) (k0_pay105 (k0_pay71 q) (k0_pay81 κ) (k0_pay83 γ)) (fun j => View.canon X0 ((Rect.unit (s := S512x128) ![0, 0] ![512, 128] inb_S512x128_S512x128_0_0).toLoadRect.idx j))⟩ :: X0) (ix2 r l)
    = Acc m0 m1 (di0 q κ γ r) (di1 q κ γ r) ν (View.canon X0 (ix2 r l)) l := by
  have ha : ∀ l, (fun j => View.canon X1 ((Rect.unit (s := S2x512x128) ![0, 0, 0] ![1, 512, 128] inb_S2x512x128_S1x512x128_0_0_0).toLoadRect.idx j)) (ix3 0 r l) = m0 := box0 r X1 m0 h0
  have hb : ∀ l, (fun j => View.canon (⟨Rect.unit ![0, 0, 0] ![1, 512, 128] inb_S2x512x128_S1x512x128_0_0_0, w⟩ :: X1) ((Rect.unit (s := S2x512x128) ![1, 0, 0] ![1, 512, 128] inb_S2x512x128_S1x512x128_1_0_0).toLoadRect.idx j)) (ix3 0 r l) = m1 := box1 r X1 w m1 h1
  have e := sa_d q κ ν γ r l (fun j => View.canon X1 ((Rect.unit (s := S2x512x128) ![0, 0, 0] ![1, 512, 128] inb_S2x512x128_S1x512x128_0_0_0).toLoadRect.idx j)) (fun j => View.canon (⟨Rect.unit ![0, 0, 0] ![1, 512, 128] inb_S2x512x128_S1x512x128_0_0_0, w⟩ :: X1) ((Rect.unit (s := S2x512x128) ![1, 0, 0] ![1, 512, 128] inb_S2x512x128_S1x512x128_1_0_0).toLoadRect.idx j)) m0 m1
  have e' := e ha hb
  have e'' := e' (fun j => View.canon X0 ((Rect.unit (s := S512x128) ![0, 0] ![512, 128] inb_S512x128_S512x128_0_0).toLoadRect.idx j))
  refine (hit2 _ _ _ r l).trans (e''.trans ?_)
  exact congrArg (fun z => Acc _ _ _ _ _ z l) (whole _ _ r l)
end

/-- The loop's stores depend on the table's word only through its value. -/
theorem pb_word (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x32x2x512 .f32) (harg6 : arg6.IsWhole) (arg7 : Memref sig .tc .vmem S512x128 .f32) (harg7 : arg7.IsWhole) (arg8 : Memref sig .tc .vmem S1x512x2 .f32) (harg8 : arg8.IsWhole) (arg9 : Memref sig .tc .vmem S1x1x2x512 .f32) (harg9 : arg9.IsWhole) (arg10 : Memref sig .tc .vmem S512x128 .f32) (harg10 : arg10.IsWhole) (arg11 : Memref sig .tc .vmem S2x512x128 .f32) (harg11 : arg11.IsWhole) (arg12 : Memref sig .tc .vmem S2x512x128 .f32) (harg12 : arg12.IsWhole) (v0 : Vec Ideal S512x128 .bf16) (v24 : Elt Ideal .i32) (k0_hw1 : k0_chk1 i v24) (X_arg4 : BufTy.Contents (Elt Ideal) arg4.view.ty) (X_arg5 : BufTy.Contents (Elt Ideal) arg5.view.ty) (X_arg6 : BufTy.Contents (Elt Ideal) arg6.view.ty) (G_arg10 : BufTy.Contents (Elt Ideal) arg10.view.ty) (G_arg11 : BufTy.Contents (Elt Ideal) arg11.view.ty) (G_arg12 : BufTy.Contents (Elt Ideal) arg12.view.ty) (N N' : ℕ) (hN : N = N') (w' : Elt Ideal .i32) (hv : v24 = w') (hw' : k0_chk1 i w') :
    pb_k0_t1 (F := Ideal) 𝒱 c bd i arg2 harg2 arg3 harg3 arg4 harg4 arg5 harg5 arg6 harg6 arg7 harg7 arg8 harg8 arg9 harg9 arg10 harg10 arg11 harg11 arg12 harg12 v0 v24 k0_hw1 X_arg4 X_arg5 X_arg6 G_arg10 G_arg11 G_arg12 N = pb_k0_t1 (F := Ideal) 𝒱 c bd i arg2 harg2 arg3 harg3 arg4 harg4 arg5 harg5 arg6 harg6 arg7 harg7 arg8 harg8 arg9 harg9 arg10 harg10 arg11 harg11 arg12 harg12 v0 w' hw' X_arg4 X_arg5 X_arg6 G_arg10 G_arg11 G_arg12 N' := by
  subst hv
  subst hN
  rfl

/-- The second loop runs over no block. -/
theorem pb2_zero (𝒱 : Variants) (c : Dev nD) (bd : Option 𝒱.V) (i : grid0.Coords) (arg2 : Memref sig .tc .smem S8x32 .i32) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x32x2x512 .f32) (harg6 : arg6.IsWhole) (arg7 : Memref sig .tc .vmem S512x128 .f32) (harg7 : arg7.IsWhole) (arg8 : Memref sig .tc .vmem S1x512x2 .f32) (harg8 : arg8.IsWhole) (arg9 : Memref sig .tc .vmem S1x1x2x512 .f32) (harg9 : arg9.IsWhole) (arg10 : Memref sig .tc .vmem S512x128 .f32) (harg10 : arg10.IsWhole) (arg11 : Memref sig .tc .vmem S2x512x128 .f32) (harg11 : arg11.IsWhole) (arg12 : Memref sig .tc .vmem S2x512x128 .f32) (harg12 : arg12.IsWhole) (v0 : Vec Ideal S512x128 .bf16) (v24 : Elt Ideal .i32) (k0_hw1 : k0_chk1 i v24) (v29 : BitVec 32) (X_arg4 : BufTy.Contents (Elt Ideal) arg4.view.ty) (X_arg5 : BufTy.Contents (Elt Ideal) arg5.view.ty) (X_arg6 : BufTy.Contents (Elt Ideal) arg6.view.ty) (G_arg10 : BufTy.Contents (Elt Ideal) arg10.view.ty) (G_arg11 : BufTy.Contents (Elt Ideal) arg11.view.ty) (G_arg12 : BufTy.Contents (Elt Ideal) arg12.view.ty) (N : ℕ) (hN : N = 0) : pb_k0_t2 (F := Ideal) 𝒱 c bd i arg2 harg2 arg3 harg3 arg4 harg4 arg5 harg5 arg6 harg6 arg7 harg7 arg8 harg8 arg9 harg9 arg10 harg10 arg11 harg11 arg12 harg12 v0 v24 k0_hw1 v29 X_arg4 X_arg5 X_arg6 G_arg10 G_arg11 G_arg12 N = ([], [], []) := by
  subst hN
  unfold pb_k0_t2
  rfl

theorem trips1 (i : grid0.Coords) : Scf.trips (k0_t2_loop i 0#32).lb (k0_t2_loop i 0#32).ub (k0_t2_loop i 0#32).st = 0 := AttQ.trips1 i

theorem off6 (i : grid0.Coords) : k0_off6 i = ![512 * (i 1).val, 0] := AttQ.off6 i
theorem off7 (i : grid0.Coords) : k0_off7 i = ![0, (i 1).val, 0, 0] := AttQ.off7 i
theorem whole2 {e : EltTy} (x : S512x128.Idx → Elt Ideal e) (inb) : View.ld (Val := Elt Ideal) (e' := e) x (Rect.unit (s := S512x128) ![0, 0] ![512, 128] inb) = x :=
  AttQ.whole2 x inb

theorem pay117_at (f0 f1 : FVec Ideal S1x512x128 .f32) (a : FVec Ideal S512x128 .f32) (r : Fin 512) (l : Fin 128) : k0_pay117 (F := Ideal) k0_pay68 (k0_pay115 f0) f1 a (ix2 r l)
    = Ideal.div (a (ix2 r l)) (Scalar.select (IntOp.cmpi .slt (BitVec.ofNat 32 l.val) 64#32) (∑ x, f0 (ix3 0 r x)) (∑ x, f1 (ix3 0 r x))) := by
  pointwise [k0_pay117, k0_pay68, k0_pay115, k0_pay116]
theorem pay119_at (f g : FVec Ideal S1x512x128 .f32) (r : Fin 512) : k0_pay119 (F := Ideal) (k0_pay115 f) g (ix3 0 r 0) = g (ix3 0 r 0) + Ideal.log (∑ x, f (ix3 0 r x)) := by
  pointwise [k0_pay119, k0_pay118, k0_pay115]
theorem pay120_at (f g : FVec Ideal S1x512x128 .f32) (r : Fin 512) : k0_pay120 (F := Ideal) (k0_pay115 f) g (ix4 0 0 0 r) = g (ix3 0 r 0) + Ideal.log (∑ x, f (ix3 0 r x)) := by
  pointwise [k0_pay120, k0_pay118, k0_pay115]
theorem pay1_at (f g : FVec Ideal S1x512x128 .f32) (r : Fin 512) : k0_pay1 (F := Ideal) (k0_pay122 f g) (ix3 0 r 0) = g (ix3 0 r 0) + Ideal.log (∑ x, f (ix3 0 r x)) := by
  pointwise [k0_pay1, k0_pay122, k0_pay121, k0_pay116]
theorem pay2_at (f g : FVec Ideal S1x512x128 .f32) (r : Fin 512) : k0_pay2 (F := Ideal) (k0_pay121 f g) (ix4 0 0 0 r) = g (ix3 0 r 0) + Ideal.log (∑ x, f (ix3 0 r x)) := by
  pointwise [k0_pay2, k0_pay121, k0_pay116]

theorem zeroA (r : Fin 512) (l : Fin 128) : View.canon ([⟨Rect.unit ![0, 0] ![512, 128] inb_S512x128_S512x128_0_0, k0_pay74 (F := Ideal)⟩] : List (View.Piece (Elt Ideal) S512x128 .f32)) (ix2 r l) = 0 := by
  refine (hit2 _ _ _ r l).trans ?_
  pointwise [k0_pay74]
theorem all3 (w : FVec Ideal S2x512x128 .f32) (e : Fin 2) (r : Fin 512) (l : Fin 128) :
    View.canon ([⟨Rect.unit ![0, 0, 0] ![2, 512, 128] inb_S2x512x128_S2x512x128_0_0_0, w⟩] : List (View.Piece (Elt Ideal) S2x512x128 .f32)) (ix3 e r l) = w (ix3 e r l) := by
  refine Att.hit (S := S2x512x128) (off := ![0, 0, 0]) (size := ![2, 512, 128]) (e := .f32) w [] _ (ix3 e r l) fun a => ?_
  match a with
  | ⟨0, _⟩ => exact (Nat.zero_add _).symm
  | ⟨1, _⟩ => exact (Nat.zero_add _).symm
  | ⟨2, _⟩ => exact (Nat.zero_add _).symm
theorem zeroM (e : Fin 2) (r : Fin 512) (l : Fin 128) :
    View.canon ([⟨Rect.unit ![0, 0, 0] ![2, 512, 128] inb_S2x512x128_S2x512x128_0_0_0, k0_pay72 (F := Ideal)⟩] : List (View.Piece (Elt Ideal) S2x512x128 .f32)) (ix3 e r l) = ⊥ := by
  refine (all3 _ e r l).trans (Eq.trans ?_ Att.negInf)
  pointwise [k0_pay72]
theorem zeroL (e : Fin 2) (r : Fin 512) (l : Fin 128) :
    View.canon ([⟨Rect.unit ![0, 0, 0] ![2, 512, 128] inb_S2x512x128_S2x512x128_0_0_0, k0_pay73 (F := Ideal)⟩] : List (View.Piece (Elt Ideal) S2x512x128 .f32)) (ix3 e r l) = 0 := by
  refine (all3 _ e r l).trans ?_
  pointwise [k0_pay73]

/-- A row's maximum at the end: `n` whole blocks, then the diagonal one. -/
def mz (S : Fin 32 → Fin 512 → EReal) (D : Fin 512 → EReal) (n : ℕ) : EReal := M (mx S n) D
/-- Its sum of exponentials, over the lanes. -/
def lz (S : Fin 32 → Fin 512 → EReal) (D : Fin 512 → EReal) (n : ℕ) : EReal := ∑ l, L (mx S n) D (ls S l n) l
/-- Its log-sum. -/
def ez (S : Fin 32 → Fin 512 → EReal) (D : Fin 512 → EReal) (n : ℕ) : EReal := mz S D n + Ideal.log (lz S D n)

section
variable (c : Dev nD) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x32x2x512 .f32) (harg6 : arg6.IsWhole) (arg7 : Memref sig .tc .vmem S512x128 .f32) (harg7 : arg7.IsWhole) (arg8 : Memref sig .tc .vmem S1x512x2 .f32) (harg8 : arg8.IsWhole) (arg9 : Memref sig .tc .vmem S1x1x2x512 .f32) (harg9 : arg9.IsWhole) (arg10 : Memref sig .tc .vmem S512x128 .f32) (harg10 : arg10.IsWhole) (arg11 : Memref sig .tc .vmem S2x512x128 .f32) (harg11 : arg11.IsWhole) (arg12 : Memref sig .tc .vmem S2x512x128 .f32) (harg12 : arg12.IsWhole)
    (x0 : Vec Ideal S512x128 .bf16) (x1 : Vec Ideal S16384x128 .bf16) (x2 : Vec Ideal S16384x128 .bf16) (x3 : Vec Ideal S1x32x2x512 .f32) (xt0 : TbBuf0 (F := Ideal) c tbM0_0) (k0_hw1 : k0_chk1 i (tbM0_0.view.readAt (Elt Ideal) (Rect.unit (s := S8x32) (k0_off1 i) S1x1.size (k0_off1_inb i)).toLoadRect xt0 (Shape.Idx.first (numel1_S1x1.symm ▸ Nat.one_pos))))
  (hz : (tbM0_0.view.readAt (Elt Ideal) (Rect.unit (s := S8x32) (k0_off1 i) S1x1.size (k0_off1_inb i)).toLoadRect xt0 (Shape.Idx.first (numel1_S1x1.symm ▸ Nat.one_pos))) = 0#32)
include hz
theorem out4 (r : Fin 512) (l : Fin 128) : out0_A_4 c i arg3 harg3 arg4 harg4 arg5 harg5 arg6 harg6 arg7 harg7 arg8 harg8 arg9 harg9 arg10 harg10 arg11 harg11 arg12 harg12 x0 x1 x2 x3 xt0 k0_hw1 (ix2 r l)
    = Ideal.div (Acc (mx (S0 x0 x1 x3 r) (i 1).val) (mx (S1 x0 x1 x3 r) (i 1).val) (di0 x0 (KB x1 (i 1)) (CB x3 (i 1)) r) (di1 x0 (KB x1 (i 1)) (CB x3 (i 1)) r) (KB x2 (i 1)) (ac (S0 x0 x1 x3 r) (S1 x0 x1 x3 r) (KB x2) l (i 1).val) l)
      (Scalar.select (IntOp.cmpi .slt (BitVec.ofNat 32 l.val) 64#32) (lz (S0 x0 x1 x3 r) (di0 x0 (KB x1 (i 1)) (CB x3 (i 1)) r) (i 1).val) (lz (S1 x0 x1 x3 r) (di1 x0 (KB x1 (i 1)) (CB x3 (i 1)) r) (i 1).val)) := by
  have h0 : k0_chk1 i 0#32 := hz ▸ k0_hw1
  have hz' : kernelRun0_A.sl.r (F := Ideal) c i xt0 = 0#32 := hz
  have hN : Scf.trips (k0_t1_loop i (kernelRun0_A.sl.r (F := Ideal) c i xt0)).lb (k0_t1_loop i (kernelRun0_A.sl.r (F := Ideal) c i xt0)).ub (k0_t1_loop i (kernelRun0_A.sl.r (F := Ideal) c i xt0)).st = (i 1).val := by
    rw [hz']; exact trips0 i
  unfold out0_A_4
  rw [View.read_writes_eq_canon _ _ _ (cover0_A_4 c i arg3 harg3 arg4 harg4 arg5 harg5 arg6 harg6 arg7 harg7 arg8 harg8 arg9 harg9 arg10 harg10 arg11 harg11 arg12 harg12 x0 x1 x2 x3 xt0 k0_hw1)]
  unfold kernelRun0_A
  dsimp only
  unfold kernelRun0_A.sl.v161 kernelRun0_A.sl.HS0_1_1 kernelRun0_A.sl.v146 kernelRun0_A.sl.r_12 kernelRun0_A.sl.r_4 kernelRun0_A.sl.v157
  unfold kernelRun0_A.sl.r_19 kernelRun0_A.sl.v153 kernelRun0_A.sl.HS2_2 kernelRun0_A.sl.v129 kernelRun0_A.sl.r_18 kernelRun0_A.sl.r_17
  unfold kernelRun0_A.sl.v113 kernelRun0_A.sl.HS1_1_1 kernelRun0_A.sl.r_6 kernelRun0_A.sl.r_16 kernelRun0_A.sl.r_15 kernelRun0_A.sl.r_14
  unfold kernelRun0_A.sl.r_13 kernelRun0_A.sl.r_5 kernelRun0_A.sl.r_3 kernelRun0_A.sl.r_2 kernelRun0_A.sl.HS2_1_1 kernelRun0_A.sl.v77
  unfold kernelRun0_A.sl.r_9 kernelRun0_A.sl.r_8 kernelRun0_A.sl.r_7 kernelRun0_A.sl.r_11 kernelRun0_A.sl.r_10 kernelRun0_A.sl.v61
  unfold kernelRun0_A.sl.r_1 kernelRun0_A.sl.HS2_1 kernelRun0_A.sl.HS1_1 kernelRun0_A.sl.HS0_1
  simp only [View.readCov_eq_canon', View.readAt_eq_ld, View.read_writes_junk_eq_canon, harg3.read_unread, harg4.read_unread, harg5.read_unread, harg6.read_unread,
    whole2, ldK _ (i 1) _ (off6 i), ldC _ (i 1) _ (off7 i)]
  rw [pb2_zero]
  case hN =>
    rw [hz']
    exact trips1 i
  rw [pb_word (N' := (i 1).val) (hN := hN) (w' := 0#32) (hv := hz') (hw' := h0)]
  simp only [List.nil_append]
  obtain ⟨ia, i0, i1, j0, j1⟩ := inv Variants.none c none i tbM0_0 htbM0_0 arg3 harg3 arg4 harg4 arg5 harg5 arg6 harg6 arg7 harg7 arg8 harg8 arg9 harg9 arg10 harg10 arg11 harg11 arg12 harg12 x0 x1 x2 x3 h0 _ _ _ zeroA zeroM zeroL _ le_rfl
  refine (hit2 _ _ _ r l).trans ((pay117_at _ _ _ r l).trans (congrArg₂ _ ?_ (congrArg₂ _ (Finset.sum_congr rfl fun x _ => ?_) (Finset.sum_congr rfl fun x _ => ?_))))
  · refine (whole _ _ r l).trans ((dA _ _ _ _ r l _ _ _ _ _ (i0 r) (i1 r)).trans ?_)
    rw [ia r l]
  · refine (head _ 0 _ r x).trans ((dL0 _ _ _ r x _ _ _ _ (i0 r)).trans ?_)
    rw [j0 r x]
  · refine (head _ 1 _ r x).trans ((dL1 _ _ _ r x _ _ _ _ _ (i1 r)).trans ?_)
    rw [j1 r x]

theorem out5 (r : Fin 512) (e : Fin 2) : out0_A_5 c i arg3 harg3 arg4 harg4 arg5 harg5 arg6 harg6 arg7 harg7 arg8 harg8 arg9 harg9 arg10 harg10 arg11 harg11 arg12 harg12 x0 x1 x2 x3 xt0 k0_hw1 (ix3 0 r e)
    = if e = 0 then ez (S0 x0 x1 x3 r) (di0 x0 (KB x1 (i 1)) (CB x3 (i 1)) r) (i 1).val else ez (S1 x0 x1 x3 r) (di1 x0 (KB x1 (i 1)) (CB x3 (i 1)) r) (i 1).val := by
  have h0 : k0_chk1 i 0#32 := hz ▸ k0_hw1
  have hz' : kernelRun0_A.sl.r (F := Ideal) c i xt0 = 0#32 := hz
  have hN : Scf.trips (k0_t1_loop i (kernelRun0_A.sl.r (F := Ideal) c i xt0)).lb (k0_t1_loop i (kernelRun0_A.sl.r (F := Ideal) c i xt0)).ub (k0_t1_loop i (kernelRun0_A.sl.r (F := Ideal) c i xt0)).st = (i 1).val := by
    rw [hz']; exact trips0 i
  unfold out0_A_5
  rw [View.read_writes_eq_canon _ _ _ (cover0_A_5 c i arg3 harg3 arg4 harg4 arg5 harg5 arg6 harg6 arg7 harg7 arg8 harg8 arg9 harg9 arg10 harg10 arg11 harg11 arg12 harg12 x0 x1 x2 x3 xt0 k0_hw1)]
  unfold kernelRun0_A
  dsimp only
  unfold kernelRun0_A.sl.v169 kernelRun0_A.sl.r_19 kernelRun0_A.sl.v153 kernelRun0_A.sl.r_21 kernelRun0_A.sl.v184 kernelRun0_A.sl.HS1_2
  unfold kernelRun0_A.sl.v157 kernelRun0_A.sl.HS2_2 kernelRun0_A.sl.v129 kernelRun0_A.sl.r_18 kernelRun0_A.sl.r_17 kernelRun0_A.sl.v113
  unfold kernelRun0_A.sl.HS1_1_1 kernelRun0_A.sl.r_6 kernelRun0_A.sl.r_16 kernelRun0_A.sl.r_15 kernelRun0_A.sl.r_14 kernelRun0_A.sl.r_13
  unfold kernelRun0_A.sl.r_5 kernelRun0_A.sl.r_3 kernelRun0_A.sl.r_2 kernelRun0_A.sl.HS2_1_1 kernelRun0_A.sl.v77 kernelRun0_A.sl.r_9
  unfold kernelRun0_A.sl.r_8 kernelRun0_A.sl.r_7 kernelRun0_A.sl.r_11 kernelRun0_A.sl.r_10 kernelRun0_A.sl.v61 kernelRun0_A.sl.r_1
  unfold kernelRun0_A.sl.HS2_1 kernelRun0_A.sl.HS1_1 kernelRun0_A.sl.HS0_1
  simp only [View.readCov_eq_canon', View.readAt_eq_ld, View.read_writes_junk_eq_canon, harg3.read_unread, harg4.read_unread, harg5.read_unread, harg6.read_unread,
    whole2, ldK _ (i 1) _ (off6 i), ldC _ (i 1) _ (off7 i)]
  rw [pb2_zero]
  case hN =>
    rw [hz']
    exact trips1 i
  rw [pb_word (N' := (i 1).val) (hN := hN) (w' := 0#32) (hv := hz') (hw' := h0)]
  simp only [List.nil_append]
  obtain ⟨ia, i0, i1, j0, j1⟩ := inv Variants.none c none i tbM0_0 htbM0_0 arg3 harg3 arg4 harg4 arg5 harg5 arg6 harg6 arg7 harg7 arg8 harg8 arg9 harg9 arg10 harg10 arg11 harg11 arg12 harg12 x0 x1 x2 x3 h0 _ _ _ zeroA zeroM zeroL _ le_rfl
  match e with
  | 0 =>
    rw [Att.miss _ _ _ 2 (Or.inl Nat.zero_lt_one), if_pos rfl]
    refine (Att.hit _ _ _ (ix3 0 r 0) fun a => ?_).trans ?_
    · match a with
      | ⟨0, _⟩ => rfl
      | ⟨1, _⟩ => exact (Nat.zero_add _).symm
      | ⟨2, _⟩ => rfl
    refine (pay119_at _ _ r).trans (congrArg₂ (· + ·) ?_ (congrArg _ (Finset.sum_congr rfl fun x _ => ?_)))
    · exact (head _ 0 _ r 0).trans (dM0 _ _ _ r 0 _ _ _ (i0 r))
    · refine (head _ 0 _ r x).trans ((dL0 _ _ _ r x _ _ _ _ (i0 r)).trans ?_)
      rw [j0 r x]
  | 1 =>
    rw [if_neg (by decide)]
    refine (Att.hit _ _ _ (ix3 0 r 0) fun a => ?_).trans ?_
    · match a with
      | ⟨0, _⟩ => rfl
      | ⟨1, _⟩ => exact (Nat.zero_add _).symm
      | ⟨2, _⟩ => rfl
    refine (pay1_at _ _ r).trans (congrArg₂ (· + ·) ?_ (congrArg _ (Finset.sum_congr rfl fun x _ => ?_)))
    · exact (head _ 1 _ r 0).trans (dM1 _ _ _ r 0 _ _ _ (i1 r))
    · refine (head _ 1 _ r x).trans ((dL1 _ _ _ r x _ _ _ _ _ (i1 r)).trans ?_)
      rw [j1 r x]

theorem out6 (r : Fin 512) (e : Fin 2) : out0_A_6 c i arg3 harg3 arg4 harg4 arg5 harg5 arg6 harg6 arg7 harg7 arg8 harg8 arg9 harg9 arg10 harg10 arg11 harg11 arg12 harg12 x0 x1 x2 x3 xt0 k0_hw1 (ix4 0 0 e r)
    = if e = 0 then ez (S0 x0 x1 x3 r) (di0 x0 (KB x1 (i 1)) (CB x3 (i 1)) r) (i 1).val else ez (S1 x0 x1 x3 r) (di1 x0 (KB x1 (i 1)) (CB x3 (i 1)) r) (i 1).val := by
  have h0 : k0_chk1 i 0#32 := hz ▸ k0_hw1
  have hz' : kernelRun0_A.sl.r (F := Ideal) c i xt0 = 0#32 := hz
  have hN : Scf.trips (k0_t1_loop i (kernelRun0_A.sl.r (F := Ideal) c i xt0)).lb (k0_t1_loop i (kernelRun0_A.sl.r (F := Ideal) c i xt0)).ub (k0_t1_loop i (kernelRun0_A.sl.r (F := Ideal) c i xt0)).st = (i 1).val := by
    rw [hz']; exact trips0 i
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 x0 x1 x2 x3 xt0 k0_hw1)]
  unfold kernelRun0_A
  dsimp only
  unfold kernelRun0_A.sl.v169 kernelRun0_A.sl.r_19 kernelRun0_A.sl.v153 kernelRun0_A.sl.r_20 kernelRun0_A.sl.v184 kernelRun0_A.sl.HS1_2
  unfold kernelRun0_A.sl.v157 kernelRun0_A.sl.HS2_2 kernelRun0_A.sl.v129 kernelRun0_A.sl.r_18 kernelRun0_A.sl.r_17 kernelRun0_A.sl.v113
  unfold kernelRun0_A.sl.HS1_1_1 kernelRun0_A.sl.r_6 kernelRun0_A.sl.r_16 kernelRun0_A.sl.r_15 kernelRun0_A.sl.r_14 kernelRun0_A.sl.r_13
  unfold kernelRun0_A.sl.r_5 kernelRun0_A.sl.r_3 kernelRun0_A.sl.r_2 kernelRun0_A.sl.HS2_1_1 kernelRun0_A.sl.v77 kernelRun0_A.sl.r_9
  unfold kernelRun0_A.sl.r_8 kernelRun0_A.sl.r_7 kernelRun0_A.sl.r_11 kernelRun0_A.sl.r_10 kernelRun0_A.sl.v61 kernelRun0_A.sl.r_1
  unfold kernelRun0_A.sl.HS2_1 kernelRun0_A.sl.HS1_1 kernelRun0_A.sl.HS0_1
  simp only [View.readCov_eq_canon', View.readAt_eq_ld, View.read_writes_junk_eq_canon, harg3.read_unread, harg4.read_unread, harg5.read_unread, harg6.read_unread,
    whole2, ldK _ (i 1) _ (off6 i), ldC _ (i 1) _ (off7 i)]
  rw [pb2_zero]
  case hN =>
    rw [hz']
    exact trips1 i
  rw [pb_word (N' := (i 1).val) (hN := hN) (w' := 0#32) (hv := hz') (hw' := h0)]
  simp only [List.nil_append]
  obtain ⟨ia, i0, i1, j0, j1⟩ := inv Variants.none c none i tbM0_0 htbM0_0 arg3 harg3 arg4 harg4 arg5 harg5 arg6 harg6 arg7 harg7 arg8 harg8 arg9 harg9 arg10 harg10 arg11 harg11 arg12 harg12 x0 x1 x2 x3 h0 _ _ _ zeroA zeroM zeroL _ le_rfl
  match e with
  | 0 =>
    rw [Att.miss _ _ _ 2 (Or.inl Nat.zero_lt_one), if_pos rfl]
    refine (Att.hit _ _ _ (ix4 0 0 0 r) fun a => ?_).trans ?_
    · match a with
      | ⟨0, _⟩ => rfl
      | ⟨1, _⟩ => rfl
      | ⟨2, _⟩ => rfl
      | ⟨3, _⟩ => exact (Nat.zero_add _).symm
    refine (pay120_at _ _ r).trans (congrArg₂ (· + ·) ?_ (congrArg _ (Finset.sum_congr rfl fun x _ => ?_)))
    · exact (head _ 0 _ r 0).trans (dM0 _ _ _ r 0 _ _ _ (i0 r))
    · refine (head _ 0 _ r x).trans ((dL0 _ _ _ r x _ _ _ _ (i0 r)).trans ?_)
      rw [j0 r x]
  | 1 =>
    rw [if_neg (by decide)]
    refine (Att.hit _ _ _ (ix4 0 0 0 r) fun a => ?_).trans ?_
    · match a with
      | ⟨0, _⟩ => rfl
      | ⟨1, _⟩ => rfl
      | ⟨2, _⟩ => rfl
      | ⟨3, _⟩ => exact (Nat.zero_add _).symm
    refine (pay2_at _ _ r).trans (congrArg₂ (· + ·) ?_ (congrArg _ (Finset.sum_congr rfl fun x _ => ?_)))
    · exact (head _ 1 _ r 0).trans (dM1 _ _ _ r 0 _ _ _ (i1 r))
    · refine (head _ 1 _ r x).trans ((dL1 _ _ _ r x _ _ _ _ _ (i1 r)).trans ?_)
      rw [j1 r x]
end
end Cert.Proof.AttF
end
-- ==== Proof.AttFMath.lean ====
/- The forward attention: a running maximum, sum and product of exponentials over real scores are, whatever the maximum, the plain
   sums up to one factor. -/
module

public import proofs.«01_k».proof.Proof.AttFOut
public import proofs.«01_k».proof.Proof.AttSpec

@[expose] public section

set_option maxRecDepth 16384

noncomputable section

namespace Cert.Proof.AttF
open Idealize.ShloMosaic Idealize.ShloMosaic.TcCoe Idealize.SL.Sem
open Cert.AttFIdeal Cert.AttFIdeal.Gen
open Cert.Proof.AttQ (fold4 sc0 sc1 sum4)
open Cert.Proof.Att (upto upto_succ upto_zero coe_sum coe_ite negInf exp_sub sum_upto)

section
variable (Q : Fin 512 → Prop) [DecidablePred Q] (a : Fin 512 → ℝ)

/-- The exponential under the mask. -/
def W (c : Fin 512) : ℝ := if Q c then Real.exp (a c) else 0
/-- A lane's four columns. -/
def lr (w : Fin 512 → ℝ) (l : Fin 128) : ℝ := w ⟨l.val, by omega⟩ + w ⟨128 + l.val, by omega⟩ + w ⟨256 + l.val, by omega⟩ + w ⟨384 + l.val, by omega⟩

theorem exp_W (μ : ℝ) (c : Fin 512) : Ideal.exp (Att.X Q a c - μ) = ((W Q a c * Real.exp (-μ) : ℝ) : EReal) := by
  rw [exp_sub, W]
  refine congrArg (fun x : ℝ => (x : EReal)) ?_
  split_ifs
  · rfl
  · rw [zero_mul]

/-- A maximum that has seen one column under the mask is a real. -/
theorem M_real (m : EReal) (hm : m ≠ ⊤) (h : ∃ c, Q c) : ∃ μ : ℝ, M m (Att.X Q a) = μ := by
  have ht : M m (Att.X Q a) < ⊤ := by
    have hx : ∀ c, Att.X Q a c < ⊤ := fun c => by
      unfold Att.X
      split_ifs
      · exact EReal.coe_lt_top _
      · exact bot_lt_top
    unfold M U
    refine max_lt (lt_top_iff_ne_top.2 hm) ((Finset.fold_max_lt _).2 ⟨?_, fun l _ => ?_⟩)
    · rw [negInf]; exact bot_lt_top
    · exact max_lt (max_lt (max_lt (hx _) (hx _)) (hx _)) (hx _)
  have hb : ⊥ < M m (Att.X Q a) := by
    obtain ⟨c, hc⟩ := h
    have hx : ⊥ < Att.X Q a c := by unfold Att.X; rw [if_pos hc]; exact EReal.bot_lt_coe _
    unfold M U
    refine lt_max_of_lt_right ((Finset.lt_fold_max _).2 (Or.inr ⟨⟨c.val % 128, by omega⟩, Finset.mem_univ _, ?_⟩))
    have hc4 : c.val = c.val % 128 ∨ c.val = 128 + c.val % 128 ∨ c.val = 256 + c.val % 128 ∨ c.val = 384 + c.val % 128 := by omega
    simp only [lt_max_iff]
    rcases hc4 with e | e | e | e
    · exact Or.inl (Or.inl (Or.inl ((show c = ⟨c.val % 128, by omega⟩ from Fin.ext e) ▸ hx)))
    · exact Or.inl (Or.inl (Or.inr ((show c = ⟨128 + c.val % 128, by omega⟩ from Fin.ext e) ▸ hx)))
    · exact Or.inl (Or.inr ((show c = ⟨256 + c.val % 128, by omega⟩ from Fin.ext e) ▸ hx))
    · exact Or.inr ((show c = ⟨384 + c.val % 128, by omega⟩ from Fin.ext e) ▸ hx)
  exact ⟨_, (EReal.coe_toReal ht.ne hb.ne').symm⟩
end

/-- The running value `ℓ` at the running maximum `m` stands for the plain sum `Λ`. -/
def St (m ℓ : EReal) (Λ : ℝ) : Prop := (m = ⊥ ∧ ℓ = 0 ∧ Λ = 0) ∨ ∃ μ : ℝ, m = μ ∧ ℓ = ((Λ * Real.exp (-μ) : ℝ) : EReal)

namespace St
variable {m ℓ : EReal} {Λ : ℝ}

theorem ne_top (h : St m ℓ Λ) : m ≠ ⊤ := by
  rcases h with ⟨rfl, _⟩ | ⟨μ, rfl, _⟩
  · exact bot_ne_top
  · exact EReal.coe_ne_top _

/-- The old value rescaled to a new maximum. -/
theorem scale (h : St m ℓ Λ) (μ' : ℝ) : Ideal.exp (m - μ') * ℓ = ((Λ * Real.exp (-μ') : ℝ) : EReal) := by
  rcases h with ⟨rfl, rfl, rfl⟩ | ⟨μ, rfl, rfl⟩
  · rw [mul_zero, zero_mul]; rfl
  · rw [← EReal.coe_sub, Ideal.exp_coe, ← EReal.coe_mul]
    refine congrArg (fun x : ℝ => (x : EReal)) ?_
    rw [mul_left_comm, ← Real.exp_add]
    congr 2; ring

theorem real (h : St m ℓ Λ) {μ : ℝ} (hm : m = μ) : ℓ = ((Λ * Real.exp (-μ) : ℝ) : EReal) := by
  subst hm
  rcases h with ⟨h, _⟩ | ⟨μ', h, e⟩
  · exact absurd h (EReal.coe_ne_bot _)
  · rw [e, EReal.coe_injective h]

variable (h : St m ℓ Λ) (Q : Fin 512 → Prop) [DecidablePred Q] (a : Fin 512 → ℝ) (hQ : ∃ c, Q c) (l : Fin 128)
include h hQ

/-- A block taken into a lane's sum. -/
theorem sum : St (M m (Att.X Q a)) (L m (Att.X Q a) ℓ l) (Λ + lr (W Q a) l) := by
  obtain ⟨μ, hμ⟩ := M_real Q a m h.ne_top hQ
  refine Or.inr ⟨μ, hμ, ?_⟩
  unfold L fold4
  simp only [hμ, exp_W]
  rw [h.scale, ← EReal.coe_add, ← EReal.coe_add, ← EReal.coe_add, ← EReal.coe_add]
  refine congrArg (fun x : ℝ => (x : EReal)) ?_
  unfold lr; ring
end St

/-- One head's product, brought up by one block. -/
def A1 (m : EReal) (x : Fin 512 → EReal) (ν : FVec Ideal S512x128 .bf16) (o : EReal) (l : Fin 128) : EReal := Ideal.exp (m - M m x) * o + P m x ν l

theorem St.prod {m ℓ : EReal} {Λ : ℝ} (h : St m ℓ Λ) (Q : Fin 512 → Prop) [DecidablePred Q] (a : Fin 512 → ℝ) (hQ : ∃ c, Q c) (l : Fin 128)
    (ν : FVec Ideal S512x128 .bf16) (v : Fin 512 → ℝ) (hν : ∀ c, ν (ix2 c l) = (v c : ℝ)) :
    St (M m (Att.X Q a)) (A1 m (Att.X Q a) ν ℓ l) (Λ + ∑ c, W Q a c * v c) := by
  obtain ⟨μ, hμ⟩ := M_real Q a m h.ne_top hQ
  refine Or.inr ⟨μ, hμ, ?_⟩
  unfold A1 P
  simp only [hμ, exp_W, hν, ← EReal.coe_mul, ← coe_sum]
  rw [h.scale, ← EReal.coe_add]
  refine congrArg (fun x : ℝ => (x : EReal)) ?_
  rw [add_mul, Finset.sum_mul]
  refine congrArg _ (Finset.sum_congr rfl fun c _ => ?_)
  ring

/-- The lanes below 64 are the first head's. -/
theorem lane (l : Fin 128) (x y : EReal) : Scalar.select (IntOp.cmpi .slt (BitVec.ofNat 32 l.val) 64#32) x y = if l.val < 64 then x else y := by
  have h : ∀ x : Fin 128, IntOp.cmpi .slt (BitVec.ofNat 32 x.val) 64#32 = if x.val < 64 then 1#1 else 0#1 := by decide +kernel
  rw [h]
  split_ifs <;> rfl

theorem acc_lane (m0 m1 : EReal) (x0 x1 : Fin 512 → EReal) (ν : FVec Ideal S512x128 .bf16) (o : EReal) (l : Fin 128) :
    Acc m0 m1 x0 x1 ν o l = if l.val < 64 then A1 m0 x0 ν o l else A1 m1 x1 ν o l := by
  unfold Acc A1
  simp only [lane]
  split_ifs <;> rfl

/-- One head's running product. -/
def ac1 (X : Fin 32 → Fin 512 → EReal) (V : Fin 32 → FVec Ideal S512x128 .bf16) (l : Fin 128) : ℕ → EReal
  | 0 => 0
  | n + 1 => if h : n < 32 then A1 (mx X n) (X ⟨n, h⟩) (V ⟨n, h⟩) (ac1 X V l n) l else ac1 X V l n

theorem ac_lane (X0 X1 : Fin 32 → Fin 512 → EReal) (V : Fin 32 → FVec Ideal S512x128 .bf16) (l : Fin 128) (n : ℕ) :
    ac X0 X1 V l n = if l.val < 64 then ac1 X0 V l n else ac1 X1 V l n := by
  induction n with
  | zero => exact (ite_self _).symm
  | succ n ih =>
    rw [ac, ac1, ac1]
    by_cases h : n < 32
    · simp only [dif_pos h]
      rw [acc_lane, ih]
      split_ifs <;> rfl
    · simp only [dif_neg h]
      exact ih

/-- The sum of a real over the blocks before `n`. -/
def up (f : Fin 32 → ℝ) (n : ℕ) : ℝ := ∑ b, if b.val < n then f b else 0
theorem coe_up (f : Fin 32 → ℝ) (n : ℕ) : (up f n : EReal) = upto (fun b => (f b : EReal)) n := by
  unfold up upto
  rw [coe_sum]
  exact Finset.sum_congr rfl fun b _ => coe_ite _ _ _
theorem up_succ (f : Fin 32 → ℝ) (k : Fin 32) : up f (k.val + 1) = up f k.val + f k :=
  EReal.coe_injective (by rw [EReal.coe_add, coe_up, coe_up, upto_succ])
theorem up_zero (f : Fin 32 → ℝ) : up f 0 = 0 := Finset.sum_eq_zero fun b _ => if_neg (Nat.not_lt_zero _)

section
variable (S : Fin 32 → Fin 512 → EReal) (a : Fin 32 → Fin 512 → ℝ) (hS : ∀ b c, S b c = ((a b c : ℝ) : EReal))
include hS

theorem full (b : Fin 32) : S b = Att.X (fun _ : Fin 512 => True) (a b) := funext fun c => (hS b c).trans (if_pos trivial).symm

/-- After `n` blocks a lane's sum stands for the exponentials of its columns. -/
theorem st_sum (l : Fin 128) (n : ℕ) (hn : n ≤ 32) : St (mx S n) (ls S l n) (up (fun b => lr (fun c => Real.exp (a b c)) l) n) := by
  induction n with
  | zero => exact Or.inl ⟨rfl, rfl, up_zero _⟩
  | succ n ih =>
    have h : n < 32 := hn
    rw [mx, ls, dif_pos h, dif_pos h, full S a hS, up_succ _ ⟨n, h⟩]
    have e := (ih h.le).sum (fun _ : Fin 512 => True) (a ⟨n, h⟩) ⟨0, trivial⟩ l
    have hw : W (fun _ : Fin 512 => True) (a ⟨n, h⟩) = fun c => Real.exp (a ⟨n, h⟩ c) := funext fun c => if_pos trivial
    rw [hw] at e
    exact e

/-- And its product for the exponentials times the values. -/
theorem st_prod (V : Fin 32 → FVec Ideal S512x128 .bf16) (v : Fin 32 → Fin 512 → ℝ) (l : Fin 128) (hV : ∀ b c, V b (ix2 c l) = ((v b c : ℝ) : EReal))
    (n : ℕ) (hn : n ≤ 32) : St (mx S n) (ac1 S V l n) (up (fun b => ∑ c, Real.exp (a b c) * v b c) n) := by
  induction n with
  | zero => exact Or.inl ⟨rfl, rfl, up_zero _⟩
  | succ n ih =>
    have h : n < 32 := hn
    rw [mx, ac1, dif_pos h, dif_pos h, full S a hS, up_succ _ ⟨n, h⟩]
    have e := (ih h.le).prod (fun _ : Fin 512 => True) (a ⟨n, h⟩) ⟨0, trivial⟩ l (V ⟨n, h⟩) (v ⟨n, h⟩) (hV _)
    have hw : W (fun _ : Fin 512 => True) (a ⟨n, h⟩) = fun c => Real.exp (a ⟨n, h⟩ c) := funext fun c => if_pos trivial
    rw [hw] at e
    exact e

variable (n : Fin 32) (r : Fin 512) (D : Fin 512 → EReal) (hD : ∀ c, D c = if c.val ≤ r.val then ((a n c : ℝ) : EReal) else ⊥)
include hD

omit hS in
theorem diag : D = Att.X (fun c : Fin 512 => c.val ≤ r.val) (a n) := funext hD

theorem mz_real : ∃ μ : ℝ, mz S D n = μ := by
  have h := st_sum S a hS 0 n.val n.isLt.le
  unfold mz
  rw [diag a n r D hD]
  exact M_real _ _ _ h.ne_top ⟨r, le_refl r.val⟩

/-- The row's sum of exponentials, up to the maximum's factor. -/
theorem lz_real (μ : ℝ) (hμ : mz S D n = μ) (z : ℝ) (hz : (z : EReal) = upto (fun b => ∑ c, ((Real.exp (a b c) : ℝ) : EReal)) n.val
      + ∑ c : Fin 512, if c.val ≤ r.val then ((Real.exp (a n c) : ℝ) : EReal) else 0) :
    lz S D n = ((z * Real.exp (-μ) : ℝ) : EReal) := by
  have e : ∀ l, L (mx S n) D (ls S l n) l
      = (((up (fun b => lr (fun c => Real.exp (a b c)) l) n + lr (W (fun c : Fin 512 => c.val ≤ r.val) (a n)) l) * Real.exp (-μ) : ℝ) : EReal) := fun l => by
    have h := (st_sum S a hS l n.val n.isLt.le).sum (fun c : Fin 512 => c.val ≤ r.val) (a n) ⟨r, le_refl r.val⟩ l
    rw [← diag a n r D hD] at h
    exact h.real hμ
  have hf : ∀ f : Fin 512 → ℝ, ∑ l, ((lr f l : ℝ) : EReal) = ∑ c, (f c : EReal) := fun f => by
    rw [sum4]; unfold lr; simp only [EReal.coe_add, Finset.sum_add_distrib, add_assoc]
  unfold lz
  simp only [e]
  rw [← coe_sum, ← Finset.sum_mul]
  refine congrArg (fun x : ℝ => ((x * Real.exp (-μ) : ℝ) : EReal)) (EReal.coe_injective ?_)
  rw [hz, coe_sum]
  simp only [EReal.coe_add, coe_up, Finset.sum_add_distrib]
  rw [sum_upto, hf]
  simp only [hf]
  refine congrArg _ (Finset.sum_congr rfl fun c _ => ?_)
  exact coe_ite _ _ _

/-- The row's product with the values, up to the same factor. -/
theorem az_real (μ : ℝ) (hμ : mz S D n = μ) (V : Fin 32 → FVec Ideal S512x128 .bf16) (v : Fin 32 → Fin 512 → ℝ) (l : Fin 128)
    (hV : ∀ b c, V b (ix2 c l) = ((v b c : ℝ) : EReal)) (z : ℝ) (hz : (z : EReal) = upto (fun b => ∑ c, ((Real.exp (a b c) * v b c : ℝ) : EReal)) n.val
      + ∑ c : Fin 512, if c.val ≤ r.val then ((Real.exp (a n c) * v n c : ℝ) : EReal) else 0) :
    A1 (mx S n) D (V n) (ac1 S V l n) l = ((z * Real.exp (-μ) : ℝ) : EReal) := by
  have h := (st_prod S a hS V v l hV n.val n.isLt.le).prod (fun c : Fin 512 => c.val ≤ r.val) (a n) ⟨r, le_refl r.val⟩ l (V n) (v n) (hV n)
  rw [← diag a n r D hD] at h
  rw [h.real hμ]
  refine congrArg (fun x : ℝ => ((x * Real.exp (-μ) : ℝ) : EReal)) (EReal.coe_injective ?_)
  rw [hz, EReal.coe_add, coe_up, coe_sum]
  simp only [coe_sum]
  refine congrArg _ (Finset.sum_congr rfl fun c _ => ?_)
  unfold W
  split_ifs
  · rfl
  · rw [zero_mul]; rfl
end
end Cert.Proof.AttF
end
-- ==== Proof.AttFBlock.lean ====
/- The forward attention: what a grid point leaves, over real arrays. -/
module

public import proofs.«01_k».proof.Proof.AttFMath

@[expose] public section

set_option maxRecDepth 16384

noncomputable section

namespace Cert.Proof.AttF
open Idealize.ShloMosaic Idealize.ShloMosaic.TcCoe Idealize.SL.Sem
open Cert.AttFIdeal Cert.AttFIdeal.Gen Cert.Proof.Att
open Cert.Proof.AttQ (fold4 sc0 sc1)

section
variable (A : Arr) (h : Fin 16) (S : Fin 32 → Fin 512 → EReal) (D : Fin 512 → EReal) (n : Fin 32) (r : Fin 512)
  (hS : ∀ b c, S b c = ((A.s h (row n r) (row b c) : ℝ) : EReal)) (hD : ∀ c, D c = if c.val ≤ r.val then ((A.s h (row n r) (row n c) : ℝ) : EReal) else ⊥)

theorem z_rows : (A.z h (row n r) : EReal) = upto (fun b => ∑ c, ((Real.exp (A.s h (row n r) (row b c)) : ℝ) : EReal)) n.val
    + ∑ c : Fin 512, if c.val ≤ r.val then ((Real.exp (A.s h (row n r) (row n c)) : ℝ) : EReal) else 0 := by
  unfold Arr.z Z
  rw [coe_sum]
  simp only [coe_ite, EReal.coe_zero]
  exact causal (fun j => ((Real.exp (A.s h (row n r) j) : ℝ) : EReal)) n r

include hS hD

/-- A row's log-sum. -/
theorem ez_real : ez S D n = ((Real.log (A.z h (row n r)) : ℝ) : EReal) := by
  obtain ⟨μ, hμ⟩ := mz_real S (fun b c => A.s h (row n r) (row b c)) hS n r D hD
  unfold ez
  rw [lz_real S (fun b c => A.s h (row n r) (row b c)) hS n r D hD μ hμ _ (z_rows A h n r), hμ]
  exact lse_real (fun j : Fin 16384 => j.val ≤ (row n r).val) (A.s h (row n r)) (j := row n r) (le_refl (row n r).val) μ

/-- A row's product with one lane's values, divided by its sum. -/
theorem div_real (V : Fin 32 → FVec Ideal S512x128 .bf16) (l : Fin 128) (v : Fin 16384 → ℝ) (hV : ∀ b c, V b (ix2 c l) = ((v (row b c) : ℝ) : EReal)) :
    Ideal.div (A1 (mx S n) D (V n) (ac1 S V l n) l) (lz S D n) = ((∑ j : Fin 16384, if j.val ≤ (row n r).val then A.p h (row n r) j * v j else 0 : ℝ) : EReal) := by
  obtain ⟨μ, hμ⟩ := mz_real S (fun b c => A.s h (row n r) (row b c)) hS n r D hD
  have hN : ((∑ j : Fin 16384, if j.val ≤ (row n r).val then Real.exp (A.s h (row n r) j) * v j else 0 : ℝ) : EReal)
      = upto (fun b => ∑ c, ((Real.exp (A.s h (row n r) (row b c)) * v (row b c) : ℝ) : EReal)) n.val
        + ∑ c : Fin 512, if c.val ≤ r.val then ((Real.exp (A.s h (row n r) (row n c)) * v (row n c) : ℝ) : EReal) else 0 := by
    rw [coe_sum]
    simp only [coe_ite, EReal.coe_zero]
    exact causal (fun j => ((Real.exp (A.s h (row n r) j) * v j : ℝ) : EReal)) n r
  rw [lz_real S (fun b c => A.s h (row n r) (row b c)) hS n r D hD μ hμ _ (z_rows A h n r),
    az_real S (fun b c => A.s h (row n r) (row b c)) hS n r D hD μ hμ V (fun b c => v (row b c)) l hV _ hN]
  have hz := A.z_pos h (row n r)
  have he := Real.exp_pos (-μ)
  rw [Ideal.div_coe (mul_pos hz he).ne', ← EReal.coe_mul]
  refine congrArg (fun x : ℝ => (x : EReal)) ?_
  rw [Finset.sum_mul, Finset.sum_mul]
  refine Finset.sum_congr rfl fun j _ => ?_
  split_ifs
  · unfold Arr.p
    field_simp
  · simp
end

variable (A : Arr) (i : grid0.Coords) (x0 : FVec Ideal S512x128 .bf16)

/-- The block of row block `i 1` and head pair `i 0` is that of the real queries. -/
structure Rows : Prop where
  q : ∀ r x, x0 (ix2 r x) = ((A.q (row (i 1) r) (pl (i 0) x) : ℝ) : EReal)

/-- The key block `b`'s arrays likewise. -/
structure Cols (b : Fin 32) (κ ν : FVec Ideal S512x128 .bf16) (γ : FVec Ideal S1x1x2x512 .f32) : Prop where
  k : ∀ c x, κ (ix2 c x) = ((A.k (row b c) (pl (i 0) x) : ℝ) : EReal)
  v : ∀ c x, ν (ix2 c x) = ((A.v (row b c) (pl (i 0) x) : ℝ) : EReal)
  g : ∀ (e : Fin 2) c, γ (ix4 0 0 e c) = ((A.g (row b c) (pr (i 0) e) : ℝ) : EReal)

variable {A i x0} (R : Rows A i x0)

section
variable {b : Fin 32} {κ ν : FVec Ideal S512x128 .bf16} {γ : FVec Ideal S1x1x2x512 .f32} (C : Cols A i b κ ν γ)
include R C

theorem sc0_real (r c : Fin 512) : sc0 x0 κ γ r c = ((A.s (pr (i 0) 0) (row (i 1) r) (row b c) : ℝ) : EReal) := by
  have e : ∀ d : Fin 64, pl (i 0) ⟨d.val, by omega⟩ = hd (pr (i 0) 0) d := fun d => Fin.ext (by simp [pl, hd, pr]; omega)
  unfold sc0 Arr.s
  rw [half0, C.g, EReal.coe_sub, coe_sum]
  refine congrArg₂ _ (Finset.sum_congr rfl fun d _ => ?_) rfl
  rw [R.q, C.k, eighth16, e, EReal.coe_mul, EReal.coe_mul]

theorem sc1_real (r c : Fin 512) : sc1 x0 κ γ r c = ((A.s (pr (i 0) 1) (row (i 1) r) (row b c) : ℝ) : EReal) := by
  have e : ∀ d : Fin 64, pl (i 0) ⟨64 + d.val, by omega⟩ = hd (pr (i 0) 1) d := fun d => Fin.ext (by simp [pl, hd, pr]; omega)
  unfold sc1 Arr.s
  rw [half1, C.g, EReal.coe_sub, coe_sum]
  refine congrArg₂ _ (Finset.sum_congr rfl fun d _ => ?_) rfl
  rw [R.q, C.k, eighth16, e, EReal.coe_mul, EReal.coe_mul]
end

variable {x1 x2 : FVec Ideal S16384x128 .bf16} {x3 : FVec Ideal S1x32x2x512 .f32} (K : ∀ b, Cols A i b (KB x1 b) (KB x2 b) (CB x3 b))
include R K

/-- The output at row `r` of the block, lane `l` of the pair. -/
theorem o_real (r : Fin 512) (l : Fin 128) :
    Ideal.div (Acc (mx (S0 x0 x1 x3 r) (i 1).val) (mx (S1 x0 x1 x3 r) (i 1).val) (di0 x0 (KB x1 (i 1)) (CB x3 (i 1)) r) (di1 x0 (KB x1 (i 1)) (CB x3 (i 1)) r) (KB x2 (i 1)) (ac (S0 x0 x1 x3 r) (S1 x0 x1 x3 r) (KB x2) l (i 1).val) l)
      (Scalar.select (IntOp.cmpi .slt (BitVec.ofNat 32 l.val) 64#32) (lz (S0 x0 x1 x3 r) (di0 x0 (KB x1 (i 1)) (CB x3 (i 1)) r) (i 1).val) (lz (S1 x0 x1 x3 r) (di1 x0 (KB x1 (i 1)) (CB x3 (i 1)) r) (i 1).val))
    = ((∑ j : Fin 16384, if j.val ≤ (row (i 1) r).val then A.p (pr (i 0) ⟨l.val / 64, by omega⟩) (row (i 1) r) j * A.v j (pl (i 0) l) else 0 : ℝ) : EReal) := by
  rw [lane, acc_lane, ac_lane]
  by_cases hl : l.val < 64
  · simp only [if_pos hl]
    have e : (⟨l.val / 64, by omega⟩ : Fin 2) = 0 := Fin.ext (by show l.val / 64 = 0; omega)
    rw [e]
    exact div_real A (pr (i 0) 0) (S0 x0 x1 x3 r) (di0 x0 (KB x1 (i 1)) (CB x3 (i 1)) r) (i 1) r (fun b c => sc0_real R (K b) r c)
      (fun c => if_congr Iff.rfl (sc0_real R (K (i 1)) r c) rfl) (KB x2) l (fun j => A.v j (pl (i 0) l)) fun b c => (K b).v c l
  · simp only [if_neg hl]
    have e : (⟨l.val / 64, by omega⟩ : Fin 2) = 1 := Fin.ext (by show l.val / 64 = 1; omega)
    rw [e]
    exact div_real A (pr (i 0) 1) (S1 x0 x1 x3 r) (di1 x0 (KB x1 (i 1)) (CB x3 (i 1)) r) (i 1) r (fun b c => sc1_real R (K b) r c)
      (fun c => if_congr Iff.rfl (sc1_real R (K (i 1)) r c) rfl) (KB x2) l (fun j => A.v j (pl (i 0) l)) fun b c => (K b).v c l

/-- The log-sum at row `r` of the block, head `e` of the pair. -/
theorem lse_at (r : Fin 512) (e : Fin 2) :
    (if e = 0 then ez (S0 x0 x1 x3 r) (di0 x0 (KB x1 (i 1)) (CB x3 (i 1)) r) (i 1).val else ez (S1 x0 x1 x3 r) (di1 x0 (KB x1 (i 1)) (CB x3 (i 1)) r) (i 1).val) = ((Real.log (A.z (pr (i 0) e) (row (i 1) r)) : ℝ) : EReal) := by
  match e with
  | 0 =>
    rw [if_pos rfl]
    exact ez_real A (pr (i 0) 0) (S0 x0 x1 x3 r) (di0 x0 (KB x1 (i 1)) (CB x3 (i 1)) r) (i 1) r (fun b c => sc0_real R (K b) r c) (fun c => if_congr Iff.rfl (sc0_real R (K (i 1)) r c) rfl)
  | 1 =>
    rw [if_neg (show ¬ (1 : Fin 2) = 0 by decide)]
    exact ez_real A (pr (i 0) 1) (S1 x0 x1 x3 r) (di1 x0 (KB x1 (i 1)) (CB x3 (i 1)) r) (i 1) r (fun b c => sc1_real R (K b) r c) (fun c => if_congr Iff.rfl (sc1_real R (K (i 1)) r c) rfl)

end Cert.Proof.AttF
end
-- ==== Proof.AttFHost.lean ====
/- The forward attention: what the host lines hand the kernel, over real arrays. -/
module

public import proofs.«01_k».proof.Proof.AttFBlock

@[expose] public section

set_option maxRecDepth 16384

noncomputable section

namespace Cert.Proof.AttF
open Idealize.ShloMosaic Idealize.ShloMosaic.TcCoe Idealize.SL.Sem
open Cert.AttFIdeal Cert.AttFIdeal.Gen Cert.Proof.Att
variable (m : (ℓ : Loc nD τ sig) → Buf (Elt Ideal) ℓ) (c : Dev nD)

/-- The arguments are these real arrays. -/
structure Args (A : Arr) : Prop where
  q : ∀ i x, (m (c, Proc.tc.devRef main_arg0) (ix2 i x) : EReal) = ((A.q i x : ℝ) : EReal)
  k : ∀ i x, (m (c, Proc.tc.devRef main_arg1) (ix2 i x) : EReal) = ((A.k i x : ℝ) : EReal)
  v : ∀ i x, (m (c, Proc.tc.devRef main_arg2) (ix2 i x) : EReal) = ((A.v i x : ℝ) : EReal)
  g : ∀ i x, (m (c, Proc.tc.devRef main_arg3) (ix2 i x) : EReal) = ((A.g i x : ℝ) : EReal)

variable {m c} {A : Arr} (H : Args m c A)
include H

/-- The packed queries. -/
theorem q_read (i : Fin 16384) (p : Fin 8) (x : Fin 128) : (V m c main_v1 (ix2 i ⟨128 * p.val + x.val, by omega⟩) : EReal) = ((A.q i (pl p x) : ℝ) : EReal) := by
  show StableHlo.after (List.flatten [hostOps0]) (fun b => m (c, b)) main_v1 _ = _
  simp only [hostOps0, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_pos (show 128 * p.val + x.val < 1024 by omega)]
  exact H.q _ _

/-- The packed keys. -/
theorem k_read (i : Fin 16384) (p : Fin 8) (x : Fin 128) : (V m c main_v1 (ix2 i ⟨1024 + 128 * p.val + x.val, by omega⟩) : EReal) = ((A.k i (pl p x) : ℝ) : EReal) := by
  show StableHlo.after (List.flatten [hostOps0]) (fun b => m (c, b)) main_v1 _ = _
  simp only [hostOps0, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_neg (show ¬ 1024 + 128 * p.val + x.val < 1024 by omega), dif_pos (show 1024 + 128 * p.val + x.val - 1024 < 1024 by omega)]
  refine Eq.trans (congrArg (fun y : Fin 1024 => (m (c, Proc.tc.devRef main_arg1) (ix2 i y) : EReal)) (Fin.ext ?_)) (H.k i (pl p x))
  simp only [pl]; omega

/-- The packed values. -/
theorem v_read (i : Fin 16384) (p : Fin 8) (x : Fin 128) : (V m c main_v1 (ix2 i ⟨2048 + 128 * p.val + x.val, by omega⟩) : EReal) = ((A.v i (pl p x) : ℝ) : EReal) := by
  show StableHlo.after (List.flatten [hostOps0]) (fun b => m (c, b)) main_v1 _ = _
  simp only [hostOps0, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  rw [dif_neg (show ¬ 2048 + 128 * p.val + x.val < 1024 by omega), dif_neg (show ¬ 2048 + 128 * p.val + x.val - 1024 < 1024 by omega)]
  refine Eq.trans (congrArg (fun y : Fin 1024 => (m (c, Proc.tc.devRef main_arg2) (ix2 i y) : EReal)) (Fin.ext ?_)) (H.v i (pl p x))
  simp only [pl]; omega

/-- The gate, in tiles. -/
theorem g_read (p : Fin 8) (b : Fin 32) (e : Fin 2) (s : Fin 512) : (V m c main_v4 (ix4 p b e s) : EReal) = ((A.g (row b s) (pr p e) : ℝ) : EReal) := by
  show StableHlo.after (List.flatten [hostOps0]) (fun b => m (c, b)) main_v4 _ = _
  simp only [hostOps0, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  exact H.g _ _

end Cert.Proof.AttF
end
-- ==== Proof.AttFHyps.lean ====
/- The forward attention: the table of first blocks holds zeros, so the checks the kernel assumes of it hold. -/
module

public import proofs.«01_k».proof.Defs
public import proofs.«01_k».proof.Proof.Gen.AttF.Frame
public import proofs.«01_k».proof.Proof.Gen.AttFIdeal.Frame
public import proofs.«01_k».proof.Proof.Gen.AttFRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic Idealize.ShloMosaic.TcCoe Idealize.SL.Sem

namespace AttF
section
open Cert.AttF Cert.AttF.Gen
variable {F : FTy → Type} [FloatOps F] (m : (ℓ : Loc nD τ sig) → Buf (Elt F) ℓ)

theorem chk : ∀ t : Fin grid0.N, k0_chk1 (grid0.coords t) 0#32 := by decide +kernel

theorem tbl_zero : tbl m 0 = fun _ => 0#32 := by
  funext y
  show StableHlo.after (List.flatten [hostOps0]) (fun b => m (0, b)) main_v5 y = _
  simp only [hostOps0, List.flatten_cons, List.flatten_nil, List.append_nil, List.cons_append,
      List.nil_append]
  entry_read
  rfl

theorem hyps (hO : Ok m) : Hyps m hO := Hyps.of fun c t => by
  unfold Hyps.p0
  rw [tbl_zero]
  exact chk t
end
end AttF

end Cert.Proof

end
-- ==== Proof.AttFPoint.lean ====
/- The forward attention: what the pipeline leaves in the three output arrays. -/
module

public import proofs.«01_k».proof.Proof.AttFHost
public import proofs.«01_k».proof.Proof.AttFHyps
public import proofs.«01_k».proof.Proof.AttFOut

@[expose] public section

set_option maxRecDepth 16384

noncomputable section

namespace Cert.Proof.AttF
open Idealize.ShloMosaic Idealize.ShloMosaic.TcCoe Idealize.SL.Sem
open Cert.AttFIdeal Cert.AttFIdeal.Gen Cert.Proof.Att
variable (m : (ℓ : Loc nD τ sig) → Buf (Elt Ideal) ℓ) (c : Dev nD) (hO : Ok m) (t : Fin (cfgM m hO).N)

/-- Where each window's block lies, as the grid's point says it. -/
theorem idx : ∀ t : Fin grid0.N, cc0_transform_0 (grid0.coords t) = ![(grid0.coords t 1).val, (grid0.coords t 0).val]
    ∧ cc0_transform_1 (grid0.coords t) = ![0, 8 + (grid0.coords t 0).val]
    ∧ cc0_transform_2 (grid0.coords t) = ![0, 16 + (grid0.coords t 0).val]
    ∧ cc0_transform_3 (grid0.coords t) = ![(grid0.coords t 0).val, 0, 0, 0]
    ∧ cc0_transform_4 (grid0.coords t) = ![(grid0.coords t 1).val, (grid0.coords t 0).val]
    ∧ cc0_transform_5 (grid0.coords t) = ![(grid0.coords t 0).val, (grid0.coords t 1).val, 0]
    ∧ cc0_transform_6 (grid0.coords t) = ![(grid0.coords t 0).val, (grid0.coords t 1).val, 0, 0] := by decide +kernel

theorem wx0 (k : Fin 2) : (pcfg0.win (adm m hO) 0).index t k = (![(grid0.coords t 1).val, (grid0.coords t 0).val] : Fin 2 → ℕ) k := by
  obtain ⟨h0, h1, h2, h3, h4, h5, h6⟩ := idx t
  exact congrFun h0 k

theorem wx1 (k : Fin 2) : (pcfg0.win (adm m hO) 1).index t k = (![0, 8 + (grid0.coords t 0).val] : Fin 2 → ℕ) k := by
  obtain ⟨h0, h1, h2, h3, h4, h5, h6⟩ := idx t
  exact congrFun h1 k

theorem wx2 (k : Fin 2) : (pcfg0.win (adm m hO) 2).index t k = (![0, 16 + (grid0.coords t 0).val] : Fin 2 → ℕ) k := by
  obtain ⟨h0, h1, h2, h3, h4, h5, h6⟩ := idx t
  exact congrFun h2 k

theorem wx3 (k : Fin 4) : (pcfg0.win (adm m hO) 3).index t k = (![(grid0.coords t 0).val, 0, 0, 0] : Fin 4 → ℕ) k := by
  obtain ⟨h0, h1, h2, h3, h4, h5, h6⟩ := idx t
  exact congrFun h3 k

theorem wx4 (k : Fin 2) : (pcfg0.win (adm m hO) 4).index t k = (![(grid0.coords t 1).val, (grid0.coords t 0).val] : Fin 2 → ℕ) k := by
  obtain ⟨h0, h1, h2, h3, h4, h5, h6⟩ := idx t
  exact congrFun h4 k

theorem wx5 (k : Fin 3) : (pcfg0.win (adm m hO) 5).index t k = (![(grid0.coords t 0).val, (grid0.coords t 1).val, 0] : Fin 3 → ℕ) k := by
  obtain ⟨h0, h1, h2, h3, h4, h5, h6⟩ := idx t
  exact congrFun h5 k

theorem wx6 (k : Fin 4) : (pcfg0.win (adm m hO) 6).index t k = (![(grid0.coords t 0).val, (grid0.coords t 1).val, 0, 0] : Fin 4 → ℕ) k := by
  obtain ⟨h0, h1, h2, h3, h4, h5, h6⟩ := idx t
  exact congrFun h6 k

theorem blk0 (W : (b : Ref sig .tc) → Buf (Elt Ideal) ((c.tc : Thread nD τ).loc b)) (r : Fin 512) (x : Fin 128) : (((cfgM m hO).win 0).blk t).view.read (Elt Ideal) (W (Pipeline.arrRef spec0 0)) (ix2 r x) = W main_v1 (ix2 (row (grid0.coords t 1) r) ⟨128 * (grid0.coords t 0).val + x.val, by
    have h : (grid0.coords t 0).val < 8 := (grid0.coords t 0).isLt
    omega⟩) := by
  blk_simp [row]
  refine congrArg (W main_v1) ?_
  blk_point [row]
  · exact (congrArg (fun n : ℕ => n * 512 + r.val) (wx0 m hO t 0)).trans (by show ((grid0.coords t 1).val) * 512 + r.val = _; first | rfl | omega)
  · exact (congrArg (fun n : ℕ => n * 128 + x.val) (wx0 m hO t 1)).trans (by show ((grid0.coords t 0).val) * 128 + x.val = _; first | rfl | omega)

theorem blk1 (W : (b : Ref sig .tc) → Buf (Elt Ideal) ((c.tc : Thread nD τ).loc b)) (j : Fin 16384) (x : Fin 128) : (((cfgM m hO).win 1).blk t).view.read (Elt Ideal) (W (Pipeline.arrRef spec0 1)) (ix2 j x) = W main_v1 (ix2 j ⟨1024 + 128 * (grid0.coords t 0).val + x.val, by
    have h : (grid0.coords t 0).val < 8 := (grid0.coords t 0).isLt
    omega⟩) := by
  blk_simp [row]
  refine congrArg (W main_v1) ?_
  blk_point [row]
  · exact (congrArg (fun n : ℕ => n * 16384 + j.val) (wx1 m hO t 0)).trans (by show (0) * 16384 + j.val = _; first | rfl | omega)
  · exact (congrArg (fun n : ℕ => n * 128 + x.val) (wx1 m hO t 1)).trans (by show (8 + (grid0.coords t 0).val) * 128 + x.val = _; first | rfl | omega)

theorem blk2 (W : (b : Ref sig .tc) → Buf (Elt Ideal) ((c.tc : Thread nD τ).loc b)) (j : Fin 16384) (x : Fin 128) : (((cfgM m hO).win 2).blk t).view.read (Elt Ideal) (W (Pipeline.arrRef spec0 2)) (ix2 j x) = W main_v1 (ix2 j ⟨2048 + 128 * (grid0.coords t 0).val + x.val, by
    have h : (grid0.coords t 0).val < 8 := (grid0.coords t 0).isLt
    omega⟩) := by
  blk_simp [row]
  refine congrArg (W main_v1) ?_
  blk_point [row]
  · exact (congrArg (fun n : ℕ => n * 16384 + j.val) (wx2 m hO t 0)).trans (by show (0) * 16384 + j.val = _; first | rfl | omega)
  · exact (congrArg (fun n : ℕ => n * 128 + x.val) (wx2 m hO t 1)).trans (by show (16 + (grid0.coords t 0).val) * 128 + x.val = _; first | rfl | omega)

theorem blk3 (W : (b : Ref sig .tc) → Buf (Elt Ideal) ((c.tc : Thread nD τ).loc b)) (b : Fin 32) (e : Fin 2) (k : Fin 512) : (((cfgM m hO).win 3).blk t).view.read (Elt Ideal) (W (Pipeline.arrRef spec0 3)) (ix4 0 b e k) = W main_v4 (ix4 (grid0.coords t 0) b e k) := by
  blk_simp [row]
  refine congrArg (W main_v4) ?_
  blk_point [row]
  · exact wx3 m hO t 0
  · exact (congrArg (fun n : ℕ => n * 32 + b.val) (wx3 m hO t 1)).trans (by show (0) * 32 + b.val = _; first | rfl | omega)
  · exact (congrArg (fun n : ℕ => n * 2 + e.val) (wx3 m hO t 2)).trans (by show (0) * 2 + e.val = _; first | rfl | omega)
  · exact (congrArg (fun n : ℕ => n * 512 + k.val) (wx3 m hO t 3)).trans (by show (0) * 512 + k.val = _; first | rfl | omega)

theorem rows {m : (ℓ : Loc nD τ sig) → Buf (Elt Ideal) ℓ} {c : Dev nD} (hO : Ok m) (t : Fin (cfgM m hO).N) {A : Arr} (H : Args m c A) : Rows A (grid0.coords t) (iblk m hO c 0 t : Vec Ideal S512x128 .bf16) where
  q r x := (blk0 m c hO t _ r x).trans (q_read H _ _ x)

theorem cb_at (x : FVec Ideal S1x32x2x512 .f32) (b : Fin 32) (e : Fin 2) (s : Fin 512) : CB x b (ix4 0 0 e s) = x (ix4 0 b e s) := rfl

theorem k_blk {m : (ℓ : Loc nD τ sig) → Buf (Elt Ideal) ℓ} {c : Dev nD} (hO : Ok m) (t : Fin (cfgM m hO).N) {A : Arr} (H : Args m c A) (b : Fin 32) (s : Fin 512) (x : Fin 128) : (KB (iblk m hO c 1 t : Vec Ideal S16384x128 .bf16) b (ix2 s x) : EReal) = ((A.k (row b s) (pl (grid0.coords t 0) x) : ℝ) : EReal) :=
  (blk1 m c hO t _ _ x).trans (Eq.trans (congrArg (fun k => V m c main_v1 (ix2 k _)) (Fin.ext (congrArg (· + s.val) (Nat.mul_comm 512 _)))) (k_read H (row b s) _ x))

theorem v_blk {m : (ℓ : Loc nD τ sig) → Buf (Elt Ideal) ℓ} {c : Dev nD} (hO : Ok m) (t : Fin (cfgM m hO).N) {A : Arr} (H : Args m c A) (b : Fin 32) (s : Fin 512) (x : Fin 128) : (KB (iblk m hO c 2 t : Vec Ideal S16384x128 .bf16) b (ix2 s x) : EReal) = ((A.v (row b s) (pl (grid0.coords t 0) x) : ℝ) : EReal) :=
  (blk2 m c hO t _ _ x).trans (Eq.trans (congrArg (fun k => V m c main_v1 (ix2 k _)) (Fin.ext (congrArg (· + s.val) (Nat.mul_comm 512 _)))) (v_read H (row b s) _ x))

theorem g_blk {m : (ℓ : Loc nD τ sig) → Buf (Elt Ideal) ℓ} {c : Dev nD} (hO : Ok m) (t : Fin (cfgM m hO).N) {A : Arr} (H : Args m c A) (b : Fin 32) (e : Fin 2) (s : Fin 512) : (CB (iblk m hO c 3 t : Vec Ideal S1x32x2x512 .f32) b (ix4 0 0 e s) : EReal) = ((A.g (row b s) (pr (grid0.coords t 0) e) : ℝ) : EReal) :=
  (cb_at _ b e s).trans <| (blk3 m c hO t (V m c) b e s).trans (g_read H (grid0.coords t 0) b e s)

theorem cols {m : (ℓ : Loc nD τ sig) → Buf (Elt Ideal) ℓ} {c : Dev nD} (hO : Ok m) (t : Fin (cfgM m hO).N) {A : Arr} (H : Args m c A) (b : Fin 32) : Cols A (grid0.coords t) b (KB (iblk m hO c 1 t : Vec Ideal S16384x128 .bf16) b) (KB (iblk m hO c 2 t : Vec Ideal S16384x128 .bf16) b) (CB (iblk m hO c 3 t : Vec Ideal S1x32x2x512 .f32) b) :=
  ⟨k_blk hO t H b, v_blk hO t H b, g_blk hO t H b⟩

theorem tbl_zero' : tbl m 0 = fun _ => 0#32 := by
  funext y
  show StableHlo.after (List.flatten [hostOps0]) (fun b => m (0, b)) main_v5 y = _
  simp only [hostOps0, List.flatten_cons, List.flatten_nil, List.append_nil, List.cons_append, List.nil_append]
  entry_read
  rfl

theorem hyps' (hO : Ok m) : Hyps m hO := Hyps.of fun c t => by
  unfold Hyps.p0
  rw [tbl_zero']
  exact (by decide +kernel : ∀ t : Fin grid0.N, k0_chk1 (grid0.coords t) 0#32) t

theorem word (i : grid0.Coords) (xt0 : TbBuf0 (F := Ideal) c tbM0_0) (h : xt0 = fun _ => 0#32) : (tbM0_0.view.readAt (Elt Ideal) (Rect.unit (s := S8x32) (k0_off1 i) S1x1.size (k0_off1_inb i)).toLoadRect xt0 (Shape.Idx.first (numel1_S1x1.symm ▸ Nat.one_pos))) = 0#32 := by
  subst h
  rfl

theorem emb4 (r : Fin 512) (l : Fin 128) : (((cfgM m hO).win 4).blk t).view.emb (ix2 r l) = ix2 (row (grid0.coords t 1) r) (pl (grid0.coords t 0) l) := by
  blk_point [row, pl]
  · exact (congrArg (fun n : ℕ => n * 512 + r.val) (wx4 m hO t 0)).trans (by show ((grid0.coords t 1).val) * 512 + r.val = _; first | rfl | omega)
  · exact (congrArg (fun n : ℕ => n * 128 + l.val) (wx4 m hO t 1)).trans (by show ((grid0.coords t 0).val) * 128 + l.val = _; first | rfl | omega)

theorem emb5 (r : Fin 512) (e : Fin 2) : (((cfgM m hO).win 5).blk t).view.emb (ix3 0 r e) = ix3 (grid0.coords t 0) (row (grid0.coords t 1) r) e := by
  blk_point [row, pl]
  · exact wx5 m hO t 0
  · exact (congrArg (fun n : ℕ => n * 512 + r.val) (wx5 m hO t 1)).trans (by show ((grid0.coords t 1).val) * 512 + r.val = _; first | rfl | omega)
  · exact (congrArg (fun n : ℕ => n * 2 + e.val) (wx5 m hO t 2)).trans (by show (0) * 2 + e.val = _; first | rfl | omega)

theorem emb6 (e : Fin 2) (r : Fin 512) : (((cfgM m hO).win 6).blk t).view.emb (ix4 0 0 e r) = ix4 (grid0.coords t 0) (grid0.coords t 1) e r := by
  blk_point [row, pl]
  · exact wx6 m hO t 0
  · exact wx6 m hO t 1
  · exact (congrArg (fun n : ℕ => n * 2 + e.val) (wx6 m hO t 2)).trans (by show (0) * 2 + e.val = _; first | rfl | omega)
  · exact (congrArg (fun n : ℕ => n * 512 + r.val) (wx6 m hO t 3)).trans (by show (0) * 512 + r.val = _; first | rfl | omega)

theorem cov4 : ((cfgM m hO).win 4).Covers := by
  let m₀ : (ℓ : Loc nD τ sig) → Buf (Elt Ideal) ℓ := fun _ _ => Classical.choice inferInstance
  exact (by decide +kernel : ((cfgM m₀ trivial).win 4).Covers)

theorem cov5 : ((cfgM m hO).win 5).Covers := by
  let m₀ : (ℓ : Loc nD τ sig) → Buf (Elt Ideal) ℓ := fun _ _ => Classical.choice inferInstance
  exact (by decide +kernel : ((cfgM m₀ trivial).win 5).Covers)

theorem cov6 : ((cfgM m hO).win 6).Covers := by
  let m₀ : (ℓ : Loc nD τ sig) → Buf (Elt Ideal) ℓ := fun _ _ => Classical.choice inferInstance
  exact (by decide +kernel : ((cfgM m₀ trivial).win 6).Covers)

/-- The attention's output, of real arrays. -/
def G4 (A : Arr) : FVec Ideal S16384x1024 .f32 := fun y => ((∑ j : Fin 16384, if j.val ≤ (y 0).val then A.p ⟨(y 1).val / 64, by have h : (y 1).val < 1024 := (y 1).isLt; omega⟩ (y 0) j * A.v j (y 1) else 0 : ℝ) : EReal)
/-- Its log-sums, head pairs first. -/
def G5 (A : Arr) : FVec Ideal S8x16384x2 .f32 := fun y => ((Real.log (A.z (pr (y 0) (y 2)) (y 1)) : ℝ) : EReal)
/-- The same in tiles. -/
def G6 (A : Arr) : FVec Ideal S8x32x2x512 .f32 := fun y => ((Real.log (A.z (pr (y 0) (y 2)) (row (y 1) (y 3))) : ℝ) : EReal)

theorem head_lane (p : Fin 8) (l : Fin 128) : pr p ⟨l.val / 64, by omega⟩ = ⟨(pl p l).val / 64, by omega⟩ := Fin.ext (by
  show p.val * 2 + l.val / 64 = (128 * p.val + l.val) / 64
  omega)

variable {m c} (hH : Hyps m hO) {A : Arr} (H : Args m c A)
include H
theorem at4 (y : S512x128.Idx) : ((dats m hO hH 0 c).after 4 t : Vec Ideal S512x128 .f32) y = G4 A ((((cfgM m hO).win 4).blk t).view.emb y) := by
  obtain ⟨r, l, rfl⟩ : ∃ (r : Fin 512) (l : Fin 128), y = ix2 r l := ⟨y 0, y 1, by idx_vars y⟩
  refine Eq.trans ?_ (congrArg (G4 A) (emb4 m hO t r l)).symm
  rw [after0_4]
  unfold outsAt0
  dsimp only
  refine Eq.trans (out4 c _ _ _ _ _ _ _ _ _ _ _ _ _ _ _ _ _ _ _ _ _ _ _ _ _ _ _ (word c _ _ (tbl_zero' m)) r l) ((o_real (rows hO t H) (cols hO t H) r l).trans ?_)
  have e : pr (grid0.coords t 0) ⟨l.val / 64, by omega⟩ = ⟨(pl (grid0.coords t 0) l).val / 64, by omega⟩ := head_lane (grid0.coords t 0) l
  rw [e]
  rfl

theorem at5 (y : S1x512x2.Idx) : ((dats m hO hH 0 c).after 5 t : Vec Ideal S1x512x2 .f32) y = G5 A ((((cfgM m hO).win 5).blk t).view.emb y) := by
  obtain ⟨r, e, rfl⟩ : ∃ (r : Fin 512) (e : Fin 2), y = ix3 0 r e := ⟨y 1, y 2, by idx_vars y; refine congrArg (fun a => ix3 a _ _) ?_; exact Subsingleton.elim _ _⟩
  refine Eq.trans ?_ (congrArg (G5 A) (emb5 m hO t r e)).symm
  rw [after0_5]
  unfold outsAt0
  dsimp only
  exact Eq.trans (out5 c _ _ _ _ _ _ _ _ _ _ _ _ _ _ _ _ _ _ _ _ _ _ _ _ _ _ _ (word c _ _ (tbl_zero' m)) r e) (lse_at (rows hO t H) (cols hO t H) r e)

theorem at6 (y : S1x1x2x512.Idx) : ((dats m hO hH 0 c).after 6 t : Vec Ideal S1x1x2x512 .f32) y = G6 A ((((cfgM m hO).win 6).blk t).view.emb y) := by
  obtain ⟨e, r, rfl⟩ : ∃ (e : Fin 2) (r : Fin 512), y = ix4 0 0 e r := ⟨y 2, y 3, by idx_vars y; refine congrArg₂ (fun a b => ix4 a b _ _) ?_ ?_ <;> exact Subsingleton.elim _ _⟩
  refine Eq.trans ?_ (congrArg (G6 A) (emb6 m hO t e r)).symm
  rw [after0_6]
  unfold outsAt0
  dsimp only
  exact Eq.trans (out6 c _ _ _ _ _ _ _ _ _ _ _ _ _ _ _ _ _ _ _ _ _ _ _ _ _ _ _ (word c _ _ (tbl_zero' m)) r e) (lse_at (rows hO t H) (cols hO t H) r e)

theorem final4 : (dats m hO hH 0 c).arrAt 4 (cfgM m hO).N = G4 A :=
  (dats m hO hH 0 c).arrAt_eq_of_covers 4 _ (cov4 m hO) fun t _ y => at4 hO t hH H y

theorem final5 : (dats m hO hH 0 c).arrAt 5 (cfgM m hO).N = G5 A :=
  (dats m hO hH 0 c).arrAt_eq_of_covers 5 _ (cov5 m hO) fun t _ y => at5 hO t hH H y

theorem final6 : (dats m hO hH 0 c).arrAt 6 (cfgM m hO).N = G6 A :=
  (dats m hO hH 0 c).arrAt_eq_of_covers 6 _ (cov6 m hO) fun t _ y => at6 hO t hH H y

end Cert.Proof.AttF
end
-- ==== Proof.AttFEnd.lean ====
/- The forward attention: both programs compute the same output and the same log-sums. -/
module

public import proofs.«01_k».proof.Proof.AttFPoint
public import proofs.«01_k».proof.Proof.AttRef
public import proofs.«01_k».proof.Proof.AttPre
public import proofs.«01_k».proof.Proof.Gen.Pre_finite_forward
public import proofs.«01_k».proof.Proof.Gen.AttFRefIdeal.Run
public import proofs.«01_k».proof.Proof.Gen.AttFIdeal.Frame
public import proofs.«01_k».proof.Defs

@[expose] public section

set_option maxRecDepth 16384

noncomputable section

namespace Cert.Proof.AttF
open Idealize.ShloMosaic Idealize.ShloMosaic.TcCoe Idealize.SL.Sem
open Cert.Proof.Att
variable {a0 a1 a2 : FVec Ideal Cert.Pre_finite_forward.S16384x1024 .f32} {a3 : FVec Ideal Cert.Pre_finite_forward.S16384x16 .f32}
/-- Under the precondition the four arrays are arrays of reals. -/
theorem forward_reals (p0 : (Cert.Pre_finite_forward.fn (F := Ideal) a0 a1 a2 a3).1 = fun _ => 1#1) (p1 : (Cert.Pre_finite_forward.fn (F := Ideal) a0 a1 a2 a3).2.1 = fun _ => 1#1) (p2 : (Cert.Pre_finite_forward.fn (F := Ideal) a0 a1 a2 a3).2.2.1 = fun _ => 1#1) (p3 : (Cert.Pre_finite_forward.fn (F := Ideal) a0 a1 a2 a3).2.2.2 = fun _ => 1#1) :
    ∃ A : Arr, (∀ i x, a0 (ix2 i x) = (A.q i x : ℝ)) ∧ (∀ i x, a1 (ix2 i x) = (A.k i x : ℝ)) ∧ (∀ i x, a2 (ix2 i x) = (A.v i x : ℝ)) ∧ ∀ i x, a3 (ix2 i x) = (A.g i x : ℝ) := by
  refine ⟨⟨fun i x => (a0 (ix2 i x) : EReal).toReal, fun i x => (a1 (ix2 i x) : EReal).toReal, fun i x => (a2 (ix2 i x) : EReal).toReal,
    fun _ _ => 0, fun i x => (a3 (ix2 i x) : EReal).toReal⟩, fun i x => ?_, fun i x => ?_, fun i x => ?_, fun i x => ?_⟩
  · have h := congrFun p0 (ix2 i x)
    pointwise [Cert.Pre_finite_forward.fn] at h
    exact real_bit h
  · have h := congrFun p1 (ix2 i x)
    pointwise [Cert.Pre_finite_forward.fn] at h
    exact real_bit h
  · have h := congrFun p2 (ix2 i x)
    pointwise [Cert.Pre_finite_forward.fn] at h
    exact real_bit h
  · have h := congrFun p3 (ix2 i x)
    pointwise [Cert.Pre_finite_forward.fn] at h
    exact real_bit h
end Cert.Proof.AttF

namespace Cert.Proof.AttFRef
open Idealize.ShloMosaic Idealize.ShloMosaic.TcCoe Idealize.SL.Sem
open Cert.AttFRefIdeal Cert.AttFRefIdeal.Gen Cert.AttFRefIdeal.Value Cert.Proof.Att
open Cert.Proof.AttRef (heads scores maxV maskV expV sumV heads_at maxV_at)

/-- The masked scores without the row's own gate. -/
def columnV (q k : FVec Ideal S16x16384x64 .f32) (a3 : FVec Ideal S16384x16 .f32) : FVec Ideal S16x16384x16384 .f32 := (select maskV (subf (mulf (Host.dotGeneral dot_S16x16384x64_S16x16384x64_S16x16384x16384_2_2_1_1_0_0 none q k) (broadcastInDim S16x16384x16384 ![] bcast_S_S16x16384x16384 (constant S_ .f32 0x3E000000#32))) (broadcastInDim S16x16384x16384 ![0, 1, 2] bcast_S16x1x16384_S16x16384x16384_0_1_2 (broadcastInDim S16x1x16384 ![0, 2] bcast_S16x16384_S16x1x16384_0_2 (transpose S16x16384 [1, 0] a3 transposes_S16384x16_S16x16384_1_0)))) (broadcastInDim S16x16384x16384 ![] bcast_S_S16x16384x16384 (id (constant S_ .f32 0xFF800000#32))))
/-- A row's greatest score and the logarithm of its sum of exponentials. -/
def logV (L : FVec Ideal S16x16384x16384 .f32) (μ : FVec Ideal S16x16384 .f32) : FVec Ideal S16x16384 .f32 := (addf (shapeCast _ (broadcastInDim S16x16384x1 ![0, 1] bcast_S16x16384_S16x16384x1_0_1 μ) shapeCasts_S16x16384x1_S16x16384) (Host.log (Host.reduceAdd (Host.exp (subf L (broadcastInDim S16x16384x16384 ![0, 1, 2] bcast_S16x16384x1_S16x16384x16384_0_1_2 (broadcastInDim S16x16384x1 ![0, 1] bcast_S16x16384_S16x16384x1_0_1 μ)))) (constant S_ .f32 0x00000000#32) reducesTo_S16x16384x16384_S16x16384_d2 h_S_)))
def lseV (L : FVec Ideal S16x16384x16384 .f32) : FVec Ideal S16x16384 .f32 := logV L (maxV L)
/-- The log-sums by head pairs. -/
def columnsV (Y : FVec Ideal S16x16384 .f32) : FVec Ideal S8x16384x2 .f32 := transpose S8x16384x2 [0, 2, 1] (shapeCast _ Y shapeCasts_S16x16384_S8x2x16384) transposes_S8x2x16384_S8x16384x2_0_2_1
/-- The log-sums in tiles. -/
def tilesV (Y : FVec Ideal S16x16384 .f32) : FVec Ideal S8x32x2x512 .f32 := transpose S8x32x2x512 [0, 2, 1, 3] (shapeCast _ (transpose S16x16384 [1, 0] (transpose S16384x16 [1, 0] Y transposes_S16x16384_S16384x16_1_0) transposes_S16384x16_S16x16384_1_0) shapeCasts_S16x16384_S8x2x32x512) transposes_S8x2x32x512_S8x32x2x512_0_2_1_3
/-- The weighted values. -/
def outV (V : FVec Ideal S16x16384x64 .f32) (U : FVec Ideal S16x16384x16384 .f32) (S : FVec Ideal S16x16384x1 .f32) : FVec Ideal S16384x1024 .f32 := shapeCast _ (transpose S16384x16x64 [1, 0, 2] (Host.dotGeneral dot_S16x16384x16384_S16x16384x64_S16x16384x64_2_1_1_2_0_0 none (Host.divf U (broadcastInDim S16x16384x16384 ![0, 1, 2] bcast_S16x16384x1_S16x16384x16384_0_1_2 S)) V) transposes_S16x16384x64_S16384x16x64_1_0_2) shapeCasts_S16384x16x64_S16384x1024

theorem columnV_at (q k : FVec Ideal S16x16384x64 .f32) (a3 : FVec Ideal S16384x16 .f32) (h : Fin 16) (i j : Fin 16384) : columnV q k a3 (ix3 h i j)
    = if j.val ≤ i.val then (∑ d : Fin 64, q (ix3 h i d) * k (ix3 h j d)) * ((1 / 8 : ℝ) : EReal) - a3 (ix2 j h) else ⊥ := by
  pointwise [columnV, maskV]
  rw [mask, eighth]
  split_ifs
  · rfl
  · exact negInf
theorem logV_at (L : FVec Ideal S16x16384x16384 .f32) (μ : FVec Ideal S16x16384 .f32) (h : Fin 16) (i : Fin 16384) : logV L μ (ix2 h i)
    = μ (ix2 h i) + Ideal.log (∑ x : Fin 16384, Ideal.exp (L (ix3 h i x) - μ (ix2 h i))) := by
  pointwise [logV]
theorem columnsV_at (Y : FVec Ideal S16x16384 .f32) (p : Fin 8) (r : Fin 16384) (e : Fin 2) : columnsV Y (ix3 p r e) = Y (ix2 (pr p e) r) := by
  pointwise [columnsV]
  rfl
theorem tilesV_at (Y : FVec Ideal S16x16384 .f32) (p : Fin 8) (b : Fin 32) (e : Fin 2) (r : Fin 512) : tilesV Y (ix4 p b e r) = Y (ix2 (pr p e) (row b r)) := by
  pointwise [tilesV]
  rfl
theorem outV_at (V : FVec Ideal S16x16384x64 .f32) (U : FVec Ideal S16x16384x16384 .f32) (S : FVec Ideal S16x16384x1 .f32) (i : Fin 16384) (x : Fin 1024) : outV V U S (ix2 i x)
    = ∑ j : Fin 16384, Ideal.div (U (ix3 ⟨x.val / 64, by omega⟩ i j)) (S (ix3 ⟨x.val / 64, by omega⟩ i 0)) * V (ix3 ⟨x.val / 64, by omega⟩ j ⟨x.val % 64, by omega⟩) := by
  pointwise [outV]

theorem lane (x : Fin 1024) : hd ⟨x.val / 64, by omega⟩ ⟨x.val % 64, by omega⟩ = x := Fin.ext (by show x.val / 64 * 64 + x.val % 64 = x.val; omega)

section
variable {A : Arr} {a0 a1 : FVec Ideal S16384x1024 .f32} {a3 : FVec Ideal S16384x16 .f32}
  (h0 : ∀ i x, a0 (ix2 i x) = (A.q i x : ℝ)) (h1 : ∀ i x, a1 (ix2 i x) = (A.k i x : ℝ)) (h3 : ∀ i x, a3 (ix2 i x) = (A.g i x : ℝ))
include h0 h1 h3
/-- The row's scores are the specification's. -/
theorem column_real (h : Fin 16) (i j : Fin 16384) : columnV (heads a0) (heads a1) a3 (ix3 h i j) = X (fun j : Fin 16384 => j.val ≤ i.val) (A.s h i) j := by
  rw [columnV_at]
  unfold X
  split_ifs
  · simp only [heads_at, h0, h1, h3, ← EReal.coe_mul, ← EReal.coe_sub, ← coe_sum]
    refine congrArg (fun x : ℝ => (x : EReal)) ?_
    unfold Arr.s
    have e : ∀ d, A.q i (hd h d) * (1 / 8) * A.k j (hd h d) = A.q i (hd h d) * A.k j (hd h d) * (1 / 8) := fun d => by ring
    simp only [e, ← Finset.sum_mul]
  · rfl

/-- The log-sum of a row. -/
theorem lseV_real (h : Fin 16) (i : Fin 16384) : lseV (columnV (heads a0) (heads a1) a3) (ix2 h i) = ((Real.log (A.z h i) : ℝ) : EReal) := by
  obtain ⟨μ, hμ⟩ := fold_real (fun j : Fin 16384 => j.val ≤ i.val) (A.s h i) Finset.univ ⟨i, Finset.mem_univ _, le_refl _⟩
  unfold lseV
  rw [logV_at, maxV_at]
  simp only [column_real h0 h1 h3]
  rw [hμ, sum_exp]
  exact lse_real _ _ (j := i) (le_refl i.val) μ

theorem columns_ref : columnsV (lseV (columnV (heads a0) (heads a1) a3)) = AttF.G5 A := by
  funext y
  obtain ⟨p, r, e, rfl⟩ : ∃ (p : Fin 8) (r : Fin 16384) (e : Fin 2), y = ix3 p r e := ⟨y 0, y 1, y 2, by idx_vars y⟩
  exact (columnsV_at _ p r e).trans (lseV_real h0 h1 h3 _ _)

theorem tiles_ref : tilesV (lseV (columnV (heads a0) (heads a1) a3)) = AttF.G6 A := by
  funext y
  obtain ⟨p, b, e, r, rfl⟩ : ∃ (p : Fin 8) (b : Fin 32) (e : Fin 2) (r : Fin 512), y = ix4 p b e r := ⟨y 0, y 1, y 2, y 3, by idx_vars y⟩
  exact (tilesV_at _ p b e r).trans (lseV_real h0 h1 h3 _ _)
end

theorem out_ref {A : Arr} {a : FVec Ideal S16384x1024 .f32} (ha : ∀ i x, a (ix2 i x) = (A.v i x : ℝ)) (U : FVec Ideal S16x16384x16384 .f32) (S : FVec Ideal S16x16384x1 .f32)
    (hU : ∀ h i j, Ideal.div (U (ix3 h i j)) (S (ix3 h i 0)) = ((if j.val ≤ i.val then A.p h i j else 0 : ℝ) : EReal)) : outV (heads a) U S = AttF.G4 A := by
  funext y
  obtain ⟨i, x, rfl⟩ : ∃ (i : Fin 16384) (x : Fin 1024), y = ix2 i x := ⟨y 0, y 1, by idx_vars y⟩
  rw [outV_at]
  simp only [heads_at, lane, hU, ha]
  show _ = ((∑ j : Fin 16384, if j.val ≤ i.val then A.p ⟨x.val / 64, by omega⟩ i j * A.v j x else 0 : ℝ) : EReal)
  simp only [← EReal.coe_mul, ← coe_sum]
  refine congrArg (fun x : ℝ => (x : EReal)) (Finset.sum_congr rfl fun j _ => ?_)
  split_ifs <;> ring

theorem res_v64 (m : (ℓ : Loc nD τ sig) → Buf (Elt Ideal) ℓ) (c : Dev nD) : res_main_v64 (F := Ideal) m c = outV (heads (m ((c.tc : Thread nD τ).loc main_arg2))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3)))))) := rfl
theorem res_v66 (m : (ℓ : Loc nD τ sig) → Buf (Elt Ideal) ℓ) (c : Dev nD) : res_main_v66 (F := Ideal) m c = columnsV (lseV (columnV (heads (m ((c.tc : Thread nD τ).loc main_arg0))) (heads (m ((c.tc : Thread nD τ).loc main_arg1))) (m ((c.tc : Thread nD τ).loc main_arg3)))) := rfl
theorem res_v70 (m : (ℓ : Loc nD τ sig) → Buf (Elt Ideal) ℓ) (c : Dev nD) : res_main_v70 (F := Ideal) m c = tilesV (lseV (columnV (heads (m ((c.tc : Thread nD τ).loc main_arg0))) (heads (m ((c.tc : Thread nD τ).loc main_arg1))) (m ((c.tc : Thread nD τ).loc main_arg3)))) := rfl

theorem vals (m : (ℓ : Loc nD τ sig) → Buf (Elt Ideal) ℓ) (c : Dev nD) (A : Arr)
    (h0 : ∀ i x, (m ((c.tc : Thread nD τ).loc main_arg0) (ix2 i x) : EReal) = ((A.q i x : ℝ) : EReal))
    (h1 : ∀ i x, (m ((c.tc : Thread nD τ).loc main_arg1) (ix2 i x) : EReal) = ((A.k i x : ℝ) : EReal))
    (h2 : ∀ i x, (m ((c.tc : Thread nD τ).loc main_arg2) (ix2 i x) : EReal) = ((A.v i x : ℝ) : EReal))
    (h3 : ∀ i x, (m ((c.tc : Thread nD τ).loc main_arg3) (ix2 i x) : EReal) = ((A.g i x : ℝ) : EReal)) :
    res_main_v64 (F := Ideal) m c = AttF.G4 A ∧ res_main_v66 (F := Ideal) m c = AttF.G5 A ∧ res_main_v70 (F := Ideal) m c = AttF.G6 A :=
  ⟨(res_v64 m c).trans (out_ref h2 _ _ (AttRef.weight_real h0 h1 h3)), (res_v66 m c).trans (columns_ref h0 h1 h3), (res_v70 m c).trans (tiles_ref h0 h1 h3)⟩

end Cert.Proof.AttFRef

namespace Cert.Proof
open Idealize.ShloMosaic Idealize.ShloMosaic.TcCoe Idealize.SL.Sem
open Cert.Proof.Att

theorem attFRef_frame : Cert.quiescent_AttFRefIdeal := fun m g _ =>
  (θ_run Cert.AttFRefIdeal.defs _ _).mono (fun r h => ⟨fun c => (h c).2.2.2, sem_eq_zero_of_no_sems (by decide) r.2⟩) (Cert.AttFRefIdeal.Value.run (F := Ideal) m g)

section
open Cert.AttFIdeal Cert.AttFIdeal.Gen Cert.Proof.AttF
/-- What the kernel leaves: the attention of the specification and its log-sums, its arguments untouched. -/
theorem attF_run (m : (ℓ : Loc nD τ sig) → Buf (Elt Ideal) ℓ) (g : Dev nD → PrngReg) (A : Dev nD → Arr) (H : ∀ c, Args m c (A c)) :
    θ_run defs (onTc (τ := τ) (main (F := Ideal))) ⟨m, fun _ => 0, g⟩ (fun r => ∀ c : Dev nD,
      r.2.mem ((c.tc : Thread nD τ).loc main_v6_0) = G4 (A c) ∧ r.2.mem ((c.tc : Thread nD τ).loc main_v6_1) = G5 (A c) ∧ r.2.mem ((c.tc : Thread nD τ).loc main_v6_2) = G6 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 trivial (hyps' m trivial) (H c)), ((h.1 c).1 5).trans (final5 trivial (hyps' m trivial) (H c)),
      ((h.1 c).1 6).trans (final6 trivial (hyps' m trivial) (H c)), h.2 c⟩)
    (θ_run_and (run_main m g trivial (hyps' m trivial)) (unchanged m g trivial (hyps' m trivial)))
end

theorem attF_algebraic : Cert.algebraic_AttFIdeal_AttFRefIdeal_pre_finite_forward := by
  intro m g m' g' hpre hagree
  have hA := fun c => AttF.forward_reals (hpre c).1 (hpre c).2.1 (hpre c).2.2.1 (hpre c).2.2.2
  choose A hA using hA
  refine ⟨fun c => AttF.G4 (A c), fun c => AttF.G5 (A c), fun c => AttF.G6 (A c), attF_run m g A fun c => ⟨(hA c).1, (hA c).2.1, (hA c).2.2.1, (hA c).2.2.2⟩, ?_⟩
  refine (θ_run Cert.AttFRefIdeal.defs _ _).mono (fun r h c => ?_) (Cert.AttFRefIdeal.Value.run (F := Ideal) m' g')
  have e := AttFRef.vals m' c (A c) (fun i x => (congrFun (hagree c).1 _).trans ((hA c).1 i x)) (fun i x => (congrFun (hagree c).2.1 _).trans ((hA c).2.1 i x))
    (fun i x => (congrFun (hagree c).2.2.1 _).trans ((hA c).2.2.1 i x)) (fun i x => (congrFun (hagree c).2.2.2 _).trans ((hA c).2.2.2 i x))
  exact ⟨(h c).1.trans e.1, (h c).2.1.trans e.2.1, (h c).2.2.1.trans e.2.2, (h c).2.2.2⟩
end Cert.Proof

end
-- ==== Proof.AdaPoint.lean ====
/- The gradient of the modulation's projection: the array the kernel leaves is the reference's. -/
module

public import proofs.«01_k».proof.Proof.Gen.AdaIdeal.Frame
public import proofs.«01_k».proof.Proof.Gen.AdaRefIdeal.Run
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

namespace Cert.Proof
open Idealize.ShloMosaic Idealize.ShloMosaic.TcCoe Idealize.SL.Sem

theorem adaRef_frame : Cert.quiescent_AdaRefIdeal := fun m g _ =>
  (θ_run Cert.AdaRefIdeal.defs _ _).mono (fun r h => ⟨fun c => (h c).2, sem_eq_zero_of_no_sems (by decide) r.2⟩) (Cert.AdaRefIdeal.Value.run (F := Ideal) m g)

namespace Ada
open Cert.AdaIdeal Cert.AdaIdeal.Gen
variable (m : (ℓ : Loc nD τ sig) → Buf (Elt Ideal) ℓ)

theorem idx : ∀ t : Fin cfg0.N, win0_0.index t = ![0, 0] ∧ win0_1.index t = ![t.val / 3, 0, t.val % 3] ∧ win0_2.index t = ![t.val / 3, 0, t.val % 3] :=
  (by decide +kernel : ∀ t : Fin grid0.N, _)

/-- The activation of the conditioning vector. -/
def act (x : EReal) : EReal := x * Ideal.div 1 (1 + Ideal.exp (-x))

/-- What the region leaves: the activations against the cotangent, over the eight sequences. -/
def G (c : FVec Ideal S8x1024 .f32) (d : FVec Ideal S2x8x1536 .f32) : FVec Ideal S2x1024x1536 .f32 := fun i => ∑ b : Fin 8, act (c (ix2 b (i 1))) * d (ix3 (i 0) b (i 2))

theorem final (c : Dev nD) : (dats m 0 c).arrAt 2 (cfgs 0).N = G (m ((c : Thread nD τ).loc main_arg0)) (m ((c : Thread nD τ).loc main_arg2)) := by
  refine (dats m 0 c).arrAt_eq_of_covers 2 _ (by decide +kernel) fun t _ y => ?_
  blk_simp
  rw [after0_2]; frame_out
  idx_vars y
  pointwise [k0_pay1, k0_pay2, k0_pay3, k0_pay4, k0_pay5, k0_pay6, G, act]
  rw [Fin.sum_univ_eight]
  blk_point [iblk, V, idx t]
  all_goals
    rw [zero_sub]
    entry_read
    pointwise
    blk_point [idx t]
end Ada

theorem ada_algebraic : Cert.algebraic_AdaIdeal_AdaRefIdeal := by
  pair_intro
  · run_from Cert.AdaIdeal.Gen.run_main m g
  · run_from Cert.AdaRefIdeal.Value.run m' g'
    rw [Ada.final]
    funext i
    idx_vars i
    pointwise [Ada.G, Ada.act]
    have hi : i0 = 0 ∨ i0 = 1 := by omega
    rcases hi with rfl | rfl
    · rw [dif_neg (by decide), dif_pos (by decide), zero_add]
      exact Finset.sum_congr rfl fun x _ => mul_comm _ _
    · rw [dif_pos (by decide), dif_neg (by decide), add_zero]
      exact Finset.sum_congr rfl fun x _ => mul_comm _ _
end Cert.Proof

end
-- ==== Proof.GateMath.lean ====
/- The gated group normalisation's gradient over one group of 256 lanes: the words the kernel and the reference spell it with, over the
   extended reals, and both equal over the reals. -/
module

public import proofs.«01_k».proof.Proof.AttPre
public import Idealize.ShloMosaic.Lib.Claim
public import Idealize.ShloMosaic.Lib.Pointwise
public import Idealize.ShloMosaic.Lib.Pipeline.ValueKit

@[expose] public section

set_option maxRecDepth 16384

noncomputable section

namespace Cert.Proof.Gate
open Idealize.ShloMosaic Idealize.ShloMosaic.TcCoe Idealize.SL.Sem

/-! ## As the kernel spells it -/

section Kernel
variable (y z w d : Fin 256 → EReal)

/-- The logistic function, with the negation the kernel writes. -/
def ksg (a : EReal) : EReal := Ideal.div 1 (1 + Ideal.exp (0 - a))
/-- The gated lane. -/
def kyg (x : Fin 256) : EReal := y x * (z x * ksg (z x))
/-- The inverse root mean square of the group. -/
def kri : EReal := Ideal.rsqrt (Ideal.div (∑ x, kyg y z x * kyg y z x) (Ideal.ofBits .f32 0x43800000#32) + Ideal.ofBits .f32 0x3727C5AC#32)
/-- The normalised lane. -/
def knr (x : Fin 256) : EReal := kyg y z x * kri y z
/-- The gradient with respect to the gated lane. -/
def kdg (x : Fin 256) : EReal :=
  kri y z * (d x * w x - knr y z x * Ideal.div (∑ k, d k * w k * knr y z k) (Ideal.ofBits .f32 0x43800000#32))
def kdy (x : Fin 256) : EReal := kdg y z w d x * (z x * ksg (z x))
def kdz (x : Fin 256) : EReal := kdg y z w d x * y x * (ksg (z x) * (1 + z x * (1 - ksg (z x))))
def kdw (x : Fin 256) : EReal := d x * knr y z x
end Kernel

/-! ## As the reference spells it -/

section Reference
variable (y z w d : Fin 256 → EReal)

def rsg (a : EReal) : EReal := Ideal.div 1 (1 + Ideal.exp (-a))
def ryg (x : Fin 256) : EReal := y x * (z x * rsg (z x))
/-- The mean square, with the small constant. -/
def rms : EReal := Ideal.div (∑ x, ryg y z x * ryg y z x) (Ideal.ofBits .f32 0x43800000#32) + Ideal.ofBits .f32 0x3727C5AC#32
def rdg (x : Fin 256) : EReal :=
  d x * w x * Ideal.rsqrt (rms y z)
    + Ideal.div ((∑ k, ryg y z k * (d k * w k)) * (Ideal.ofBits .f32 0xBF000000#32 * Ideal.div (Ideal.rsqrt (rms y z)) (rms y z)))
        (Ideal.ofBits .f32 0x43800000#32) * (Ideal.ofBits .f32 0x40000000#32 * ryg y z x)
def rdy (x : Fin 256) : EReal := rdg y z w d x * (z x * rsg (z x))
def rdz (x : Fin 256) : EReal :=
  y x * rdg y z w d x * rsg (z x) + z x * (y x * rdg y z w d x) * (rsg (z x) * (1 - rsg (z x)))
def rdw (x : Fin 256) : EReal := ryg y z x * Ideal.rsqrt (rms y z) * d x
end Reference

/-! ## Over the reals -/

section Real
variable (y z w d : Fin 256 → ℝ)

def sg (a : ℝ) : ℝ := (1 + Real.exp (-a))⁻¹
def yg (x : Fin 256) : ℝ := y x * (z x * sg (z x))
def ms : ℝ := (∑ x, yg y z x * yg y z x) * (256 : ℝ)⁻¹ + (10995116 / 1099511627776 : ℝ)
def ri : ℝ := (Real.sqrt (ms y z))⁻¹
def dg (x : Fin 256) : ℝ := ri y z * (d x * w x - yg y z x * ri y z * ((∑ k, d k * w k * (yg y z k * ri y z)) * (256 : ℝ)⁻¹))

theorem ms_pos : 0 < ms y z :=
  add_pos_of_nonneg_of_pos (mul_nonneg (Finset.sum_nonneg fun x _ => mul_self_nonneg _) (by norm_num)) (by norm_num)

theorem eps_coe : Ideal.ofBits .f32 0x3727C5AC#32 = ((10995116 / 1099511627776 : ℝ) : EReal) := by
  simp only [Ideal.ofBits, Ideal.ieee]; simp; rw [← EReal.coe_mul]; refine congrArg (fun x : ℝ => (x : EReal)) ?_; norm_num
theorem n_coe : Ideal.ofBits .f32 0x43800000#32 = ((256 : ℝ) : EReal) := by
  simp only [Ideal.ofBits, Ideal.ieee]; simp; rw [← EReal.coe_mul]; refine congrArg (fun x : ℝ => (x : EReal)) ?_; norm_num
theorem half_coe : Ideal.ofBits .f32 0xBF000000#32 = ((-(1/2) : ℝ) : EReal) := by
  simp only [Ideal.ofBits, Ideal.ieee]; simp; rw [← EReal.coe_mul]; refine congrArg (fun x : ℝ => (x : EReal)) ?_; norm_num
theorem two_coe : Ideal.ofBits .f32 0x40000000#32 = ((2 : ℝ) : EReal) := by
  simp only [Ideal.ofBits, Ideal.ieee]; simp; rw [← EReal.coe_mul]; refine congrArg (fun x : ℝ => (x : EReal)) ?_; norm_num

theorem div_n (a : ℝ) : Ideal.div (a : EReal) (Ideal.ofBits .f32 0x43800000#32) = ((a * (256 : ℝ)⁻¹ : ℝ) : EReal) := by
  rw [n_coe, Ideal.div_coe (by norm_num), ← EReal.coe_mul]
  congr 1; norm_num

theorem rsg_coe (a : ℝ) : rsg (a : EReal) = (sg a : ℝ) := by
  unfold rsg sg
  have h : (1 + Real.exp (-a)) ≠ 0 := (add_pos zero_lt_one (Real.exp_pos _)).ne'
  rw [← EReal.coe_neg, Ideal.exp_coe, ← EReal.coe_one, ← EReal.coe_add, Ideal.div_coe h, ← EReal.coe_mul, one_mul, one_div]

theorem ksg_coe (a : ℝ) : ksg (a : EReal) = (sg a : ℝ) := by
  rw [← rsg_coe]; unfold ksg rsg; rw [zero_sub]

variable {y z w d} {y' z' w' d' : Fin 256 → EReal}
  (hy : ∀ x, y' x = (y x : ℝ)) (hz : ∀ x, z' x = (z x : ℝ)) (hw : ∀ x, w' x = (w x : ℝ)) (hd : ∀ x, d' x = (d x : ℝ))
include hy hz

theorem kyg_coe (x : Fin 256) : kyg y' z' x = (yg y z x : ℝ) := by
  unfold kyg yg; rw [hy, hz, ksg_coe, ← EReal.coe_mul, ← EReal.coe_mul]
theorem ryg_coe (x : Fin 256) : ryg y' z' x = (yg y z x : ℝ) := by
  unfold ryg yg; rw [hy, hz, rsg_coe, ← EReal.coe_mul, ← EReal.coe_mul]
theorem rms_coe : rms y' z' = (ms y z : ℝ) := by
  unfold rms ms
  rw [Finset.sum_congr rfl fun x _ => (by rw [ryg_coe hy hz, ← EReal.coe_mul] : ryg y' z' x * ryg y' z' x = ((yg y z x * yg y z x : ℝ) : EReal)),
    ← Att.coe_sum, div_n, eps_coe, ← EReal.coe_add]
theorem rsqrt_ms : Ideal.rsqrt ((ms y z : ℝ) : EReal) = (ri y z : ℝ) := by
  rw [Ideal.rsqrt_coe, if_neg (not_lt.mpr (ms_pos y z).le), if_neg (ms_pos y z).ne']; rfl
theorem kri_coe : kri y' z' = (ri y z : ℝ) := by
  rw [← rsqrt_ms hy hz, ← rms_coe hy hz]
  unfold kri rms
  rw [Finset.sum_congr rfl fun x _ => (by rw [kyg_coe hy hz, ryg_coe hy hz] : kyg y' z' x * kyg y' z' x = ryg y' z' x * ryg y' z' x)]
theorem knr_coe (x : Fin 256) : knr y' z' x = (yg y z x * ri y z : ℝ) := by
  unfold knr; rw [kyg_coe hy hz, kri_coe hy hz, ← EReal.coe_mul]

include hw hd
theorem kdg_coe (x : Fin 256) : kdg y' z' w' d' x = (dg y z w d x : ℝ) := by
  unfold kdg dg
  rw [Finset.sum_congr rfl fun k _ => (by rw [knr_coe hy hz, hd, hw, ← EReal.coe_mul, ← EReal.coe_mul] :
      d' k * w' k * knr y' z' k = ((d k * w k * (yg y z k * ri y z) : ℝ) : EReal)), ← Att.coe_sum, div_n, knr_coe hy hz, kri_coe hy hz, hd, hw]
  simp only [← EReal.coe_mul, ← EReal.coe_sub]

theorem dg_eq (x : Fin 256) : dg y z w d x = d x * w x * ri y z
    + (∑ k, yg y z k * (d k * w k)) * (-(1/2) * (ri y z * (ms y z)⁻¹)) * (256 : ℝ)⁻¹ * (2 * yg y z x) := by
  have hr : ri y z * ri y z = (ms y z)⁻¹ := by
    unfold ri; rw [← mul_inv, Real.mul_self_sqrt (ms_pos y z).le]
  have hs : (∑ k, d k * w k * (yg y z k * ri y z)) = (∑ k, yg y z k * (d k * w k)) * ri y z := by
    rw [Finset.sum_mul]; exact Finset.sum_congr rfl fun k _ => by ring
  unfold dg
  rw [hs, ← hr]; ring

theorem rdg_coe (x : Fin 256) : rdg y' z' w' d' x = (dg y z w d x : ℝ) := by
  rw [dg_eq hy hz hw hd]
  unfold rdg
  rw [rms_coe hy hz, rsqrt_ms hy hz, Ideal.div_coe (ms_pos y z).ne', half_coe, two_coe,
    Finset.sum_congr rfl fun k _ => (by rw [ryg_coe hy hz, hd, hw, ← EReal.coe_mul, ← EReal.coe_mul] :
      ryg y' z' k * (d' k * w' k) = ((yg y z k * (d k * w k) : ℝ) : EReal)), ← Att.coe_sum, ryg_coe hy hz, hd, hw]
  simp only [← EReal.coe_mul, ← EReal.coe_add, div_n, one_div]

theorem dy_eq (x : Fin 256) : rdy y' z' w' d' x = kdy y' z' w' d' x := by
  unfold rdy kdy
  rw [rdg_coe hy hz hw hd, kdg_coe hy hz hw hd, hz, rsg_coe, ksg_coe]

theorem dz_eq (x : Fin 256) : rdz y' z' w' d' x = kdz y' z' w' d' x := by
  unfold rdz kdz
  rw [rdg_coe hy hz hw hd, kdg_coe hy hz hw hd, hz, hy, rsg_coe, ksg_coe]
  simp only [← EReal.coe_mul, ← EReal.coe_add, ← EReal.coe_sub, ← EReal.coe_one]
  refine congrArg (fun x : ℝ => (x : EReal)) ?_
  ring

omit hw
theorem dw_eq (x : Fin 256) : rdw y' z' d' x = kdw y' z' d' x := by
  unfold rdw kdw
  rw [ryg_coe hy hz, rms_coe hy hz, rsqrt_ms hy hz, knr_coe hy hz, hd]
  simp only [← EReal.coe_mul]
  rw [mul_comm]
end Real
end Cert.Proof.Gate

end
-- ==== Proof.GateTile.lean ====
/- What one point of the gated normalisation's gradient writes, entry by entry: the group's words at the entry's own group. -/
module

public import proofs.«01_k».proof.Proof.GateMath
public import proofs.«01_k».proof.Proof.Gen.GateIdeal.Frame

@[expose] public section

set_option maxRecDepth 16384

noncomputable section

namespace Cert.Proof.Gate
open Idealize.ShloMosaic Idealize.ShloMosaic.TcCoe Idealize.SL.Sem
open Cert.GateIdeal Cert.GateIdeal.Gen

/-- Lane `k` of group `g` of a tile. -/
def gl (g : Fin 4) (k : Fin 256) : Fin 1024 := ⟨256 * g.val + k.val, by omega⟩
theorem gl0 (k : Fin 256) : gl 0 k = ⟨k.val, by omega⟩ := Fin.ext (by simp [gl])
theorem gl1 (k : Fin 256) : gl 1 k = ⟨256 + k.val, by omega⟩ := Fin.ext (by simp [gl])
theorem gl2 (k : Fin 256) : gl 2 k = ⟨512 + k.val, by omega⟩ := Fin.ext (by simp [gl])
theorem gl3 (k : Fin 256) : gl 3 k = ⟨768 + k.val, by omega⟩ := Fin.ext (by simp [gl])

variable (a : FVec Ideal S512x1024 .bf16) (b : FVec Ideal S1024x1024 .bf16) (y z : FVec Ideal S512x1024 .f32) (w : FVec Ideal S1x1024 .f32)

/-- The gradient of the normalised product at a tile's entry. -/
def dv (r : Fin 512) (n : Fin 1024) : EReal := ∑ l, a (ix2 r l) * b (ix2 n l)
def fy (r : Fin 512) (g : Fin 4) (x : Fin 256) : EReal :=
  kdy (fun k => y (ix2 r (gl g k))) (fun k => z (ix2 r (gl g k))) (fun k => w (ix2 0 (gl g k))) (fun k => dv a b r (gl g k)) x
def fz (r : Fin 512) (g : Fin 4) (x : Fin 256) : EReal :=
  kdz (fun k => y (ix2 r (gl g k))) (fun k => z (ix2 r (gl g k))) (fun k => w (ix2 0 (gl g k))) (fun k => dv a b r (gl g k)) x
def fw (g : Fin 4) (x : Fin 256) : EReal :=
  ∑ r : Fin 512, kdw (fun k => y (ix2 r (gl g k))) (fun k => z (ix2 r (gl g k))) (fun k => dv a b r (gl g k)) x

/-- The four groups' pieces laid end to end, read at a lane. -/
theorem pick (f : Fin 4 → Fin 256 → EReal) (n : Fin 1024) :
    (if h : n.val < 256 then f 0 ⟨n.val, h⟩ else if h : n.val - 256 < 256 then f 1 ⟨n.val - 256, h⟩
      else if h : n.val - 256 - 256 < 256 then f 2 ⟨n.val - 256 - 256, h⟩ else f 3 ⟨n.val - 256 - 256 - 256, by omega⟩)
      = f ⟨n.val / 256, by omega⟩ ⟨n.val % 256, Nat.mod_lt _ (by decide)⟩ := by
  have e : ∀ (g : Fin 4) (x : Fin 256), n.val = 256 * g.val + x.val → f g x = f ⟨n.val / 256, by omega⟩ ⟨n.val % 256, Nat.mod_lt _ (by decide)⟩ :=
    fun g x h => congrArg₂ f (Fin.ext (by dsimp only; omega)) (Fin.ext (by dsimp only; omega))
  split
  · exact e _ _ (by simp)
  split
  · exact e _ _ (by simp; omega)
  split
  · exact e _ _ (by simp; omega)
  · exact e _ _ (by simp; omega)

theorem y0 (r : Fin 512) (x : Fin 256) : (k0_pay15 (F := Ideal) (k0_pay8 z) (k0_pay10 y z) (k0_pay11 y z) (k0_pay12 a b w) (k0_pay13 a b y z w)) (ix2 r x) = fy a b y z w r 0 x := by
  simp only [fy, gl0]; pointwise [k0_pay4, k0_pay5, k0_pay6, k0_pay7, k0_pay8, k0_pay9, k0_pay10, k0_pay11, k0_pay12, k0_pay13, k0_pay14, k0_pay15, k0_pay16, k0_pay17, kdy, kdg, knr, kri, kyg, ksg, dv]
theorem z0 (r : Fin 512) (x : Fin 256) : (k0_pay16 (F := Ideal) (k0_pay5 y) (k0_pay6 z) (k0_pay10 y z) (k0_pay11 y z) (k0_pay12 a b w) (k0_pay13 a b y z w)) (ix2 r x) = fz a b y z w r 0 x := by
  simp only [fz, gl0]; pointwise [k0_pay4, k0_pay5, k0_pay6, k0_pay7, k0_pay8, k0_pay9, k0_pay10, k0_pay11, k0_pay12, k0_pay13, k0_pay14, k0_pay15, k0_pay16, k0_pay17, kdz, kdg, knr, kri, kyg, ksg, dv]
theorem w0 (x : Fin 256) : (k0_pay17 (F := Ideal) (k0_pay7 a b) (k0_pay11 y z)) (ix2 0 x) = fw a b y z 0 x := by
  simp only [fw, gl0]; pointwise [k0_pay4, k0_pay5, k0_pay6, k0_pay7, k0_pay8, k0_pay9, k0_pay10, k0_pay11, k0_pay12, k0_pay13, k0_pay14, k0_pay15, k0_pay16, k0_pay17, kdw, knr, kri, kyg, ksg, dv]

theorem y1 (r : Fin 512) (x : Fin 256) : (k0_pay27 (F := Ideal) w (k0_pay20 (k0_pay4 a b)) (k0_pay21 z) (k0_pay22 y z) (k0_pay23 y z)) (ix2 r x) = fy a b y z w r 1 x := by
  simp only [fy, gl1]; pointwise [k0_pay4, k0_pay18, k0_pay19, k0_pay20, k0_pay21, k0_pay22, k0_pay23, k0_pay24, k0_pay25, k0_pay26, k0_pay27, k0_pay28, k0_pay29, kdy, kdg, knr, kri, kyg, ksg, dv]
theorem z1 (r : Fin 512) (x : Fin 256) : (k0_pay28 (F := Ideal) w (k0_pay18 y) (k0_pay19 z) (k0_pay20 (k0_pay4 a b)) (k0_pay22 y z) (k0_pay23 y z)) (ix2 r x) = fz a b y z w r 1 x := by
  simp only [fz, gl1]; pointwise [k0_pay4, k0_pay18, k0_pay19, k0_pay20, k0_pay21, k0_pay22, k0_pay23, k0_pay24, k0_pay25, k0_pay26, k0_pay27, k0_pay28, k0_pay29, kdz, kdg, knr, kri, kyg, ksg, dv]
theorem w1 (x : Fin 256) : (k0_pay29 (F := Ideal) (k0_pay20 (k0_pay4 a b)) (k0_pay22 y z) (k0_pay23 y z)) (ix2 0 x) = fw a b y z 1 x := by
  simp only [fw, gl1]; pointwise [k0_pay4, k0_pay18, k0_pay19, k0_pay20, k0_pay21, k0_pay22, k0_pay23, k0_pay24, k0_pay25, k0_pay26, k0_pay27, k0_pay28, k0_pay29, kdw, knr, kri, kyg, ksg, dv]

theorem y2 (r : Fin 512) (x : Fin 256) : (k0_pay39 (F := Ideal) w (k0_pay32 (k0_pay4 a b)) (k0_pay33 z) (k0_pay34 y z) (k0_pay35 y z)) (ix2 r x) = fy a b y z w r 2 x := by
  simp only [fy, gl2]; pointwise [k0_pay4, k0_pay30, k0_pay31, k0_pay32, k0_pay33, k0_pay34, k0_pay35, k0_pay36, k0_pay37, k0_pay38, k0_pay39, k0_pay40, k0_pay41, kdy, kdg, knr, kri, kyg, ksg, dv]
theorem z2 (r : Fin 512) (x : Fin 256) : (k0_pay40 (F := Ideal) w (k0_pay30 y) (k0_pay31 z) (k0_pay32 (k0_pay4 a b)) (k0_pay34 y z) (k0_pay35 y z)) (ix2 r x) = fz a b y z w r 2 x := by
  simp only [fz, gl2]; pointwise [k0_pay4, k0_pay30, k0_pay31, k0_pay32, k0_pay33, k0_pay34, k0_pay35, k0_pay36, k0_pay37, k0_pay38, k0_pay39, k0_pay40, k0_pay41, kdz, kdg, knr, kri, kyg, ksg, dv]
theorem w2 (x : Fin 256) : (k0_pay41 (F := Ideal) (k0_pay32 (k0_pay4 a b)) (k0_pay34 y z) (k0_pay35 y z)) (ix2 0 x) = fw a b y z 2 x := by
  simp only [fw, gl2]; pointwise [k0_pay4, k0_pay30, k0_pay31, k0_pay32, k0_pay33, k0_pay34, k0_pay35, k0_pay36, k0_pay37, k0_pay38, k0_pay39, k0_pay40, k0_pay41, kdw, knr, kri, kyg, ksg, dv]

theorem y3 (r : Fin 512) (x : Fin 256) : k0_pay51 (F := Ideal) w (k0_pay42 y) (k0_pay43 z) (k0_pay44 (k0_pay4 a b)) (k0_pay45 z) k0_pay46 (ix2 r x) * k0_pay47 (F := Ideal) (k0_pay43 z) (k0_pay45 z) k0_pay46 (ix2 r x) = fy a b y z w r 3 x := by
  simp only [fy, gl3]; pointwise [k0_pay4, k0_pay42, k0_pay43, k0_pay44, k0_pay45, k0_pay46, k0_pay47, k0_pay48, k0_pay49, k0_pay50, k0_pay51, k0_pay52, k0_pay53, k0_pay54, kdy, kdg, knr, kri, kyg, ksg, dv]
theorem z3 (r : Fin 512) (x : Fin 256) : (k0_pay52 (F := Ideal) w (k0_pay42 y) (k0_pay43 z) (k0_pay44 (k0_pay4 a b)) (k0_pay45 z) k0_pay46) (ix2 r x) = fz a b y z w r 3 x := by
  simp only [fz, gl3]; pointwise [k0_pay4, k0_pay42, k0_pay43, k0_pay44, k0_pay45, k0_pay46, k0_pay47, k0_pay48, k0_pay49, k0_pay50, k0_pay51, k0_pay52, k0_pay53, k0_pay54, kdz, kdg, knr, kri, kyg, ksg, dv]
theorem w3 (x : Fin 256) : (k0_pay53 (F := Ideal) (k0_pay42 y) (k0_pay43 z) (k0_pay44 (k0_pay4 a b)) (k0_pay45 z) k0_pay46) (ix2 0 x) = fw a b y z 3 x := by
  simp only [fw, gl3]; pointwise [k0_pay4, k0_pay42, k0_pay43, k0_pay44, k0_pay45, k0_pay46, k0_pay47, k0_pay48, k0_pay49, k0_pay50, k0_pay51, k0_pay52, k0_pay53, k0_pay54, kdw, knr, kri, kyg, ksg, dv]

theorem tile_y (r : Fin 512) (n : Fin 1024) : k0_pay54 (F := Ideal) w (k0_pay15 (F := Ideal) (k0_pay8 z) (k0_pay10 y z) (k0_pay11 y z) (k0_pay12 a b w) (k0_pay13 a b y z w)) (k0_pay27 (F := Ideal) w (k0_pay20 (k0_pay4 a b)) (k0_pay21 z) (k0_pay22 y z) (k0_pay23 y z)) (k0_pay39 (F := Ideal) w (k0_pay32 (k0_pay4 a b)) (k0_pay33 z) (k0_pay34 y z) (k0_pay35 y z))  (k0_pay42 y) (k0_pay43 z) (k0_pay44 (k0_pay4 a b)) (k0_pay45 z) k0_pay46 (ix2 r n)
    = fy a b y z w r ⟨n.val / 256, by omega⟩ ⟨n.val % 256, Nat.mod_lt _ (by decide)⟩ := by
  rw [← pick (fy a b y z w r)]
  pointwise [k0_pay54]
  simp only [y0, y1, y2, y3]

theorem tile_z (r : Fin 512) (n : Fin 1024) : k0_pay1 (F := Ideal) (k0_pay16 (F := Ideal) (k0_pay5 y) (k0_pay6 z) (k0_pay10 y z) (k0_pay11 y z) (k0_pay12 a b w) (k0_pay13 a b y z w)) (k0_pay28 (F := Ideal) w (k0_pay18 y) (k0_pay19 z) (k0_pay20 (k0_pay4 a b)) (k0_pay22 y z) (k0_pay23 y z)) (k0_pay40 (F := Ideal) w (k0_pay30 y) (k0_pay31 z) (k0_pay32 (k0_pay4 a b)) (k0_pay34 y z) (k0_pay35 y z)) (k0_pay52 (F := Ideal) w (k0_pay42 y) (k0_pay43 z) (k0_pay44 (k0_pay4 a b)) (k0_pay45 z) k0_pay46) (ix2 r n)
    = fz a b y z w r ⟨n.val / 256, by omega⟩ ⟨n.val % 256, Nat.mod_lt _ (by decide)⟩ := by
  rw [← pick (fz a b y z w r)]
  pointwise [k0_pay1]
  simp only [z0, z1, z2, z3]

theorem tile_w (acc : FVec Ideal S1x1024 .f32) (n : Fin 1024) : k0_pay2 (F := Ideal) (k0_pay17 (F := Ideal) (k0_pay7 a b) (k0_pay11 y z)) (k0_pay29 (F := Ideal) (k0_pay20 (k0_pay4 a b)) (k0_pay22 y z) (k0_pay23 y z)) (k0_pay41 (F := Ideal) (k0_pay32 (k0_pay4 a b)) (k0_pay34 y z) (k0_pay35 y z)) (k0_pay53 (F := Ideal) (k0_pay42 y) (k0_pay43 z) (k0_pay44 (k0_pay4 a b)) (k0_pay45 z) k0_pay46) acc (ix2 0 n)
    = acc (ix2 0 n) + fw a b y z ⟨n.val / 256, by omega⟩ ⟨n.val % 256, Nat.mod_lt _ (by decide)⟩ := by
  rw [← pick (fw a b y z) n]
  pointwise [k0_pay2]
  simp only [w0, w1, w2, w3]

theorem zero_w (n : Fin 1024) : k0_pay3 (F := Ideal) (ix2 0 n) = (0 : EReal) := by pointwise [k0_pay3]
end Cert.Proof.Gate

end
-- ==== Proof.GatePoint.lean ====
/- The arrays the gated normalisation's gradient leaves: every entry is its own group's, and the weight's row the sum over all rows. -/
module

public import proofs.«01_k».proof.Proof.GateTile

@[expose] public section

set_option maxRecDepth 16384

noncomputable section

namespace Cert.Proof.Gate
open Idealize.ShloMosaic Idealize.ShloMosaic.TcCoe Idealize.SL.Sem
open Cert.GateIdeal Cert.GateIdeal.Gen

/-- Lane `k` of group `g` of the eight. -/
def gr (g : Fin 8) (k : Fin 256) : Fin 2048 := ⟨g.val * 256 + k.val, by omega⟩

section
variable (y z : FVec Ideal S16384x2048 .f32) (n : FVec Ideal S1x2048 .f32) (o : FVec Ideal S2048x1024 .f32) (d : FVec Ideal S16384x1024 .f32)
/-- The gradient of the normalised product. -/
def DV (i : Fin 16384) (x : Fin 2048) : EReal := ∑ l, d (ix2 i l) * o (ix2 x l)
def Ey (i : Fin 16384) (g : Fin 8) (x : Fin 256) : EReal :=
  kdy (fun k => y (ix2 i (gr g k))) (fun k => z (ix2 i (gr g k))) (fun k => n (ix2 0 (gr g k))) (fun k => DV o d i (gr g k)) x
def Ez (i : Fin 16384) (g : Fin 8) (x : Fin 256) : EReal :=
  kdz (fun k => y (ix2 i (gr g k))) (fun k => z (ix2 i (gr g k))) (fun k => n (ix2 0 (gr g k))) (fun k => DV o d i (gr g k)) x
def Ew (i : Fin 16384) (g : Fin 8) (x : Fin 256) : EReal :=
  kdw (fun k => y (ix2 i (gr g k))) (fun k => z (ix2 i (gr g k))) (fun k => DV o d i (gr g k)) x
def G5 : FVec Ideal S16384x2048 .f32 := fun i => Ey y z n o d (i 0) ⟨(i 1).val / 256, by have := (i 1).isLt; simp at this; omega⟩ ⟨(i 1).val % 256, Nat.mod_lt _ (by decide)⟩
def G6 : FVec Ideal S16384x2048 .bf16 := fun i => Ez y z n o d (i 0) ⟨(i 1).val / 256, by have := (i 1).isLt; simp at this; omega⟩ ⟨(i 1).val % 256, Nat.mod_lt _ (by decide)⟩
def G7 : FVec Ideal S1x2048 .f32 := fun i => ∑ r, Ew y z o d r ⟨(i 1).val / 256, by have := (i 1).isLt; simp at this; omega⟩ ⟨(i 1).val % 256, Nat.mod_lt _ (by decide)⟩
end

variable (m : (ℓ : Loc nD τ sig) → Buf (Elt Ideal) ℓ) (c : Dev nD) (t : Fin cfg0.N)

theorem idx : ∀ t : Fin cfg0.N, win0_0.index t = ![t.val % 32, 0] ∧ win0_1.index t = ![t.val / 32, 0] ∧ win0_2.index t = ![t.val % 32, t.val / 32] ∧ win0_3.index t = ![t.val % 32, t.val / 32] ∧ win0_4.index t = ![0, t.val / 32] ∧ win0_5.index t = ![t.val % 32, t.val / 32] ∧ win0_6.index t = ![t.val % 32, t.val / 32] ∧ win0_7.index t = ![0, t.val / 32] :=
  (by decide +kernel : ∀ t : Fin grid0.N, _)

theorem tlt : t.val < 64 := t.isLt

/-- The row and the lane a point's tile has its entries at. -/
def rw' (r : Fin 512) : Fin 16384 := ⟨512 * (t.val % 32) + r.val, by omega⟩
def cl (n : Fin 1024) : Fin 2048 := ⟨1024 * (t.val / 32) + n.val, by have := tlt t; omega⟩
def tg (g : Fin 4) : Fin 8 := ⟨4 * (t.val / 32) + g.val, by have := tlt t; omega⟩
theorem cl_gl (g : Fin 4) (k : Fin 256) : cl t (gl g k) = gr (tg t g) k := Fin.ext (by simp only [cl, gl, gr, tg]; omega)

theorem tg_at (n : Fin 1024) : tg t ⟨n.val / 256, by omega⟩ = ⟨(cl t n).val / 256, by have := (cl t n).isLt; omega⟩ := Fin.ext (by simp only [cl, tg]; omega)
theorem tx_at (n : Fin 1024) : (⟨n.val % 256, Nat.mod_lt _ (by decide)⟩ : Fin 256) = ⟨(cl t n).val % 256, Nat.mod_lt _ (by decide)⟩ := Fin.ext (by simp only [cl]; omega)

theorem emb5 (r : Fin 512) (n : Fin 1024) : ((View.whole main_v2_0).slice (win0_5.rect t)).emb (ix2 r n) = ix2 (rw' t r) (cl t n) := by
  blk_point [idx t, rw', cl]
theorem emb6 (r : Fin 512) (n : Fin 1024) : ((View.whole main_v2_1).slice (win0_6.rect t)).emb (ix2 r n) = ix2 (rw' t r) (cl t n) := by
  blk_point [idx t, rw', cl]
theorem emb7 (r : Fin 1) (n : Fin 1024) : ((View.whole main_v2_2).slice (win0_7.rect t)).emb (ix2 r n) = ix2 0 (cl t n) := by
  blk_point [idx t, cl]

theorem b0 (r : Fin 512) (l : Fin 1024) : (iblk m c 0 t : Vec Ideal S512x1024 .bf16) (ix2 r l) = m ((c : Thread nD τ).loc main_arg4) (ix2 (rw' t r) l) := by
  blk_simp [iblk, V]
  entry_read
  pointwise
  blk_point [idx t, rw']
theorem b1 (n l : Fin 1024) : (iblk m c 1 t : Vec Ideal S1024x1024 .bf16) (ix2 n l) = m ((c : Thread nD τ).loc main_arg3) (ix2 (cl t n) l) := by
  blk_simp [iblk, V]
  entry_read
  pointwise
  blk_point [idx t, cl]
theorem b2 (r : Fin 512) (n : Fin 1024) : (iblk m c 2 t : Vec Ideal S512x1024 .f32) (ix2 r n) = m ((c : Thread nD τ).loc main_arg0) (ix2 (rw' t r) (cl t n)) := by
  blk_point [iblk, V, idx t, rw', cl]
theorem b3 (r : Fin 512) (n : Fin 1024) : (iblk m c 3 t : Vec Ideal S512x1024 .f32) (ix2 r n) = m ((c : Thread nD τ).loc main_arg1) (ix2 (rw' t r) (cl t n)) := by
  blk_point [iblk, V, idx t, rw', cl]
theorem b4 (n : Fin 1024) : (iblk m c 4 t : Vec Ideal S1x1024 .f32) (ix2 0 n) = m ((c : Thread nD τ).loc main_arg2) (ix2 0 (cl t n)) := by
  blk_point [iblk, V, idx t, cl]

theorem dv_blk (r : Fin 512) (n : Fin 1024) : dv (iblk m c 0 t : Vec Ideal S512x1024 .bf16) (iblk m c 1 t : Vec Ideal S1024x1024 .bf16) r n
    = DV (m ((c : Thread nD τ).loc main_arg3)) (m ((c : Thread nD τ).loc main_arg4)) (rw' t r) (cl t n) := by
  unfold dv DV
  exact Finset.sum_congr rfl fun l _ => by rw [b0, b1]
theorem fy_blk (r : Fin 512) (g : Fin 4) (x : Fin 256) : fy (iblk m c 0 t) (iblk m c 1 t) (iblk m c 2 t) (iblk m c 3 t) (iblk m c 4 t) r g x = Ey (m ((c : Thread nD τ).loc main_arg0)) (m ((c : Thread nD τ).loc main_arg1)) (m ((c : Thread nD τ).loc main_arg2)) (m ((c : Thread nD τ).loc main_arg3)) (m ((c : Thread nD τ).loc main_arg4)) (rw' t r) (tg t g) x := by
  unfold fy Ey
  simp only [dv_blk, b2, b3, b4, cl_gl]
theorem fz_blk (r : Fin 512) (g : Fin 4) (x : Fin 256) : fz (iblk m c 0 t) (iblk m c 1 t) (iblk m c 2 t) (iblk m c 3 t) (iblk m c 4 t) r g x = Ez (m ((c : Thread nD τ).loc main_arg0)) (m ((c : Thread nD τ).loc main_arg1)) (m ((c : Thread nD τ).loc main_arg2)) (m ((c : Thread nD τ).loc main_arg3)) (m ((c : Thread nD τ).loc main_arg4)) (rw' t r) (tg t g) x := by
  unfold fz Ez
  simp only [dv_blk, b2, b3, b4, cl_gl]
theorem fw_blk (g : Fin 4) (x : Fin 256) : fw (iblk m c 0 t) (iblk m c 1 t) (iblk m c 2 t) (iblk m c 3 t) g x = ∑ r, Ew (m ((c : Thread nD τ).loc main_arg0)) (m ((c : Thread nD τ).loc main_arg1)) (m ((c : Thread nD τ).loc main_arg3)) (m ((c : Thread nD τ).loc main_arg4)) (rw' t r) (tg t g) x := by
  unfold fw Ew
  simp only [dv_blk, b2, b3, cl_gl]

/-- What one point adds to the weight's row. -/
def part (t : Fin cfg0.N) (j : S1x1024.Idx) : EReal :=
  fw (iblk m c 0 t) (iblk m c 1 t) (iblk m c 2 t) (iblk m c 3 t) ⟨(j 1).val / 256, by have := (j 1).isLt; simp at this; omega⟩ ⟨(j 1).val % 256, Nat.mod_lt _ (by decide)⟩

theorem final5 : (dats m 0 c).arrAt 5 (cfgs 0).N = G5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  have e : (outsAt0 m c t.val t.isLt).1 (ix2 y0 y1) = fy (iblk m c 0 t) (iblk m c 1 t) (iblk m c 2 t) (iblk m c 3 t) (iblk m c 4 t) y0 ⟨y1.val / 256, by omega⟩ ⟨y1.val % 256, Nat.mod_lt _ (by decide)⟩ := by
    by_cases h0 : t.val % 32 = 0
    · rw [outsAt0_A m c t h0]; frame_out; rw [tile_y]
    · rw [outsAt0_B m c t h0]; frame_out; rw [tile_y]
  refine e.trans ((fy_blk m c t _ _ _).trans ?_)
  rw [emb5]
  exact congrArg₂ (Ey _ _ _ _ _ _) (tg_at t y1) (tx_at t y1)

theorem final6 : (dats m 0 c).arrAt 6 (cfgs 0).N = G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  idx_vars y
  have e : (outsAt0 m c t.val t.isLt).2.1 (ix2 y0 y1) = fz (iblk m c 0 t) (iblk m c 1 t) (iblk m c 2 t) (iblk m c 3 t) (iblk m c 4 t) y0 ⟨y1.val / 256, by omega⟩ ⟨y1.val % 256, Nat.mod_lt _ (by decide)⟩ := by
    by_cases h0 : t.val % 32 = 0
    · rw [outsAt0_A m c t h0]; frame_out; rw [tile_z]
    · rw [outsAt0_B m c t h0]; frame_out; rw [tile_z]
  refine e.trans ((fz_blk m c t _ _ _).trans ?_)
  rw [emb6]
  exact congrArg₂ (Ez _ _ _ _ _ _) (tg_at t y1) (tx_at t y1)

theorem final7 : (dats m 0 c).arrAt 7 (cfgs 0).N = G7 (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  idx_vars y
  obtain rfl : y0 = 0 := Subsingleton.elim _ _
  have e : ((outsAt0 m c t.val t.isLt).2.2 (ix2 0 y1) : EReal) = 0 + ∑ s : Fin 32, part m c ⟨32 * (t.val / 32) + s.val, Pipeline.run_point_lt_of_flush t ((flush0_7 t).mp hf) s⟩ (ix2 0 y1) :=
    Pipeline.eq_sum_fin_of_reset_step_apply_of_flush (M := EReal) (fun n h => (outsAt0 m c n h).2.2) 32 (fun _ => 0) (part m c)
      (fun t h j => by
        rw [outsAt0_A m c t h]; idx_vars j; frame_out
        obtain rfl : j0 = 0 := Subsingleton.elim _ _
        exact (tile_w _ _ _ _ _ j1).trans (congrArg (· + _) (zero_w j1)))
      (fun t h j => by
        rw [outsAt0_B m c t h]; idx_vars j; frame_out
        obtain rfl : j0 = 0 := Subsingleton.elim _ _
        exact tile_w _ _ _ _ _ j1) t ((flush0_7 t).mp hf) _
  rw [emb7]
  refine e.trans ((zero_add _).trans ?_)
  refine Eq.trans ?_ (Att.sum_rows _).symm
  refine Finset.sum_congr rfl fun s _ => (fw_blk m c _ _ _).trans (Finset.sum_congr rfl fun r _ => ?_)
  have ht := tlt t
  have hr : rw' ⟨32 * (t.val / 32) + s.val, Pipeline.run_point_lt_of_flush t ((flush0_7 t).mp hf) s⟩ r = Att.row s r :=
    Fin.ext (by simp only [rw', Att.row]; omega)
  have hg : tg ⟨32 * (t.val / 32) + s.val, Pipeline.run_point_lt_of_flush t ((flush0_7 t).mp hf) s⟩ = tg t := funext fun g =>
    Fin.ext (by simp only [tg]; omega)
  rw [hr, hg]
  exact congrArg₂ (Ew _ _ _ _ _) (tg_at t y1) (tx_at t y1)
end Cert.Proof.Gate

end
-- ==== Proof.GateRef.lean ====
/- The reference's gradient of the gated group normalisation, entry by entry. -/
module

public import proofs.«01_k».proof.Proof.GateMath
public import proofs.«01_k».proof.Proof.GatePoint
public import proofs.«01_k».proof.Proof.Gen.GateRefIdeal.Run
public import Idealize.ShloMosaic.Lib.Claim
public import Idealize.ShloMosaic.Lib.Pointwise

@[expose] public section

set_option maxRecDepth 16384

noncomputable section

namespace Cert.Proof.GateRef
open Idealize.ShloMosaic Idealize.ShloMosaic.TcCoe Idealize.SL.Sem
open Cert.GateRefIdeal Cert.GateRefIdeal.Gen Cert.GateRefIdeal.Value Cert.Proof.Att Cert.Proof.Gate

/-- The logistic function of the gate. -/
def sgV (z : FVec Ideal S16384x2048 .f32) : FVec Ideal S16384x2048 .f32 := Host.divf (broadcastInDim S16384x2048 ![] bcast_S_S16384x2048 (constant S_ .f32 0x3F800000#32)) (addf (broadcastInDim S16384x2048 ![] bcast_S_S16384x2048 (constant S_ .f32 0x3F800000#32)) (Host.exp (Host.negf z)))
/-- The gated array by groups. -/
def ygV (y z : FVec Ideal S16384x2048 .f32) : FVec Ideal S16384x8x256 .f32 := shapeCast _ (mulf y (mulf z (sgV z))) shapeCasts_S16384x2048_S16384x8x256
/-- The gradient before the weight. -/
def dvV (o : FVec Ideal S2048x1024 .f32) (d : FVec Ideal S16384x1024 .f32) : FVec Ideal S16384x2048 .f32 := Host.dotGeneral dot_S16384x1024_S2048x1024_S16384x2048_1_1_0_0_n_n none d o
/-- The gradient past the weight, by groups. -/
def dnV (V : FVec Ideal S16384x2048 .f32) (n : FVec Ideal S1x2048 .f32) : FVec Ideal S16384x8x256 .f32 := shapeCast _ (mulf V (broadcastInDim S16384x2048 ![0, 1] bcast_S1x2048_S16384x2048_0_1 n)) shapeCasts_S16384x2048_S16384x8x256
/-- The mean square of a group. -/
def msV (Y : FVec Ideal S16384x8x256 .f32) : FVec Ideal S16384x8x1 .f32 := addf (Host.divf (broadcastInDim S16384x8x1 ![0, 1] bcast_S16384x8_S16384x8x1_0_1 (Host.reduceAdd (mulf Y Y) (constant S_ .f32 0x00000000#32) reducesTo_S16384x8x256_S16384x8_d2 h_S_)) (broadcastInDim S16384x8x1 ![] bcast_S_S16384x8x1 (constant S_ .f32 0x43800000#32))) (broadcastInDim S16384x8x1 ![] bcast_S_S16384x8x1 (constant S_ .f32 0x3727C5AC#32))
/-- The gradient with respect to the gated array. -/
def dgV (Y D : FVec Ideal S16384x8x256 .f32) (U : FVec Ideal S16384x8x1 .f32) : FVec Ideal S16384x2048 .f32 := shapeCast _ (addf (mulf D (broadcastInDim S16384x8x256 ![0, 1, 2] bcast_S16384x8x1_S16384x8x256_0_1_2 (Host.rsqrt U))) (mulf (broadcastInDim S16384x8x256 ![0, 1] bcast_S16384x8_S16384x8x256_0_1 (Host.reduceAdd (Host.divf (mulf (shapeCast _ (Host.reduceAdd (mulf Y D) (constant S_ .f32 0x00000000#32) reducesTo_S16384x8x256_S16384x8_d2 h_S_) shapeCasts_S16384x8_S16384x8x1) (mulf (broadcastInDim S16384x8x1 ![] bcast_S_S16384x8x1 (constant S_ .f32 0xBF000000#32)) (Host.divf (Host.rsqrt U) U))) (broadcastInDim S16384x8x1 ![] bcast_S_S16384x8x1 (constant S_ .f32 0x43800000#32))) (constant S_ .f32 0x00000000#32) reducesTo_S16384x8x1_S16384x8_d2 h_S_)) (mulf (broadcastInDim S16384x8x256 ![] bcast_S_S16384x8x256 (constant S_ .f32 0x40000000#32)) Y))) shapeCasts_S16384x8x256_S16384x2048
def dyV (z X : FVec Ideal S16384x2048 .f32) : FVec Ideal S16384x2048 .f32 := mulf X (mulf z (sgV z))
def dzV (y z X : FVec Ideal S16384x2048 .f32) : FVec Ideal S16384x2048 .bf16 := truncf .bf16 (addf (mulf (mulf y X) (sgV z)) (mulf (mulf z (mulf y X)) (mulf (sgV z) (subf (broadcastInDim S16384x2048 ![] bcast_S_S16384x2048 (constant S_ .f32 0x3F800000#32)) (sgV z))))) bitsLt_bf16_f32
def dwV (Y : FVec Ideal S16384x8x256 .f32) (U : FVec Ideal S16384x8x1 .f32) (V : FVec Ideal S16384x2048 .f32) : FVec Ideal S1x2048 .f32 := shapeCast _ (Host.reduceAdd (mulf (shapeCast _ (mulf Y (broadcastInDim S16384x8x256 ![0, 1, 2] bcast_S16384x8x1_S16384x8x256_0_1_2 (Host.rsqrt U))) shapeCasts_S16384x8x256_S16384x2048) V) (constant S_ .f32 0x00000000#32) reducesTo_S16384x2048_S2048_d0 h_S_) shapeCasts_S2048_S1x2048

/-- The group and the lane of a column. -/
abbrev gq (x : Fin 2048) : Fin 8 := ⟨x.val / 256, by omega⟩
abbrev lq (x : Fin 2048) : Fin 256 := ⟨x.val % 256, Nat.mod_lt _ (by decide)⟩
theorem gr_q (x : Fin 2048) : gr (gq x) (lq x) = x := Fin.ext (by simp only [gr]; omega)

theorem sgV_at (z : FVec Ideal S16384x2048 .f32) (i : Fin 16384) (x : Fin 2048) : sgV z (ix2 i x) = rsg (z (ix2 i x)) := by
  pointwise [sgV, rsg]
theorem ygV_at (y z : FVec Ideal S16384x2048 .f32) (i : Fin 16384) (g : Fin 8) (k : Fin 256) : ygV y z (ix3 i g k)
    = ryg (fun k => y (ix2 i (gr g k))) (fun k => z (ix2 i (gr g k))) k := by
  unfold ryg
  rw [← sgV_at]
  pointwise [ygV]
  rfl
theorem dvV_at (o : FVec Ideal S2048x1024 .f32) (d : FVec Ideal S16384x1024 .f32) (i : Fin 16384) (x : Fin 2048) : dvV o d (ix2 i x) = DV o d i x := by
  pointwise [dvV, DV]
theorem dnV_at (V : FVec Ideal S16384x2048 .f32) (n : FVec Ideal S1x2048 .f32) (i : Fin 16384) (g : Fin 8) (k : Fin 256) : dnV V n (ix3 i g k)
    = V (ix2 i (gr g k)) * n (ix2 0 (gr g k)) := by
  pointwise [dnV]
  rfl
theorem msV_at (Y : FVec Ideal S16384x8x256 .f32) (i : Fin 16384) (g : Fin 8) : msV Y (ix3 i g 0)
    = Ideal.div (∑ k, Y (ix3 i g k) * Y (ix3 i g k)) (Ideal.ofBits .f32 0x43800000#32) + Ideal.ofBits .f32 0x3727C5AC#32 := by
  pointwise [msV]
theorem dgV_at (Y D : FVec Ideal S16384x8x256 .f32) (U : FVec Ideal S16384x8x1 .f32) (i : Fin 16384) (x : Fin 2048) : dgV Y D U (ix2 i x)
    = D (ix3 i (gq x) (lq x)) * Ideal.rsqrt (U (ix3 i (gq x) 0)) + Ideal.div ((∑ k, Y (ix3 i (gq x) k) * D (ix3 i (gq x) k)) * (Ideal.ofBits .f32 0xBF000000#32 * Ideal.div (Ideal.rsqrt (U (ix3 i (gq x) 0))) (U (ix3 i (gq x) 0))))
        (Ideal.ofBits .f32 0x43800000#32) * (Ideal.ofBits .f32 0x40000000#32 * Y (ix3 i (gq x) (lq x))) := by
  pointwise [dgV]
  rw [Fin.sum_univ_one]
theorem dyV_at (z X : FVec Ideal S16384x2048 .f32) (i : Fin 16384) (x : Fin 2048) : dyV z X (ix2 i x) = X (ix2 i x) * (z (ix2 i x) * rsg (z (ix2 i x))) := by
  rw [← sgV_at]
  pointwise [dyV]
theorem dzV_at (y z X : FVec Ideal S16384x2048 .f32) (i : Fin 16384) (x : Fin 2048) : dzV y z X (ix2 i x)
    = y (ix2 i x) * X (ix2 i x) * rsg (z (ix2 i x)) + z (ix2 i x) * (y (ix2 i x) * X (ix2 i x)) * (rsg (z (ix2 i x)) * (1 - rsg (z (ix2 i x)))) := by
  rw [← sgV_at]
  pointwise [dzV]
theorem dwV_at (Y : FVec Ideal S16384x8x256 .f32) (U : FVec Ideal S16384x8x1 .f32) (V : FVec Ideal S16384x2048 .f32) (x : Fin 2048) : dwV Y U V (ix2 0 x)
    = ∑ r : Fin 16384, Y (ix3 r (gq x) (lq x)) * Ideal.rsqrt (U (ix3 r (gq x) 0)) * V (ix2 r x) := by
  pointwise [dwV]
section
variable (y z : FVec Ideal S16384x2048 .f32) (n : FVec Ideal S1x2048 .f32) (o : FVec Ideal S2048x1024 .f32) (d : FVec Ideal S16384x1024 .f32)
/-- The gradient with respect to the gated array, of the reference's arguments. -/
def dgA : FVec Ideal S16384x2048 .f32 := dgV (ygV y z) (dnV (dvV o d) n) (msV (ygV y z))
/-- A group's lanes of an array, of the weight and of the gradient. -/
abbrev ln (i : Fin 16384) (g : Fin 8) : Fin 256 → EReal := fun k => y (ix2 i (gr g k))
abbrev wn (g : Fin 8) : Fin 256 → EReal := fun k => n (ix2 0 (gr g k))
abbrev dn (i : Fin 16384) (g : Fin 8) : Fin 256 → EReal := fun k => DV o d i (gr g k)

theorem dgA_at (i : Fin 16384) (x : Fin 2048) : dgA y z n o d (ix2 i x) = rdg (ln y i (gq x)) (ln z i (gq x)) (wn n (gq x)) (dn o d i (gq x)) (lq x) := by
  unfold dgA rdg rms
  rw [dgV_at, msV_at]
  simp only [ygV_at, dnV_at, dvV_at]
theorem dy_at (i : Fin 16384) (x : Fin 2048) : dyV z (dgA y z n o d) (ix2 i x) = rdy (ln y i (gq x)) (ln z i (gq x)) (wn n (gq x)) (dn o d i (gq x)) (lq x) := by
  rw [dyV_at, dgA_at]
  simp only [rdy, ln, gr_q]
theorem dz_at (i : Fin 16384) (x : Fin 2048) : dzV y z (dgA y z n o d) (ix2 i x) = rdz (ln y i (gq x)) (ln z i (gq x)) (wn n (gq x)) (dn o d i (gq x)) (lq x) := by
  rw [dzV_at, dgA_at]
  simp only [rdz, ln, gr_q]
theorem dw_at (x : Fin 2048) : dwV (ygV y z) (msV (ygV y z)) (dvV o d) (ix2 0 x)
    = ∑ r : Fin 16384, rdw (ln y r (gq x)) (ln z r (gq x)) (dn o d r (gq x)) (lq x) := by
  rw [dwV_at]
  refine Finset.sum_congr rfl fun r _ => ?_
  rw [msV_at]
  simp only [ygV_at, dvV_at, rdw, rms, ln, dn, gr_q]

variable {y z n o d} {yr zr dr : Fin 16384 → Fin 2048 → ℝ} {nr : Fin 2048 → ℝ}
  (hy : ∀ i x, y (ix2 i x) = (yr i x : ℝ)) (hz : ∀ i x, z (ix2 i x) = (zr i x : ℝ)) (hn : ∀ x, n (ix2 0 x) = (nr x : ℝ)) (hd : ∀ i x, DV o d i x = (dr i x : ℝ))
include hy hz hn hd
theorem dy_ref : dyV z (dgA y z n o d) = G5 y z n o d := by
  funext j
  obtain ⟨i, x, rfl⟩ : ∃ (i : Fin 16384) (x : Fin 2048), j = ix2 i x := ⟨j 0, j 1, by idx_vars j⟩
  exact (dy_at y z n o d i x).trans (dy_eq (fun _ => hy _ _) (fun _ => hz _ _) (fun _ => hn _) (fun _ => hd _ _) _)
theorem dz_ref : dzV y z (dgA y z n o d) = G6 y z n o d := by
  funext j
  obtain ⟨i, x, rfl⟩ : ∃ (i : Fin 16384) (x : Fin 2048), j = ix2 i x := ⟨j 0, j 1, by idx_vars j⟩
  exact (dz_at y z n o d i x).trans (dz_eq (fun _ => hy _ _) (fun _ => hz _ _) (fun _ => hn _) (fun _ => hd _ _) _)
omit hn
theorem dw_ref : dwV (ygV y z) (msV (ygV y z)) (dvV o d) = G7 y z o d := by
  funext j
  obtain ⟨x, rfl⟩ : ∃ (x : Fin 2048), j = ix2 0 x := ⟨j 1, by idx_vars j; exact congrArg (ix2 · _) (Subsingleton.elim _ _)⟩
  exact (dw_at y z o d x).trans (Finset.sum_congr rfl fun r _ => dw_eq (fun _ => hy _ _) (fun _ => hz _ _) (fun _ => hd _ _) _)
end

theorem res_v43 (m : (ℓ : Loc nD τ sig) → Buf (Elt Ideal) ℓ) (c : Dev nD) : res_main_v43 (F := Ideal) m c = dyV (m ((c.tc : Thread nD τ).loc main_arg1)) (dgA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl
theorem res_v45 (m : (ℓ : Loc nD τ sig) → Buf (Elt Ideal) ℓ) (c : Dev nD) : res_main_v45 (F := Ideal) m c = dzV (m ((c.tc : Thread nD τ).loc main_arg0)) (m ((c.tc : Thread nD τ).loc main_arg1)) (dgA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl
end Cert.Proof.GateRef

end
-- ==== Proof.GateEnd.lean ====
/- The gradient of the gated group normalisation: what the kernel leaves is the reference's gradient. -/
module

public import proofs.«01_k».proof.Proof.GateRef
public import proofs.«01_k».proof.Proof.Gen.GateIdeal.Frame
public import proofs.«01_k».proof.Proof.Gen.Pre_finite_gate
public import proofs.«01_k».proof.Defs
public import Idealize.ShloMosaic.Lib.Claim
public import Idealize.ShloMosaic.Lib.Pointwise

@[expose] public section

set_option maxRecDepth 16384

noncomputable section

namespace Cert.Proof
open Idealize.ShloMosaic Idealize.ShloMosaic.TcCoe Idealize.SL.Sem
open Cert.Proof.Att Cert.Proof.Gate

/-- The arrays, and the gradient before the weight, are arrays of reals. -/
def Gate.AllReal (y z : FVec Ideal Cert.GateIdeal.S16384x2048 .f32) (n : FVec Ideal Cert.GateIdeal.S1x2048 .f32) (o : FVec Ideal Cert.GateIdeal.S2048x1024 .f32) (d : FVec Ideal Cert.GateIdeal.S16384x1024 .f32) : Prop :=
  ∃ (yr zr dr : Fin 16384 → Fin 2048 → ℝ) (nr : Fin 2048 → ℝ), (∀ i x, y (ix2 i x) = (yr i x : ℝ)) ∧ (∀ i x, z (ix2 i x) = (zr i x : ℝ))
      ∧ (∀ x, n (ix2 0 x) = (nr x : ℝ)) ∧ ∀ i x, DV o d i x = (dr i x : ℝ)

section
variable {a0 a1 : FVec Ideal Cert.Pre_finite_gate.S16384x2048 .f32} {a2 : FVec Ideal Cert.Pre_finite_gate.S1x2048 .f32}
  {a3 : FVec Ideal Cert.Pre_finite_gate.S2048x1024 .f32} {a4 : FVec Ideal Cert.Pre_finite_gate.S16384x1024 .f32}
/-- Under the precondition the arrays, and the gradient before the weight, are arrays of reals. -/
theorem Gate.reals (p0 : (Cert.Pre_finite_gate.fn (F := Ideal) a0 a1 a2 a3 a4).1 = fun _ => 1#1) (p1 : (Cert.Pre_finite_gate.fn (F := Ideal) a0 a1 a2 a3 a4).2.1 = fun _ => 1#1) (p2 : (Cert.Pre_finite_gate.fn (F := Ideal) a0 a1 a2 a3 a4).2.2.1 = fun _ => 1#1) (p3 : (Cert.Pre_finite_gate.fn (F := Ideal) a0 a1 a2 a3 a4).2.2.2.1 = fun _ => 1#1) (p4 : (Cert.Pre_finite_gate.fn (F := Ideal) a0 a1 a2 a3 a4).2.2.2.2 = fun _ => 1#1) :
    AllReal a0 a1 a2 a3 a4 := by
  have h3 : ∀ x l, (a3 (ix2 x l) : EReal) = ((a3 (ix2 x l) : EReal).toReal : EReal) := fun x l => by
    have h := congrFun p3 (ix2 x l)
    pointwise [Cert.Pre_finite_gate.fn] at h
    exact real_bit h
  have h4 : ∀ i l, (a4 (ix2 i l) : EReal) = ((a4 (ix2 i l) : EReal).toReal : EReal) := fun i l => by
    have h := congrFun p4 (ix2 i l)
    pointwise [Cert.Pre_finite_gate.fn] at h
    exact real_bit h
  refine ⟨fun i x => (a0 (ix2 i x) : EReal).toReal, fun i x => (a1 (ix2 i x) : EReal).toReal,
    fun i x => ∑ l, (a4 (ix2 i l) : EReal).toReal * (a3 (ix2 x l) : EReal).toReal, fun x => (a2 (ix2 0 x) : EReal).toReal,
    fun i x => ?_, fun i x => ?_, fun x => ?_, fun i x => ?_⟩
  · have h := congrFun p0 (ix2 i x)
    pointwise [Cert.Pre_finite_gate.fn] at h
    exact real_bit h
  · have h := congrFun p1 (ix2 i x)
    pointwise [Cert.Pre_finite_gate.fn] at h
    exact real_bit h
  · have h := congrFun p2 (ix2 0 x)
    pointwise [Cert.Pre_finite_gate.fn] at h
    exact real_bit h
  · unfold DV
    rw [coe_sum]
    refine Finset.sum_congr rfl fun l _ => ?_
    rw [EReal.coe_mul, ← h3, ← h4]
end

theorem gateRef_frame : Cert.quiescent_GateRefIdeal := fun m g _ =>
  (θ_run Cert.GateRefIdeal.defs _ _).mono (fun r h => ⟨fun c => (h c).2.2.2, sem_eq_zero_of_no_sems (by decide) r.2⟩) (Cert.GateRefIdeal.Value.run (F := Ideal) m g)

section
open Cert.GateIdeal Cert.GateIdeal.Gen
/-- What the kernel leaves, its arguments untouched. -/
theorem gate_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v2_0) = G5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_1) = G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_2) = G7 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c), ((h.1 c).1 7).trans (final7 m c), h.2 c⟩)
    (θ_run_and (run_main m g) (unchanged m g))
end

section
open Cert.GateRefIdeal Cert.GateRefIdeal.Value
/-- What the reference leaves, where its arguments are reals. -/
theorem gateRef_run (m : (ℓ : Loc nD τ sig) → Buf (Elt Ideal) ℓ) (g : Dev nD → PrngReg)
    (H : ∀ c : Dev nD, AllReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    θ_run defs (onTc (τ := τ) (main (F := Ideal))) ⟨m, fun _ => 0, g⟩ (fun r => ∀ c : Dev nD,
      r.2.mem ((c.tc : Thread nD τ).loc main_v43) = G5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v45) = G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25) = G7 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨yr, zr, dr, nr, hy, hz, hn, hd⟩ := H c
    exact ⟨(h c).1.trans ((GateRef.res_v43 m c).trans (GateRef.dy_ref hy hz hn hd)), (h c).2.1.trans ((GateRef.res_v45 m c).trans (GateRef.dz_ref hy hz hn hd)),
      (h c).2.2.1.trans (GateRef.dw_ref hy hz hd), (h c).2.2.2⟩) (Cert.GateRefIdeal.Value.run (F := Ideal) m g)
end

theorem gate_algebraic : Cert.algebraic_GateIdeal_GateRefIdeal_pre_finite_gate := by
  intro m g m' g' hpre hagree
  refine ⟨_, _, _, gate_run m g, ?_⟩
  refine (θ_run Cert.GateRefIdeal.defs _ _).mono (fun r h c => ?_) (gateRef_run m' g' fun c => by
    obtain ⟨e0, e1, e2, e3, e4⟩ := hagree c
    rw [e0, e1, e2, e3, e4]
    exact Gate.reals (hpre c).1 (hpre c).2.1 (hpre c).2.2.1 (hpre c).2.2.2.1 (hpre c).2.2.2.2)
  obtain ⟨e0, e1, e2, e3, e4⟩ := hagree c
  have h5 := h c
  rw [e0, e1, e2, e3, e4] at h5
  rw [e0, e1, e2, e3, e4]
  exact h5
end Cert.Proof

end
-- ==== Proof.FoxMath.lean ====
/- The forget gate's gradient: sums over windows by doubling, and the derivative of the log-sigmoid in the words of the kernel and of
   the reference, equal at every extended real. -/
module

public import proofs.«01_k».proof.Proof.AttPre
public import Idealize.ShloMosaic.Lib.Claim
public import Idealize.ShloMosaic.Lib.Pointwise
public import Idealize.ShloMosaic.Lib.Pipeline.ValueKit

@[expose] public section

set_option maxRecDepth 16384

noncomputable section

namespace Cert.Proof.Fox
open Idealize.ShloMosaic Idealize.ShloMosaic.TcCoe Idealize.SL.Sem

/-! ## Sums -/

/-- The sum of the `w` terms from `i` on. -/
def win (e : ℕ → EReal) (w i : ℕ) : EReal := ∑ j ∈ Finset.range w, e (i + j)

theorem win_one (e : ℕ → EReal) (i : ℕ) : win e 1 i = e i := by simp [win]

/-- One doubling. -/
theorem win_add (e : ℕ → EReal) (w i : ℕ) : win e w i + win e w (i + w) = win e (w + w) i := by
  unfold win
  rw [Finset.sum_range_add]
  exact congrArg (_ + ·) (Finset.sum_congr rfl fun j _ => congrArg e (by omega))

/-- The terms of one tile: those below 512 from the tile's first row on. -/
def tile (e : ℕ → EReal) (base : ℕ) (j : ℕ) : EReal := if j < 512 then e (base + j) else 0

theorem win_zero (e : ℕ → EReal) (b w i : ℕ) (h : 512 ≤ i) : win (tile e b) w i = 0 :=
  Finset.sum_eq_zero fun j _ => if_neg (by omega)

/-- The sum from a row to the end. -/
def rest (e : ℕ → EReal) (i : ℕ) : EReal := ∑ j ∈ Finset.Ico i 16384, e j

theorem win_tile (e : ℕ → EReal) (b i : ℕ) (hi : i < 512) : win (tile e b) 512 i = ∑ j ∈ Finset.Ico (b + i) (b + 512), e j := by
  unfold win
  rw [Finset.sum_Ico_eq_sum_range]
  have h : 512 = (512 - i) + i := by omega
  rw [show Finset.range 512 = Finset.range ((512 - i) + i) from congrArg _ h, Finset.sum_range_add]
  rw [show b + 512 - (b + i) = 512 - i from by omega]
  refine Eq.trans (congrArg₂ (· + ·) (Finset.sum_congr rfl fun j hj => ?_) (Finset.sum_eq_zero fun j _ => if_neg (by omega))) (add_zero _)
  have := Finset.mem_range.mp hj
  exact (if_pos (by omega)).trans (congrArg e (by omega))

theorem win_rest (e : ℕ → EReal) (b i : ℕ) (hi : i < 512) (hb : b + 512 ≤ 16384) : win (tile e b) 512 i + rest e (b + 512) = rest e (b + i) := by
  rw [win_tile e b i hi]
  exact Finset.sum_Ico_consecutive _ (by omega) hb

/-! ## The derivative of the log-sigmoid -/

/-- As the kernel writes it. -/
def kd (z : EReal) : EReal := Ideal.div 1 (1 + Ideal.exp z)

/-- The softplus, by the larger of the argument and zero. -/
def sp (x : EReal) : EReal := max x 0 + Ideal.log1p (Ideal.exp (-max x (-x)))

/-- As the transform of the reference writes it, at `x` the negated argument. -/
def rd (x : EReal) : EReal := Ideal.exp ((if x = ⊤ then 0 else x) - (if sp x = ⊤ then 0 else sp x))

theorem kd_coe (a : ℝ) : kd a = ((1 + Real.exp a)⁻¹ : ℝ) := by
  unfold kd
  have h : (0 : ℝ) < 1 + Real.exp a := by positivity
  rw [Ideal.exp_coe, ← EReal.coe_one, ← EReal.coe_add, Ideal.div_coe h.ne']
  simp

theorem sp_coe (a : ℝ) : sp a = (Real.log (1 + Real.exp a) : ℝ) := by
  unfold sp Ideal.log1p
  have e1 : max (a : EReal) (-(a : EReal)) = ((|a| : ℝ) : EReal) := by
    rw [← EReal.coe_neg, abs_eq_max_neg]; exact (EReal.coe_strictMono.monotone.map_max).symm
  have e2 : max (a : EReal) 0 = ((max a 0 : ℝ) : EReal) := by
    rw [← EReal.coe_zero]; exact (EReal.coe_strictMono.monotone.map_max).symm
  have h : (0 : ℝ) < 1 + Real.exp (-|a|) := by positivity
  rw [e1, e2, ← EReal.coe_neg, Ideal.exp_coe, ← EReal.coe_one, ← EReal.coe_add, Ideal.log_coe, if_neg (not_le.mpr h), ← EReal.coe_add]
  refine congrArg (fun x : ℝ => (x : EReal)) ?_
  rcases le_total 0 a with ha | ha
  · rw [max_eq_left ha, abs_of_nonneg ha]
    have : 1 + Real.exp a = Real.exp a * (1 + Real.exp (-a)) := by rw [mul_add, ← Real.exp_add]; simp [add_comm]
    rw [this, Real.log_mul (Real.exp_pos a).ne' (by positivity), Real.log_exp]
  · rw [max_eq_right ha, abs_of_nonpos ha]; simp

theorem log_one : Ideal.log 1 = 0 := by
  rw [← EReal.coe_one, Ideal.log_coe, if_neg (by norm_num), Real.log_one, EReal.coe_zero]
theorem exp_zero : Ideal.exp 0 = 1 := by
  rw [← EReal.coe_zero, Ideal.exp_coe, Real.exp_zero, EReal.coe_one]
theorem div_one' : Ideal.div 1 1 = 1 := by
  conv_lhs => rw [← EReal.coe_one, Ideal.div_coe one_ne_zero, ← EReal.coe_mul]
  norm_num

theorem rd_eq (z : EReal) : rd (-z) = kd z := by
  induction z with
  | coe a =>
    rw [kd_coe]
    unfold rd
    rw [← EReal.coe_neg, sp_coe, if_neg (EReal.coe_ne_top _), if_neg (EReal.coe_ne_top _), ← EReal.coe_sub, Ideal.exp_coe]
    refine congrArg (fun x : ℝ => (x : EReal)) ?_
    have h : (0 : ℝ) < 1 + Real.exp (-a) := by positivity
    rw [Real.exp_sub, Real.exp_log h, Real.exp_neg]
    have := (Real.exp_pos a).ne'
    field_simp
    ring
  | bot =>
    have e : sp ⊤ = ⊤ := by simp [sp, Ideal.log1p, log_one]
    rw [EReal.neg_bot]
    unfold rd kd
    rw [e, if_pos rfl, sub_zero, exp_zero, Ideal.exp_bot, add_zero, div_one']
  | top =>
    have e : sp ⊥ = 0 := by simp [sp, Ideal.log1p, log_one]
    rw [EReal.neg_top]
    unfold rd kd
    rw [e, if_neg bot_ne_top, if_neg EReal.zero_ne_top, sub_zero, Ideal.exp_bot, Ideal.exp_top]
    rw [show (1 : EReal) + ⊤ = ⊤ from EReal.coe_add_top 1]
    simp [Ideal.div]
end Cert.Proof.Fox

end
-- ==== Proof.FoxTile.lean ====
/- The forget gate's gradient, one tile: nine doublings leave every row with the sum of the rows from it to the tile's end. -/
module

public import proofs.«01_k».proof.Proof.FoxMath
public import proofs.«01_k».proof.Proof.Gen.FoxIdeal.Frame

@[expose] public section

set_option maxRecDepth 16384

noncomputable section

noncomputable section

namespace Cert.Proof.Fox
open Idealize.ShloMosaic Idealize.ShloMosaic.TcCoe Idealize.SL.Sem
open Cert.FoxIdeal Cert.FoxIdeal.Gen

/-- One doubling: a row takes the row `s` further down, unless that one lies past the tile. -/
def st (s r : BitVec 32) (x : FVec Ideal S512x128 .f32) : FVec Ideal S512x128 .f32 :=
  addf x (select (cmpi .slt (addi (iota .tc S512x128 32 [0] iota_S512x128_d0_w32) (broadcast S512x128 s)) (broadcast S512x128 512#32))
    (dynamicRotate 0 r none x rotates_S512x128_d0) (broadcast S512x128 (Scalar.ofBits .f32 0x00000000#32)))

/-- A doubling takes sums over `w` rows to sums over twice as many. -/
theorem st_win (e : ℕ → EReal) (b w : ℕ) (s q : BitVec 32) (x : FVec Ideal S512x128 .f32) (n : Fin 128) (hx : ∀ r : Fin 512, x (ix2 r n) = win (tile e b) w r)
    (h : ∀ r : Fin 512, st s q x (ix2 r n) = x (ix2 r n) + (if h : r.val + w < 512 then x (ix2 ⟨r.val + w, h⟩ n) else 0)) (r : Fin 512) :
    st s q x (ix2 r n) = win (tile e b) (w + w) r := by
  rw [h, hx, ← win_add]
  split
  · rw [hx]
  · rw [win_zero e b w (r.val + w) (by omega)]

theorem mask1 : ∀ r : Fin 512, (IntOp.cmpi CmpIPredicate.slt (IntOp.addi (BitVec.ofNat 32 r.val) 1#32) 512#32) = if r.val + 1 < 512 then 1#1 else 0#1 := by
  decide +kernel
theorem st1 (x : FVec Ideal S512x128 .f32) (n : Fin 128) (r : Fin 512) :
    st 1#32 511#32 x (ix2 r n) = x (ix2 r n) + (if h : r.val + 1 < 512 then x (ix2 ⟨r.val + 1, h⟩ n) else 0) := by
  pointwise [st]
  refine congrArg (x (ix2 r n) + ·) ?_
  rw [mask1 r]
  by_cases h : r.val + 1 < 512
  · rw [if_pos h, dif_pos h]
    exact congrArg (fun q => x (ix2 q n)) (Fin.ext (by dsimp only; omega))
  · rw [if_neg h, dif_neg h]; rfl
theorem mask2 : ∀ r : Fin 512, (IntOp.cmpi CmpIPredicate.slt (IntOp.addi (BitVec.ofNat 32 r.val) 2#32) 512#32) = if r.val + 2 < 512 then 1#1 else 0#1 := by
  decide +kernel
theorem st2 (x : FVec Ideal S512x128 .f32) (n : Fin 128) (r : Fin 512) :
    st 2#32 510#32 x (ix2 r n) = x (ix2 r n) + (if h : r.val + 2 < 512 then x (ix2 ⟨r.val + 2, h⟩ n) else 0) := by
  pointwise [st]
  refine congrArg (x (ix2 r n) + ·) ?_
  rw [mask2 r]
  by_cases h : r.val + 2 < 512
  · rw [if_pos h, dif_pos h]
    exact congrArg (fun q => x (ix2 q n)) (Fin.ext (by dsimp only; omega))
  · rw [if_neg h, dif_neg h]; rfl
theorem mask4 : ∀ r : Fin 512, (IntOp.cmpi CmpIPredicate.slt (IntOp.addi (BitVec.ofNat 32 r.val) 4#32) 512#32) = if r.val + 4 < 512 then 1#1 else 0#1 := by
  decide +kernel
theorem st4 (x : FVec Ideal S512x128 .f32) (n : Fin 128) (r : Fin 512) :
    st 4#32 508#32 x (ix2 r n) = x (ix2 r n) + (if h : r.val + 4 < 512 then x (ix2 ⟨r.val + 4, h⟩ n) else 0) := by
  pointwise [st]
  refine congrArg (x (ix2 r n) + ·) ?_
  rw [mask4 r]
  by_cases h : r.val + 4 < 512
  · rw [if_pos h, dif_pos h]
    exact congrArg (fun q => x (ix2 q n)) (Fin.ext (by dsimp only; omega))
  · rw [if_neg h, dif_neg h]; rfl
theorem mask8 : ∀ r : Fin 512, (IntOp.cmpi CmpIPredicate.slt (IntOp.addi (BitVec.ofNat 32 r.val) 8#32) 512#32) = if r.val + 8 < 512 then 1#1 else 0#1 := by
  decide +kernel
theorem st8 (x : FVec Ideal S512x128 .f32) (n : Fin 128) (r : Fin 512) :
    st 8#32 504#32 x (ix2 r n) = x (ix2 r n) + (if h : r.val + 8 < 512 then x (ix2 ⟨r.val + 8, h⟩ n) else 0) := by
  pointwise [st]
  refine congrArg (x (ix2 r n) + ·) ?_
  rw [mask8 r]
  by_cases h : r.val + 8 < 512
  · rw [if_pos h, dif_pos h]
    exact congrArg (fun q => x (ix2 q n)) (Fin.ext (by dsimp only; omega))
  · rw [if_neg h, dif_neg h]; rfl
theorem mask16 : ∀ r : Fin 512, (IntOp.cmpi CmpIPredicate.slt (IntOp.addi (BitVec.ofNat 32 r.val) 16#32) 512#32) = if r.val + 16 < 512 then 1#1 else 0#1 := by
  decide +kernel
theorem st16 (x : FVec Ideal S512x128 .f32) (n : Fin 128) (r : Fin 512) :
    st 16#32 496#32 x (ix2 r n) = x (ix2 r n) + (if h : r.val + 16 < 512 then x (ix2 ⟨r.val + 16, h⟩ n) else 0) := by
  pointwise [st]
  refine congrArg (x (ix2 r n) + ·) ?_
  rw [mask16 r]
  by_cases h : r.val + 16 < 512
  · rw [if_pos h, dif_pos h]
    exact congrArg (fun q => x (ix2 q n)) (Fin.ext (by dsimp only; omega))
  · rw [if_neg h, dif_neg h]; rfl
theorem mask32 : ∀ r : Fin 512, (IntOp.cmpi CmpIPredicate.slt (IntOp.addi (BitVec.ofNat 32 r.val) 32#32) 512#32) = if r.val + 32 < 512 then 1#1 else 0#1 := by
  decide +kernel
theorem st32 (x : FVec Ideal S512x128 .f32) (n : Fin 128) (r : Fin 512) :
    st 32#32 480#32 x (ix2 r n) = x (ix2 r n) + (if h : r.val + 32 < 512 then x (ix2 ⟨r.val + 32, h⟩ n) else 0) := by
  pointwise [st]
  refine congrArg (x (ix2 r n) + ·) ?_
  rw [mask32 r]
  by_cases h : r.val + 32 < 512
  · rw [if_pos h, dif_pos h]
    exact congrArg (fun q => x (ix2 q n)) (Fin.ext (by dsimp only; omega))
  · rw [if_neg h, dif_neg h]; rfl
theorem mask64 : ∀ r : Fin 512, (IntOp.cmpi CmpIPredicate.slt (IntOp.addi (BitVec.ofNat 32 r.val) 64#32) 512#32) = if r.val + 64 < 512 then 1#1 else 0#1 := by
  decide +kernel
theorem st64 (x : FVec Ideal S512x128 .f32) (n : Fin 128) (r : Fin 512) :
    st 64#32 448#32 x (ix2 r n) = x (ix2 r n) + (if h : r.val + 64 < 512 then x (ix2 ⟨r.val + 64, h⟩ n) else 0) := by
  pointwise [st]
  refine congrArg (x (ix2 r n) + ·) ?_
  rw [mask64 r]
  by_cases h : r.val + 64 < 512
  · rw [if_pos h, dif_pos h]
    exact congrArg (fun q => x (ix2 q n)) (Fin.ext (by dsimp only; omega))
  · rw [if_neg h, dif_neg h]; rfl
theorem mask128 : ∀ r : Fin 512, (IntOp.cmpi CmpIPredicate.slt (IntOp.addi (BitVec.ofNat 32 r.val) 128#32) 512#32) = if r.val + 128 < 512 then 1#1 else 0#1 := by
  decide +kernel
theorem st128 (x : FVec Ideal S512x128 .f32) (n : Fin 128) (r : Fin 512) :
    st 128#32 384#32 x (ix2 r n) = x (ix2 r n) + (if h : r.val + 128 < 512 then x (ix2 ⟨r.val + 128, h⟩ n) else 0) := by
  pointwise [st]
  refine congrArg (x (ix2 r n) + ·) ?_
  rw [mask128 r]
  by_cases h : r.val + 128 < 512
  · rw [if_pos h, dif_pos h]
    exact congrArg (fun q => x (ix2 q n)) (Fin.ext (by dsimp only; omega))
  · rw [if_neg h, dif_neg h]; rfl
theorem mask256 : ∀ r : Fin 512, (IntOp.cmpi CmpIPredicate.slt (IntOp.addi (BitVec.ofNat 32 r.val) 256#32) 512#32) = if r.val + 256 < 512 then 1#1 else 0#1 := by
  decide +kernel
theorem st256 (x : FVec Ideal S512x128 .f32) (n : Fin 128) (r : Fin 512) :
    st 256#32 256#32 x (ix2 r n) = x (ix2 r n) + (if h : r.val + 256 < 512 then x (ix2 ⟨r.val + 256, h⟩ n) else 0) := by
  pointwise [st]
  refine congrArg (x (ix2 r n) + ·) ?_
  rw [mask256 r]
  by_cases h : r.val + 256 < 512
  · rw [if_pos h, dif_pos h]
    exact congrArg (fun q => x (ix2 q n)) (Fin.ext (by dsimp only; omega))
  · rw [if_neg h, dif_neg h]; rfl

/-- The tile's running sum before the carried row. -/
def nine (a b : FVec Ideal S512x128 .f32) : FVec Ideal S512x128 .f32 :=
  st 256#32 256#32 (st 128#32 384#32 (st 64#32 448#32 (st 32#32 480#32 (st 16#32 496#32 (st 8#32 504#32 (st 4#32 508#32 (st 2#32 510#32 (st 1#32 511#32 (addf a b)))))))))

theorem nine_at (e : ℕ → EReal) (p : ℕ) (a b : FVec Ideal S512x128 .f32) (n : Fin 128) (h : ∀ r : Fin 512, a (ix2 r n) + b (ix2 r n) = e (p + r)) (r : Fin 512) :
    nine a b (ix2 r n) = win (tile e p) 512 r := by
  have h0 : ∀ r : Fin 512, addf a b (ix2 r n) = win (tile e p) 1 r := fun r => by
    rw [win_one]; exact (h r).trans (if_pos r.isLt).symm
  have h1 := st_win e p 1 _ _ _ n h0 (st1 _ n)
  have h2 := st_win e p 2 _ _ _ n h1 (st2 _ n)
  have h3 := st_win e p 4 _ _ _ n h2 (st4 _ n)
  have h4 := st_win e p 8 _ _ _ n h3 (st8 _ n)
  have h5 := st_win e p 16 _ _ _ n h4 (st16 _ n)
  have h6 := st_win e p 32 _ _ _ n h5 (st32 _ n)
  have h7 := st_win e p 64 _ _ _ n h6 (st64 _ n)
  have h8 := st_win e p 128 _ _ _ n h7 (st128 _ n)
  have h9 := st_win e p 256 _ _ _ n h8 (st256 _ n)
  exact h9 r

abbrev it : IVec S512x128 32 := iota .tc S512x128 32 [0] iota_S512x128_d0_w32
abbrev v72 (a b : FVec Ideal S512x128 .f32) : FVec Ideal S512x128 .f32 := k0_pay10 it (k0_pay8 a b) k0_pay9 504#32

theorem pay1_at (a b : FVec Ideal S512x128 .f32) (q : FVec Ideal S1x128 .f32) (r : Fin 512) (n : Fin 128) :
    k0_pay1 (F := Ideal) (v72 a b) (k0_pay11 it) 256#32 q (ix2 r n) = nine a b (ix2 r n) + q (ix2 0 n) := by
  have e : k0_pay1 (F := Ideal) (v72 a b) (k0_pay11 it) 256#32 q = addf (nine (shapeCast S512x128 a shapeCasts_S512x128_S512x128) (shapeCast S512x128 b shapeCasts_S512x128_S512x128)) (broadcastTo S512x128 q broadcasts_S1x128_S512x128) := rfl
  rw [e, shapeCast_self, shapeCast_self]
  pointwise
theorem pay2_at (a b : FVec Ideal S512x128 .f32) (q : FVec Ideal S1x128 .f32) (n : Fin 128) :
    k0_pay2 (F := Ideal) (v72 a b) (k0_pay11 it) 256#32 q (ix2 0 n) = nine a b (ix2 0 n) + q (ix2 0 n) := by
  rw [← pay1_at]
  pointwise [k0_pay2]
theorem pay3_at (a b f : FVec Ideal S512x128 .f32) (q w : FVec Ideal S1x128 .f32) (r : Fin 512) (n : Fin 128) :
    k0_pay3 (F := Ideal) (v72 a b) (k0_pay11 it) 256#32 q f w (ix2 r n) = (nine a b (ix2 r n) + q (ix2 0 n)) * kd (f (ix2 r n) + w (ix2 0 n)) := by
  rw [← pay1_at]
  pointwise [k0_pay3, kd]
theorem pay4_at (a b f : FVec Ideal S512x128 .f32) (q w : FVec Ideal S1x128 .f32) (r : Fin 512) (n : Fin 128) :
    k0_pay4 (F := Ideal) (v72 a b) (k0_pay11 it) 256#32 q f w (ix2 r n) = (nine a b (ix2 r n) + q (ix2 0 n)) * kd (f (ix2 r n) + w (ix2 0 n)) := by
  rw [← pay3_at]
  pointwise [k0_pay4]
theorem pay5_at (a b f : FVec Ideal S512x128 .f32) (q w o : FVec Ideal S1x128 .f32) (n : Fin 128) :
    k0_pay5 (F := Ideal) (v72 a b) (k0_pay11 it) 256#32 q f w o (ix2 0 n) = o (ix2 0 n) + ∑ r : Fin 512, (nine a b (ix2 r n) + q (ix2 0 n)) * kd (f (ix2 r n) + w (ix2 0 n)) := by
  simp only [← pay3_at]
  pointwise [k0_pay5]
theorem zero6 (r : Fin 8) (n : Fin 128) : k0_pay6 (F := Ideal) (ix2 r n) = (0 : EReal) := by pointwise [k0_pay6]
theorem zero7 (n : Fin 128) : k0_pay7 (F := Ideal) (ix2 0 n) = (0 : EReal) := by pointwise [k0_pay7]
end Cert.Proof.Fox

end
-- ==== Proof.FoxPoint.lean ====
/- The arrays the forget gate's gradient leaves: the sum of the incoming gradients from each row on, by the gate's derivative; and the sum of that over the rows. -/
module

public import proofs.«01_k».proof.Proof.FoxTile
public import proofs.«01_k».proof.Proof.AttCanon
public import Idealize.ShloMosaic.Lib.WritesUnit

@[expose] public section

set_option maxRecDepth 16384

noncomputable section

noncomputable section

namespace Cert.Proof.Fox
open Idealize.ShloMosaic Idealize.ShloMosaic.TcCoe Idealize.SL.Sem
open Cert.FoxIdeal Cert.FoxIdeal.Gen

section
variable (f : FVec Ideal S16384x16 .f32) (b : FVec Ideal S1x16 .f32) (d k : FVec Ideal S8x32x2x512 .f32)
/-- The logit before its bias, zero on the lanes past the heads. -/
def lf (i : Fin 16384) (n : Fin 128) : EReal := if h : n.val < 16 then f (ix2 i ⟨n.val, h⟩) else 0
def lb (n : Fin 128) : EReal := if h : n.val < 16 then b (ix2 0 ⟨n.val, h⟩) else 0
/-- A gradient given in tiles, at a row and a lane. -/
def lt (i : Fin 16384) (n : Fin 128) : EReal :=
  if h : n.val < 16 then d (ix4 ⟨n.val / 2, by omega⟩ ⟨i.val / 512, by omega⟩ ⟨n.val % 2, by omega⟩ ⟨i.val % 512, by omega⟩) else 0
/-- The two gradients together. -/
def ee (n : Fin 128) (j : ℕ) : EReal := if h : j < 16384 then lt d ⟨j, h⟩ n + lt k ⟨j, h⟩ n else 0
def dz (i : Fin 16384) (n : Fin 128) : EReal := rest (ee d k n) i * kd (lf f i n + lb b n)
def G4 : FVec Ideal S16384x128 .bf16 := fun i => dz f b d k (i 0) (i 1)
def G5 : FVec Ideal S1x128 .f32 := fun i => ∑ q, dz f b d k q (i 1)
end

variable (m : (ℓ : Loc nD τ sig) → Buf (Elt Ideal) ℓ) (c : Dev nD) (t : Fin cfg0.N)

theorem zi : (FloatOps.sitofp (F := Ideal) FTy.f32 (0#32) : EReal) = 0 := by
  simp [FloatOps.sitofp]

theorem read2 (i : Fin 16384) (n : Fin 128) : (V m c main_v2 (ix2 i n) : EReal) = lt (m ((c : Thread nD τ).loc main_arg2)) i n := by
  show StableHlo.after (List.flatten [hostOps0, hostOps0_1, hostOps0_2, hostOps0_3, hostOps0_4, hostOps0_5, hostOps0_6, hostOps0_7]) (fun b => m (c, b)) main_v2 _ = _
  simp only [hostOps0, hostOps0_1, hostOps0_2, hostOps0_3, hostOps0_4, hostOps0_5, hostOps0_6, hostOps0_7, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  unfold lt
  refine dite_congr rfl (fun _ => rfl) fun _ => zi
theorem read5 (i : Fin 16384) (n : Fin 128) : (V m c main_v5 (ix2 i n) : EReal) = lt (m ((c : Thread nD τ).loc main_arg3)) i n := by
  show StableHlo.after (List.flatten [hostOps0, hostOps0_1, hostOps0_2, hostOps0_3, hostOps0_4, hostOps0_5, hostOps0_6, hostOps0_7]) (fun b => m (c, b)) main_v5 _ = _
  simp only [hostOps0, hostOps0_1, hostOps0_2, hostOps0_3, hostOps0_4, hostOps0_5, hostOps0_6, hostOps0_7, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  unfold lt
  refine dite_congr rfl (fun _ => rfl) fun _ => zi
theorem read6 (i : Fin 16384) (n : Fin 128) : (V m c main_v6 (ix2 i n) : EReal) = lf (m ((c : Thread nD τ).loc main_arg0)) i n := by
  show StableHlo.after (List.flatten [hostOps0, hostOps0_1, hostOps0_2, hostOps0_3, hostOps0_4, hostOps0_5, hostOps0_6, hostOps0_7]) (fun b => m (c, b)) main_v6 _ = _
  simp only [hostOps0, hostOps0_1, hostOps0_2, hostOps0_3, hostOps0_4, hostOps0_5, hostOps0_6, hostOps0_7, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  unfold lf
  refine dite_congr rfl (fun _ => rfl) fun _ => zi
theorem read7 (n : Fin 128) : (V m c main_v7 (ix2 0 n) : EReal) = lb (m ((c : Thread nD τ).loc main_arg1)) n := by
  show StableHlo.after (List.flatten [hostOps0, hostOps0_1, hostOps0_2, hostOps0_3, hostOps0_4, hostOps0_5, hostOps0_6, hostOps0_7]) (fun b => m (c, b)) main_v7 _ = _
  simp only [hostOps0, hostOps0_1, hostOps0_2, hostOps0_3, hostOps0_4, hostOps0_5, hostOps0_6, hostOps0_7, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  unfold lb
  refine dite_congr rfl (fun _ => rfl) fun _ => zi

theorem idx : ∀ t : Fin cfg0.N, win0_0.index t = ![31 - t.val, 0] ∧ win0_1.index t = ![31 - t.val, 0] ∧ win0_2.index t = ![31 - t.val, 0] ∧ win0_3.index t = ![0, 0] ∧ win0_4.index t = ![31 - t.val, 0] ∧ win0_5.index t = ![0, 0] :=
  (by decide +kernel : ∀ t : Fin grid0.N, _)

theorem tlt : t.val < 32 := t.isLt

/-- The row a point's tile has its `r`th row at: the last tile comes first. -/
def rv (r : Fin 512) : Fin 16384 := ⟨512 * (31 - t.val) + r.val, by omega⟩

theorem emb4 (r : Fin 512) (n : Fin 128) : ((View.whole main_v8_0).slice (win0_4.rect t)).emb (ix2 r n) = ix2 (rv t r) n := by
  blk_point [idx t, rv]
theorem emb5 (r : Fin 1) (n : Fin 128) : ((View.whole main_v8_1).slice (win0_5.rect t)).emb (ix2 r n) = ix2 0 n := by
  blk_point [idx t]
abbrev B0 : FVec Ideal S512x128 .f32 := iblk m c 0 t
abbrev B1 : FVec Ideal S512x128 .f32 := iblk m c 1 t
abbrev B2 : FVec Ideal S512x128 .f32 := iblk m c 2 t
abbrev B3 : FVec Ideal S1x128 .f32 := iblk m c 3 t

theorem b0 (r : Fin 512) (n : Fin 128) : (iblk m c 0 t : Vec Ideal S512x128 .f32) (ix2 r n) = lt (m ((c : Thread nD τ).loc main_arg2)) (rv t r) n := by
  rw [← read2 m c (rv t r) n]
  blk_point [iblk, idx t, rv]
theorem b1 (r : Fin 512) (n : Fin 128) : (iblk m c 1 t : Vec Ideal S512x128 .f32) (ix2 r n) = lt (m ((c : Thread nD τ).loc main_arg3)) (rv t r) n := by
  rw [← read5 m c (rv t r) n]
  blk_point [iblk, idx t, rv]
theorem b2 (r : Fin 512) (n : Fin 128) : (iblk m c 2 t : Vec Ideal S512x128 .f32) (ix2 r n) = lf (m ((c : Thread nD τ).loc main_arg0)) (rv t r) n := by
  rw [← read6 m c (rv t r) n]
  blk_point [iblk, idx t, rv]
theorem b3 (n : Fin 128) : (iblk m c 3 t : Vec Ideal S1x128 .f32) (ix2 0 n) = lb (m ((c : Thread nD τ).loc main_arg1)) n := by
  rw [← read7 m c n]
  blk_point [iblk, idx t]

theorem b0' (r : Fin 512) (n : Fin 128) : B0 m c t (ix2 r n) = lt (m ((c : Thread nD τ).loc main_arg2)) (rv t r) n := b0 m c t r n
theorem b1' (r : Fin 512) (n : Fin 128) : B1 m c t (ix2 r n) = lt (m ((c : Thread nD τ).loc main_arg3)) (rv t r) n := b1 m c t r n
theorem b2' (r : Fin 512) (n : Fin 128) : B2 m c t (ix2 r n) = lf (m ((c : Thread nD τ).loc main_arg0)) (rv t r) n := b2 m c t r n
theorem b3' (n : Fin 128) : B3 m c t (ix2 0 n) = lb (m ((c : Thread nD τ).loc main_arg1)) n := b3 m c t n

theorem ee_blk (r : Fin 512) (n : Fin 128) : B0 m c t (ix2 r n) + B1 m c t (ix2 r n) = (ee (m ((c : Thread nD τ).loc main_arg2)) (m ((c : Thread nD τ).loc main_arg3)) n) (512 * (31 - t.val) + r.val) := by
  rw [b0', b1']
  have := tlt t
  unfold ee
  rw [dif_pos (show 512 * (31 - t.val) + r.val < 16384 by omega)]
  rfl

/-- What a point's tile holds once the row carried to it is added. -/
theorem sum_blk (q : FVec Ideal S1x128 .f32) (n : Fin 128) (hq : q (ix2 0 n) = rest (ee (m ((c : Thread nD τ).loc main_arg2)) (m ((c : Thread nD τ).loc main_arg3)) n) (512 * (31 - t.val) + 512)) (r : Fin 512) :
    nine (B0 m c t) (B1 m c t) (ix2 r n) + q (ix2 0 n) = rest (ee (m ((c : Thread nD τ).loc main_arg2)) (m ((c : Thread nD τ).loc main_arg3)) n) (512 * (31 - t.val) + r.val) := by
  rw [nine_at _ _ _ _ n (fun r => ee_blk m c t r n), hq]
  exact win_rest _ _ _ r.isLt (by omega)

theorem dz_blk (q : FVec Ideal S1x128 .f32) (n : Fin 128) (hq : q (ix2 0 n) = rest (ee (m ((c : Thread nD τ).loc main_arg2)) (m ((c : Thread nD τ).loc main_arg3)) n) (512 * (31 - t.val) + 512)) (r : Fin 512) :
    (nine (B0 m c t) (B1 m c t) (ix2 r n) + q (ix2 0 n)) * kd (B2 m c t (ix2 r n) + B3 m c t (ix2 0 n)) = dz (m ((c : Thread nD τ).loc main_arg0)) (m ((c : Thread nD τ).loc main_arg1)) (m ((c : Thread nD τ).loc main_arg2)) (m ((c : Thread nD τ).loc main_arg3)) (rv t r) n := by
  rw [sum_blk m c t q n hq, b2', b3']
  rfl

/-- The carried row as the first point reads it, and as a later one does. -/
abbrev qA : FVec Ideal S1x128 .f32 := (View.whole cc0_scratch0 : View sig .tc .vmem S8x128 .f32).readCov (Val := Elt Ideal) (s := S8x128) (e := .f32) [(⟨Rect.unit ![0, 0] ![8, 128] inb_S8x128_S8x128_0_0, k0_pay6 (F := Ideal)⟩ : View.Piece (Elt Ideal) S8x128 .f32)] (Rect.unit (s := S8x128) ![0, 0] ![1, 128] inb_S8x128_S1x128_0_0).toLoadRect
abbrev qB (h : (Memref.whole cc0_scratch0).IsWhole) (X : Vec Ideal S8x128 .f32) : FVec Ideal S1x128 .f32 := View.ld (Val := Elt Ideal) (e' := .f32) (View.read (Elt Ideal) (View.whole cc0_scratch0) (h.unread X)) (Rect.unit ![0, 0] ![1, 128] inb_S8x128_S1x128_0_0)
theorem off (n : Fin 128) : ∀ a : Fin 2, ((ix2 (0 : Fin 8) n : S8x128.Idx) a).val = (![0, 0] : Fin 2 → ℕ) a + ((ix2 (0 : Fin 1) n : S1x128.Idx) a).val
  | 0 => rfl
  | 1 => (Nat.zero_add _).symm
theorem readA (n : Fin 128) : qA (ix2 0 n) = (0 : EReal) := by
  unfold qA
  rw [View.readCov_eq_canon']
  have h : ∀ a : Fin 2, ((ix2 (0 : Fin 8) n : S8x128.Idx) a).val = (![0, 0] : Fin 2 → ℕ) a + ((ix2 (0 : Fin 8) n : S8x128.Idx) a).val := fun a => match a with
    | 0 => rfl
    | 1 => (Nat.zero_add _).symm
  refine (congrArg (View.canon (Val := Elt Ideal) (s := S8x128) (e := .f32) _) (funext fun a => Fin.ext ?_)).trans ((Att.hit (S := S8x128) (e := .f32) (off := ![0, 0]) (size := ![8, 128]) (inb := inb_S8x128_S8x128_0_0) (k0_pay6 (F := Ideal)) [] (ix2 (0 : Fin 8) n) (ix2 (0 : Fin 8) n) h).trans (zero6 0 n))
  exact match a with
    | 0 => rfl
    | 1 => (Nat.zero_add _).trans (Nat.one_mul _)
theorem readB (h : (Memref.whole cc0_scratch0).IsWhole) (X : Vec Ideal S8x128 .f32) (n : Fin 128) : qB h X (ix2 0 n) = X (ix2 0 n) := by
  have e : View.read (Elt Ideal) (View.whole cc0_scratch0) (h.unread X) = X := h.read_unread X
  unfold qB
  rw [e]
  exact View.ld_unit_apply_of (Val := Elt Ideal) (e := .f32) X _ _ _ (ix2 0 n) _ (off n)

/-- The row carried from a point to the next: the sum from its tile's first row on. -/
theorem carry : ∀ (k : ℕ) (h : k < cfg0.N) (n : Fin 128), (outsAt0 m c k h).2.2 (ix2 0 n) = rest (ee (m ((c : Thread nD τ).loc main_arg2)) (m ((c : Thread nD τ).loc main_arg3)) n) (512 * (31 - k))
  | 0, h, n => by
    rw [outsAt0_A m c ⟨0, h⟩ rfl]; frame_out
    refine (Att.hit (e := .f32) _ _ _ (ix2 0 n) (off n)).trans ?_
    refine (pay2_at _ _ _ n).trans ?_
    exact sum_blk m c ⟨0, h⟩ _ n ((readA n).trans (by simp [rest])) 0
  | k + 1, h, n => by
    have h32 : k + 1 < 32 := h
    rw [outsAt0_B m c ⟨k + 1, h⟩ (by dsimp only; omega)]; frame_out
    refine (View.read_writes_cons_unit_of_mem _ _ _ _ _ (ix2 0 n) (ix2 0 n) rfl (off n)).trans ?_
    refine (pay2_at _ _ _ n).trans ?_
    refine sum_blk m c ⟨k + 1, h⟩ _ n ((readB _ _ n).trans ((carry k (by omega) n).trans ?_)) 0
    exact congrArg (rest _) (by dsimp only; omega)

theorem carryA (h0 : t.val % 32 = 0) (n : Fin 128) : qA (ix2 0 n) = rest (ee (m ((c : Thread nD τ).loc main_arg2)) (m ((c : Thread nD τ).loc main_arg3)) n) (512 * (31 - t.val) + 512) := by
  have := tlt t
  rw [readA, show t.val = 0 by omega]
  simp [rest]
theorem carryB (h0 : ¬ t.val % 32 = 0) (h : (Memref.whole cc0_scratch0).IsWhole) (h' : t.val - 1 < cfg0.N) (n : Fin 128) : qB h (outsAt0 m c (t.val - 1) h').2.2 (ix2 0 n) = rest (ee (m ((c : Thread nD τ).loc main_arg2)) (m ((c : Thread nD τ).loc main_arg3)) n) (512 * (31 - t.val) + 512) := by
  have := tlt t
  rw [readB, carry]
  exact congrArg (rest _) (by omega)

theorem out4 (y0 : Fin 512) (y1 : Fin 128) : ((outsAt0 m c t.val t.isLt).1 (ix2 y0 y1) : EReal) = dz (m ((c : Thread nD τ).loc main_arg0)) (m ((c : Thread nD τ).loc main_arg1)) (m ((c : Thread nD τ).loc main_arg2)) (m ((c : Thread nD τ).loc main_arg3)) (rv t y0) y1 := by
  by_cases h0 : t.val % 32 = 0
  · rw [outsAt0_A m c t h0]; frame_out
    refine (pay4_at (B0 m c t) (B1 m c t) (B2 m c t) qA (B3 m c t) y0 y1).trans ?_
    exact dz_blk m c t _ y1 (carryA m c t h0 y1) y0
  · rw [outsAt0_B m c t h0]; frame_out
    refine (pay4_at (B0 m c t) (B1 m c t) (B2 m c t) (qB _ _) (B3 m c t) y0 y1).trans ?_
    exact dz_blk m c t _ y1 (carryB m c t h0 _ _ y1) y0

theorem final4 : (dats m 0 c).arrAt 4 (cfgs 0).N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  rw [emb4]
  exact out4 m c t y0 y1

/-- What one point adds to the bias's row. -/
def part (t : Fin cfg0.N) (n : Fin 128) : EReal := ∑ r : Fin 512, dz (m ((c : Thread nD τ).loc main_arg0)) (m ((c : Thread nD τ).loc main_arg1)) (m ((c : Thread nD τ).loc main_arg2)) (m ((c : Thread nD τ).loc main_arg3)) (rv t r) n

theorem out5A (h0 : t.val % 32 = 0) (n : Fin 128) : ((outsAt0 m c t.val t.isLt).2.1 (ix2 0 n) : EReal) = 0 + part m c t n := by
  rw [outsAt0_A m c t h0]; frame_out
  refine (pay5_at (B0 m c t) (B1 m c t) (B2 m c t) qA (B3 m c t) _ n).trans ?_
  exact congrArg₂ (· + ·) (zero7 n) (Finset.sum_congr rfl fun r _ => dz_blk m c t _ n (carryA m c t h0 n) r)
theorem out5B (h0 : ¬ t.val % 32 = 0) (n : Fin 128) : ((outsAt0 m c t.val t.isLt).2.1 (ix2 0 n) : EReal) = (outsAt0 m c (t.val - 1) (Nat.lt_of_le_of_lt (Nat.sub_le _ _) t.isLt)).2.1 (ix2 0 n) + part m c t n := by
  rw [outsAt0_B m c t h0]; frame_out
  refine (pay5_at (B0 m c t) (B1 m c t) (B2 m c t) (qB _ _) (B3 m c t) _ n).trans ?_
  exact congrArg (_ + ·) (Finset.sum_congr rfl fun r _ => dz_blk m c t _ n (carryB m c t h0 _ _ n) r)

theorem final5 : (dats m 0 c).arrAt 5 (cfgs 0).N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  obtain rfl : y0 = 0 := Subsingleton.elim _ _
  have e : ((outsAt0 m c t.val t.isLt).2.1 (ix2 0 y1) : EReal) = 0 + ∑ s : Fin 32, part m c ⟨32 * (t.val / 32) + s.val, Pipeline.run_point_lt_of_flush t ((flush0_5 t).mp hf) s⟩ y1 :=
    Pipeline.eq_sum_fin_of_reset_step_apply_of_flush (M := EReal) (fun n h (j : Fin 128) => (outsAt0 m c n h).2.1 (ix2 0 j)) 32 (fun _ => 0) (part m c)
      (fun t h j => out5A m c t h j) (fun t h j => out5B m c t h j) t ((flush0_5 t).mp hf) y1
  rw [emb5]
  refine e.trans ((zero_add _).trans ?_)
  refine Eq.trans ?_ (Att.sum_rows _).symm
  refine (Equiv.sum_comp Fin.revPerm _).symm.trans ?_
  refine Finset.sum_congr rfl fun s _ => Finset.sum_congr rfl fun r _ => ?_
  have ht := tlt t
  refine congrArg (fun q => dz _ _ _ _ q y1) (Fin.ext ?_)
  simp only [rv, Att.row, Fin.revPerm_apply, Fin.val_rev]
  omega
end Cert.Proof.Fox

end
-- ==== Proof.FoxRef.lean ====
/- The reference's gradient of the forget gate, entry by entry. -/
module

public import proofs.«01_k».proof.Proof.FoxMath
public import proofs.«01_k».proof.Proof.FoxPoint
public import proofs.«01_k».proof.Proof.Gen.FoxRefIdeal.Run
public import Idealize.ShloMosaic.Lib.Routing.OpsPair
public import Idealize.ShloMosaic.Lib.ShapeFacts
public import Idealize.ShloMosaic.Lib.Claim
public import Idealize.ShloMosaic.Lib.Pointwise

@[expose] public section

set_option maxRecDepth 16384

noncomputable section

namespace Cert.Proof.FoxRef
open Idealize.ShloMosaic Idealize.ShloMosaic.TcCoe Idealize.SL.Sem
open Cert.FoxRefIdeal Cert.FoxRefIdeal.Gen Cert.FoxRefIdeal.Value Cert.Proof.Fox

/-- The negated logit. -/
def xV (f : FVec Ideal S16384x16 .f32) (b : FVec Ideal S1x16 .f32) : FVec Ideal S16384x16 .f32 := Host.negf (addf f (broadcastInDim S16384x16 ![0, 1] bcast_S1x16_S16384x16_0_1 b))
/-- The softplus. -/
def spV (x : FVec Ideal S16384x16 .f32) : FVec Ideal S16384x16 .f32 := select (cmpf .une (subf x (broadcastInDim S16384x16 ![] bcast_S_S16384x16 (constant S_ .f32 0x00000000#32))) (subf x (broadcastInDim S16384x16 ![] bcast_S_S16384x16 (constant S_ .f32 0x00000000#32)))) (addf x (broadcastInDim S16384x16 ![] bcast_S_S16384x16 (constant S_ .f32 0x00000000#32))) (addf (maximumf x (broadcastInDim S16384x16 ![] bcast_S_S16384x16 (constant S_ .f32 0x00000000#32))) (Host.log1p (Host.exp (Host.negf (Host.absf (subf x (broadcastInDim S16384x16 ![] bcast_S_S16384x16 (constant S_ .f32 0x00000000#32))))))))
/-- Its derivative. -/
def dV (x s : FVec Ideal S16384x16 .f32) : FVec Ideal S16384x16 .f32 := Host.exp (subf (select (cmpf .oeq x (broadcastInDim S16384x16 ![] bcast_S_S16384x16 (constant S_ .f32 0x7F800000#32))) (broadcastInDim S16384x16 ![] bcast_S_S16384x16 (constant S_ .f32 0x00000000#32)) x) (select (cmpf .oeq s (broadcastInDim S16384x16 ![] bcast_S_S16384x16 (constant S_ .f32 0x7F800000#32))) (broadcastInDim S16384x16 ![] bcast_S_S16384x16 (constant S_ .f32 0x00000000#32)) s))
/-- The two gradients together, as rows by heads. -/
def gV (d k : FVec Ideal S8x32x2x512 .f32) : FVec Ideal S16384x16 .f32 := transpose S16384x16 [1, 0] (shapeCast _ (transpose S8x2x32x512 [0, 2, 1, 3] (addf d k) transposes_S8x32x2x512_S8x2x32x512_0_2_1_3) shapeCasts_S8x2x32x512_S16x16384) transposes_S16x16384_S16384x16_1_0
/-- The running sum from the end. -/
def cV (g : FVec Ideal S16384x16 .f32) : FVec Ideal S16384x16 .f32 := Host.reduceWindowAdd ![16384, 1] ![1, 1] ![0, 0] ![16383, 0] g (broadcastInDim S_ ![] bcast_S_S_ (constant S_ .f32 0x00000000#32)) reduceWindows_S16384x16_S16384x16_w16384s1p0_16383_w1s1p0_0 h_S_
def wV (q e : FVec Ideal S16384x16 .f32) : FVec Ideal S16384x16 .f32 := Host.negf (mulf (Host.negf q) e)
def fV (w : FVec Ideal S16384x16 .f32) : FVec Ideal S16384x128 .bf16 := truncf .bf16 (pad S16384x128 ![0, 0] ![0, 112] ![0, 0] w (sitofp .f32 (constantI S_ 32 0#32)) pads_S16384x16_S16384x128_000_01120 h_S_) bitsLt_bf16_f32
def bV (w : FVec Ideal S16384x16 .f32) : FVec Ideal S1x128 .f32 := pad S1x128 ![0, 0] ![0, 112] ![0, 0] (shapeCast _ (Host.reduceAdd w (constant S_ .f32 0x00000000#32) reducesTo_S16384x16_S16_d0 h_S_) shapeCasts_S16_S1x16) (sitofp .f32 (constantI S_ 32 0#32)) pads_S1x16_S1x128_000_01120 h_S_

theorem xV_at (f : FVec Ideal S16384x16 .f32) (b : FVec Ideal S1x16 .f32) (i : Fin 16384) (n : Fin 16) : xV f b (ix2 i n) = -(f (ix2 i n) + b (ix2 0 n)) := by
  pointwise [xV]
theorem spV_at (x : FVec Ideal S16384x16 .f32) (i : Fin 16384) (n : Fin 16) : spV x (ix2 i n) = sp (x (ix2 i n)) := by
  pointwise [spV, sp]
  rw [if_neg (fun h => h rfl)]
  rfl
theorem dV_at (x s : FVec Ideal S16384x16 .f32) (i : Fin 16384) (n : Fin 16) : dV x s (ix2 i n)
    = Ideal.exp ((if (x (ix2 i n) : EReal) = ⊤ then 0 else x (ix2 i n)) - (if (s (ix2 i n) : EReal) = ⊤ then 0 else s (ix2 i n))) := by
  have htop : Ideal.ofBits .f32 0x7F800000#32 = ⊤ := by simp [Ideal.ofBits, Ideal.ieee]
  pointwise [dV]
  simp only [htop]
theorem gV_at (d k : FVec Ideal S8x32x2x512 .f32) (i : Fin 16384) (n : Fin 16) : gV d k (ix2 i n) = ee d k ⟨n.val, by omega⟩ i.val := by
  pointwise [gV]
  unfold ee lt
  rw [dif_pos i.isLt, dif_pos (show n.val < 16 from n.isLt), dif_pos (show n.val < 16 from n.isLt)]
theorem wV_at (q e : FVec Ideal S16384x16 .f32) (i : Fin 16384) (n : Fin 16) : wV q e (ix2 i n) = q (ix2 i n) * e (ix2 i n) := by
  pointwise [wV]
  rw [EReal.neg_mul, neg_neg]
theorem fV_at (w : FVec Ideal S16384x16 .f32) (i : Fin 16384) (n : Fin 128) : fV w (ix2 i n) = if h : n.val < 16 then w (ix2 i ⟨n.val, h⟩) else 0 := by
  pointwise [fV]
  exact dite_congr rfl (fun _ => rfl) fun _ => zi
theorem bV_at (w : FVec Ideal S16384x16 .f32) (n : Fin 128) : bV w (ix2 0 n) = if h : n.val < 16 then ∑ i : Fin 16384, w (ix2 i ⟨n.val, h⟩) else 0 := by
  pointwise [bV]
  exact dite_congr rfl (fun _ => rfl) fun _ => zi

theorem foldl_add {N : ℕ} (g : Fin N → EReal) (v : EReal) : (List.finRange N).foldl (fun r n => r + g n) v = v + ∑ n, g n := by
  have h : ∀ (l : List (Fin N)) (v : EReal), l.foldl (fun r n => r + g n) v = v + (l.map g).sum := fun l => by
    induction l with
    | nil => intro v; simp
    | cons a l ih => intro v; rw [List.foldl_cons, ih, List.map_cons, List.sum_cons, add_assoc]
  rw [h, Fin.sum_univ_def]

/-- The sum over a window of the whole height from a row on, the rows past the end left out. -/
theorem window (x : S16384x16.Idx → EReal) (v : S_.Idx → EReal) (hv : ∀ i, v i = 0) (h) (hu : 0 < S_.numel) (e : ℕ → EReal) (n : Fin 16) (hx : ∀ i : Fin 16384, x (ix2 i n) = e i.val) (j : Fin 16384) :
    Host.reduceWindow (t := S16384x16) (· + ·) ![16384, 1] ![1, 1] ![0, 0] ![16383, 0] x v h hu (ix2 j n) = rest e j.val := by
  unfold Host.reduceWindow
  have hj := j.isLt
  have key : ∀ w : Fin (⟨2, ![16384, 1]⟩ : Shape).numel, ∀ (hw : w.val < 16384), ((⟨2, ![16384, 1]⟩ : Shape).rowMajor.symm w 0).val = w.val ∧ ((⟨2, ![16384, 1]⟩ : Shape).rowMajor.symm w 1).val = 0 := fun w hw => by
    have e := Routing.symm22 (A := 16384) (B := 1) w (by omega) (by omega)
    exact ⟨by rw [e]; exact Nat.div_one _, by rw [e]; exact Nat.mod_one _⟩
  have hN : (⟨2, ![16384, 1]⟩ : Shape).numel = 16384 := (Shape.numel_rank2 _).trans rfl
  refine Eq.trans ?_ ((foldl_add (N := (⟨2, ![16384, 1]⟩ : Shape).numel) (fun w => if j.val + w.val < 16384 then e (j.val + w.val) else 0) 0).trans ?_)
  · refine (congrArg (fun q => List.foldl _ q _) (hv _)).trans ?_
    refine List.foldl_ext _ _ _ fun r w _ => congrArg (r + ·) ?_
    have hw : w.val < 16384 := lt_of_lt_of_eq w.isLt hN
    obtain ⟨k0, k1⟩ := key w hw
    split
    · next hin =>
      have h0 := (hin 0).2
      change j.val * 1 + ((⟨2, ![16384, 1]⟩ : Shape).rowMajor.symm w 0).val - 0 < 16384 at h0
      rw [k0] at h0
      rw [if_pos (by omega)]
      refine (congrArg x (funext fun a => Fin.ext ?_)).trans (hx ⟨j.val + w.val, by omega⟩)
      match a with
      | ⟨0, _⟩ =>
        show j.val * 1 + ((⟨2, ![16384, 1]⟩ : Shape).rowMajor.symm w 0).val - 0 = j.val + w.val
        rw [k0]; omega
      | ⟨1, _⟩ =>
        show n.val * 1 + ((⟨2, ![16384, 1]⟩ : Shape).rowMajor.symm w 1).val - 0 = n.val
        rw [k1]; omega
    · next hin =>
      rw [if_neg fun hle => hin fun a => by
        match a with
        | ⟨0, _⟩ =>
          show 0 ≤ j.val * 1 + ((⟨2, ![16384, 1]⟩ : Shape).rowMajor.symm w 0).val ∧ j.val * 1 + ((⟨2, ![16384, 1]⟩ : Shape).rowMajor.symm w 0).val - 0 < 16384
          rw [k0]; omega
        | ⟨1, _⟩ =>
          show 0 ≤ n.val * 1 + ((⟨2, ![16384, 1]⟩ : Shape).rowMajor.symm w 1).val ∧ n.val * 1 + ((⟨2, ![16384, 1]⟩ : Shape).rowMajor.symm w 1).val - 0 < 16
          rw [k1]
          have := n.isLt
          omega]
      exact hv _
  · rw [zero_add, Fin.sum_univ_eq_sum_range (fun w => if j.val + w < 16384 then e (j.val + w) else 0), hN]
    unfold rest
    rw [Finset.sum_Ico_eq_sum_range, show Finset.range 16384 = Finset.range ((16384 - j.val) + j.val) from congrArg _ (by omega), Finset.sum_range_add]
    refine Eq.trans (congrArg₂ (· + ·) (Finset.sum_congr rfl fun w hw => ?_) (Finset.sum_eq_zero fun w _ => if_neg (by omega))) (add_zero _)
    have := Finset.mem_range.mp hw
    exact if_pos (by omega)

theorem cV_at (g : FVec Ideal S16384x16 .f32) (e : ℕ → EReal) (n : Fin 16) (hg : ∀ i : Fin 16384, g (ix2 i n) = e i.val) (j : Fin 16384) : cV g (ix2 j n) = rest e j.val := by
  unfold cV
  have h0 : (broadcastInDim S_ ![] bcast_S_S_ (constant (F := Ideal) S_ .f32 0x00000000#32)) (Shape.Idx.first h_S_) = (0 : EReal) := by
    pointwise
  unfold Host.reduceWindowAdd
  rw [Ideal.hostReduceWindowAdd_def, h0]
  unfold Ideal.hostReduceWindowAdd
  exact window g (fun _ => 0) (fun _ => rfl) _ _ e n hg j

/-- What the reference's product holds at a head. -/
theorem w_at (f : FVec Ideal S16384x16 .f32) (b : FVec Ideal S1x16 .f32) (d k : FVec Ideal S8x32x2x512 .f32) (i : Fin 16384) (n : Fin 16) :
    wV (cV (gV d k)) (dV (xV f b) (spV (xV f b))) (ix2 i n) = dz f b d k i ⟨n.val, by omega⟩ := by
  rw [wV_at, cV_at (gV d k) (ee d k ⟨n.val, by omega⟩) n (fun i => gV_at d k i n) i, dV_at, spV_at, xV_at]
  unfold dz lf lb
  rw [dif_pos (show n.val < 16 from n.isLt), dif_pos (show n.val < 16 from n.isLt), ← rd_eq]
  rfl

theorem ee_zero (d k : FVec Ideal S8x32x2x512 .f32) (n : Fin 128) (h : ¬ n.val < 16) (j : ℕ) : ee d k n j = 0 := by
  unfold ee lt
  split
  · exact zero_add 0
  · rfl
theorem dz_zero (f : FVec Ideal S16384x16 .f32) (b : FVec Ideal S1x16 .f32) (d k : FVec Ideal S8x32x2x512 .f32) (i : Fin 16384) (n : Fin 128) (h : ¬ n.val < 16) : dz f b d k i n = 0 := by
  unfold dz rest
  rw [Finset.sum_eq_zero fun j _ => ee_zero d k n h j, zero_mul]

theorem f_ref (f : FVec Ideal S16384x16 .f32) (b : FVec Ideal S1x16 .f32) (d k : FVec Ideal S8x32x2x512 .f32) :
    fV (wV (cV (gV d k)) (dV (xV f b) (spV (xV f b)))) = G4 f b d k := by
  funext y
  idx_vars y
  rw [fV_at]
  show _ = dz f b d k y0 y1
  split
  · exact w_at _ _ _ _ _ _
  · next h => exact (dz_zero _ _ _ _ _ _ h).symm
theorem b_ref (f : FVec Ideal S16384x16 .f32) (b : FVec Ideal S1x16 .f32) (d k : FVec Ideal S8x32x2x512 .f32) :
    bV (wV (cV (gV d k)) (dV (xV f b) (spV (xV f b)))) = G5 f b d k := by
  funext y
  idx_vars y
  obtain rfl : y0 = 0 := Subsingleton.elim _ _
  rw [bV_at]
  show _ = ∑ q, dz f b d k q y1
  split
  · exact Finset.sum_congr rfl fun q _ => w_at _ _ _ _ _ _
  · next h => exact (Finset.sum_eq_zero fun q _ => dz_zero _ _ _ _ _ _ h).symm

theorem res16 (m : (ℓ : Loc nD τ sig) → Buf (Elt Ideal) ℓ) (c : Dev nD) : res_main_v16 m c
    = fV (wV (cV (gV (m ((c.tc : Thread nD τ).loc main_arg2)) (m ((c.tc : Thread nD τ).loc main_arg3)))) (dV (xV (m ((c.tc : Thread nD τ).loc main_arg0)) (m ((c.tc : Thread nD τ).loc main_arg1))) (spV (xV (m ((c.tc : Thread nD τ).loc main_arg0)) (m ((c.tc : Thread nD τ).loc main_arg1)))))) := rfl
theorem res17 (m : (ℓ : Loc nD τ sig) → Buf (Elt Ideal) ℓ) (c : Dev nD) : res_main_v17 m c
    = bV (wV (cV (gV (m ((c.tc : Thread nD τ).loc main_arg2)) (m ((c.tc : Thread nD τ).loc main_arg3)))) (dV (xV (m ((c.tc : Thread nD τ).loc main_arg0)) (m ((c.tc : Thread nD τ).loc main_arg1))) (spV (xV (m ((c.tc : Thread nD τ).loc main_arg0)) (m ((c.tc : Thread nD τ).loc main_arg1)))))) := rfl
end Cert.Proof.FoxRef

end
-- ==== Proof.FoxEnd.lean ====
/- The gradient of the forget gate: what the kernel leaves is the reference's gradient, at every input. -/
module

public import proofs.«01_k».proof.Proof.FoxRef
public import proofs.«01_k».proof.Proof.Gen.FoxIdeal.Frame
public import proofs.«01_k».proof.Defs
public import Idealize.ShloMosaic.Lib.Claim
public import Idealize.ShloMosaic.Lib.Pointwise

@[expose] public section

set_option maxRecDepth 16384

noncomputable section

namespace Cert.Proof
open Idealize.ShloMosaic Idealize.ShloMosaic.TcCoe Idealize.SL.Sem
open Cert.Proof.Fox

theorem foxRef_frame : Cert.quiescent_FoxRefIdeal := fun m g _ =>
  (θ_run Cert.FoxRefIdeal.defs _ _).mono (fun r h => ⟨fun c => (h c).2.2, sem_eq_zero_of_no_sems (by decide) r.2⟩) (Cert.FoxRefIdeal.Value.run (F := Ideal) m g)

section
open Cert.FoxIdeal Cert.FoxIdeal.Gen
/-- What the kernel leaves, its arguments untouched. -/
theorem fox_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v8_0) = G4 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v8_1) = G5 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).1 5).trans (final5 m c), h.2 c⟩)
    (θ_run_and (run_main m g) (unchanged m g))
end

section
open Cert.FoxRefIdeal Cert.FoxRefIdeal.Value
/-- What the reference leaves. -/
theorem foxRef_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v16) = G4 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = G5 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans ((FoxRef.res16 m c).trans (FoxRef.f_ref _ _ _ _)), (h c).2.1.trans ((FoxRef.res17 m c).trans (FoxRef.b_ref _ _ _ _)), (h c).2.2⟩)
    (Cert.FoxRefIdeal.Value.run (F := Ideal) m g)
end

theorem fox_algebraic : Cert.algebraic_FoxIdeal_FoxRefIdeal := by
  intro m g m' g' _ hagree
  refine ⟨_, _, fox_run m g, ?_⟩
  refine (θ_run Cert.FoxRefIdeal.defs _ _).mono (fun r h c => ?_) (foxRef_run m' g')
  obtain ⟨e0, e1, e2, e3⟩ := hagree c
  have h5 := h c
  rw [e0, e1, e2, e3] at h5
  rw [e0, e1, e2, e3]
  exact h5
end Cert.Proof

end
-- ==== Proof.SumTile.lean ====
/- The rows of cotangent by output, per head: one tile's sums over real arrays. -/
module

public import proofs.«01_k».proof.Proof.AttSpec
public import proofs.«01_k».proof.Proof.Gen.SumIdeal.Frame
public import Idealize.ShloMosaic.Lib.Pointwise
public import Idealize.ShloMosaic.Lib.Pipeline.ValueKit

@[expose] public section

set_option maxRecDepth 16384

noncomputable section

namespace Cert.Proof.Att.Arr
open Idealize.ShloMosaic Idealize.ShloMosaic.TcCoe Idealize.SL.Sem
variable (A : Arr) (h : Fin 16) (i : Fin 16384)

/-- A row of one head's output, at one column. -/
def out (x : Fin 1024) : ℝ := ∑ j : Fin 16384, if j.val ≤ i.val then A.p h i j * A.v j x else 0

/-- The row's mean is the products of its cotangent and its output. -/
theorem mean_out : ∑ d, A.o i (hd h d) * A.out h i (hd h d) = A.mean h i := by
  unfold mean out
  simp only [Finset.mul_sum]
  rw [Finset.sum_comm]
  refine Finset.sum_congr rfl fun j _ => ?_
  split_ifs
  · unfold w
    rw [Finset.mul_sum]
    exact Finset.sum_congr rfl fun d _ => by ring
  · simp

/-- The output as the forward lines compute it. -/
theorem out_saved (x : Fin 1024) (f : Fin 16384 → EReal) (hf : ∀ j, f j = A.cell h i j) : Ideal.div
        (∑ j, Ideal.exp (f j - Finset.univ.fold max (Ideal.ofBits .f32 0xFF800000#32) f) * (A.v j x : EReal))
        (∑ j, Ideal.exp (f j - Finset.univ.fold max (Ideal.ofBits .f32 0xFF800000#32) f))
    = (A.out h i x : ℝ) := by
  obtain rfl : f = A.cell h i := funext hf
  obtain ⟨μ, hμ⟩ := A.fold_cell h i
  rw [hμ]
  simp only [cell_eq]
  rw [sum_exp]
  have hz := A.z_pos h i
  have he := Real.exp_pos (-μ)
  have hne : Z (fun j : Fin 16384 => j.val ≤ i.val) (A.s h i) * Real.exp (-μ) ≠ 0 := (mul_pos hz he).ne'
  simp only [Ideal.div_coe hne, exp_sub, ← EReal.coe_mul, ← coe_sum]
  refine congrArg (fun x : ℝ => (x : EReal)) ?_
  unfold out
  rw [Finset.sum_mul]
  refine Finset.sum_congr rfl fun j _ => ?_
  split_ifs
  · unfold p
    have hz' : A.z h i ≠ 0 := hz.ne'
    change _ = Real.exp (A.s h i j) / A.z h i * _
    rw [show Z (fun j : Fin 16384 => j.val ≤ i.val) (A.s h i) = A.z h i from rfl]
    field_simp
  · simp
end Cert.Proof.Att.Arr

namespace Cert.Proof.Sum
open Idealize.ShloMosaic Idealize.ShloMosaic.TcCoe Idealize.SL.Sem
open Cert.SumIdeal Cert.SumIdeal.Gen Cert.Proof.Att

/-- A sum against the indicator of a head's columns. -/
theorem pick_head (f : Fin 1024 → ℝ) (n : Fin 128) : (∑ x : Fin 1024, f x * if x.val / 64 = n.val then (1 : ℝ) else 0) = if h : n.val < 16 then ∑ d, f (hd ⟨n.val, h⟩ d) else 0 := by
  have e : (∑ x : Fin 1024, f x * if x.val / 64 = n.val then (1 : ℝ) else 0) = ∑ g : Fin 16, ∑ d : Fin 64, f (hd g d) * if g.val = n.val then (1 : ℝ) else 0 := by
    rw [← Finset.sum_product']
    refine (Finset.sum_nbij' (fun y : Fin 16 × Fin 64 => hd y.1 y.2) (fun x : Fin 1024 => ((⟨x.val / 64, by omega⟩, ⟨x.val % 64, by omega⟩) : Fin 16 × Fin 64)) (by simp) (by simp) ?_ ?_ ?_).symm
    · rintro ⟨g, d⟩ _
      refine Prod.ext (Fin.ext ?_) (Fin.ext ?_)
      · show (g.val * 64 + d.val) / 64 = g.val; omega
      · show (g.val * 64 + d.val) % 64 = d.val; omega
    · intro x _
      refine Fin.ext ?_
      show x.val / 64 * 64 + x.val % 64 = x.val; omega
    · rintro ⟨g, d⟩ _
      have : (hd g d).val / 64 = g.val := by show (g.val * 64 + d.val) / 64 = g.val; omega
      simp only [this]
  rw [e]
  split_ifs with hn
  · rw [Finset.sum_eq_single (⟨n.val, hn⟩ : Fin 16)]
    · simp
    · intro g _ hg
      have : ¬ g.val = n.val := fun e => hg (Fin.ext e)
      simp [this]
    · simp
  · refine Finset.sum_eq_zero fun g _ => ?_
    have : ¬ g.val = n.val := by omega
    simp [this]

/-- A tile's products summed per head; a real's rounding leaves no remainder. -/
theorem pay1_at (a b : Vec Ideal S512x1024 .f32) (w : Vec Ideal S1024x128 .bf16) (r : Fin 512) (n : Fin 128) (ar br : Fin 1024 → ℝ)
    (ha : ∀ x, a (ix2 r x) = (ar x : ℝ)) (hb : ∀ x, b (ix2 r x) = (br x : ℝ)) (hw : ∀ x : Fin 1024, w (ix2 x n) = ((if x.val / 64 = n.val then 1 else 0 : ℝ) : EReal)) :
    k0_pay1 (F := Ideal) a b w (ix2 r n) = ((if h : n.val < 16 then ∑ d, ar (hd ⟨n.val, h⟩ d) * br (hd ⟨n.val, h⟩ d) else 0 : ℝ) : EReal) := by
  pointwise [k0_pay1]
  simp only [ha, hb, hw, ← EReal.coe_mul, ← EReal.coe_sub, sub_self, zero_mul, EReal.coe_zero, Finset.sum_const_zero, add_zero, zero_add, ← coe_sum]
  have z : ∀ v : EReal, (0 - 0 : EReal) * v = 0 := fun v => by rw [sub_zero, zero_mul]
  refine (congrArg₂ (fun a b : EReal => a + b) rfl (Finset.sum_eq_zero fun x _ => z _)).trans ?_
  rw [add_zero]
  exact congrArg (fun x : ℝ => (x : EReal)) (pick_head (fun x => ar x * br x) n)

theorem pay2_at (a b : Vec Ideal S512x1024 .f32) (w : Vec Ideal S1024x128 .bf16) (h : Fin 16) (r : Fin 512) :
    k0_pay2 (F := Ideal) a b w (ix2 h r) = k0_pay1 (F := Ideal) a b w (ix2 r ⟨h.val, by omega⟩) := by
  pointwise [k0_pay2]
end Cert.Proof.Sum

end
-- ==== Proof.SumPoint.lean ====
/- The rows of cotangent by output, per head: what the host lines hand the kernel and what it leaves, over real arrays. -/
module

public import proofs.«01_k».proof.Proof.SumTile

@[expose] public section

set_option maxRecDepth 16384

noncomputable section

namespace Cert.Proof.Sum
open Idealize.ShloMosaic Idealize.ShloMosaic.TcCoe Idealize.SL.Sem
open Cert.SumIdeal Cert.SumIdeal.Gen Cert.Proof.Att

variable (m : (ℓ : Loc nD τ sig) → Buf (Elt Ideal) ℓ) (c : Dev nD)

/-- The arguments are these real arrays. -/
structure Args (A : Arr) : Prop where
  q : ∀ i x, (m (c, Proc.tc.devRef main_arg0) (ix2 i x) : EReal) = ((A.q i x : ℝ) : EReal)
  k : ∀ i x, (m (c, Proc.tc.devRef main_arg1) (ix2 i x) : EReal) = ((A.k i x : ℝ) : EReal)
  v : ∀ i x, (m (c, Proc.tc.devRef main_arg2) (ix2 i x) : EReal) = ((A.v i x : ℝ) : EReal)
  g : ∀ i x, (m (c, Proc.tc.devRef main_arg3) (ix2 i x) : EReal) = ((A.g i x : ℝ) : EReal)
  o : ∀ i x, (m (c, Proc.tc.devRef main_arg4) (ix2 i x) : EReal) = ((A.o i x : ℝ) : EReal)

/-- What the call leaves: the rows' means, as columns and as rows. -/
def G3 (A : Arr) : FVec Ideal S16384x128 .f32 := fun y => ((if h : (y 1).val < 16 then A.mean ⟨(y 1).val, h⟩ (y 0) else 0 : ℝ) : EReal)
def G4 (A : Arr) : FVec Ideal S16x16384 .f32 := fun y => ((A.mean (y 0) (y 1) : ℝ) : EReal)

theorem idx : ∀ t : Fin cfg0.N, win0_0.index t = ![t.val, 0] ∧ win0_1.index t = ![t.val, 0] ∧ win0_2.index t = ![0, 0] ∧ win0_3.index t = ![t.val, 0] ∧ win0_4.index t = ![0, t.val] :=
  (by decide +kernel : ∀ t : Fin grid0.N, _)

variable (t : Fin cfg0.N)
theorem tlt : t.val < 32 := t.isLt
/-- Row `r` of tile `t`. -/
def rw' (r : Fin 512) : Fin 16384 := ⟨512 * t.val + r.val, by have := tlt t; omega⟩

theorem emb3 (r : Fin 512) (n : Fin 128) : ((View.whole main_v55_0).slice (win0_3.rect t)).emb (ix2 r n) = ix2 (rw' t r) n := by
  blk_point [idx t, rw']
theorem emb4 (h : Fin 16) (r : Fin 512) : ((View.whole main_v55_1).slice (win0_4.rect t)).emb (ix2 h r) = ix2 h (rw' t r) := by
  blk_point [idx t, rw']

/-- The indicator of the heads' columns. -/
theorem ind_read (x : Fin 1024) (n : Fin 128) : (V m c main_v54 (ix2 x n) : EReal) = ((if x.val / 64 = n.val then 1 else 0 : ℝ) : EReal) := by
  show StableHlo.after (List.flatten [hostOps0, hostOps0_1, hostOps0_2]) (fun b => m (c, b)) main_v54 _ = _
  simp only [hostOps0, hostOps0_1, hostOps0_2, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  have hx := x.isLt
  have hn := n.isLt
  rw [show IntOp.addi (BitVec.ofNat 32 (x.val / 64)) 0#32 = BitVec.ofNat 32 (x.val / 64) by simp [IntOp.addi]]
  by_cases h : x.val / 64 = n.val
  · rw [if_pos h, h]
    simp [IntOp.cmpi, FloatOps.uitofp]
  · have hb : ¬ BitVec.ofNat 32 (x.val / 64) = BitVec.ofNat 32 n.val := fun e => h (by
      have := congrArg BitVec.toNat e
      simp only [BitVec.toNat_ofNat] at this
      omega)
    rw [if_neg h]
    have hf : (BitVec.ofNat 32 (x.val / 64) == BitVec.ofNat 32 n.val) = false := beq_eq_false_iff_ne.mpr hb
    simp [IntOp.cmpi, FloatOps.uitofp, hf]

variable {m c} {A : Arr} (H : Args m c A)
include H

/-- The forward output. -/
theorem out_read (i : Fin 16384) (x : Fin 1024) : (V m c main_v45 (ix2 i x) : EReal) = ((A.out ⟨x.val / 64, by omega⟩ i x : ℝ) : EReal) := by
  show StableHlo.after (List.flatten [hostOps0, hostOps0_1, hostOps0_2]) (fun b => m (c, b)) main_v45 _ = _
  simp only [hostOps0, hostOps0_1, hostOps0_2, List.flatten_cons, List.flatten_nil, List.append_nil, List.cons_append, List.nil_append]
  entry_read
  try simp -implicitDefEqProofs only [StableHlo.TRef.ofBuf_toBuf, StableHlo.TRef.toBuf, StableHlo.TRef.ofBuf, cast_eq]
  pointwise
  simp only [H.q, H.k, H.g, H.v]
  have e : (⟨x.val / 64 * 64 + x.val % 64, by omega⟩ : Fin 1024) = x := Fin.ext (by show x.val / 64 * 64 + x.val % 64 = x.val; omega)
  simp only [e]
  exact A.out_saved ⟨x.val / 64, by omega⟩ i x _ fun j => rfl

theorem b0 (r : Fin 512) (x : Fin 1024) : (iblk m c 0 t : Vec Ideal S512x1024 .f32) (ix2 r x) = ((A.o (rw' t r) x : ℝ) : EReal) := by
  refine Eq.trans ?_ (H.o (rw' t r) x)
  blk_point [iblk, V, idx t, rw']
theorem b1 (r : Fin 512) (x : Fin 1024) : (iblk m c 1 t : Vec Ideal S512x1024 .f32) (ix2 r x) = ((A.out ⟨x.val / 64, by omega⟩ (rw' t r) x : ℝ) : EReal) := by
  refine Eq.trans ?_ (out_read H (rw' t r) x)
  unfold iblk
  generalize V m c = W
  blk_point [idx t, rw']
omit H in
theorem b2 (x : Fin 1024) (n : Fin 128) : (iblk m c 2 t : Vec Ideal S1024x128 .bf16) (ix2 x n) = ((if x.val / 64 = n.val then 1 else 0 : ℝ) : EReal) := by
  refine Eq.trans ?_ (ind_read m c x n)
  unfold iblk
  generalize V m c = W
  blk_point [idx t]

theorem tile_at (r : Fin 512) (n : Fin 128) : k0_pay1 (F := Ideal) (iblk m c 0 t) (iblk m c 1 t) (iblk m c 2 t) (ix2 r n) = ((if h : n.val < 16 then A.mean ⟨n.val, h⟩ (rw' t r) else 0 : ℝ) : EReal) := by
  rw [pay1_at _ _ _ r n _ _ (b0 t H r) (b1 t H r) fun x => b2 t x n]
  refine congrArg (fun x : ℝ => (x : EReal)) (dite_congr rfl (fun h => ?_) fun _ => rfl)
  refine Eq.trans (Finset.sum_congr rfl fun d _ => ?_) (A.mean_out ⟨n.val, h⟩ (rw' t r))
  have e : (⟨(hd ⟨n.val, h⟩ d).val / 64, by have := (hd ⟨n.val, h⟩ d).isLt; omega⟩ : Fin 16) = ⟨n.val, h⟩ := Fin.ext (by show (n.val * 64 + d.val) / 64 = n.val; omega)
  rw [e]

theorem final3 : (dats m 0 c).arrAt 3 (cfgs 0).N = G3 A := by
  refine (dats m 0 c).arrAt_eq_of_covers 3 _ (by decide +kernel) fun t _ y => ?_
  blk_simp
  rw [after0_3]; frame_out
  idx_vars y
  refine (tile_at t H y0 y1).trans ?_
  rw [emb3]
  rfl

theorem final4 : (dats m 0 c).arrAt 4 (cfgs 0).N = G4 A := by
  refine (dats m 0 c).arrAt_eq_of_covers 4 _ (by decide +kernel) fun t _ y => ?_
  blk_simp
  rw [after0_4]; frame_out
  idx_vars y
  refine (pay2_at _ _ _ y0 y1).trans ((tile_at t H y1 ⟨y0.val, by omega⟩).trans ?_)
  rw [emb4, dif_pos (show y0.val < 16 from y0.isLt)]
  rfl
end Cert.Proof.Sum

end
-- ==== Proof.SumEnd.lean ====
/- The rows of cotangent by output, per head: the kernel leaves the gradient with respect to one factor on every row of every head's output. -/
module

public import proofs.«01_k».proof.Proof.SumPoint
public import proofs.«01_k».proof.Proof.AttFEnd
public import proofs.«01_k».proof.Proof.Gen.SumRefIdeal.Run
public import proofs.«01_k».proof.Defs

@[expose] public section

set_option maxRecDepth 16384

noncomputable section

namespace Cert.Proof.SumRef
open Idealize.ShloMosaic Idealize.ShloMosaic.TcCoe Idealize.SL.Sem
open Cert.SumRefIdeal Cert.SumRefIdeal.Gen Cert.SumRefIdeal.Value Cert.Proof.Att
open Cert.Proof.AttRef (heads scores maxV expV sumV)
open Cert.Proof.AttFRef (outV)

/-- Two arrays' products, summed over each head's columns. -/
def rowsV (O D : FVec Ideal S16384x1024 .f32) : FVec Ideal S16384x16 .f32 := Host.reduceAdd (shapeCast _ (Host.reduceAdd (mulf (shapeCast _ O shapeCasts_S16384x1024_S16384x16x64) (shapeCast _ D shapeCasts_S16384x1024_S16384x16x64)) (constant S_ .f32 0x00000000#32) reducesTo_S16384x16x64_S16384x16_d2 h_S_) shapeCasts_S16384x16_S16384x16x1) (constant S_ .f32 0x00000000#32) reducesTo_S16384x16x1_S16384x16_d2 h_S_
/-- The same padded to 128 lanes. -/
def padV (R : FVec Ideal S16384x16 .f32) : FVec Ideal S16384x128 .f32 := pad S16384x128 ![0, 0] ![0, 112] ![0, 0] R (sitofp .f32 (constantI S_ 32 0#32)) pads_S16384x16_S16384x128_000_01120 h_S_
def turnV (R : FVec Ideal S16384x16 .f32) : FVec Ideal S16x16384 .f32 := transpose S16x16384 [1, 0] R transposes_S16384x16_S16x16384_1_0

theorem rowsV_at (O D : FVec Ideal S16384x1024 .f32) (i : Fin 16384) (h : Fin 16) : rowsV O D (ix2 i h) = ∑ d : Fin 64, O (ix2 i (hd h d)) * D (ix2 i (hd h d)) := by
  pointwise [rowsV]
  rw [Fin.sum_univ_one]
  rfl
theorem padV_at (R : FVec Ideal S16384x16 .f32) (i : Fin 16384) (n : Fin 128) : padV R (ix2 i n) = if h : n.val < 16 then R (ix2 i ⟨n.val, h⟩) else (0 : EReal) := by
  pointwise [padV]
  have z : (FloatOps.sitofp (F := Ideal) FTy.f32 (0#32) : EReal) = 0 := by simp [FloatOps.sitofp]
  simp only [z]
theorem turnV_at (R : FVec Ideal S16384x16 .f32) (i : Fin 16384) (h : Fin 16) : turnV R (ix2 h i) = R (ix2 i h) := by
  pointwise [turnV]

/-- The products of the output and the cotangent are the rows' means. -/
theorem rows_real {A : Arr} {D : FVec Ideal S16384x1024 .f32} (hD : ∀ i x, D (ix2 i x) = (A.o i x : ℝ)) (i : Fin 16384) (h : Fin 16) : rowsV (AttF.G4 A) D (ix2 i h) = (A.mean h i : ℝ) := by
  rw [rowsV_at, ← A.mean_out, coe_sum]
  refine Finset.sum_congr rfl fun d _ => ?_
  rw [hD, EReal.coe_mul, mul_comm]
  refine congrArg (fun v : ℝ => ((A.o i (hd h d) : ℝ) : EReal) * (v : EReal)) ?_
  have e : (⟨(hd h d).val / 64, by have := (hd h d).isLt; omega⟩ : Fin 16) = h := Fin.ext (by show (h.val * 64 + d.val) / 64 = h.val; omega)
  show A.out ⟨(hd h d).val / 64, _⟩ i (hd h d) = _
  rw [e]

theorem pad_ref {A : Arr} {D : FVec Ideal S16384x1024 .f32} (hD : ∀ i x, D (ix2 i x) = (A.o i x : ℝ)) : padV (rowsV (AttF.G4 A) D) = Sum.G3 A := by
  funext y
  obtain ⟨i, n, rfl⟩ : ∃ (i : Fin 16384) (n : Fin 128), y = ix2 i n := ⟨y 0, y 1, by idx_vars y⟩
  rw [padV_at]
  show _ = ((if h : n.val < 16 then A.mean ⟨n.val, h⟩ i else 0 : ℝ) : EReal)
  split_ifs with h
  · exact rows_real hD i ⟨n.val, h⟩
  · exact EReal.coe_zero.symm

theorem turn_ref {A : Arr} {D : FVec Ideal S16384x1024 .f32} (hD : ∀ i x, D (ix2 i x) = (A.o i x : ℝ)) : turnV (rowsV (AttF.G4 A) D) = Sum.G4 A := by
  funext y
  obtain ⟨h, i, rfl⟩ : ∃ (h : Fin 16) (i : Fin 16384), y = ix2 h i := ⟨y 0, y 1, by idx_vars y⟩
  exact (turnV_at _ i h).trans (rows_real hD i h)

theorem res_v49 (m : (ℓ : Loc nD τ sig) → Buf (Elt Ideal) ℓ) (c : Dev nD) : res_main_v49 (F := Ideal) m c = padV (rowsV (outV (heads (m ((c.tc : Thread nD τ).loc main_arg2))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))))) (m ((c.tc : Thread nD τ).loc main_arg4))) := rfl
theorem res_v50 (m : (ℓ : Loc nD τ sig) → Buf (Elt Ideal) ℓ) (c : Dev nD) : res_main_v50 (F := Ideal) m c = turnV (rowsV (outV (heads (m ((c.tc : Thread nD τ).loc main_arg2))) (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))) (sumV (expV (scores (heads (m ((c.tc : Thread nD τ).loc main_arg0))) (heads (m ((c.tc : Thread nD τ).loc main_arg1))) (m ((c.tc : Thread nD τ).loc main_arg3))) (maxV (scores (heads (m ((c.tc : Thread nD τ).loc main_arg0))) (heads (m ((c.tc : Thread nD τ).loc main_arg1))) (m ((c.tc : Thread nD τ).loc main_arg3))))))) (m ((c.tc : Thread nD τ).loc main_arg4))) := rfl

theorem vals (m : (ℓ : Loc nD τ sig) → Buf (Elt Ideal) ℓ) (c : Dev nD) (A : Arr) (h0 : ∀ i x, (m ((c.tc : Thread nD τ).loc main_arg0) (ix2 i x) : EReal) = ((A.q i x : ℝ) : EReal)) (h1 : ∀ i x, (m ((c.tc : Thread nD τ).loc main_arg1) (ix2 i x) : EReal) = ((A.k i x : ℝ) : EReal)) (h2 : ∀ i x, (m ((c.tc : Thread nD τ).loc main_arg2) (ix2 i x) : EReal) = ((A.v i x : ℝ) : EReal)) (h3 : ∀ i x, (m ((c.tc : Thread nD τ).loc main_arg3) (ix2 i x) : EReal) = ((A.g i x : ℝ) : EReal)) (h4 : ∀ i x, (m ((c.tc : Thread nD τ).loc main_arg4) (ix2 i x) : EReal) = ((A.o i x : ℝ) : EReal)) :
    res_main_v49 (F := Ideal) m c = Sum.G3 A ∧ res_main_v50 (F := Ideal) m c = Sum.G4 A := by
  have e := AttFRef.out_ref h2 _ _ (AttRef.weight_real h0 h1 h3)
  exact ⟨(res_v49 m c).trans ((congrArg (fun O => padV (rowsV O (m ((c.tc : Thread nD τ).loc main_arg4)))) e).trans (pad_ref h4)), (res_v50 m c).trans ((congrArg (fun O => turnV (rowsV O (m ((c.tc : Thread nD τ).loc main_arg4)))) e).trans (turn_ref h4))⟩
end Cert.Proof.SumRef

namespace Cert.Proof
open Idealize.ShloMosaic Idealize.ShloMosaic.TcCoe Idealize.SL.Sem
open Cert.Proof.Att

theorem sumRef_frame : Cert.quiescent_SumRefIdeal := fun m g _ =>
  (θ_run Cert.SumRefIdeal.defs _ _).mono (fun r h => ⟨fun c => (h c).2.2, sem_eq_zero_of_no_sems (by decide) r.2⟩) (Cert.SumRefIdeal.Value.run (F := Ideal) m g)

section
open Cert.SumIdeal Cert.SumIdeal.Gen Cert.Proof.Sum
/-- What the kernel leaves, its arguments untouched. -/
theorem sum_run (m : (ℓ : Loc nD τ sig) → Buf (Elt Ideal) ℓ) (g : Dev nD → PrngReg) (A : Dev nD → Arr) (H : ∀ c, Sum.Args m c (A c)) :
    θ_run defs (onTc (τ := τ) (main (F := Ideal))) ⟨m, fun _ => 0, g⟩ (fun r => ∀ c : Dev nD,
      r.2.mem ((c.tc : Thread nD τ).loc main_v55_0) = G3 (A c) ∧ r.2.mem ((c.tc : Thread nD τ).loc main_v55_1) = Sum.G4 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 3).trans (final3 (H c)), ((h.1 c).1 4).trans (final4 (H c)), h.2 c⟩)
    (θ_run_and (run_main m g) (unchanged m g))
end

theorem sum_algebraic : Cert.algebraic_SumIdeal_SumRefIdeal_pre_finite := by
  intro m g m' g' hpre hagree
  have hA := fun c => reals_of (hpre c).1 (hpre c).2.1 (hpre c).2.2.1 (hpre c).2.2.2.1 (hpre c).2.2.2.2
  choose A hA using hA
  refine ⟨fun c => Sum.G3 (A c), fun c => Sum.G4 (A c), sum_run m g A fun c => ⟨(hA c).1, (hA c).2.1, (hA c).2.2.1, (hA c).2.2.2.1, (hA c).2.2.2.2⟩, ?_⟩
  refine (θ_run Cert.SumRefIdeal.defs _ _).mono (fun r h c => ?_) (Cert.SumRefIdeal.Value.run (F := Ideal) m' g')
  have e := SumRef.vals m' c (A c) (fun i x => (congrFun (hagree c).1 _).trans ((hA c).1 i x)) (fun i x => (congrFun (hagree c).2.1 _).trans ((hA c).2.1 i x))
    (fun i x => (congrFun (hagree c).2.2.1 _).trans ((hA c).2.2.1 i x)) (fun i x => (congrFun (hagree c).2.2.2.1 _).trans ((hA c).2.2.2.1 i x))
    (fun i x => (congrFun (hagree c).2.2.2.2 _).trans ((hA c).2.2.2.2 i x))
  exact ⟨(h c).1.trans e.1, (h c).2.1.trans e.2, (h c).2.2⟩
end Cert.Proof

end
-- ==== Proof.lean ====
/- The certificate's claims, put together. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.AttQ
public import proofs.«01_k».proof.Proof.Gen.AttQ.Skeleton
public import proofs.«01_k».proof.Proof.Gen.AttQ.Launch
public import proofs.«01_k».proof.Proof.Gen.AttQ.Points
public import proofs.«01_k».proof.Proof.Gen.AttQ.Frame
public import proofs.«01_k».proof.Proof.Gen.AttQIdeal
public import proofs.«01_k».proof.Proof.Gen.AttQIdeal.Skeleton
public import proofs.«01_k».proof.Proof.Gen.AttQIdeal.Launch
public import proofs.«01_k».proof.Proof.Gen.AttQIdeal.Points
public import proofs.«01_k».proof.Proof.Gen.AttQIdeal.Frame
public import proofs.«01_k».proof.Proof.Gen.AttQIdeal.Loops
public import proofs.«01_k».proof.Proof.Gen.AttQRefIdeal
public import proofs.«01_k».proof.Proof.Gen.AttQRefIdeal.Run
public import proofs.«01_k».proof.Proof.Gen.AttKv
public import proofs.«01_k».proof.Proof.Gen.AttKv.Skeleton
public import proofs.«01_k».proof.Proof.Gen.AttKv.Launch
public import proofs.«01_k».proof.Proof.Gen.AttKv.Points
public import proofs.«01_k».proof.Proof.Gen.AttKv.Frame
public import proofs.«01_k».proof.Proof.Gen.AttKvIdeal
public import proofs.«01_k».proof.Proof.Gen.AttKvIdeal.Skeleton
public import proofs.«01_k».proof.Proof.Gen.AttKvIdeal.Launch
public import proofs.«01_k».proof.Proof.Gen.AttKvIdeal.Points
public import proofs.«01_k».proof.Proof.Gen.AttKvIdeal.Frame
public import proofs.«01_k».proof.Proof.Gen.AttKvIdeal.Loops
public import proofs.«01_k».proof.Proof.Gen.AttKvRefIdeal
public import proofs.«01_k».proof.Proof.Gen.AttKvRefIdeal.Run
public import proofs.«01_k».proof.Proof.Gen.Pre_finite
public import proofs.«01_k».proof.Proof.Gen.AttF
public import proofs.«01_k».proof.Proof.Gen.AttF.Skeleton
public import proofs.«01_k».proof.Proof.Gen.AttF.Launch
public import proofs.«01_k».proof.Proof.Gen.AttF.Points
public import proofs.«01_k».proof.Proof.Gen.AttF.Frame
public import proofs.«01_k».proof.Proof.Gen.AttFIdeal
public import proofs.«01_k».proof.Proof.Gen.AttFIdeal.Skeleton
public import proofs.«01_k».proof.Proof.Gen.AttFIdeal.Launch
public import proofs.«01_k».proof.Proof.Gen.AttFIdeal.Points
public import proofs.«01_k».proof.Proof.Gen.AttFIdeal.Frame
public import proofs.«01_k».proof.Proof.Gen.AttFIdeal.Loops
public import proofs.«01_k».proof.Proof.Gen.AttFRefIdeal
public import proofs.«01_k».proof.Proof.Gen.AttFRefIdeal.Run
public import proofs.«01_k».proof.Proof.Gen.Pre_finite_forward
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.Pre_finite_gate
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxRefIdeal.Run
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumIdeal.Frame
public import proofs.«01_k».proof.Proof.Gen.SumRefIdeal
public import proofs.«01_k».proof.Proof.Gen.SumRefIdeal.Run
public import proofs.«01_k».proof.Proof.MlpPoint
public import proofs.«01_k».proof.Proof.AttQEnd
public import proofs.«01_k».proof.Proof.AttKvEnd
public import proofs.«01_k».proof.Proof.AttFEnd
public import proofs.«01_k».proof.Proof.AdaPoint
public import proofs.«01_k».proof.Proof.GateEnd
public import proofs.«01_k».proof.Proof.FoxEnd
public import proofs.«01_k».proof.Proof.SumEnd
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts,
  Cert.AttQ.Gen.facts, Cert.AttQIdeal.Gen.facts, Cert.AttQRefIdeal.Gen.facts, Cert.AttKv.Gen.facts, Cert.AttKvIdeal.Gen.facts, Cert.AttKvRefIdeal.Gen.facts,
  Cert.AttF.Gen.facts, Cert.AttFIdeal.Gen.facts, Cert.AttFRefIdeal.Gen.facts,
  Cert.Ada.Gen.facts, Cert.AdaIdeal.Gen.facts, Cert.AdaRefIdeal.Gen.facts, Cert.Gate.Gen.facts, Cert.GateIdeal.Gen.facts, Cert.GateRefIdeal.Gen.facts,
  Cert.Fox.Gen.facts, Cert.FoxIdeal.Gen.facts, Cert.FoxRefIdeal.Gen.facts,
  Cert.Sum.Gen.facts, Cert.SumIdeal.Gen.facts, Cert.SumRefIdeal.Gen.facts,
  Cert.Pre_finite.Gen.facts, Cert.Pre_finite_forward.Gen.facts, Cert.Pre_finite_gate.Gen.facts,
  fun m ρ _ => Cert.Mlp.Gen.frame m ρ, fun m ρ _ => Cert.MlpIdeal.Gen.frame m ρ, mlpRef_frame,
  fun m ρ _ => Cert.AttQ.Gen.frame m ρ trivial (AttQ.hyps m trivial), fun m ρ _ => Cert.AttQIdeal.Gen.frame m ρ trivial (AttQ.hyps' m trivial),
  fun m ρ _ => Cert.AttQIdeal.Gen.frame m ρ trivial (AttQ.hyps' m trivial),
  attQRef_frame, fun m g _ => attQRef_frame m g trivial,
  fun m ρ _ => Cert.AttKv.Gen.frame m ρ trivial (AttKv.hyps m trivial), fun m ρ _ => Cert.AttKvIdeal.Gen.frame m ρ trivial (AttKv.hyps' m trivial),
  fun m ρ _ => Cert.AttKvIdeal.Gen.frame m ρ trivial (AttKv.hyps' m trivial),
  attKvRef_frame, fun m g _ => attKvRef_frame m g trivial,
  fun m ρ _ => Cert.AttF.Gen.frame m ρ trivial (AttF.hyps m trivial), fun m ρ _ => Cert.AttFIdeal.Gen.frame m ρ trivial (AttF.hyps' m trivial),
  fun m ρ _ => Cert.AttFIdeal.Gen.frame m ρ trivial (AttF.hyps' m trivial),
  attFRef_frame, fun m g _ => attFRef_frame m g trivial,
  fun m ρ _ => Cert.Ada.Gen.frame m ρ, fun m ρ _ => Cert.AdaIdeal.Gen.frame m ρ, adaRef_frame,
  fun m ρ _ => Cert.Gate.Gen.frame m ρ, fun m ρ _ => Cert.GateIdeal.Gen.frame m ρ, fun m ρ _ => Cert.GateIdeal.Gen.frame m ρ,
  gateRef_frame, fun m g _ => gateRef_frame m g trivial,
  fun m ρ _ => Cert.Fox.Gen.frame m ρ, fun m ρ _ => Cert.FoxIdeal.Gen.frame m ρ, foxRef_frame,
  fun m ρ _ => Cert.Sum.Gen.frame m ρ, fun m ρ _ => Cert.SumIdeal.Gen.frame m ρ, fun m ρ _ => Cert.SumIdeal.Gen.frame m ρ,
  sumRef_frame, fun m g _ => sumRef_frame m g trivial,
  trivial, mlp_algebraic, trivial, attQ_algebraic, trivial, attKv_algebraic, trivial, attF_algebraic, trivial, ada_algebraic, trivial, gate_algebraic,
  trivial, fox_algebraic, trivial, sum_algebraic⟩

end Cert.Proof

end
